-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Reference41Ideal (m : (ℓ : Loc Cert.Reference41Ideal.nD Cert.Reference41Ideal.τ Cert.Reference41Ideal.sig) → Buf (Elt Ideal) ℓ) : Prop :=
  True

def Pre_Kernel42 (m : (ℓ : Loc Cert.Kernel42.nD Cert.Kernel42.τ Cert.Kernel42.sig) → Buf (Elt Bits) ℓ) : Prop :=
  True

def Pre_Kernel42Ideal (m : (ℓ : Loc Cert.Kernel42Ideal.nD Cert.Kernel42Ideal.τ Cert.Kernel42Ideal.sig) → Buf (Elt Ideal) ℓ) : Prop :=
  True

def Pre_Reference42Ideal (m : (ℓ : Loc Cert.Reference42Ideal.nD Cert.Reference42Ideal.τ Cert.Reference42Ideal.sig) → Buf (Elt Ideal) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4)
      ∧ r.2.mem ((c.tc : Thread Cert.Kernel25.nD Cert.Kernel25.τ).loc Cert.Kernel25.main_arg5) = m ((c.tc : Thread Cert.Kernel25.nD Cert.Kernel25.τ).loc Cert.Kernel25.main_arg5)
      ∧ r.2.mem ((c.tc : Thread Cert.Kernel25.nD Cert.Kernel25.τ).loc Cert.Kernel25.main_arg6) = m ((c.tc : Thread Cert.Kernel25.nD Cert.Kernel25.τ).loc Cert.Kernel25.main_arg6))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
      ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
      ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5)
      ∧ r.2.mem ((c.tc : Thread Cert.Reference25Ideal.nD Cert.Reference25Ideal.τ).loc Cert.Reference25Ideal.main_arg6) = m ((c.tc : Thread Cert.Reference25Ideal.nD Cert.Reference25Ideal.τ).loc Cert.Reference25Ideal.main_arg6))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4)
      ∧ r.2.mem ((c.tc : Thread Cert.Kernel27.nD Cert.Kernel27.τ).loc Cert.Kernel27.main_arg5) = m ((c.tc : Thread Cert.Kernel27.nD Cert.Kernel27.τ).loc Cert.Kernel27.main_arg5)
      ∧ r.2.mem ((c.tc : Thread Cert.Kernel27.nD Cert.Kernel27.τ).loc Cert.Kernel27.main_arg6) = m ((c.tc : Thread Cert.Kernel27.nD Cert.Kernel27.τ).loc Cert.Kernel27.main_arg6)
      ∧ r.2.mem ((c.tc : Thread Cert.Kernel27.nD Cert.Kernel27.τ).loc Cert.Kernel27.main_arg7) = m ((c.tc : Thread Cert.Kernel27.nD Cert.Kernel27.τ).loc Cert.Kernel27.main_arg7))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
      ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5)
      ∧ r.2.mem ((c.tc : Thread Cert.Kernel27Ideal.nD Cert.Kernel27Ideal.τ).loc Cert.Kernel27Ideal.main_arg6) = m ((c.tc : Thread Cert.Kernel27Ideal.nD Cert.Kernel27Ideal.τ).loc Cert.Kernel27Ideal.main_arg6)
      ∧ r.2.mem ((c.tc : Thread Cert.Kernel27Ideal.nD Cert.Kernel27Ideal.τ).loc Cert.Kernel27Ideal.main_arg7) = m ((c.tc : Thread Cert.Kernel27Ideal.nD Cert.Kernel27Ideal.τ).loc Cert.Kernel27Ideal.main_arg7))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4)
      ∧ r.2.mem ((c.tc : Thread Cert.Reference27Ideal.nD Cert.Reference27Ideal.τ).loc Cert.Reference27Ideal.main_arg5) = m ((c.tc : Thread Cert.Reference27Ideal.nD Cert.Reference27Ideal.τ).loc Cert.Reference27Ideal.main_arg5)
      ∧ r.2.mem ((c.tc : Thread Cert.Reference27Ideal.nD Cert.Reference27Ideal.τ).loc Cert.Reference27Ideal.main_arg6) = m ((c.tc : Thread Cert.Reference27Ideal.nD Cert.Reference27Ideal.τ).loc Cert.Reference27Ideal.main_arg6)
      ∧ r.2.mem ((c.tc : Thread Cert.Reference27Ideal.nD Cert.Reference27Ideal.τ).loc Cert.Reference27Ideal.main_arg7) = m ((c.tc : Thread Cert.Reference27Ideal.nD Cert.Reference27Ideal.τ).loc Cert.Reference27Ideal.main_arg7))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2)
      ∧ r.2.mem ((c.tc : Thread Cert.Kernel38.nD Cert.Kernel38.τ).loc Cert.Kernel38.main_arg3) = m ((c.tc : Thread Cert.Kernel38.nD Cert.Kernel38.τ).loc Cert.Kernel38.main_arg3))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
      ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2)
      ∧ r.2.mem ((c.tc : Thread Cert.Reference38Ideal.nD Cert.Reference38Ideal.τ).loc Cert.Reference38Ideal.main_arg3) = m ((c.tc : Thread Cert.Reference38Ideal.nD Cert.Reference38Ideal.τ).loc Cert.Reference38Ideal.main_arg3))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2)
      ∧ r.2.mem ((c.tc : Thread Cert.Kernel39.nD Cert.Kernel39.τ).loc Cert.Kernel39.main_arg3) = m ((c.tc : Thread Cert.Kernel39.nD Cert.Kernel39.τ).loc Cert.Kernel39.main_arg3))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
      ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2)
      ∧ r.2.mem ((c.tc : Thread Cert.Reference39Ideal.nD Cert.Reference39Ideal.τ).loc Cert.Reference39Ideal.main_arg3) = m ((c.tc : Thread Cert.Reference39Ideal.nD Cert.Reference39Ideal.τ).loc Cert.Reference39Ideal.main_arg3))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1)
      ∧ r.2.mem ((c.tc : Thread Cert.Kernel40.nD Cert.Kernel40.τ).loc Cert.Kernel40.main_arg2) = m ((c.tc : Thread Cert.Kernel40.nD Cert.Kernel40.τ).loc Cert.Kernel40.main_arg2)
      ∧ r.2.mem ((c.tc : Thread Cert.Kernel40.nD Cert.Kernel40.τ).loc Cert.Kernel40.main_arg3) = m ((c.tc : Thread Cert.Kernel40.nD Cert.Kernel40.τ).loc Cert.Kernel40.main_arg3))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
      ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2)
      ∧ r.2.mem ((c.tc : Thread Cert.Reference40Ideal.nD Cert.Reference40Ideal.τ).loc Cert.Reference40Ideal.main_arg3) = m ((c.tc : Thread Cert.Reference40Ideal.nD Cert.Reference40Ideal.τ).loc Cert.Reference40Ideal.main_arg3))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1)
      ∧ r.2.mem ((c.tc : Thread Cert.Kernel41.nD Cert.Kernel41.τ).loc Cert.Kernel41.main_arg2) = m ((c.tc : Thread Cert.Kernel41.nD Cert.Kernel41.τ).loc Cert.Kernel41.main_arg2)
      ∧ r.2.mem ((c.tc : Thread Cert.Kernel41.nD Cert.Kernel41.τ).loc Cert.Kernel41.main_arg3) = m ((c.tc : Thread Cert.Kernel41.nD Cert.Kernel41.τ).loc Cert.Kernel41.main_arg3))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
      ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
      ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1)
      ∧ r.2.mem ((c.tc : Thread Cert.Reference41Ideal.nD Cert.Reference41Ideal.τ).loc Cert.Reference41Ideal.main_arg2) = m ((c.tc : Thread Cert.Reference41Ideal.nD Cert.Reference41Ideal.τ).loc Cert.Reference41Ideal.main_arg2)
      ∧ r.2.mem ((c.tc : Thread Cert.Reference41Ideal.nD Cert.Reference41Ideal.τ).loc Cert.Reference41Ideal.main_arg3) = m ((c.tc : Thread Cert.Reference41Ideal.nD Cert.Reference41Ideal.τ).loc Cert.Reference41Ideal.main_arg3))
      ∧ r.2.sem = fun _ => 0)

def quiescent_Kernel42 [hKernel42 : Cert.Kernel42.Facts] : Prop :=
  ∀ (m : (ℓ : Loc Cert.Kernel42.nD Cert.Kernel42.τ Cert.Kernel42.sig) → Buf (Elt Bits) ℓ) (g : Dev Cert.Kernel42.nD → PrngReg), Pre_Kernel42 m →
    θ_run (Cert.Kernel42.defs (F := Bits)) (onTc (τ := Cert.Kernel42.τ) (Cert.Kernel42.main (F := Bits))) ⟨m, fun _ => 0, g⟩ (fun r => (∀ c : Dev Cert.Kernel42.nD,
      r.2.mem ((c.tc : Thread Cert.Kernel42.nD Cert.Kernel42.τ).loc Cert.Kernel42.main_arg0) = m ((c.tc : Thread Cert.Kernel42.nD Cert.Kernel42.τ).loc Cert.Kernel42.main_arg0)
      ∧ r.2.mem ((c.tc : Thread Cert.Kernel42.nD Cert.Kernel42.τ).loc Cert.Kernel42.main_arg1) = m ((c.tc : Thread Cert.Kernel42.nD Cert.Kernel42.τ).loc Cert.Kernel42.main_arg1)
      ∧ r.2.mem ((c.tc : Thread Cert.Kernel42.nD Cert.Kernel42.τ).loc Cert.Kernel42.main_arg2) = m ((c.tc : Thread Cert.Kernel42.nD Cert.Kernel42.τ).loc Cert.Kernel42.main_arg2)
      ∧ r.2.mem ((c.tc : Thread Cert.Kernel42.nD Cert.Kernel42.τ).loc Cert.Kernel42.main_arg3) = m ((c.tc : Thread Cert.Kernel42.nD Cert.Kernel42.τ).loc Cert.Kernel42.main_arg3))
      ∧ r.2.sem = fun _ => 0)

def quiescent_Kernel42Ideal [hKernel42Ideal : Cert.Kernel42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg), Pre_Kernel42Ideal m →
    θ_run (Cert.Kernel42Ideal.defs (F := Ideal)) (onTc (τ := Cert.Kernel42Ideal.τ) (Cert.Kernel42Ideal.main (F := Ideal))) ⟨m, fun _ => 0, g⟩ (fun r => (∀ c : Dev Cert.Kernel42Ideal.nD,
      r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
      ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
      ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2)
      ∧ r.2.mem ((c.tc : Thread Cert.Kernel42Ideal.nD Cert.Kernel42Ideal.τ).loc Cert.Kernel42Ideal.main_arg3) = m ((c.tc : Thread Cert.Kernel42Ideal.nD Cert.Kernel42Ideal.τ).loc Cert.Kernel42Ideal.main_arg3))
      ∧ r.2.sem = fun _ => 0)

def quiescent_Reference42Ideal [hReference42Ideal : Cert.Reference42Ideal.Facts] : Prop :=
  ∀ (m : (ℓ : Loc Cert.Reference42Ideal.nD Cert.Reference42Ideal.τ Cert.Reference42Ideal.sig) → Buf (Elt Ideal) ℓ) (g : Dev Cert.Reference42Ideal.nD → PrngReg), Pre_Reference42Ideal m →
    θ_run (Cert.Reference42Ideal.defs (F := Ideal)) (onTc (τ := Cert.Reference42Ideal.τ) (Cert.Reference42Ideal.main (F := Ideal))) ⟨m, fun _ => 0, g⟩ (fun r => (∀ c : Dev Cert.Reference42Ideal.nD,
      r.2.mem ((c.tc : Thread Cert.Reference42Ideal.nD Cert.Reference42Ideal.τ).loc Cert.Reference42Ideal.main_arg0) = m ((c.tc : Thread Cert.Reference42Ideal.nD Cert.Reference42Ideal.τ).loc Cert.Reference42Ideal.main_arg0)
      ∧ r.2.mem ((c.tc : Thread Cert.Reference42Ideal.nD Cert.Reference42Ideal.τ).loc Cert.Reference42Ideal.main_arg1) = m ((c.tc : Thread Cert.Reference42Ideal.nD Cert.Reference42Ideal.τ).loc Cert.Reference42Ideal.main_arg1)
      ∧ r.2.mem ((c.tc : Thread Cert.Reference42Ideal.nD Cert.Reference42Ideal.τ).loc Cert.Reference42Ideal.main_arg2) = m ((c.tc : Thread Cert.Reference42Ideal.nD Cert.Reference42Ideal.τ).loc Cert.Reference42Ideal.main_arg2)
      ∧ r.2.mem ((c.tc : Thread Cert.Reference42Ideal.nD Cert.Reference42Ideal.τ).loc Cert.Reference42Ideal.main_arg3) = m ((c.tc : Thread Cert.Reference42Ideal.nD Cert.Reference42Ideal.τ).loc Cert.Reference42Ideal.main_arg3))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v12)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v7_0)) (v1 : (c : Dev Cert.Kernel5Ideal.nD) → Buf (Elt Ideal) ((c.tc : Thread Cert.Kernel5Ideal.nD Cert.Kernel5Ideal.τ).loc Cert.Kernel5Ideal.main_v7_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7_0) = v0 c
          ∧ r.2.mem ((c.tc : Thread Cert.Kernel5Ideal.nD Cert.Kernel5Ideal.τ).loc Cert.Kernel5Ideal.main_v7_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_v9) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v0) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v2) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v1) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v2) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v2) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)) →
    ∃ (v0 : (c : Dev Cert.Kernel23Ideal.nD) → Buf (Elt Ideal) ((c.tc : Thread Cert.Kernel23Ideal.nD Cert.Kernel23Ideal.τ).loc Cert.Kernel23Ideal.main_v4_0)) (v1 : (c : Dev Cert.Kernel23Ideal.nD) → Buf (Elt Ideal) ((c.tc : Thread Cert.Kernel23Ideal.nD Cert.Kernel23Ideal.τ).loc Cert.Kernel23Ideal.main_v4_1)) (v2 : (c : Dev Cert.Kernel23Ideal.nD) → Buf (Elt Ideal) ((c.tc : Thread Cert.Kernel23Ideal.nD Cert.Kernel23Ideal.τ).loc Cert.Kernel23Ideal.main_v4_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v4_0) = v0 c
          ∧ r.2.mem ((c.tc : Thread Cert.Kernel23Ideal.nD Cert.Kernel23Ideal.τ).loc Cert.Kernel23Ideal.main_v4_1) = v1 c
          ∧ r.2.mem ((c.tc : Thread Cert.Kernel23Ideal.nD Cert.Kernel23Ideal.τ).loc Cert.Kernel23Ideal.main_v4_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v24) = v0 c
          ∧ r.2.mem ((c.tc : Thread Cert.Reference23Ideal.nD Cert.Reference23Ideal.τ).loc Cert.Reference23Ideal.main_v25) = v1 c
          ∧ r.2.mem ((c.tc : Thread Cert.Reference23Ideal.nD Cert.Reference23Ideal.τ).loc Cert.Reference23Ideal.main_v26) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)) →
    ∃ (v0 : (c : Dev Cert.Kernel24Ideal.nD) → Buf (Elt Ideal) ((c.tc : Thread Cert.Kernel24Ideal.nD Cert.Kernel24Ideal.τ).loc Cert.Kernel24Ideal.main_v4_0)) (v1 : (c : Dev Cert.Kernel24Ideal.nD) → Buf (Elt Ideal) ((c.tc : Thread Cert.Kernel24Ideal.nD Cert.Kernel24Ideal.τ).loc Cert.Kernel24Ideal.main_v4_1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v4_0) = v0 c
          ∧ r.2.mem ((c.tc : Thread Cert.Kernel24Ideal.nD Cert.Kernel24Ideal.τ).loc Cert.Kernel24Ideal.main_v4_1) = v1 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v12) = v0 c
          ∧ r.2.mem ((c.tc : Thread Cert.Reference24Ideal.nD Cert.Reference24Ideal.τ).loc Cert.Reference24Ideal.main_v13) = v1 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)
      ∧ m' ((c.tc : Thread Cert.Reference25Ideal.nD Cert.Reference25Ideal.τ).loc Cert.Reference25Ideal.main_arg5) = m ((c.tc : Thread Cert.Kernel25Ideal.nD Cert.Kernel25Ideal.τ).loc Cert.Kernel25Ideal.main_arg5)
      ∧ m' ((c.tc : Thread Cert.Reference25Ideal.nD Cert.Reference25Ideal.τ).loc Cert.Reference25Ideal.main_arg6) = m ((c.tc : Thread Cert.Kernel25Ideal.nD Cert.Kernel25Ideal.τ).loc Cert.Kernel25Ideal.main_arg6)) →
    ∃ (v0 : (c : Dev Cert.Kernel25Ideal.nD) → Buf (Elt Ideal) ((c.tc : Thread Cert.Kernel25Ideal.nD Cert.Kernel25Ideal.τ).loc Cert.Kernel25Ideal.main_v6)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v6) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
          ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
          ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v7) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4)
          ∧ r.2.mem ((c.tc : Thread Cert.Reference25Ideal.nD Cert.Reference25Ideal.τ).loc Cert.Reference25Ideal.main_arg5) = m' ((c.tc : Thread Cert.Reference25Ideal.nD Cert.Reference25Ideal.τ).loc Cert.Reference25Ideal.main_arg5)
          ∧ r.2.mem ((c.tc : Thread Cert.Reference25Ideal.nD Cert.Reference25Ideal.τ).loc Cert.Reference25Ideal.main_arg6) = m' ((c.tc : Thread Cert.Reference25Ideal.nD Cert.Reference25Ideal.τ).loc Cert.Reference25Ideal.main_arg6))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v1_0)) (v1 : (c : Dev Cert.Kernel26Ideal.nD) → Buf (Elt Ideal) ((c.tc : Thread Cert.Kernel26Ideal.nD Cert.Kernel26Ideal.τ).loc Cert.Kernel26Ideal.main_v1_1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v1_0) = v0 c
          ∧ r.2.mem ((c.tc : Thread Cert.Kernel26Ideal.nD Cert.Kernel26Ideal.τ).loc Cert.Kernel26Ideal.main_v1_1) = v1 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v36) = v0 c
          ∧ r.2.mem ((c.tc : Thread Cert.Reference26Ideal.nD Cert.Reference26Ideal.τ).loc Cert.Reference26Ideal.main_v37) = v1 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)
      ∧ m' ((c.tc : Thread Cert.Reference27Ideal.nD Cert.Reference27Ideal.τ).loc Cert.Reference27Ideal.main_arg5) = m ((c.tc : Thread Cert.Kernel27Ideal.nD Cert.Kernel27Ideal.τ).loc Cert.Kernel27Ideal.main_arg5)
      ∧ m' ((c.tc : Thread Cert.Reference27Ideal.nD Cert.Reference27Ideal.τ).loc Cert.Reference27Ideal.main_arg6) = m ((c.tc : Thread Cert.Kernel27Ideal.nD Cert.Kernel27Ideal.τ).loc Cert.Kernel27Ideal.main_arg6)
      ∧ m' ((c.tc : Thread Cert.Reference27Ideal.nD Cert.Reference27Ideal.τ).loc Cert.Reference27Ideal.main_arg7) = m ((c.tc : Thread Cert.Kernel27Ideal.nD Cert.Kernel27Ideal.τ).loc Cert.Kernel27Ideal.main_arg7)) →
    ∃ (v0 : (c : Dev Cert.Kernel27Ideal.nD) → Buf (Elt Ideal) ((c.tc : Thread Cert.Kernel27Ideal.nD Cert.Kernel27Ideal.τ).loc Cert.Kernel27Ideal.main_v18)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v18) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
          ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5)
          ∧ r.2.mem ((c.tc : Thread Cert.Kernel27Ideal.nD Cert.Kernel27Ideal.τ).loc Cert.Kernel27Ideal.main_arg6) = m ((c.tc : Thread Cert.Kernel27Ideal.nD Cert.Kernel27Ideal.τ).loc Cert.Kernel27Ideal.main_arg6)
          ∧ r.2.mem ((c.tc : Thread Cert.Kernel27Ideal.nD Cert.Kernel27Ideal.τ).loc Cert.Kernel27Ideal.main_arg7) = m ((c.tc : Thread Cert.Kernel27Ideal.nD Cert.Kernel27Ideal.τ).loc Cert.Kernel27Ideal.main_arg7))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v8) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4)
          ∧ r.2.mem ((c.tc : Thread Cert.Reference27Ideal.nD Cert.Reference27Ideal.τ).loc Cert.Reference27Ideal.main_arg5) = m' ((c.tc : Thread Cert.Reference27Ideal.nD Cert.Reference27Ideal.τ).loc Cert.Reference27Ideal.main_arg5)
          ∧ r.2.mem ((c.tc : Thread Cert.Reference27Ideal.nD Cert.Reference27Ideal.τ).loc Cert.Reference27Ideal.main_arg6) = m' ((c.tc : Thread Cert.Reference27Ideal.nD Cert.Reference27Ideal.τ).loc Cert.Reference27Ideal.main_arg6)
          ∧ r.2.mem ((c.tc : Thread Cert.Reference27Ideal.nD Cert.Reference27Ideal.τ).loc Cert.Reference27Ideal.main_arg7) = m' ((c.tc : Thread Cert.Reference27Ideal.nD Cert.Reference27Ideal.τ).loc Cert.Reference27Ideal.main_arg7))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v23) = v0 c
          ∧ r.2.mem ((c.tc : Thread Cert.Reference30Ideal.nD Cert.Reference30Ideal.τ).loc Cert.Reference30Ideal.main_v4) = v1 c
          ∧ r.2.mem ((c.tc : Thread Cert.Reference30Ideal.nD Cert.Reference30Ideal.τ).loc Cert.Reference30Ideal.main_v10) = v2 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v4_0)) (v1 : (c : Dev Cert.Kernel31Ideal.nD) → Buf (Elt Ideal) ((c.tc : Thread Cert.Kernel31Ideal.nD Cert.Kernel31Ideal.τ).loc Cert.Kernel31Ideal.main_v4_1)) (v2 : (c : Dev Cert.Kernel31Ideal.nD) → Buf (Elt Ideal) ((c.tc : Thread Cert.Kernel31Ideal.nD Cert.Kernel31Ideal.τ).loc Cert.Kernel31Ideal.main_v4_2)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v4_0) = v0 c
          ∧ r.2.mem ((c.tc : Thread Cert.Kernel31Ideal.nD Cert.Kernel31Ideal.τ).loc Cert.Kernel31Ideal.main_v4_1) = v1 c
          ∧ r.2.mem ((c.tc : Thread Cert.Kernel31Ideal.nD Cert.Kernel31Ideal.τ).loc Cert.Kernel31Ideal.main_v4_2) = v2 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v24) = v0 c
          ∧ r.2.mem ((c.tc : Thread Cert.Reference31Ideal.nD Cert.Reference31Ideal.τ).loc Cert.Reference31Ideal.main_v25) = v1 c
          ∧ r.2.mem ((c.tc : Thread Cert.Reference31Ideal.nD Cert.Reference31Ideal.τ).loc Cert.Reference31Ideal.main_v26) = v2 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v4_0)) (v1 : (c : Dev Cert.Kernel32Ideal.nD) → Buf (Elt Ideal) ((c.tc : Thread Cert.Kernel32Ideal.nD Cert.Kernel32Ideal.τ).loc Cert.Kernel32Ideal.main_v4_1)) (v2 : (c : Dev Cert.Kernel32Ideal.nD) → Buf (Elt Ideal) ((c.tc : Thread Cert.Kernel32Ideal.nD Cert.Kernel32Ideal.τ).loc Cert.Kernel32Ideal.main_v4_2)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v4_0) = v0 c
          ∧ r.2.mem ((c.tc : Thread Cert.Kernel32Ideal.nD Cert.Kernel32Ideal.τ).loc Cert.Kernel32Ideal.main_v4_1) = v1 c
          ∧ r.2.mem ((c.tc : Thread Cert.Kernel32Ideal.nD Cert.Kernel32Ideal.τ).loc Cert.Kernel32Ideal.main_v4_2) = v2 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v24) = v0 c
          ∧ r.2.mem ((c.tc : Thread Cert.Reference32Ideal.nD Cert.Reference32Ideal.τ).loc Cert.Reference32Ideal.main_v25) = v1 c
          ∧ r.2.mem ((c.tc : Thread Cert.Reference32Ideal.nD Cert.Reference32Ideal.τ).loc Cert.Reference32Ideal.main_v26) = v2 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v23) = v0 c
          ∧ r.2.mem ((c.tc : Thread Cert.Reference33Ideal.nD Cert.Reference33Ideal.τ).loc Cert.Reference33Ideal.main_v4) = v1 c
          ∧ r.2.mem ((c.tc : Thread Cert.Reference33Ideal.nD Cert.Reference33Ideal.τ).loc Cert.Reference33Ideal.main_v10) = v2 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)) (v2 : (c : Dev Cert.Kernel34Ideal.nD) → Buf (Elt Ideal) ((c.tc : Thread Cert.Kernel34Ideal.nD Cert.Kernel34Ideal.τ).loc Cert.Kernel34Ideal.main_v0_2)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_v0_2) = v2 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v23) = v0 c
          ∧ r.2.mem ((c.tc : Thread Cert.Reference34Ideal.nD Cert.Reference34Ideal.τ).loc Cert.Reference34Ideal.main_v4) = v1 c
          ∧ r.2.mem ((c.tc : Thread Cert.Reference34Ideal.nD Cert.Reference34Ideal.τ).loc Cert.Reference34Ideal.main_v10) = v2 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)) (v2 : (c : Dev Cert.Kernel35Ideal.nD) → Buf (Elt Ideal) ((c.tc : Thread Cert.Kernel35Ideal.nD Cert.Kernel35Ideal.τ).loc Cert.Kernel35Ideal.main_v0_2)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_v0_2) = v2 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v23) = v0 c
          ∧ r.2.mem ((c.tc : Thread Cert.Reference35Ideal.nD Cert.Reference35Ideal.τ).loc Cert.Reference35Ideal.main_v4) = v1 c
          ∧ r.2.mem ((c.tc : Thread Cert.Reference35Ideal.nD Cert.Reference35Ideal.τ).loc Cert.Reference35Ideal.main_v10) = v2 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)) →
    ∃ (v0 : (c : Dev Cert.Kernel36Ideal.nD) → Buf (Elt Ideal) ((c.tc : Thread Cert.Kernel36Ideal.nD Cert.Kernel36Ideal.τ).loc Cert.Kernel36Ideal.main_v4_0)) (v1 : (c : Dev Cert.Kernel36Ideal.nD) → Buf (Elt Ideal) ((c.tc : Thread Cert.Kernel36Ideal.nD Cert.Kernel36Ideal.τ).loc Cert.Kernel36Ideal.main_v4_1)) (v2 : (c : Dev Cert.Kernel36Ideal.nD) → Buf (Elt Ideal) ((c.tc : Thread Cert.Kernel36Ideal.nD Cert.Kernel36Ideal.τ).loc Cert.Kernel36Ideal.main_v4_2)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v4_0) = v0 c
          ∧ r.2.mem ((c.tc : Thread Cert.Kernel36Ideal.nD Cert.Kernel36Ideal.τ).loc Cert.Kernel36Ideal.main_v4_1) = v1 c
          ∧ r.2.mem ((c.tc : Thread Cert.Kernel36Ideal.nD Cert.Kernel36Ideal.τ).loc Cert.Kernel36Ideal.main_v4_2) = v2 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v24) = v0 c
          ∧ r.2.mem ((c.tc : Thread Cert.Reference36Ideal.nD Cert.Reference36Ideal.τ).loc Cert.Reference36Ideal.main_v25) = v1 c
          ∧ r.2.mem ((c.tc : Thread Cert.Reference36Ideal.nD Cert.Reference36Ideal.τ).loc Cert.Reference36Ideal.main_v26) = v2 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)) →
    ∃ (v0 : (c : Dev Cert.Kernel37Ideal.nD) → Buf (Elt Ideal) ((c.tc : Thread Cert.Kernel37Ideal.nD Cert.Kernel37Ideal.τ).loc Cert.Kernel37Ideal.main_v4_0)) (v1 : (c : Dev Cert.Kernel37Ideal.nD) → Buf (Elt Ideal) ((c.tc : Thread Cert.Kernel37Ideal.nD Cert.Kernel37Ideal.τ).loc Cert.Kernel37Ideal.main_v4_1)) (v2 : (c : Dev Cert.Kernel37Ideal.nD) → Buf (Elt Ideal) ((c.tc : Thread Cert.Kernel37Ideal.nD Cert.Kernel37Ideal.τ).loc Cert.Kernel37Ideal.main_v4_2)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v4_0) = v0 c
          ∧ r.2.mem ((c.tc : Thread Cert.Kernel37Ideal.nD Cert.Kernel37Ideal.τ).loc Cert.Kernel37Ideal.main_v4_1) = v1 c
          ∧ r.2.mem ((c.tc : Thread Cert.Kernel37Ideal.nD Cert.Kernel37Ideal.τ).loc Cert.Kernel37Ideal.main_v4_2) = v2 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v24) = v0 c
          ∧ r.2.mem ((c.tc : Thread Cert.Reference37Ideal.nD Cert.Reference37Ideal.τ).loc Cert.Reference37Ideal.main_v25) = v1 c
          ∧ r.2.mem ((c.tc : Thread Cert.Reference37Ideal.nD Cert.Reference37Ideal.τ).loc Cert.Reference37Ideal.main_v26) = v2 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)
      ∧ m' ((c.tc : Thread Cert.Reference38Ideal.nD Cert.Reference38Ideal.τ).loc Cert.Reference38Ideal.main_arg3) = m ((c.tc : Thread Cert.Kernel38Ideal.nD Cert.Kernel38Ideal.τ).loc Cert.Kernel38Ideal.main_arg3)) →
    ∃ (v0 : (c : Dev Cert.Kernel38Ideal.nD) → Buf (Elt Ideal) ((c.tc : Thread Cert.Kernel38Ideal.nD Cert.Kernel38Ideal.τ).loc Cert.Kernel38Ideal.main_v4_0)) (v1 : (c : Dev Cert.Kernel38Ideal.nD) → Buf (Elt Ideal) ((c.tc : Thread Cert.Kernel38Ideal.nD Cert.Kernel38Ideal.τ).loc Cert.Kernel38Ideal.main_v4_1)) (v2 : (c : Dev Cert.Kernel38Ideal.nD) → Buf (Elt Ideal) ((c.tc : Thread Cert.Kernel38Ideal.nD Cert.Kernel38Ideal.τ).loc Cert.Kernel38Ideal.main_v4_2)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v4_0) = v0 c
          ∧ r.2.mem ((c.tc : Thread Cert.Kernel38Ideal.nD Cert.Kernel38Ideal.τ).loc Cert.Kernel38Ideal.main_v4_1) = v1 c
          ∧ r.2.mem ((c.tc : Thread Cert.Kernel38Ideal.nD Cert.Kernel38Ideal.τ).loc Cert.Kernel38Ideal.main_v4_2) = v2 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
          ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v24) = v0 c
          ∧ r.2.mem ((c.tc : Thread Cert.Reference38Ideal.nD Cert.Reference38Ideal.τ).loc Cert.Reference38Ideal.main_v25) = v1 c
          ∧ r.2.mem ((c.tc : Thread Cert.Reference38Ideal.nD Cert.Reference38Ideal.τ).loc Cert.Reference38Ideal.main_v26) = v2 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2)
          ∧ r.2.mem ((c.tc : Thread Cert.Reference38Ideal.nD Cert.Reference38Ideal.τ).loc Cert.Reference38Ideal.main_arg3) = m' ((c.tc : Thread Cert.Reference38Ideal.nD Cert.Reference38Ideal.τ).loc Cert.Reference38Ideal.main_arg3))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)
      ∧ m' ((c.tc : Thread Cert.Reference39Ideal.nD Cert.Reference39Ideal.τ).loc Cert.Reference39Ideal.main_arg3) = m ((c.tc : Thread Cert.Kernel39Ideal.nD Cert.Kernel39Ideal.τ).loc Cert.Kernel39Ideal.main_arg3)) →
    ∃ (v0 : (c : Dev Cert.Kernel39Ideal.nD) → Buf (Elt Ideal) ((c.tc : Thread Cert.Kernel39Ideal.nD Cert.Kernel39Ideal.τ).loc Cert.Kernel39Ideal.main_v4_0)) (v1 : (c : Dev Cert.Kernel39Ideal.nD) → Buf (Elt Ideal) ((c.tc : Thread Cert.Kernel39Ideal.nD Cert.Kernel39Ideal.τ).loc Cert.Kernel39Ideal.main_v4_1)) (v2 : (c : Dev Cert.Kernel39Ideal.nD) → Buf (Elt Ideal) ((c.tc : Thread Cert.Kernel39Ideal.nD Cert.Kernel39Ideal.τ).loc Cert.Kernel39Ideal.main_v4_2)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v4_0) = v0 c
          ∧ r.2.mem ((c.tc : Thread Cert.Kernel39Ideal.nD Cert.Kernel39Ideal.τ).loc Cert.Kernel39Ideal.main_v4_1) = v1 c
          ∧ r.2.mem ((c.tc : Thread Cert.Kernel39Ideal.nD Cert.Kernel39Ideal.τ).loc Cert.Kernel39Ideal.main_v4_2) = v2 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
          ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v24) = v0 c
          ∧ r.2.mem ((c.tc : Thread Cert.Reference39Ideal.nD Cert.Reference39Ideal.τ).loc Cert.Reference39Ideal.main_v25) = v1 c
          ∧ r.2.mem ((c.tc : Thread Cert.Reference39Ideal.nD Cert.Reference39Ideal.τ).loc Cert.Reference39Ideal.main_v26) = v2 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2)
          ∧ r.2.mem ((c.tc : Thread Cert.Reference39Ideal.nD Cert.Reference39Ideal.τ).loc Cert.Reference39Ideal.main_arg3) = m' ((c.tc : Thread Cert.Reference39Ideal.nD Cert.Reference39Ideal.τ).loc Cert.Reference39Ideal.main_arg3))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)
      ∧ m' ((c.tc : Thread Cert.Reference40Ideal.nD Cert.Reference40Ideal.τ).loc Cert.Reference40Ideal.main_arg2) = m ((c.tc : Thread Cert.Kernel40Ideal.nD Cert.Kernel40Ideal.τ).loc Cert.Kernel40Ideal.main_arg2)
      ∧ m' ((c.tc : Thread Cert.Reference40Ideal.nD Cert.Reference40Ideal.τ).loc Cert.Reference40Ideal.main_arg3) = m ((c.tc : Thread Cert.Kernel40Ideal.nD Cert.Kernel40Ideal.τ).loc Cert.Kernel40Ideal.main_arg3)) →
    ∃ (v0 : (c : Dev Cert.Kernel40Ideal.nD) → Buf (Elt Ideal) ((c.tc : Thread Cert.Kernel40Ideal.nD Cert.Kernel40Ideal.τ).loc Cert.Kernel40Ideal.main_v4_0)) (v1 : (c : Dev Cert.Kernel40Ideal.nD) → Buf (Elt Ideal) ((c.tc : Thread Cert.Kernel40Ideal.nD Cert.Kernel40Ideal.τ).loc Cert.Kernel40Ideal.main_v4_1)) (v2 : (c : Dev Cert.Kernel40Ideal.nD) → Buf (Elt Ideal) ((c.tc : Thread Cert.Kernel40Ideal.nD Cert.Kernel40Ideal.τ).loc Cert.Kernel40Ideal.main_v4_2)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v4_0) = v0 c
          ∧ r.2.mem ((c.tc : Thread Cert.Kernel40Ideal.nD Cert.Kernel40Ideal.τ).loc Cert.Kernel40Ideal.main_v4_1) = v1 c
          ∧ r.2.mem ((c.tc : Thread Cert.Kernel40Ideal.nD Cert.Kernel40Ideal.τ).loc Cert.Kernel40Ideal.main_v4_2) = v2 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
          ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
          ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v24) = v0 c
          ∧ r.2.mem ((c.tc : Thread Cert.Reference40Ideal.nD Cert.Reference40Ideal.τ).loc Cert.Reference40Ideal.main_v25) = v1 c
          ∧ r.2.mem ((c.tc : Thread Cert.Reference40Ideal.nD Cert.Reference40Ideal.τ).loc Cert.Reference40Ideal.main_v26) = v2 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1)
          ∧ r.2.mem ((c.tc : Thread Cert.Reference40Ideal.nD Cert.Reference40Ideal.τ).loc Cert.Reference40Ideal.main_arg2) = m' ((c.tc : Thread Cert.Reference40Ideal.nD Cert.Reference40Ideal.τ).loc Cert.Reference40Ideal.main_arg2)
          ∧ r.2.mem ((c.tc : Thread Cert.Reference40Ideal.nD Cert.Reference40Ideal.τ).loc Cert.Reference40Ideal.main_arg3) = m' ((c.tc : Thread Cert.Reference40Ideal.nD Cert.Reference40Ideal.τ).loc Cert.Reference40Ideal.main_arg3))

def preserves_Kernel41_Kernel41Ideal : Prop :=
  True

def algebraic_Kernel41Ideal_Reference41Ideal [hKernel41Ideal : Cert.Kernel41Ideal.Facts] [hReference41Ideal : Cert.Reference41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)
      ∧ m' ((c.tc : Thread Cert.Reference41Ideal.nD Cert.Reference41Ideal.τ).loc Cert.Reference41Ideal.main_arg2) = m ((c.tc : Thread Cert.Kernel41Ideal.nD Cert.Kernel41Ideal.τ).loc Cert.Kernel41Ideal.main_arg2)
      ∧ m' ((c.tc : Thread Cert.Reference41Ideal.nD Cert.Reference41Ideal.τ).loc Cert.Reference41Ideal.main_arg3) = m ((c.tc : Thread Cert.Kernel41Ideal.nD Cert.Kernel41Ideal.τ).loc Cert.Kernel41Ideal.main_arg3)) →
    ∃ (v0 : (c : Dev Cert.Kernel41Ideal.nD) → Buf (Elt Ideal) ((c.tc : Thread Cert.Kernel41Ideal.nD Cert.Kernel41Ideal.τ).loc Cert.Kernel41Ideal.main_v0_0)) (v1 : (c : Dev Cert.Kernel41Ideal.nD) → Buf (Elt Ideal) ((c.tc : Thread Cert.Kernel41Ideal.nD Cert.Kernel41Ideal.τ).loc Cert.Kernel41Ideal.main_v0_1)) (v2 : (c : Dev Cert.Kernel41Ideal.nD) → Buf (Elt Ideal) ((c.tc : Thread Cert.Kernel41Ideal.nD Cert.Kernel41Ideal.τ).loc Cert.Kernel41Ideal.main_v0_2)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v0_0) = v0 c
          ∧ r.2.mem ((c.tc : Thread Cert.Kernel41Ideal.nD Cert.Kernel41Ideal.τ).loc Cert.Kernel41Ideal.main_v0_1) = v1 c
          ∧ r.2.mem ((c.tc : Thread Cert.Kernel41Ideal.nD Cert.Kernel41Ideal.τ).loc Cert.Kernel41Ideal.main_v0_2) = v2 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
          ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
          ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v23) = v0 c
          ∧ r.2.mem ((c.tc : Thread Cert.Reference41Ideal.nD Cert.Reference41Ideal.τ).loc Cert.Reference41Ideal.main_v4) = v1 c
          ∧ r.2.mem ((c.tc : Thread Cert.Reference41Ideal.nD Cert.Reference41Ideal.τ).loc Cert.Reference41Ideal.main_v10) = v2 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1)
          ∧ r.2.mem ((c.tc : Thread Cert.Reference41Ideal.nD Cert.Reference41Ideal.τ).loc Cert.Reference41Ideal.main_arg2) = m' ((c.tc : Thread Cert.Reference41Ideal.nD Cert.Reference41Ideal.τ).loc Cert.Reference41Ideal.main_arg2)
          ∧ r.2.mem ((c.tc : Thread Cert.Reference41Ideal.nD Cert.Reference41Ideal.τ).loc Cert.Reference41Ideal.main_arg3) = m' ((c.tc : Thread Cert.Reference41Ideal.nD Cert.Reference41Ideal.τ).loc Cert.Reference41Ideal.main_arg3))

def preserves_Kernel42_Kernel42Ideal : Prop :=
  True

def algebraic_Kernel42Ideal_Reference42Ideal [hKernel42Ideal : Cert.Kernel42Ideal.Facts] [hReference42Ideal : Cert.Reference42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg)
    (m' : (ℓ : Loc Cert.Reference42Ideal.nD Cert.Reference42Ideal.τ Cert.Reference42Ideal.sig) → Buf (Elt Ideal) ℓ) (g' : Dev Cert.Reference42Ideal.nD → PrngReg), Pre_Kernel42Ideal m →
    (∀ c : Dev Cert.Kernel42Ideal.nD,
      m' ((c.tc : Thread Cert.Reference42Ideal.nD Cert.Reference42Ideal.τ).loc Cert.Reference42Ideal.main_arg0) = m ((c.tc : Thread Cert.Kernel42Ideal.nD Cert.Kernel42Ideal.τ).loc Cert.Kernel42Ideal.main_arg0)
      ∧ m' ((c.tc : Thread Cert.Reference42Ideal.nD Cert.Reference42Ideal.τ).loc Cert.Reference42Ideal.main_arg1) = m ((c.tc : Thread Cert.Kernel42Ideal.nD Cert.Kernel42Ideal.τ).loc Cert.Kernel42Ideal.main_arg1)
      ∧ m' ((c.tc : Thread Cert.Reference42Ideal.nD Cert.Reference42Ideal.τ).loc Cert.Reference42Ideal.main_arg2) = m ((c.tc : Thread Cert.Kernel42Ideal.nD Cert.Kernel42Ideal.τ).loc Cert.Kernel42Ideal.main_arg2)
      ∧ m' ((c.tc : Thread Cert.Reference42Ideal.nD Cert.Reference42Ideal.τ).loc Cert.Reference42Ideal.main_arg3) = m ((c.tc : Thread Cert.Kernel42Ideal.nD Cert.Kernel42Ideal.τ).loc Cert.Kernel42Ideal.main_arg3)) →
    ∃ (v0 : (c : Dev Cert.Kernel42Ideal.nD) → Buf (Elt Ideal) ((c.tc : Thread Cert.Kernel42Ideal.nD Cert.Kernel42Ideal.τ).loc Cert.Kernel42Ideal.main_v4_0)) (v1 : (c : Dev Cert.Kernel42Ideal.nD) → Buf (Elt Ideal) ((c.tc : Thread Cert.Kernel42Ideal.nD Cert.Kernel42Ideal.τ).loc Cert.Kernel42Ideal.main_v4_1)) (v2 : (c : Dev Cert.Kernel42Ideal.nD) → Buf (Elt Ideal) ((c.tc : Thread Cert.Kernel42Ideal.nD Cert.Kernel42Ideal.τ).loc Cert.Kernel42Ideal.main_v4_2)),
      θ_run (Cert.Kernel42Ideal.defs (F := Ideal)) (onTc (τ := Cert.Kernel42Ideal.τ) (Cert.Kernel42Ideal.main (F := Ideal))) ⟨m, fun _ => 0, g⟩ (fun r => ∀ c : Dev Cert.Kernel42Ideal.nD,
          r.2.mem ((c.tc : Thread Cert.Kernel42Ideal.nD Cert.Kernel42Ideal.τ).loc Cert.Kernel42Ideal.main_v4_0) = v0 c
          ∧ r.2.mem ((c.tc : Thread Cert.Kernel42Ideal.nD Cert.Kernel42Ideal.τ).loc Cert.Kernel42Ideal.main_v4_1) = v1 c
          ∧ r.2.mem ((c.tc : Thread Cert.Kernel42Ideal.nD Cert.Kernel42Ideal.τ).loc Cert.Kernel42Ideal.main_v4_2) = v2 c
          ∧ r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
          ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
          ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2)
          ∧ r.2.mem ((c.tc : Thread Cert.Kernel42Ideal.nD Cert.Kernel42Ideal.τ).loc Cert.Kernel42Ideal.main_arg3) = m ((c.tc : Thread Cert.Kernel42Ideal.nD Cert.Kernel42Ideal.τ).loc Cert.Kernel42Ideal.main_arg3))
      ∧ θ_run (Cert.Reference42Ideal.defs (F := Ideal)) (onTc (τ := Cert.Reference42Ideal.τ) (Cert.Reference42Ideal.main (F := Ideal))) ⟨m', fun _ => 0, g'⟩ (fun r => ∀ c : Dev Cert.Reference42Ideal.nD,
          r.2.mem ((c.tc : Thread Cert.Reference42Ideal.nD Cert.Reference42Ideal.τ).loc Cert.Reference42Ideal.main_v24) = v0 c
          ∧ r.2.mem ((c.tc : Thread Cert.Reference42Ideal.nD Cert.Reference42Ideal.τ).loc Cert.Reference42Ideal.main_v25) = v1 c
          ∧ r.2.mem ((c.tc : Thread Cert.Reference42Ideal.nD Cert.Reference42Ideal.τ).loc Cert.Reference42Ideal.main_v26) = v2 c
          ∧ r.2.mem ((c.tc : Thread Cert.Reference42Ideal.nD Cert.Reference42Ideal.τ).loc Cert.Reference42Ideal.main_arg0) = m' ((c.tc : Thread Cert.Reference42Ideal.nD Cert.Reference42Ideal.τ).loc Cert.Reference42Ideal.main_arg0)
          ∧ r.2.mem ((c.tc : Thread Cert.Reference42Ideal.nD Cert.Reference42Ideal.τ).loc Cert.Reference42Ideal.main_arg1) = m' ((c.tc : Thread Cert.Reference42Ideal.nD Cert.Reference42Ideal.τ).loc Cert.Reference42Ideal.main_arg1)
          ∧ r.2.mem ((c.tc : Thread Cert.Reference42Ideal.nD Cert.Reference42Ideal.τ).loc Cert.Reference42Ideal.main_arg2) = m' ((c.tc : Thread Cert.Reference42Ideal.nD Cert.Reference42Ideal.τ).loc Cert.Reference42Ideal.main_arg2)
          ∧ r.2.mem ((c.tc : Thread Cert.Reference42Ideal.nD Cert.Reference42Ideal.τ).loc Cert.Reference42Ideal.main_arg3) = m' ((c.tc : Thread Cert.Reference42Ideal.nD Cert.Reference42Ideal.τ).loc Cert.Reference42Ideal.main_arg3))

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v88_0)) (v1 : (c : Dev Cert.KernelIdeal.nD) → Buf (Elt Ideal) ((c.tc : Thread Cert.KernelIdeal.nD Cert.KernelIdeal.τ).loc Cert.KernelIdeal.main_v88_1)) (v2 : (c : Dev Cert.KernelIdeal.nD) → Buf (Elt Ideal) ((c.tc : Thread Cert.KernelIdeal.nD Cert.KernelIdeal.τ).loc Cert.KernelIdeal.main_v88_2)) (v3 : (c : Dev Cert.KernelIdeal.nD) → Buf (Elt Ideal) ((c.tc : Thread Cert.KernelIdeal.nD Cert.KernelIdeal.τ).loc Cert.KernelIdeal.main_v88_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88_0) = v0 c
          ∧ r.2.mem ((c.tc : Thread Cert.KernelIdeal.nD Cert.KernelIdeal.τ).loc Cert.KernelIdeal.main_v88_1) = v1 c
          ∧ r.2.mem ((c.tc : Thread Cert.KernelIdeal.nD Cert.KernelIdeal.τ).loc Cert.KernelIdeal.main_v88_2) = v2 c
          ∧ r.2.mem ((c.tc : Thread Cert.KernelIdeal.nD Cert.KernelIdeal.τ).loc Cert.KernelIdeal.main_v88_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v171) = v0 c
          ∧ r.2.mem ((c.tc : Thread Cert.ReferenceIdeal.nD Cert.ReferenceIdeal.τ).loc Cert.ReferenceIdeal.main_v173) = v1 c
          ∧ r.2.mem ((c.tc : Thread Cert.ReferenceIdeal.nD Cert.ReferenceIdeal.τ).loc Cert.ReferenceIdeal.main_v175) = v2 c
          ∧ r.2.mem ((c.tc : Thread Cert.ReferenceIdeal.nD Cert.ReferenceIdeal.τ).loc Cert.ReferenceIdeal.main_v136) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hKernel42 : Cert.Kernel42.Facts) (hKernel42Ideal : Cert.Kernel42Ideal.Facts) (hReference42Ideal : Cert.Reference42Ideal.Facts) (hKernel : Cert.Kernel.Facts) (hKernelIdeal : Cert.KernelIdeal.Facts) (hReferenceIdeal : Cert.ReferenceIdeal.Facts) (hPre_finite2 : Cert.Pre_finite2.Facts) (hPre_finite : Cert.Pre_finite.Facts),
    quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel41 (hKernel41 := hKernel41)
    ∧ quiescent_Kernel41Ideal (hKernel41Ideal := hKernel41Ideal)
    ∧ quiescent_Reference41Ideal (hReference41Ideal := hReference41Ideal)
    ∧ quiescent_Kernel42 (hKernel42 := hKernel42)
    ∧ quiescent_Kernel42Ideal (hKernel42Ideal := hKernel42Ideal)
    ∧ quiescent_Reference42Ideal (hReference42Ideal := hReference42Ideal)
    ∧ quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
    ∧ preserves_Kernel41_Kernel41Ideal
    ∧ algebraic_Kernel41Ideal_Reference41Ideal (hKernel41Ideal := hKernel41Ideal) (hReference41Ideal := hReference41Ideal)
    ∧ preserves_Kernel42_Kernel42Ideal
    ∧ algebraic_Kernel42Ideal_Reference42Ideal (hKernel42Ideal := hKernel42Ideal) (hReference42Ideal := hReference42Ideal)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x16384x8x64 : Shape := ⟨4, ![1, 16384, 8, 64]⟩
abbrev S8x128x256 : Shape := ⟨3, ![8, 128, 256]⟩
abbrev S1x16384x8 : Shape := ⟨3, ![1, 16384, 8]⟩
abbrev S_ : Shape := ⟨0, ![]⟩

class Facts : Prop where
  bcast_S_S1x16384x8x64 : S_.BroadcastsInDim S1x16384x8x64 (![] : Fin 0 → Fin S1x16384x8x64.rank)
  bcast_S_S8x128x256 : S_.BroadcastsInDim S8x128x256 (![] : Fin 0 → Fin S8x128x256.rank)
  bcast_S_S1x16384x8 : S_.BroadcastsInDim S1x16384x8 (![] : Fin 0 → Fin S1x16384x8.rank)

variable [Facts]

def fn {F : FTy → Type} [FloatOps F] (main_arg0 : FVec F S1x16384x8x64 .f32) (main_arg1 : FVec F S1x16384x8x64 .f32) (main_arg2 : FVec F S1x16384x8x64 .f32) (main_arg3 : FVec F S8x128x256 .f32) (main_arg4 : FVec F S1x16384x8x64 .f32) (main_arg5 : FVec F S1x16384x8 .f32) : IVec S1x16384x8x64 1 × IVec S1x16384x8x64 1 × IVec S1x16384x8x64 1 × IVec S8x128x256 1 × IVec S1x16384x8x64 1 × IVec S1x16384x8 1 :=
  let main_v0 : FVec F S1x16384x8x64 .f32 := Host.absf main_arg0
  let main_cst : FVec F S_ .f32 := constant S_ .f32 0x7F800000#32
  let main_v1 : FVec F S1x16384x8x64 .f32 := broadcastInDim S1x16384x8x64 ![] bcast_S_S1x16384x8x64 main_cst
  let main_v2 : IVec S1x16384x8x64 1 := cmpf .olt main_v0 main_v1
  let main_v3 : FVec F S1x16384x8x64 .f32 := Host.absf main_arg1
  let main_cst_0 : FVec F S_ .f32 := constant S_ .f32 0x7F800000#32
  let main_v4 : FVec F S1x16384x8x64 .f32 := broadcastInDim S1x16384x8x64 ![] bcast_S_S1x16384x8x64 main_cst_0
  let main_v5 : IVec S1x16384x8x64 1 := cmpf .olt main_v3 main_v4
  let main_v6 : FVec F S1x16384x8x64 .f32 := Host.absf main_arg2
  let main_cst_1 : FVec F S_ .f32 := constant S_ .f32 0x7F800000#32
  let main_v7 : FVec F S1x16384x8x64 .f32 := broadcastInDim S1x16384x8x64 ![] bcast_S_S1x16384x8x64 main_cst_1
  let main_v8 : IVec S1x16384x8x64 1 := cmpf .olt main_v6 main_v7
  let main_v9 : FVec F S8x128x256 .f32 := Host.absf main_arg3
  let main_cst_2 : FVec F S_ .f32 := constant S_ .f32 0x7F800000#32
  let main_v10 : FVec F S8x128x256 .f32 := broadcastInDim S8x128x256 ![] bcast_S_S8x128x256 main_cst_2
  let main_v11 : IVec S8x128x256 1 := cmpf .olt main_v9 main_v10
  let main_v12 : FVec F S1x16384x8x64 .f32 := Host.absf main_arg4
  let main_cst_3 : FVec F S_ .f32 := constant S_ .f32 0x7F800000#32
  let main_v13 : FVec F S1x16384x8x64 .f32 := broadcastInDim S1x16384x8x64 ![] bcast_S_S1x16384x8x64 main_cst_3
  let main_v14 : IVec S1x16384x8x64 1 := cmpf .olt main_v12 main_v13
  let main_v15 : FVec F S1x16384x8 .f32 := Host.absf main_arg5
  let main_cst_4 : FVec F S_ .f32 := constant S_ .f32 0x7F800000#32
  let main_v16 : FVec F S1x16384x8 .f32 := broadcastInDim S1x16384x8 ![] bcast_S_S1x16384x8 main_cst_4
  let main_v17 : IVec S1x16384x8 1 := cmpf .olt main_v15 main_v16
  (main_v2, main_v5, main_v8, main_v11, main_v14, main_v17)
-- ==== Pre_finite2.lean ====
abbrev S16384x5632 : Shape := ⟨2, ![16384, 5632]⟩
abbrev S2816x1024 : Shape := ⟨2, ![2816, 1024]⟩
abbrev S16384x1024 : Shape := ⟨2, ![16384, 1024]⟩
abbrev S_ : Shape := ⟨0, ![]⟩

class Facts : Prop where
  bcast_S_S16384x5632 : S_.BroadcastsInDim S16384x5632 (![] : Fin 0 → Fin S16384x5632.rank)
  bcast_S_S2816x1024 : S_.BroadcastsInDim S2816x1024 (![] : Fin 0 → Fin S2816x1024.rank)
  bcast_S_S16384x1024 : S_.BroadcastsInDim S16384x1024 (![] : Fin 0 → Fin S16384x1024.rank)

variable [Facts]

def fn {F : FTy → Type} [FloatOps F] (main_arg0 : FVec F S16384x5632 .f32) (main_arg1 : FVec F S2816x1024 .f32) (main_arg2 : FVec F S16384x1024 .f32) : IVec S16384x5632 1 × IVec S2816x1024 1 × IVec S16384x1024 1 :=
  let main_v0 : FVec F S16384x5632 .f32 := Host.absf main_arg0
  let main_cst : FVec F S_ .f32 := constant S_ .f32 0x7F800000#32
  let main_v1 : FVec F S16384x5632 .f32 := broadcastInDim S16384x5632 ![] bcast_S_S16384x5632 main_cst
  let main_v2 : IVec S16384x5632 1 := cmpf .olt main_v0 main_v1
  let main_v3 : FVec F S2816x1024 .f32 := Host.absf main_arg1
  let main_cst_0 : FVec F S_ .f32 := constant S_ .f32 0x7F800000#32
  let main_v4 : FVec F S2816x1024 .f32 := broadcastInDim S2816x1024 ![] bcast_S_S2816x1024 main_cst_0
  let main_v5 : IVec S2816x1024 1 := cmpf .olt main_v3 main_v4
  let main_v6 : FVec F S16384x1024 .f32 := Host.absf main_arg2
  let main_cst_1 : FVec F S_ .f32 := constant S_ .f32 0x7F800000#32
  let main_v7 : FVec F S16384x1024 .f32 := broadcastInDim S16384x1024 ![] bcast_S_S16384x1024 main_cst_1
  let main_v8 : IVec S16384x1024 1 := cmpf .olt main_v6 main_v7
  (main_v2, main_v5, main_v8)
-- ==== Kernel2.lean ====
abbrev S16384x5632 : Shape := ⟨2, ![16384, 5632]⟩
abbrev S2816x1024 : Shape := ⟨2, ![2816, 1024]⟩
abbrev S16384x1024 : Shape := ⟨2, ![16384, 1024]⟩
abbrev S16384x1408 : Shape := ⟨2, ![16384, 1408]⟩
abbrev S512x1024 : Shape := ⟨2, ![512, 1024]⟩
abbrev S1408x1024 : Shape := ⟨2, ![1408, 1024]⟩
abbrev S512x2816 : Shape := ⟨2, ![512, 2816]⟩
abbrev S512x1408 : Shape := ⟨2, ![512, 1408]⟩

abbrev nBuf : Space → Nat
  | .hbm => 11
  | .vmem => 8
  | .smem => 0
  | _ => 0

abbrev bufTy : (tb : Table) → Fin (tcTables nBuf tb) → BufTy
  | .hbm, ⟨0, _⟩ => ⟨S16384x5632, .f32⟩
  | .hbm, ⟨1, _⟩ => ⟨S2816x1024, .f32⟩
  | .hbm, ⟨2, _⟩ => ⟨S16384x1024, .f32⟩
  | .hbm, ⟨3, _⟩ => ⟨S16384x1408, .f32⟩
  | .hbm, ⟨4, _⟩ => ⟨S16384x1408, .f32⟩
  | .hbm, ⟨5, _⟩ => ⟨S16384x1408, .f32⟩
  | .hbm, ⟨6, _⟩ => ⟨S16384x1408, .f32⟩
  | .hbm, ⟨7, _⟩ => ⟨S16384x5632, .f32⟩
  | .hbm, ⟨8, _⟩ => ⟨S16384x5632, .bf16⟩
  | .hbm, ⟨9, _⟩ => ⟨S2816x1024, .bf16⟩
  | .hbm, ⟨10, _⟩ => ⟨S16384x5632, .bf16⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | _, _ => ⟨S16384x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![32, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S16384x5632 : Shape := ⟨2, ![16384, 5632]⟩
abbrev S2816x1024 : Shape := ⟨2, ![2816, 1024]⟩
abbrev S16384x1024 : Shape := ⟨2, ![16384, 1024]⟩
abbrev S16384x2816 : Shape := ⟨2, ![16384, 2816]⟩
abbrev S_ : Shape := ⟨0, ![]⟩
abbrev S1024x2816 : Shape := ⟨2, ![1024, 2816]⟩
abbrev S16384x2x2x1408 : Shape := ⟨4, ![16384, 2, 2, 1408]⟩

abbrev nBuf : Space → Nat
  | .hbm => 34
  | .vmem => 0
  | .smem => 0
  | _ => 0

abbrev bufTy : (tb : Table) → Fin (tcTables nBuf tb) → BufTy
  | .hbm, ⟨0, _⟩ => ⟨S16384x5632, .f32⟩
  | .hbm, ⟨1, _⟩ => ⟨S2816x1024, .f32⟩
  | .hbm, ⟨2, _⟩ => ⟨S16384x1024, .f32⟩
  | .hbm, ⟨3, _⟩ => ⟨S16384x2816, .f32⟩
  | .hbm, ⟨4, _⟩ => ⟨S16384x2816, .f32⟩
  | .hbm, ⟨5, _⟩ => ⟨S16384x2816, .f32⟩
  | .hbm, ⟨6, _⟩ => ⟨S16384x2816, .f32⟩
  | .hbm, ⟨7, _⟩ => ⟨S_, .f32⟩
  | .hbm, ⟨8, _⟩ => ⟨S16384x2816, .f32⟩
  | .hbm, ⟨9, _⟩ => ⟨S16384x2816, .f32⟩
  | .hbm, ⟨10, _⟩ => ⟨S_, .f32⟩
  | .hbm, ⟨11, _⟩ => ⟨S16384x2816, .f32⟩
  | .hbm, ⟨12, _⟩ => ⟨S16384x2816, .f32⟩
  | .hbm, ⟨13, _⟩ => ⟨S_, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x1024, .f32⟩
  | .hbm, ⟨20, _⟩ => ⟨S1024x2816, .f32⟩
  | .hbm, ⟨21, _⟩ => ⟨S2816x1024, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S16384x5632, .f32⟩
  | .hbm, ⟨30, _⟩ => ⟨S16384x2x2x1408, .f32⟩
  | .hbm, ⟨31, _⟩ => ⟨S16384x2x2x1408, .f32⟩
  | .hbm, ⟨32, _⟩ => ⟨S16384x5632, .f32⟩
  | .hbm, ⟨33, _⟩ => ⟨S16384x5632, .bf16⟩
  | _, _ => ⟨S16384x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩

abbrev nD : Nat := 1
abbrev τ : Topo := Topo.v7x

variable {F : FTy → Type} [FloatOps F]
-- ==== Kernel3.lean ====
abbrev S16384x1024 : Shape := ⟨2, ![16384, 1024]⟩
abbrev S1024x5632 : Shape := ⟨2, ![1024, 5632]⟩
abbrev S16384x5632 : Shape := ⟨2, ![16384, 5632]⟩
abbrev S16384x1408 : Shape := ⟨2, ![16384, 1408]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 11
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S16384x5632, .f32⟩
  | .hbm, ⟨3, _⟩ => ⟨S16384x1024, .bf16⟩
  | .hbm, ⟨4, _⟩ => ⟨S16384x1408, .f32⟩
  | .hbm, ⟨5, _⟩ => ⟨S16384x1408, .f32⟩
  | .hbm, ⟨6, _⟩ => ⟨S16384x1408, .f32⟩
  | .hbm, ⟨7, _⟩ => ⟨S16384x1408, .f32⟩
  | .hbm, ⟨8, _⟩ => ⟨S16384x5632, .f32⟩
  | .hbm, ⟨9, _⟩ => ⟨S16384x5632, .bf16⟩
  | .hbm, ⟨10, _⟩ => ⟨S1024x5632, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond3 (i : grid0.Coords) : BitVec 1 :=
  let arg2 : BitVec 32 := BitVec.ofNat 32 (i 2).val
  let c7_i32_6 : BitVec 32 := 7#32
  let v13 : BitVec 1 := Scalar.cmpi .eq arg2 c7_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S16384x1024 : Shape := ⟨2, ![16384, 1024]⟩
abbrev S1024x5632 : Shape := ⟨2, ![1024, 5632]⟩
abbrev S16384x5632 : Shape := ⟨2, ![16384, 5632]⟩
abbrev S5632x1024 : Shape := ⟨2, ![5632, 1024]⟩
abbrev S1024x2x2x1408 : Shape := ⟨4, ![1024, 2, 2, 1408]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S16384x5632, .f32⟩
  | .hbm, ⟨3, _⟩ => ⟨S16384x5632, .f32⟩
  | .hbm, ⟨4, _⟩ => ⟨S5632x1024, .f32⟩
  | .hbm, ⟨5, _⟩ => ⟨S1024x5632, .f32⟩
  | .hbm, ⟨6, _⟩ => ⟨S1024x2x2x1408, .f32⟩
  | .hbm, ⟨7, _⟩ => ⟨S1024x2x2x1408, .f32⟩
  | .hbm, ⟨8, _⟩ => ⟨S1024x5632, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S16384x1024 : Shape := ⟨2, ![16384, 1024]⟩
abbrev S1024x5632 : Shape := ⟨2, ![1024, 5632]⟩
abbrev S16384x5632 : Shape := ⟨2, ![16384, 5632]⟩
abbrev S16384x1408 : Shape := ⟨2, ![16384, 1408]⟩
abbrev S1024x1408 : Shape := ⟨2, ![1024, 1408]⟩
abbrev S1024x2816 : Shape := ⟨2, ![1024, 2816]⟩
abbrev S1024x1024 : Shape := ⟨2, ![1024, 1024]⟩

abbrev nBuf : Space → Nat
  | .hbm => 16
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S16384x5632, .f32⟩
  | .hbm, ⟨3, _⟩ => ⟨S16384x1408, .f32⟩
  | .hbm, ⟨4, _⟩ => ⟨S16384x1408, .f32⟩
  | .hbm, ⟨5, _⟩ => ⟨S16384x1408, .f32⟩
  | .hbm, ⟨6, _⟩ => ⟨S16384x1408, .f32⟩
  | .hbm, ⟨7, _⟩ => ⟨S16384x5632, .f32⟩
  | .hbm, ⟨8, _⟩ => ⟨S16384x5632, .bf16⟩
  | .hbm, ⟨9, _⟩ => ⟨S1024x1408, .f32⟩
  | .hbm, ⟨10, _⟩ => ⟨S1024x1408, .f32⟩
  | .hbm, ⟨11, _⟩ => ⟨S1024x1408, .f32⟩
  | .hbm, ⟨12, _⟩ => ⟨S1024x1408, .f32⟩
  | .hbm, ⟨13, _⟩ => ⟨S1024x5632, .f32⟩
  | .hbm, ⟨14, _⟩ => ⟨S1024x5632, .bf16⟩
  | .hbm, ⟨15, _⟩ => ⟨S16384x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S16384x1024 : Shape := ⟨2, ![16384, 1024]⟩
abbrev S1024x5632 : Shape := ⟨2, ![1024, 5632]⟩
abbrev S16384x5632 : Shape := ⟨2, ![16384, 5632]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S16384x5632, .f32⟩
  | .hbm, ⟨3, _⟩ => ⟨S16384x5632, .f32⟩
  | .hbm, ⟨4, _⟩ => ⟨S16384x1024, .f32⟩
  | .hbm, ⟨5, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel5.lean ====
abbrev S16384x1024 : Shape := ⟨2, ![16384, 1024]⟩
abbrev S1024x5632 : Shape := ⟨2, ![1024, 5632]⟩
abbrev S1024x1408 : Shape := ⟨2, ![1024, 1408]⟩
abbrev S16384x5632 : Shape := ⟨2, ![16384, 5632]⟩
abbrev S16384x2816 : Shape := ⟨2, ![16384, 2816]⟩
abbrev S512x1024 : Shape := ⟨2, ![512, 1024]⟩
abbrev S1024x2816 : Shape := ⟨2, ![1024, 2816]⟩
abbrev S512x2816 : Shape := ⟨2, ![512, 2816]⟩
abbrev S512x1408 : Shape := ⟨2, ![512, 1408]⟩

abbrev nBuf : Space → Nat
  | .hbm => 11
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S16384x1024, .bf16⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S1024x5632, .f32⟩
  | .hbm, ⟨8, _⟩ => ⟨S1024x5632, .bf16⟩
  | .hbm, ⟨9, _⟩ => ⟨S16384x5632, .bf16⟩
  | .hbm, ⟨10, _⟩ => ⟨S16384x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x2816, .bf16⟩
  | .local _ .vmem, ⟨3, _⟩ => ⟨S1024x2816, .bf16⟩
  | .local _ .vmem, ⟨4, _⟩ => ⟨S512x2816, .bf16⟩
  | .local _ .vmem, ⟨5, _⟩ => ⟨S512x2816, .bf16⟩
  | .local _ .vmem, ⟨6, _⟩ => ⟨S512x1408, .bf16⟩
  | .local _ .vmem, ⟨7, _⟩ => ⟨S512x1408, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7_0 : Ref sig .tc := ⟨.hbm, 9, rfl⟩
abbrev main_v7_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![32, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S16384x1024 : Shape := ⟨2, ![16384, 1024]⟩
abbrev S1024x5632 : Shape := ⟨2, ![1024, 5632]⟩
abbrev S16384x5632 : Shape := ⟨2, ![16384, 5632]⟩
abbrev S16384x2816 : Shape := ⟨2, ![16384, 2816]⟩
abbrev S16384x2x2x1408 : Shape := ⟨4, ![16384, 2, 2, 1408]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S16384x5632, .f32⟩
  | .hbm, ⟨3, _⟩ => ⟨S16384x2816, .f32⟩
  | .hbm, ⟨4, _⟩ => ⟨S16384x2816, .f32⟩
  | .hbm, ⟨5, _⟩ => ⟨S16384x2x2x1408, .f32⟩
  | .hbm, ⟨6, _⟩ => ⟨S16384x2x2x1408, .f32⟩
  | .hbm, ⟨7, _⟩ => ⟨S16384x5632, .f32⟩
  | .hbm, ⟨8, _⟩ => ⟨S16384x5632, .bf16⟩
  | .hbm, ⟨9, _⟩ => ⟨S16384x2816, .f32⟩
  | .hbm, ⟨10, _⟩ => ⟨S16384x2816, .f32⟩
  | .hbm, ⟨11, _⟩ => ⟨S_, .f32⟩
  | .hbm, ⟨12, _⟩ => ⟨S16384x2816, .f32⟩
  | .hbm, ⟨13, _⟩ => ⟨S16384x2816, .f32⟩
  | .hbm, ⟨14, _⟩ => ⟨S_, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== Kernel6.lean ====
abbrev S16384x1024 : Shape := ⟨2, ![16384, 1024]⟩
abbrev S1024x512 : Shape := ⟨2, ![1024, 512]⟩
abbrev S16384x512 : Shape := ⟨2, ![16384, 512]⟩
abbrev S4096x1024 : Shape := ⟨2, ![4096, 1024]⟩
abbrev S4096x512 : Shape := ⟨2, ![4096, 512]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x512, .f32⟩
  | .hbm, ⟨2, _⟩ => ⟨S16384x512, .f32⟩
  | .hbm, ⟨3, _⟩ => ⟨S16384x1024, .bf16⟩
  | .hbm, ⟨4, _⟩ => ⟨S16384x512, .bf16⟩
  | .hbm, ⟨5, _⟩ => ⟨S1024x512, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S16384x1024 : Shape := ⟨2, ![16384, 1024]⟩
abbrev S1024x512 : Shape := ⟨2, ![1024, 512]⟩
abbrev S16384x512 : Shape := ⟨2, ![16384, 512]⟩
abbrev S512x1024 : Shape := ⟨2, ![512, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x512, .f32⟩
  | .hbm, ⟨2, _⟩ => ⟨S16384x512, .f32⟩
  | .hbm, ⟨3, _⟩ => ⟨S16384x512, .f32⟩
  | .hbm, ⟨4, _⟩ => ⟨S512x1024, .f32⟩
  | .hbm, ⟨5, _⟩ => ⟨S1024x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel7.lean ====
abbrev S16384x1024 : Shape := ⟨2, ![16384, 1024]⟩
abbrev S1024x1536 : Shape := ⟨2, ![1024, 1536]⟩
abbrev S16384x1536 : Shape := ⟨2, ![16384, 1536]⟩
abbrev S2048x1024 : Shape := ⟨2, ![2048, 1024]⟩
abbrev S2048x1536 : Shape := ⟨2, ![2048, 1536]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x1536, .f32⟩
  | .hbm, ⟨2, _⟩ => ⟨S16384x1024, .bf16⟩
  | .hbm, ⟨3, _⟩ => ⟨S1024x1536, .bf16⟩
  | .hbm, ⟨4, _⟩ => ⟨S16384x1536, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1536, .bf16⟩
  | .local _ .vmem, ⟨3, _⟩ => ⟨S2048x1536, .bf16⟩
  | .local _ .vmem, ⟨4, _⟩ => ⟨S2048x1536, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S16384x1024 : Shape := ⟨2, ![16384, 1024]⟩
abbrev S1024x1536 : Shape := ⟨2, ![1024, 1536]⟩
abbrev S16384x1536 : Shape := ⟨2, ![16384, 1536]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1536, .f32⟩
  | .hbm, ⟨2, _⟩ => ⟨S16384x1536, .f32⟩
  | .hbm, ⟨3, _⟩ => ⟨S16384x1536, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel8.lean ====
abbrev S16384x1024 : Shape := ⟨2, ![16384, 1024]⟩
abbrev S1024x2048 : Shape := ⟨2, ![1024, 2048]⟩
abbrev S16384x2048 : Shape := ⟨2, ![16384, 2048]⟩
abbrev S2048x1024 : Shape := ⟨2, ![2048, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x2048, .f32⟩
  | .hbm, ⟨2, _⟩ => ⟨S16384x2048, .f32⟩
  | .hbm, ⟨3, _⟩ => ⟨S16384x1024, .bf16⟩
  | .hbm, ⟨4, _⟩ => ⟨S16384x2048, .bf16⟩
  | .hbm, ⟨5, _⟩ => ⟨S1024x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32_6 : BitVec 32 := 7#32
  let v13 : BitVec 1 := Scalar.cmpi .eq arg2 c7_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S16384x1024 : Shape := ⟨2, ![16384, 1024]⟩
abbrev S1024x2048 : Shape := ⟨2, ![1024, 2048]⟩
abbrev S16384x2048 : Shape := ⟨2, ![16384, 2048]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2048, .f32⟩
  | .hbm, ⟨2, _⟩ => ⟨S16384x2048, .f32⟩
  | .hbm, ⟨3, _⟩ => ⟨S16384x2048, .f32⟩
  | .hbm, ⟨4, _⟩ => ⟨S2048x1024, .f32⟩
  | .hbm, ⟨5, _⟩ => ⟨S1024x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel9.lean ====
abbrev S16384x1024 : Shape := ⟨2, ![16384, 1024]⟩
abbrev S1024x2048 : Shape := ⟨2, ![1024, 2048]⟩
abbrev S16384x2048 : Shape := ⟨2, ![16384, 2048]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x2048, .f32⟩
  | .hbm, ⟨2, _⟩ => ⟨S16384x2048, .f32⟩
  | .hbm, ⟨3, _⟩ => ⟨S16384x1024, .f32⟩
  | .hbm, ⟨4, _⟩ => ⟨S16384x2048, .bf16⟩
  | .hbm, ⟨5, _⟩ => ⟨S1024x2048, .bf16⟩
  | .hbm, ⟨6, _⟩ => ⟨S16384x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S16384x1024 : Shape := ⟨2, ![16384, 1024]⟩
abbrev S1024x2048 : Shape := ⟨2, ![1024, 2048]⟩
abbrev S16384x2048 : Shape := ⟨2, ![16384, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2048, .f32⟩
  | .hbm, ⟨2, _⟩ => ⟨S16384x2048, .f32⟩
  | .hbm, ⟨3, _⟩ => ⟨S16384x1024, .f32⟩
  | .hbm, ⟨4, _⟩ => ⟨S16384x2048, .f32⟩
  | .hbm, ⟨5, _⟩ => ⟨S16384x1024, .f32⟩
  | .hbm, ⟨6, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel10.lean ====
abbrev S16384x1024 : Shape := ⟨2, ![16384, 1024]⟩
abbrev S1024x2048 : Shape := ⟨2, ![1024, 2048]⟩
abbrev S16384x2048 : Shape := ⟨2, ![16384, 2048]⟩
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x2048, .f32⟩
  | .hbm, ⟨2, _⟩ => ⟨S16384x1024, .bf16⟩
  | .hbm, ⟨3, _⟩ => ⟨S1024x2048, .bf16⟩
  | .hbm, ⟨4, _⟩ => ⟨S16384x2048, .bf16⟩
  | .local _ .vmem, ⟨0, _⟩ => ⟨S4096x1024, .bf16⟩
  | .local _ .vmem, ⟨1, _⟩ => ⟨S4096x1024, .bf16⟩
  | .local _ .vmem, ⟨2, _⟩ => ⟨S1024x1024, .bf16⟩
  | .local _ .vmem, ⟨3, _⟩ => ⟨S1024x1024, .bf16⟩
  | .local _ .vmem, ⟨4, _⟩ => ⟨S4096x1024, .bf16⟩
  | .local _ .vmem, ⟨5, _⟩ => ⟨S4096x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S16384x1024 : Shape := ⟨2, ![16384, 1024]⟩
abbrev S1024x2048 : Shape := ⟨2, ![1024, 2048]⟩
abbrev S16384x2048 : Shape := ⟨2, ![16384, 2048]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2048, .f32⟩
  | .hbm, ⟨2, _⟩ => ⟨S16384x2048, .f32⟩
  | .hbm, ⟨3, _⟩ => ⟨S16384x2048, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel11.lean ====
abbrev S16384x1024 : Shape := ⟨2, ![16384, 1024]⟩
abbrev S1024x3072 : Shape := ⟨2, ![1024, 3072]⟩
abbrev S16384x3072 : Shape := ⟨2, ![16384, 3072]⟩
abbrev S2048x1024 : Shape := ⟨2, ![2048, 1024]⟩
abbrev S2048x1536 : Shape := ⟨2, ![2048, 1536]⟩
abbrev S1024x1536 : Shape := ⟨2, ![1024, 1536]⟩

abbrev nBuf : Space → Nat
  | .hbm => 6
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x3072, .f32⟩
  | .hbm, ⟨2, _⟩ => ⟨S16384x3072, .f32⟩
  | .hbm, ⟨3, _⟩ => ⟨S16384x1024, .bf16⟩
  | .hbm, ⟨4, _⟩ => ⟨S16384x3072, .bf16⟩
  | .hbm, ⟨5, _⟩ => ⟨S1024x3072, .f32⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .f32⟩
  | .local _ .vmem, ⟨5, _⟩ => ⟨S1024x1536, .f32⟩
  | .local _ .vmem, ⟨6, _⟩ => ⟨S1024x1536, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32_6 : BitVec 32 := 7#32
  let v13 : BitVec 1 := Scalar.cmpi .eq arg2 c7_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S16384x1024 : Shape := ⟨2, ![16384, 1024]⟩
abbrev S1024x3072 : Shape := ⟨2, ![1024, 3072]⟩
abbrev S16384x3072 : Shape := ⟨2, ![16384, 3072]⟩
abbrev S3072x1024 : Shape := ⟨2, ![3072, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x3072, .f32⟩
  | .hbm, ⟨2, _⟩ => ⟨S16384x3072, .f32⟩
  | .hbm, ⟨3, _⟩ => ⟨S16384x3072, .f32⟩
  | .hbm, ⟨4, _⟩ => ⟨S3072x1024, .f32⟩
  | .hbm, ⟨5, _⟩ => ⟨S1024x3072, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel12.lean ====
abbrev S16384x1024 : Shape := ⟨2, ![16384, 1024]⟩
abbrev S1024x3072 : Shape := ⟨2, ![1024, 3072]⟩
abbrev S16384x3072 : Shape := ⟨2, ![16384, 3072]⟩
abbrev S2048x1024 : Shape := ⟨2, ![2048, 1024]⟩
abbrev S1024x1536 : Shape := ⟨2, ![1024, 1536]⟩
abbrev S2048x1536 : Shape := ⟨2, ![2048, 1536]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x3072, .f32⟩
  | .hbm, ⟨2, _⟩ => ⟨S16384x1024, .bf16⟩
  | .hbm, ⟨3, _⟩ => ⟨S1024x3072, .bf16⟩
  | .hbm, ⟨4, _⟩ => ⟨S16384x3072, .f32⟩
  | .local _ .vmem, ⟨0, _⟩ => ⟨S2048x1024, .bf16⟩
  | .local _ .vmem, ⟨1, _⟩ => ⟨S2048x1024, .bf16⟩
  | .local _ .vmem, ⟨2, _⟩ => ⟨S1024x1536, .bf16⟩
  | .local _ .vmem, ⟨3, _⟩ => ⟨S1024x1536, .bf16⟩
  | .local _ .vmem, ⟨4, _⟩ => ⟨S2048x1536, .f32⟩
  | .local _ .vmem, ⟨5, _⟩ => ⟨S2048x1536, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S16384x1024 : Shape := ⟨2, ![16384, 1024]⟩
abbrev S1024x3072 : Shape := ⟨2, ![1024, 3072]⟩
abbrev S16384x3072 : Shape := ⟨2, ![16384, 3072]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x3072, .f32⟩
  | .hbm, ⟨2, _⟩ => ⟨S16384x3072, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel13.lean ====
abbrev S16384x1024 : Shape := ⟨2, ![16384, 1024]⟩
abbrev S1024x3072 : Shape := ⟨2, ![1024, 3072]⟩
abbrev S16384x3072 : Shape := ⟨2, ![16384, 3072]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x3072, .f32⟩
  | .hbm, ⟨2, _⟩ => ⟨S16384x3072, .f32⟩
  | .hbm, ⟨3, _⟩ => ⟨S16384x1024, .f32⟩
  | .hbm, ⟨4, _⟩ => ⟨S16384x3072, .bf16⟩
  | .hbm, ⟨5, _⟩ => ⟨S1024x3072, .bf16⟩
  | .hbm, ⟨6, _⟩ => ⟨S16384x1024, .f32⟩
  | .local _ .vmem, ⟨0, _⟩ => ⟨S1024x3072, .bf16⟩
  | .local _ .vmem, ⟨1, _⟩ => ⟨S1024x3072, .bf16⟩
  | .local _ .vmem, ⟨2, _⟩ => ⟨S1024x3072, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S16384x1024 : Shape := ⟨2, ![16384, 1024]⟩
abbrev S1024x3072 : Shape := ⟨2, ![1024, 3072]⟩
abbrev S16384x3072 : Shape := ⟨2, ![16384, 3072]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x3072, .f32⟩
  | .hbm, ⟨2, _⟩ => ⟨S16384x3072, .f32⟩
  | .hbm, ⟨3, _⟩ => ⟨S16384x1024, .f32⟩
  | .hbm, ⟨4, _⟩ => ⟨S16384x3072, .f32⟩
  | .hbm, ⟨5, _⟩ => ⟨S16384x1024, .f32⟩
  | .hbm, ⟨6, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel14.lean ====
abbrev S16384x2816 : Shape := ⟨2, ![16384, 2816]⟩
abbrev S2816x1024 : Shape := ⟨2, ![2816, 1024]⟩
abbrev S16384x1024 : Shape := ⟨2, ![16384, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x2816, .f32⟩
  | .hbm, ⟨1, _⟩ => ⟨S2816x1024, .f32⟩
  | .hbm, ⟨2, _⟩ => ⟨S16384x1024, .f32⟩
  | .hbm, ⟨3, _⟩ => ⟨S16384x2816, .bf16⟩
  | .hbm, ⟨4, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond3 (i : grid0.Coords) : BitVec 1 :=
  let arg2 : BitVec 32 := BitVec.ofNat 32 (i 2).val
  let c15_i32_6 : BitVec 32 := 15#32
  let v13 : BitVec 1 := Scalar.cmpi .eq arg2 c15_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S16384x2816 : Shape := ⟨2, ![16384, 2816]⟩
abbrev S2816x1024 : Shape := ⟨2, ![2816, 1024]⟩
abbrev S16384x1024 : Shape := ⟨2, ![16384, 1024]⟩
abbrev S1024x2816 : Shape := ⟨2, ![1024, 2816]⟩

abbrev nBuf : Space → Nat
  | .hbm => 6
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S2816x1024, .f32⟩
  | .hbm, ⟨2, _⟩ => ⟨S16384x1024, .f32⟩
  | .hbm, ⟨3, _⟩ => ⟨S16384x1024, .f32⟩
  | .hbm, ⟨4, _⟩ => ⟨S1024x2816, .f32⟩
  | .hbm, ⟨5, _⟩ => ⟨S2816x1024, .f32⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel15.lean ====
abbrev S16384x2816 : Shape := ⟨2, ![16384, 2816]⟩
abbrev S2816x1024 : Shape := ⟨2, ![2816, 1024]⟩
abbrev S16384x1024 : Shape := ⟨2, ![16384, 1024]⟩
abbrev S1024x2816 : Shape := ⟨2, ![1024, 2816]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S16384x2816, .f32⟩
  | .hbm, ⟨1, _⟩ => ⟨S2816x1024, .f32⟩
  | .hbm, ⟨2, _⟩ => ⟨S16384x1024, .f32⟩
  | .hbm, ⟨3, _⟩ => ⟨S16384x2816, .bf16⟩
  | .hbm, ⟨4, _⟩ => ⟨S2816x1024, .bf16⟩
  | .hbm, ⟨5, _⟩ => ⟨S16384x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference15Ideal.lean ====
abbrev S16384x2816 : Shape := ⟨2, ![16384, 2816]⟩
abbrev S2816x1024 : Shape := ⟨2, ![2816, 1024]⟩
abbrev S16384x1024 : Shape := ⟨2, ![16384, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S2816x1024, .f32⟩
  | .hbm, ⟨2, _⟩ => ⟨S16384x1024, .f32⟩
  | .hbm, ⟨3, _⟩ => ⟨S16384x1024, .f32⟩
  | .hbm, ⟨4, _⟩ => ⟨S16384x1024, .f32⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel16.lean ====
abbrev S16384x2048 : Shape := ⟨2, ![16384, 2048]⟩
abbrev S2048x1024 : Shape := ⟨2, ![2048, 1024]⟩
abbrev S16384x1024 : Shape := ⟨2, ![16384, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S2048x1024, .f32⟩
  | .hbm, ⟨2, _⟩ => ⟨S16384x1024, .f32⟩
  | .hbm, ⟨3, _⟩ => ⟨S16384x2048, .bf16⟩
  | .hbm, ⟨4, _⟩ => ⟨S16384x1024, .bf16⟩
  | .hbm, ⟨5, _⟩ => ⟨S2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32_6 : BitVec 32 := 7#32
  let v13 : BitVec 1 := Scalar.cmpi .eq arg2 c7_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S16384x2048 : Shape := ⟨2, ![16384, 2048]⟩
abbrev S2048x1024 : Shape := ⟨2, ![2048, 1024]⟩
abbrev S16384x1024 : Shape := ⟨2, ![16384, 1024]⟩
abbrev S1024x2048 : Shape := ⟨2, ![1024, 2048]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x1024, .f32⟩
  | .hbm, ⟨2, _⟩ => ⟨S16384x1024, .f32⟩
  | .hbm, ⟨3, _⟩ => ⟨S16384x1024, .f32⟩
  | .hbm, ⟨4, _⟩ => ⟨S1024x2048, .f32⟩
  | .hbm, ⟨5, _⟩ => ⟨S2048x1024, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel17.lean ====
abbrev S16384x2048 : Shape := ⟨2, ![16384, 2048]⟩
abbrev S2048x1024 : Shape := ⟨2, ![2048, 1024]⟩
abbrev S16384x1024 : Shape := ⟨2, ![16384, 1024]⟩
abbrev S4096x1024 : Shape := ⟨2, ![4096, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S2048x1024, .f32⟩
  | .hbm, ⟨2, _⟩ => ⟨S16384x1024, .f32⟩
  | .hbm, ⟨3, _⟩ => ⟨S16384x1024, .bf16⟩
  | .hbm, ⟨4, _⟩ => ⟨S2048x1024, .bf16⟩
  | .hbm, ⟨5, _⟩ => ⟨S16384x2048, .bf16⟩
  | .local _ .vmem, ⟨0, _⟩ => ⟨S4096x1024, .bf16⟩
  | .local _ .vmem, ⟨1, _⟩ => ⟨S4096x1024, .bf16⟩
  | .local _ .vmem, ⟨2, _⟩ => ⟨S1024x1024, .bf16⟩
  | .local _ .vmem, ⟨3, _⟩ => ⟨S1024x1024, .bf16⟩
  | .local _ .vmem, ⟨4, _⟩ => ⟨S4096x1024, .bf16⟩
  | .local _ .vmem, ⟨5, _⟩ => ⟨S4096x1024, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S16384x2048 : Shape := ⟨2, ![16384, 2048]⟩
abbrev S2048x1024 : Shape := ⟨2, ![2048, 1024]⟩
abbrev S16384x1024 : Shape := ⟨2, ![16384, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x1024, .f32⟩
  | .hbm, ⟨2, _⟩ => ⟨S16384x1024, .f32⟩
  | .hbm, ⟨3, _⟩ => ⟨S16384x1024, .f32⟩
  | .hbm, ⟨4, _⟩ => ⟨S16384x2048, .f32⟩
  | .hbm, ⟨5, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel18.lean ====
abbrev S16384x2048 : Shape := ⟨2, ![16384, 2048]⟩
abbrev S2048x1024 : Shape := ⟨2, ![2048, 1024]⟩
abbrev S16384x1024 : Shape := ⟨2, ![16384, 1024]⟩
abbrev S2048x2048 : Shape := ⟨2, ![2048, 2048]⟩

abbrev nBuf : Space → Nat
  | .hbm => 5
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S2048x1024, .f32⟩
  | .hbm, ⟨2, _⟩ => ⟨S16384x2048, .bf16⟩
  | .hbm, ⟨3, _⟩ => ⟨S2048x1024, .bf16⟩
  | .hbm, ⟨4, _⟩ => ⟨S16384x1024, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S16384x2048 : Shape := ⟨2, ![16384, 2048]⟩
abbrev S2048x1024 : Shape := ⟨2, ![2048, 1024]⟩
abbrev S16384x1024 : Shape := ⟨2, ![16384, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x1024, .f32⟩
  | .hbm, ⟨2, _⟩ => ⟨S16384x1024, .f32⟩
  | .hbm, ⟨3, _⟩ => ⟨S16384x1024, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel19.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S16384x1024, .bf16⟩
  | .hbm, ⟨4, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32_6 : BitVec 32 := 7#32
  let v13 : BitVec 1 := Scalar.cmpi .eq arg2 c7_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference19Ideal.lean ====
abbrev S16384x1024 : Shape := ⟨2, ![16384, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S16384x1024, .f32⟩
  | .hbm, ⟨4, _⟩ => ⟨S1024x1024, .f32⟩
  | .hbm, ⟨5, _⟩ => ⟨S1024x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel20.lean ====
abbrev S16384x512 : Shape := ⟨2, ![16384, 512]⟩
abbrev S512x1024 : Shape := ⟨2, ![512, 1024]⟩
abbrev S16384x1024 : Shape := ⟨2, ![16384, 1024]⟩
abbrev S4096x1024 : Shape := ⟨2, ![4096, 1024]⟩
abbrev S4096x512 : Shape := ⟨2, ![4096, 512]⟩

abbrev nBuf : Space → Nat
  | .hbm => 6
  | .vmem => 5
  | .smem => 0
  | _ => 0

abbrev bufTy : (tb : Table) → Fin (tcTables nBuf tb) → BufTy
  | .hbm, ⟨0, _⟩ => ⟨S16384x512, .f32⟩
  | .hbm, ⟨1, _⟩ => ⟨S512x1024, .f32⟩
  | .hbm, ⟨2, _⟩ => ⟨S16384x1024, .f32⟩
  | .hbm, ⟨3, _⟩ => ⟨S16384x1024, .bf16⟩
  | .hbm, ⟨4, _⟩ => ⟨S512x1024, .bf16⟩
  | .hbm, ⟨5, _⟩ => ⟨S16384x512, .bf16⟩
  | .local _ .vmem, ⟨0, _⟩ => ⟨S4096x1024, .bf16⟩
  | .local _ .vmem, ⟨1, _⟩ => ⟨S4096x1024, .bf16⟩
  | .local _ .vmem, ⟨2, _⟩ => ⟨S512x1024, .bf16⟩
  | .local _ .vmem, ⟨3, _⟩ => ⟨S4096x512, .bf16⟩
  | .local _ .vmem, ⟨4, _⟩ => ⟨S4096x512, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S16384x512 : Shape := ⟨2, ![16384, 512]⟩
abbrev S512x1024 : Shape := ⟨2, ![512, 1024]⟩
abbrev S16384x1024 : Shape := ⟨2, ![16384, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S512x1024, .f32⟩
  | .hbm, ⟨2, _⟩ => ⟨S16384x1024, .f32⟩
  | .hbm, ⟨3, _⟩ => ⟨S16384x1024, .f32⟩
  | .hbm, ⟨4, _⟩ => ⟨S16384x512, .f32⟩
  | .hbm, ⟨5, _⟩ => ⟨S16384x512, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel21.lean ====
abbrev S16384x512 : Shape := ⟨2, ![16384, 512]⟩
abbrev S512x1024 : Shape := ⟨2, ![512, 1024]⟩
abbrev S16384x1024 : Shape := ⟨2, ![16384, 1024]⟩
abbrev S4096x512 : Shape := ⟨2, ![4096, 512]⟩
abbrev S4096x1024 : Shape := ⟨2, ![4096, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x512, .f32⟩
  | .hbm, ⟨1, _⟩ => ⟨S512x1024, .f32⟩
  | .hbm, ⟨2, _⟩ => ⟨S16384x512, .bf16⟩
  | .hbm, ⟨3, _⟩ => ⟨S512x1024, .bf16⟩
  | .hbm, ⟨4, _⟩ => ⟨S16384x1024, .bf16⟩
  | .local _ .vmem, ⟨0, _⟩ => ⟨S4096x512, .bf16⟩
  | .local _ .vmem, ⟨1, _⟩ => ⟨S4096x512, .bf16⟩
  | .local _ .vmem, ⟨2, _⟩ => ⟨S512x1024, .bf16⟩
  | .local _ .vmem, ⟨3, _⟩ => ⟨S4096x1024, .bf16⟩
  | .local _ .vmem, ⟨4, _⟩ => ⟨S4096x1024, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S16384x512 : Shape := ⟨2, ![16384, 512]⟩
abbrev S512x1024 : Shape := ⟨2, ![512, 1024]⟩
abbrev S16384x1024 : Shape := ⟨2, ![16384, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S512x1024, .f32⟩
  | .hbm, ⟨2, _⟩ => ⟨S16384x1024, .f32⟩
  | .hbm, ⟨3, _⟩ => ⟨S16384x1024, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel22.lean ====
abbrev S16384x512 : Shape := ⟨2, ![16384, 512]⟩
abbrev S512x1024 : Shape := ⟨2, ![512, 1024]⟩
abbrev S16384x1024 : Shape := ⟨2, ![16384, 1024]⟩
abbrev S4096x512 : Shape := ⟨2, ![4096, 512]⟩
abbrev S4096x1024 : Shape := ⟨2, ![4096, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x512, .f32⟩
  | .hbm, ⟨1, _⟩ => ⟨S512x1024, .f32⟩
  | .hbm, ⟨2, _⟩ => ⟨S16384x1024, .f32⟩
  | .hbm, ⟨3, _⟩ => ⟨S16384x512, .bf16⟩
  | .hbm, ⟨4, _⟩ => ⟨S16384x1024, .bf16⟩
  | .hbm, ⟨5, _⟩ => ⟨S512x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference22Ideal.lean ====
abbrev S16384x512 : Shape := ⟨2, ![16384, 512]⟩
abbrev S512x1024 : Shape := ⟨2, ![512, 1024]⟩
abbrev S16384x1024 : Shape := ⟨2, ![16384, 1024]⟩
abbrev S1024x512 : Shape := ⟨2, ![1024, 512]⟩

abbrev nBuf : Space → Nat
  | .hbm => 6
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S512x1024, .f32⟩
  | .hbm, ⟨2, _⟩ => ⟨S16384x1024, .f32⟩
  | .hbm, ⟨3, _⟩ => ⟨S16384x1024, .f32⟩
  | .hbm, ⟨4, _⟩ => ⟨S1024x512, .f32⟩
  | .hbm, ⟨5, _⟩ => ⟨S512x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel23.lean ====
abbrev S16384x1024 : Shape := ⟨2, ![16384, 1024]⟩
abbrev S16384x2048 : Shape := ⟨2, ![16384, 2048]⟩
abbrev S1024x1024 : Shape := ⟨2, ![1024, 1024]⟩
abbrev S512x1024 : Shape := ⟨2, ![512, 1024]⟩
abbrev S512x2048 : Shape := ⟨2, ![512, 2048]⟩

abbrev nBuf : Space → Nat
  | .hbm => 12
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x2048, .f32⟩
  | .hbm, ⟨3, _⟩ => ⟨S1024x1024, .f32⟩
  | .hbm, ⟨4, _⟩ => ⟨S16384x1024, .f32⟩
  | .hbm, ⟨5, _⟩ => ⟨S16384x1024, .bf16⟩
  | .hbm, ⟨6, _⟩ => ⟨S16384x1024, .bf16⟩
  | .hbm, ⟨7, _⟩ => ⟨S16384x2048, .bf16⟩
  | .hbm, ⟨8, _⟩ => ⟨S1024x1024, .bf16⟩
  | .hbm, ⟨9, _⟩ => ⟨S16384x1024, .bf16⟩
  | .hbm, ⟨10, _⟩ => ⟨S16384x1024, .bf16⟩
  | .hbm, ⟨11, _⟩ => ⟨S16384x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .bf16⟩
  | .local _ .vmem, ⟨7, _⟩ => ⟨S512x2048, .bf16⟩
  | .local _ .vmem, ⟨8, _⟩ => ⟨S1024x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x2048, .bf16⟩
  | .local _ .vmem, ⟨14, _⟩ => ⟨S512x2048, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference23Ideal.lean ====
abbrev S16384x1024 : Shape := ⟨2, ![16384, 1024]⟩
abbrev S16384x2048 : Shape := ⟨2, ![16384, 2048]⟩
abbrev S1024x1024 : Shape := ⟨2, ![1024, 1024]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x2048, .f32⟩
  | .hbm, ⟨3, _⟩ => ⟨S1024x1024, .f32⟩
  | .hbm, ⟨4, _⟩ => ⟨S16384x1024, .f32⟩
  | .hbm, ⟨5, _⟩ => ⟨S16384x2048, .f32⟩
  | .hbm, ⟨6, _⟩ => ⟨S16384x2048, .f32⟩
  | .hbm, ⟨7, _⟩ => ⟨S_, .f32⟩
  | .hbm, ⟨8, _⟩ => ⟨S16384x2048, .f32⟩
  | .hbm, ⟨9, _⟩ => ⟨S16384x2048, .f32⟩
  | .hbm, ⟨10, _⟩ => ⟨S_, .f32⟩
  | .hbm, ⟨11, _⟩ => ⟨S16384x2048, .f32⟩
  | .hbm, ⟨12, _⟩ => ⟨S16384x2048, .f32⟩
  | .hbm, ⟨13, _⟩ => ⟨S_, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S1024x1024, .f32⟩
  | .hbm, ⟨24, _⟩ => ⟨S1024x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x2048, .f32⟩
  | .hbm, ⟨31, _⟩ => ⟨S16384x2048, .f32⟩
  | .hbm, ⟨32, _⟩ => ⟨S16384x1024, .bf16⟩
  | .hbm, ⟨33, _⟩ => ⟨S16384x1024, .bf16⟩
  | .hbm, ⟨34, _⟩ => ⟨S16384x2048, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Kernel24.lean ====
abbrev S16384x1024 : Shape := ⟨2, ![16384, 1024]⟩
abbrev S16384x2048 : Shape := ⟨2, ![16384, 2048]⟩
abbrev S1024x1024 : Shape := ⟨2, ![1024, 1024]⟩
abbrev S512x1024 : Shape := ⟨2, ![512, 1024]⟩
abbrev S512x2048 : Shape := ⟨2, ![512, 2048]⟩

abbrev nBuf : Space → Nat
  | .hbm => 11
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x2048, .f32⟩
  | .hbm, ⟨3, _⟩ => ⟨S16384x1024, .f32⟩
  | .hbm, ⟨4, _⟩ => ⟨S1024x1024, .f32⟩
  | .hbm, ⟨5, _⟩ => ⟨S16384x1024, .bf16⟩
  | .hbm, ⟨6, _⟩ => ⟨S16384x1024, .bf16⟩
  | .hbm, ⟨7, _⟩ => ⟨S16384x2048, .bf16⟩
  | .hbm, ⟨8, _⟩ => ⟨S1024x1024, .bf16⟩
  | .hbm, ⟨9, _⟩ => ⟨S16384x1024, .f32⟩
  | .hbm, ⟨10, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference24Ideal.lean ====
abbrev S16384x1024 : Shape := ⟨2, ![16384, 1024]⟩
abbrev S16384x2048 : Shape := ⟨2, ![16384, 2048]⟩
abbrev S1024x1024 : Shape := ⟨2, ![1024, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x2048, .f32⟩
  | .hbm, ⟨3, _⟩ => ⟨S16384x1024, .f32⟩
  | .hbm, ⟨4, _⟩ => ⟨S1024x1024, .f32⟩
  | .hbm, ⟨5, _⟩ => ⟨S16384x2048, .f32⟩
  | .hbm, ⟨6, _⟩ => ⟨S16384x2048, .f32⟩
  | .hbm, ⟨7, _⟩ => ⟨S_, .f32⟩
  | .hbm, ⟨8, _⟩ => ⟨S16384x2048, .f32⟩
  | .hbm, ⟨9, _⟩ => ⟨S16384x2048, .f32⟩
  | .hbm, ⟨10, _⟩ => ⟨S_, .f32⟩
  | .hbm, ⟨11, _⟩ => ⟨S16384x2048, .f32⟩
  | .hbm, ⟨12, _⟩ => ⟨S16384x2048, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== Kernel25.lean ====
abbrev S16384x1024 : Shape := ⟨2, ![16384, 1024]⟩
abbrev S1024x512 : Shape := ⟨2, ![1024, 512]⟩
abbrev S16384x512 : Shape := ⟨2, ![16384, 512]⟩
abbrev S1024x1024 : Shape := ⟨2, ![1024, 1024]⟩
abbrev S4x1024x128 : Shape := ⟨3, ![4, 1024, 128]⟩

abbrev nBuf : Space → Nat
  | .hbm => 14
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S16384x512, .bf16⟩
  | .hbm, ⟨8, _⟩ => ⟨S16384x512, .bf16⟩
  | .hbm, ⟨9, _⟩ => ⟨S16384x512, .bf16⟩
  | .hbm, ⟨10, _⟩ => ⟨S1024x512, .bf16⟩
  | .hbm, ⟨11, _⟩ => ⟨S1024x512, .bf16⟩
  | .hbm, ⟨12, _⟩ => ⟨S1024x512, .bf16⟩
  | .hbm, ⟨13, _⟩ => ⟨S16384x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x1024, .f32⟩
  | .local _ .vmem, ⟨10, _⟩ => ⟨S1024x1024, .f32⟩
  | .local _ .vmem, ⟨11, _⟩ => ⟨S4x1024x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference25Ideal.lean ====
abbrev S16384x1024 : Shape := ⟨2, ![16384, 1024]⟩
abbrev S1024x512 : Shape := ⟨2, ![1024, 512]⟩
abbrev S16384x512 : Shape := ⟨2, ![16384, 512]⟩

abbrev nBuf : Space → Nat
  | .hbm => 15
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S16384x512, .f32⟩
  | .hbm, ⟨8, _⟩ => ⟨S16384x512, .f32⟩
  | .hbm, ⟨9, _⟩ => ⟨S16384x512, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩

abbrev nD : Nat := 1
abbrev τ : Topo := Topo.v7x

variable {F : FTy → Type} [FloatOps F]
-- ==== Kernel26.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S16384x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference26Ideal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S1024, .f32⟩
  | .hbm, ⟨32, _⟩ => ⟨S16384x1024, .f32⟩
  | .hbm, ⟨33, _⟩ => ⟨S_, .f32⟩
  | .hbm, ⟨34, _⟩ => ⟨S16384, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S_, .f32⟩
  | .hbm, ⟨43, _⟩ => ⟨S16384, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel27.lean ====
abbrev S16384x1024 : Shape := ⟨2, ![16384, 1024]⟩
abbrev S1024x512 : Shape := ⟨2, ![1024, 512]⟩
abbrev S16384x512 : Shape := ⟨2, ![16384, 512]⟩
abbrev S4096x4x512 : Shape := ⟨3, ![4096, 4, 512]⟩
abbrev S4x4096x512 : Shape := ⟨3, ![4, 4096, 512]⟩
abbrev S4x256x512 : Shape := ⟨3, ![4, 256, 512]⟩
abbrev S1024x1024 : Shape := ⟨2, ![1024, 1024]⟩
abbrev S4x1024x128 : Shape := ⟨3, ![4, 1024, 128]⟩
abbrev S1x256x512 : Shape := ⟨3, ![1, 256, 512]⟩
abbrev S256x512 : Shape := ⟨2, ![256, 512]⟩
abbrev S256x128 : Shape := ⟨2, ![256, 128]⟩
abbrev S1x1024x128 : Shape := ⟨3, ![1, 1024, 128]⟩
abbrev S1024x128 : Shape := ⟨2, ![1024, 128]⟩

abbrev nBuf : Space → Nat
  | .hbm => 27
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S16384x1024, .f32⟩
  | .hbm, ⟨8, _⟩ => ⟨S16384x512, .bf16⟩
  | .hbm, ⟨9, _⟩ => ⟨S4096x4x512, .bf16⟩
  | .hbm, ⟨10, _⟩ => ⟨S4x4096x512, .bf16⟩
  | .hbm, ⟨11, _⟩ => ⟨S16384x512, .bf16⟩
  | .hbm, ⟨12, _⟩ => ⟨S16384x512, .bf16⟩
  | .hbm, ⟨13, _⟩ => ⟨S4096x4x512, .bf16⟩
  | .hbm, ⟨14, _⟩ => ⟨S4x4096x512, .bf16⟩
  | .hbm, ⟨15, _⟩ => ⟨S16384x512, .bf16⟩
  | .hbm, ⟨16, _⟩ => ⟨S16384x512, .bf16⟩
  | .hbm, ⟨17, _⟩ => ⟨S4096x4x512, .bf16⟩
  | .hbm, ⟨18, _⟩ => ⟨S4x4096x512, .bf16⟩
  | .hbm, ⟨19, _⟩ => ⟨S16384x512, .bf16⟩
  | .hbm, ⟨20, _⟩ => ⟨S1024x512, .bf16⟩
  | .hbm, ⟨21, _⟩ => ⟨S1024x512, .bf16⟩
  | .hbm, ⟨22, _⟩ => ⟨S1024x512, .bf16⟩
  | .hbm, ⟨23, _⟩ => ⟨S4x4096x512, .bf16⟩
  | .hbm, ⟨24, _⟩ => ⟨S4x4096x512, .bf16⟩
  | .hbm, ⟨25, _⟩ => ⟨S4x4096x512, .bf16⟩
  | .hbm, ⟨26, _⟩ => ⟨S16384x1024, .f32⟩
  | .local _ .vmem, ⟨0, _⟩ => ⟨S4x256x512, .bf16⟩
  | .local _ .vmem, ⟨1, _⟩ => ⟨S4x256x512, .bf16⟩
  | .local _ .vmem, ⟨2, _⟩ => ⟨S4x256x512, .bf16⟩
  | .local _ .vmem, ⟨3, _⟩ => ⟨S4x256x512, .bf16⟩
  | .local _ .vmem, ⟨4, _⟩ => ⟨S4x256x512, .bf16⟩
  | .local _ .vmem, ⟨5, _⟩ => ⟨S4x256x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S4x1024x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference27Ideal.lean ====
abbrev S16384x1024 : Shape := ⟨2, ![16384, 1024]⟩
abbrev S1024x512 : Shape := ⟨2, ![1024, 512]⟩
abbrev S16384x512 : Shape := ⟨2, ![16384, 512]⟩

abbrev nBuf : Space → Nat
  | .hbm => 17
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S16384x1024, .f32⟩
  | .hbm, ⟨8, _⟩ => ⟨S16384x512, .f32⟩
  | .hbm, ⟨9, _⟩ => ⟨S16384x512, .f32⟩
  | .hbm, ⟨10, _⟩ => ⟨S16384x512, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩

abbrev nD : Nat := 1
abbrev τ : Topo := Topo.v7x

variable {F : FTy → Type} [FloatOps F]
-- ==== Kernel30.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel30Ideal.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference30Ideal.lean ====
abbrev S2x1024 : Shape := ⟨2, ![2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel31.lean ====
abbrev S2x1024x1476 : Shape := ⟨3, ![2, 1024, 1476]⟩
abbrev S2048x1476 : Shape := ⟨2, ![2048, 1476]⟩
abbrev S256x1476 : Shape := ⟨2, ![256, 1476]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1476, .f32⟩
  | .hbm, ⟨1, _⟩ => ⟨S2x1024x1476, .f32⟩
  | .hbm, ⟨2, _⟩ => ⟨S2x1024x1476, .f32⟩
  | .hbm, ⟨3, _⟩ => ⟨S2x1024x1476, .f32⟩
  | .hbm, ⟨4, _⟩ => ⟨S2048x1476, .f32⟩
  | .hbm, ⟨5, _⟩ => ⟨S2048x1476, .f32⟩
  | .hbm, ⟨6, _⟩ => ⟨S2048x1476, .f32⟩
  | .hbm, ⟨7, _⟩ => ⟨S2048x1476, .f32⟩
  | .hbm, ⟨8, _⟩ => ⟨S2048x1476, .f32⟩
  | .hbm, ⟨9, _⟩ => ⟨S2048x1476, .f32⟩
  | .hbm, ⟨10, _⟩ => ⟨S2048x1476, .f32⟩
  | .local _ .vmem, ⟨0, _⟩ => ⟨S256x1476, .f32⟩
  | .local _ .vmem, ⟨1, _⟩ => ⟨S256x1476, .f32⟩
  | .local _ .vmem, ⟨2, _⟩ => ⟨S256x1476, .f32⟩
  | .local _ .vmem, ⟨3, _⟩ => ⟨S256x1476, .f32⟩
  | .local _ .vmem, ⟨4, _⟩ => ⟨S256x1476, .f32⟩
  | .local _ .vmem, ⟨5, _⟩ => ⟨S256x1476, .f32⟩
  | .local _ .vmem, ⟨6, _⟩ => ⟨S256x1476, .f32⟩
  | .local _ .vmem, ⟨7, _⟩ => ⟨S256x1476, .f32⟩
  | .local _ .vmem, ⟨8, _⟩ => ⟨S256x1476, .f32⟩
  | .local _ .vmem, ⟨9, _⟩ => ⟨S256x1476, .f32⟩
  | .local _ .vmem, ⟨10, _⟩ => ⟨S256x1476, .f32⟩
  | .local _ .vmem, ⟨11, _⟩ => ⟨S256x1476, .f32⟩
  | .local _ .vmem, ⟨12, _⟩ => ⟨S256x1476, .f32⟩
  | .local _ .vmem, ⟨13, _⟩ => ⟨S256x1476, .f32⟩
  | _, _ => ⟨S2x1024x1476, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1476 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1476 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1476 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1476 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1476 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1476 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1476 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel31Ideal.lean ====
abbrev S2x1024x1476 : Shape := ⟨3, ![2, 1024, 1476]⟩
abbrev S2048x1476 : Shape := ⟨2, ![2048, 1476]⟩
abbrev S256x1476 : Shape := ⟨2, ![256, 1476]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1476, .f32⟩
  | .hbm, ⟨1, _⟩ => ⟨S2x1024x1476, .f32⟩
  | .hbm, ⟨2, _⟩ => ⟨S2x1024x1476, .f32⟩
  | .hbm, ⟨3, _⟩ => ⟨S2x1024x1476, .f32⟩
  | .hbm, ⟨4, _⟩ => ⟨S2048x1476, .f32⟩
  | .hbm, ⟨5, _⟩ => ⟨S2048x1476, .f32⟩
  | .hbm, ⟨6, _⟩ => ⟨S2048x1476, .f32⟩
  | .hbm, ⟨7, _⟩ => ⟨S2048x1476, .f32⟩
  | .hbm, ⟨8, _⟩ => ⟨S2048x1476, .f32⟩
  | .hbm, ⟨9, _⟩ => ⟨S2048x1476, .f32⟩
  | .hbm, ⟨10, _⟩ => ⟨S2048x1476, .f32⟩
  | .local _ .vmem, ⟨0, _⟩ => ⟨S256x1476, .f32⟩
  | .local _ .vmem, ⟨1, _⟩ => ⟨S256x1476, .f32⟩
  | .local _ .vmem, ⟨2, _⟩ => ⟨S256x1476, .f32⟩
  | .local _ .vmem, ⟨3, _⟩ => ⟨S256x1476, .f32⟩
  | .local _ .vmem, ⟨4, _⟩ => ⟨S256x1476, .f32⟩
  | .local _ .vmem, ⟨5, _⟩ => ⟨S256x1476, .f32⟩
  | .local _ .vmem, ⟨6, _⟩ => ⟨S256x1476, .f32⟩
  | .local _ .vmem, ⟨7, _⟩ => ⟨S256x1476, .f32⟩
  | .local _ .vmem, ⟨8, _⟩ => ⟨S256x1476, .f32⟩
  | .local _ .vmem, ⟨9, _⟩ => ⟨S256x1476, .f32⟩
  | .local _ .vmem, ⟨10, _⟩ => ⟨S256x1476, .f32⟩
  | .local _ .vmem, ⟨11, _⟩ => ⟨S256x1476, .f32⟩
  | .local _ .vmem, ⟨12, _⟩ => ⟨S256x1476, .f32⟩
  | .local _ .vmem, ⟨13, _⟩ => ⟨S256x1476, .f32⟩
  | _, _ => ⟨S2x1024x1476, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1476 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1476 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1476 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1476 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1476 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1476 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1476 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference31Ideal.lean ====
abbrev S2x1024x1476 : Shape := ⟨3, ![2, 1024, 1476]⟩
abbrev S_ : Shape := ⟨0, ![]⟩
abbrev S2048x1476 : Shape := ⟨2, ![2048, 1476]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x1476, .f32⟩
  | .hbm, ⟨1, _⟩ => ⟨S2x1024x1476, .f32⟩
  | .hbm, ⟨2, _⟩ => ⟨S2x1024x1476, .f32⟩
  | .hbm, ⟨3, _⟩ => ⟨S2x1024x1476, .f32⟩
  | .hbm, ⟨4, _⟩ => ⟨S_, .f32⟩
  | .hbm, ⟨5, _⟩ => ⟨S2x1024x1476, .f32⟩
  | .hbm, ⟨6, _⟩ => ⟨S2x1024x1476, .f32⟩
  | .hbm, ⟨7, _⟩ => ⟨S_, .f32⟩
  | .hbm, ⟨8, _⟩ => ⟨S2x1024x1476, .f32⟩
  | .hbm, ⟨9, _⟩ => ⟨S2x1024x1476, .f32⟩
  | .hbm, ⟨10, _⟩ => ⟨S2x1024x1476, .f32⟩
  | .hbm, ⟨11, _⟩ => ⟨S_, .f32⟩
  | .hbm, ⟨12, _⟩ => ⟨S2x1024x1476, .f32⟩
  | .hbm, ⟨13, _⟩ => ⟨S2x1024x1476, .f32⟩
  | .hbm, ⟨14, _⟩ => ⟨S2x1024x1476, .f32⟩
  | .hbm, ⟨15, _⟩ => ⟨S_, .f32⟩
  | .hbm, ⟨16, _⟩ => ⟨S2x1024x1476, .f32⟩
  | .hbm, ⟨17, _⟩ => ⟨S2x1024x1476, .f32⟩
  | .hbm, ⟨18, _⟩ => ⟨S2x1024x1476, .f32⟩
  | .hbm, ⟨19, _⟩ => ⟨S_, .f32⟩
  | .hbm, ⟨20, _⟩ => ⟨S2x1024x1476, .f32⟩
  | .hbm, ⟨21, _⟩ => ⟨S2x1024x1476, .f32⟩
  | .hbm, ⟨22, _⟩ => ⟨S_, .f32⟩
  | .hbm, ⟨23, _⟩ => ⟨S2x1024x1476, .f32⟩
  | .hbm, ⟨24, _⟩ => ⟨S2x1024x1476, .f32⟩
  | .hbm, ⟨25, _⟩ => ⟨S2x1024x1476, .f32⟩
  | .hbm, ⟨26, _⟩ => ⟨S_, .f32⟩
  | .hbm, ⟨27, _⟩ => ⟨S2x1024x1476, .f32⟩
  | .hbm, ⟨28, _⟩ => ⟨S2x1024x1476, .f32⟩
  | .hbm, ⟨29, _⟩ => ⟨S2x1024x1476, .f32⟩
  | .hbm, ⟨30, _⟩ => ⟨S_, .f32⟩
  | .hbm, ⟨31, _⟩ => ⟨S2x1024x1476, .f32⟩
  | .hbm, ⟨32, _⟩ => ⟨S2x1024x1476, .f32⟩
  | .hbm, ⟨33, _⟩ => ⟨S2x1024x1476, .f32⟩
  | .hbm, ⟨34, _⟩ => ⟨S_, .f32⟩
  | .hbm, ⟨35, _⟩ => ⟨S2x1024x1476, .f32⟩
  | .hbm, ⟨36, _⟩ => ⟨S2x1024x1476, .f32⟩
  | .hbm, ⟨37, _⟩ => ⟨S2048x1476, .f32⟩
  | .hbm, ⟨38, _⟩ => ⟨S2048x1476, .f32⟩
  | .hbm, ⟨39, _⟩ => ⟨S2048x1476, .f32⟩
  | _, _ => ⟨S2x1024x1476, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel32.lean ====
abbrev S2x4x384 : Shape := ⟨3, ![2, 4, 384]⟩
abbrev S8x384 : Shape := ⟨2, ![8, 384]⟩

abbrev nBuf : Space → Nat
  | .hbm => 11
  | .vmem => 7
  | .smem => 0
  | _ => 0

abbrev bufTy : (tb : Table) → Fin (tcTables nBuf tb) → BufTy
  | .hbm, ⟨0, _⟩ => ⟨S2x4x384, .f32⟩
  | .hbm, ⟨1, _⟩ => ⟨S2x4x384, .f32⟩
  | .hbm, ⟨2, _⟩ => ⟨S2x4x384, .f32⟩
  | .hbm, ⟨3, _⟩ => ⟨S2x4x384, .f32⟩
  | .hbm, ⟨4, _⟩ => ⟨S8x384, .f32⟩
  | .hbm, ⟨5, _⟩ => ⟨S8x384, .f32⟩
  | .hbm, ⟨6, _⟩ => ⟨S8x384, .f32⟩
  | .hbm, ⟨7, _⟩ => ⟨S8x384, .f32⟩
  | .hbm, ⟨8, _⟩ => ⟨S8x384, .f32⟩
  | .hbm, ⟨9, _⟩ => ⟨S8x384, .f32⟩
  | .hbm, ⟨10, _⟩ => ⟨S8x384, .f32⟩
  | .local _ .vmem, ⟨0, _⟩ => ⟨S8x384, .f32⟩
  | .local _ .vmem, ⟨1, _⟩ => ⟨S8x384, .f32⟩
  | .local _ .vmem, ⟨2, _⟩ => ⟨S8x384, .f32⟩
  | .local _ .vmem, ⟨3, _⟩ => ⟨S8x384, .f32⟩
  | .local _ .vmem, ⟨4, _⟩ => ⟨S8x384, .f32⟩
  | .local _ .vmem, ⟨5, _⟩ => ⟨S8x384, .f32⟩
  | .local _ .vmem, ⟨6, _⟩ => ⟨S8x384, .f32⟩
  | _, _ => ⟨S2x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel32Ideal.lean ====
abbrev S2x4x384 : Shape := ⟨3, ![2, 4, 384]⟩
abbrev S8x384 : Shape := ⟨2, ![8, 384]⟩

abbrev nBuf : Space → Nat
  | .hbm => 11
  | .vmem => 7
  | .smem => 0
  | _ => 0

abbrev bufTy : (tb : Table) → Fin (tcTables nBuf tb) → BufTy
  | .hbm, ⟨0, _⟩ => ⟨S2x4x384, .f32⟩
  | .hbm, ⟨1, _⟩ => ⟨S2x4x384, .f32⟩
  | .hbm, ⟨2, _⟩ => ⟨S2x4x384, .f32⟩
  | .hbm, ⟨3, _⟩ => ⟨S2x4x384, .f32⟩
  | .hbm, ⟨4, _⟩ => ⟨S8x384, .f32⟩
  | .hbm, ⟨5, _⟩ => ⟨S8x384, .f32⟩
  | .hbm, ⟨6, _⟩ => ⟨S8x384, .f32⟩
  | .hbm, ⟨7, _⟩ => ⟨S8x384, .f32⟩
  | .hbm, ⟨8, _⟩ => ⟨S8x384, .f32⟩
  | .hbm, ⟨9, _⟩ => ⟨S8x384, .f32⟩
  | .hbm, ⟨10, _⟩ => ⟨S8x384, .f32⟩
  | .local _ .vmem, ⟨0, _⟩ => ⟨S8x384, .f32⟩
  | .local _ .vmem, ⟨1, _⟩ => ⟨S8x384, .f32⟩
  | .local _ .vmem, ⟨2, _⟩ => ⟨S8x384, .f32⟩
  | .local _ .vmem, ⟨3, _⟩ => ⟨S8x384, .f32⟩
  | .local _ .vmem, ⟨4, _⟩ => ⟨S8x384, .f32⟩
  | .local _ .vmem, ⟨5, _⟩ => ⟨S8x384, .f32⟩
  | .local _ .vmem, ⟨6, _⟩ => ⟨S8x384, .f32⟩
  | _, _ => ⟨S2x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference32Ideal.lean ====
abbrev S2x4x384 : Shape := ⟨3, ![2, 4, 384]⟩
abbrev S_ : Shape := ⟨0, ![]⟩
abbrev S8x384 : Shape := ⟨2, ![8, 384]⟩

abbrev nBuf : Space → Nat
  | .hbm => 40
  | .vmem => 0
  | .smem => 0
  | _ => 0

abbrev bufTy : (tb : Table) → Fin (tcTables nBuf tb) → BufTy
  | .hbm, ⟨0, _⟩ => ⟨S2x4x384, .f32⟩
  | .hbm, ⟨1, _⟩ => ⟨S2x4x384, .f32⟩
  | .hbm, ⟨2, _⟩ => ⟨S2x4x384, .f32⟩
  | .hbm, ⟨3, _⟩ => ⟨S2x4x384, .f32⟩
  | .hbm, ⟨4, _⟩ => ⟨S_, .f32⟩
  | .hbm, ⟨5, _⟩ => ⟨S2x4x384, .f32⟩
  | .hbm, ⟨6, _⟩ => ⟨S2x4x384, .f32⟩
  | .hbm, ⟨7, _⟩ => ⟨S_, .f32⟩
  | .hbm, ⟨8, _⟩ => ⟨S2x4x384, .f32⟩
  | .hbm, ⟨9, _⟩ => ⟨S2x4x384, .f32⟩
  | .hbm, ⟨10, _⟩ => ⟨S2x4x384, .f32⟩
  | .hbm, ⟨11, _⟩ => ⟨S_, .f32⟩
  | .hbm, ⟨12, _⟩ => ⟨S2x4x384, .f32⟩
  | .hbm, ⟨13, _⟩ => ⟨S2x4x384, .f32⟩
  | .hbm, ⟨14, _⟩ => ⟨S2x4x384, .f32⟩
  | .hbm, ⟨15, _⟩ => ⟨S_, .f32⟩
  | .hbm, ⟨16, _⟩ => ⟨S2x4x384, .f32⟩
  | .hbm, ⟨17, _⟩ => ⟨S2x4x384, .f32⟩
  | .hbm, ⟨18, _⟩ => ⟨S2x4x384, .f32⟩
  | .hbm, ⟨19, _⟩ => ⟨S_, .f32⟩
  | .hbm, ⟨20, _⟩ => ⟨S2x4x384, .f32⟩
  | .hbm, ⟨21, _⟩ => ⟨S2x4x384, .f32⟩
  | .hbm, ⟨22, _⟩ => ⟨S_, .f32⟩
  | .hbm, ⟨23, _⟩ => ⟨S2x4x384, .f32⟩
  | .hbm, ⟨24, _⟩ => ⟨S2x4x384, .f32⟩
  | .hbm, ⟨25, _⟩ => ⟨S2x4x384, .f32⟩
  | .hbm, ⟨26, _⟩ => ⟨S_, .f32⟩
  | .hbm, ⟨27, _⟩ => ⟨S2x4x384, .f32⟩
  | .hbm, ⟨28, _⟩ => ⟨S2x4x384, .f32⟩
  | .hbm, ⟨29, _⟩ => ⟨S2x4x384, .f32⟩
  | .hbm, ⟨30, _⟩ => ⟨S_, .f32⟩
  | .hbm, ⟨31, _⟩ => ⟨S2x4x384, .f32⟩
  | .hbm, ⟨32, _⟩ => ⟨S2x4x384, .f32⟩
  | .hbm, ⟨33, _⟩ => ⟨S2x4x384, .f32⟩
  | .hbm, ⟨34, _⟩ => ⟨S_, .f32⟩
  | .hbm, ⟨35, _⟩ => ⟨S2x4x384, .f32⟩
  | .hbm, ⟨36, _⟩ => ⟨S2x4x384, .f32⟩
  | .hbm, ⟨37, _⟩ => ⟨S8x384, .f32⟩
  | .hbm, ⟨38, _⟩ => ⟨S8x384, .f32⟩
  | .hbm, ⟨39, _⟩ => ⟨S8x384, .f32⟩
  | _, _ => ⟨S2x4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel33.lean ====
abbrev S2x3072 : Shape := ⟨2, ![2, 3072]⟩

abbrev nBuf : Space → Nat
  | .hbm => 7
  | .vmem => 7
  | .smem => 0
  | _ => 0

abbrev bufTy : (tb : Table) → Fin (tcTables nBuf tb) → BufTy
  | .hbm, ⟨0, _⟩ => ⟨S2x3072, .f32⟩
  | .hbm, ⟨1, _⟩ => ⟨S2x3072, .f32⟩
  | .hbm, ⟨2, _⟩ => ⟨S2x3072, .f32⟩
  | .hbm, ⟨3, _⟩ => ⟨S2x3072, .f32⟩
  | .hbm, ⟨4, _⟩ => ⟨S2x3072, .f32⟩
  | .hbm, ⟨5, _⟩ => ⟨S2x3072, .f32⟩
  | .hbm, ⟨6, _⟩ => ⟨S2x3072, .f32⟩
  | .local _ .vmem, ⟨0, _⟩ => ⟨S2x3072, .f32⟩
  | .local _ .vmem, ⟨1, _⟩ => ⟨S2x3072, .f32⟩
  | .local _ .vmem, ⟨2, _⟩ => ⟨S2x3072, .f32⟩
  | .local _ .vmem, ⟨3, _⟩ => ⟨S2x3072, .f32⟩
  | .local _ .vmem, ⟨4, _⟩ => ⟨S2x3072, .f32⟩
  | .local _ .vmem, ⟨5, _⟩ => ⟨S2x3072, .f32⟩
  | .local _ .vmem, ⟨6, _⟩ => ⟨S2x3072, .f32⟩
  | _, _ => ⟨S2x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel33Ideal.lean ====
abbrev S2x3072 : Shape := ⟨2, ![2, 3072]⟩

abbrev nBuf : Space → Nat
  | .hbm => 7
  | .vmem => 7
  | .smem => 0
  | _ => 0

abbrev bufTy : (tb : Table) → Fin (tcTables nBuf tb) → BufTy
  | .hbm, ⟨0, _⟩ => ⟨S2x3072, .f32⟩
  | .hbm, ⟨1, _⟩ => ⟨S2x3072, .f32⟩
  | .hbm, ⟨2, _⟩ => ⟨S2x3072, .f32⟩
  | .hbm, ⟨3, _⟩ => ⟨S2x3072, .f32⟩
  | .hbm, ⟨4, _⟩ => ⟨S2x3072, .f32⟩
  | .hbm, ⟨5, _⟩ => ⟨S2x3072, .f32⟩
  | .hbm, ⟨6, _⟩ => ⟨S2x3072, .f32⟩
  | .local _ .vmem, ⟨0, _⟩ => ⟨S2x3072, .f32⟩
  | .local _ .vmem, ⟨1, _⟩ => ⟨S2x3072, .f32⟩
  | .local _ .vmem, ⟨2, _⟩ => ⟨S2x3072, .f32⟩
  | .local _ .vmem, ⟨3, _⟩ => ⟨S2x3072, .f32⟩
  | .local _ .vmem, ⟨4, _⟩ => ⟨S2x3072, .f32⟩
  | .local _ .vmem, ⟨5, _⟩ => ⟨S2x3072, .f32⟩
  | .local _ .vmem, ⟨6, _⟩ => ⟨S2x3072, .f32⟩
  | _, _ => ⟨S2x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference33Ideal.lean ====
abbrev S2x3072 : Shape := ⟨2, ![2, 3072]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x3072, .f32⟩
  | .hbm, ⟨1, _⟩ => ⟨S2x3072, .f32⟩
  | .hbm, ⟨2, _⟩ => ⟨S2x3072, .f32⟩
  | .hbm, ⟨3, _⟩ => ⟨S2x3072, .f32⟩
  | .hbm, ⟨4, _⟩ => ⟨S_, .f32⟩
  | .hbm, ⟨5, _⟩ => ⟨S2x3072, .f32⟩
  | .hbm, ⟨6, _⟩ => ⟨S2x3072, .f32⟩
  | .hbm, ⟨7, _⟩ => ⟨S_, .f32⟩
  | .hbm, ⟨8, _⟩ => ⟨S2x3072, .f32⟩
  | .hbm, ⟨9, _⟩ => ⟨S2x3072, .f32⟩
  | .hbm, ⟨10, _⟩ => ⟨S2x3072, .f32⟩
  | .hbm, ⟨11, _⟩ => ⟨S_, .f32⟩
  | .hbm, ⟨12, _⟩ => ⟨S2x3072, .f32⟩
  | .hbm, ⟨13, _⟩ => ⟨S2x3072, .f32⟩
  | .hbm, ⟨14, _⟩ => ⟨S2x3072, .f32⟩
  | .hbm, ⟨15, _⟩ => ⟨S_, .f32⟩
  | .hbm, ⟨16, _⟩ => ⟨S2x3072, .f32⟩
  | .hbm, ⟨17, _⟩ => ⟨S2x3072, .f32⟩
  | .hbm, ⟨18, _⟩ => ⟨S2x3072, .f32⟩
  | .hbm, ⟨19, _⟩ => ⟨S_, .f32⟩
  | .hbm, ⟨20, _⟩ => ⟨S2x3072, .f32⟩
  | .hbm, ⟨21, _⟩ => ⟨S2x3072, .f32⟩
  | .hbm, ⟨22, _⟩ => ⟨S_, .f32⟩
  | .hbm, ⟨23, _⟩ => ⟨S2x3072, .f32⟩
  | .hbm, ⟨24, _⟩ => ⟨S2x3072, .f32⟩
  | .hbm, ⟨25, _⟩ => ⟨S2x3072, .f32⟩
  | .hbm, ⟨26, _⟩ => ⟨S_, .f32⟩
  | .hbm, ⟨27, _⟩ => ⟨S2x3072, .f32⟩
  | .hbm, ⟨28, _⟩ => ⟨S2x3072, .f32⟩
  | .hbm, ⟨29, _⟩ => ⟨S2x3072, .f32⟩
  | .hbm, ⟨30, _⟩ => ⟨S_, .f32⟩
  | .hbm, ⟨31, _⟩ => ⟨S2x3072, .f32⟩
  | .hbm, ⟨32, _⟩ => ⟨S2x3072, .f32⟩
  | .hbm, ⟨33, _⟩ => ⟨S2x3072, .f32⟩
  | .hbm, ⟨34, _⟩ => ⟨S_, .f32⟩
  | .hbm, ⟨35, _⟩ => ⟨S2x3072, .f32⟩
  | .hbm, ⟨36, _⟩ => ⟨S2x3072, .f32⟩
  | _, _ => ⟨S2x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel34.lean ====
abbrev S2x32 : Shape := ⟨2, ![2, 32]⟩

abbrev nBuf : Space → Nat
  | .hbm => 7
  | .vmem => 7
  | .smem => 0
  | _ => 0

abbrev bufTy : (tb : Table) → Fin (tcTables nBuf tb) → BufTy
  | .hbm, ⟨0, _⟩ => ⟨S2x32, .f32⟩
  | .hbm, ⟨1, _⟩ => ⟨S2x32, .f32⟩
  | .hbm, ⟨2, _⟩ => ⟨S2x32, .f32⟩
  | .hbm, ⟨3, _⟩ => ⟨S2x32, .f32⟩
  | .hbm, ⟨4, _⟩ => ⟨S2x32, .f32⟩
  | .hbm, ⟨5, _⟩ => ⟨S2x32, .f32⟩
  | .hbm, ⟨6, _⟩ => ⟨S2x32, .f32⟩
  | .local _ .vmem, ⟨0, _⟩ => ⟨S2x32, .f32⟩
  | .local _ .vmem, ⟨1, _⟩ => ⟨S2x32, .f32⟩
  | .local _ .vmem, ⟨2, _⟩ => ⟨S2x32, .f32⟩
  | .local _ .vmem, ⟨3, _⟩ => ⟨S2x32, .f32⟩
  | .local _ .vmem, ⟨4, _⟩ => ⟨S2x32, .f32⟩
  | .local _ .vmem, ⟨5, _⟩ => ⟨S2x32, .f32⟩
  | .local _ .vmem, ⟨6, _⟩ => ⟨S2x32, .f32⟩
  | _, _ => ⟨S2x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel34Ideal.lean ====
abbrev S2x32 : Shape := ⟨2, ![2, 32]⟩

abbrev nBuf : Space → Nat
  | .hbm => 7
  | .vmem => 7
  | .smem => 0
  | _ => 0

abbrev bufTy : (tb : Table) → Fin (tcTables nBuf tb) → BufTy
  | .hbm, ⟨0, _⟩ => ⟨S2x32, .f32⟩
  | .hbm, ⟨1, _⟩ => ⟨S2x32, .f32⟩
  | .hbm, ⟨2, _⟩ => ⟨S2x32, .f32⟩
  | .hbm, ⟨3, _⟩ => ⟨S2x32, .f32⟩
  | .hbm, ⟨4, _⟩ => ⟨S2x32, .f32⟩
  | .hbm, ⟨5, _⟩ => ⟨S2x32, .f32⟩
  | .hbm, ⟨6, _⟩ => ⟨S2x32, .f32⟩
  | .local _ .vmem, ⟨0, _⟩ => ⟨S2x32, .f32⟩
  | .local _ .vmem, ⟨1, _⟩ => ⟨S2x32, .f32⟩
  | .local _ .vmem, ⟨2, _⟩ => ⟨S2x32, .f32⟩
  | .local _ .vmem, ⟨3, _⟩ => ⟨S2x32, .f32⟩
  | .local _ .vmem, ⟨4, _⟩ => ⟨S2x32, .f32⟩
  | .local _ .vmem, ⟨5, _⟩ => ⟨S2x32, .f32⟩
  | .local _ .vmem, ⟨6, _⟩ => ⟨S2x32, .f32⟩
  | _, _ => ⟨S2x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference34Ideal.lean ====
abbrev S2x32 : Shape := ⟨2, ![2, 32]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x32, .f32⟩
  | .hbm, ⟨1, _⟩ => ⟨S2x32, .f32⟩
  | .hbm, ⟨2, _⟩ => ⟨S2x32, .f32⟩
  | .hbm, ⟨3, _⟩ => ⟨S2x32, .f32⟩
  | .hbm, ⟨4, _⟩ => ⟨S_, .f32⟩
  | .hbm, ⟨5, _⟩ => ⟨S2x32, .f32⟩
  | .hbm, ⟨6, _⟩ => ⟨S2x32, .f32⟩
  | .hbm, ⟨7, _⟩ => ⟨S_, .f32⟩
  | .hbm, ⟨8, _⟩ => ⟨S2x32, .f32⟩
  | .hbm, ⟨9, _⟩ => ⟨S2x32, .f32⟩
  | .hbm, ⟨10, _⟩ => ⟨S2x32, .f32⟩
  | .hbm, ⟨11, _⟩ => ⟨S_, .f32⟩
  | .hbm, ⟨12, _⟩ => ⟨S2x32, .f32⟩
  | .hbm, ⟨13, _⟩ => ⟨S2x32, .f32⟩
  | .hbm, ⟨14, _⟩ => ⟨S2x32, .f32⟩
  | .hbm, ⟨15, _⟩ => ⟨S_, .f32⟩
  | .hbm, ⟨16, _⟩ => ⟨S2x32, .f32⟩
  | .hbm, ⟨17, _⟩ => ⟨S2x32, .f32⟩
  | .hbm, ⟨18, _⟩ => ⟨S2x32, .f32⟩
  | .hbm, ⟨19, _⟩ => ⟨S_, .f32⟩
  | .hbm, ⟨20, _⟩ => ⟨S2x32, .f32⟩
  | .hbm, ⟨21, _⟩ => ⟨S2x32, .f32⟩
  | .hbm, ⟨22, _⟩ => ⟨S_, .f32⟩
  | .hbm, ⟨23, _⟩ => ⟨S2x32, .f32⟩
  | .hbm, ⟨24, _⟩ => ⟨S2x32, .f32⟩
  | .hbm, ⟨25, _⟩ => ⟨S2x32, .f32⟩
  | .hbm, ⟨26, _⟩ => ⟨S_, .f32⟩
  | .hbm, ⟨27, _⟩ => ⟨S2x32, .f32⟩
  | .hbm, ⟨28, _⟩ => ⟨S2x32, .f32⟩
  | .hbm, ⟨29, _⟩ => ⟨S2x32, .f32⟩
  | .hbm, ⟨30, _⟩ => ⟨S_, .f32⟩
  | .hbm, ⟨31, _⟩ => ⟨S2x32, .f32⟩
  | .hbm, ⟨32, _⟩ => ⟨S2x32, .f32⟩
  | .hbm, ⟨33, _⟩ => ⟨S2x32, .f32⟩
  | .hbm, ⟨34, _⟩ => ⟨S_, .f32⟩
  | .hbm, ⟨35, _⟩ => ⟨S2x32, .f32⟩
  | .hbm, ⟨36, _⟩ => ⟨S2x32, .f32⟩
  | _, _ => ⟨S2x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel35.lean ====
abbrev S2x2048 : Shape := ⟨2, ![2, 2048]⟩

abbrev nBuf : Space → Nat
  | .hbm => 7
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S2x2048, .f32⟩
  | .hbm, ⟨2, _⟩ => ⟨S2x2048, .f32⟩
  | .hbm, ⟨3, _⟩ => ⟨S2x2048, .f32⟩
  | .hbm, ⟨4, _⟩ => ⟨S2x2048, .f32⟩
  | .hbm, ⟨5, _⟩ => ⟨S2x2048, .f32⟩
  | .hbm, ⟨6, _⟩ => ⟨S2x2048, .f32⟩
  | .local _ .vmem, ⟨0, _⟩ => ⟨S2x2048, .f32⟩
  | .local _ .vmem, ⟨1, _⟩ => ⟨S2x2048, .f32⟩
  | .local _ .vmem, ⟨2, _⟩ => ⟨S2x2048, .f32⟩
  | .local _ .vmem, ⟨3, _⟩ => ⟨S2x2048, .f32⟩
  | .local _ .vmem, ⟨4, _⟩ => ⟨S2x2048, .f32⟩
  | .local _ .vmem, ⟨5, _⟩ => ⟨S2x2048, .f32⟩
  | .local _ .vmem, ⟨6, _⟩ => ⟨S2x2048, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel35Ideal.lean ====
abbrev S2x2048 : Shape := ⟨2, ![2, 2048]⟩

abbrev nBuf : Space → Nat
  | .hbm => 7
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S2x2048, .f32⟩
  | .hbm, ⟨2, _⟩ => ⟨S2x2048, .f32⟩
  | .hbm, ⟨3, _⟩ => ⟨S2x2048, .f32⟩
  | .hbm, ⟨4, _⟩ => ⟨S2x2048, .f32⟩
  | .hbm, ⟨5, _⟩ => ⟨S2x2048, .f32⟩
  | .hbm, ⟨6, _⟩ => ⟨S2x2048, .f32⟩
  | .local _ .vmem, ⟨0, _⟩ => ⟨S2x2048, .f32⟩
  | .local _ .vmem, ⟨1, _⟩ => ⟨S2x2048, .f32⟩
  | .local _ .vmem, ⟨2, _⟩ => ⟨S2x2048, .f32⟩
  | .local _ .vmem, ⟨3, _⟩ => ⟨S2x2048, .f32⟩
  | .local _ .vmem, ⟨4, _⟩ => ⟨S2x2048, .f32⟩
  | .local _ .vmem, ⟨5, _⟩ => ⟨S2x2048, .f32⟩
  | .local _ .vmem, ⟨6, _⟩ => ⟨S2x2048, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference35Ideal.lean ====
abbrev S2x2048 : Shape := ⟨2, ![2, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S2x2048, .f32⟩
  | .hbm, ⟨2, _⟩ => ⟨S2x2048, .f32⟩
  | .hbm, ⟨3, _⟩ => ⟨S2x2048, .f32⟩
  | .hbm, ⟨4, _⟩ => ⟨S_, .f32⟩
  | .hbm, ⟨5, _⟩ => ⟨S2x2048, .f32⟩
  | .hbm, ⟨6, _⟩ => ⟨S2x2048, .f32⟩
  | .hbm, ⟨7, _⟩ => ⟨S_, .f32⟩
  | .hbm, ⟨8, _⟩ => ⟨S2x2048, .f32⟩
  | .hbm, ⟨9, _⟩ => ⟨S2x2048, .f32⟩
  | .hbm, ⟨10, _⟩ => ⟨S2x2048, .f32⟩
  | .hbm, ⟨11, _⟩ => ⟨S_, .f32⟩
  | .hbm, ⟨12, _⟩ => ⟨S2x2048, .f32⟩
  | .hbm, ⟨13, _⟩ => ⟨S2x2048, .f32⟩
  | .hbm, ⟨14, _⟩ => ⟨S2x2048, .f32⟩
  | .hbm, ⟨15, _⟩ => ⟨S_, .f32⟩
  | .hbm, ⟨16, _⟩ => ⟨S2x2048, .f32⟩
  | .hbm, ⟨17, _⟩ => ⟨S2x2048, .f32⟩
  | .hbm, ⟨18, _⟩ => ⟨S2x2048, .f32⟩
  | .hbm, ⟨19, _⟩ => ⟨S_, .f32⟩
  | .hbm, ⟨20, _⟩ => ⟨S2x2048, .f32⟩
  | .hbm, ⟨21, _⟩ => ⟨S2x2048, .f32⟩
  | .hbm, ⟨22, _⟩ => ⟨S_, .f32⟩
  | .hbm, ⟨23, _⟩ => ⟨S2x2048, .f32⟩
  | .hbm, ⟨24, _⟩ => ⟨S2x2048, .f32⟩
  | .hbm, ⟨25, _⟩ => ⟨S2x2048, .f32⟩
  | .hbm, ⟨26, _⟩ => ⟨S_, .f32⟩
  | .hbm, ⟨27, _⟩ => ⟨S2x2048, .f32⟩
  | .hbm, ⟨28, _⟩ => ⟨S2x2048, .f32⟩
  | .hbm, ⟨29, _⟩ => ⟨S2x2048, .f32⟩
  | .hbm, ⟨30, _⟩ => ⟨S_, .f32⟩
  | .hbm, ⟨31, _⟩ => ⟨S2x2048, .f32⟩
  | .hbm, ⟨32, _⟩ => ⟨S2x2048, .f32⟩
  | .hbm, ⟨33, _⟩ => ⟨S2x2048, .f32⟩
  | .hbm, ⟨34, _⟩ => ⟨S_, .f32⟩
  | .hbm, ⟨35, _⟩ => ⟨S2x2048, .f32⟩
  | .hbm, ⟨36, _⟩ => ⟨S2x2048, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel36.lean ====
abbrev S2x512x128 : Shape := ⟨3, ![2, 512, 128]⟩
abbrev S1024x128 : Shape := ⟨2, ![1024, 128]⟩
abbrev S256x128 : Shape := ⟨2, ![256, 128]⟩

abbrev nBuf : Space → Nat
  | .hbm => 11
  | .vmem => 14
  | .smem => 0
  | _ => 0

abbrev bufTy : (tb : Table) → Fin (tcTables nBuf tb) → BufTy
  | .hbm, ⟨0, _⟩ => ⟨S2x512x128, .f32⟩
  | .hbm, ⟨1, _⟩ => ⟨S2x512x128, .f32⟩
  | .hbm, ⟨2, _⟩ => ⟨S2x512x128, .f32⟩
  | .hbm, ⟨3, _⟩ => ⟨S2x512x128, .f32⟩
  | .hbm, ⟨4, _⟩ => ⟨S1024x128, .f32⟩
  | .hbm, ⟨5, _⟩ => ⟨S1024x128, .f32⟩
  | .hbm, ⟨6, _⟩ => ⟨S1024x128, .f32⟩
  | .hbm, ⟨7, _⟩ => ⟨S1024x128, .f32⟩
  | .hbm, ⟨8, _⟩ => ⟨S1024x128, .f32⟩
  | .hbm, ⟨9, _⟩ => ⟨S1024x128, .f32⟩
  | .hbm, ⟨10, _⟩ => ⟨S1024x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S2x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel36Ideal.lean ====
abbrev S2x512x128 : Shape := ⟨3, ![2, 512, 128]⟩
abbrev S1024x128 : Shape := ⟨2, ![1024, 128]⟩
abbrev S256x128 : Shape := ⟨2, ![256, 128]⟩

abbrev nBuf : Space → Nat
  | .hbm => 11
  | .vmem => 14
  | .smem => 0
  | _ => 0

abbrev bufTy : (tb : Table) → Fin (tcTables nBuf tb) → BufTy
  | .hbm, ⟨0, _⟩ => ⟨S2x512x128, .f32⟩
  | .hbm, ⟨1, _⟩ => ⟨S2x512x128, .f32⟩
  | .hbm, ⟨2, _⟩ => ⟨S2x512x128, .f32⟩
  | .hbm, ⟨3, _⟩ => ⟨S2x512x128, .f32⟩
  | .hbm, ⟨4, _⟩ => ⟨S1024x128, .f32⟩
  | .hbm, ⟨5, _⟩ => ⟨S1024x128, .f32⟩
  | .hbm, ⟨6, _⟩ => ⟨S1024x128, .f32⟩
  | .hbm, ⟨7, _⟩ => ⟨S1024x128, .f32⟩
  | .hbm, ⟨8, _⟩ => ⟨S1024x128, .f32⟩
  | .hbm, ⟨9, _⟩ => ⟨S1024x128, .f32⟩
  | .hbm, ⟨10, _⟩ => ⟨S1024x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S2x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference36Ideal.lean ====
abbrev S2x512x128 : Shape := ⟨3, ![2, 512, 128]⟩
abbrev S_ : Shape := ⟨0, ![]⟩
abbrev S1024x128 : Shape := ⟨2, ![1024, 128]⟩

abbrev nBuf : Space → Nat
  | .hbm => 40
  | .vmem => 0
  | .smem => 0
  | _ => 0

abbrev bufTy : (tb : Table) → Fin (tcTables nBuf tb) → BufTy
  | .hbm, ⟨0, _⟩ => ⟨S2x512x128, .f32⟩
  | .hbm, ⟨1, _⟩ => ⟨S2x512x128, .f32⟩
  | .hbm, ⟨2, _⟩ => ⟨S2x512x128, .f32⟩
  | .hbm, ⟨3, _⟩ => ⟨S2x512x128, .f32⟩
  | .hbm, ⟨4, _⟩ => ⟨S_, .f32⟩
  | .hbm, ⟨5, _⟩ => ⟨S2x512x128, .f32⟩
  | .hbm, ⟨6, _⟩ => ⟨S2x512x128, .f32⟩
  | .hbm, ⟨7, _⟩ => ⟨S_, .f32⟩
  | .hbm, ⟨8, _⟩ => ⟨S2x512x128, .f32⟩
  | .hbm, ⟨9, _⟩ => ⟨S2x512x128, .f32⟩
  | .hbm, ⟨10, _⟩ => ⟨S2x512x128, .f32⟩
  | .hbm, ⟨11, _⟩ => ⟨S_, .f32⟩
  | .hbm, ⟨12, _⟩ => ⟨S2x512x128, .f32⟩
  | .hbm, ⟨13, _⟩ => ⟨S2x512x128, .f32⟩
  | .hbm, ⟨14, _⟩ => ⟨S2x512x128, .f32⟩
  | .hbm, ⟨15, _⟩ => ⟨S_, .f32⟩
  | .hbm, ⟨16, _⟩ => ⟨S2x512x128, .f32⟩
  | .hbm, ⟨17, _⟩ => ⟨S2x512x128, .f32⟩
  | .hbm, ⟨18, _⟩ => ⟨S2x512x128, .f32⟩
  | .hbm, ⟨19, _⟩ => ⟨S_, .f32⟩
  | .hbm, ⟨20, _⟩ => ⟨S2x512x128, .f32⟩
  | .hbm, ⟨21, _⟩ => ⟨S2x512x128, .f32⟩
  | .hbm, ⟨22, _⟩ => ⟨S_, .f32⟩
  | .hbm, ⟨23, _⟩ => ⟨S2x512x128, .f32⟩
  | .hbm, ⟨24, _⟩ => ⟨S2x512x128, .f32⟩
  | .hbm, ⟨25, _⟩ => ⟨S2x512x128, .f32⟩
  | .hbm, ⟨26, _⟩ => ⟨S_, .f32⟩
  | .hbm, ⟨27, _⟩ => ⟨S2x512x128, .f32⟩
  | .hbm, ⟨28, _⟩ => ⟨S2x512x128, .f32⟩
  | .hbm, ⟨29, _⟩ => ⟨S2x512x128, .f32⟩
  | .hbm, ⟨30, _⟩ => ⟨S_, .f32⟩
  | .hbm, ⟨31, _⟩ => ⟨S2x512x128, .f32⟩
  | .hbm, ⟨32, _⟩ => ⟨S2x512x128, .f32⟩
  | .hbm, ⟨33, _⟩ => ⟨S2x512x128, .f32⟩
  | .hbm, ⟨34, _⟩ => ⟨S_, .f32⟩
  | .hbm, ⟨35, _⟩ => ⟨S2x512x128, .f32⟩
  | .hbm, ⟨36, _⟩ => ⟨S2x512x128, .f32⟩
  | .hbm, ⟨37, _⟩ => ⟨S1024x128, .f32⟩
  | .hbm, ⟨38, _⟩ => ⟨S1024x128, .f32⟩
  | .hbm, ⟨39, _⟩ => ⟨S1024x128, .f32⟩
  | _, _ => ⟨S2x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel37.lean ====
abbrev S2x256x1024 : Shape := ⟨3, ![2, 256, 1024]⟩
abbrev S512x1024 : Shape := ⟨2, ![512, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel37Ideal.lean ====
abbrev S2x256x1024 : Shape := ⟨3, ![2, 256, 1024]⟩
abbrev S512x1024 : Shape := ⟨2, ![512, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference37Ideal.lean ====
abbrev S2x256x1024 : Shape := ⟨3, ![2, 256, 1024]⟩
abbrev S_ : Shape := ⟨0, ![]⟩
abbrev S512x1024 : Shape := ⟨2, ![512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | .hbm, ⟨37, _⟩ => ⟨S512x1024, .f32⟩
  | .hbm, ⟨38, _⟩ => ⟨S512x1024, .f32⟩
  | .hbm, ⟨39, _⟩ => ⟨S512x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel38.lean ====
abbrev S2x128x1024 : Shape := ⟨3, ![2, 128, 1024]⟩
abbrev S256x1024 : Shape := ⟨2, ![256, 1024]⟩

abbrev nBuf : Space → Nat
  | .hbm => 11
  | .vmem => 7
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S2x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel38Ideal.lean ====
abbrev S2x128x1024 : Shape := ⟨3, ![2, 128, 1024]⟩
abbrev S256x1024 : Shape := ⟨2, ![256, 1024]⟩

abbrev nBuf : Space → Nat
  | .hbm => 11
  | .vmem => 7
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S2x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference38Ideal.lean ====
abbrev S2x128x1024 : Shape := ⟨3, ![2, 128, 1024]⟩
abbrev S_ : Shape := ⟨0, ![]⟩
abbrev S256x1024 : Shape := ⟨2, ![256, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S_, .f32⟩
  | .hbm, ⟨5, _⟩ => ⟨S2x128x1024, .f32⟩
  | .hbm, ⟨6, _⟩ => ⟨S2x128x1024, .f32⟩
  | .hbm, ⟨7, _⟩ => ⟨S_, .f32⟩
  | .hbm, ⟨8, _⟩ => ⟨S2x128x1024, .f32⟩
  | .hbm, ⟨9, _⟩ => ⟨S2x128x1024, .f32⟩
  | .hbm, ⟨10, _⟩ => ⟨S2x128x1024, .f32⟩
  | .hbm, ⟨11, _⟩ => ⟨S_, .f32⟩
  | .hbm, ⟨12, _⟩ => ⟨S2x128x1024, .f32⟩
  | .hbm, ⟨13, _⟩ => ⟨S2x128x1024, .f32⟩
  | .hbm, ⟨14, _⟩ => ⟨S2x128x1024, .f32⟩
  | .hbm, ⟨15, _⟩ => ⟨S_, .f32⟩
  | .hbm, ⟨16, _⟩ => ⟨S2x128x1024, .f32⟩
  | .hbm, ⟨17, _⟩ => ⟨S2x128x1024, .f32⟩
  | .hbm, ⟨18, _⟩ => ⟨S2x128x1024, .f32⟩
  | .hbm, ⟨19, _⟩ => ⟨S_, .f32⟩
  | .hbm, ⟨20, _⟩ => ⟨S2x128x1024, .f32⟩
  | .hbm, ⟨21, _⟩ => ⟨S2x128x1024, .f32⟩
  | .hbm, ⟨22, _⟩ => ⟨S_, .f32⟩
  | .hbm, ⟨23, _⟩ => ⟨S2x128x1024, .f32⟩
  | .hbm, ⟨24, _⟩ => ⟨S2x128x1024, .f32⟩
  | .hbm, ⟨25, _⟩ => ⟨S2x128x1024, .f32⟩
  | .hbm, ⟨26, _⟩ => ⟨S_, .f32⟩
  | .hbm, ⟨27, _⟩ => ⟨S2x128x1024, .f32⟩
  | .hbm, ⟨28, _⟩ => ⟨S2x128x1024, .f32⟩
  | .hbm, ⟨29, _⟩ => ⟨S2x128x1024, .f32⟩
  | .hbm, ⟨30, _⟩ => ⟨S_, .f32⟩
  | .hbm, ⟨31, _⟩ => ⟨S2x128x1024, .f32⟩
  | .hbm, ⟨32, _⟩ => ⟨S2x128x1024, .f32⟩
  | .hbm, ⟨33, _⟩ => ⟨S2x128x1024, .f32⟩
  | .hbm, ⟨34, _⟩ => ⟨S_, .f32⟩
  | .hbm, ⟨35, _⟩ => ⟨S2x128x1024, .f32⟩
  | .hbm, ⟨36, _⟩ => ⟨S2x128x1024, .f32⟩
  | .hbm, ⟨37, _⟩ => ⟨S256x1024, .f32⟩
  | .hbm, ⟨38, _⟩ => ⟨S256x1024, .f32⟩
  | .hbm, ⟨39, _⟩ => ⟨S256x1024, .f32⟩
  | _, _ => ⟨S2x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel39.lean ====
abbrev S2x1024x704 : Shape := ⟨3, ![2, 1024, 704]⟩
abbrev S2048x704 : Shape := ⟨2, ![2048, 704]⟩
abbrev S256x704 : Shape := ⟨2, ![256, 704]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x704, .f32⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S2048x704, .f32⟩
  | .hbm, ⟨5, _⟩ => ⟨S2048x704, .f32⟩
  | .hbm, ⟨6, _⟩ => ⟨S2048x704, .f32⟩
  | .hbm, ⟨7, _⟩ => ⟨S2048x704, .f32⟩
  | .hbm, ⟨8, _⟩ => ⟨S2048x704, .f32⟩
  | .hbm, ⟨9, _⟩ => ⟨S2048x704, .f32⟩
  | .hbm, ⟨10, _⟩ => ⟨S2048x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | _, _ => ⟨S2x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel39Ideal.lean ====
abbrev S2x1024x704 : Shape := ⟨3, ![2, 1024, 704]⟩
abbrev S2048x704 : Shape := ⟨2, ![2048, 704]⟩
abbrev S256x704 : Shape := ⟨2, ![256, 704]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x704, .f32⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S2048x704, .f32⟩
  | .hbm, ⟨5, _⟩ => ⟨S2048x704, .f32⟩
  | .hbm, ⟨6, _⟩ => ⟨S2048x704, .f32⟩
  | .hbm, ⟨7, _⟩ => ⟨S2048x704, .f32⟩
  | .hbm, ⟨8, _⟩ => ⟨S2048x704, .f32⟩
  | .hbm, ⟨9, _⟩ => ⟨S2048x704, .f32⟩
  | .hbm, ⟨10, _⟩ => ⟨S2048x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | _, _ => ⟨S2x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference39Ideal.lean ====
abbrev S2x1024x704 : Shape := ⟨3, ![2, 1024, 704]⟩
abbrev S_ : Shape := ⟨0, ![]⟩
abbrev S2048x704 : Shape := ⟨2, ![2048, 704]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x704, .f32⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S_, .f32⟩
  | .hbm, ⟨5, _⟩ => ⟨S2x1024x704, .f32⟩
  | .hbm, ⟨6, _⟩ => ⟨S2x1024x704, .f32⟩
  | .hbm, ⟨7, _⟩ => ⟨S_, .f32⟩
  | .hbm, ⟨8, _⟩ => ⟨S2x1024x704, .f32⟩
  | .hbm, ⟨9, _⟩ => ⟨S2x1024x704, .f32⟩
  | .hbm, ⟨10, _⟩ => ⟨S2x1024x704, .f32⟩
  | .hbm, ⟨11, _⟩ => ⟨S_, .f32⟩
  | .hbm, ⟨12, _⟩ => ⟨S2x1024x704, .f32⟩
  | .hbm, ⟨13, _⟩ => ⟨S2x1024x704, .f32⟩
  | .hbm, ⟨14, _⟩ => ⟨S2x1024x704, .f32⟩
  | .hbm, ⟨15, _⟩ => ⟨S_, .f32⟩
  | .hbm, ⟨16, _⟩ => ⟨S2x1024x704, .f32⟩
  | .hbm, ⟨17, _⟩ => ⟨S2x1024x704, .f32⟩
  | .hbm, ⟨18, _⟩ => ⟨S2x1024x704, .f32⟩
  | .hbm, ⟨19, _⟩ => ⟨S_, .f32⟩
  | .hbm, ⟨20, _⟩ => ⟨S2x1024x704, .f32⟩
  | .hbm, ⟨21, _⟩ => ⟨S2x1024x704, .f32⟩
  | .hbm, ⟨22, _⟩ => ⟨S_, .f32⟩
  | .hbm, ⟨23, _⟩ => ⟨S2x1024x704, .f32⟩
  | .hbm, ⟨24, _⟩ => ⟨S2x1024x704, .f32⟩
  | .hbm, ⟨25, _⟩ => ⟨S2x1024x704, .f32⟩
  | .hbm, ⟨26, _⟩ => ⟨S_, .f32⟩
  | .hbm, ⟨27, _⟩ => ⟨S2x1024x704, .f32⟩
  | .hbm, ⟨28, _⟩ => ⟨S2x1024x704, .f32⟩
  | .hbm, ⟨29, _⟩ => ⟨S2x1024x704, .f32⟩
  | .hbm, ⟨30, _⟩ => ⟨S_, .f32⟩
  | .hbm, ⟨31, _⟩ => ⟨S2x1024x704, .f32⟩
  | .hbm, ⟨32, _⟩ => ⟨S2x1024x704, .f32⟩
  | .hbm, ⟨33, _⟩ => ⟨S2x1024x704, .f32⟩
  | .hbm, ⟨34, _⟩ => ⟨S_, .f32⟩
  | .hbm, ⟨35, _⟩ => ⟨S2x1024x704, .f32⟩
  | .hbm, ⟨36, _⟩ => ⟨S2x1024x704, .f32⟩
  | .hbm, ⟨37, _⟩ => ⟨S2048x704, .f32⟩
  | .hbm, ⟨38, _⟩ => ⟨S2048x704, .f32⟩
  | .hbm, ⟨39, _⟩ => ⟨S2048x704, .f32⟩
  | _, _ => ⟨S2x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel40.lean ====
abbrev S2x352x1024 : Shape := ⟨3, ![2, 352, 1024]⟩
abbrev S704x1024 : Shape := ⟨2, ![704, 1024]⟩
abbrev S176x1024 : Shape := ⟨2, ![176, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x352x1024, .f32⟩
  | .hbm, ⟨1, _⟩ => ⟨S2x352x1024, .f32⟩
  | .hbm, ⟨2, _⟩ => ⟨S2x352x1024, .f32⟩
  | .hbm, ⟨3, _⟩ => ⟨S2x352x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .hbm, ⟨10, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S2x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel40Ideal.lean ====
abbrev S2x352x1024 : Shape := ⟨3, ![2, 352, 1024]⟩
abbrev S704x1024 : Shape := ⟨2, ![704, 1024]⟩
abbrev S176x1024 : Shape := ⟨2, ![176, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x352x1024, .f32⟩
  | .hbm, ⟨1, _⟩ => ⟨S2x352x1024, .f32⟩
  | .hbm, ⟨2, _⟩ => ⟨S2x352x1024, .f32⟩
  | .hbm, ⟨3, _⟩ => ⟨S2x352x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .hbm, ⟨10, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S2x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference40Ideal.lean ====
abbrev S2x352x1024 : Shape := ⟨3, ![2, 352, 1024]⟩
abbrev S_ : Shape := ⟨0, ![]⟩
abbrev S704x1024 : Shape := ⟨2, ![704, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x352x1024, .f32⟩
  | .hbm, ⟨1, _⟩ => ⟨S2x352x1024, .f32⟩
  | .hbm, ⟨2, _⟩ => ⟨S2x352x1024, .f32⟩
  | .hbm, ⟨3, _⟩ => ⟨S2x352x1024, .f32⟩
  | .hbm, ⟨4, _⟩ => ⟨S_, .f32⟩
  | .hbm, ⟨5, _⟩ => ⟨S2x352x1024, .f32⟩
  | .hbm, ⟨6, _⟩ => ⟨S2x352x1024, .f32⟩
  | .hbm, ⟨7, _⟩ => ⟨S_, .f32⟩
  | .hbm, ⟨8, _⟩ => ⟨S2x352x1024, .f32⟩
  | .hbm, ⟨9, _⟩ => ⟨S2x352x1024, .f32⟩
  | .hbm, ⟨10, _⟩ => ⟨S2x352x1024, .f32⟩
  | .hbm, ⟨11, _⟩ => ⟨S_, .f32⟩
  | .hbm, ⟨12, _⟩ => ⟨S2x352x1024, .f32⟩
  | .hbm, ⟨13, _⟩ => ⟨S2x352x1024, .f32⟩
  | .hbm, ⟨14, _⟩ => ⟨S2x352x1024, .f32⟩
  | .hbm, ⟨15, _⟩ => ⟨S_, .f32⟩
  | .hbm, ⟨16, _⟩ => ⟨S2x352x1024, .f32⟩
  | .hbm, ⟨17, _⟩ => ⟨S2x352x1024, .f32⟩
  | .hbm, ⟨18, _⟩ => ⟨S2x352x1024, .f32⟩
  | .hbm, ⟨19, _⟩ => ⟨S_, .f32⟩
  | .hbm, ⟨20, _⟩ => ⟨S2x352x1024, .f32⟩
  | .hbm, ⟨21, _⟩ => ⟨S2x352x1024, .f32⟩
  | .hbm, ⟨22, _⟩ => ⟨S_, .f32⟩
  | .hbm, ⟨23, _⟩ => ⟨S2x352x1024, .f32⟩
  | .hbm, ⟨24, _⟩ => ⟨S2x352x1024, .f32⟩
  | .hbm, ⟨25, _⟩ => ⟨S2x352x1024, .f32⟩
  | .hbm, ⟨26, _⟩ => ⟨S_, .f32⟩
  | .hbm, ⟨27, _⟩ => ⟨S2x352x1024, .f32⟩
  | .hbm, ⟨28, _⟩ => ⟨S2x352x1024, .f32⟩
  | .hbm, ⟨29, _⟩ => ⟨S2x352x1024, .f32⟩
  | .hbm, ⟨30, _⟩ => ⟨S_, .f32⟩
  | .hbm, ⟨31, _⟩ => ⟨S2x352x1024, .f32⟩
  | .hbm, ⟨32, _⟩ => ⟨S2x352x1024, .f32⟩
  | .hbm, ⟨33, _⟩ => ⟨S2x352x1024, .f32⟩
  | .hbm, ⟨34, _⟩ => ⟨S_, .f32⟩
  | .hbm, ⟨35, _⟩ => ⟨S2x352x1024, .f32⟩
  | .hbm, ⟨36, _⟩ => ⟨S2x352x1024, .f32⟩
  | .hbm, ⟨37, _⟩ => ⟨S704x1024, .f32⟩
  | .hbm, ⟨38, _⟩ => ⟨S704x1024, .f32⟩
  | .hbm, ⟨39, _⟩ => ⟨S704x1024, .f32⟩
  | _, _ => ⟨S2x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel41.lean ====
abbrev S32x24 : Shape := ⟨2, ![32, 24]⟩

abbrev nBuf : Space → Nat
  | .hbm => 7
  | .vmem => 7
  | .smem => 0
  | _ => 0

abbrev bufTy : (tb : Table) → Fin (tcTables nBuf tb) → BufTy
  | .hbm, ⟨0, _⟩ => ⟨S32x24, .f32⟩
  | .hbm, ⟨1, _⟩ => ⟨S32x24, .f32⟩
  | .hbm, ⟨2, _⟩ => ⟨S32x24, .f32⟩
  | .hbm, ⟨3, _⟩ => ⟨S32x24, .f32⟩
  | .hbm, ⟨4, _⟩ => ⟨S32x24, .f32⟩
  | .hbm, ⟨5, _⟩ => ⟨S32x24, .f32⟩
  | .hbm, ⟨6, _⟩ => ⟨S32x24, .f32⟩
  | .local _ .vmem, ⟨0, _⟩ => ⟨S32x24, .f32⟩
  | .local _ .vmem, ⟨1, _⟩ => ⟨S32x24, .f32⟩
  | .local _ .vmem, ⟨2, _⟩ => ⟨S32x24, .f32⟩
  | .local _ .vmem, ⟨3, _⟩ => ⟨S32x24, .f32⟩
  | .local _ .vmem, ⟨4, _⟩ => ⟨S32x24, .f32⟩
  | .local _ .vmem, ⟨5, _⟩ => ⟨S32x24, .f32⟩
  | .local _ .vmem, ⟨6, _⟩ => ⟨S32x24, .f32⟩
  | _, _ => ⟨S32x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x24 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x24 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x24 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x24 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x24 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel41Ideal.lean ====
abbrev S32x24 : Shape := ⟨2, ![32, 24]⟩

abbrev nBuf : Space → Nat
  | .hbm => 7
  | .vmem => 7
  | .smem => 0
  | _ => 0

abbrev bufTy : (tb : Table) → Fin (tcTables nBuf tb) → BufTy
  | .hbm, ⟨0, _⟩ => ⟨S32x24, .f32⟩
  | .hbm, ⟨1, _⟩ => ⟨S32x24, .f32⟩
  | .hbm, ⟨2, _⟩ => ⟨S32x24, .f32⟩
  | .hbm, ⟨3, _⟩ => ⟨S32x24, .f32⟩
  | .hbm, ⟨4, _⟩ => ⟨S32x24, .f32⟩
  | .hbm, ⟨5, _⟩ => ⟨S32x24, .f32⟩
  | .hbm, ⟨6, _⟩ => ⟨S32x24, .f32⟩
  | .local _ .vmem, ⟨0, _⟩ => ⟨S32x24, .f32⟩
  | .local _ .vmem, ⟨1, _⟩ => ⟨S32x24, .f32⟩
  | .local _ .vmem, ⟨2, _⟩ => ⟨S32x24, .f32⟩
  | .local _ .vmem, ⟨3, _⟩ => ⟨S32x24, .f32⟩
  | .local _ .vmem, ⟨4, _⟩ => ⟨S32x24, .f32⟩
  | .local _ .vmem, ⟨5, _⟩ => ⟨S32x24, .f32⟩
  | .local _ .vmem, ⟨6, _⟩ => ⟨S32x24, .f32⟩
  | _, _ => ⟨S32x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x24 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x24 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x24 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x24 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x24 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference41Ideal.lean ====
abbrev S32x24 : Shape := ⟨2, ![32, 24]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S32x24, .f32⟩
  | .hbm, ⟨1, _⟩ => ⟨S32x24, .f32⟩
  | .hbm, ⟨2, _⟩ => ⟨S32x24, .f32⟩
  | .hbm, ⟨3, _⟩ => ⟨S32x24, .f32⟩
  | .hbm, ⟨4, _⟩ => ⟨S_, .f32⟩
  | .hbm, ⟨5, _⟩ => ⟨S32x24, .f32⟩
  | .hbm, ⟨6, _⟩ => ⟨S32x24, .f32⟩
  | .hbm, ⟨7, _⟩ => ⟨S_, .f32⟩
  | .hbm, ⟨8, _⟩ => ⟨S32x24, .f32⟩
  | .hbm, ⟨9, _⟩ => ⟨S32x24, .f32⟩
  | .hbm, ⟨10, _⟩ => ⟨S32x24, .f32⟩
  | .hbm, ⟨11, _⟩ => ⟨S_, .f32⟩
  | .hbm, ⟨12, _⟩ => ⟨S32x24, .f32⟩
  | .hbm, ⟨13, _⟩ => ⟨S32x24, .f32⟩
  | .hbm, ⟨14, _⟩ => ⟨S32x24, .f32⟩
  | .hbm, ⟨15, _⟩ => ⟨S_, .f32⟩
  | .hbm, ⟨16, _⟩ => ⟨S32x24, .f32⟩
  | .hbm, ⟨17, _⟩ => ⟨S32x24, .f32⟩
  | .hbm, ⟨18, _⟩ => ⟨S32x24, .f32⟩
  | .hbm, ⟨19, _⟩ => ⟨S_, .f32⟩
  | .hbm, ⟨20, _⟩ => ⟨S32x24, .f32⟩
  | .hbm, ⟨21, _⟩ => ⟨S32x24, .f32⟩
  | .hbm, ⟨22, _⟩ => ⟨S_, .f32⟩
  | .hbm, ⟨23, _⟩ => ⟨S32x24, .f32⟩
  | .hbm, ⟨24, _⟩ => ⟨S32x24, .f32⟩
  | .hbm, ⟨25, _⟩ => ⟨S32x24, .f32⟩
  | .hbm, ⟨26, _⟩ => ⟨S_, .f32⟩
  | .hbm, ⟨27, _⟩ => ⟨S32x24, .f32⟩
  | .hbm, ⟨28, _⟩ => ⟨S32x24, .f32⟩
  | .hbm, ⟨29, _⟩ => ⟨S32x24, .f32⟩
  | .hbm, ⟨30, _⟩ => ⟨S_, .f32⟩
  | .hbm, ⟨31, _⟩ => ⟨S32x24, .f32⟩
  | .hbm, ⟨32, _⟩ => ⟨S32x24, .f32⟩
  | .hbm, ⟨33, _⟩ => ⟨S32x24, .f32⟩
  | .hbm, ⟨34, _⟩ => ⟨S_, .f32⟩
  | .hbm, ⟨35, _⟩ => ⟨S32x24, .f32⟩
  | .hbm, ⟨36, _⟩ => ⟨S32x24, .f32⟩
  | _, _ => ⟨S32x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel42.lean ====
abbrev S1024 : Shape := ⟨1, ![1024]⟩
abbrev S1x1024 : Shape := ⟨2, ![1, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel42Ideal.lean ====
abbrev S1024 : Shape := ⟨1, ![1024]⟩
abbrev S1x1024 : Shape := ⟨2, ![1, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference42Ideal.lean ====
abbrev S1024 : Shape := ⟨1, ![1024]⟩
abbrev S_ : Shape := ⟨0, ![]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1x1024, .f32⟩
  | .hbm, ⟨38, _⟩ => ⟨S1x1024, .f32⟩
  | .hbm, ⟨39, _⟩ => ⟨S1x1024, .f32⟩
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel.lean ====
abbrev S1x16384x8x64 : Shape := ⟨4, ![1, 16384, 8, 64]⟩
abbrev S8x128x256 : Shape := ⟨3, ![8, 128, 256]⟩
abbrev S1x16384x8 : Shape := ⟨3, ![1, 16384, 8]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S128x1x1 : Shape := ⟨3, ![128, 1, 1]⟩
abbrev S1x1x256 : Shape := ⟨3, ![1, 1, 256]⟩
abbrev S128x1x256 : Shape := ⟨3, ![128, 1, 256]⟩
abbrev S1x128x256 : Shape := ⟨3, ![1, 128, 256]⟩
abbrev S128x128x256 : Shape := ⟨3, ![128, 128, 256]⟩
abbrev S1x128x128x8x64 : Shape := ⟨5, ![1, 128, 128, 8, 64]⟩
abbrev S1x1x128x8x64 : Shape := ⟨5, ![1, 1, 128, 8, 64]⟩
abbrev S1x127x128x8x64 : Shape := ⟨5, ![1, 127, 128, 8, 64]⟩
abbrev S1x128x256x8x64 : Shape := ⟨5, ![1, 128, 256, 8, 64]⟩
abbrev S1x128x8x128x256 : Shape := ⟨5, ![1, 128, 8, 128, 256]⟩
abbrev S1x1x8x128x256 : Shape := ⟨5, ![1, 1, 8, 128, 256]⟩
abbrev S1x128x1x128x256 : Shape := ⟨5, ![1, 128, 1, 128, 256]⟩
abbrev S1x128x8x128 : Shape := ⟨4, ![1, 128, 8, 128]⟩
abbrev S1x128x8x128x1 : Shape := ⟨5, ![1, 128, 8, 128, 1]⟩
abbrev S1x128x8x64x128 : Shape := ⟨5, ![1, 128, 8, 64, 128]⟩
abbrev S1x128x128x8x1 : Shape := ⟨5, ![1, 128, 128, 8, 1]⟩
abbrev S1x128x128x8 : Shape := ⟨4, ![1, 128, 128, 8]⟩
abbrev S16384x512 : Shape := ⟨2, ![16384, 512]⟩
abbrev S16384x1536 : Shape := ⟨2, ![16384, 1536]⟩
abbrev S1x16384x8x1 : Shape := ⟨4, ![1, 16384, 8, 1]⟩
abbrev S512x512 : Shape := ⟨2, ![512, 512]⟩
abbrev S128x512 : Shape := ⟨2, ![128, 512]⟩
abbrev S640x512 : Shape := ⟨2, ![640, 512]⟩
abbrev S1x128 : Shape := ⟨2, ![1, 128]⟩
abbrev S128x128 : Shape := ⟨2, ![128, 128]⟩
abbrev S256x128 : Shape := ⟨2, ![256, 128]⟩
abbrev S1x128x1 : Shape := ⟨3, ![1, 128, 1]⟩
abbrev S8x128x1 : Shape := ⟨3, ![8, 128, 1]⟩
abbrev S256x512 : Shape := ⟨2, ![256, 512]⟩
abbrev S384x512 : Shape := ⟨2, ![384, 512]⟩

abbrev nBuf : Space → Nat
  | .hbm => 118
  | .vmem => 30
  | .smem => 0
  | _ => 0

abbrev bufTy : (tb : Table) → Fin (tcTables nBuf tb) → BufTy
  | .hbm, ⟨0, _⟩ => ⟨S1x16384x8x64, .f32⟩
  | .hbm, ⟨1, _⟩ => ⟨S1x16384x8x64, .f32⟩
  | .hbm, ⟨2, _⟩ => ⟨S1x16384x8x64, .f32⟩
  | .hbm, ⟨3, _⟩ => ⟨S8x128x256, .f32⟩
  | .hbm, ⟨4, _⟩ => ⟨S1x16384x8x64, .f32⟩
  | .hbm, ⟨5, _⟩ => ⟨S1x16384x8, .f32⟩
  | .hbm, ⟨6, _⟩ => ⟨S128, .i32⟩
  | .hbm, ⟨7, _⟩ => ⟨S128x1, .i32⟩
  | .hbm, ⟨8, _⟩ => ⟨S256, .i32⟩
  | .hbm, ⟨9, _⟩ => ⟨S1x256, .i32⟩
  | .hbm, ⟨10, _⟩ => ⟨S_, .i32⟩
  | .hbm, ⟨11, _⟩ => ⟨S128x1, .i32⟩
  | .hbm, ⟨12, _⟩ => ⟨S128x1, .i32⟩
  | .hbm, ⟨13, _⟩ => ⟨S128x256, .i32⟩
  | .hbm, ⟨14, _⟩ => ⟨S128x256, .i32⟩
  | .hbm, ⟨15, _⟩ => ⟨S128x256, .i32⟩
  | .hbm, ⟨16, _⟩ => ⟨S128, .i32⟩
  | .hbm, ⟨17, _⟩ => ⟨S128x1x1, .i32⟩
  | .hbm, ⟨18, _⟩ => ⟨S_, .i32⟩
  | .hbm, ⟨19, _⟩ => ⟨S128x256, .i32⟩
  | .hbm, ⟨20, _⟩ => ⟨S128x256, .i1⟩
  | .hbm, ⟨21, _⟩ => ⟨S_, .i32⟩
  | .hbm, ⟨22, _⟩ => ⟨S128x256, .i32⟩
  | .hbm, ⟨23, _⟩ => ⟨S128x256, .i1⟩
  | .hbm, ⟨24, _⟩ => ⟨S128x256, .i1⟩
  | .hbm, ⟨25, _⟩ => ⟨S_, .i32⟩
  | .hbm, ⟨26, _⟩ => ⟨S128x1x1, .i32⟩
  | .hbm, ⟨27, _⟩ => ⟨S128x1x1, .i32⟩
  | .hbm, ⟨28, _⟩ => ⟨S_, .i32⟩
  | .hbm, ⟨29, _⟩ => ⟨S128x1x1, .i32⟩
  | .hbm, ⟨30, _⟩ => ⟨S128x1x1, .i32⟩
  | .hbm, ⟨31, _⟩ => ⟨S1x1x256, .i32⟩
  | .hbm, ⟨32, _⟩ => ⟨S128x1x256, .i32⟩
  | .hbm, ⟨33, _⟩ => ⟨S128x1x256, .i32⟩
  | .hbm, ⟨34, _⟩ => ⟨S128x1x256, .i32⟩
  | .hbm, ⟨35, _⟩ => ⟨S_, .i32⟩
  | .hbm, ⟨36, _⟩ => ⟨S128x1x256, .i32⟩
  | .hbm, ⟨37, _⟩ => ⟨S128x1x256, .i1⟩
  | .hbm, ⟨38, _⟩ => ⟨S1x128x256, .i1⟩
  | .hbm, ⟨39, _⟩ => ⟨S128x128x256, .i1⟩
  | .hbm, ⟨40, _⟩ => ⟨S128x128x256, .i1⟩
  | .hbm, ⟨41, _⟩ => ⟨S128x128x256, .i1⟩
  | .hbm, ⟨42, _⟩ => ⟨S1x128x128x8x64, .f32⟩
  | .hbm, ⟨43, _⟩ => ⟨S1x128x128x8x64, .f32⟩
  | .hbm, ⟨44, _⟩ => ⟨S1x1x128x8x64, .f32⟩
  | .hbm, ⟨45, _⟩ => ⟨S_, .f32⟩
  | .hbm, ⟨46, _⟩ => ⟨S1x1x128x8x64, .f32⟩
  | .hbm, ⟨47, _⟩ => ⟨S1x127x128x8x64, .f32⟩
  | .hbm, ⟨48, _⟩ => ⟨S1x128x128x8x64, .f32⟩
  | .hbm, ⟨49, _⟩ => ⟨S1x128x256x8x64, .f32⟩
  | .hbm, ⟨50, _⟩ => ⟨S1x128x8x128x256, .f32⟩
  | .hbm, ⟨51, _⟩ => ⟨S_, .f32⟩
  | .hbm, ⟨52, _⟩ => ⟨S1x128x8x128x256, .f32⟩
  | .hbm, ⟨53, _⟩ => ⟨S1x128x8x128x256, .f32⟩
  | .hbm, ⟨54, _⟩ => ⟨S1x1x8x128x256, .f32⟩
  | .hbm, ⟨55, _⟩ => ⟨S1x128x8x128x256, .f32⟩
  | .hbm, ⟨56, _⟩ => ⟨S1x128x8x128x256, .f32⟩
  | .hbm, ⟨57, _⟩ => ⟨S1x128x1x128x256, .i1⟩
  | .hbm, ⟨58, _⟩ => ⟨S_, .f32⟩
  | .hbm, ⟨59, _⟩ => ⟨S_, .f32⟩
  | .hbm, ⟨60, _⟩ => ⟨S1x128x8x128x256, .i1⟩
  | .hbm, ⟨61, _⟩ => ⟨S1x128x8x128x256, .f32⟩
  | .hbm, ⟨62, _⟩ => ⟨S1x128x8x128x256, .f32⟩
  | .hbm, ⟨63, _⟩ => ⟨S_, .f32⟩
  | .hbm, ⟨64, _⟩ => ⟨S1x128x8x128, .f32⟩
  | .hbm, ⟨65, _⟩ => ⟨S1x128x8x128x1, .f32⟩
  | .hbm, ⟨66, _⟩ => ⟨S1x128x8x128x256, .f32⟩
  | .hbm, ⟨67, _⟩ => ⟨S1x128x8x128x256, .f32⟩
  | .hbm, ⟨68, _⟩ => ⟨S1x128x8x128x256, .f32⟩
  | .hbm, ⟨69, _⟩ => ⟨S_, .f32⟩
  | .hbm, ⟨70, _⟩ => ⟨S1x128x8x128, .f32⟩
  | .hbm, ⟨71, _⟩ => ⟨S1x128x8x128x1, .f32⟩
  | .hbm, ⟨72, _⟩ => ⟨S1x128x128x8x64, .f32⟩
  | .hbm, ⟨73, _⟩ => ⟨S1x1x128x8x64, .f32⟩
  | .hbm, ⟨74, _⟩ => ⟨S_, .f32⟩
  | .hbm, ⟨75, _⟩ => ⟨S1x1x128x8x64, .f32⟩
  | .hbm, ⟨76, _⟩ => ⟨S1x127x128x8x64, .f32⟩
  | .hbm, ⟨77, _⟩ => ⟨S1x128x128x8x64, .f32⟩
  | .hbm, ⟨78, _⟩ => ⟨S1x128x256x8x64, .f32⟩
  | .hbm, ⟨79, _⟩ => ⟨S1x128x8x64x128, .f32⟩
  | .hbm, ⟨80, _⟩ => ⟨S1x128x128x8x64, .f32⟩
  | .hbm, ⟨81, _⟩ => ⟨S1x128x128x8x1, .f32⟩
  | .hbm, ⟨82, _⟩ => ⟨S1x128x128x8x64, .f32⟩
  | .hbm, ⟨83, _⟩ => ⟨S1x128x128x8x64, .f32⟩
  | .hbm, ⟨84, _⟩ => ⟨S1x128x8x128x1, .f32⟩
  | .hbm, ⟨85, _⟩ => ⟨S1x128x8x128x1, .f32⟩
  | .hbm, ⟨86, _⟩ => ⟨S1x128x8x128, .f32⟩
  | .hbm, ⟨87, _⟩ => ⟨S1x128x128x8, .f32⟩
  | .hbm, ⟨88, _⟩ => ⟨S1x16384x8x64, .f32⟩
  | .hbm, ⟨89, _⟩ => ⟨S1x16384x8, .f32⟩
  | .hbm, ⟨90, _⟩ => ⟨S16384x512, .f32⟩
  | .hbm, ⟨91, _⟩ => ⟨S16384x512, .f32⟩
  | .hbm, ⟨92, _⟩ => ⟨S16384x512, .f32⟩
  | .hbm, ⟨93, _⟩ => ⟨S16384x1536, .f32⟩
  | .hbm, ⟨94, _⟩ => ⟨S16384x1536, .bf16⟩
  | .hbm, ⟨95, _⟩ => ⟨S1x16384x8x64, .f32⟩
  | .hbm, ⟨96, _⟩ => ⟨S_, .f32⟩
  | .hbm, ⟨97, _⟩ => ⟨S1x16384x8, .f32⟩
  | .hbm, ⟨98, _⟩ => ⟨S1x16384x8, .f32⟩
  | .hbm, ⟨99, _⟩ => ⟨S1x16384x8x1, .f32⟩
  | .hbm, ⟨100, _⟩ => ⟨S1x16384x8x64, .f32⟩
  | .hbm, ⟨101, _⟩ => ⟨S16384x512, .f32⟩
  | .hbm, ⟨102, _⟩ => ⟨S1x128x256, .i1⟩
  | .hbm, ⟨103, _⟩ => ⟨S128x256, .i1⟩
  | .hbm, ⟨104, _⟩ => ⟨S_, .f32⟩
  | .hbm, ⟨105, _⟩ => ⟨S_, .f32⟩
  | .hbm, ⟨106, _⟩ => ⟨S8x128x256, .i1⟩
  | .hbm, ⟨107, _⟩ => ⟨S8x128x256, .f32⟩
  | .hbm, ⟨108, _⟩ => ⟨S8x128x256, .f32⟩
  | .hbm, ⟨109, _⟩ => ⟨S1x16384x8x1, .f32⟩
  | .hbm, ⟨110, _⟩ => ⟨S1x16384x8x64, .f32⟩
  | .hbm, ⟨111, _⟩ => ⟨S16384x512, .f32⟩
  | .hbm, ⟨112, _⟩ => ⟨S16384x512, .f32⟩
  | .hbm, ⟨113, _⟩ => ⟨S16384x512, .bf16⟩
  | .hbm, ⟨114, _⟩ => ⟨S16384x512, .bf16⟩
  | .hbm, ⟨115, _⟩ => ⟨S16384x512, .bf16⟩
  | .hbm, ⟨116, _⟩ => ⟨S16384x512, .bf16⟩
  | .hbm, ⟨117, _⟩ => ⟨S8x128x256, .f32⟩
  | .local _ .vmem, ⟨0, _⟩ => ⟨S512x512, .bf16⟩
  | .local _ .vmem, ⟨1, _⟩ => ⟨S512x512, .bf16⟩
  | .local _ .vmem, ⟨2, _⟩ => ⟨S128x512, .bf16⟩
  | .local _ .vmem, ⟨3, _⟩ => ⟨S128x512, .bf16⟩
  | .local _ .vmem, ⟨4, _⟩ => ⟨S512x512, .bf16⟩
  | .local _ .vmem, ⟨5, _⟩ => ⟨S512x512, .bf16⟩
  | .local _ .vmem, ⟨6, _⟩ => ⟨S128x512, .bf16⟩
  | .local _ .vmem, ⟨7, _⟩ => ⟨S128x512, .bf16⟩
  | .local _ .vmem, ⟨8, _⟩ => ⟨S512x512, .bf16⟩
  | .local _ .vmem, ⟨9, _⟩ => ⟨S512x512, .bf16⟩
  | .local _ .vmem, ⟨10, _⟩ => ⟨S8x128x256, .f32⟩
  | .local _ .vmem, ⟨11, _⟩ => ⟨S512x512, .f32⟩
  | .local _ .vmem, ⟨12, _⟩ => ⟨S512x512, .f32⟩
  | .local _ .vmem, ⟨13, _⟩ => ⟨S512x512, .bf16⟩
  | .local _ .vmem, ⟨14, _⟩ => ⟨S512x512, .bf16⟩
  | .local _ .vmem, ⟨15, _⟩ => ⟨S512x512, .f32⟩
  | .local _ .vmem, ⟨16, _⟩ => ⟨S512x512, .f32⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S8x128x256, .f32⟩
  | .local _ .vmem, ⟨24, _⟩ => ⟨S512x512, .f32⟩
  | .local _ .vmem, ⟨25, _⟩ => ⟨S512x512, .f32⟩
  | .local _ .vmem, ⟨26, _⟩ => ⟨S8x128x256, .f32⟩
  | .local _ .vmem, ⟨27, _⟩ => ⟨S8x128x256, .f32⟩
  | .local _ .vmem, ⟨28, _⟩ => ⟨S8x128x256, .bf16⟩
  | .local _ .vmem, ⟨29, _⟩ => ⟨S8x128x256, .bf16⟩
  | _, _ => ⟨S1x16384x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_6 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_8 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_9 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_10 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_cst_11 : Ref sig .tc := ⟨.hbm, 104, rfl⟩
abbrev main_call1_v0 : Ref sig .tc := ⟨.hbm, 105, rfl⟩
abbrev main_call1_v1 : Ref sig .tc := ⟨.hbm, 106, rfl⟩
abbrev main_call1_v2 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88_0 : Ref sig .tc := ⟨.hbm, 114, rfl⟩
abbrev main_v88_1 : Ref sig .tc := ⟨.hbm, 115, rfl⟩
abbrev main_v88_2 : Ref sig .tc := ⟨.hbm, 116, rfl⟩
abbrev main_v88_3 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨2, ![1, 33], ![false, false]⟩

def k0_cond3 (i : grid0.Coords) : BitVec 1 :=
  let arg1 : BitVec 32 := BitVec.ofNat 32 (i 1).val
  let c32_i32 : BitVec 32 := 32#32
  let v8 : BitVec 1 := Scalar.cmpi .slt arg1 c32_i32
  let v9 : BitVec 32 := Scalar.extui v8
  let c0_i32_4 : BitVec 32 := 0#32
  let v10 : BitVec 1 := Scalar.cmpi .ne v9 c0_i32_4
  v10

def k0_cond4 (i : grid0.Coords) : BitVec 1 :=
  let arg1 : BitVec 32 := BitVec.ofNat 32 (i 1).val
  let c32_i32_5 : BitVec 32 := 32#32
  let v11 : BitVec 1 := Scalar.cmpi .eq arg1 c32_i32_5
  let v12 : BitVec 32 := Scalar.extui v11
  let c0_i32_6 : BitVec 32 := 0#32
  let v13 : BitVec 1 := Scalar.cmpi .ne v12 c0_i32_6
  v13

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c31_i32 : BitVec 32 := 31#32
  let v1 : BitVec 32 := Scalar.minsi arg1 c31_i32
  let v2 : BitVec 32 := Scalar.addi v0 v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c31_i32 : BitVec 32 := 31#32
  let v1 : BitVec 32 := Scalar.minsi arg1 c31_i32
  let v2 : BitVec 32 := Scalar.addi v0 v1
  let c4_i32 : BitVec 32 := 4#32
  let v3 : BitVec 32 := Scalar.muli v2 c4_i32
  let c1_i32 : BitVec 32 := 1#32
  let v4 : BitVec 32 := Scalar.subi v3 c1_i32
  let c0_i32 : BitVec 32 := 0#32
  let v5 : BitVec 32 := Scalar.maxsi v4 c0_i32
  let c1_i32_0 : BitVec 32 := 1#32
  let c0_i32_1 : BitVec 32 := 0#32
  ![v5.toNat, c1_i32_0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c31_i32 : BitVec 32 := 31#32
  let v1 : BitVec 32 := Scalar.minsi arg1 c31_i32
  let v2 : BitVec 32 := Scalar.addi v0 v1
  let c1_i32 : BitVec 32 := 1#32
  let c0_i32 : BitVec 32 := 0#32
  ![v2.toNat, c1_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c31_i32 : BitVec 32 := 31#32
  let v1 : BitVec 32 := Scalar.minsi arg1 c31_i32
  let v2 : BitVec 32 := Scalar.addi v0 v1
  let c4_i32 : BitVec 32 := 4#32
  let v3 : BitVec 32 := Scalar.muli v2 c4_i32
  let c1_i32 : BitVec 32 := 1#32
  let v4 : BitVec 32 := Scalar.subi v3 c1_i32
  let c0_i32 : BitVec 32 := 0#32
  let v5 : BitVec 32 := Scalar.maxsi v4 c0_i32
  let c2_i32 : BitVec 32 := 2#32
  let c0_i32_0 : BitVec 32 := 0#32
  ![v5.toNat, c2_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c31_i32 : BitVec 32 := 31#32
  let v1 : BitVec 32 := Scalar.minsi arg1 c31_i32
  let v2 : BitVec 32 := Scalar.addi v0 v1
  let c2_i32 : BitVec 32 := 2#32
  let c0_i32 : BitVec 32 := 0#32
  ![v2.toNat, c2_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c31_i32 : BitVec 32 := 31#32
  let v1 : BitVec 32 := Scalar.minsi arg1 c31_i32
  let v2 : BitVec 32 := Scalar.addi v0 v1
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c31_i32 : BitVec 32 := 31#32
  let v1 : BitVec 32 := Scalar.minsi arg1 c31_i32
  let v2 : BitVec 32 := Scalar.addi v0 v1
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c31_i32 : BitVec 32 := 31#32
  let v1 : BitVec 32 := Scalar.minsi arg1 c31_i32
  let v2 : BitVec 32 := Scalar.addi v0 v1
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c31_i32 : BitVec 32 := 31#32
  let v1 : BitVec 32 := Scalar.minsi arg1 c31_i32
  let v2 : BitVec 32 := Scalar.addi v0 v1
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let c31_i32 : BitVec 32 := 31#32
  let v2 : BitVec 32 := Scalar.maxsi c0_i32 v1
  let v3 : BitVec 32 := Scalar.minsi c31_i32 v2
  let v4 : BitVec 32 := Scalar.addi v0 v3
  let c0_i32_0 : BitVec 32 := 0#32
  let c0_i32_1 : BitVec 32 := 0#32
  ![v4.toNat, c0_i32_0.toNat]

def cc0_transform_11 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let c31_i32 : BitVec 32 := 31#32
  let v2 : BitVec 32 := Scalar.maxsi c0_i32 v1
  let v3 : BitVec 32 := Scalar.minsi c31_i32 v2
  let v4 : BitVec 32 := Scalar.addi v0 v3
  let c0_i32_0 : BitVec 32 := 0#32
  let c0_i32_1 : BitVec 32 := 0#32
  ![v4.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S8x128x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== KernelIdeal.lean ====
variable {F : FTy → Type} [FloatOps F] [Named F]
def κ : String → Option EReal := fun
  | "mask" => some ⊥
  | _ => none
-- ==== ReferenceIdeal.lean ====
abbrev S1x16384x8x64 : Shape := ⟨4, ![1, 16384, 8, 64]⟩
abbrev S8x128x256 : Shape := ⟨3, ![8, 128, 256]⟩
abbrev S1x16384x8 : Shape := ⟨3, ![1, 16384, 8]⟩
abbrev S1x16384x1x8x64 : Shape := ⟨5, ![1, 16384, 1, 8, 64]⟩
abbrev S1x1x16384x8x64 : Shape := ⟨5, ![1, 1, 16384, 8, 64]⟩
abbrev S_ : Shape := ⟨0, ![]⟩
abbrev S1x128x128x8x64 : Shape := ⟨5, ![1, 128, 128, 8, 64]⟩
abbrev S1x1x128x8x64 : Shape := ⟨5, ![1, 1, 128, 8, 64]⟩
abbrev S1x127x128x8x64 : Shape := ⟨5, ![1, 127, 128, 8, 64]⟩
abbrev S1x128x256x8x64 : Shape := ⟨5, ![1, 128, 256, 8, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x1x1 : Shape := ⟨3, ![128, 1, 1]⟩
abbrev S1x1x256 : Shape := ⟨3, ![1, 1, 256]⟩
abbrev S128x1x256 : Shape := ⟨3, ![128, 1, 256]⟩
abbrev S1x128x256 : Shape := ⟨3, ![1, 128, 256]⟩
abbrev S128x128x256 : Shape := ⟨3, ![128, 128, 256]⟩
abbrev S1x128x8x128x256 : Shape := ⟨5, ![1, 128, 8, 128, 256]⟩
abbrev S1x1x8x128x256 : Shape := ⟨5, ![1, 1, 8, 128, 256]⟩
abbrev S1x128x1x128x256 : Shape := ⟨5, ![1, 128, 1, 128, 256]⟩
abbrev S1x128x8x128 : Shape := ⟨4, ![1, 128, 8, 128]⟩
abbrev S1x128x8x128x1 : Shape := ⟨5, ![1, 128, 8, 128, 1]⟩
abbrev S1x128x8x64x128 : Shape := ⟨5, ![1, 128, 8, 64, 128]⟩
abbrev S1x128x128x8x1 : Shape := ⟨5, ![1, 128, 128, 8, 1]⟩
abbrev S1x128x128x8 : Shape := ⟨4, ![1, 128, 128, 8]⟩
abbrev S1x1x16384x8 : Shape := ⟨4, ![1, 1, 16384, 8]⟩
abbrev S1x16384x1x8 : Shape := ⟨4, ![1, 16384, 1, 8]⟩
abbrev S1x128x8x64x256 : Shape := ⟨5, ![1, 128, 8, 64, 256]⟩
abbrev S128x8x128 : Shape := ⟨3, ![128, 8, 128]⟩
abbrev S1x8x128x256 : Shape := ⟨4, ![1, 8, 128, 256]⟩
abbrev S1x128x8x256x64 : Shape := ⟨5, ![1, 128, 8, 256, 64]⟩
abbrev S1x128x8x128x64 : Shape := ⟨5, ![1, 128, 8, 128, 64]⟩
abbrev S16384x512 : Shape := ⟨2, ![16384, 512]⟩

abbrev nBuf : Space → Nat
  | .hbm => 229
  | .vmem => 0
  | .smem => 0
  | _ => 0

abbrev hbmTy0_0 (i : Nat) : BufTy := match i % 128 with
  | 0 => ⟨S1x16384x8x64, .f32⟩
  | 1 => ⟨S1x16384x8x64, .f32⟩
  | 2 => ⟨S1x16384x8x64, .f32⟩
  | 3 => ⟨S8x128x256, .f32⟩
  | 4 => ⟨S1x16384x8x64, .f32⟩
  | 5 => ⟨S1x16384x8, .f32⟩
  | 6 => ⟨S1x16384x1x8x64, .f32⟩
  | 7 => ⟨S1x1x16384x8x64, .f32⟩
  | 8 => ⟨S1x16384x8x64, .f32⟩
  | 9 => ⟨S_, .i32⟩
  | 10 => ⟨S_, .f32⟩
  | 11 => ⟨S1x16384x8x64, .f32⟩
  | 12 => ⟨S_, .f32⟩
  | 13 => ⟨S1x128x128x8x64, .f32⟩
  | 14 => ⟨S1x16384x1x8x64, .f32⟩
  | 15 => ⟨S1x1x16384x8x64, .f32⟩
  | 16 => ⟨S1x16384x8x64, .f32⟩
  | 17 => ⟨S_, .i32⟩
  | 18 => ⟨S_, .f32⟩
  | 19 => ⟨S1x16384x8x64, .f32⟩
  | 20 => ⟨S_, .f32⟩
  | 21 => ⟨S1x128x128x8x64, .f32⟩
  | 22 => ⟨S1x1x128x8x64, .f32⟩
  | 23 => ⟨S_, .f32⟩
  | 24 => ⟨S1x1x128x8x64, .f32⟩
  | 25 => ⟨S1x127x128x8x64, .f32⟩
  | 26 => ⟨S1x128x128x8x64, .f32⟩
  | 27 => ⟨S_, .f32⟩
  | 28 => ⟨S1x1x128x8x64, .f32⟩
  | 29 => ⟨S1x128x256x8x64, .f32⟩
  | 30 => ⟨S1x16384x1x8x64, .f32⟩
  | 31 => ⟨S1x1x16384x8x64, .f32⟩
  | 32 => ⟨S1x16384x8x64, .f32⟩
  | 33 => ⟨S_, .i32⟩
  | 34 => ⟨S_, .f32⟩
  | 35 => ⟨S1x16384x8x64, .f32⟩
  | 36 => ⟨S_, .f32⟩
  | 37 => ⟨S1x128x128x8x64, .f32⟩
  | 38 => ⟨S1x1x128x8x64, .f32⟩
  | 39 => ⟨S_, .f32⟩
  | 40 => ⟨S1x1x128x8x64, .f32⟩
  | 41 => ⟨S1x127x128x8x64, .f32⟩
  | 42 => ⟨S1x128x128x8x64, .f32⟩
  | 43 => ⟨S_, .f32⟩
  | 44 => ⟨S1x1x128x8x64, .f32⟩
  | 45 => ⟨S1x128x256x8x64, .f32⟩
  | 46 => ⟨S128, .i32⟩
  | 47 => ⟨S128x1, .i32⟩
  | 48 => ⟨S256, .i32⟩
  | 49 => ⟨S1x256, .i32⟩
  | 50 => ⟨S_, .i32⟩
  | 51 => ⟨S128x1, .i32⟩
  | 52 => ⟨S128x1, .i32⟩
  | 53 => ⟨S128x256, .i32⟩
  | 54 => ⟨S128x256, .i32⟩
  | 55 => ⟨S128x256, .i32⟩
  | 56 => ⟨S128, .i32⟩
  | 57 => ⟨S128x1x1, .i32⟩
  | 58 => ⟨S_, .i32⟩
  | 59 => ⟨S128x256, .i32⟩
  | 60 => ⟨S128x256, .i1⟩
  | 61 => ⟨S_, .i32⟩
  | 62 => ⟨S128x256, .i32⟩
  | 63 => ⟨S128x256, .i1⟩
  | 64 => ⟨S128x256, .i1⟩
  | 65 => ⟨S_, .i32⟩
  | 66 => ⟨S128x1x1, .i32⟩
  | 67 => ⟨S128x1x1, .i32⟩
  | 68 => ⟨S_, .i32⟩
  | 69 => ⟨S128x1x1, .i32⟩
  | 70 => ⟨S128x1x1, .i32⟩
  | 71 => ⟨S1x1x256, .i32⟩
  | 72 => ⟨S128x1x256, .i32⟩
  | 73 => ⟨S128x1x256, .i32⟩
  | 74 => ⟨S128x1x256, .i32⟩
  | 75 => ⟨S_, .i32⟩
  | 76 => ⟨S128x1x256, .i32⟩
  | 77 => ⟨S128x1x256, .i1⟩
  | 78 => ⟨S1x128x256, .i1⟩
  | 79 => ⟨S128x128x256, .i1⟩
  | 80 => ⟨S128x128x256, .i1⟩
  | 81 => ⟨S128x128x256, .i1⟩
  | 82 => ⟨S1x128x8x128x256, .f32⟩
  | 83 => ⟨S_, .f32⟩
  | 84 => ⟨S1x128x8x128x256, .f32⟩
  | 85 => ⟨S1x128x8x128x256, .f32⟩
  | 86 => ⟨S1x1x8x128x256, .f32⟩
  | 87 => ⟨S1x128x8x128x256, .f32⟩
  | 88 => ⟨S1x128x8x128x256, .f32⟩
  | 89 => ⟨S1x128x1x128x256, .i1⟩
  | 90 => ⟨S_, .f32⟩
  | 91 => ⟨S_, .f32⟩
  | 92 => ⟨S1x128x8x128x256, .i1⟩
  | 93 => ⟨S1x128x8x128x256, .f32⟩
  | 94 => ⟨S1x128x8x128x256, .f32⟩
  | 95 => ⟨S_, .f32⟩
  | 96 => ⟨S1x128x8x128x256, .f32⟩
  | 97 => ⟨S_, .f32⟩
  | 98 => ⟨S1x128x8x128, .f32⟩
  | 99 => ⟨S1x128x8x128x1, .f32⟩
  | 100 => ⟨S1x128x8x128x256, .f32⟩
  | 101 => ⟨S1x128x8x128x256, .i1⟩
  | 102 => ⟨S1x128x8x128x256, .f32⟩
  | 103 => ⟨S_, .f32⟩
  | 104 => ⟨S1x128x8x128, .f32⟩
  | 105 => ⟨S1x128x8x128x1, .f32⟩
  | 106 => ⟨S1x128x8x128x256, .f32⟩
  | 107 => ⟨S1x128x8x128x256, .f32⟩
  | 108 => ⟨S1x128x8x128x256, .f32⟩
  | 109 => ⟨S_, .f32⟩
  | 110 => ⟨S1x128x8x128, .f32⟩
  | 111 => ⟨S1x128x8x128x1, .f32⟩
  | 112 => ⟨S1x128x8x64x128, .f32⟩
  | 113 => ⟨S1x128x128x8x64, .f32⟩
  | 114 => ⟨S1x128x128x8x1, .f32⟩
  | 115 => ⟨S1x128x128x8x64, .f32⟩
  | 116 => ⟨S1x128x128x8x64, .f32⟩
  | 117 => ⟨S1x128x128x8x1, .f32⟩
  | 118 => ⟨S_, .f32⟩
  | 119 => ⟨S1x128x128x8x1, .f32⟩
  | 120 => ⟨S1x128x128x8x1, .f32⟩
  | 121 => ⟨S1x128x8x128x1, .f32⟩
  | 122 => ⟨S1x128x8x128x1, .f32⟩
  | 123 => ⟨S1x128x8x128, .f32⟩
  | 124 => ⟨S1x128x128x8, .f32⟩
  | 125 => ⟨S1x1x16384x8x64, .f32⟩
  | 126 => ⟨S1x16384x1x8x64, .f32⟩
  | 127 => ⟨S1x16384x8x64, .f32⟩
  | _ => ⟨S1x16384x8x64, .f32⟩

abbrev hbmTy0_1 (i : Nat) : BufTy := match i % 128 with
  | 0 => ⟨S1x1x16384x8, .f32⟩
  | 1 => ⟨S1x16384x1x8, .f32⟩
  | 2 => ⟨S1x16384x8, .f32⟩
  | 3 => ⟨S1x16384x1x8, .f32⟩
  | 4 => ⟨S1x1x16384x8, .f32⟩
  | 5 => ⟨S1x128x128x8, .f32⟩
  | 6 => ⟨S1x16384x1x8x64, .f32⟩
  | 7 => ⟨S1x1x16384x8x64, .f32⟩
  | 8 => ⟨S1x128x128x8x64, .f32⟩
  | 9 => ⟨S1x128x8x128, .f32⟩
  | 10 => ⟨S1x128x8x128x1, .f32⟩
  | 11 => ⟨S1x128x8x128x1, .f32⟩
  | 12 => ⟨S1x128x128x8x64, .f32⟩
  | 13 => ⟨S1x128x128x8x64, .f32⟩
  | 14 => ⟨S1x128x128x8x64, .f32⟩
  | 15 => ⟨S_, .f32⟩
  | 16 => ⟨S1x128x128x8, .f32⟩
  | 17 => ⟨S1x128x128x8x1, .f32⟩
  | 18 => ⟨S1x128x128x8x1, .f32⟩
  | 19 => ⟨S1x128x128x8x64, .f32⟩
  | 20 => ⟨S1x128x128x8x64, .f32⟩
  | 21 => ⟨S1x128x8x128x1, .f32⟩
  | 22 => ⟨S1x128x8x128x1, .f32⟩
  | 23 => ⟨S1x128x8x64x128, .f32⟩
  | 24 => ⟨S1x128x8x128x256, .f32⟩
  | 25 => ⟨S1x128x8x64x256, .f32⟩
  | 26 => ⟨S1x128x256x8x64, .f32⟩
  | 27 => ⟨S_, .f32⟩
  | 28 => ⟨S128x8x128, .f32⟩
  | 29 => ⟨S1x128x8x128, .f32⟩
  | 30 => ⟨S1x128x8x128x256, .f32⟩
  | 31 => ⟨S1x128x8x128x256, .f32⟩
  | 32 => ⟨S1x128x8x128x256, .f32⟩
  | 33 => ⟨S1x128x8x128x256, .f32⟩
  | 34 => ⟨S_, .f32⟩
  | 35 => ⟨S1x128x8x128, .f32⟩
  | 36 => ⟨S1x128x8x128x1, .f32⟩
  | 37 => ⟨S1x128x8x128x1, .f32⟩
  | 38 => ⟨S_, .f32⟩
  | 39 => ⟨S128x8x128, .f32⟩
  | 40 => ⟨S1x128x8x128, .f32⟩
  | 41 => ⟨S1x128x8x128, .f32⟩
  | 42 => ⟨S1x128x8x128x256, .f32⟩
  | 43 => ⟨S1x128x8x128x256, .f32⟩
  | 44 => ⟨S1x128x8x128x256, .f32⟩
  | 45 => ⟨S_, .f32⟩
  | 46 => ⟨S1x128x8x128x256, .f32⟩
  | 47 => ⟨S1x128x8x128x256, .f32⟩
  | 48 => ⟨S_, .f32⟩
  | 49 => ⟨S1x8x128x256, .f32⟩
  | 50 => ⟨S1x1x8x128x256, .f32⟩
  | 51 => ⟨S_, .f32⟩
  | 52 => ⟨S8x128x256, .f32⟩
  | 53 => ⟨S_, .f32⟩
  | 54 => ⟨S1x128x8x128x256, .f32⟩
  | 55 => ⟨S1x128x8x128x256, .f32⟩
  | 56 => ⟨S1x128x8x256x64, .f32⟩
  | 57 => ⟨S1x128x256x8x64, .f32⟩
  | 58 => ⟨S1x128x8x128x64, .f32⟩
  | 59 => ⟨S1x128x128x8x64, .f32⟩
  | 60 => ⟨S1x128x128x8x64, .f32⟩
  | 61 => ⟨S1x128x128x8x64, .f32⟩
  | 62 => ⟨S1x1x128x8x64, .f32⟩
  | 63 => ⟨S1x127x128x8x64, .f32⟩
  | 64 => ⟨S_, .f32⟩
  | 65 => ⟨S1x128x128x8x64, .f32⟩
  | 66 => ⟨S1x128x128x8x64, .f32⟩
  | 67 => ⟨S1x16384x8x64, .f32⟩
  | 68 => ⟨S_, .f32⟩
  | 69 => ⟨S1x16384x8x64, .f32⟩
  | 70 => ⟨S1x16384x8x64, .f32⟩
  | 71 => ⟨S1x1x16384x8x64, .f32⟩
  | 72 => ⟨S1x16384x1x8x64, .f32⟩
  | 73 => ⟨S1x16384x8x64, .f32⟩
  | 74 => ⟨S1x128x128x8x64, .f32⟩
  | 75 => ⟨S1x128x128x8x64, .f32⟩
  | 76 => ⟨S1x1x128x8x64, .f32⟩
  | 77 => ⟨S1x127x128x8x64, .f32⟩
  | 78 => ⟨S_, .f32⟩
  | 79 => ⟨S1x128x128x8x64, .f32⟩
  | 80 => ⟨S1x128x128x8x64, .f32⟩
  | 81 => ⟨S1x16384x8x64, .f32⟩
  | 82 => ⟨S_, .f32⟩
  | 83 => ⟨S1x16384x8x64, .f32⟩
  | 84 => ⟨S1x16384x8x64, .f32⟩
  | 85 => ⟨S1x1x16384x8x64, .f32⟩
  | 86 => ⟨S1x16384x1x8x64, .f32⟩
  | 87 => ⟨S1x16384x8x64, .f32⟩
  | 88 => ⟨S1x16384x8x64, .f32⟩
  | 89 => ⟨S_, .f32⟩
  | 90 => ⟨S1x16384x8x64, .f32⟩
  | 91 => ⟨S1x16384x8x64, .f32⟩
  | 92 => ⟨S1x1x16384x8x64, .f32⟩
  | 93 => ⟨S1x16384x1x8x64, .f32⟩
  | 94 => ⟨S1x16384x8x64, .f32⟩
  | 95 => ⟨S16384x512, .f32⟩
  | 96 => ⟨S16384x512, .bf16⟩
  | 97 => ⟨S16384x512, .f32⟩
  | 98 => ⟨S16384x512, .bf16⟩
  | 99 => ⟨S16384x512, .f32⟩
  | 100 => ⟨S16384x512, .bf16⟩
  | _ => ⟨S1x16384x8x64, .f32⟩

abbrev hbmTy (i : Nat) : BufTy := match i / 128 with
  | 0 => hbmTy0_0 i
  | 1 => hbmTy0_1 i
  | _ => ⟨S1x16384x8x64, .f32⟩

abbrev bufTy : (tb : Table) → Fin (tcTables nBuf tb) → BufTy
  | .hbm, ⟨i, _⟩ => hbmTy i
  | _, _ => ⟨S1x16384x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3_0 : Ref sig .tc := ⟨.hbm, 11, rfl⟩
abbrev main_v3_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_call1_v0 : Ref sig .tc := ⟨.hbm, 18, rfl⟩
abbrev main_v8_0 : Ref sig .tc := ⟨.hbm, 19, rfl⟩
abbrev main_v8_1 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_call2_v0 : Ref sig .tc := ⟨.hbm, 34, rfl⟩
abbrev main_v19_0 : Ref sig .tc := ⟨.hbm, 35, rfl⟩
abbrev main_v19_1 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_6 : Ref sig .tc := ⟨.hbm, 58, rfl⟩
abbrev main_v38 : Ref sig .tc := ⟨.hbm, 59, rfl⟩
abbrev main_v39 : Ref sig .tc := ⟨.hbm, 60, rfl⟩
abbrev main_c_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_8 : Ref sig .tc := ⟨.hbm, 65, rfl⟩
abbrev main_v43 : Ref sig .tc := ⟨.hbm, 66, rfl⟩
abbrev main_v44 : Ref sig .tc := ⟨.hbm, 67, rfl⟩
abbrev main_c_9 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_12 : Ref sig .tc := ⟨.hbm, 90, rfl⟩
abbrev main_call3_v0 : Ref sig .tc := ⟨.hbm, 91, rfl⟩
abbrev main_v64_1 : Ref sig .tc := ⟨.hbm, 92, rfl⟩
abbrev main_call3_v2 : Ref sig .tc := ⟨.hbm, 93, rfl⟩
abbrev main_v64_0 : Ref sig .tc := ⟨.hbm, 94, rfl⟩
abbrev main_call3_cst : Ref sig .tc := ⟨.hbm, 95, rfl⟩
abbrev main_v64_2 : Ref sig .tc := ⟨.hbm, 96, rfl⟩
abbrev main_cst_13 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_14 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_15 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_16 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_cst_17 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_cst_18 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_cst_19 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_cst_20 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_call4_cst : Ref sig .tc := ⟨.hbm, 173, rfl⟩
abbrev main_call4_v0 : Ref sig .tc := ⟨.hbm, 174, rfl⟩
abbrev main_v133 : Ref sig .tc := ⟨.hbm, 175, rfl⟩
abbrev main_cst_21 : Ref sig .tc := ⟨.hbm, 176, rfl⟩
abbrev main_v134 : Ref sig .tc := ⟨.hbm, 177, rfl⟩
abbrev main_v135 : Ref sig .tc := ⟨.hbm, 178, rfl⟩
abbrev main_cst_22 : Ref sig .tc := ⟨.hbm, 179, rfl⟩
abbrev main_v136 : Ref sig .tc := ⟨.hbm, 180, rfl⟩
abbrev main_cst_23 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_cst_24 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_call5_cst : Ref sig .tc := ⟨.hbm, 196, rfl⟩
abbrev main_call5_v0 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_cst_25 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_call6_cst : Ref sig .tc := ⟨.hbm, 210, rfl⟩
abbrev main_call6_v0 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_call7_cst : Ref sig .tc := ⟨.hbm, 217, rfl⟩
abbrev main_call7_v0 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩

abbrev nD : Nat := 1
abbrev τ : Topo := Topo.v7x

variable {F : FTy → Type} [FloatOps F]
-- ==== Proof.Spec.lean ====
/- The gradient of one group of the windowed attention, written as plain sums of reals over its index sets: what both
   programs are shown to compute. -/
module

public import Idealize.ShloMosaic.Lib.Pointwise
public import Idealize.ShloMosaic.Lib.IdealHost

@[expose] public section

noncomputable section

namespace Cert.Spec

open Idealize.ShloMosaic

/-- An array of one batch, 16384 positions, 8 heads of 64 lanes. -/
abbrev A4 := (⟨4, ![1, 16384, 8, 64]⟩ : Shape).Idx → EReal
/-- An array of one batch, 16384 positions, 8 heads. -/
abbrev A3 := (⟨3, ![1, 16384, 8]⟩ : Shape).Idx → EReal
/-- An array of 8 heads, 128 queries, 256 keys. -/
abbrev AB := (⟨3, ![8, 128, 256]⟩ : Shape).Idx → EReal

/-- Position `a` of block `n`. -/
def row (n a : Fin 128) : Fin 16384 := ⟨n.val * 128 + a.val, by omega⟩

/-- Whether the query sees the key: at most 128 positions back, not ahead, and not before the sequence. -/
def ok (n a : Fin 128) (b : Fin 256) : Bool := decide (a.val ≤ b.val ∧ b.val ≤ a.val + 128 ∧ 128 ≤ 128 * n.val + b.val)

/-! ## Extended reals that are real -/

theorem ofBits_eighth : Ideal.ofBits .f32 0x3E000000#32 = (((1 : ℝ) / 8 : ℝ) : EReal) := by
  simp [Ideal.ofBits, Ideal.ieee, -EReal.coe_mul]; norm_num

theorem ofBits_ninf : Ideal.ofBits .f32 0xFF800000#32 = (⊥ : EReal) := by
  simp [Ideal.ofBits, Ideal.ieee]

theorem ofBits_pinf : Ideal.ofBits .f32 0x7F800000#32 = (⊤ : EReal) := by
  simp [Ideal.ofBits, Ideal.ieee]

/-- A finite sum of reals, taken among the extended reals. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert x s hx ih => rw [Finset.sum_insert hx, Finset.sum_insert hx, ih, EReal.coe_add]

theorem sum_eq_coe {ι : Type*} {s : Finset ι} {g : ι → EReal} {f : ι → ℝ} (h : ∀ i, g i = ((f i : ℝ) : EReal)) :
    (∑ i ∈ s, g i) = ((∑ i ∈ s, f i : ℝ) : EReal) := by
  rw [Finset.sum_congr rfl fun i _ => h i, coe_sum]

theorem div_coe_coe {x y : ℝ} (h : y ≠ 0) : Ideal.div (x : EReal) (y : EReal) = ((x / y : ℝ) : EReal) := by
  rw [Ideal.div_coe h, ← EReal.coe_mul, mul_one_div]

/-! ## One row of a softmax -/

section Row

variable (k : Fin 256 → Bool) (s : Fin 256 → ℝ)

/-- The row's weights before they are divided: the exponential where the key is seen, zero elsewhere. -/
def wt (b : Fin 256) : ℝ := if k b then Real.exp (s b) else 0
/-- Their sum. -/
def tot : ℝ := ∑ b, wt k s b
/-- The row's weights. -/
def pr (b : Fin 256) : ℝ := wt k s b / tot k s
/-- The row's logits: the score where the key is seen, minus infinity elsewhere. -/
def lg (b : Fin 256) : EReal := if k b then ((s b : ℝ) : EReal) else ⊥

variable {k s}

theorem tot_pos (hk : ∃ b, k b = true) : 0 < tot k s := by
  obtain ⟨b, hb⟩ := hk
  refine Finset.sum_pos' (fun i _ => ?_) ⟨b, Finset.mem_univ _, ?_⟩
  · unfold wt; split
    · exact (Real.exp_pos _).le
    · exact le_refl _
  · simp only [wt, hb, if_true]; exact Real.exp_pos _

theorem sum_pr (hk : ∃ b, k b = true) : ∑ b, pr k s b = 1 := by
  simp only [pr, ← Finset.sum_div]
  exact div_self (tot_pos hk).ne'

/-- The largest logit of a row that sees a key is real, and it is one of the logits. -/
theorem max_row (hk : ∃ b, k b = true) : ∃ μ : ℝ, Finset.univ.fold max (⊥ : EReal) (lg k s) = ((μ : ℝ) : EReal) ∧ ∃ b, lg k s b = ((μ : ℝ) : EReal) := by
  obtain ⟨b0, hb0⟩ := hk
  have e : Finset.univ.fold max (⊥ : EReal) (lg k s) = Finset.univ.sup (lg k s) := rfl
  rw [e]
  obtain ⟨b, _, hb⟩ := Finset.exists_mem_eq_sup (Finset.univ : Finset (Fin 256)) ⟨b0, Finset.mem_univ _⟩ (lg k s)
  have h0 : lg k s b0 ≤ Finset.univ.sup (lg k s) := Finset.le_sup (Finset.mem_univ b0)
  cases hkb : k b with
  | false =>
    rw [hb] at h0
    have : lg k s b = ⊥ := by simp [lg, hkb]
    rw [this, le_bot_iff] at h0
    simp [lg, hb0] at h0
  | true =>
    have : lg k s b = ((s b : ℝ) : EReal) := by simp [lg, hkb]
    exact ⟨s b, by rw [hb, this], b, this⟩

/-- The exponential of a logit less the real `μ`. -/
theorem exp_row (μ : ℝ) (b : Fin 256) : Ideal.exp (lg k s b - ((μ : ℝ) : EReal)) = ((wt k s b * Real.exp (-μ) : ℝ) : EReal) := by
  unfold lg wt
  split
  · rw [← EReal.coe_sub, Ideal.exp_coe, ← Real.exp_add, sub_eq_add_neg]
  · rw [EReal.bot_sub, Ideal.exp_bot, zero_mul, EReal.coe_zero]

theorem sum_wt (μ : ℝ) : ∑ b, wt k s b * Real.exp (-μ) = tot k s * Real.exp (-μ) := by
  rw [← Finset.sum_mul]; rfl

theorem scaled_pos (hk : ∃ b, k b = true) (μ : ℝ) : 0 < tot k s * Real.exp (-μ) := mul_pos (tot_pos hk) (Real.exp_pos _)

/-- A weight less its row's largest, over the sum of those: the row's weight again. -/
theorem ratio (hk : ∃ b, k b = true) (μ : ℝ) (b : Fin 256) :
    wt k s b * Real.exp (-μ) / (tot k s * Real.exp (-μ)) = pr k s b := by
  unfold pr
  rw [mul_div_mul_right _ _ (Real.exp_pos _).ne']

/-- The exponential of a logit less the row's log-sum: the row's weight. -/
theorem exp_lse (hk : ∃ b, k b = true) (μ : ℝ) (b : Fin 256) :
    Ideal.exp (lg k s b - ((μ + Real.log (tot k s * Real.exp (-μ)) : ℝ) : EReal)) = ((pr k s b : ℝ) : EReal) := by
  rw [exp_row, ← ratio hk μ, neg_add, Real.exp_add, Real.exp_neg (Real.log _), Real.exp_log (scaled_pos hk μ), ← mul_assoc, div_eq_mul_inv]

end Row

/-! ## The gradient -/

/-- The six arrays, as reals. -/
structure Inp where
  q : Fin 16384 → Fin 8 → Fin 64 → ℝ
  k : Fin 16384 → Fin 8 → Fin 64 → ℝ
  v : Fin 16384 → Fin 8 → Fin 64 → ℝ
  β : Fin 8 → Fin 128 → Fin 256 → ℝ
  g : Fin 16384 → Fin 8 → Fin 64 → ℝ
  l : Fin 16384 → Fin 8 → ℝ

/-- The entry of an array at key `b` of block `n`'s window: the block before (zero before the sequence), then the
    block itself. -/
def win (x : Fin 16384 → Fin 8 → Fin 64 → ℝ) (n : Fin 128) (b : Fin 256) (h : Fin 8) (d : Fin 64) : ℝ :=
  if hb : b.val < 128 then
    (if hn : n.val < 1 then 0 else x (row ⟨n.val - 1, by omega⟩ ⟨b.val, hb⟩) h d)
  else x (row n ⟨b.val - 128, by omega⟩) h d

namespace Inp

variable (X : Inp)

/-- The score of a query against a key of its window. -/
def S (n : Fin 128) (h : Fin 8) (a : Fin 128) (b : Fin 256) : ℝ :=
  (∑ d, X.q (row n a) h d * win X.k n b h d) * (1 / 8) + X.β h a b
/-- The attention's weight. -/
def P (n : Fin 128) (h : Fin 8) (a : Fin 128) (b : Fin 256) : ℝ := pr (ok n a) (X.S n h a) b
/-- The attention's output. -/
def O (n : Fin 128) (h : Fin 8) (a : Fin 128) (d : Fin 64) : ℝ := ∑ b, win X.v n b h d * X.P n h a b
/-- What a row's cotangents share. -/
def δ (n : Fin 128) (h : Fin 8) (a : Fin 128) : ℝ := (∑ d, X.g (row n a) h d * X.O n h a d) - X.l (row n a) h
/-- The cotangent of a score. -/
def dS (n : Fin 128) (h : Fin 8) (a : Fin 128) (b : Fin 256) : ℝ :=
  X.P n h a b * ((∑ d, X.g (row n a) h d * win X.v n b h d) - X.δ n h a)
/-- The cotangent of a query. -/
def dQ (n a : Fin 128) (h : Fin 8) (d : Fin 64) : ℝ := (∑ b, X.dS n h a b * win X.k n b h d) * (1 / 8)
/-- What block `n` gives to the cotangent of the keys of its window. -/
def fK (n : Fin 128) (b : Fin 256) (h : Fin 8) (d : Fin 64) : ℝ := ∑ a, X.dS n h a b * (X.q (row n a) h d * (1 / 8))
/-- What block `n` gives to the cotangent of the values of its window. -/
def fV (n : Fin 128) (b : Fin 256) (h : Fin 8) (d : Fin 64) : ℝ := ∑ a, X.P n h a b * X.g (row n a) h d
end Inp

/-- A position's share from its own block, and that from the block after it. -/
def both (f : Fin 128 → Fin 256 → Fin 8 → Fin 64 → ℝ) (n r : Fin 128) (h : Fin 8) (d : Fin 64) : ℝ :=
  f n ⟨128 + r.val, by omega⟩ h d + (if hn : n.val + 1 < 128 then f ⟨n.val + 1, hn⟩ ⟨r.val, by omega⟩ h d else 0)

namespace Inp
variable (X : Inp)
/-- The cotangent of a key. -/
def dK (n r : Fin 128) (h : Fin 8) (d : Fin 64) : ℝ := both X.fK n r h d
/-- The cotangent of a value. -/
def dV (n r : Fin 128) (h : Fin 8) (d : Fin 64) : ℝ := both X.fV n r h d
/-- The cotangent of the bias. -/
def dB (h : Fin 8) (a : Fin 128) (b : Fin 256) : ℝ := ∑ n, X.dS n h a b

theorem dS_of_not {n : Fin 128} {a : Fin 128} {b : Fin 256} (hk : ok n a b = false) (h : Fin 8) : X.dS n h a b = 0 := by
  simp [dS, P, pr, wt, hk]

theorem P_of_not {n : Fin 128} {a : Fin 128} {b : Fin 256} (hk : ok n a b = false) (h : Fin 8) : X.P n h a b = 0 := by
  simp [P, pr, wt, hk]

/-- Every query sees the key of its own position. -/
theorem sees (n a : Fin 128) : ∃ b, ok n a b = true :=
  ⟨⟨a.val + 128, by omega⟩, by simp only [ok, decide_eq_true_eq]; omega⟩

theorem sum_P (n : Fin 128) (h : Fin 8) (a : Fin 128) : ∑ b, X.P n h a b = 1 := sum_pr (sees n a)

/-- The weighted sum over a row of its products with the values, and the product with the output, agree. -/
theorem sum_gv (n : Fin 128) (h : Fin 8) (a : Fin 128) :
    ∑ b, X.P n h a b * (∑ d, X.g (row n a) h d * win X.v n b h d) = ∑ d, X.g (row n a) h d * X.O n h a d := by
  simp only [O, Finset.mul_sum]
  rw [Finset.sum_comm]
  exact Finset.sum_congr rfl fun d _ => Finset.sum_congr rfl fun b _ => by ring

/-- The cotangents of a row's scores sum to the cotangent of its log-sum. -/
theorem sum_dS (n : Fin 128) (h : Fin 8) (a : Fin 128) : ∑ b, X.dS n h a b = X.l (row n a) h := by
  simp only [dS, mul_sub, Finset.sum_sub_distrib, X.sum_gv, ← Finset.sum_mul, X.sum_P, δ]
  ring
end Inp

/-- That the six arrays are those reals. -/
structure Is (X : Inp) (q k v : A4) (β : AB) (g : A4) (l : A3) : Prop where
  q : ∀ r h d, q (ix4 0 r h d) = ((X.q r h d : ℝ) : EReal)
  k : ∀ r h d, k (ix4 0 r h d) = ((X.k r h d : ℝ) : EReal)
  v : ∀ r h d, v (ix4 0 r h d) = ((X.v r h d : ℝ) : EReal)
  β : ∀ h a b, β (ix3 h a b) = ((X.β h a b : ℝ) : EReal)
  g : ∀ r h d, g (ix4 0 r h d) = ((X.g r h d : ℝ) : EReal)
  l : ∀ r h, l (ix3 0 r h) = ((X.l r h : ℝ) : EReal)

end Cert.Spec

end
-- ==== Proof.RefA.lean ====
/- The reference's logits, index by index, as reals: the windows, the mask, the scores, a row's largest. -/
module

public import proofs.«01_k».proof.Proof.Spec
public import proofs.«01_k».proof.Proof.Gen.ReferenceIdeal.Run

@[expose] public section

set_option maxRecDepth 16384

noncomputable section

namespace Cert.ReferenceIdeal.Val

open Cert.ReferenceIdeal Cert.ReferenceIdeal.Gen Cert.ReferenceIdeal.Value Idealize.ShloMosaic Idealize.ShloMosaic.TcCoe Idealize.SL.Sem Idealize.ShloMosaic.StableHlo
open Cert.Spec

/-- The six argument arrays hold the reals `X`. -/
abbrev Holds (X : Inp) (V0 : Valuation τ sig (Elt Ideal)) : Prop :=
  Is X (V0 (Proc.devRef .tc main_arg0)) (V0 (Proc.devRef .tc main_arg1)) (V0 (Proc.devRef .tc main_arg2))
    (V0 (Proc.devRef .tc main_arg3)) (V0 (Proc.devRef .tc main_arg4)) (V0 (Proc.devRef .tc main_arg5))

theorem bmod_small (x : ℤ) (h1 : -2147483648 ≤ x) (h2 : x < 2147483648) : Int.bmod x (2 ^ 32) = x := by
  have e : ((2 ^ 32 : ℕ) : ℤ) = 4294967296 := by norm_num
  rw [Int.bmod, e]
  omega

theorem toInt_small (n : ℕ) (h : n < 2147483648) : (BitVec.ofNat 32 n).toInt = (n : ℤ) := by
  have e : (BitVec.ofNat 32 n).toNat = n := by rw [BitVec.toNat_ofNat]; omega
  rw [BitVec.toInt_eq_toNat_of_lt (by omega), e]

/-- The mask's words, as one condition on the numbers they hold. -/
theorem mask_word (n a b : ℕ) (hn : n < 128) (ha : a < 128) (hb : b < 256) :
    IntOp.andi (IntOp.andi (IntOp.cmpi CmpIPredicate.sge (IntOp.subi (IntOp.addi (BitVec.ofNat 32 a) 128#32) (BitVec.ofNat 32 b)) 0#32)
        (IntOp.cmpi CmpIPredicate.sle (IntOp.subi (IntOp.addi (BitVec.ofNat 32 a) 128#32) (BitVec.ofNat 32 b)) 128#32))
      (IntOp.cmpi CmpIPredicate.sge
        (IntOp.addi (IntOp.subi (IntOp.muli (BitVec.ofNat 32 n) 128#32) 128#32) (BitVec.ofNat 32 b)) 0#32) =
      BitVec.ofBool (decide (a ≤ b ∧ b ≤ a + 128 ∧ 128 ≤ 128 * n + b)) := by
  have c : (128#32).toInt = 128 := rfl
  have z : (0#32).toInt = 0 := rfl
  have e1 : (BitVec.ofNat 32 a + 128#32 - BitVec.ofNat 32 b).toInt = (a : ℤ) + 128 - b := by
    rw [BitVec.toInt_sub, BitVec.toInt_add, toInt_small a (by omega), toInt_small b (by omega), c, bmod_small (a + 128) (by omega) (by omega),
      bmod_small _ (by omega) (by omega)]
  have e2 : (BitVec.ofNat 32 n * 128#32 - 128#32 + BitVec.ofNat 32 b).toInt = (n : ℤ) * 128 - 128 + b := by
    rw [BitVec.toInt_add, BitVec.toInt_sub, BitVec.toInt_mul, toInt_small n (by omega), toInt_small b (by omega), c,
      bmod_small (n * 128) (by omega) (by omega), bmod_small (n * 128 - 128) (by omega) (by omega), bmod_small _ (by omega) (by omega)]
  simp only [IntOp.andi, IntOp.cmpi, IntOp.subi, IntOp.addi, IntOp.muli, BitVec.ofBool_and_ofBool, BitVec.sle, e1, e2, c, z]
  refine congrArg BitVec.ofBool ?_
  rw [Bool.eq_iff_iff]
  simp only [Bool.and_eq_true, decide_eq_true_eq]
  omega

/-- The two conditions that do not depend on the block. -/
theorem mask_word2 (a b : ℕ) (ha : a < 128) (hb : b < 256) :
    IntOp.andi (IntOp.cmpi CmpIPredicate.sge (IntOp.subi (IntOp.addi (BitVec.ofNat 32 a) 128#32) (BitVec.ofNat 32 b)) 0#32)
        (IntOp.cmpi CmpIPredicate.sle (IntOp.subi (IntOp.addi (BitVec.ofNat 32 a) 128#32) (BitVec.ofNat 32 b)) 128#32) =
      BitVec.ofBool (decide (a ≤ b ∧ b ≤ a + 128)) := by
  have c : (128#32).toInt = 128 := rfl
  have z : (0#32).toInt = 0 := rfl
  have e1 : (BitVec.ofNat 32 a + 128#32 - BitVec.ofNat 32 b).toInt = (a : ℤ) + 128 - b := by
    rw [BitVec.toInt_sub, BitVec.toInt_add, toInt_small a (by omega), toInt_small b (by omega), c, bmod_small (a + 128) (by omega) (by omega),
      bmod_small _ (by omega) (by omega)]
  simp only [IntOp.andi, IntOp.cmpi, IntOp.subi, IntOp.addi, BitVec.ofBool_and_ofBool, BitVec.sle, e1, c, z]
  refine congrArg BitVec.ofBool ?_
  rw [Bool.eq_iff_iff]
  simp only [Bool.and_eq_true, decide_eq_true_eq]
  omega

variable {X : Inp} {V0 : Valuation τ sig (Elt Ideal)}

theorem v4_at (H : Holds X V0) (n a : Fin 128) (h : Fin 8) (d : Fin 64) :
    (res_main_v4 V0 : S1x128x128x8x64.Idx → EReal) (ix5 0 n a h d) = ((X.q (row n a) h d : ℝ) : EReal) := by
  have hx := H.q (row n a) h d
  revert hx
  unfold res_main_v4
  generalize V0 (Proc.devRef .tc main_arg0) = x
  intro hx
  pointwise
  rw [dif_pos (by omega), ← hx]; rfl

theorem v9_at (H : Holds X V0) (n a : Fin 128) (h : Fin 8) (d : Fin 64) :
    (res_main_v9 V0 : S1x128x128x8x64.Idx → EReal) (ix5 0 n a h d) = ((X.k (row n a) h d : ℝ) : EReal) := by
  have hx := H.k (row n a) h d
  revert hx
  unfold res_main_v9
  generalize V0 (Proc.devRef .tc main_arg1) = x
  intro hx
  pointwise
  rw [dif_pos (by omega), ← hx]; rfl

theorem v20_at (H : Holds X V0) (n a : Fin 128) (h : Fin 8) (d : Fin 64) :
    (res_main_v20 V0 : S1x128x128x8x64.Idx → EReal) (ix5 0 n a h d) = ((X.v (row n a) h d : ℝ) : EReal) := by
  have hx := H.v (row n a) h d
  revert hx
  unfold res_main_v20
  generalize V0 (Proc.devRef .tc main_arg2) = x
  intro hx
  pointwise
  rw [dif_pos (by omega), ← hx]; rfl

theorem v15_at (H : Holds X V0) (n : Fin 128) (b : Fin 256) (h : Fin 8) (d : Fin 64) :
    (res_main_v15 V0 : S1x128x256x8x64.Idx → EReal) (ix5 0 n b h d) = ((win X.k n b h d : ℝ) : EReal) := by
  have hx := v9_at H
  revert hx
  unfold res_main_v15
  generalize res_main_v9 V0 = x
  intro hx
  pointwise
  unfold win
  split
  · split
    · rfl
    · exact hx _ _ _ _
  · exact hx _ _ _ _

theorem v26_at (H : Holds X V0) (n : Fin 128) (b : Fin 256) (h : Fin 8) (d : Fin 64) :
    (res_main_v26 V0 : S1x128x256x8x64.Idx → EReal) (ix5 0 n b h d) = ((win X.v n b h d : ℝ) : EReal) := by
  have hx := v20_at H
  revert hx
  unfold res_main_v26
  generalize res_main_v20 V0 = x
  intro hx
  pointwise
  unfold win
  split
  · split
    · rfl
    · exact hx _ _ _ _
  · exact hx _ _ _ _

theorem v64_1_at (n : Fin 128) (h : Fin 8) (a : Fin 128) (b : Fin 256) :
    (res_main_v64_1 V0 : S1x128x8x128x256.Idx → BitVec 1) (ix5 0 n h a b) = BitVec.ofBool (ok n a b) := by
  unfold res_main_v64_1 res_main_v35 res_main_v30
  pointwise
  exact mask_word n.val a.val b.val (by omega) (by omega) (by omega)

theorem v64_at (H : Holds X V0) (n : Fin 128) (h : Fin 8) (a : Fin 128) (b : Fin 256) :
    (res_main_v64_0 V0 : S1x128x8x128x256.Idx → EReal) (ix5 0 n h a b) = lg (ok n a) (X.S n h a) b := by
  have h1 := v4_at H
  have h2 := v15_at H
  have h3 := v64_1_at (V0 := V0)
  have h4 := H.β
  revert h1 h2 h3 h4
  unfold res_main_v64_0
  generalize res_main_v4 V0 = x1
  generalize res_main_v15 V0 = x2
  generalize res_main_v64_1 V0 = x3
  generalize V0 (Proc.devRef .tc main_arg3) = x4
  intro h1 h2 h3 h4
  pointwise
  change Scalar.select _ _ (Ideal.ofBits .f32 0xFF800000#32) = _
  rw [h3, h4, ofBits_ninf, ofBits_eighth,
    sum_eq_coe (f := fun x => X.q (row n a) h x * win X.k n b h x) fun x => by rw [h1, h2, EReal.coe_mul],
    ← EReal.coe_mul, ← EReal.coe_add]
  unfold lg
  cases ok n a b <;> rfl

theorem v65_at (n : Fin 128) (h : Fin 8) (a : Fin 128) :
    (res_main_v65 V0 : S1x128x8x128.Idx → EReal) (ix4 0 n h a) =
      Finset.univ.fold max (⊥ : EReal) (fun b => (res_main_v64_0 V0 : S1x128x8x128x256.Idx → EReal) (ix5 0 n h a b)) := by
  unfold res_main_v65
  generalize res_main_v64_0 V0 = x
  pointwise
  rw [ofBits_ninf]
  exact Shape.ReducesTo.fold_fiber_r5_a4 _ _ _ _ _

end Cert.ReferenceIdeal.Val

end
-- ==== Proof.RefB.lean ====
/- The reference's gradient, index by index, as reals. -/
module

public import proofs.«01_k».proof.Proof.RefA

@[expose] public section

set_option maxRecDepth 16384

noncomputable section

namespace Cert.ReferenceIdeal.Val

open Cert.ReferenceIdeal Cert.ReferenceIdeal.Gen Cert.ReferenceIdeal.Value Idealize.ShloMosaic Idealize.ShloMosaic.TcCoe Idealize.SL.Sem Idealize.ShloMosaic.StableHlo
open Cert.Spec

variable {X : Inp} {V0 : Valuation τ sig (Elt Ideal)}

/-- The sum over two axes of one entry each is the entry. -/
theorem sum_unit2 (x : S1x128x8x128x1.Idx → EReal) (n : Fin 128) (h : Fin 8) (a : Fin 128) :
    Ideal.hostReduceAdd reducesTo_S1x128x8x128x1_S128x8x128_d0_4 x 0 (ix3 n h a) = x (ix5 0 n h a 0) := by
  have e : (Finset.univ.filter fun i => reducesTo_S1x128x8x128x1_S128x8x128_d0_4.drop i = ix3 n h a) = {ix5 0 n h a 0} := by
    ext i
    simp only [Finset.mem_filter, Finset.mem_univ, true_and, Finset.mem_singleton]
    constructor
    · intro e
      funext k
      apply Fin.ext
      match k with
      | ⟨0, _⟩ => exact Nat.lt_one_iff.mp (i 0).isLt
      | ⟨1, _⟩ => exact congrArg Fin.val (congrFun e 0)
      | ⟨2, _⟩ => exact congrArg Fin.val (congrFun e 1)
      | ⟨3, _⟩ => exact congrArg Fin.val (congrFun e 2)
      | ⟨4, _⟩ => exact Nat.lt_one_iff.mp (i 4).isLt
    · intro e
      rw [e]
      funext k
      apply Fin.ext
      match k with
      | ⟨0, _⟩ => rfl
      | ⟨1, _⟩ => rfl
      | ⟨2, _⟩ => rfl
  unfold Ideal.hostReduceAdd
  rw [e, Finset.sum_singleton, zero_add]

/-- The sum over the two leading axes of one entry each is the entry. -/
theorem sum_lead2 (x : S1x1x8x128x256.Idx → EReal) (h : Fin 8) (a : Fin 128) (b : Fin 256) :
    Ideal.hostReduceAdd reducesTo_S1x1x8x128x256_S8x128x256_d0_1 x 0 (ix3 h a b) = x (ix5 0 0 h a b) := by
  have e : (Finset.univ.filter fun i => reducesTo_S1x1x8x128x256_S8x128x256_d0_1.drop i = ix3 h a b) = {ix5 0 0 h a b} := by
    ext i
    simp only [Finset.mem_filter, Finset.mem_univ, true_and, Finset.mem_singleton]
    constructor
    · intro e
      funext k
      apply Fin.ext
      match k with
      | ⟨0, _⟩ => exact Nat.lt_one_iff.mp (i 0).isLt
      | ⟨1, _⟩ => exact Nat.lt_one_iff.mp (i 1).isLt
      | ⟨2, _⟩ => exact congrArg Fin.val (congrFun e 0)
      | ⟨3, _⟩ => exact congrArg Fin.val (congrFun e 1)
      | ⟨4, _⟩ => exact congrArg Fin.val (congrFun e 2)
    · intro e
      rw [e]
      funext k
      apply Fin.ext
      match k with
      | ⟨0, _⟩ => rfl
      | ⟨1, _⟩ => rfl
      | ⟨2, _⟩ => rfl
  unfold Ideal.hostReduceAdd
  rw [e, Finset.sum_singleton, zero_add]

theorem v65_real (H : Holds X V0) (n : Fin 128) (h : Fin 8) (a : Fin 128) :
    ∃ μ : ℝ, (res_main_v65 V0 : S1x128x8x128.Idx → EReal) (ix4 0 n h a) = ((μ : ℝ) : EReal) ∧
      ∃ b, lg (ok n a) (X.S n h a) b = ((μ : ℝ) : EReal) := by
  have e : (fun b => (res_main_v64_0 V0 : S1x128x8x128x256.Idx → EReal) (ix5 0 n h a b)) = lg (ok n a) (X.S n h a) :=
    funext fun b => v64_at H n h a b
  rw [v65_at, e]
  exact max_row (Inp.sees n a)

/-- The row's largest logit. -/
def mx (H : Holds X V0) (n : Fin 128) (h : Fin 8) (a : Fin 128) : ℝ := (v65_real H n h a).choose

theorem v65_mx (H : Holds X V0) (n : Fin 128) (h : Fin 8) (a : Fin 128) :
    (res_main_v65 V0 : S1x128x8x128.Idx → EReal) (ix4 0 n h a) = ((mx H n h a : ℝ) : EReal) := (v65_real H n h a).choose_spec.1

theorem mx_hit (H : Holds X V0) (n : Fin 128) (h : Fin 8) (a : Fin 128) :
    ∃ b, lg (ok n a) (X.S n h a) b = ((mx H n h a : ℝ) : EReal) := (v65_real H n h a).choose_spec.2

/-- A row's weights over the largest. -/
def wm (H : Holds X V0) (n : Fin 128) (h : Fin 8) (a : Fin 128) (b : Fin 256) : ℝ :=
  wt (ok n a) (X.S n h a) b * Real.exp (-mx H n h a)
/-- Their sum. -/
def dm (H : Holds X V0) (n : Fin 128) (h : Fin 8) (a : Fin 128) : ℝ :=
  tot (ok n a) (X.S n h a) * Real.exp (-mx H n h a)

theorem dm_pos (H : Holds X V0) (n : Fin 128) (h : Fin 8) (a : Fin 128) : 0 < dm H n h a := scaled_pos (Inp.sees n a) _

theorem wm_div (H : Holds X V0) (n : Fin 128) (h : Fin 8) (a : Fin 128) (b : Fin 256) :
    wm H n h a b / dm H n h a = X.P n h a b := ratio (Inp.sees n a) _ b

theorem v74_at (H : Holds X V0) (n : Fin 128) (h : Fin 8) (a : Fin 128) (b : Fin 256) :
    (res_main_v74 V0 : S1x128x8x128x256.Idx → EReal) (ix5 0 n h a b) = ((wm H n h a b : ℝ) : EReal) := by
  have h1 := v64_at H n h a b
  have h2 := v65_mx H n h a
  revert h1 h2
  unfold res_main_v74 res_main_v71
  generalize res_main_v64_0 V0 = x
  generalize res_main_v65 V0 = y
  intro h1 h2
  pointwise
  rw [h1, h2]
  exact exp_row _ _

theorem v76_at (H : Holds X V0) (n : Fin 128) (h : Fin 8) (a : Fin 128) :
    (res_main_v76 V0 : S1x128x8x128x1.Idx → EReal) (ix5 0 n h a 0) = ((dm H n h a : ℝ) : EReal) := by
  have h1 := v74_at H n h a
  revert h1
  unfold res_main_v76
  generalize res_main_v74 V0 = x
  intro h1
  pointwise
  rw [sum_eq_coe h1]
  exact congrArg _ (sum_wt _)

theorem v78_at (H : Holds X V0) (n : Fin 128) (h : Fin 8) (a : Fin 128) (d : Fin 64) :
    (res_main_v78 V0 : S1x128x128x8x64.Idx → EReal) (ix5 0 n a h d) = ((X.O n h a d * dm H n h a : ℝ) : EReal) := by
  have h1 := v74_at H n h a
  have h2 := v26_at H
  revert h1 h2
  unfold res_main_v78
  generalize res_main_v74 V0 = x
  generalize res_main_v26 V0 = y
  intro h1 h2
  pointwise
  rw [sum_eq_coe (f := fun b => win X.v n b h d * wm H n h a b) fun b => by rw [h1, h2, EReal.coe_mul]]
  refine congrArg _ ?_
  simp only [Inp.O, Finset.sum_mul]
  exact Finset.sum_congr rfl fun b _ => by rw [← wm_div H, mul_assoc, div_mul_cancel₀ _ (dm_pos H n h a).ne']

theorem v79_at (H : Holds X V0) (n : Fin 128) (h : Fin 8) (a : Fin 128) :
    (res_main_v79 V0 : S1x128x128x8x1.Idx → EReal) (ix5 0 n a h 0) = ((dm H n h a : ℝ) : EReal) := by
  have h1 := v76_at H n h a
  revert h1
  unfold res_main_v79
  generalize res_main_v76 V0 = y
  intro h1
  pointwise
  exact h1

theorem v100_at (H : Holds X V0) (n : Fin 128) (h : Fin 8) (a : Fin 128) (d : Fin 64) :
    (res_main_v100 V0 : S1x128x128x8x64.Idx → EReal) (ix5 0 n a h d) = ((X.g (row n a) h d : ℝ) : EReal) := by
  have hx := H.g (row n a) h d
  revert hx
  unfold res_main_v100
  generalize V0 (Proc.devRef .tc main_arg4) = x
  intro hx
  pointwise
  rw [← hx]; rfl

theorem v102_at (H : Holds X V0) (n : Fin 128) (h : Fin 8) (a : Fin 128) :
    (res_main_v102 V0 : S1x128x8x128x1.Idx → EReal) (ix5 0 n h a 0) = ((X.l (row n a) h : ℝ) : EReal) := by
  have hx := H.l (row n a) h
  revert hx
  unfold res_main_v102
  generalize V0 (Proc.devRef .tc main_arg5) = x
  intro hx
  pointwise
  rw [← hx]; rfl

theorem v114_at (H : Holds X V0) (n : Fin 128) (h : Fin 8) (a : Fin 128) (d : Fin 64) :
    (res_main_v114 V0 : S1x128x8x64x128.Idx → EReal) (ix5 0 n h d a) = ((X.g (row n a) h d / dm H n h a : ℝ) : EReal) := by
  have h1 := v100_at H n h a d
  have h2 := v79_at H n h a
  revert h1 h2
  unfold res_main_v114
  generalize res_main_v100 V0 = y
  generalize res_main_v79 V0 = x
  intro h1 h2
  pointwise
  rw [h1, h2]
  exact div_coe_coe (dm_pos H n h a).ne'

theorem v117_at (H : Holds X V0) (n : Fin 128) (h : Fin 8) (b : Fin 256) (d : Fin 64) :
    (res_main_v117 V0 : S1x128x256x8x64.Idx → EReal) (ix5 0 n b h d) = ((X.fV n b h d : ℝ) : EReal) := by
  have h1 := fun a => v114_at H n h a d
  have h2 := fun a => v74_at H n h a b
  revert h1 h2
  unfold res_main_v117
  generalize res_main_v114 V0 = y
  generalize res_main_v74 V0 = x
  intro h1 h2
  pointwise
  rw [sum_eq_coe (f := fun a => X.g (row n a) h d / dm H n h a * wm H n h a b) fun a => by rw [h1, h2, EReal.coe_mul]]
  refine congrArg _ (Finset.sum_congr rfl fun a _ => ?_)
  rw [← wm_div H]; ring

theorem v122_at (H : Holds X V0) (n : Fin 128) (h : Fin 8) (a : Fin 128) (b : Fin 256) :
    (res_main_v122 V0 : S1x128x8x128x256.Idx → EReal) (ix5 0 n h a b) = ((X.dS n h a b : ℝ) : EReal) := by
  have h1 := fun d => v114_at H n h a d
  have h2 := fun d => v26_at H n b h d
  have h3 := v102_at H n h a
  have h4 := v76_at H n h a
  have h5 := fun d => v100_at H n h a d
  have h6 := v79_at H n h a
  have h7 := fun d => v78_at H n h a d
  have h8 := v74_at H n h a b
  have h0 := dm_pos H n h a
  revert h1 h2 h3 h4 h5 h6 h7 h8
  unfold res_main_v122
  generalize res_main_v114 V0 = x1
  generalize res_main_v26 V0 = x2
  generalize res_main_v102 V0 = x3
  generalize res_main_v76 V0 = x4
  generalize res_main_v100 V0 = x5
  generalize res_main_v79 V0 = x6
  generalize res_main_v78 V0 = x7
  generalize res_main_v74 V0 = x8
  intro h1 h2 h3 h4 h5 h6 h7 h8
  pointwise
  rw [sum_unit2]
  pointwise
  rw [sum_eq_coe (f := fun d => X.g (row n a) h d / dm H n h a * win X.v n b h d) fun d => by rw [h1, h2, EReal.coe_mul],
    h3, h4, h6, h8, div_coe_coe h0.ne', ← EReal.coe_mul, ← EReal.coe_one, div_coe_coe (mul_pos h0 h0).ne',
    sum_eq_coe (f := fun d => X.g (row n a) h d * (1 / (dm H n h a * dm H n h a)) * (X.O n h a d * dm H n h a)) fun d => by
      simp only [h5, h7, EReal.coe_mul],
    ← EReal.coe_neg, ← EReal.coe_add, ← EReal.coe_add, ← EReal.coe_mul]
  refine congrArg _ ?_
  unfold Inp.dS Inp.δ
  rw [← wm_div H, show (∑ d, X.g (row n a) h d / dm H n h a * win X.v n b h d) = (∑ d, X.g (row n a) h d * win X.v n b h d) / dm H n h a by
      rw [Finset.sum_div]; exact Finset.sum_congr rfl fun d _ => by ring,
    show (∑ d, X.g (row n a) h d * (1 / (dm H n h a * dm H n h a)) * (X.O n h a d * dm H n h a)) = (∑ d, X.g (row n a) h d * X.O n h a d) / dm H n h a by
      rw [Finset.sum_div]; exact Finset.sum_congr rfl fun d _ => by field_simp]
  ring

/-- One where the logit is the row's largest, zero elsewhere. -/
def tie (H : Holds X V0) (n : Fin 128) (h : Fin 8) (a : Fin 128) (b : Fin 256) : ℝ :=
  if lg (ok n a) (X.S n h a) b = ((mx H n h a : ℝ) : EReal) then 1 else 0

theorem tie_pos (H : Holds X V0) (n : Fin 128) (h : Fin 8) (a : Fin 128) : 0 < ∑ b, tie H n h a b := by
  obtain ⟨b, hb⟩ := mx_hit H n h a
  refine Finset.sum_pos' (fun i _ => ?_) ⟨b, Finset.mem_univ _, ?_⟩
  · unfold tie; split <;> norm_num
  · unfold tie; rw [if_pos hb]; norm_num

theorem v69_at (H : Holds X V0) (n : Fin 128) (h : Fin 8) (a : Fin 128) (b : Fin 256) :
    (res_main_v69 V0 : S1x128x8x128x256.Idx → EReal) (ix5 0 n h a b) = ((tie H n h a b : ℝ) : EReal) := by
  have h1 := v64_at H n h a b
  have h2 := v65_mx H n h a
  revert h1 h2
  unfold res_main_v69
  generalize res_main_v64_0 V0 = x
  generalize res_main_v65 V0 = y
  intro h1 h2
  pointwise
  rw [h1, h2]
  unfold tie
  by_cases e : lg (ok n a) (X.S n h a) b = ((mx H n h a : ℝ) : EReal)
  · rw [if_pos e, decide_eq_true e]
    change (((1 : ℕ) : ℝ) : EReal) = _
    norm_num
  · rw [if_neg e, decide_eq_false e]
    change (((0 : ℕ) : ℝ) : EReal) = _
    norm_num

theorem v133_at (H : Holds X V0) (n : Fin 128) (h : Fin 8) (a : Fin 128) (b : Fin 256) :
    (res_main_v133 V0 : S1x128x8x128x256.Idx → EReal) (ix5 0 n h a b) = ((X.dS n h a b : ℝ) : EReal) := by
  have h1 := v64_1_at (V0 := V0) n h a b
  have h2 := v122_at H n h a
  have h3 := v102_at H n h a
  have h4 := v69_at H n h a
  have h0 := tie_pos H n h a
  revert h1 h2 h3 h4
  unfold res_main_v133
  generalize res_main_v64_1 V0 = x1
  generalize res_main_v122 V0 = x2
  generalize res_main_v102 V0 = x3
  generalize res_main_v69 V0 = x4
  intro h1 h2 h3 h4
  pointwise
  rw [sum_unit2]
  pointwise
  rw [sum_eq_coe (f := fun x => -X.dS n h a x) fun x => by rw [h2, EReal.coe_neg], sum_eq_coe h4, h1, h2, h3, h4,
    Finset.sum_neg_distrib, X.sum_dS, ← EReal.coe_add, add_neg_cancel, div_coe_coe h0.ne', zero_div, ← EReal.coe_mul, zero_mul,
    ← EReal.coe_add, add_zero]
  cases hk : ok n a b with
  | true => rfl
  | false =>
    rw [X.dS_of_not hk h]; rfl

theorem v138_at (H : Holds X V0) (n : Fin 128) (h : Fin 8) (a : Fin 128) (b : Fin 256) :
    (res_main_v138 V0 : S1x128x8x128x256.Idx → EReal) (ix5 0 n h a b) = ((X.dS n h a b * (1 / 8) : ℝ) : EReal) := by
  have h1 := v133_at H n h a b
  revert h1
  unfold res_main_v138
  generalize res_main_v133 V0 = x1
  intro h1
  pointwise
  rw [h1, ofBits_eighth, EReal.coe_mul]

theorem v140_at (H : Holds X V0) (n : Fin 128) (h : Fin 8) (b : Fin 256) (d : Fin 64) :
    (res_main_v140 V0 : S1x128x256x8x64.Idx → EReal) (ix5 0 n b h d) = ((X.fK n b h d : ℝ) : EReal) := by
  have h1 := fun a => v138_at H n h a b
  have h2 := fun a => v4_at H n a h d
  revert h1 h2
  unfold res_main_v140
  generalize res_main_v138 V0 = x1
  generalize res_main_v4 V0 = x2
  intro h1 h2
  pointwise
  rw [sum_eq_coe (f := fun a => X.dS n h a b * (1 / 8) * X.q (row n a) h d) fun a => by simp only [h1, h2, EReal.coe_mul]]
  refine congrArg _ (Finset.sum_congr rfl fun a _ => ?_)
  ring

theorem v143_at (H : Holds X V0) (n : Fin 128) (h : Fin 8) (b : Fin 128) (d : Fin 64) :
    (res_main_v143 V0 : S1x128x128x8x64.Idx → EReal) (ix5 0 n b h d) = ((X.fV n ⟨b.val, by omega⟩ h d : ℝ) : EReal) := by
  have h1 := v117_at H
  revert h1
  unfold res_main_v143
  generalize res_main_v117 V0 = x1
  intro h1
  pointwise
  exact h1 _ _ _ _

theorem v154_at (H : Holds X V0) (n : Fin 128) (h : Fin 8) (b : Fin 128) (d : Fin 64) :
    (res_main_v154 V0 : S1x128x128x8x64.Idx → EReal) (ix5 0 n b h d) = ((X.fK n ⟨b.val, by omega⟩ h d : ℝ) : EReal) := by
  have h1 := v140_at H
  revert h1
  unfold res_main_v154
  generalize res_main_v140 V0 = x1
  intro h1
  pointwise
  exact h1 _ _ _ _

/-! ## The four results -/

def outQ (V0 : Valuation τ sig (Elt Ideal)) : (Proc.devRef .tc main_v171 : DevRef τ sig).ty.Contents (Elt Ideal) :=
  truncf .bf16 (shapeCast _ (shapeCast _ (transpose S1x16384x1x8x64 [0, 2, 1, 3, 4] (shapeCast _ (extractStridedSlice S1x16384x8x64 ![0, 0, 0, 0] (pad S1x16384x8x64 ![0, 0, 0, 0] ![0, 0, 0, 0] ![0, 0, 0, 0] (shapeCast _ (transpose S1x128x128x8x64 [0, 1, 3, 2, 4] (Host.dotGeneral (φ₁ := .f32) (φ₂ := .f32) dot_S1x128x8x128x256_S1x128x256x8x64_S1x128x8x128x64_4_2_3_4_012_013 none (res_main_v138 V0) (res_main_v15 V0)) transposes_S1x128x8x128x64_S1x128x128x8x64_0_1_3_2_4) shapeCasts_S1x128x128x8x64_S1x16384x8x64) (constant (F := Ideal) S_ .f32 0x00000000#32) pads_S1x16384x8x64_S1x16384x8x64_000_000_000_000 h_S_) slices_S1x16384x8x64_S1x16384x8x64_0_0_0_0) shapeCasts_S1x16384x8x64_S1x1x16384x8x64) transposes_S1x1x16384x8x64_S1x16384x1x8x64_0_2_1_3_4) shapeCasts_S1x16384x1x8x64_S1x16384x8x64) shapeCasts_S1x16384x8x64_S16384x512) bitsLt_bf16_f32

def outK (V0 : Valuation τ sig (Elt Ideal)) : (Proc.devRef .tc main_v173 : DevRef τ sig).ty.Contents (Elt Ideal) :=
  truncf .bf16 (shapeCast _ (shapeCast _ (transpose S1x16384x1x8x64 [0, 2, 1, 3, 4] (shapeCast _ (extractStridedSlice S1x16384x8x64 ![0, 0, 0, 0] (pad S1x16384x8x64 ![0, 0, 0, 0] ![0, 0, 0, 0] ![0, 0, 0, 0] (shapeCast _ (addf (extractStridedSlice S1x128x128x8x64 ![0, 0, 128, 0, 0] (res_main_v140 V0) slices_S1x128x256x8x64_S1x128x128x8x64_0_0_128_0_0) (pad S1x128x128x8x64 ![0, 0, 0, 0, 0] ![0, 1, 0, 0, 0] ![0, 0, 0, 0, 0] (extractStridedSlice S1x127x128x8x64 ![0, 1, 0, 0, 0] (res_main_v154 V0) slices_S1x128x128x8x64_S1x127x128x8x64_0_1_0_0_0) (constant (F := Ideal) S_ .f32 0x00000000#32) pads_S1x127x128x8x64_S1x128x128x8x64_000_010_000_000_000 h_S_)) shapeCasts_S1x128x128x8x64_S1x16384x8x64) (constant (F := Ideal) S_ .f32 0x00000000#32) pads_S1x16384x8x64_S1x16384x8x64_000_000_000_000 h_S_) slices_S1x16384x8x64_S1x16384x8x64_0_0_0_0) shapeCasts_S1x16384x8x64_S1x1x16384x8x64) transposes_S1x1x16384x8x64_S1x16384x1x8x64_0_2_1_3_4) shapeCasts_S1x16384x1x8x64_S1x16384x8x64) shapeCasts_S1x16384x8x64_S16384x512) bitsLt_bf16_f32

def outV (V0 : Valuation τ sig (Elt Ideal)) : (Proc.devRef .tc main_v175 : DevRef τ sig).ty.Contents (Elt Ideal) :=
  truncf .bf16 (shapeCast _ (shapeCast _ (transpose S1x16384x1x8x64 [0, 2, 1, 3, 4] (shapeCast _ (extractStridedSlice S1x16384x8x64 ![0, 0, 0, 0] (pad S1x16384x8x64 ![0, 0, 0, 0] ![0, 0, 0, 0] ![0, 0, 0, 0] (shapeCast _ (addf (extractStridedSlice S1x128x128x8x64 ![0, 0, 128, 0, 0] (res_main_v117 V0) slices_S1x128x256x8x64_S1x128x128x8x64_0_0_128_0_0) (pad S1x128x128x8x64 ![0, 0, 0, 0, 0] ![0, 1, 0, 0, 0] ![0, 0, 0, 0, 0] (extractStridedSlice S1x127x128x8x64 ![0, 1, 0, 0, 0] (res_main_v143 V0) slices_S1x128x128x8x64_S1x127x128x8x64_0_1_0_0_0) (constant (F := Ideal) S_ .f32 0x00000000#32) pads_S1x127x128x8x64_S1x128x128x8x64_000_010_000_000_000 h_S_)) shapeCasts_S1x128x128x8x64_S1x16384x8x64) (constant (F := Ideal) S_ .f32 0x00000000#32) pads_S1x16384x8x64_S1x16384x8x64_000_000_000_000 h_S_) slices_S1x16384x8x64_S1x16384x8x64_0_0_0_0) shapeCasts_S1x16384x8x64_S1x1x16384x8x64) transposes_S1x1x16384x8x64_S1x16384x1x8x64_0_2_1_3_4) shapeCasts_S1x16384x1x8x64_S1x16384x8x64) shapeCasts_S1x16384x8x64_S16384x512) bitsLt_bf16_f32

def outB (V0 : Valuation τ sig (Elt Ideal)) : (Proc.devRef .tc main_v136 : DevRef τ sig).ty.Contents (Elt Ideal) :=
  Host.reduceAdd (shapeCast _ (Host.reduceAdd (res_main_v133 V0) (constant (F := Ideal) S_ .f32 0x00000000#32) reducesTo_S1x128x8x128x256_S1x8x128x256_d1 h_S_) shapeCasts_S1x8x128x256_S1x1x8x128x256) (constant (F := Ideal) S_ .f32 0x00000000#32) reducesTo_S1x1x8x128x256_S8x128x256_d0_1 h_S_

theorem row_div (n a : Fin 128) : (row n a).val / 128 = n.val := by simp only [row]; omega
theorem row_mod (n a : Fin 128) : (row n a).val % 128 = a.val := by simp only [row]; omega

/-- Two shares of a position, as the reference adds them. -/
theorem both_at (f : Fin 128 → Fin 256 → Fin 8 → Fin 64 → ℝ) {x1 : S1x128x256x8x64.Idx → EReal} {x2 : S1x128x128x8x64.Idx → EReal}
    (h1 : ∀ n h b d, x1 (ix5 0 n b h d) = ((f n b h d : ℝ) : EReal))
    (h2 : ∀ (n : Fin 128) (h : Fin 8) (b : Fin 128) (d : Fin 64), x2 (ix5 0 n b h d) = ((f n ⟨b.val, by omega⟩ h d : ℝ) : EReal))
    (n a : Fin 128) (h : Fin 8) (d : Fin 64) {k k' : ℕ} (e : k = n.val) (e' : k' = a.val) (hk : k < 128) (hk' : k' < 128) :
    (x1 (ix5 0 ⟨k, hk⟩ ⟨128 + k', by omega⟩ h d) + if hh : k < 127 ∧ k' < 128 then x2 (ix5 0 ⟨1 + k, by omega⟩ ⟨k', hk'⟩ h d) else 0)
      = ((both f n a h d : ℝ) : EReal) := by
  subst e e'
  unfold both
  by_cases c : n.val + 1 < 128
  · rw [dif_pos (⟨by omega, a.isLt⟩ : n.val < 127 ∧ a.val < 128), dif_pos c, h1,
      show (⟨1 + n.val, by omega⟩ : Fin 128) = ⟨n.val + 1, c⟩ from Fin.ext (Nat.add_comm 1 n.val), h2, EReal.coe_add]
  · rw [dif_neg (fun z => c (by omega)), dif_neg c, h1, add_zero, add_zero]

theorem outQ_at (H : Holds X V0) (n a : Fin 128) (h : Fin 8) (d : Fin 64) :
    (outQ V0 : S16384x512.Idx → EReal) (ix2 (row n a) ⟨64 * h.val + d.val, by omega⟩) = ((X.dQ n a h d : ℝ) : EReal) := by
  have h1 := v138_at H
  have h2 := v15_at H
  revert h1 h2
  unfold outQ
  generalize res_main_v138 V0 = x1
  generalize res_main_v15 V0 = x2
  intro h1 h2
  pointwise
  have e1 : ∀ p, (⟨(row n a).val / 128, p⟩ : Fin 128) = n := fun p => Fin.ext (row_div n a)
  have e2 : ∀ p, (⟨(row n a).val % 128, p⟩ : Fin 128) = a := fun p => Fin.ext (row_mod n a)
  rw [e1, e2, sum_eq_coe (f := fun b => X.dS n h a b * (1 / 8) * win X.k n b h d) fun b => by simp only [h1, h2, EReal.coe_mul]]
  refine congrArg _ ?_
  unfold Inp.dQ
  rw [Finset.sum_mul]
  exact Finset.sum_congr rfl fun b _ => by ring

theorem outK_at (H : Holds X V0) (n a : Fin 128) (h : Fin 8) (d : Fin 64) :
    (outK V0 : S16384x512.Idx → EReal) (ix2 (row n a) ⟨64 * h.val + d.val, by omega⟩) = ((X.dK n a h d : ℝ) : EReal) := by
  have h1 := v140_at H
  have h2 := v154_at H
  revert h1 h2
  unfold outK
  generalize res_main_v140 V0 = x1
  generalize res_main_v154 V0 = x2
  intro h1 h2
  pointwise
  convert both_at X.fK h1 h2 n a h d (row_div n a) (row_mod n a) (by omega) (by omega) using 2 <;> rfl

theorem outV_at (H : Holds X V0) (n a : Fin 128) (h : Fin 8) (d : Fin 64) :
    (outV V0 : S16384x512.Idx → EReal) (ix2 (row n a) ⟨64 * h.val + d.val, by omega⟩) = ((X.dV n a h d : ℝ) : EReal) := by
  have h1 := v117_at H
  have h2 := v143_at H
  revert h1 h2
  unfold outV
  generalize res_main_v117 V0 = x1
  generalize res_main_v143 V0 = x2
  intro h1 h2
  pointwise
  convert both_at X.fV h1 h2 n a h d (row_div n a) (row_mod n a) (by omega) (by omega) using 2 <;> rfl

theorem outB_at (H : Holds X V0) (h : Fin 8) (a : Fin 128) (b : Fin 256) :
    (outB V0 : S8x128x256.Idx → EReal) (ix3 h a b) = ((X.dB h a b : ℝ) : EReal) := by
  have h1 := v133_at H
  revert h1
  unfold outB
  generalize res_main_v133 V0 = x1
  intro h1
  pointwise
  rw [sum_lead2]
  pointwise
  rw [sum_eq_coe fun n => h1 n h a b]
  rfl

end Cert.ReferenceIdeal.Val

end
-- ==== Proof.Kit.lean ====
/- The setting of the hand-written run: the branch conditions of the body over the grid, the staging buffers of
   a grid point, and where each output window is left alone. -/
module

public import proofs.«01_k».proof.Proof.Gen.KernelIdeal.Frame
public import proofs.«01_k».proof.Proof.Gen.KernelIdeal.Skeleton
public import Idealize.ShloMosaic.Lib.Pipeline.TableIdle

@[expose] public section

set_option maxRecDepth 16384

noncomputable section

namespace Cert.KernelIdeal.Run

open Cert.KernelIdeal.Gen
open Idealize.ShloMosaic TcCoe Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's branch conditions -/

/-- The condition of the body's `scf.if` 0 from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 33 = 0 :=
  (fun t => by
    have ht : t.val < 33 := Nat.lt_of_lt_of_eq t.isLt N_0
    have e0 : (grid0.coords t 0).val = t.val / 33 % 1 := Pipeline.Grid.coords_val t 0 (by decide) rfl
    have e1 : (grid0.coords t 1).val = t.val / 1 % 33 := Pipeline.Grid.coords_val t 1 (by decide) rfl
    simp only [cond0_0, k0_cond1, e0, e1]
    word_cmp
   : ∀ t : Fin grid0.N, cond0_0 (grid0.coords t) ↔ t.val % 33 = 0)

/-- The condition of the body's `scf.if` 1 from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the first point only — by arithmetic of the point. -/
theorem hcond0_1 : ∀ t : Fin cfg0.N, cond0_1 (grid0.coords t) ↔ t.val % 33 = 0 :=
  (fun t => by
    have ht : t.val < 33 := Nat.lt_of_lt_of_eq t.isLt N_0
    have e0 : (grid0.coords t 0).val = t.val / 33 % 1 := Pipeline.Grid.coords_val t 0 (by decide) rfl
    have e1 : (grid0.coords t 1).val = t.val / 1 % 33 := Pipeline.Grid.coords_val t 1 (by decide) rfl
    simp only [cond0_1, e0, e1]
    word_cmp
   : ∀ t : Fin grid0.N, cond0_1 (grid0.coords t) ↔ t.val % 33 = 0)

/-- The condition of the body's `scf.if` 2 from the grid coordinates (the skeleton's scalar
    chain substituted). -/
abbrev cond0_2 (i : grid0.Coords) : Prop := k0_cond3 i = 1#1
/-- It holds at the points before point 32 — decided over the grid. -/
theorem hcond0_2 : ∀ t : Fin cfg0.N, cond0_2 (grid0.coords t) ↔ t.val < 32 :=
  (by decide +kernel : ∀ t : Fin grid0.N, cond0_2 (grid0.coords t) ↔ t.val < 32)

/-- The condition of the body's `scf.if` 3 from the grid coordinates (the skeleton's scalar
    chain substituted). -/
abbrev cond0_3 (i : grid0.Coords) : Prop := k0_cond4 i = 1#1
/-- It holds at the last point only — by arithmetic of the point. -/
theorem hcond0_3 : ∀ t : Fin cfg0.N, cond0_3 (grid0.coords t) ↔ t.val % 33 = 32 :=
  (fun t => by
    have ht : t.val < 33 := Nat.lt_of_lt_of_eq t.isLt N_0
    have e0 : (grid0.coords t 0).val = t.val / 33 % 1 := Pipeline.Grid.coords_val t 0 (by decide) rfl
    have e1 : (grid0.coords t 1).val = t.val / 1 % 33 := Pipeline.Grid.coords_val t 1 (by decide) rfl
    simp only [cond0_3, k0_cond4, e0, e1]
    word_cmp
   : ∀ t : Fin grid0.N, cond0_3 (grid0.coords t) ↔ t.val % 33 = 32)

/-! ## The kernel body on any staging memrefs: a subtype the run finds -/

/-- Each window's current staging memref at point `t`, spelled as the pipeline passes it (`bodyAt0`), and its wholeness. -/
abbrev ms0_0 (t : Fin cfg0.N) : Memref sig .tc .vmem S512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x128x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x512 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x512 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x512 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S8x128x256 .f32 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S512x512 .f32 := Memref.whole cc0_scratch0
abbrev scM0_1 : Memref sig .tc .vmem S512x512 .f32 := Memref.whole cc0_scratch1
abbrev scM0_2 : Memref sig .tc .vmem S8x128x256 .f32 := Memref.whole cc0_scratch2
abbrev scM0_3 : Memref sig .tc .vmem S8x128x256 .f32 := Memref.whole cc0_scratch3
abbrev scM0_4 : Memref sig .tc .vmem S8x128x256 .bf16 := Memref.whole cc0_scratch4
abbrev scM0_5 : Memref sig .tc .vmem S8x128x256 .bf16 := Memref.whole cc0_scratch5

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-- Where output window 9 (dq) is stored into: at every point but the last. -/
theorem idle9 : ∀ t : Fin cfg0.N, cfg0.idle 9 (grid0.coords t) = decide (t.val = 32) :=
  (by decide +kernel : ∀ t : Fin grid0.N, cfg0.idle 9 (grid0.coords t) = decide (t.val = 32))
/-- Output windows 10 and 11 (dk, dv) are stored into at every point. -/
theorem idle10 : ∀ t : Fin cfg0.N, cfg0.idle 10 (grid0.coords t) = false :=
  (by decide +kernel : ∀ t : Fin grid0.N, cfg0.idle 10 (grid0.coords t) = false)
theorem idle11 : ∀ t : Fin cfg0.N, cfg0.idle 11 (grid0.coords t) = false :=
  (by decide +kernel : ∀ t : Fin grid0.N, cfg0.idle 11 (grid0.coords t) = false)
/-- Where output window 12 (the bias gradient) is stored into: at every point but the last. -/
theorem idle12 : ∀ t : Fin cfg0.N, cfg0.idle 12 (grid0.coords t) = decide (t.val = 32) :=
  (by decide +kernel : ∀ t : Fin grid0.N, cfg0.idle 12 (grid0.coords t) = decide (t.val = 32))

/-- When the outputs are written back: dq at points 0 to 30 and 32, dk and dv at points 1 to 32, the bias gradient at point 32. -/
theorem flush9 : ∀ t : Fin cfg0.N, (cfg0.win 9).flush t = decide (t.val ≠ 31) :=
  (by decide +kernel : ∀ t : Fin grid0.N, (cfg0.win 9).flush t = decide (t.val ≠ 31))
theorem flush10 : ∀ t : Fin cfg0.N, (cfg0.win 10).flush t = decide (t.val ≠ 0) :=
  (by decide +kernel : ∀ t : Fin grid0.N, (cfg0.win 10).flush t = decide (t.val ≠ 0))
theorem flush11 : ∀ t : Fin cfg0.N, (cfg0.win 11).flush t = decide (t.val ≠ 0) :=
  (by decide +kernel : ∀ t : Fin grid0.N, (cfg0.win 11).flush t = decide (t.val ≠ 0))
theorem flush12 : ∀ t : Fin cfg0.N, (cfg0.win 12).flush t = decide (t.val = 32) :=
  (by decide +kernel : ∀ t : Fin grid0.N, (cfg0.win 12).flush t = decide (t.val = 32))

end Cert.KernelIdeal.Run

end
-- ==== Proof.Ops.lean ====
/- What the kernel's vector operations are, entry by entry, over the extended reals: the product of one
   head cut out of a pair of heads, the stack of eight heads, the column a row's constant stands in. -/
module

public import proofs.«01_k».proof.Proof.Kit
public import Idealize.ShloMosaic.Lib.Pointwise
public import Idealize.ShloMosaic.Lib.Pipeline.CanonAppend

@[expose] public section

set_option maxRecDepth 16384

noncomputable section

namespace Cert.KernelIdeal.Val

open Cert.KernelIdeal.Gen
open Idealize.ShloMosaic TcCoe Tactic

/-- Row `a` of query block `j` of the four at a grid point. -/
abbrev rw4 (j : Fin 4) (a : Fin 128) : Fin 512 := ⟨128 * j.val + a.val, by omega⟩
/-- Row `b` of the two key blocks that query block `j` sees. -/
abbrev kr4 (j : Fin 4) (b : Fin 256) : Fin 640 := ⟨128 * j.val + b.val, by omega⟩
/-- Lane `d` of head `h`. -/
abbrev ln8 (h : Fin 8) (d : Fin 64) : Fin 512 := ⟨64 * h.val + d.val, by omega⟩
/-- Lane `l` of pair of heads `p`. -/
abbrev lp4 (p : Fin 4) (l : Fin 128) : Fin 512 := ⟨128 * p.val + l.val, by omega⟩

/-- The lanes of the first head of a pair, as the kernel writes them. -/
abbrev laneMask : IVec S1x128 1 :=
  shapeCast S1x128 (cmpi .slt (iota .tc S1x128 32 [1] iota_S1x128_d1_w32) (broadcast S1x128 64#32)) shapeCasts_S1x128_S1x128

theorem laneMask_apply (l : Fin 128) : laneMask (ix2 (0 : Fin 1) l) = if l.val < 64 then 1 else 0 := by
  unfold laneMask
  revert l
  decide +kernel

abbrev zeroB : Ideal .bf16 := Scalar.ofBits .bf16 0x0000#16

theorem lane_lt (l : Fin 128) : IntOp.cmpi .slt (BitVec.ofNat 32 l.val) 64#32 = if l.val < 64 then 1#1 else 0#1 := by
  revert l
  decide +kernel

/-- Pick the first head's lanes of a pair, zero elsewhere. -/
theorem first256 (y : FVec Ideal S256x128 .bf16) (b : Fin 256) (l : Fin 128) :
    select (broadcastTo S256x128 laneMask broadcasts_S1x128_S256x128) y (broadcast S256x128 zeroB) (ix2 b l)
      = if l.val < 64 then y (ix2 b l) else 0 := by
  pointwise [lane_lt]
  split <;> simp [Scalar.select]

theorem second256 (y : FVec Ideal S256x128 .bf16) (b : Fin 256) (l : Fin 128) :
    select (broadcastTo S256x128 laneMask broadcasts_S1x128_S256x128) (broadcast S256x128 zeroB) y (ix2 b l)
      = if l.val < 64 then 0 else y (ix2 b l) := by
  pointwise [lane_lt]
  split <;> simp [Scalar.select]

theorem first128 (y : FVec Ideal S128x128 .bf16) (b : Fin 128) (l : Fin 128) :
    select (broadcastTo S128x128 laneMask broadcasts_S1x128_S128x128) y (broadcast S128x128 zeroB) (ix2 b l)
      = if l.val < 64 then y (ix2 b l) else 0 := by
  pointwise [lane_lt]
  split <;> simp [Scalar.select]

theorem second128 (y : FVec Ideal S128x128 .bf16) (b : Fin 128) (l : Fin 128) :
    select (broadcastTo S128x128 laneMask broadcasts_S1x128_S128x128) (broadcast S128x128 zeroB) y (ix2 b l)
      = if l.val < 64 then 0 else y (ix2 b l) := by
  pointwise [lane_lt]
  split <;> simp [Scalar.select]

theorem nt (x : FVec Ideal S128x128 .bf16) (y : FVec Ideal S256x128 .bf16) (a : Fin 128) (b : Fin 256) :
    matmul dot_S128x128_S256x128_S128x256_1_1_0_0_n_n none x y (constant S128x256 .f32 0x00000000#32) (ix2 a b)
      = ∑ l : Fin 128, x (ix2 a l) * y (ix2 b l) := by
  pointwise

theorem tn (x : FVec Ideal S128x256 .bf16) (y : FVec Ideal S128x128 .bf16) (b : Fin 256) (l : Fin 128) :
    matmul dot_S128x256_S128x128_S256x128_0_0_1_1_n_n none x y (constant S256x128 .f32 0x00000000#32) (ix2 b l)
      = ∑ a : Fin 128, x (ix2 a b) * y (ix2 a l) := by
  pointwise

theorem nn (x : FVec Ideal S128x256 .bf16) (y : FVec Ideal S256x128 .bf16) (a : Fin 128) (l : Fin 128) :
    matmul dot_S128x256_S256x128_S128x128_1_0_0_1_n_n none x y (constant S128x128 .f32 0x00000000#32) (ix2 a l)
      = ∑ b : Fin 256, x (ix2 a b) * y (ix2 b l) := by
  pointwise

/-- A sum over the lanes of a pair that only the first head's lanes contribute to. -/
theorem sum_first (f : Fin 128 → EReal) (g : Fin 64 → EReal)
    (h0 : ∀ d : Fin 64, f ⟨d.val, by omega⟩ = g d) (h1 : ∀ l : Fin 128, ¬ l.val < 64 → f l = 0) :
    ∑ l, f l = ∑ d, g d := by
  have e := Fin.sum_univ_add (M := EReal) (a := 64) (b := 64) f
  rw [show (∑ l, f l) = _ from e]
  have e1 : ∑ d : Fin 64, f (Fin.castAdd 64 d) = ∑ d, g d := Finset.sum_congr rfl fun d _ => h0 d
  have e2 : ∑ d : Fin 64, f (Fin.natAdd 64 d) = 0 := Finset.sum_eq_zero fun d _ => h1 (Fin.natAdd 64 d) (by simp)
  rw [e1, e2, add_zero]

/-- A sum over the lanes of a pair that only the second head's lanes contribute to. -/
theorem sum_second (f : Fin 128 → EReal) (g : Fin 64 → EReal)
    (h0 : ∀ d : Fin 64, f ⟨64 + d.val, by omega⟩ = g d) (h1 : ∀ l : Fin 128, l.val < 64 → f l = 0) :
    ∑ l, f l = ∑ d, g d := by
  have e := Fin.sum_univ_add (M := EReal) (a := 64) (b := 64) f
  rw [show (∑ l, f l) = _ from e]
  have e1 : ∑ d : Fin 64, f (Fin.natAdd 64 d) = ∑ d, g d := Finset.sum_congr rfl fun d _ => h0 d
  have e2 : ∑ d : Fin 64, f (Fin.castAdd 64 d) = 0 := Finset.sum_eq_zero fun d _ => h1 (Fin.castAdd 64 d) (by simp)
  rw [e1, e2, zero_add]

/-- The product of head `h` of row `a` of block `j` of `X` with row `b` of what the block sees of `Y`. -/
def hdot (X : S512x512.Idx → EReal) (Y : S640x512.Idx → EReal) (j : Fin 4) (h : Fin 8) (a : Fin 128) (b : Fin 256) : EReal :=
  ∑ d : Fin 64, X (ix2 (rw4 j a) (ln8 h d)) * Y (ix2 (kr4 j b) (ln8 h d))

abbrev hA (p : Fin 4) : Fin 8 := ⟨2 * p.val, by omega⟩
abbrev hB (p : Fin 4) : Fin 8 := ⟨2 * p.val + 1, by omega⟩

abbrev dotFirst (x : FVec Ideal S128x128 .bf16) (y : FVec Ideal S256x128 .bf16) : FVec Ideal S1x128x256 .f32 :=
  shapeCast S1x128x256 (matmul dot_S128x128_S256x128_S128x256_1_1_0_0_n_n none x
    (select (broadcastTo S256x128 laneMask broadcasts_S1x128_S256x128) y (broadcast S256x128 zeroB)) (constant S128x256 .f32 0x00000000#32)) shapeCasts_S128x256_S1x128x256
abbrev dotSecond (x : FVec Ideal S128x128 .bf16) (y : FVec Ideal S256x128 .bf16) : FVec Ideal S1x128x256 .f32 :=
  shapeCast S1x128x256 (matmul dot_S128x128_S256x128_S128x256_1_1_0_0_n_n none x
    (select (broadcastTo S256x128 laneMask broadcasts_S1x128_S256x128) (broadcast S256x128 zeroB) y) (constant S128x256 .f32 0x00000000#32)) shapeCasts_S128x256_S1x128x256

theorem cast1 (w : FVec Ideal S128x256 .f32) (a : Fin 128) (b : Fin 256) :
    shapeCast S1x128x256 w shapeCasts_S128x256_S1x128x256 (ix3 (0 : Fin 1) a b) = w (ix2 a b) := by
  pointwise

theorem dotFirst_apply (X : S512x512.Idx → EReal) (Y : S640x512.Idx → EReal) (j p : Fin 4)
    (x : FVec Ideal S128x128 .bf16) (y : FVec Ideal S256x128 .bf16)
    (hx : ∀ a l, x (ix2 a l) = X (ix2 (rw4 j a) (lp4 p l))) (hy : ∀ b l, y (ix2 b l) = Y (ix2 (kr4 j b) (lp4 p l)))
    (a : Fin 128) (b : Fin 256) : dotFirst x y (ix3 (0 : Fin 1) a b) = hdot X Y j (hA p) a b := by
  unfold dotFirst
  rw [cast1, nt]
  refine sum_first _ _ (fun d => ?_) (fun l hl => ?_)
  · have e : lp4 p ⟨d.val, by omega⟩ = ln8 (hA p) d := Fin.ext (by simp only [lp4, ln8, hA]; omega)
    rw [first256, if_pos d.isLt, hx, hy, e]
  · rw [first256, if_neg hl, mul_zero]

theorem dotSecond_apply (X : S512x512.Idx → EReal) (Y : S640x512.Idx → EReal) (j p : Fin 4)
    (x : FVec Ideal S128x128 .bf16) (y : FVec Ideal S256x128 .bf16)
    (hx : ∀ a l, x (ix2 a l) = X (ix2 (rw4 j a) (lp4 p l))) (hy : ∀ b l, y (ix2 b l) = Y (ix2 (kr4 j b) (lp4 p l)))
    (a : Fin 128) (b : Fin 256) : dotSecond x y (ix3 (0 : Fin 1) a b) = hdot X Y j (hB p) a b := by
  unfold dotSecond
  rw [cast1, nt]
  refine sum_second _ _ (fun d => ?_) (fun l hl => ?_)
  · have e : lp4 p ⟨64 + d.val, by omega⟩ = ln8 (hB p) d := Fin.ext (by simp only [lp4, ln8, hB]; omega)
    rw [second256, if_neg (by simp), hx, hy, e]
  · rw [second256, if_pos hl, mul_zero]

/-- One store of head `k` agrees with a function of the whole stack where the head's rows are its. -/
theorem head_piece (G : S8x128x256.Idx → EReal) (k : Fin 8) (w : FVec Ideal S1x128x256 .f32)
    (inb : ∀ a, (![k.val, 0, 0] : Fin 3 → ℕ) a + S1x128x256.size a ≤ S8x128x256.size a)
    (h : ∀ a b, w (ix3 (0 : Fin 1) a b) = G (ix3 k a b)) (x : (Rect.unit (s := S8x128x256) ![k.val, 0, 0] S1x128x256.size inb).shape.Idx) :
    w x = G ((Rect.unit (s := S8x128x256) ![k.val, 0, 0] S1x128x256.size inb).emb x) := by
  have e : (Rect.unit (s := S8x128x256) ![k.val, 0, 0] S1x128x256.size inb).emb x = ix3 k (x 1) (x 2) := by
    funext i; apply Fin.ext
    have h0 : (x 0).val < 1 := (x 0).isLt
    rw [show ((Rect.unit (s := S8x128x256) ![k.val, 0, 0] S1x128x256.size inb).emb x i).val = (![k.val, 0, 0] : Fin 3 → ℕ) i + 1 * (x i).val from rfl]
    fin_cases i <;> simp
    omega
  have e' : x = ix3 (0 : Fin 1) (x 1) (x 2) := by
    funext i; apply Fin.ext
    have h0 : (x 0).val < 1 := (x 0).isLt
    fin_cases i <;> simp
    omega
  rw [e]
  conv_lhs => rw [e']
  exact h (x 1) (x 2)

/-- Eight stores, one of each head, read as one stack. -/
theorem stack8 {sig : RefSig} {κ : Kind} {sp : Space} (v : View sig κ sp S8x128x256 .f32) (G : S8x128x256.Idx → EReal)
    (w7 w6 w5 w4 w3 w2 w1 w0 : FVec Ideal S1x128x256 .f32) (rest : List (View.Piece (Elt Ideal) S8x128x256 .f32))
    (h7 : ∀ a b, w7 (ix3 (0 : Fin 1) a b) = G (ix3 (7 : Fin 8) a b)) (h6 : ∀ a b, w6 (ix3 (0 : Fin 1) a b) = G (ix3 (6 : Fin 8) a b)) (h5 : ∀ a b, w5 (ix3 (0 : Fin 1) a b) = G (ix3 (5 : Fin 8) a b)) (h4 : ∀ a b, w4 (ix3 (0 : Fin 1) a b) = G (ix3 (4 : Fin 8) a b)) (h3 : ∀ a b, w3 (ix3 (0 : Fin 1) a b) = G (ix3 (3 : Fin 8) a b)) (h2 : ∀ a b, w2 (ix3 (0 : Fin 1) a b) = G (ix3 (2 : Fin 8) a b)) (h1 : ∀ a b, w1 (ix3 (0 : Fin 1) a b) = G (ix3 (1 : Fin 8) a b)) (h0 : ∀ a b, w0 (ix3 (0 : Fin 1) a b) = G (ix3 (0 : Fin 8) a b)) :
    v.readCov (Val := Elt Ideal) (⟨Rect.unit ![7, 0, 0] S1x128x256.size inb_S8x128x256_S1x128x256_7_0_0, w7⟩ :: ⟨Rect.unit ![6, 0, 0] S1x128x256.size inb_S8x128x256_S1x128x256_6_0_0, w6⟩ :: ⟨Rect.unit ![5, 0, 0] S1x128x256.size inb_S8x128x256_S1x128x256_5_0_0, w5⟩ :: ⟨Rect.unit ![4, 0, 0] S1x128x256.size inb_S8x128x256_S1x128x256_4_0_0, w4⟩ :: ⟨Rect.unit ![3, 0, 0] S1x128x256.size inb_S8x128x256_S1x128x256_3_0_0, w3⟩ :: ⟨Rect.unit ![2, 0, 0] S1x128x256.size inb_S8x128x256_S1x128x256_2_0_0, w2⟩ :: ⟨Rect.unit ![1, 0, 0] S1x128x256.size inb_S8x128x256_S1x128x256_1_0_0, w1⟩ :: ⟨Rect.unit ![0, 0, 0] S1x128x256.size inb_S8x128x256_S1x128x256_0_0_0, w0⟩ :: rest)
      (Rect.unit ![0, 0, 0] S8x128x256.size inb_S8x128x256_S8x128x256_0_0_0).toLoadRect = G := by
  rw [View.readCov_eq_canon']
  funext y
  have hy : (Rect.unit (s := S8x128x256) ![0, 0, 0] S8x128x256.size inb_S8x128x256_S8x128x256_0_0_0).toLoadRect.idx y = y := by
    funext i; apply Fin.ext
    show (![0, 0, 0] : Fin 3 → ℕ) i + 1 * (y i).val = _
    fin_cases i <;> simp
  rw [hy]
  refine View.canon_append_of_pieces (Val := Elt Ideal) G rest [⟨Rect.unit ![7, 0, 0] S1x128x256.size inb_S8x128x256_S1x128x256_7_0_0, w7⟩, ⟨Rect.unit ![6, 0, 0] S1x128x256.size inb_S8x128x256_S1x128x256_6_0_0, w6⟩, ⟨Rect.unit ![5, 0, 0] S1x128x256.size inb_S8x128x256_S1x128x256_5_0_0, w5⟩, ⟨Rect.unit ![4, 0, 0] S1x128x256.size inb_S8x128x256_S1x128x256_4_0_0, w4⟩, ⟨Rect.unit ![3, 0, 0] S1x128x256.size inb_S8x128x256_S1x128x256_3_0_0, w3⟩, ⟨Rect.unit ![2, 0, 0] S1x128x256.size inb_S8x128x256_S1x128x256_2_0_0, w2⟩, ⟨Rect.unit ![1, 0, 0] S1x128x256.size inb_S8x128x256_S1x128x256_1_0_0, w1⟩, ⟨Rect.unit ![0, 0, 0] S1x128x256.size inb_S8x128x256_S1x128x256_0_0_0, w0⟩] ?_ y ?_
  · intro p hp x
    simp only [List.mem_cons, List.not_mem_nil, or_false] at hp
    rcases hp with rfl | rfl | rfl | rfl | rfl | rfl | rfl | rfl
    · exact head_piece G 7 w7 inb_S8x128x256_S1x128x256_7_0_0 h7 x
    · exact head_piece G 6 w6 inb_S8x128x256_S1x128x256_6_0_0 h6 x
    · exact head_piece G 5 w5 inb_S8x128x256_S1x128x256_5_0_0 h5 x
    · exact head_piece G 4 w4 inb_S8x128x256_S1x128x256_4_0_0 h4 x
    · exact head_piece G 3 w3 inb_S8x128x256_S1x128x256_3_0_0 h3 x
    · exact head_piece G 2 w2 inb_S8x128x256_S1x128x256_2_0_0 h2 x
    · exact head_piece G 1 w1 inb_S8x128x256_S1x128x256_1_0_0 h1 x
    · exact head_piece G 0 w0 inb_S8x128x256_S1x128x256_0_0_0 h0 x
  · have h0 : (y 0).val < 8 := (y 0).isLt
    have h1 : (y 1).val < 128 := (y 1).isLt
    have h2 : (y 2).val < 256 := (y 2).isLt
    have hm : ∀ k : ℕ, (y 0).val = k → ∀ inb, y ∈ (Rect.unit (s := S8x128x256) ![k, 0, 0] S1x128x256.size inb).set := by
      intro k hk inb
      rw [Rect.mem_set_unit]
      intro a
      fin_cases a <;> simp <;> omega
    have hc : (y 0).val = 7 ∨ (y 0).val = 6 ∨ (y 0).val = 5 ∨ (y 0).val = 4 ∨ (y 0).val = 3 ∨ (y 0).val = 2 ∨ (y 0).val = 1 ∨ (y 0).val = 0 := by omega
    rcases hc with h | h | h | h | h | h | h | h
    · exact ⟨_, List.mem_cons_self, hm _ h inb_S8x128x256_S1x128x256_7_0_0⟩
    · exact ⟨_, List.mem_cons_of_mem _ (List.mem_cons_self), hm _ h inb_S8x128x256_S1x128x256_6_0_0⟩
    · exact ⟨_, List.mem_cons_of_mem _ (List.mem_cons_of_mem _ (List.mem_cons_self)), hm _ h inb_S8x128x256_S1x128x256_5_0_0⟩
    · exact ⟨_, List.mem_cons_of_mem _ (List.mem_cons_of_mem _ (List.mem_cons_of_mem _ (List.mem_cons_self))), hm _ h inb_S8x128x256_S1x128x256_4_0_0⟩
    · exact ⟨_, List.mem_cons_of_mem _ (List.mem_cons_of_mem _ (List.mem_cons_of_mem _ (List.mem_cons_of_mem _ (List.mem_cons_self)))), hm _ h inb_S8x128x256_S1x128x256_3_0_0⟩
    · exact ⟨_, List.mem_cons_of_mem _ (List.mem_cons_of_mem _ (List.mem_cons_of_mem _ (List.mem_cons_of_mem _ (List.mem_cons_of_mem _ (List.mem_cons_self))))), hm _ h inb_S8x128x256_S1x128x256_2_0_0⟩
    · exact ⟨_, List.mem_cons_of_mem _ (List.mem_cons_of_mem _ (List.mem_cons_of_mem _ (List.mem_cons_of_mem _ (List.mem_cons_of_mem _ (List.mem_cons_of_mem _ (List.mem_cons_self)))))), hm _ h inb_S8x128x256_S1x128x256_1_0_0⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), hm _ h inb_S8x128x256_S1x128x256_0_0_0⟩

/-- A slice, entry by entry. -/
theorem slice2 {m n m' n' : ℕ} {α : Type} (x : (⟨2, ![m, n]⟩ : Shape).Idx → α) (o p : ℕ) (h) (a : Fin m') (b : Fin n') (r : Fin m) (c : Fin n)
    (hr : r.val = o + a.val) (hc : c.val = p + b.val) :
    extractStridedSlice (⟨2, ![m', n']⟩ : Shape) ![o, p] x h (ix2 a b) = x (ix2 r c) := by
  refine congrArg x (funext fun i => Fin.ext ?_)
  fin_cases i
  · exact hr.symm
  · exact hc.symm

/-- The slices the body takes: the keys or values of two neighbouring blocks for a pair of heads, and a block's rows. -/
theorem sliceK {x x' : S640x512.Idx → EReal} (e : x = x') (o p : ℕ) (h) (b : Fin 256) (l : Fin 128) (j k : Fin 4) (ho : o = 128 * j.val) (hp : p = 128 * k.val) :
    extractStridedSlice S256x128 ![o, p] x h (ix2 b l) = x' (ix2 (kr4 j b) (lp4 k l)) := by
  rw [← e]
  exact slice2 (m := 640) (n := 512) (m' := 256) (n' := 128) x o p h b l (kr4 j b) (lp4 k l) (by rw [ho]) (by rw [hp])

theorem sliceQ {x x' : S512x512.Idx → EReal} (e : x = x') (o p : ℕ) (h) (a l : Fin 128) (j k : Fin 4) (ho : o = 128 * j.val) (hp : p = 128 * k.val) :
    extractStridedSlice S128x128 ![o, p] x h (ix2 a l) = x' (ix2 (rw4 j a) (lp4 k l)) := by
  rw [← e]
  exact slice2 (m := 512) (n := 512) (m' := 128) (n' := 128) x o p h a l (rw4 j a) (lp4 k l) (by rw [ho]) (by rw [hp])

/-- The scaled queries: `q · 0.125`. -/
def scaled (x : S512x512.Idx → EReal) : S512x512.Idx → EReal := fun i => x i * Ideal.ofBits .f32 0x3E000000#32

abbrev wholeLoad {sig : RefSig} {κ : Kind} {sp : Space} {e : EltTy} (v : View sig κ sp S512x512 e) (f : v.ty.Contents (Elt Ideal)) : Vec Ideal S512x512 e :=
  v.readAt (Elt Ideal) (Rect.unit ![0, 0] S512x512.size inb_S512x512_S512x512_0_0).toLoadRect f

theorem castId512 {e : EltTy} (x : Vec Ideal S512x512 e) : shapeCast S512x512 x shapeCasts_S512x512_S512x512 = x := by
  funext i
  pointwise

theorem load512 {sig : RefSig} {e : EltTy} {sp : Space} (m : Memref sig .tc sp S512x512 e) (hm : m.IsWhole) (x : Vec Ideal S512x512 e) (h) :
    m.view.readAt (Elt Ideal) (Rect.unit ![0, 0] S512x512.size h).toLoadRect (hm.unread x) = x := by
  rw [View.readAt_eq_ld, hm.read_unread]
  exact View.ld_unit_zero (by funext a; fin_cases a <;> rfl) _ _

theorem load512c {sig : RefSig} {e : EltTy} {sp : Space} (m : Memref sig .tc sp S512x512 e) (hm : m.IsWhole) (x : Vec Ideal S512x512 e) (h) :
    shapeCast S512x512 (m.view.readAt (Elt Ideal) (Rect.unit ![0, 0] S512x512.size h).toLoadRect (hm.unread x)) shapeCasts_S512x512_S512x512 = x := by
  rw [castId512, load512]

theorem load128c {sig : RefSig} {e : EltTy} {sp : Space} (m : Memref sig .tc sp S128x512 e) (hm : m.IsWhole) (x : Vec Ideal S128x512 e) (h) :
    shapeCast S128x512 (m.view.readAt (Elt Ideal) (Rect.unit ![0, 0] S128x512.size h).toLoadRect (hm.unread x)) shapeCasts_S128x512_S128x512 = x := by
  rw [View.readAt_eq_ld, hm.read_unread]
  rw [View.ld_unit_zero (by funext a; fin_cases a <;> rfl)]
  funext i
  pointwise

theorem load8 {sig : RefSig} {e : EltTy} {sp : Space} (m : Memref sig .tc sp S8x128x256 e) (hm : m.IsWhole) (x : Vec Ideal S8x128x256 e) (h) :
    m.view.readAt (Elt Ideal) (Rect.unit ![0, 0, 0] S8x128x256.size h).toLoadRect (hm.unread x) = x := by
  rw [View.readAt_eq_ld, hm.read_unread]
  exact View.ld_unit_zero (by funext a; fin_cases a <;> rfl) _ _

theorem cast8 {e : EltTy} (x : Vec Ideal S8x128x256 e) : shapeCast S8x128x256 x shapeCasts_S8x128x256_S8x128x256 = x := by
  funext i
  pointwise

/-- The keys (or values) that a grid point sees: the block before it, then its own four. -/
def glue (x1 : S128x512.Idx → EReal) (x2 : S512x512.Idx → EReal) : S640x512.Idx → EReal := fun y =>
  if h : (y 0).val < 128 then x1 (ix2 ⟨(y 0).val, h⟩ (y 1)) else x2 (ix2 ⟨(y 0).val - 128, by have h2 : (y 0).val < 640 := (y 0).isLt; omega⟩ (y 1))

theorem glue_eq (x1 : FVec Ideal S128x512 .bf16) (x2 : FVec Ideal S512x512 .bf16) :
    concatenate S640x512 0 [⟨S128x512, x1⟩, ⟨S512x512, x2⟩] concatenates_S128x512_S512x512_S640x512_d0 = glue x1 x2 := by
  funext y
  pointwise [glue]

/-- A query block's slice of the scaled queries. -/
theorem q2_at (x : FVec Ideal S512x512 .bf16) (j p : Fin 4) (o r : ℕ) (ho : o = 128 * j.val) (hr : r = 128 * p.val) (h) (hb) (hb') (a l : Fin 128) :
    (truncf .bf16 (mulf (extf .f32 (extractStridedSlice S128x128 ![o, r] x h) hb) (broadcast S128x128 (Scalar.ofBits .f32 0x3E000000#32))) hb' : FVec Ideal S128x128 .bf16) (ix2 a l)
      = scaled x (ix2 (rw4 j a) (lp4 p l)) := by
  have e := slice2 (m := 512) (n := 512) (m' := 128) (n' := 128) x o r h a l (rw4 j a) (lp4 p l) (by rw [ho]) (by rw [hr])
  show extractStridedSlice S128x128 ![o, r] x h (ix2 a l) * _ = _
  rw [show extractStridedSlice S128x128 ![o, r] x h (ix2 a l) = _ from e]
  rfl

/-- The column of a head's first lane, of eight heads, stacked. -/
theorem colStack (x : FVec Ideal S512x512 .f32) (j : Fin 4) (o : ℕ) (ho : o = 128 * j.val)
    (s0 s1 s2 s3 s4 s5 s6 s7) (h : Fin 8) (a : Fin 128) :
    concatenate S8x128x1 0 [⟨S1x128x1, shapeCast S1x128x1 (extractStridedSlice S128x1 ![o, 0] x s0) shapeCasts_S128x1_S1x128x1⟩,
      ⟨S1x128x1, shapeCast S1x128x1 (extractStridedSlice S128x1 ![o, 64] x s1) shapeCasts_S128x1_S1x128x1⟩,
      ⟨S1x128x1, shapeCast S1x128x1 (extractStridedSlice S128x1 ![o, 128] x s2) shapeCasts_S128x1_S1x128x1⟩,
      ⟨S1x128x1, shapeCast S1x128x1 (extractStridedSlice S128x1 ![o, 192] x s3) shapeCasts_S128x1_S1x128x1⟩,
      ⟨S1x128x1, shapeCast S1x128x1 (extractStridedSlice S128x1 ![o, 256] x s4) shapeCasts_S128x1_S1x128x1⟩,
      ⟨S1x128x1, shapeCast S1x128x1 (extractStridedSlice S128x1 ![o, 320] x s5) shapeCasts_S128x1_S1x128x1⟩,
      ⟨S1x128x1, shapeCast S1x128x1 (extractStridedSlice S128x1 ![o, 384] x s6) shapeCasts_S128x1_S1x128x1⟩,
      ⟨S1x128x1, shapeCast S1x128x1 (extractStridedSlice S128x1 ![o, 448] x s7) shapeCasts_S128x1_S1x128x1⟩]
      concatenates_S1x128x1_S1x128x1_S1x128x1_S1x128x1_S1x128x1_S1x128x1_S1x128x1_S1x128x1_S8x128x1_d0 (ix3 h a (0 : Fin 1))
      = x (ix2 (rw4 j a) (ln8 h 0)) := by
  subst ho
  fin_cases h <;> pointwise <;> rfl

/-- One probability column, broadcast along the row. -/
theorem col_bcast (c : FVec Ideal S8x128x1 .f32) (h : Fin 8) (a : Fin 128) (b : Fin 256) :
    broadcastTo S8x128x256 c broadcasts_S8x128x1_S8x128x256 (ix3 h a b) = c (ix3 h a (0 : Fin 1)) := by
  pointwise

/-- The head that a lane belongs to. -/
abbrev hd (l : Fin 512) : Fin 8 := ⟨l.val / 64, by omega⟩

/-- The block before the very first one is no block: its keys are masked. -/
def killAt (n : ℕ) (j : Fin 4) : Bool := decide (n = 0 ∧ j = 0)

/-- The probabilities: the exponential of the masked, biased product less the row's constant. -/
def pG (kill : Bool) (S B : S8x128x256.Idx → EReal) (L : S512x512.Idx → EReal) (j : Fin 4) : S8x128x256.Idx → EReal := fun y =>
  Ideal.exp ((if kill = true ∧ (y 2).val < 128 then ⊥ else S y + B y) - L (ix2 (rw4 j (y 1)) (ln8 (y 0) 0)))

/-- The cotangent of the products. -/
def dsG (P D : S8x128x256.Idx → EReal) (DD : S512x512.Idx → EReal) (j : Fin 4) : S8x128x256.Idx → EReal := fun y =>
  P y * (D y - DD (ix2 (rw4 j (y 1)) (ln8 (y 0) 0)))

theorem named_mask : (Named.named κ "mask" 0xF149F2CA#32 : Ideal .f32) = ⊥ :=
  IdealRules.named_const.ideal_named_scalar _ _ _ _ rfl

theorem p_stage (s bb : FVec Ideal S8x128x256 .f32) (c : FVec Ideal S8x128x1 .f32) (S B : S8x128x256.Idx → EReal) (L : S512x512.Idx → EReal) (j : Fin 4)
    (hs : s = S) (hb : bb = B) (hc : ∀ h a, c (ix3 h a (0 : Fin 1)) = L (ix2 (rw4 j a) (ln8 h 0))) :
    exp (subf (addf s bb) (broadcastTo S8x128x256 c broadcasts_S8x128x1_S8x128x256)) = pG false S B L j := by
  subst hs hb
  funext y
  obtain ⟨h, a, b, rfl⟩ : ∃ h a b, y = ix3 h a b := ⟨y 0, y 1, y 2, by idx_ext⟩
  pointwise [pG, hc]
  simp

theorem kill_iff (n : ℕ) (hn : n < 33) (b : Fin 256) :
    IntOp.andi (Scalar.cmpi .eq (BitVec.ofNat 32 n) 0#32) (IntOp.cmpi .slt (BitVec.ofNat 32 b.val) 128#32)
      = if n = 0 ∧ b.val < 128 then 1#1 else 0#1 := by
  have h1 : (Scalar.cmpi .eq (BitVec.ofNat 32 n) 0#32 : BitVec 1) = if n = 0 then 1#1 else 0#1 := by
    revert n; decide +kernel
  have h2 : IntOp.cmpi .slt (BitVec.ofNat 32 b.val) 128#32 = if b.val < 128 then 1#1 else 0#1 := by
    revert b; decide +kernel
  rw [h1, h2]
  by_cases h : n = 0 <;> by_cases h' : b.val < 128 <;> simp [h, h', IntOp.andi]

theorem p_stage0 (i : grid0.Coords) (v27 : FVec Ideal S512x512 .f32) (v37 : IVec S128x256 1) (s bb : Vec Ideal S8x128x256 .f32) (S B : S8x128x256.Idx → EReal) (L : S512x512.Idx → EReal)
    (hk : v37 = andi (broadcast S128x256 (Scalar.cmpi .eq (BitVec.ofNat 32 (i 1).val) 0#32)) (cmpi .slt (iota .tc S128x256 32 [1] iota_S128x256_d1_w32) (broadcast S128x256 128#32)))
    (hs : s = S) (hb : bb = B) (hL : v27 = L) :
    k0_pay56 v27 v37 s bb
      = pG (killAt (i 1).val 0) S B L 0 := by
  subst hs hb hL hk
  funext y
  obtain ⟨h, a, b, rfl⟩ : ∃ h a b, y = ix3 h a b := ⟨y 0, y 1, y 2, by idx_ext⟩
  unfold k0_pay56
  have hc := colStack v27 0 0 rfl slices_S512x512_o0_0_S128x1 slices_S512x512_o0_64_S128x1 slices_S512x512_o0_128_S128x1 slices_S512x512_o0_192_S128x1
    slices_S512x512_o0_256_S128x1 slices_S512x512_o0_320_S128x1 slices_S512x512_o0_384_S128x1 slices_S512x512_o0_448_S128x1 h a
  dsimp only
  show FloatOps.exp _ = _
  show Ideal.exp (_ - _) = _
  rw [col_bcast, hc, cast8]
  have hn : (i 1).val < 33 := (i 1).isLt
  have e := kill_iff _ hn b
  pointwise [pG, named_mask, e]
  by_cases hk : (i 1).val = 0 ∧ b.val < 128 <;> simp [hk, killAt, Scalar.select]

theorem ds_stage (p d : FVec Ideal S8x128x256 .f32) (c : FVec Ideal S8x128x1 .f32) (P D : S8x128x256.Idx → EReal) (L : S512x512.Idx → EReal) (j : Fin 4)
    (hp : p = P) (hd : d = D) (hc : ∀ h a, c (ix3 h a (0 : Fin 1)) = L (ix2 (rw4 j a) (ln8 h 0))) :
    mulf p (subf d (broadcastTo S8x128x256 c broadcasts_S8x128x1_S8x128x256)) = dsG P D L j := by
  subst hp hd
  funext y
  obtain ⟨h, a, b, rfl⟩ : ∃ h a b, y = ix3 h a b := ⟨y 0, y 1, y 2, by idx_ext⟩
  pointwise [dsG, hc]

/-- A head read back out of a stack that was stored whole. -/
theorem headRead {sig : RefSig} {sp : Space} (v : View sig .tc sp S8x128x256 .bf16) (w : FVec Ideal S8x128x256 .bf16)
    (rest : List (View.Piece (Elt Ideal) S8x128x256 .bf16)) (k : ℕ) (hk : k < 8) (inb) (a : Fin 128) (b : Fin 256) :
    shapeCast S128x256 (v.readCov (Val := Elt Ideal) (⟨(Rect.unit (s := S8x128x256) ![0, 0, 0] S8x128x256.size inb_S8x128x256_S8x128x256_0_0_0), w⟩ :: rest) (Rect.unit (s := S8x128x256) ![k, 0, 0] S1x128x256.size inb).toLoadRect) shapeCasts_S1x128x256_S128x256 (ix2 a b)
      = w (ix3 (⟨k, hk⟩ : Fin 8) a b) := by
  rw [View.readCov_eq_canon', View.canon_cons_unit_zero (by funext a; fin_cases a <;> rfl)]
  have e : ∀ (x : S1x128x256.Idx → EReal), shapeCast S128x256 x shapeCasts_S1x128x256_S128x256 (ix2 a b) = x (ix3 (0 : Fin 1) a b) := by
    intro x; pointwise
  refine (e _).trans (congrArg w ?_)
  funext i; apply Fin.ext
  show (![k, 0, 0] : Fin 3 → ℕ) i + 1 * (ix3 (0 : Fin 1) a b i).val = _
  fin_cases i <;> simp

theorem headEq {sig : RefSig} {sp : Space} {w P : FVec Ideal S8x128x256 .bf16} {rest : List (View.Piece (Elt Ideal) S8x128x256 .bf16)} (v : View sig .tc sp S8x128x256 .bf16) (k : ℕ)
    {inb} (h : w = P) (hk : k < 8 := by decide) (a : Fin 128) (b : Fin 256) :
    shapeCast S128x256 (v.readCov (Val := Elt Ideal) (⟨(Rect.unit (s := S8x128x256) ![0, 0, 0] S8x128x256.size inb_S8x128x256_S8x128x256_0_0_0), w⟩ :: rest) (Rect.unit (s := S8x128x256) ![k, 0, 0] S1x128x256.size inb).toLoadRect) shapeCasts_S1x128x256_S128x256 (ix2 a b)
      = P (ix3 (⟨k, hk⟩ : Fin 8) a b) := (headRead v w rest k hk inb a b).trans (congrFun h _)

def fullG (P : S8x128x256.Idx → EReal) (Z : S512x512.Idx → EReal) (j : Fin 4) : S256x512.Idx → EReal := fun y =>
  ∑ a : Fin 128, P (ix3 (hd (y 1)) a (y 0)) * Z (ix2 (rw4 j a) (y 1))

def dqG (DS : S8x128x256.Idx → EReal) (K : S640x512.Idx → EReal) (j : Fin 4) : S128x512.Idx → EReal := fun y =>
  (∑ b : Fin 256, DS (ix3 (hd (y 1)) (y 0) b) * K (ix2 (kr4 j b) (y 1))) * Ideal.ofBits .f32 0x3E000000#32

theorem lane_split (l : Fin 512) : ∃ (p : Fin 4) (k : Fin 128), l = lp4 p k :=
  ⟨⟨l.val / 128, by omega⟩, ⟨l.val % 128, by omega⟩, Fin.ext (by simp only [lp4]; omega)⟩

theorem cat256 (w0 w1 w2 w3 : FVec Ideal S256x128 .f32) (G : S256x512.Idx → EReal)
    (h0 : ∀ b l, w0 (ix2 b l) = G (ix2 b (lp4 0 l))) (h1 : ∀ b l, w1 (ix2 b l) = G (ix2 b (lp4 1 l))) (h2 : ∀ b l, w2 (ix2 b l) = G (ix2 b (lp4 2 l))) (h3 : ∀ b l, w3 (ix2 b l) = G (ix2 b (lp4 3 l))) :
    concatenate S256x512 1 [⟨S256x128, w0⟩, ⟨S256x128, w1⟩, ⟨S256x128, w2⟩, ⟨S256x128, w3⟩] concatenates_S256x128_S256x128_S256x128_S256x128_S256x512_d1 = G := by
  have key : ∀ (p : Fin 4) b l, concatenate S256x512 1 [⟨S256x128, w0⟩, ⟨S256x128, w1⟩, ⟨S256x128, w2⟩, ⟨S256x128, w3⟩] concatenates_S256x128_S256x128_S256x128_S256x128_S256x512_d1 (ix2 b (lp4 p l)) = G (ix2 b (lp4 p l)) := by
    intro p b l
    fin_cases p
    · refine Eq.trans ?_ (h0 b l); pointwise
    · refine Eq.trans ?_ (h1 b l); pointwise
    · refine Eq.trans ?_ (h2 b l); pointwise
      split_ifs <;> first | omega | exact congrArg (fun k => w2 (ix2 b k)) (Fin.ext (by dsimp only; omega))
    · refine Eq.trans ?_ (h3 b l); pointwise
      split_ifs <;> first | omega | exact congrArg (fun k => w3 (ix2 b k)) (Fin.ext (by dsimp only; omega))
  funext y
  obtain ⟨p, l, hp⟩ := lane_split (y 1)
  have e : y = ix2 (y 0) (lp4 p l) := by rw [← hp]; idx_ext
  rw [e]
  exact key p (y 0) l

theorem cat128 (w0 w1 w2 w3 : FVec Ideal S128x128 .f32) (G : S128x512.Idx → EReal)
    (h0 : ∀ b l, w0 (ix2 b l) = G (ix2 b (lp4 0 l))) (h1 : ∀ b l, w1 (ix2 b l) = G (ix2 b (lp4 1 l))) (h2 : ∀ b l, w2 (ix2 b l) = G (ix2 b (lp4 2 l))) (h3 : ∀ b l, w3 (ix2 b l) = G (ix2 b (lp4 3 l))) :
    concatenate S128x512 1 [⟨S128x128, w0⟩, ⟨S128x128, w1⟩, ⟨S128x128, w2⟩, ⟨S128x128, w3⟩] concatenates_S128x128_S128x128_S128x128_S128x128_S128x512_d1 = G := by
  have key : ∀ (p : Fin 4) b l, concatenate S128x512 1 [⟨S128x128, w0⟩, ⟨S128x128, w1⟩, ⟨S128x128, w2⟩, ⟨S128x128, w3⟩] concatenates_S128x128_S128x128_S128x128_S128x128_S128x512_d1 (ix2 b (lp4 p l)) = G (ix2 b (lp4 p l)) := by
    intro p b l
    fin_cases p
    · refine Eq.trans ?_ (h0 b l); pointwise
    · refine Eq.trans ?_ (h1 b l); pointwise
    · refine Eq.trans ?_ (h2 b l); pointwise
      split_ifs <;> first | omega | exact congrArg (fun k => w2 (ix2 b k)) (Fin.ext (by dsimp only; omega))
    · refine Eq.trans ?_ (h3 b l); pointwise
      split_ifs <;> first | omega | exact congrArg (fun k => w3 (ix2 b k)) (Fin.ext (by dsimp only; omega))
  funext y
  obtain ⟨p, l, hp⟩ := lane_split (y 1)
  have e : y = ix2 (y 0) (lp4 p l) := by rw [← hp]; idx_ext
  rw [e]
  exact key p (y 0) l

theorem catRows (w0 w1 w2 w3 : FVec Ideal S128x512 .f32) (G : S512x512.Idx → EReal)
    (h0 : ∀ a l, w0 (ix2 a l) = G (ix2 (rw4 0 a) l)) (h1 : ∀ a l, w1 (ix2 a l) = G (ix2 (rw4 1 a) l)) (h2 : ∀ a l, w2 (ix2 a l) = G (ix2 (rw4 2 a) l)) (h3 : ∀ a l, w3 (ix2 a l) = G (ix2 (rw4 3 a) l)) :
    concatenate S512x512 0 [⟨S128x512, w0⟩, ⟨S128x512, w1⟩, ⟨S128x512, w2⟩, ⟨S128x512, w3⟩] concatenates_S128x512_S128x512_S128x512_S128x512_S512x512_d0 = G := by
  have key : ∀ (p : Fin 4) a l, concatenate S512x512 0 [⟨S128x512, w0⟩, ⟨S128x512, w1⟩, ⟨S128x512, w2⟩, ⟨S128x512, w3⟩] concatenates_S128x512_S128x512_S128x512_S128x512_S512x512_d0 (ix2 (rw4 p a) l) = G (ix2 (rw4 p a) l) := by
    intro p a l
    fin_cases p
    · refine Eq.trans ?_ (h0 a l); pointwise
    · refine Eq.trans ?_ (h1 a l); pointwise
    · refine Eq.trans ?_ (h2 a l); pointwise
      split_ifs <;> first | omega | exact congrArg (fun k => w2 (ix2 k l)) (Fin.ext (by dsimp only; omega))
    · refine Eq.trans ?_ (h3 a l); pointwise
      split_ifs <;> first | omega | exact congrArg (fun k => w3 (ix2 k l)) (Fin.ext (by dsimp only; omega))
  funext y
  obtain ⟨p, l, hp⟩ := lane_split (y 0)
  have e : y = ix2 (rw4 p l) (y 1) := by rw [show rw4 p l = lp4 p l from rfl, ← hp]; idx_ext
  rw [e]
  exact key p l (y 1)

theorem fullG_pair (P : S8x128x256.Idx → EReal) (Z : S512x512.Idx → EReal) (j p : Fin 4) (pa pb : FVec Ideal S128x256 .bf16) (z : FVec Ideal S128x128 .bf16)
    (ha : ∀ a b, pa (ix2 a b) = P (ix3 (hA p) a b)) (hb : ∀ a b, pb (ix2 a b) = P (ix3 (hB p) a b))
    (hz : ∀ a l, z (ix2 a l) = Z (ix2 (rw4 j a) (lp4 p l))) (b : Fin 256) (l : Fin 128) :
    addf (matmul dot_S128x256_S128x128_S256x128_0_0_1_1_n_n none pa (select (broadcastTo S128x128 laneMask broadcasts_S1x128_S128x128) z (broadcast S128x128 zeroB)) (constant S256x128 .f32 0x00000000#32))
      (matmul dot_S128x256_S128x128_S256x128_0_0_1_1_n_n none pb (select (broadcastTo S128x128 laneMask broadcasts_S1x128_S128x128) (broadcast S128x128 zeroB) z) (constant S256x128 .f32 0x00000000#32)) (ix2 b l)
      = fullG P Z j (ix2 b (lp4 p l)) := by
  show _ + _ = ∑ a : Fin 128, P (ix3 (hd (lp4 p l)) a b) * Z (ix2 (rw4 j a) (lp4 p l))
  rw [tn, tn]
  by_cases hl : l.val < 64
  · have e : hd (lp4 p l) = hA p := Fin.ext (by simp only [lp4, hd, hA]; omega)
    simp only [e, first128, second128, hl, if_true, mul_zero, Finset.sum_const_zero, add_zero, ha, hz]
  · have e : hd (lp4 p l) = hB p := Fin.ext (by simp only [lp4, hd, hB]; omega)
    simp only [e, first128, second128, hl, if_false, mul_zero, Finset.sum_const_zero, zero_add, hb, hz]

theorem dqG_pair (P : S8x128x256.Idx → EReal) (K : S640x512.Idx → EReal) (j p : Fin 4) (pa pb : FVec Ideal S128x256 .bf16) (z : FVec Ideal S256x128 .bf16)
    (ha : ∀ a b, pa (ix2 a b) = P (ix3 (hA p) a b)) (hb : ∀ a b, pb (ix2 a b) = P (ix3 (hB p) a b))
    (hz : ∀ a l, z (ix2 a l) = K (ix2 (kr4 j a) (lp4 p l))) (a : Fin 128) (l : Fin 128) :
    mulf (addf (matmul dot_S128x256_S256x128_S128x128_1_0_0_1_n_n none pa (select (broadcastTo S256x128 laneMask broadcasts_S1x128_S256x128) z (broadcast S256x128 zeroB)) (constant S128x128 .f32 0x00000000#32))
      (matmul dot_S128x256_S256x128_S128x128_1_0_0_1_n_n none pb (select (broadcastTo S256x128 laneMask broadcasts_S1x128_S256x128) (broadcast S256x128 zeroB) z) (constant S128x128 .f32 0x00000000#32))) (broadcast S128x128 (Scalar.ofBits .f32 0x3E000000#32)) (ix2 a l)
      = dqG P K j (ix2 a (lp4 p l)) := by
  show (_ + _) * Ideal.ofBits .f32 0x3E000000#32 = (∑ b : Fin 256, P (ix3 (hd (lp4 p l)) a b) * K (ix2 (kr4 j b) (lp4 p l))) * Ideal.ofBits .f32 0x3E000000#32
  rw [nn, nn]
  by_cases hl : l.val < 64
  · have e : hd (lp4 p l) = hA p := Fin.ext (by simp only [lp4, hd, hA]; omega)
    simp only [e, first256, second256, hl, if_true, mul_zero, Finset.sum_const_zero, add_zero, ha, hz]
  · have e : hd (lp4 p l) = hB p := Fin.ext (by simp only [lp4, hd, hB]; omega)
    simp only [e, first256, second256, hl, if_false, mul_zero, Finset.sum_const_zero, zero_add, hb, hz]

theorem castTrunc (x : FVec Ideal S8x128x256 .f32) (G : S8x128x256.Idx → EReal) (h : x = G) (hb) :
    shapeCast S8x128x256 (truncf .bf16 x hb : FVec Ideal S8x128x256 .bf16) shapeCasts_S8x128x256_S8x128x256 = G :=
  (cast8 (e := .bf16) _).trans h

/-- The stack of the eight heads' products. -/
def sG (X : S512x512.Idx → EReal) (Y : S640x512.Idx → EReal) (j : Fin 4) : S8x128x256.Idx → EReal := fun y => hdot X Y j (y 0) (y 1) (y 2)

/-- What a grid point computes for its query block `j`: the probabilities, the cotangent of the products, and what they give. -/
def PB (n : ℕ) (x0 : S512x512.Idx → EReal) (x1 : S128x512.Idx → EReal) (x2 : S512x512.Idx → EReal) (x5 : S8x128x256.Idx → EReal) (x6 : S512x512.Idx → EReal) (j : Fin 4) :
    S8x128x256.Idx → EReal := pG (killAt n j) (sG (scaled x0) (glue x1 x2) j) x5 x6 j

def DSB (n : ℕ) (x0 : S512x512.Idx → EReal) (x1 : S128x512.Idx → EReal) (x2 : S512x512.Idx → EReal) (x3 : S128x512.Idx → EReal) (x4 : S512x512.Idx → EReal)
    (x5 : S8x128x256.Idx → EReal) (x6 x7 x8 : S512x512.Idx → EReal) (j : Fin 4) :
    S8x128x256.Idx → EReal := dsG (PB n x0 x1 x2 x5 x6 j) (sG x7 (glue x3 x4) j) x8 j

def FVB (n : ℕ) (x0 : S512x512.Idx → EReal) (x1 : S128x512.Idx → EReal) (x2 : S512x512.Idx → EReal) (x5 : S8x128x256.Idx → EReal) (x6 x7 : S512x512.Idx → EReal) (j : Fin 4) :
    S256x512.Idx → EReal := fullG (PB n x0 x1 x2 x5 x6 j) x7 j

def FKB (n : ℕ) (x0 : S512x512.Idx → EReal) (x1 : S128x512.Idx → EReal) (x2 : S512x512.Idx → EReal) (x3 : S128x512.Idx → EReal) (x4 : S512x512.Idx → EReal)
    (x5 : S8x128x256.Idx → EReal) (x6 x7 x8 : S512x512.Idx → EReal) (j : Fin 4) :
    S256x512.Idx → EReal := fullG (DSB n x0 x1 x2 x3 x4 x5 x6 x7 x8 j) (scaled x0) j

def DQB (n : ℕ) (x0 : S512x512.Idx → EReal) (x1 : S128x512.Idx → EReal) (x2 : S512x512.Idx → EReal) (x3 : S128x512.Idx → EReal) (x4 : S512x512.Idx → EReal)
    (x5 : S8x128x256.Idx → EReal) (x6 x7 x8 : S512x512.Idx → EReal) (j : Fin 4) :
    S128x512.Idx → EReal := dqG (DSB n x0 x1 x2 x3 x4 x5 x6 x7 x8 j) (glue x1 x2) j

/-- Block `k` and lane of a row of the four blocks. -/
def DQA (n : ℕ) (x0 : S512x512.Idx → EReal) (x1 : S128x512.Idx → EReal) (x2 : S512x512.Idx → EReal) (x3 : S128x512.Idx → EReal) (x4 : S512x512.Idx → EReal)
    (x5 : S8x128x256.Idx → EReal) (x6 x7 x8 : S512x512.Idx → EReal) : S512x512.Idx → EReal := fun y =>
  DQB n x0 x1 x2 x3 x4 x5 x6 x7 x8 ⟨(y 0).val / 128, by have h : (y 0).val < 512 := (y 0).isLt; omega⟩ (ix2 (⟨(y 0).val % 128, by omega⟩ : Fin 128) (y 1))

theorem DQA_rw4 (n : ℕ) (x0 : S512x512.Idx → EReal) (x1 : S128x512.Idx → EReal) (x2 : S512x512.Idx → EReal) (x3 : S128x512.Idx → EReal) (x4 : S512x512.Idx → EReal)
    (x5 : S8x128x256.Idx → EReal) (x6 x7 x8 : S512x512.Idx → EReal) (j : Fin 4) (a : Fin 128) (l : Fin 512) :
    DQB n x0 x1 x2 x3 x4 x5 x6 x7 x8 j (ix2 a l) = DQA n x0 x1 x2 x3 x4 x5 x6 x7 x8 (ix2 (rw4 j a) l) := by
  have e1 : (⟨(rw4 j a).val / 128, by omega⟩ : Fin 4) = j := Fin.ext (by simp only [rw4]; omega)
  have e2 : (⟨(rw4 j a).val % 128, by omega⟩ : Fin 128) = a := Fin.ext (by simp only [rw4]; omega)
  show _ = DQB n x0 x1 x2 x3 x4 x5 x6 x7 x8 ⟨(rw4 j a).val / 128, _⟩ (ix2 ⟨(rw4 j a).val % 128, _⟩ l)
  rw [e1, e2]

end Cert.KernelIdeal.Val

end
-- ==== Proof.Match.lean ====
/- What a grid point computes for one of its four query blocks, as reals, when the blocks it is given hold the reals of
   the six arrays: the weights, the cotangents of the scores, and the sums they give. -/
module

public import proofs.«01_k».proof.Proof.Ops
public import proofs.«01_k».proof.Proof.Spec

@[expose] public section

set_option maxRecDepth 16384

noncomputable section

namespace Cert.KernelIdeal.Val

open Cert.KernelIdeal Cert.KernelIdeal.Gen Idealize.ShloMosaic TcCoe Tactic
open Cert.Spec

/-- Block `j` of grid point `t`, among the 128. -/
abbrev nb (t : ℕ) (ht : t ≤ 31) (j : Fin 4) : Fin 128 := ⟨4 * t + j.val, by omega⟩

/-- The blocks a grid point is given hold the reals of `X`; `λ` are the rows' log-sums. -/
structure Given (X : Inp) (lam : Fin 128 → Fin 8 → Fin 128 → ℝ) (t : ℕ) (ht : t ≤ 31)
    (x0 : S512x512.Idx → EReal) (x1 : S128x512.Idx → EReal) (x2 : S512x512.Idx → EReal) (x3 : S128x512.Idx → EReal) (x4 : S512x512.Idx → EReal)
    (x5 : S8x128x256.Idx → EReal) (x6 x7 x8 : S512x512.Idx → EReal) : Prop where
  q : ∀ j a h d, x0 (ix2 (rw4 j a) (ln8 h d)) = ((X.q (row (nb t ht j) a) h d : ℝ) : EReal)
  kp : ∀ a h d, x1 (ix2 a (ln8 h d)) = ((X.k (row ⟨4 * t - 1, by omega⟩ a) h d : ℝ) : EReal)
  k : ∀ j a h d, x2 (ix2 (rw4 j a) (ln8 h d)) = ((X.k (row (nb t ht j) a) h d : ℝ) : EReal)
  vp : ∀ a h d, x3 (ix2 a (ln8 h d)) = ((X.v (row ⟨4 * t - 1, by omega⟩ a) h d : ℝ) : EReal)
  v : ∀ j a h d, x4 (ix2 (rw4 j a) (ln8 h d)) = ((X.v (row (nb t ht j) a) h d : ℝ) : EReal)
  β : ∀ h a b, x5 (ix3 h a b) = if a.val ≤ b.val ∧ b.val ≤ a.val + 128 then ((X.β h a b : ℝ) : EReal) else ⊥
  l : ∀ j a h d, x6 (ix2 (rw4 j a) (ln8 h d)) = ((lam (nb t ht j) h a : ℝ) : EReal)
  g : ∀ j a h d, x7 (ix2 (rw4 j a) (ln8 h d)) = ((X.g (row (nb t ht j) a) h d : ℝ) : EReal)
  δ : ∀ j a h d, x8 (ix2 (rw4 j a) (ln8 h d)) = ((X.δ (nb t ht j) h a : ℝ) : EReal)

/-- The window, with the first block's own rows where the sequence has not begun. -/
def wn (x : Fin 16384 → Fin 8 → Fin 64 → ℝ) (n : Fin 128) (b : Fin 256) (h : Fin 8) (d : Fin 64) : ℝ :=
  if hb : b.val < 128 then x (row ⟨n.val - 1, by omega⟩ ⟨b.val, hb⟩) h d else x (row n ⟨b.val - 128, by omega⟩) h d

/-- Where a key is seen the two windows agree. -/
theorem wn_of_ok (x : Fin 16384 → Fin 8 → Fin 64 → ℝ) {n : Fin 128} {a : Fin 128} {b : Fin 256} (hk : ok n a b = true) (h : Fin 8) (d : Fin 64) :
    wn x n b h d = win x n b h d := by
  simp only [ok, decide_eq_true_eq] at hk
  unfold wn win
  by_cases hb : b.val < 128
  · rw [dif_pos hb, dif_pos hb, dif_neg (by omega)]
  · rw [dif_neg hb, dif_neg hb]

/-- The halo and the four blocks, at a row of a block's window. -/
theorem glue_at (x : Fin 16384 → Fin 8 → Fin 64 → ℝ) (t : ℕ) (ht : t ≤ 31) (x1 : S128x512.Idx → EReal) (x2 : S512x512.Idx → EReal)
    (h1 : ∀ a h d, x1 (ix2 a (ln8 h d)) = ((x (row ⟨4 * t - 1, by omega⟩ a) h d : ℝ) : EReal))
    (h2 : ∀ j a h d, x2 (ix2 (rw4 j a) (ln8 h d)) = ((x (row (nb t ht j) a) h d : ℝ) : EReal))
    (j : Fin 4) (b : Fin 256) (h : Fin 8) (d : Fin 64) : glue x1 x2 (ix2 (kr4 j b) (ln8 h d)) = ((wn x (nb t ht j) b h d : ℝ) : EReal) := by
  show (if h0 : (kr4 j b).val < 128 then x1 (ix2 ⟨(kr4 j b).val, h0⟩ (ln8 h d)) else x2 (ix2 ⟨(kr4 j b).val - 128, _⟩ (ln8 h d))) = _
  unfold wn
  by_cases h0 : (kr4 j b).val < 128
  · rw [dif_pos h0]
    have hj : j.val = 0 := by simp only [kr4] at h0; omega
    have hb : b.val < 128 := by simp only [kr4] at h0; omega
    rw [dif_pos hb]
    have e1 : (⟨(kr4 j b).val, h0⟩ : Fin 128) = ⟨b.val, hb⟩ := Fin.ext (by simp only [kr4]; omega)
    have e2 : (⟨(nb t ht j).val - 1, by omega⟩ : Fin 128) = ⟨4 * t - 1, by omega⟩ := Fin.ext (by simp only [nb]; omega)
    rw [e1, e2, h1]
  · rw [dif_neg h0]
    by_cases hb : b.val < 128
    · rw [dif_pos hb]
      have hj : 1 ≤ j.val := by simp only [kr4] at h0; omega
      have e1 : (⟨(kr4 j b).val - 128, by simp only [kr4]; omega⟩ : Fin 512) = rw4 ⟨j.val - 1, by omega⟩ ⟨b.val, hb⟩ := Fin.ext (by simp only [kr4, rw4]; omega)
      have e2 : nb t ht ⟨j.val - 1, by omega⟩ = (⟨(nb t ht j).val - 1, by omega⟩ : Fin 128) := Fin.ext (by simp only [nb]; omega)
      rw [e1, h2, e2]
    · rw [dif_neg hb]
      have e1 : (⟨(kr4 j b).val - 128, by simp only [kr4]; omega⟩ : Fin 512) = rw4 j ⟨b.val - 128, by omega⟩ := Fin.ext (by simp only [kr4, rw4]; omega)
      rw [e1, h2]

section Point

variable {X : Inp} {lam : Fin 128 → Fin 8 → Fin 128 → ℝ} {t : ℕ} {ht : t ≤ 31}
  {x0 : S512x512.Idx → EReal} {x1 : S128x512.Idx → EReal} {x2 : S512x512.Idx → EReal} {x3 : S128x512.Idx → EReal} {x4 : S512x512.Idx → EReal}
  {x5 : S8x128x256.Idx → EReal} {x6 x7 x8 : S512x512.Idx → EReal}

theorem scaled_at (H : Given X lam t ht x0 x1 x2 x3 x4 x5 x6 x7 x8) (j : Fin 4) (a : Fin 128) (h : Fin 8) (d : Fin 64) :
    scaled x0 (ix2 (rw4 j a) (ln8 h d)) = ((X.q (row (nb t ht j) a) h d * (1 / 8) : ℝ) : EReal) := by
  show x0 (ix2 (rw4 j a) (ln8 h d)) * Ideal.ofBits .f32 0x3E000000#32 = _
  rw [H.q, ofBits_eighth, ← EReal.coe_mul]

theorem sk_at (H : Given X lam t ht x0 x1 x2 x3 x4 x5 x6 x7 x8) (j : Fin 4) (h : Fin 8) (a : Fin 128) (b : Fin 256) :
    sG (scaled x0) (glue x1 x2) j (ix3 h a b) = (((∑ d, X.q (row (nb t ht j) a) h d * wn X.k (nb t ht j) b h d) * (1 / 8) : ℝ) : EReal) := by
  show ∑ d : Fin 64, scaled x0 (ix2 (rw4 j a) (ln8 h d)) * glue x1 x2 (ix2 (kr4 j b) (ln8 h d)) = _
  rw [Finset.sum_mul]
  refine sum_eq_coe fun d => ?_
  rw [scaled_at H, glue_at X.k t ht x1 x2 H.kp H.k, ← EReal.coe_mul]
  congr 1
  ring

theorem gv_at (H : Given X lam t ht x0 x1 x2 x3 x4 x5 x6 x7 x8) (j : Fin 4) (h : Fin 8) (a : Fin 128) (b : Fin 256) :
    sG x7 (glue x3 x4) j (ix3 h a b) = ((∑ d, X.g (row (nb t ht j) a) h d * wn X.v (nb t ht j) b h d : ℝ) : EReal) := by
  show ∑ d : Fin 64, x7 (ix2 (rw4 j a) (ln8 h d)) * glue x3 x4 (ix2 (kr4 j b) (ln8 h d)) = _
  refine sum_eq_coe fun d => ?_
  rw [H.g, glue_at X.v t ht x3 x4 H.vp H.v, ← EReal.coe_mul]

/-- A row's weight is the exponential of the score less the row's log-sum. -/
abbrev LamOk (X : Inp) (lam : Fin 128 → Fin 8 → Fin 128 → ℝ) : Prop :=
  ∀ n h a b, Ideal.exp (lg (ok n a) (X.S n h a) b - ((lam n h a : ℝ) : EReal)) = ((X.P n h a b : ℝ) : EReal)

theorem PB_at (H : Given X lam t ht x0 x1 x2 x3 x4 x5 x6 x7 x8) (hl : LamOk X lam) (j : Fin 4) (h : Fin 8) (a : Fin 128) (b : Fin 256) :
    PB t x0 x1 x2 x5 x6 j (ix3 h a b) = ((X.P (nb t ht j) h a b : ℝ) : EReal) := by
  show Ideal.exp ((if killAt t j = true ∧ b.val < 128 then ⊥ else sG (scaled x0) (glue x1 x2) j (ix3 h a b) + x5 (ix3 h a b))
    - x6 (ix2 (rw4 j a) (ln8 h 0))) = _
  rw [H.l, sk_at H, H.β, ← hl]
  congr 2
  unfold lg
  by_cases hk : ok (nb t ht j) a b = true
  · rw [if_pos hk]
    have hk' := hk
    simp only [ok, decide_eq_true_eq, nb] at hk'
    rw [if_neg (by simp only [killAt, decide_eq_true_eq]; rintro ⟨⟨e1, e2⟩, e3⟩; subst e2; simp only [Fin.isValue, Fin.val_zero] at hk'; omega),
      if_pos ⟨hk'.1, hk'.2.1⟩, ← EReal.coe_add]
    congr 1
    unfold Inp.S
    simp only [wn_of_ok X.k hk]
  · rw [if_neg hk]
    by_cases hb : a.val ≤ b.val ∧ b.val ≤ a.val + 128
    · rw [if_pos]
      simp only [ok, decide_eq_true_eq, nb] at hk
      have hn : 4 * t + j.val = 0 := by omega
      refine ⟨?_, by omega⟩
      simp only [killAt, decide_eq_true_eq]
      exact ⟨by omega, Fin.ext (by show j.val = 0; omega)⟩
    · rw [if_neg hb, EReal.add_bot, ite_self]

theorem DSB_at (H : Given X lam t ht x0 x1 x2 x3 x4 x5 x6 x7 x8) (hl : LamOk X lam) (j : Fin 4) (h : Fin 8) (a : Fin 128) (b : Fin 256) :
    DSB t x0 x1 x2 x3 x4 x5 x6 x7 x8 j (ix3 h a b) = ((X.dS (nb t ht j) h a b : ℝ) : EReal) := by
  show PB t x0 x1 x2 x5 x6 j (ix3 h a b) * (sG x7 (glue x3 x4) j (ix3 h a b) - x8 (ix2 (rw4 j a) (ln8 h 0))) = _
  rw [PB_at H hl, gv_at H, H.δ, ← EReal.coe_sub, ← EReal.coe_mul]
  congr 1
  by_cases hk : ok (nb t ht j) a b = true
  · unfold Inp.dS
    simp only [wn_of_ok X.v hk]
  · have hk' : ok (nb t ht j) a b = false := by simpa using hk
    rw [X.dS_of_not hk', X.P_of_not hk', zero_mul]

theorem hd_ln8 (h : Fin 8) (d : Fin 64) : hd (ln8 h d) = h := Fin.ext (by simp only [hd, ln8]; omega)

theorem FVB_at (H : Given X lam t ht x0 x1 x2 x3 x4 x5 x6 x7 x8) (hl : LamOk X lam) (j : Fin 4) (b : Fin 256) (h : Fin 8) (d : Fin 64) :
    FVB t x0 x1 x2 x5 x6 x7 j (ix2 b (ln8 h d)) = ((X.fV (nb t ht j) b h d : ℝ) : EReal) := by
  show ∑ a : Fin 128, PB t x0 x1 x2 x5 x6 j (ix3 (hd (ln8 h d)) a b) * x7 (ix2 (rw4 j a) (ln8 h d)) = _
  refine sum_eq_coe fun a => ?_
  rw [hd_ln8, PB_at H hl, H.g, ← EReal.coe_mul]

theorem FKB_at (H : Given X lam t ht x0 x1 x2 x3 x4 x5 x6 x7 x8) (hl : LamOk X lam) (j : Fin 4) (b : Fin 256) (h : Fin 8) (d : Fin 64) :
    FKB t x0 x1 x2 x3 x4 x5 x6 x7 x8 j (ix2 b (ln8 h d)) = ((X.fK (nb t ht j) b h d : ℝ) : EReal) := by
  show ∑ a : Fin 128, DSB t x0 x1 x2 x3 x4 x5 x6 x7 x8 j (ix3 (hd (ln8 h d)) a b) * scaled x0 (ix2 (rw4 j a) (ln8 h d)) = _
  refine sum_eq_coe fun a => ?_
  rw [hd_ln8, DSB_at H hl, scaled_at H, ← EReal.coe_mul]

theorem DQA_at (H : Given X lam t ht x0 x1 x2 x3 x4 x5 x6 x7 x8) (hl : LamOk X lam) (j : Fin 4) (a : Fin 128) (h : Fin 8) (d : Fin 64) :
    DQA t x0 x1 x2 x3 x4 x5 x6 x7 x8 (ix2 (rw4 j a) (ln8 h d)) = ((X.dQ (nb t ht j) a h d : ℝ) : EReal) := by
  rw [← DQA_rw4]
  show (∑ b : Fin 256, DSB t x0 x1 x2 x3 x4 x5 x6 x7 x8 j (ix3 (hd (ln8 h d)) a b) * glue x1 x2 (ix2 (kr4 j b) (ln8 h d)))
    * Ideal.ofBits .f32 0x3E000000#32 = _
  rw [hd_ln8, sum_eq_coe (f := fun b => X.dS (nb t ht j) h a b * win X.k (nb t ht j) b h d), ofBits_eighth, ← EReal.coe_mul]
  · rfl
  intro b
  rw [DSB_at H hl, glue_at X.k t ht x1 x2 H.kp H.k, ← EReal.coe_mul]
  congr 1
  by_cases hk : ok (nb t ht j) a b = true
  · rw [wn_of_ok X.k hk]
  · have hk' : ok (nb t ht j) a b = false := by simpa using hk
    rw [X.dS_of_not hk', zero_mul, zero_mul]

end Point

end Cert.KernelIdeal.Val

end
-- ==== Proof.BodyA.lean ====
/- The body at the first grid point: it clears the bias gradient and the two carried rows, then works on the first four query blocks. -/
module

public import proofs.«01_k».proof.Proof.Kit

@[expose] public section

set_option maxRecDepth 16384

noncomputable section

namespace Cert.KernelIdeal.Run

open Cert.KernelIdeal.Gen
open Idealize.ShloMosaic TcCoe Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 3000000 in
/-- The body at the first grid point: it clears the bias gradient and the two carried rows, then works on the first four query blocks.
    The lists are what its stores leave in each buffer, last first; the run finds them. -/
noncomputable def bodyA (c : Dev nD) (i : grid0.Coords) (arg2 : Memref sig .tc .vmem S512x512 .bf16) (harg2 : arg2.IsWhole) (arg3 : Memref sig .tc .vmem S128x512 .bf16) (harg3 : arg3.IsWhole) (arg4 : Memref sig .tc .vmem S512x512 .bf16) (harg4 : arg4.IsWhole) (arg5 : Memref sig .tc .vmem S128x512 .bf16) (harg5 : arg5.IsWhole) (arg6 : Memref sig .tc .vmem S512x512 .bf16) (harg6 : arg6.IsWhole) (arg7 : Memref sig .tc .vmem S8x128x256 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S8x128x256 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S8x128x256 .f32) (harg17 : arg17.IsWhole) (arg18 : Memref sig .tc .vmem S8x128x256 .f32) (harg18 : arg18.IsWhole) (arg19 : Memref sig .tc .vmem S8x128x256 .bf16) (harg19 : arg19.IsWhole) (arg20 : Memref sig .tc .vmem S8x128x256 .bf16) (harg20 : arg20.IsWhole)
    (hc0 : cond0_0 i) (hc1 : cond0_1 i) (hc2 : cond0_2 i) (hc3 : ¬cond0_3 i)
    (x0 : Vec F S512x512 .bf16) (x1 : Vec F S128x512 .bf16) (x2 : Vec F S512x512 .bf16) (x3 : Vec F S128x512 .bf16) (x4 : Vec F S512x512 .bf16) (x5 : Vec F S8x128x256 .f32) (x6 : Vec F S512x512 .f32) (x7 : Vec F S512x512 .bf16) (x8 : Vec F S512x512 .f32) :
    Σ' (L11 : List (View.Piece (Elt F) S512x512 .bf16)), Σ' (L12 : List (View.Piece (Elt F) S512x512 .bf16)), Σ' (L13 : List (View.Piece (Elt F) S512x512 .bf16)), Σ' (L14 : List (View.Piece (Elt F) S8x128x256 .f32)), Σ' (L15 : List (View.Piece (Elt F) S512x512 .f32)), Σ' (L16 : List (View.Piece (Elt F) S512x512 .f32)), Σ' (L17 : List (View.Piece (Elt F) S8x128x256 .f32)), Σ' (L18 : List (View.Piece (Elt F) S8x128x256 .f32)), Σ' (L19 : List (View.Piece (Elt F) S8x128x256 .bf16)), { L20 : List (View.Piece (Elt F) S8x128x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17) ∗ (∃ f, arg18.view.loc (c : Thread nD τ) ↦[arg18.view.set]{fullShare} arg18.view.writes (Elt F) f L18) ∗ (∃ f, arg19.view.loc (c : Thread nD τ) ↦[arg19.view.set]{fullShare} arg19.view.writes (Elt F) f L19) ∗ (∃ f, arg20.view.loc (c : Thread nD τ) ↦[arg20.view.set]{fullShare} arg20.view.writes (Elt F) f L20)) -∗ K ⟨⟩))
          ⊢ wp frame (wpE (defs₀ (F := F)) Variants.none c none) E (cc0_attn_bwd_g0 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, ?_, ?_, ?_, ?_, ?_, fun E K => ?run⟩
  case run =>
    simp only [cc0_attn_bwd_g0_eq_skeleton]; unfold cc0_attn_bwd_g0_skel
    simp only [k0_part46_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    sl_exec (disch := first | sl_exact hc0 | sl_exact hc1 | sl_exact hc2 | sl_exact hc3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; iexact H11
    isplitl [H12]
    · iexists _; iexact H12
    isplitl [H13]
    · iexists _; iexact H13
    isplitl [H14]
    · iexists _; iexact H14
    isplitl [H15]
    · iexists _; iexact H15
    isplitl [H16]
    · iexists _; iexact H16
    isplitl [H17]
    · iexists _; iexact H17
    isplitl [H18]
    · iexists _; iexact H18
    isplitl [H19]
    · iexists _; iexact H19
    iexists _; iexact H20

end Cert.KernelIdeal.Run

end
-- ==== Proof.WordsA.lean ====
/- The words of the run of the body at a first grid point, read at the extended reals: what its scratch stacks hold, and
   the three gradients they give, as sums over the blocks the point was handed. -/
module

public import proofs.«01_k».proof.Proof.BodyA
public import proofs.«01_k».proof.Proof.Ops

@[expose] public section

set_option maxRecDepth 16384

noncomputable section

namespace Cert.KernelIdeal.WordsA

open Cert.KernelIdeal.Gen Cert.KernelIdeal.Run Cert.KernelIdeal.Val
open bodyA.sl
open Idealize.ShloMosaic TcCoe Tactic

variable {c : Dev nD} {i : grid0.Coords} {u2 : Memref sig .tc .vmem S512x512 .bf16} {h2 : u2.IsWhole} {u3 : Memref sig .tc .vmem S128x512 .bf16} {h3 : u3.IsWhole} {u4 : Memref sig .tc .vmem S512x512 .bf16} {h4 : u4.IsWhole} {u5 : Memref sig .tc .vmem S128x512 .bf16} {h5 : u5.IsWhole} {u6 : Memref sig .tc .vmem S512x512 .bf16} {h6 : u6.IsWhole} {u7 : Memref sig .tc .vmem S8x128x256 .f32} {h7 : u7.IsWhole} {u8 : Memref sig .tc .vmem S512x512 .f32} {h8 : u8.IsWhole} {u9 : Memref sig .tc .vmem S512x512 .bf16} {h9 : u9.IsWhole} {u10 : Memref sig .tc .vmem S512x512 .f32} {h10 : u10.IsWhole} {u11 : Memref sig .tc .vmem S512x512 .bf16} {h11 : u11.IsWhole} {u12 : Memref sig .tc .vmem S512x512 .bf16} {h12 : u12.IsWhole} {u13 : Memref sig .tc .vmem S512x512 .bf16} {h13 : u13.IsWhole} {u14 : Memref sig .tc .vmem S8x128x256 .f32} {h14 : u14.IsWhole} {u15 : Memref sig .tc .vmem S512x512 .f32} {h15 : u15.IsWhole} {u16 : Memref sig .tc .vmem S512x512 .f32} {h16 : u16.IsWhole} {u17 : Memref sig .tc .vmem S8x128x256 .f32} {h17 : u17.IsWhole} {u18 : Memref sig .tc .vmem S8x128x256 .f32} {h18 : u18.IsWhole} {u19 : Memref sig .tc .vmem S8x128x256 .bf16} {h19 : u19.IsWhole} {u20 : Memref sig .tc .vmem S8x128x256 .bf16} {h20 : u20.IsWhole}
  {x0 : Vec Ideal S512x512 .bf16} {x1 : Vec Ideal S128x512 .bf16} {x2 : Vec Ideal S512x512 .bf16} {x3 : Vec Ideal S128x512 .bf16} {x4 : Vec Ideal S512x512 .bf16} {x5 : Vec Ideal S8x128x256 .f32} {x6 : Vec Ideal S512x512 .f32} {x7 : Vec Ideal S512x512 .bf16} {x8 : Vec Ideal S512x512 .f32} {y14 : Vec Ideal S8x128x256 .f32} {y15 y16 : Vec Ideal S512x512 .f32}
variable (a : Fin 128) (b : Fin 256) (l : Fin 128)

theorem wv15 : (v15 c u2 h2 x0) = x0 := load512c _ _ _ _

theorem wv27 : (v27 c u8 h8 x6) = x6 := load512c _ _ _ _

theorem wv29 : (v29 c u9 h9 x7) = x7 := load512c _ _ _ _

theorem wv31 : (v31 c u10 h10 x8) = x8 := load512c _ _ _ _

theorem wv17 : (v17 c u3 h3 x1) = x1 := load128c _ _ _ _

theorem wv19 : (v19 c u4 h4 x2) = x2 := load512c _ _ _ _

theorem wv20 : (v20 c u3 h3 u4 h4 x1 x2) = glue x1 x2 := (glue_eq _ _).trans (by rw [wv17, wv19])

theorem wv22 : (v22 c u5 h5 x3) = x3 := load128c _ _ _ _

theorem wv24 : (v24 c u6 h6 x4) = x4 := load512c _ _ _ _

theorem wv25 : (v25 c u5 h5 u6 h6 x3 x4) = glue x3 x4 := (glue_eq _ _).trans (by rw [wv22, wv24])

theorem wv165 : (v165 c u2 h2 x0) (ix2 a l) = scaled x0 (ix2 (rw4 0 a) (lp4 3 l)) :=
  (q2_at _ 0 3 0 384 rfl rfl _ _ _ a l).trans (by rw [wv15])

theorem wv166 : (v166 c u3 h3 u4 h4 x1 x2) (ix2 b l) = glue x1 x2 (ix2 (kr4 0 b) (lp4 3 l)) :=
  sliceK wv20 0 384 _ b l 0 3 rfl rfl

theorem wv125 : (v125 c u2 h2 x0) (ix2 a l) = scaled x0 (ix2 (rw4 0 a) (lp4 2 l)) :=
  (q2_at _ 0 2 0 256 rfl rfl _ _ _ a l).trans (by rw [wv15])

theorem wv126 : (v126 c u3 h3 u4 h4 x1 x2) (ix2 b l) = glue x1 x2 (ix2 (kr4 0 b) (lp4 2 l)) :=
  sliceK wv20 0 256 _ b l 0 2 rfl rfl

theorem wv85 : (v85 c u2 h2 x0) (ix2 a l) = scaled x0 (ix2 (rw4 0 a) (lp4 1 l)) :=
  (q2_at _ 0 1 0 128 rfl rfl _ _ _ a l).trans (by rw [wv15])

theorem wv86 : (v86 c u3 h3 u4 h4 x1 x2) (ix2 b l) = glue x1 x2 (ix2 (kr4 0 b) (lp4 1 l)) :=
  sliceK wv20 0 128 _ b l 0 1 rfl rfl

theorem wv45 : (v45 c u2 h2 x0) (ix2 a l) = scaled x0 (ix2 (rw4 0 a) (lp4 0 l)) :=
  (q2_at _ 0 0 0 0 rfl rfl _ _ _ a l).trans (by rw [wv15])

theorem wv46 : (v46 c u3 h3 u4 h4 x1 x2) (ix2 b l) = glue x1 x2 (ix2 (kr4 0 b) (lp4 0 l)) :=
  sliceK wv20 0 0 _ b l 0 0 rfl rfl

theorem S0 : (v235 c u2 h2 u3 h3 u4 h4 u17 x0 x1 x2) = sG (scaled x0) (glue x1 x2) 0 :=
  stack8 _ _ _ _ _ _ _ _ _ _ []
    (dotSecond_apply (scaled x0) (glue x1 x2) 0 3 _ _ wv165 wv166)
    (dotFirst_apply (scaled x0) (glue x1 x2) 0 3 _ _ wv165 wv166)
    (dotSecond_apply (scaled x0) (glue x1 x2) 0 2 _ _ wv125 wv126)
    (dotFirst_apply (scaled x0) (glue x1 x2) 0 2 _ _ wv125 wv126)
    (dotSecond_apply (scaled x0) (glue x1 x2) 0 1 _ _ wv85 wv86)
    (dotFirst_apply (scaled x0) (glue x1 x2) 0 1 _ _ wv85 wv86)
    (dotSecond_apply (scaled x0) (glue x1 x2) 0 0 _ _ wv45 wv46)
    (dotFirst_apply (scaled x0) (glue x1 x2) 0 0 _ _ wv45 wv46)

theorem hkill : (v37 i) = andi (broadcast S128x256 (Scalar.cmpi .eq (BitVec.ofNat 32 (i 1).val) 0#32)) (cmpi .slt (iota .tc S128x256 32 [1] iota_S128x256_d1_w32) (broadcast S128x256 128#32)) := rfl

theorem P0 : (r_1 c i u2 h2 u3 h3 u4 h4 u7 h7 u8 h8 u17 x0 x1 x2 x5 x6) = PB (i 1).val x0 x1 x2 x5 x6 0 := by
  have hk : (v37 i) = _ := hkill (i := i)
  have hb : (View.readAt (Elt Ideal) u7.view (Rect.unit ![0, 0, 0] S8x128x256.size inb_S8x128x256_S8x128x256_0_0_0).toLoadRect (h7.unread x5)) = x5 := load8 _ _ _ _
  have h := p_stage0 i (v27 c u8 h8 x6) (v37 i) (v235 c u2 h2 u3 h3 u4 h4 u17 x0 x1 x2) (View.readAt (Elt Ideal) u7.view (Rect.unit ![0, 0, 0] S8x128x256.size inb_S8x128x256_S8x128x256_0_0_0).toLoadRect (h7.unread x5)) _ x5 x6 hk S0 hb wv27
  unfold r_1
  exact h

theorem wv168 : (v168 c u9 h9 x7) (ix2 a l) = x7 (ix2 (rw4 0 a) (lp4 3 l)) :=
  sliceQ wv29 0 384 _ a l 0 3 rfl rfl

theorem wv167 : (v167 c u5 h5 u6 h6 x3 x4) (ix2 b l) = glue x3 x4 (ix2 (kr4 0 b) (lp4 3 l)) :=
  sliceK wv25 0 384 _ b l 0 3 rfl rfl

theorem wv128 : (v128 c u9 h9 x7) (ix2 a l) = x7 (ix2 (rw4 0 a) (lp4 2 l)) :=
  sliceQ wv29 0 256 _ a l 0 2 rfl rfl

theorem wv127 : (v127 c u5 h5 u6 h6 x3 x4) (ix2 b l) = glue x3 x4 (ix2 (kr4 0 b) (lp4 2 l)) :=
  sliceK wv25 0 256 _ b l 0 2 rfl rfl

theorem wv88 : (v88 c u9 h9 x7) (ix2 a l) = x7 (ix2 (rw4 0 a) (lp4 1 l)) :=
  sliceQ wv29 0 128 _ a l 0 1 rfl rfl

theorem wv87 : (v87 c u5 h5 u6 h6 x3 x4) (ix2 b l) = glue x3 x4 (ix2 (kr4 0 b) (lp4 1 l)) :=
  sliceK wv25 0 128 _ b l 0 1 rfl rfl

theorem wv48 : (v48 c u9 h9 x7) (ix2 a l) = x7 (ix2 (rw4 0 a) (lp4 0 l)) :=
  sliceQ wv29 0 0 _ a l 0 0 rfl rfl

theorem wv47 : (v47 c u5 h5 u6 h6 x3 x4) (ix2 b l) = glue x3 x4 (ix2 (kr4 0 b) (lp4 0 l)) :=
  sliceK wv25 0 0 _ b l 0 0 rfl rfl

theorem D0 : (v247 c u5 h5 u6 h6 u9 h9 u18 x3 x4 x7) = sG x7 (glue x3 x4) 0 :=
  stack8 _ _ (k0_pay54 _) _ _ _ _ _ _ _ []
    (dotSecond_apply x7 (glue x3 x4) 0 3 _ _ wv168 wv167)
    (dotFirst_apply x7 (glue x3 x4) 0 3 _ _ wv168 wv167)
    (dotSecond_apply x7 (glue x3 x4) 0 2 _ _ wv128 wv127)
    (dotFirst_apply x7 (glue x3 x4) 0 2 _ _ wv128 wv127)
    (dotSecond_apply x7 (glue x3 x4) 0 1 _ _ wv88 wv87)
    (dotFirst_apply x7 (glue x3 x4) 0 1 _ _ wv88 wv87)
    (dotSecond_apply x7 (glue x3 x4) 0 0 _ _ wv48 wv47)
    (dotFirst_apply x7 (glue x3 x4) 0 0 _ _ wv48 wv47)

theorem DS0 : (v250 c i u2 h2 u3 h3 u4 h4 u5 h5 u6 h6 u7 h7 u8 h8 u9 h9 u10 h10 u17 u18 x0 x1 x2 x3 x4 x5 x6 x7 x8) = DSB (i 1).val x0 x1 x2 x3 x4 x5 x6 x7 x8 0 :=
  ds_stage _ _ _ _ _ x8 0 P0 D0
    (fun h a => (colStack _ 0 0 rfl _ _ _ _ _ _ _ _ h a).trans (by rw [wv31]))

theorem PS0 : (v258 c i u2 h2 u3 h3 u4 h4 u7 h7 u8 h8 u17 x0 x1 x2 x5 x6) = PB (i 1).val x0 x1 x2 x5 x6 0 := castTrunc _ _ P0 _

theorem DSS0 : (v262 c i u2 h2 u3 h3 u4 h4 u5 h5 u6 h6 u7 h7 u8 h8 u9 h9 u10 h10 u17 u18 x0 x1 x2 x3 x4 x5 x6 x7 x8) = DSB (i 1).val x0 x1 x2 x3 x4 x5 x6 x7 x8 0 := castTrunc _ _ DS0 _

theorem FV0 : (v1755 c i u2 h2 u3 h3 u4 h4 u7 h7 u8 h8 u9 h9 u17 u19 x0 x1 x2 x5 x6 x7) = FVB (i 1).val x0 x1 x2 x5 x6 x7 0 :=
  cat256 _ _ _ _ _
    (fullG_pair ((PB (i 1).val x0 x1 x2 x5 x6) 0) x7 0 0 _ _ _
      (headEq u19.view 0 PS0)
      (headEq u19.view 1 PS0) wv48)
    (fullG_pair ((PB (i 1).val x0 x1 x2 x5 x6) 0) x7 0 1 _ _ _
      (headEq u19.view 2 PS0)
      (headEq u19.view 3 PS0) wv88)
    (fullG_pair ((PB (i 1).val x0 x1 x2 x5 x6) 0) x7 0 2 _ _ _
      (headEq u19.view 4 PS0)
      (headEq u19.view 5 PS0) wv128)
    (fullG_pair ((PB (i 1).val x0 x1 x2 x5 x6) 0) x7 0 3 _ _ _
      (headEq u19.view 6 PS0)
      (headEq u19.view 7 PS0) wv168)

theorem FK0 : (v1721 c i u2 h2 u3 h3 u4 h4 u5 h5 u6 h6 u7 h7 u8 h8 u9 h9 u10 h10 u17 u18 u20 x0 x1 x2 x3 x4 x5 x6 x7 x8) = FKB (i 1).val x0 x1 x2 x3 x4 x5 x6 x7 x8 0 :=
  cat256 _ _ _ _ _
    (fullG_pair ((DSB (i 1).val x0 x1 x2 x3 x4 x5 x6 x7 x8) 0) (scaled x0) 0 0 _ _ _
      (headEq u20.view 0 DSS0)
      (headEq u20.view 1 DSS0) wv45)
    (fullG_pair ((DSB (i 1).val x0 x1 x2 x3 x4 x5 x6 x7 x8) 0) (scaled x0) 0 1 _ _ _
      (headEq u20.view 2 DSS0)
      (headEq u20.view 3 DSS0) wv85)
    (fullG_pair ((DSB (i 1).val x0 x1 x2 x3 x4 x5 x6 x7 x8) 0) (scaled x0) 0 2 _ _ _
      (headEq u20.view 4 DSS0)
      (headEq u20.view 5 DSS0) wv125)
    (fullG_pair ((DSB (i 1).val x0 x1 x2 x3 x4 x5 x6 x7 x8) 0) (scaled x0) 0 3 _ _ _
      (headEq u20.view 6 DSS0)
      (headEq u20.view 7 DSS0) wv165)

theorem DQ0 : (v1714 c i u2 h2 u3 h3 u4 h4 u5 h5 u6 h6 u7 h7 u8 h8 u9 h9 u10 h10 u17 u18 u20 x0 x1 x2 x3 x4 x5 x6 x7 x8) = DQB (i 1).val x0 x1 x2 x3 x4 x5 x6 x7 x8 0 :=
  cat128 _ _ _ _ _
    (dqG_pair ((DSB (i 1).val x0 x1 x2 x3 x4 x5 x6 x7 x8) 0) (glue x1 x2) 0 0 _ _ _
      (headEq u20.view 0 DSS0)
      (headEq u20.view 1 DSS0) wv46)
    (dqG_pair ((DSB (i 1).val x0 x1 x2 x3 x4 x5 x6 x7 x8) 0) (glue x1 x2) 0 1 _ _ _
      (headEq u20.view 2 DSS0)
      (headEq u20.view 3 DSS0) wv86)
    (dqG_pair ((DSB (i 1).val x0 x1 x2 x3 x4 x5 x6 x7 x8) 0) (glue x1 x2) 0 2 _ _ _
      (headEq u20.view 4 DSS0)
      (headEq u20.view 5 DSS0) wv126)
    (dqG_pair ((DSB (i 1).val x0 x1 x2 x3 x4 x5 x6 x7 x8) 0) (glue x1 x2) 0 3 _ _ _
      (headEq u20.view 6 DSS0)
      (headEq u20.view 7 DSS0) wv166)

theorem wv587 : (v587 c u2 h2 x0) (ix2 a l) = scaled x0 (ix2 (rw4 1 a) (lp4 3 l)) :=
  (q2_at _ 1 3 128 384 rfl rfl _ _ _ a l).trans (by rw [wv15])

theorem wv588 : (v588 c u3 h3 u4 h4 x1 x2) (ix2 b l) = glue x1 x2 (ix2 (kr4 1 b) (lp4 3 l)) :=
  sliceK wv20 128 384 _ b l 1 3 rfl rfl

theorem wv547 : (v547 c u2 h2 x0) (ix2 a l) = scaled x0 (ix2 (rw4 1 a) (lp4 2 l)) :=
  (q2_at _ 1 2 128 256 rfl rfl _ _ _ a l).trans (by rw [wv15])

theorem wv548 : (v548 c u3 h3 u4 h4 x1 x2) (ix2 b l) = glue x1 x2 (ix2 (kr4 1 b) (lp4 2 l)) :=
  sliceK wv20 128 256 _ b l 1 2 rfl rfl

theorem wv507 : (v507 c u2 h2 x0) (ix2 a l) = scaled x0 (ix2 (rw4 1 a) (lp4 1 l)) :=
  (q2_at _ 1 1 128 128 rfl rfl _ _ _ a l).trans (by rw [wv15])

theorem wv508 : (v508 c u3 h3 u4 h4 x1 x2) (ix2 b l) = glue x1 x2 (ix2 (kr4 1 b) (lp4 1 l)) :=
  sliceK wv20 128 128 _ b l 1 1 rfl rfl

theorem wv467 : (v467 c u2 h2 x0) (ix2 a l) = scaled x0 (ix2 (rw4 1 a) (lp4 0 l)) :=
  (q2_at _ 1 0 128 0 rfl rfl _ _ _ a l).trans (by rw [wv15])

theorem wv468 : (v468 c u3 h3 u4 h4 x1 x2) (ix2 b l) = glue x1 x2 (ix2 (kr4 1 b) (lp4 0 l)) :=
  sliceK wv20 128 0 _ b l 1 0 rfl rfl

theorem S1 : (v657 c u2 h2 u3 h3 u4 h4 u17 x0 x1 x2) = sG (scaled x0) (glue x1 x2) 1 :=
  stack8 _ _ _ _ _ _ _ _ _ _ _
    (dotSecond_apply (scaled x0) (glue x1 x2) 1 3 _ _ wv587 wv588)
    (dotFirst_apply (scaled x0) (glue x1 x2) 1 3 _ _ wv587 wv588)
    (dotSecond_apply (scaled x0) (glue x1 x2) 1 2 _ _ wv547 wv548)
    (dotFirst_apply (scaled x0) (glue x1 x2) 1 2 _ _ wv547 wv548)
    (dotSecond_apply (scaled x0) (glue x1 x2) 1 1 _ _ wv507 wv508)
    (dotFirst_apply (scaled x0) (glue x1 x2) 1 1 _ _ wv507 wv508)
    (dotSecond_apply (scaled x0) (glue x1 x2) 1 0 _ _ wv467 wv468)
    (dotFirst_apply (scaled x0) (glue x1 x2) 1 0 _ _ wv467 wv468)

theorem P1 : (v663 c u2 h2 u3 h3 u4 h4 u7 h7 u8 h8 u17 x0 x1 x2 x5 x6) = PB (i 1).val x0 x1 x2 x5 x6 1 :=
  (p_stage _ _ _ (sG (scaled x0) (glue x1 x2) 1) x5 x6 1 S1 ((cast8 _).trans (load8 _ _ _ _))
    (fun h a => (colStack _ 1 128 rfl _ _ _ _ _ _ _ _ h a).trans (by rw [wv27]))).trans (by simp [PB, killAt])

theorem wv590 : (v590 c u9 h9 x7) (ix2 a l) = x7 (ix2 (rw4 1 a) (lp4 3 l)) :=
  sliceQ wv29 128 384 _ a l 1 3 rfl rfl

theorem wv589 : (v589 c u5 h5 u6 h6 x3 x4) (ix2 b l) = glue x3 x4 (ix2 (kr4 1 b) (lp4 3 l)) :=
  sliceK wv25 128 384 _ b l 1 3 rfl rfl

theorem wv550 : (v550 c u9 h9 x7) (ix2 a l) = x7 (ix2 (rw4 1 a) (lp4 2 l)) :=
  sliceQ wv29 128 256 _ a l 1 2 rfl rfl

theorem wv549 : (v549 c u5 h5 u6 h6 x3 x4) (ix2 b l) = glue x3 x4 (ix2 (kr4 1 b) (lp4 2 l)) :=
  sliceK wv25 128 256 _ b l 1 2 rfl rfl

theorem wv510 : (v510 c u9 h9 x7) (ix2 a l) = x7 (ix2 (rw4 1 a) (lp4 1 l)) :=
  sliceQ wv29 128 128 _ a l 1 1 rfl rfl

theorem wv509 : (v509 c u5 h5 u6 h6 x3 x4) (ix2 b l) = glue x3 x4 (ix2 (kr4 1 b) (lp4 1 l)) :=
  sliceK wv25 128 128 _ b l 1 1 rfl rfl

theorem wv470 : (v470 c u9 h9 x7) (ix2 a l) = x7 (ix2 (rw4 1 a) (lp4 0 l)) :=
  sliceQ wv29 128 0 _ a l 1 0 rfl rfl

theorem wv469 : (v469 c u5 h5 u6 h6 x3 x4) (ix2 b l) = glue x3 x4 (ix2 (kr4 1 b) (lp4 0 l)) :=
  sliceK wv25 128 0 _ b l 1 0 rfl rfl

theorem D1 : (v664 c u5 h5 u6 h6 u9 h9 u18 x3 x4 x7) = sG x7 (glue x3 x4) 1 :=
  stack8 _ _ _ _ _ _ _ _ _ _ _
    (dotSecond_apply x7 (glue x3 x4) 1 3 _ _ wv590 wv589)
    (dotFirst_apply x7 (glue x3 x4) 1 3 _ _ wv590 wv589)
    (dotSecond_apply x7 (glue x3 x4) 1 2 _ _ wv550 wv549)
    (dotFirst_apply x7 (glue x3 x4) 1 2 _ _ wv550 wv549)
    (dotSecond_apply x7 (glue x3 x4) 1 1 _ _ wv510 wv509)
    (dotFirst_apply x7 (glue x3 x4) 1 1 _ _ wv510 wv509)
    (dotSecond_apply x7 (glue x3 x4) 1 0 _ _ wv470 wv469)
    (dotFirst_apply x7 (glue x3 x4) 1 0 _ _ wv470 wv469)

theorem DS1 : (v667 c u2 h2 u3 h3 u4 h4 u5 h5 u6 h6 u7 h7 u8 h8 u9 h9 u10 h10 u17 u18 x0 x1 x2 x3 x4 x5 x6 x7 x8) = DSB (i 1).val x0 x1 x2 x3 x4 x5 x6 x7 x8 1 :=
  ds_stage _ _ _ _ _ x8 1 P1 D1
    (fun h a => (colStack _ 1 128 rfl _ _ _ _ _ _ _ _ h a).trans (by rw [wv31]))

theorem PS1 : (v675 c u2 h2 u3 h3 u4 h4 u7 h7 u8 h8 u17 x0 x1 x2 x5 x6) = PB (i 1).val x0 x1 x2 x5 x6 1 := castTrunc _ _ P1 _

theorem DSS1 : (v679 c u2 h2 u3 h3 u4 h4 u5 h5 u6 h6 u7 h7 u8 h8 u9 h9 u10 h10 u17 u18 x0 x1 x2 x3 x4 x5 x6 x7 x8) = DSB (i 1).val x0 x1 x2 x3 x4 x5 x6 x7 x8 1 := castTrunc _ _ DS1 _

theorem FV1 : (v1756 c i u2 h2 u3 h3 u4 h4 u7 h7 u8 h8 u9 h9 u17 u19 x0 x1 x2 x5 x6 x7) = FVB (i 1).val x0 x1 x2 x5 x6 x7 1 :=
  cat256 _ _ _ _ _
    (fullG_pair ((PB (i 1).val x0 x1 x2 x5 x6) 1) x7 1 0 _ _ _
      (headEq u19.view 0 PS1)
      (headEq u19.view 1 PS1) wv470)
    (fullG_pair ((PB (i 1).val x0 x1 x2 x5 x6) 1) x7 1 1 _ _ _
      (headEq u19.view 2 PS1)
      (headEq u19.view 3 PS1) wv510)
    (fullG_pair ((PB (i 1).val x0 x1 x2 x5 x6) 1) x7 1 2 _ _ _
      (headEq u19.view 4 PS1)
      (headEq u19.view 5 PS1) wv550)
    (fullG_pair ((PB (i 1).val x0 x1 x2 x5 x6) 1) x7 1 3 _ _ _
      (headEq u19.view 6 PS1)
      (headEq u19.view 7 PS1) wv590)

theorem FK1 : (v1722 c i u2 h2 u3 h3 u4 h4 u5 h5 u6 h6 u7 h7 u8 h8 u9 h9 u10 h10 u17 u18 u20 x0 x1 x2 x3 x4 x5 x6 x7 x8) = FKB (i 1).val x0 x1 x2 x3 x4 x5 x6 x7 x8 1 :=
  cat256 _ _ _ _ _
    (fullG_pair ((DSB (i 1).val x0 x1 x2 x3 x4 x5 x6 x7 x8) 1) (scaled x0) 1 0 _ _ _
      (headEq u20.view 0 DSS1)
      (headEq u20.view 1 DSS1) wv467)
    (fullG_pair ((DSB (i 1).val x0 x1 x2 x3 x4 x5 x6 x7 x8) 1) (scaled x0) 1 1 _ _ _
      (headEq u20.view 2 DSS1)
      (headEq u20.view 3 DSS1) wv507)
    (fullG_pair ((DSB (i 1).val x0 x1 x2 x3 x4 x5 x6 x7 x8) 1) (scaled x0) 1 2 _ _ _
      (headEq u20.view 4 DSS1)
      (headEq u20.view 5 DSS1) wv547)
    (fullG_pair ((DSB (i 1).val x0 x1 x2 x3 x4 x5 x6 x7 x8) 1) (scaled x0) 1 3 _ _ _
      (headEq u20.view 6 DSS1)
      (headEq u20.view 7 DSS1) wv587)

theorem DQ1 : (v1715 c i u2 h2 u3 h3 u4 h4 u5 h5 u6 h6 u7 h7 u8 h8 u9 h9 u10 h10 u17 u18 u20 x0 x1 x2 x3 x4 x5 x6 x7 x8) = DQB (i 1).val x0 x1 x2 x3 x4 x5 x6 x7 x8 1 :=
  cat128 _ _ _ _ _
    (dqG_pair ((DSB (i 1).val x0 x1 x2 x3 x4 x5 x6 x7 x8) 1) (glue x1 x2) 1 0 _ _ _
      (headEq u20.view 0 DSS1)
      (headEq u20.view 1 DSS1) wv468)
    (dqG_pair ((DSB (i 1).val x0 x1 x2 x3 x4 x5 x6 x7 x8) 1) (glue x1 x2) 1 1 _ _ _
      (headEq u20.view 2 DSS1)
      (headEq u20.view 3 DSS1) wv508)
    (dqG_pair ((DSB (i 1).val x0 x1 x2 x3 x4 x5 x6 x7 x8) 1) (glue x1 x2) 1 2 _ _ _
      (headEq u20.view 4 DSS1)
      (headEq u20.view 5 DSS1) wv548)
    (dqG_pair ((DSB (i 1).val x0 x1 x2 x3 x4 x5 x6 x7 x8) 1) (glue x1 x2) 1 3 _ _ _
      (headEq u20.view 6 DSS1)
      (headEq u20.view 7 DSS1) wv588)

theorem wv1004 : (v1004 c u2 h2 x0) (ix2 a l) = scaled x0 (ix2 (rw4 2 a) (lp4 3 l)) :=
  (q2_at _ 2 3 256 384 rfl rfl _ _ _ a l).trans (by rw [wv15])

theorem wv1005 : (v1005 c u3 h3 u4 h4 x1 x2) (ix2 b l) = glue x1 x2 (ix2 (kr4 2 b) (lp4 3 l)) :=
  sliceK wv20 256 384 _ b l 2 3 rfl rfl

theorem wv964 : (v964 c u2 h2 x0) (ix2 a l) = scaled x0 (ix2 (rw4 2 a) (lp4 2 l)) :=
  (q2_at _ 2 2 256 256 rfl rfl _ _ _ a l).trans (by rw [wv15])

theorem wv965 : (v965 c u3 h3 u4 h4 x1 x2) (ix2 b l) = glue x1 x2 (ix2 (kr4 2 b) (lp4 2 l)) :=
  sliceK wv20 256 256 _ b l 2 2 rfl rfl

theorem wv924 : (v924 c u2 h2 x0) (ix2 a l) = scaled x0 (ix2 (rw4 2 a) (lp4 1 l)) :=
  (q2_at _ 2 1 256 128 rfl rfl _ _ _ a l).trans (by rw [wv15])

theorem wv925 : (v925 c u3 h3 u4 h4 x1 x2) (ix2 b l) = glue x1 x2 (ix2 (kr4 2 b) (lp4 1 l)) :=
  sliceK wv20 256 128 _ b l 2 1 rfl rfl

theorem wv884 : (v884 c u2 h2 x0) (ix2 a l) = scaled x0 (ix2 (rw4 2 a) (lp4 0 l)) :=
  (q2_at _ 2 0 256 0 rfl rfl _ _ _ a l).trans (by rw [wv15])

theorem wv885 : (v885 c u3 h3 u4 h4 x1 x2) (ix2 b l) = glue x1 x2 (ix2 (kr4 2 b) (lp4 0 l)) :=
  sliceK wv20 256 0 _ b l 2 0 rfl rfl

theorem S2 : (v1074 c u2 h2 u3 h3 u4 h4 u17 x0 x1 x2) = sG (scaled x0) (glue x1 x2) 2 :=
  stack8 _ _ _ _ _ _ _ _ _ _ _
    (dotSecond_apply (scaled x0) (glue x1 x2) 2 3 _ _ wv1004 wv1005)
    (dotFirst_apply (scaled x0) (glue x1 x2) 2 3 _ _ wv1004 wv1005)
    (dotSecond_apply (scaled x0) (glue x1 x2) 2 2 _ _ wv964 wv965)
    (dotFirst_apply (scaled x0) (glue x1 x2) 2 2 _ _ wv964 wv965)
    (dotSecond_apply (scaled x0) (glue x1 x2) 2 1 _ _ wv924 wv925)
    (dotFirst_apply (scaled x0) (glue x1 x2) 2 1 _ _ wv924 wv925)
    (dotSecond_apply (scaled x0) (glue x1 x2) 2 0 _ _ wv884 wv885)
    (dotFirst_apply (scaled x0) (glue x1 x2) 2 0 _ _ wv884 wv885)

theorem P2 : (v1080 c u2 h2 u3 h3 u4 h4 u7 h7 u8 h8 u17 x0 x1 x2 x5 x6) = PB (i 1).val x0 x1 x2 x5 x6 2 :=
  (p_stage _ _ _ (sG (scaled x0) (glue x1 x2) 2) x5 x6 2 S2 ((cast8 _).trans (load8 _ _ _ _))
    (fun h a => (colStack _ 2 256 rfl _ _ _ _ _ _ _ _ h a).trans (by rw [wv27]))).trans (by simp [PB, killAt])

theorem wv1007 : (v1007 c u9 h9 x7) (ix2 a l) = x7 (ix2 (rw4 2 a) (lp4 3 l)) :=
  sliceQ wv29 256 384 _ a l 2 3 rfl rfl

theorem wv1006 : (v1006 c u5 h5 u6 h6 x3 x4) (ix2 b l) = glue x3 x4 (ix2 (kr4 2 b) (lp4 3 l)) :=
  sliceK wv25 256 384 _ b l 2 3 rfl rfl

theorem wv967 : (v967 c u9 h9 x7) (ix2 a l) = x7 (ix2 (rw4 2 a) (lp4 2 l)) :=
  sliceQ wv29 256 256 _ a l 2 2 rfl rfl

theorem wv966 : (v966 c u5 h5 u6 h6 x3 x4) (ix2 b l) = glue x3 x4 (ix2 (kr4 2 b) (lp4 2 l)) :=
  sliceK wv25 256 256 _ b l 2 2 rfl rfl

theorem wv927 : (v927 c u9 h9 x7) (ix2 a l) = x7 (ix2 (rw4 2 a) (lp4 1 l)) :=
  sliceQ wv29 256 128 _ a l 2 1 rfl rfl

theorem wv926 : (v926 c u5 h5 u6 h6 x3 x4) (ix2 b l) = glue x3 x4 (ix2 (kr4 2 b) (lp4 1 l)) :=
  sliceK wv25 256 128 _ b l 2 1 rfl rfl

theorem wv887 : (v887 c u9 h9 x7) (ix2 a l) = x7 (ix2 (rw4 2 a) (lp4 0 l)) :=
  sliceQ wv29 256 0 _ a l 2 0 rfl rfl

theorem wv886 : (v886 c u5 h5 u6 h6 x3 x4) (ix2 b l) = glue x3 x4 (ix2 (kr4 2 b) (lp4 0 l)) :=
  sliceK wv25 256 0 _ b l 2 0 rfl rfl

theorem D2 : (v1081 c u5 h5 u6 h6 u9 h9 u18 x3 x4 x7) = sG x7 (glue x3 x4) 2 :=
  stack8 _ _ _ _ _ _ _ _ _ _ _
    (dotSecond_apply x7 (glue x3 x4) 2 3 _ _ wv1007 wv1006)
    (dotFirst_apply x7 (glue x3 x4) 2 3 _ _ wv1007 wv1006)
    (dotSecond_apply x7 (glue x3 x4) 2 2 _ _ wv967 wv966)
    (dotFirst_apply x7 (glue x3 x4) 2 2 _ _ wv967 wv966)
    (dotSecond_apply x7 (glue x3 x4) 2 1 _ _ wv927 wv926)
    (dotFirst_apply x7 (glue x3 x4) 2 1 _ _ wv927 wv926)
    (dotSecond_apply x7 (glue x3 x4) 2 0 _ _ wv887 wv886)
    (dotFirst_apply x7 (glue x3 x4) 2 0 _ _ wv887 wv886)

theorem DS2 : (v1084 c u2 h2 u3 h3 u4 h4 u5 h5 u6 h6 u7 h7 u8 h8 u9 h9 u10 h10 u17 u18 x0 x1 x2 x3 x4 x5 x6 x7 x8) = DSB (i 1).val x0 x1 x2 x3 x4 x5 x6 x7 x8 2 :=
  ds_stage _ _ _ _ _ x8 2 P2 D2
    (fun h a => (colStack _ 2 256 rfl _ _ _ _ _ _ _ _ h a).trans (by rw [wv31]))

theorem PS2 : (v1092 c u2 h2 u3 h3 u4 h4 u7 h7 u8 h8 u17 x0 x1 x2 x5 x6) = PB (i 1).val x0 x1 x2 x5 x6 2 := castTrunc _ _ P2 _

theorem DSS2 : (v1096 c u2 h2 u3 h3 u4 h4 u5 h5 u6 h6 u7 h7 u8 h8 u9 h9 u10 h10 u17 u18 x0 x1 x2 x3 x4 x5 x6 x7 x8) = DSB (i 1).val x0 x1 x2 x3 x4 x5 x6 x7 x8 2 := castTrunc _ _ DS2 _

theorem FV2 : (r_2 c i u2 h2 u3 h3 u4 h4 u7 h7 u8 h8 u9 h9 u17 u19 x0 x1 x2 x5 x6 x7) = FVB (i 1).val x0 x1 x2 x5 x6 x7 2 :=
  cat256 _ _ _ _ _
    (fullG_pair ((PB (i 1).val x0 x1 x2 x5 x6) 2) x7 2 0 _ _ _
      (headEq u19.view 0 PS2)
      (headEq u19.view 1 PS2) wv887)
    (fullG_pair ((PB (i 1).val x0 x1 x2 x5 x6) 2) x7 2 1 _ _ _
      (headEq u19.view 2 PS2)
      (headEq u19.view 3 PS2) wv927)
    (fullG_pair ((PB (i 1).val x0 x1 x2 x5 x6) 2) x7 2 2 _ _ _
      (headEq u19.view 4 PS2)
      (headEq u19.view 5 PS2) wv967)
    (fullG_pair ((PB (i 1).val x0 x1 x2 x5 x6) 2) x7 2 3 _ _ _
      (headEq u19.view 6 PS2)
      (headEq u19.view 7 PS2) wv1007)

theorem FK2 : (v1723 c i u2 h2 u3 h3 u4 h4 u5 h5 u6 h6 u7 h7 u8 h8 u9 h9 u10 h10 u17 u18 u20 x0 x1 x2 x3 x4 x5 x6 x7 x8) = FKB (i 1).val x0 x1 x2 x3 x4 x5 x6 x7 x8 2 :=
  cat256 _ _ _ _ _
    (fullG_pair ((DSB (i 1).val x0 x1 x2 x3 x4 x5 x6 x7 x8) 2) (scaled x0) 2 0 _ _ _
      (headEq u20.view 0 DSS2)
      (headEq u20.view 1 DSS2) wv884)
    (fullG_pair ((DSB (i 1).val x0 x1 x2 x3 x4 x5 x6 x7 x8) 2) (scaled x0) 2 1 _ _ _
      (headEq u20.view 2 DSS2)
      (headEq u20.view 3 DSS2) wv924)
    (fullG_pair ((DSB (i 1).val x0 x1 x2 x3 x4 x5 x6 x7 x8) 2) (scaled x0) 2 2 _ _ _
      (headEq u20.view 4 DSS2)
      (headEq u20.view 5 DSS2) wv964)
    (fullG_pair ((DSB (i 1).val x0 x1 x2 x3 x4 x5 x6 x7 x8) 2) (scaled x0) 2 3 _ _ _
      (headEq u20.view 6 DSS2)
      (headEq u20.view 7 DSS2) wv1004)

theorem DQ2 : (v1716 c i u2 h2 u3 h3 u4 h4 u5 h5 u6 h6 u7 h7 u8 h8 u9 h9 u10 h10 u17 u18 u20 x0 x1 x2 x3 x4 x5 x6 x7 x8) = DQB (i 1).val x0 x1 x2 x3 x4 x5 x6 x7 x8 2 :=
  cat128 _ _ _ _ _
    (dqG_pair ((DSB (i 1).val x0 x1 x2 x3 x4 x5 x6 x7 x8) 2) (glue x1 x2) 2 0 _ _ _
      (headEq u20.view 0 DSS2)
      (headEq u20.view 1 DSS2) wv885)
    (dqG_pair ((DSB (i 1).val x0 x1 x2 x3 x4 x5 x6 x7 x8) 2) (glue x1 x2) 2 1 _ _ _
      (headEq u20.view 2 DSS2)
      (headEq u20.view 3 DSS2) wv925)
    (dqG_pair ((DSB (i 1).val x0 x1 x2 x3 x4 x5 x6 x7 x8) 2) (glue x1 x2) 2 2 _ _ _
      (headEq u20.view 4 DSS2)
      (headEq u20.view 5 DSS2) wv965)
    (dqG_pair ((DSB (i 1).val x0 x1 x2 x3 x4 x5 x6 x7 x8) 2) (glue x1 x2) 2 3 _ _ _
      (headEq u20.view 6 DSS2)
      (headEq u20.view 7 DSS2) wv1005)

theorem wv1421 : (v1421 c u2 h2 x0) (ix2 a l) = scaled x0 (ix2 (rw4 3 a) (lp4 3 l)) :=
  (q2_at _ 3 3 384 384 rfl rfl _ _ _ a l).trans (by rw [wv15])

theorem wv1422 : (v1422 c u3 h3 u4 h4 x1 x2) (ix2 b l) = glue x1 x2 (ix2 (kr4 3 b) (lp4 3 l)) :=
  sliceK wv20 384 384 _ b l 3 3 rfl rfl

theorem wv1381 : (v1381 c u2 h2 x0) (ix2 a l) = scaled x0 (ix2 (rw4 3 a) (lp4 2 l)) :=
  (q2_at _ 3 2 384 256 rfl rfl _ _ _ a l).trans (by rw [wv15])

theorem wv1382 : (v1382 c u3 h3 u4 h4 x1 x2) (ix2 b l) = glue x1 x2 (ix2 (kr4 3 b) (lp4 2 l)) :=
  sliceK wv20 384 256 _ b l 3 2 rfl rfl

theorem wv1341 : (v1341 c u2 h2 x0) (ix2 a l) = scaled x0 (ix2 (rw4 3 a) (lp4 1 l)) :=
  (q2_at _ 3 1 384 128 rfl rfl _ _ _ a l).trans (by rw [wv15])

theorem wv1342 : (v1342 c u3 h3 u4 h4 x1 x2) (ix2 b l) = glue x1 x2 (ix2 (kr4 3 b) (lp4 1 l)) :=
  sliceK wv20 384 128 _ b l 3 1 rfl rfl

theorem wv1301 : (v1301 c u2 h2 x0) (ix2 a l) = scaled x0 (ix2 (rw4 3 a) (lp4 0 l)) :=
  (q2_at _ 3 0 384 0 rfl rfl _ _ _ a l).trans (by rw [wv15])

theorem wv1302 : (v1302 c u3 h3 u4 h4 x1 x2) (ix2 b l) = glue x1 x2 (ix2 (kr4 3 b) (lp4 0 l)) :=
  sliceK wv20 384 0 _ b l 3 0 rfl rfl

theorem S3 : (v1491 c u2 h2 u3 h3 u4 h4 u17 x0 x1 x2) = sG (scaled x0) (glue x1 x2) 3 :=
  stack8 _ _ _ _ _ _ _ _ _ _ _
    (dotSecond_apply (scaled x0) (glue x1 x2) 3 3 _ _ wv1421 wv1422)
    (dotFirst_apply (scaled x0) (glue x1 x2) 3 3 _ _ wv1421 wv1422)
    (dotSecond_apply (scaled x0) (glue x1 x2) 3 2 _ _ wv1381 wv1382)
    (dotFirst_apply (scaled x0) (glue x1 x2) 3 2 _ _ wv1381 wv1382)
    (dotSecond_apply (scaled x0) (glue x1 x2) 3 1 _ _ wv1341 wv1342)
    (dotFirst_apply (scaled x0) (glue x1 x2) 3 1 _ _ wv1341 wv1342)
    (dotSecond_apply (scaled x0) (glue x1 x2) 3 0 _ _ wv1301 wv1302)
    (dotFirst_apply (scaled x0) (glue x1 x2) 3 0 _ _ wv1301 wv1302)

theorem P3 : (v1497 c u2 h2 u3 h3 u4 h4 u7 h7 u8 h8 u17 x0 x1 x2 x5 x6) = PB (i 1).val x0 x1 x2 x5 x6 3 :=
  (p_stage _ _ _ (sG (scaled x0) (glue x1 x2) 3) x5 x6 3 S3 ((cast8 _).trans (load8 _ _ _ _))
    (fun h a => (colStack _ 3 384 rfl _ _ _ _ _ _ _ _ h a).trans (by rw [wv27]))).trans (by simp [PB, killAt])

theorem wv1424 : (v1424 c u9 h9 x7) (ix2 a l) = x7 (ix2 (rw4 3 a) (lp4 3 l)) :=
  sliceQ wv29 384 384 _ a l 3 3 rfl rfl

theorem wv1423 : (v1423 c u5 h5 u6 h6 x3 x4) (ix2 b l) = glue x3 x4 (ix2 (kr4 3 b) (lp4 3 l)) :=
  sliceK wv25 384 384 _ b l 3 3 rfl rfl

theorem wv1384 : (v1384 c u9 h9 x7) (ix2 a l) = x7 (ix2 (rw4 3 a) (lp4 2 l)) :=
  sliceQ wv29 384 256 _ a l 3 2 rfl rfl

theorem wv1383 : (v1383 c u5 h5 u6 h6 x3 x4) (ix2 b l) = glue x3 x4 (ix2 (kr4 3 b) (lp4 2 l)) :=
  sliceK wv25 384 256 _ b l 3 2 rfl rfl

theorem wv1344 : (v1344 c u9 h9 x7) (ix2 a l) = x7 (ix2 (rw4 3 a) (lp4 1 l)) :=
  sliceQ wv29 384 128 _ a l 3 1 rfl rfl

theorem wv1343 : (v1343 c u5 h5 u6 h6 x3 x4) (ix2 b l) = glue x3 x4 (ix2 (kr4 3 b) (lp4 1 l)) :=
  sliceK wv25 384 128 _ b l 3 1 rfl rfl

theorem wv1304 : (v1304 c u9 h9 x7) (ix2 a l) = x7 (ix2 (rw4 3 a) (lp4 0 l)) :=
  sliceQ wv29 384 0 _ a l 3 0 rfl rfl

theorem wv1303 : (v1303 c u5 h5 u6 h6 x3 x4) (ix2 b l) = glue x3 x4 (ix2 (kr4 3 b) (lp4 0 l)) :=
  sliceK wv25 384 0 _ b l 3 0 rfl rfl

theorem D3 : (v1498 c u5 h5 u6 h6 u9 h9 u18 x3 x4 x7) = sG x7 (glue x3 x4) 3 :=
  stack8 _ _ _ _ _ _ _ _ _ _ _
    (dotSecond_apply x7 (glue x3 x4) 3 3 _ _ wv1424 wv1423)
    (dotFirst_apply x7 (glue x3 x4) 3 3 _ _ wv1424 wv1423)
    (dotSecond_apply x7 (glue x3 x4) 3 2 _ _ wv1384 wv1383)
    (dotFirst_apply x7 (glue x3 x4) 3 2 _ _ wv1384 wv1383)
    (dotSecond_apply x7 (glue x3 x4) 3 1 _ _ wv1344 wv1343)
    (dotFirst_apply x7 (glue x3 x4) 3 1 _ _ wv1344 wv1343)
    (dotSecond_apply x7 (glue x3 x4) 3 0 _ _ wv1304 wv1303)
    (dotFirst_apply x7 (glue x3 x4) 3 0 _ _ wv1304 wv1303)

theorem DS3 : (v1501 c u2 h2 u3 h3 u4 h4 u5 h5 u6 h6 u7 h7 u8 h8 u9 h9 u10 h10 u17 u18 x0 x1 x2 x3 x4 x5 x6 x7 x8) = DSB (i 1).val x0 x1 x2 x3 x4 x5 x6 x7 x8 3 :=
  ds_stage _ _ _ _ _ x8 3 P3 D3
    (fun h a => (colStack _ 3 384 rfl _ _ _ _ _ _ _ _ h a).trans (by rw [wv31]))

theorem PS3 : (v1509 c u2 h2 u3 h3 u4 h4 u7 h7 u8 h8 u17 x0 x1 x2 x5 x6) = PB (i 1).val x0 x1 x2 x5 x6 3 := castTrunc _ _ P3 _

theorem DSS3 : (v1513 c u2 h2 u3 h3 u4 h4 u5 h5 u6 h6 u7 h7 u8 h8 u9 h9 u10 h10 u17 u18 x0 x1 x2 x3 x4 x5 x6 x7 x8) = DSB (i 1).val x0 x1 x2 x3 x4 x5 x6 x7 x8 3 := castTrunc _ _ DS3 _

theorem FV3 : (r_3 c i u2 h2 u3 h3 u4 h4 u7 h7 u8 h8 u9 h9 u17 u19 x0 x1 x2 x5 x6 x7) = FVB (i 1).val x0 x1 x2 x5 x6 x7 3 :=
  cat256 _ _ _ _ _
    (fullG_pair ((PB (i 1).val x0 x1 x2 x5 x6) 3) x7 3 0 _ _ _
      (headEq u19.view 0 PS3)
      (headEq u19.view 1 PS3) wv1304)
    (fullG_pair ((PB (i 1).val x0 x1 x2 x5 x6) 3) x7 3 1 _ _ _
      (headEq u19.view 2 PS3)
      (headEq u19.view 3 PS3) wv1344)
    (fullG_pair ((PB (i 1).val x0 x1 x2 x5 x6) 3) x7 3 2 _ _ _
      (headEq u19.view 4 PS3)
      (headEq u19.view 5 PS3) wv1384)
    (fullG_pair ((PB (i 1).val x0 x1 x2 x5 x6) 3) x7 3 3 _ _ _
      (headEq u19.view 6 PS3)
      (headEq u19.view 7 PS3) wv1424)

theorem FK3 : (v1724 c i u2 h2 u3 h3 u4 h4 u5 h5 u6 h6 u7 h7 u8 h8 u9 h9 u10 h10 u17 u18 u20 x0 x1 x2 x3 x4 x5 x6 x7 x8) = FKB (i 1).val x0 x1 x2 x3 x4 x5 x6 x7 x8 3 :=
  cat256 _ _ _ _ _
    (fullG_pair ((DSB (i 1).val x0 x1 x2 x3 x4 x5 x6 x7 x8) 3) (scaled x0) 3 0 _ _ _
      (headEq u20.view 0 DSS3)
      (headEq u20.view 1 DSS3) wv1301)
    (fullG_pair ((DSB (i 1).val x0 x1 x2 x3 x4 x5 x6 x7 x8) 3) (scaled x0) 3 1 _ _ _
      (headEq u20.view 2 DSS3)
      (headEq u20.view 3 DSS3) wv1341)
    (fullG_pair ((DSB (i 1).val x0 x1 x2 x3 x4 x5 x6 x7 x8) 3) (scaled x0) 3 2 _ _ _
      (headEq u20.view 4 DSS3)
      (headEq u20.view 5 DSS3) wv1381)
    (fullG_pair ((DSB (i 1).val x0 x1 x2 x3 x4 x5 x6 x7 x8) 3) (scaled x0) 3 3 _ _ _
      (headEq u20.view 6 DSS3)
      (headEq u20.view 7 DSS3) wv1421)

theorem DQ3 : (v1717 c i u2 h2 u3 h3 u4 h4 u5 h5 u6 h6 u7 h7 u8 h8 u9 h9 u10 h10 u17 u18 u20 x0 x1 x2 x3 x4 x5 x6 x7 x8) = DQB (i 1).val x0 x1 x2 x3 x4 x5 x6 x7 x8 3 :=
  cat128 _ _ _ _ _
    (dqG_pair ((DSB (i 1).val x0 x1 x2 x3 x4 x5 x6 x7 x8) 3) (glue x1 x2) 3 0 _ _ _
      (headEq u20.view 0 DSS3)
      (headEq u20.view 1 DSS3) wv1302)
    (dqG_pair ((DSB (i 1).val x0 x1 x2 x3 x4 x5 x6 x7 x8) 3) (glue x1 x2) 3 1 _ _ _
      (headEq u20.view 2 DSS3)
      (headEq u20.view 3 DSS3) wv1342)
    (dqG_pair ((DSB (i 1).val x0 x1 x2 x3 x4 x5 x6 x7 x8) 3) (glue x1 x2) 3 2 _ _ _
      (headEq u20.view 4 DSS3)
      (headEq u20.view 5 DSS3) wv1382)
    (dqG_pair ((DSB (i 1).val x0 x1 x2 x3 x4 x5 x6 x7 x8) 3) (glue x1 x2) 3 3 _ _ _
      (headEq u20.view 6 DSS3)
      (headEq u20.view 7 DSS3) wv1422)

theorem DQall : (v1718 c i u2 h2 u3 h3 u4 h4 u5 h5 u6 h6 u7 h7 u8 h8 u9 h9 u10 h10 u17 u18 u20 x0 x1 x2 x3 x4 x5 x6 x7 x8) = DQA (i 1).val x0 x1 x2 x3 x4 x5 x6 x7 x8 :=
  catRows _ _ _ _ _
    (fun a l => (congrFun DQ0 _).trans (DQA_rw4 _ _ _ _ _ _ _ _ _ _ 0 a l))
    (fun a l => (congrFun DQ1 _).trans (DQA_rw4 _ _ _ _ _ _ _ _ _ _ 1 a l))
    (fun a l => (congrFun DQ2 _).trans (DQA_rw4 _ _ _ _ _ _ _ _ _ _ 2 a l))
    (fun a l => (congrFun DQ3 _).trans (DQA_rw4 _ _ _ _ _ _ _ _ _ _ 3 a l))

end Cert.KernelIdeal.WordsA

end
-- ==== Proof.Tail.lean ====
/- What a grid point leaves in its output and carry buffers, as functions of what it was handed: a row of keys gets
   the second half of its own block's sum and the first half of the next block's, across grid points as within one. -/
module

public import proofs.«01_k».proof.Proof.Ops

@[expose] public section

set_option maxRecDepth 16384

noncomputable section

namespace Cert.KernelIdeal.Val

open Cert.KernelIdeal.Gen
open Idealize.ShloMosaic TcCoe Tactic

abbrev Arr := S512x512.Idx → EReal
abbrev Full := Fin 4 → S256x512.Idx → EReal

/-- What is written out: what was carried, its last block with the first half of this point's first sum. -/
def outF (pend : Arr) (f : Full) : Arr := fun y =>
  if (y 0).val < 384 then pend y else pend y + f 0 (ix2 ⟨(y 0).val - 384, by have h : (y 0).val < 512 := (y 0).isLt; omega⟩ (y 1))

/-- What is carried on: of every block the second half of its own sum with the first half of the next one's. -/
def pendF (f : Full) : Arr := fun y =>
  f ⟨(y 0).val / 128, by have h : (y 0).val < 512 := (y 0).isLt; omega⟩ (ix2 ⟨128 + (y 0).val % 128, by omega⟩ (y 1))
    + (if h : (y 0).val / 128 + 1 < 4 then f ⟨(y 0).val / 128 + 1, h⟩ (ix2 ⟨(y 0).val % 128, by omega⟩ (y 1)) else 0)

/-- The bias gradient: what was there and the four blocks' cotangents. -/
def dbF (y14 : S8x128x256.Idx → EReal) (ds : Fin 4 → S8x128x256.Idx → EReal) : S8x128x256.Idx → EReal := fun y =>
  y14 y + ds 0 y + ds 1 y + ds 2 y + ds 3 y

abbrev lo (a : Fin 128) : Fin 256 := ⟨a.val, by omega⟩
abbrev hi (a : Fin 128) : Fin 256 := ⟨128 + a.val, by omega⟩

theorem pendF_rw (f : Full) (j : Fin 4) (a : Fin 128) (l : Fin 512) :
    pendF f (ix2 (rw4 j a) l) = f j (ix2 (hi a) l) + (if h : j.val + 1 < 4 then f ⟨j.val + 1, h⟩ (ix2 (lo a) l) else 0) := by
  have e1 : (rw4 j a).val / 128 = j.val := by simp only [rw4]; omega
  have e2 : (rw4 j a).val % 128 = a.val := by simp only [rw4]; omega
  show f ⟨(rw4 j a).val / 128, _⟩ (ix2 ⟨128 + (rw4 j a).val % 128, _⟩ l)
    + (if h : (rw4 j a).val / 128 + 1 < 4 then f ⟨(rw4 j a).val / 128 + 1, h⟩ (ix2 ⟨(rw4 j a).val % 128, _⟩ l) else 0) = _
  simp only [e1, e2]

theorem outF_lo (pend : Arr) (f : Full) (r : Fin 384) (l : Fin 512) :
    outF pend f (ix2 ⟨r.val, by omega⟩ l) = pend (ix2 ⟨r.val, by omega⟩ l) := by
  show (if r.val < 384 then _ else _) = _
  rw [if_pos r.isLt]

theorem outF_hi (pend : Arr) (f : Full) (a : Fin 128) (l : Fin 512) :
    outF pend f (ix2 (rw4 3 a) l) = pend (ix2 (rw4 3 a) l) + f 0 (ix2 (lo a) l) := by
  show (if 128 * 3 + a.val < 384 then _ else _ + f 0 (ix2 ⟨128 * 3 + a.val - 384, _⟩ l)) = _
  rw [if_neg (by omega)]
  have e : (⟨128 * 3 + a.val - 384, by omega⟩ : Fin 256) = lo a := Fin.ext (by simp only [lo]; omega)
  rw [e]

/-- A store of some rows agrees with a function of the whole where its rows are. -/
theorem row_piece {n : ℕ} (G : Arr) (o : ℕ) (w : (⟨2, ![n, 512]⟩ : Shape).Idx → EReal) (ho : o + n ≤ 512)
    (inb : ∀ a, (![o, 0] : Fin 2 → ℕ) a + (![n, 512] : Fin 2 → ℕ) a ≤ S512x512.size a)
    (h : ∀ (a : Fin n) (l : Fin 512), w (ix2 a l) = G (ix2 ⟨o + a.val, by omega⟩ l)) (x : (Rect.unit (s := S512x512) ![o, 0] ![n, 512] inb).shape.Idx) :
    w x = G ((Rect.unit (s := S512x512) ![o, 0] ![n, 512] inb).emb x) := by
  have hx : (x 0).val < n := (x 0).isLt
  have e : (Rect.unit (s := S512x512) ![o, 0] ![n, 512] inb).emb x = ix2 ⟨o + (x 0).val, by omega⟩ (x 1) := by
    funext i; apply Fin.ext
    rw [show ((Rect.unit (s := S512x512) ![o, 0] ![n, 512] inb).emb x i).val = (![o, 0] : Fin 2 → ℕ) i + 1 * (x i).val from rfl]
    fin_cases i <;> simp
  have e' : x = ix2 (x 0) (x 1) := by
    funext i; fin_cases i <;> rfl
  rw [e]
  conv_lhs => rw [e']
  exact h (x 0) (x 1)

theorem mem_rows (o n : ℕ) (inb) (y : S512x512.Idx) (h1 : o ≤ (y 0).val) (h2 : (y 0).val < o + n) :
    y ∈ (Rect.unit (s := S512x512) ![o, 0] ![n, 512] inb).set := by
  have hy : (y 1).val < 512 := (y 1).isLt
  rw [Rect.mem_set_unit]
  intro a
  fin_cases a
  · exact ⟨h1, h2⟩
  · simp; exact hy

/-- The two stores of a key gradient's rows. -/
theorem canon_two (G : Arr) (w1 : FVec Ideal S128x512 .bf16) (w0 : FVec Ideal S384x512 .bf16) (inb1 inb0)
    (h1 : ∀ (a : Fin 128) (l : Fin 512), w1 (ix2 a l) = G (ix2 (rw4 3 a) l))
    (h0 : ∀ (r : Fin 384) (l : Fin 512), w0 (ix2 r l) = G (ix2 ⟨r.val, by omega⟩ l)) :
    View.canon (Val := Elt Ideal) (s := S512x512) (e := .bf16) [⟨Rect.unit (s := S512x512) ![384, 0] ![128, 512] inb1, w1⟩, ⟨Rect.unit (s := S512x512) ![0, 0] ![384, 512] inb0, w0⟩] = G := by
  funext y
  refine View.canon_apply_of_pieces (Val := Elt Ideal) (e := .bf16) G _ ?_ y ?_
  · intro p hp x
    simp only [List.mem_cons, List.not_mem_nil, or_false] at hp
    rcases hp with rfl | rfl
    · exact row_piece G 384 w1 (by omega) inb1 h1 x
    · exact row_piece G 0 w0 (by omega) inb0 (fun a l => (h0 a l).trans (by congr 2; exact Fin.ext (Nat.zero_add _).symm)) x
  · have hy : (y 0).val < 512 := (y 0).isLt
    by_cases h : (y 0).val < 384
    · exact ⟨_, List.mem_cons_of_mem _ List.mem_cons_self, mem_rows 0 384 inb0 y (by omega) (by omega)⟩
    · exact ⟨_, List.mem_cons_self, mem_rows 384 128 inb1 y (by omega) (by omega)⟩

/-- The four stores of what is carried on, whatever was stored before them. -/
theorem canon_four (G : Arr) (w3 w2 w1 w0 : FVec Ideal S128x512 .f32) (inb3 inb2 inb1 inb0) (rest : List (View.Piece (Elt Ideal) S512x512 .f32))
    (h3 : ∀ (a : Fin 128) (l : Fin 512), w3 (ix2 a l) = G (ix2 (rw4 3 a) l)) (h2 : ∀ (a : Fin 128) (l : Fin 512), w2 (ix2 a l) = G (ix2 (rw4 2 a) l))
    (h1 : ∀ (a : Fin 128) (l : Fin 512), w1 (ix2 a l) = G (ix2 (rw4 1 a) l)) (h0 : ∀ (a : Fin 128) (l : Fin 512), w0 (ix2 a l) = G (ix2 (rw4 0 a) l)) :
    View.canon (Val := Elt Ideal) (s := S512x512) (e := .f32) (⟨Rect.unit (s := S512x512) ![384, 0] ![128, 512] inb3, w3⟩ :: ⟨Rect.unit (s := S512x512) ![256, 0] ![128, 512] inb2, w2⟩
      :: ⟨Rect.unit (s := S512x512) ![128, 0] ![128, 512] inb1, w1⟩ :: ⟨Rect.unit (s := S512x512) ![0, 0] ![128, 512] inb0, w0⟩ :: rest) = G := by
  funext y
  refine View.canon_append_of_pieces (Val := Elt Ideal) (e := .f32) G rest [⟨Rect.unit (s := S512x512) ![384, 0] ![128, 512] inb3, w3⟩, ⟨Rect.unit (s := S512x512) ![256, 0] ![128, 512] inb2, w2⟩,
      ⟨Rect.unit (s := S512x512) ![128, 0] ![128, 512] inb1, w1⟩, ⟨Rect.unit (s := S512x512) ![0, 0] ![128, 512] inb0, w0⟩] ?_ y ?_
  · intro p hp x
    simp only [List.mem_cons, List.not_mem_nil, or_false] at hp
    rcases hp with rfl | rfl | rfl | rfl
    · exact row_piece G 384 w3 (by omega) inb3 h3 x
    · exact row_piece G 256 w2 (by omega) inb2 h2 x
    · exact row_piece G 128 w1 (by omega) inb1 h1 x
    · exact row_piece G 0 w0 (by omega) inb0 h0 x
  · have hy : (y 0).val < 512 := (y 0).isLt
    by_cases a0 : (y 0).val < 128
    · exact ⟨_, List.mem_cons_of_mem _ (List.mem_cons_of_mem _ (List.mem_cons_of_mem _ List.mem_cons_self)), mem_rows 0 128 inb0 y (by omega) (by omega)⟩
    by_cases a1 : (y 0).val < 256
    · exact ⟨_, List.mem_cons_of_mem _ (List.mem_cons_of_mem _ List.mem_cons_self), mem_rows 128 128 inb1 y (by omega) (by omega)⟩
    by_cases a2 : (y 0).val < 384
    · exact ⟨_, List.mem_cons_of_mem _ List.mem_cons_self, mem_rows 256 128 inb2 y (by omega) (by omega)⟩
    · exact ⟨_, List.mem_cons_self, mem_rows 384 128 inb3 y (by omega) (by omega)⟩

/-- The carried rows that go out as they are. -/
theorem keep_rows {sig : RefSig} {sp : Space} (m : Memref sig .tc sp S512x512 .f32) (hm : m.IsWhole) (x : Vec Ideal S512x512 .f32) (inb) (hb) (r : Fin 384) (l : Fin 512) :
    (truncf (φ := .f32) .bf16 (m.view.readAt (Elt Ideal) (Rect.unit (s := S512x512) ![0, 0] S384x512.size inb).toLoadRect (hm.unread x)) hb : FVec Ideal S384x512 .bf16) (ix2 r l)
      = x (ix2 ⟨r.val, by omega⟩ l) := by
  rw [View.readAt_eq_ld, hm.read_unread]
  refine congrArg x ?_
  funext i; apply Fin.ext
  show (![0, 0] : Fin 2 → ℕ) i + 1 * (ix2 r l i).val = _
  fin_cases i <;> simp

theorem last_rows {sig : RefSig} {sp : Space} (m : Memref sig .tc sp S512x512 .f32) (hm : m.IsWhole) (x : Vec Ideal S512x512 .f32) (inb) (a : Fin 128) (l : Fin 512) :
    (m.view.readAt (Elt Ideal) (Rect.unit (s := S512x512) ![384, 0] S128x512.size inb).toLoadRect (hm.unread x) : FVec Ideal S128x512 .f32) (ix2 a l)
      = x (ix2 (rw4 3 a) l) := by
  rw [View.readAt_eq_ld, hm.read_unread]
  refine congrArg x ?_
  funext i; apply Fin.ext
  show (![384, 0] : Fin 2 → ℕ) i + 1 * (ix2 a l i).val = _
  fin_cases i <;> simp

/-- The same of the carry that the first point filled with zeros. -/
theorem keep_zero {sig : RefSig} {sp : Space} (v : View sig .tc sp S512x512 .f32) (z : FVec Ideal S512x512 .f32) (inb0 inb) (hb) (r : Fin 384) (l : Fin 512) :
    (truncf (φ := .f32) .bf16 (v.readCov (Val := Elt Ideal) [⟨Rect.unit (s := S512x512) ![0, 0] ![512, 512] inb0, z⟩] (Rect.unit (s := S512x512) ![0, 0] S384x512.size inb).toLoadRect) hb : FVec Ideal S384x512 .bf16) (ix2 r l)
      = z (ix2 ⟨r.val, by omega⟩ l) := by
  rw [View.readCov_eq_canon', View.canon_cons_unit_zero (by funext a; fin_cases a <;> rfl) inb0]
  refine congrArg z ?_
  funext i; apply Fin.ext
  show (![0, 0] : Fin 2 → ℕ) i + 1 * (ix2 r l i).val = _
  fin_cases i <;> simp

theorem last_zero {sig : RefSig} {sp : Space} (v : View sig .tc sp S512x512 .f32) (z : FVec Ideal S512x512 .f32) (inb0 inb) (a : Fin 128) (l : Fin 512) :
    (v.readCov (Val := Elt Ideal) [⟨Rect.unit (s := S512x512) ![0, 0] ![512, 512] inb0, z⟩] (Rect.unit (s := S512x512) ![384, 0] S128x512.size inb).toLoadRect : FVec Ideal S128x512 .f32) (ix2 a l)
      = z (ix2 (rw4 3 a) l) := by
  rw [View.readCov_eq_canon', View.canon_cons_unit_zero (by funext a; fin_cases a <;> rfl) inb0]
  refine congrArg z ?_
  funext i; apply Fin.ext
  show (![384, 0] : Fin 2 → ℕ) i + 1 * (ix2 a l i).val = _
  fin_cases i <;> simp

theorem sliceHi (f : FVec Ideal S256x512 .f32) (h) (a : Fin 128) (l : Fin 512) :
    extractStridedSlice S128x512 ![128, 0] f h (ix2 a l) = f (ix2 (hi a) l) :=
  slice2 (m := 256) (n := 512) (m' := 128) (n' := 512) f 128 0 h a l (hi a) l rfl (by omega)

theorem sliceLo (f : FVec Ideal S256x512 .f32) (h) (a : Fin 128) (l : Fin 512) :
    extractStridedSlice S128x512 ![0, 0] f h (ix2 a l) = f (ix2 (lo a) l) :=
  slice2 (m := 256) (n := 512) (m' := 128) (n' := 512) f 0 0 h a l (lo a) l (by simp) (by omega)

theorem castId128 (x : FVec Ideal S128x512 .f32) : shapeCast S128x512 x shapeCasts_S128x512_S128x512 = x := by
  funext i
  pointwise

/-- A block's second half with the next block's first half. -/
theorem mid_rows (f g : FVec Ideal S256x512 .f32) (H : Full) (j k : Fin 4) (hk : k.val = j.val + 1) (hf : f = H j) (hg : g = H k) (h1 h2) (a : Fin 128) (l : Fin 512) :
    shapeCast S128x512 (addf (extractStridedSlice S128x512 ![128, 0] f h1) (extractStridedSlice S128x512 ![0, 0] g h2)) shapeCasts_S128x512_S128x512 (ix2 a l)
      = pendF H (ix2 (rw4 j a) l) := by
  subst hf hg
  rw [castId128, pendF_rw, dif_pos (by omega)]
  show extractStridedSlice S128x512 ![128, 0] (H j) h1 (ix2 a l) + extractStridedSlice S128x512 ![0, 0] (H k) h2 (ix2 a l) = _
  rw [sliceHi, sliceLo]
  rw [show (⟨j.val + 1, by omega⟩ : Fin 4) = k from Fin.ext hk.symm]

theorem end_rows (f : FVec Ideal S256x512 .f32) (H : Full) (hf : f = H 3) (h1) (a : Fin 128) (l : Fin 512) :
    shapeCast S128x512 (extractStridedSlice S128x512 ![128, 0] f h1) shapeCasts_S128x512_S128x512 (ix2 a l)
      = pendF H (ix2 (rw4 3 a) l) := by
  subst hf
  rw [castId128, pendF_rw, dif_neg (by decide), sliceHi, add_zero]

theorem cover_whole2 {e : EltTy} (inb) (w : Vec Ideal S512x512 e) (rest : List (View.Piece (Elt Ideal) S512x512 e)) :
    ∀ y, ∃ p ∈ (⟨Rect.unit (s := S512x512) ![0, 0] S512x512.size inb, w⟩ :: rest : List (View.Piece (Elt Ideal) S512x512 e)), y ∈ p.1.set :=
  fun y => ⟨_, List.mem_cons_self, mem_rows 0 512 inb y (Nat.zero_le _) (by have h : (y 0).val < 512 := (y 0).isLt; omega)⟩

theorem cover_whole3 (inb) (w : FVec Ideal S8x128x256 .f32) (rest : List (View.Piece (Elt Ideal) S8x128x256 .f32)) :
    ∀ y, ∃ p ∈ (⟨Rect.unit (s := S8x128x256) ![0, 0, 0] S8x128x256.size inb, w⟩ :: rest : List (View.Piece (Elt Ideal) S8x128x256 .f32)), y ∈ p.1.set := by
  intro y
  refine ⟨_, List.mem_cons_self, ?_⟩
  rw [Rect.mem_set_unit]
  intro a
  have h := (y a).isLt
  fin_cases a <;> exact ⟨Nat.zero_le _, by simpa using h⟩

theorem cover_two (w1 : FVec Ideal S128x512 .bf16) (w0 : FVec Ideal S384x512 .bf16) (inb1 inb0) :
    ∀ y, ∃ p ∈ ([⟨Rect.unit (s := S512x512) ![384, 0] ![128, 512] inb1, w1⟩, ⟨Rect.unit (s := S512x512) ![0, 0] ![384, 512] inb0, w0⟩] : List (View.Piece (Elt Ideal) S512x512 .bf16)), y ∈ p.1.set := by
  intro y
  have hy : (y 0).val < 512 := (y 0).isLt
  by_cases h : (y 0).val < 384
  · exact ⟨_, List.mem_cons_of_mem _ List.mem_cons_self, mem_rows 0 384 inb0 y (by omega) (by omega)⟩
  · exact ⟨_, List.mem_cons_self, mem_rows 384 128 inb1 y (by omega) (by omega)⟩

theorem cover_four (w3 w2 w1 w0 : FVec Ideal S128x512 .f32) (inb3 inb2 inb1 inb0) (rest : List (View.Piece (Elt Ideal) S512x512 .f32)) :
    ∀ y, ∃ p ∈ (⟨Rect.unit (s := S512x512) ![384, 0] ![128, 512] inb3, w3⟩ :: ⟨Rect.unit (s := S512x512) ![256, 0] ![128, 512] inb2, w2⟩
      :: ⟨Rect.unit (s := S512x512) ![128, 0] ![128, 512] inb1, w1⟩ :: ⟨Rect.unit (s := S512x512) ![0, 0] ![128, 512] inb0, w0⟩ :: rest : List (View.Piece (Elt Ideal) S512x512 .f32)), y ∈ p.1.set := by
  intro y
  have hy : (y 0).val < 512 := (y 0).isLt
  by_cases a0 : (y 0).val < 128
  · exact ⟨_, List.mem_cons_of_mem _ (List.mem_cons_of_mem _ (List.mem_cons_of_mem _ List.mem_cons_self)), mem_rows 0 128 inb0 y (by omega) (by omega)⟩
  by_cases a1 : (y 0).val < 256
  · exact ⟨_, List.mem_cons_of_mem _ (List.mem_cons_of_mem _ List.mem_cons_self), mem_rows 128 128 inb1 y (by omega) (by omega)⟩
  by_cases a2 : (y 0).val < 384
  · exact ⟨_, List.mem_cons_of_mem _ List.mem_cons_self, mem_rows 256 128 inb2 y (by omega) (by omega)⟩
  · exact ⟨_, List.mem_cons_self, mem_rows 384 128 inb3 y (by omega) (by omega)⟩

/-- One more block's cotangents on the bias gradient. -/
theorem acc_step {sig : RefSig} {sp : Space} (v : View sig .tc sp S8x128x256 .f32) (z w : FVec Ideal S8x128x256 .f32) (Z W : S8x128x256.Idx → EReal) (inb inb')
    (rest : List (View.Piece (Elt Ideal) S8x128x256 .f32)) (hz : z = Z) (hw : w = W) :
    addf (shapeCast S8x128x256 (v.readCov (Val := Elt Ideal) (⟨Rect.unit ![0, 0, 0] S8x128x256.size inb, z⟩ :: rest) (Rect.unit ![0, 0, 0] S8x128x256.size inb').toLoadRect) shapeCasts_S8x128x256_S8x128x256) w
      = (fun y => Z y + W y : S8x128x256.Idx → EReal) := by
  have e0 : (![0, 0, 0] : Fin 3 → ℕ) = fun _ => 0 := by funext a; fin_cases a <;> rfl
  have e : v.readCov (Val := Elt Ideal) (⟨Rect.unit ![0, 0, 0] S8x128x256.size inb, z⟩ :: rest) (Rect.unit ![0, 0, 0] S8x128x256.size inb').toLoadRect = z := by
    rw [View.readCov_eq_canon', View.canon_cons_unit_zero e0 inb]
    funext y
    refine congrArg z ?_
    funext a; apply Fin.ext
    show (![0, 0, 0] : Fin 3 → ℕ) a + 1 * (y a).val = _
    have e1 : (![0, 0, 0] : Fin 3 → ℕ) a = 0 := congrFun e0 a
    omega
  rw [e, cast8 (e := .f32), hz, hw]
  rfl

theorem acc_first {sig : RefSig} {sp : Space} (m : Memref sig .tc sp S8x128x256 .f32) (hm : m.IsWhole) (z : FVec Ideal S8x128x256 .f32) (w : FVec Ideal S8x128x256 .f32) (W : S8x128x256.Idx → EReal) (inb)
    (hw : w = W) :
    addf (shapeCast S8x128x256 (m.view.readAt (Elt Ideal) (Rect.unit ![0, 0, 0] S8x128x256.size inb).toLoadRect (hm.unread z)) shapeCasts_S8x128x256_S8x128x256) w
      = (fun y => z y + W y : S8x128x256.Idx → EReal) := by
  rw [load8, cast8 (e := .f32), hw]
  rfl

abbrev zero5 : Arr := fun _ => 0
abbrev zero8 : S8x128x256.Idx → EReal := fun _ => 0

theorem pay1_zero : (k0_pay1 : FVec Ideal S8x128x256 .f32) = zero8 := by
  funext y
  exact Ideal.ofBits_zero_f32

theorem pay2_zero : (k0_pay2 : FVec Ideal S512x512 .f32) = zero5 := by
  funext y
  exact Ideal.ofBits_zero_f32

theorem pay3_zero : (k0_pay3 : FVec Ideal S512x512 .f32) = zero5 := by
  funext y
  exact Ideal.ofBits_zero_f32

end Cert.KernelIdeal.Val

end
-- ==== Proof.EndA.lean ====
/- The lists of stores that the run of the body at the first grid point leaves in its outputs and carries, read as whole arrays. -/
module

public import proofs.«01_k».proof.Proof.WordsA
public import proofs.«01_k».proof.Proof.Tail

@[expose] public section

set_option maxRecDepth 16384

noncomputable section

namespace Cert.KernelIdeal.WordsA

open Cert.KernelIdeal.Gen Cert.KernelIdeal.Run Cert.KernelIdeal.Val
open bodyA.sl
open Idealize.ShloMosaic TcCoe Tactic

variable {c : Dev nD} {i : grid0.Coords} {u2 : Memref sig .tc .vmem S512x512 .bf16} {h2 : u2.IsWhole} {u3 : Memref sig .tc .vmem S128x512 .bf16} {h3 : u3.IsWhole} {u4 : Memref sig .tc .vmem S512x512 .bf16} {h4 : u4.IsWhole} {u5 : Memref sig .tc .vmem S128x512 .bf16} {h5 : u5.IsWhole} {u6 : Memref sig .tc .vmem S512x512 .bf16} {h6 : u6.IsWhole} {u7 : Memref sig .tc .vmem S8x128x256 .f32} {h7 : u7.IsWhole} {u8 : Memref sig .tc .vmem S512x512 .f32} {h8 : u8.IsWhole} {u9 : Memref sig .tc .vmem S512x512 .bf16} {h9 : u9.IsWhole} {u10 : Memref sig .tc .vmem S512x512 .f32} {h10 : u10.IsWhole} {u11 : Memref sig .tc .vmem S512x512 .bf16} {h11 : u11.IsWhole} {u12 : Memref sig .tc .vmem S512x512 .bf16} {h12 : u12.IsWhole} {u13 : Memref sig .tc .vmem S512x512 .bf16} {h13 : u13.IsWhole} {u14 : Memref sig .tc .vmem S8x128x256 .f32} {h14 : u14.IsWhole} {u15 : Memref sig .tc .vmem S512x512 .f32} {h15 : u15.IsWhole} {u16 : Memref sig .tc .vmem S512x512 .f32} {h16 : u16.IsWhole} {u17 : Memref sig .tc .vmem S8x128x256 .f32} {h17 : u17.IsWhole} {u18 : Memref sig .tc .vmem S8x128x256 .f32} {h18 : u18.IsWhole} {u19 : Memref sig .tc .vmem S8x128x256 .bf16} {h19 : u19.IsWhole} {u20 : Memref sig .tc .vmem S8x128x256 .bf16} {h20 : u20.IsWhole}
  {x0 : Vec Ideal S512x512 .bf16} {x1 : Vec Ideal S128x512 .bf16} {x2 : Vec Ideal S512x512 .bf16} {x3 : Vec Ideal S128x512 .bf16} {x4 : Vec Ideal S512x512 .bf16} {x5 : Vec Ideal S8x128x256 .f32} {x6 : Vec Ideal S512x512 .f32} {x7 : Vec Ideal S512x512 .bf16} {x8 : Vec Ideal S512x512 .f32} {y14 : Vec Ideal S8x128x256 .f32} {y15 y16 : Vec Ideal S512x512 .f32}

theorem C11 (inb) : View.canon (Val := Elt Ideal) (s := S512x512) (e := .bf16) [⟨Rect.unit ![0, 0] S512x512.size inb, (v1719 (F := Ideal) c i u2 h2 u3 h3 u4 h4 u5 h5 u6 h6 u7 h7 u8 h8 u9 h9 u10 h10 u17 u18 u20 x0 x1 x2 x3 x4 x5 x6 x7 x8)⟩] = DQA (i 1).val x0 x1 x2 x3 x4 x5 x6 x7 x8 :=
  (View.canon_cons_unit_zero (by funext a; fin_cases a <;> rfl) inb _ []).trans DQall

theorem T12 (a : Fin 128) (l : Fin 512) : (v1731 (F := Ideal) c i u2 h2 u3 h3 u4 h4 u5 h5 u6 h6 u7 h7 u8 h8 u9 h9 u10 h10 u15 u17 u18 u20 x0 x1 x2 x3 x4 x5 x6 x7 x8) (ix2 a l) = outF zero5 (FKB (i 1).val x0 x1 x2 x3 x4 x5 x6 x7 x8) (ix2 (rw4 3 a) l) :=
  (congrArg₂ (fun u v : EReal => u + v) ((last_zero u15.view (k0_pay2 (F := Ideal)) _ _ a l).trans (congrFun pay2_zero _)) ((sliceLo _ _ a l).trans (congrFun FK0 _))).trans (outF_hi zero5 (FKB (i 1).val x0 x1 x2 x3 x4 x5 x6 x7 x8) a l).symm

theorem U12 (r : Fin 384) (l : Fin 512) : (v1726 (F := Ideal) c u15) (ix2 r l) = outF zero5 (FKB (i 1).val x0 x1 x2 x3 x4 x5 x6 x7 x8) (ix2 ⟨r.val, by omega⟩ l) :=
  ((keep_zero u15.view (k0_pay2 (F := Ideal)) _ _ _ r l).trans (congrFun pay2_zero _)).trans (outF_lo zero5 (FKB (i 1).val x0 x1 x2 x3 x4 x5 x6 x7 x8) r l).symm

theorem C12 (inb1 inb0) : View.canon (Val := Elt Ideal) (s := S512x512) (e := .bf16) [⟨Rect.unit ![384, 0] S128x512.size inb1, (v1731 (F := Ideal) c i u2 h2 u3 h3 u4 h4 u5 h5 u6 h6 u7 h7 u8 h8 u9 h9 u10 h10 u15 u17 u18 u20 x0 x1 x2 x3 x4 x5 x6 x7 x8)⟩, ⟨Rect.unit ![0, 0] S384x512.size inb0, (v1726 (F := Ideal) c u15)⟩] = outF zero5 (FKB (i 1).val x0 x1 x2 x3 x4 x5 x6 x7 x8) :=
  canon_two (outF zero5 (FKB (i 1).val x0 x1 x2 x3 x4 x5 x6 x7 x8)) _ _ inb1 inb0 T12 U12

theorem T13 (a : Fin 128) (l : Fin 512) : (k0_pay4 (F := Ideal) (r_4 (F := Ideal) c i u2 h2 u3 h3 u4 h4 u7 h7 u8 h8 u9 h9 u16 u17 u19 x0 x1 x2 x5 x6 x7)) (ix2 a l) = outF zero5 (FVB (i 1).val x0 x1 x2 x5 x6 x7) (ix2 (rw4 3 a) l) :=
  (congrArg₂ (fun u v : EReal => u + v) ((last_zero u16.view (k0_pay3 (F := Ideal)) _ _ a l).trans (congrFun pay3_zero _)) ((sliceLo _ slices_S256x512_o0_0_S128x512 a l).trans (congrFun FV0 _))).trans (outF_hi zero5 (FVB (i 1).val x0 x1 x2 x5 x6 x7) a l).symm

theorem U13 (r : Fin 384) (l : Fin 512) : (k0_pay370 (F := Ideal) (v1759 (F := Ideal) c u16)) (ix2 r l) = outF zero5 (FVB (i 1).val x0 x1 x2 x5 x6 x7) (ix2 ⟨r.val, by omega⟩ l) :=
  ((keep_zero u16.view (k0_pay3 (F := Ideal)) _ _ _ r l).trans (congrFun pay3_zero _)).trans (outF_lo zero5 (FVB (i 1).val x0 x1 x2 x5 x6 x7) r l).symm

theorem C13 (inb1 inb0) : View.canon (Val := Elt Ideal) (s := S512x512) (e := .bf16) [⟨Rect.unit ![384, 0] ![128, 512] inb1, (k0_pay4 (F := Ideal) (r_4 (F := Ideal) c i u2 h2 u3 h3 u4 h4 u7 h7 u8 h8 u9 h9 u16 u17 u19 x0 x1 x2 x5 x6 x7))⟩, ⟨Rect.unit ![0, 0] S384x512.size inb0, (k0_pay370 (F := Ideal) (v1759 (F := Ideal) c u16))⟩] = outF zero5 (FVB (i 1).val x0 x1 x2 x5 x6 x7) :=
  canon_two (outF zero5 (FVB (i 1).val x0 x1 x2 x5 x6 x7)) (k0_pay4 (F := Ideal) _) (k0_pay370 (F := Ideal) _) inb1 inb0 T13 U13

theorem B0 : (v253 (F := Ideal) c i u2 h2 u3 h3 u4 h4 u5 h5 u6 h6 u7 h7 u8 h8 u9 h9 u10 h10 u14 u17 u18 x0 x1 x2 x3 x4 x5 x6 x7 x8) = (fun y => zero8 y + (DSB (i 1).val x0 x1 x2 x3 x4 x5 x6 x7 x8) 0 y : S8x128x256.Idx → EReal) := acc_step u14.view (k0_pay1 (F := Ideal)) _ _ _ _ _ _ pay1_zero DS0

theorem B1 : (v670 (F := Ideal) c i u2 h2 u3 h3 u4 h4 u5 h5 u6 h6 u7 h7 u8 h8 u9 h9 u10 h10 u14 u17 u18 x0 x1 x2 x3 x4 x5 x6 x7 x8) = (fun y => zero8 y + (DSB (i 1).val x0 x1 x2 x3 x4 x5 x6 x7 x8) 0 y + (DSB (i 1).val x0 x1 x2 x3 x4 x5 x6 x7 x8) 1 y : S8x128x256.Idx → EReal) := acc_step u14.view _ _ _ _ _ _ _ B0 DS1

theorem B2 : (v1087 (F := Ideal) c i u2 h2 u3 h3 u4 h4 u5 h5 u6 h6 u7 h7 u8 h8 u9 h9 u10 h10 u14 u17 u18 x0 x1 x2 x3 x4 x5 x6 x7 x8) = (fun y => zero8 y + (DSB (i 1).val x0 x1 x2 x3 x4 x5 x6 x7 x8) 0 y + (DSB (i 1).val x0 x1 x2 x3 x4 x5 x6 x7 x8) 1 y + (DSB (i 1).val x0 x1 x2 x3 x4 x5 x6 x7 x8) 2 y : S8x128x256.Idx → EReal) := acc_step u14.view _ _ _ _ _ _ _ B1 DS2

theorem B3 : (v1504 (F := Ideal) c i u2 h2 u3 h3 u4 h4 u5 h5 u6 h6 u7 h7 u8 h8 u9 h9 u10 h10 u14 u17 u18 x0 x1 x2 x3 x4 x5 x6 x7 x8) = (fun y => zero8 y + (DSB (i 1).val x0 x1 x2 x3 x4 x5 x6 x7 x8) 0 y + (DSB (i 1).val x0 x1 x2 x3 x4 x5 x6 x7 x8) 1 y + (DSB (i 1).val x0 x1 x2 x3 x4 x5 x6 x7 x8) 2 y + (DSB (i 1).val x0 x1 x2 x3 x4 x5 x6 x7 x8) 3 y : S8x128x256.Idx → EReal) := acc_step u14.view _ _ _ _ _ _ _ B2 DS3

theorem C14 (inb) : View.canon (Val := Elt Ideal) (s := S8x128x256) (e := .f32) (⟨Rect.unit ![0, 0, 0] S8x128x256.size inb, (v1504 (F := Ideal) c i u2 h2 u3 h3 u4 h4 u5 h5 u6 h6 u7 h7 u8 h8 u9 h9 u10 h10 u14 u17 u18 x0 x1 x2 x3 x4 x5 x6 x7 x8)⟩ :: (H14_4 c i u2 h2 u3 h3 u4 h4 u5 h5 u6 h6 u7 h7 u8 h8 u9 h9 u10 h10 u14 u17 u18 x0 x1 x2 x3 x4 x5 x6 x7 x8)) = dbF zero8 (DSB (i 1).val x0 x1 x2 x3 x4 x5 x6 x7 x8) :=
  (View.canon_cons_unit_zero (by funext a; fin_cases a <;> rfl) inb _ _).trans B3

theorem P15_0 (a : Fin 128) (l : Fin 512) : (v1738 (F := Ideal) c i u2 h2 u3 h3 u4 h4 u5 h5 u6 h6 u7 h7 u8 h8 u9 h9 u10 h10 u17 u18 u20 x0 x1 x2 x3 x4 x5 x6 x7 x8) (ix2 a l) = pendF (FKB (i 1).val x0 x1 x2 x3 x4 x5 x6 x7 x8) (ix2 (rw4 0 a) l) :=
  mid_rows _ _ (FKB (i 1).val x0 x1 x2 x3 x4 x5 x6 x7 x8) 0 1 rfl FK0 FK1 _ _ a l

theorem P15_1 (a : Fin 128) (l : Fin 512) : (v1744 (F := Ideal) c i u2 h2 u3 h3 u4 h4 u5 h5 u6 h6 u7 h7 u8 h8 u9 h9 u10 h10 u17 u18 u20 x0 x1 x2 x3 x4 x5 x6 x7 x8) (ix2 a l) = pendF (FKB (i 1).val x0 x1 x2 x3 x4 x5 x6 x7 x8) (ix2 (rw4 1 a) l) :=
  mid_rows _ _ (FKB (i 1).val x0 x1 x2 x3 x4 x5 x6 x7 x8) 1 2 rfl FK1 FK2 _ _ a l

theorem P15_2 (a : Fin 128) (l : Fin 512) : (v1750 (F := Ideal) c i u2 h2 u3 h3 u4 h4 u5 h5 u6 h6 u7 h7 u8 h8 u9 h9 u10 h10 u17 u18 u20 x0 x1 x2 x3 x4 x5 x6 x7 x8) (ix2 a l) = pendF (FKB (i 1).val x0 x1 x2 x3 x4 x5 x6 x7 x8) (ix2 (rw4 2 a) l) :=
  mid_rows _ _ (FKB (i 1).val x0 x1 x2 x3 x4 x5 x6 x7 x8) 2 3 rfl FK2 FK3 _ _ a l

theorem P15_3 (a : Fin 128) (l : Fin 512) : (v1754 (F := Ideal) c i u2 h2 u3 h3 u4 h4 u5 h5 u6 h6 u7 h7 u8 h8 u9 h9 u10 h10 u17 u18 u20 x0 x1 x2 x3 x4 x5 x6 x7 x8) (ix2 a l) = pendF (FKB (i 1).val x0 x1 x2 x3 x4 x5 x6 x7 x8) (ix2 (rw4 3 a) l) :=
  end_rows _ (FKB (i 1).val x0 x1 x2 x3 x4 x5 x6 x7 x8) FK3 _ a l

theorem C15 (inb3) : View.canon (Val := Elt Ideal) (s := S512x512) (e := .f32) (⟨Rect.unit ![384, 0] S128x512.size inb3, (v1754 (F := Ideal) c i u2 h2 u3 h3 u4 h4 u5 h5 u6 h6 u7 h7 u8 h8 u9 h9 u10 h10 u17 u18 u20 x0 x1 x2 x3 x4 x5 x6 x7 x8)⟩ :: (H15_4 c i u2 h2 u3 h3 u4 h4 u5 h5 u6 h6 u7 h7 u8 h8 u9 h9 u10 h10 u17 u18 u20 x0 x1 x2 x3 x4 x5 x6 x7 x8)) = pendF (FKB (i 1).val x0 x1 x2 x3 x4 x5 x6 x7 x8) :=
  canon_four (pendF (FKB (i 1).val x0 x1 x2 x3 x4 x5 x6 x7 x8)) _ _ _ _ inb3 _ _ _ H15_1 P15_3 P15_2 P15_1 P15_0

theorem P16_0 (a : Fin 128) (l : Fin 512) : (k0_pay5 (F := Ideal) (v1755 (F := Ideal) c i u2 h2 u3 h3 u4 h4 u7 h7 u8 h8 u9 h9 u17 u19 x0 x1 x2 x5 x6 x7) (v1756 (F := Ideal) c i u2 h2 u3 h3 u4 h4 u7 h7 u8 h8 u9 h9 u17 u19 x0 x1 x2 x5 x6 x7)) (ix2 a l) = pendF (FVB (i 1).val x0 x1 x2 x5 x6 x7) (ix2 (rw4 0 a) l) :=
  mid_rows _ _ (FVB (i 1).val x0 x1 x2 x5 x6 x7) 0 1 rfl FV0 FV1 slices_S256x512_o128_0_S128x512 slices_S256x512_o0_0_S128x512 a l

theorem P16_1 (a : Fin 128) (l : Fin 512) : (k0_pay6 (F := Ideal) (v1756 (F := Ideal) c i u2 h2 u3 h3 u4 h4 u7 h7 u8 h8 u9 h9 u17 u19 x0 x1 x2 x5 x6 x7) (r_2 (F := Ideal) c i u2 h2 u3 h3 u4 h4 u7 h7 u8 h8 u9 h9 u17 u19 x0 x1 x2 x5 x6 x7)) (ix2 a l) = pendF (FVB (i 1).val x0 x1 x2 x5 x6 x7) (ix2 (rw4 1 a) l) :=
  mid_rows _ _ (FVB (i 1).val x0 x1 x2 x5 x6 x7) 1 2 rfl FV1 FV2 slices_S256x512_o128_0_S128x512 slices_S256x512_o0_0_S128x512 a l

theorem P16_2 (a : Fin 128) (l : Fin 512) : (k0_pay7 (F := Ideal) (r_2 (F := Ideal) c i u2 h2 u3 h3 u4 h4 u7 h7 u8 h8 u9 h9 u17 u19 x0 x1 x2 x5 x6 x7) (r_3 (F := Ideal) c i u2 h2 u3 h3 u4 h4 u7 h7 u8 h8 u9 h9 u17 u19 x0 x1 x2 x5 x6 x7)) (ix2 a l) = pendF (FVB (i 1).val x0 x1 x2 x5 x6 x7) (ix2 (rw4 2 a) l) :=
  mid_rows _ _ (FVB (i 1).val x0 x1 x2 x5 x6 x7) 2 3 rfl FV2 FV3 slices_S256x512_o128_0_S128x512 slices_S256x512_o0_0_S128x512 a l

theorem P16_3 (a : Fin 128) (l : Fin 512) : (k0_pay8 (F := Ideal) (r_3 (F := Ideal) c i u2 h2 u3 h3 u4 h4 u7 h7 u8 h8 u9 h9 u17 u19 x0 x1 x2 x5 x6 x7)) (ix2 a l) = pendF (FVB (i 1).val x0 x1 x2 x5 x6 x7) (ix2 (rw4 3 a) l) :=
  end_rows _ (FVB (i 1).val x0 x1 x2 x5 x6 x7) FV3 slices_S256x512_o128_0_S128x512 a l

theorem C16 (inb3 inb2 inb1 inb0) : View.canon (Val := Elt Ideal) (s := S512x512) (e := .f32) (⟨Rect.unit ![384, 0] ![128, 512] inb3, (k0_pay8 (F := Ideal) (r_3 (F := Ideal) c i u2 h2 u3 h3 u4 h4 u7 h7 u8 h8 u9 h9 u17 u19 x0 x1 x2 x5 x6 x7))⟩ :: ⟨Rect.unit ![256, 0] ![128, 512] inb2, (k0_pay7 (F := Ideal) (r_2 (F := Ideal) c i u2 h2 u3 h3 u4 h4 u7 h7 u8 h8 u9 h9 u17 u19 x0 x1 x2 x5 x6 x7) (r_3 (F := Ideal) c i u2 h2 u3 h3 u4 h4 u7 h7 u8 h8 u9 h9 u17 u19 x0 x1 x2 x5 x6 x7))⟩ :: ⟨Rect.unit ![128, 0] ![128, 512] inb1, (k0_pay6 (F := Ideal) (v1756 (F := Ideal) c i u2 h2 u3 h3 u4 h4 u7 h7 u8 h8 u9 h9 u17 u19 x0 x1 x2 x5 x6 x7) (r_2 (F := Ideal) c i u2 h2 u3 h3 u4 h4 u7 h7 u8 h8 u9 h9 u17 u19 x0 x1 x2 x5 x6 x7))⟩ :: ⟨Rect.unit ![0, 0] ![128, 512] inb0, (k0_pay5 (F := Ideal) (v1755 (F := Ideal) c i u2 h2 u3 h3 u4 h4 u7 h7 u8 h8 u9 h9 u17 u19 x0 x1 x2 x5 x6 x7) (v1756 (F := Ideal) c i u2 h2 u3 h3 u4 h4 u7 h7 u8 h8 u9 h9 u17 u19 x0 x1 x2 x5 x6 x7))⟩ :: H16_1) = pendF (FVB (i 1).val x0 x1 x2 x5 x6 x7) :=
  canon_four (pendF (FVB (i 1).val x0 x1 x2 x5 x6 x7)) (k0_pay8 (F := Ideal) _) (k0_pay7 (F := Ideal) _ _) (k0_pay6 (F := Ideal) _ _) (k0_pay5 (F := Ideal) _ _) inb3 inb2 inb1 inb0 H16_1 P16_3 P16_2 P16_1 P16_0

end Cert.KernelIdeal.WordsA

end
-- ==== Proof.BodyB.lean ====
/- The body at a middle grid point: it works on four query blocks over what the point before left. -/
module

public import proofs.«01_k».proof.Proof.Kit

@[expose] public section

set_option maxRecDepth 16384

noncomputable section

namespace Cert.KernelIdeal.Run

open Cert.KernelIdeal.Gen
open Idealize.ShloMosaic TcCoe Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 3000000 in
/-- The body at a middle grid point: it works on four query blocks over what the point before left.
    The lists are what its stores leave in each buffer, last first; the run finds them. -/
noncomputable def bodyB (c : Dev nD) (i : grid0.Coords) (arg2 : Memref sig .tc .vmem S512x512 .bf16) (harg2 : arg2.IsWhole) (arg3 : Memref sig .tc .vmem S128x512 .bf16) (harg3 : arg3.IsWhole) (arg4 : Memref sig .tc .vmem S512x512 .bf16) (harg4 : arg4.IsWhole) (arg5 : Memref sig .tc .vmem S128x512 .bf16) (harg5 : arg5.IsWhole) (arg6 : Memref sig .tc .vmem S512x512 .bf16) (harg6 : arg6.IsWhole) (arg7 : Memref sig .tc .vmem S8x128x256 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S8x128x256 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S8x128x256 .f32) (harg17 : arg17.IsWhole) (arg18 : Memref sig .tc .vmem S8x128x256 .f32) (harg18 : arg18.IsWhole) (arg19 : Memref sig .tc .vmem S8x128x256 .bf16) (harg19 : arg19.IsWhole) (arg20 : Memref sig .tc .vmem S8x128x256 .bf16) (harg20 : arg20.IsWhole)
    (hc0 : ¬cond0_0 i) (hc1 : ¬cond0_1 i) (hc2 : cond0_2 i) (hc3 : ¬cond0_3 i)
    (x0 : Vec F S512x512 .bf16) (x1 : Vec F S128x512 .bf16) (x2 : Vec F S512x512 .bf16) (x3 : Vec F S128x512 .bf16) (x4 : Vec F S512x512 .bf16) (x5 : Vec F S8x128x256 .f32) (x6 : Vec F S512x512 .f32) (x7 : Vec F S512x512 .bf16) (x8 : Vec F S512x512 .f32) (y14 : Vec F S8x128x256 .f32) (y15 : Vec F S512x512 .f32) (y16 : Vec F S512x512 .f32) :
    Σ' (L11 : List (View.Piece (Elt F) S512x512 .bf16)), Σ' (L12 : List (View.Piece (Elt F) S512x512 .bf16)), Σ' (L13 : List (View.Piece (Elt F) S512x512 .bf16)), Σ' (L14 : List (View.Piece (Elt F) S8x128x256 .f32)), Σ' (L15 : List (View.Piece (Elt F) S512x512 .f32)), Σ' (L16 : List (View.Piece (Elt F) S512x512 .f32)), Σ' (L17 : List (View.Piece (Elt F) S8x128x256 .f32)), Σ' (L18 : List (View.Piece (Elt F) S8x128x256 .f32)), Σ' (L19 : List (View.Piece (Elt F) S8x128x256 .bf16)), { L20 : List (View.Piece (Elt F) S8x128x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare y14 ∗ owns (c : Thread nD τ) arg15 fullShare y15 ∗ owns (c : Thread nD τ) arg16 fullShare y16 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17) ∗ (∃ f, arg18.view.loc (c : Thread nD τ) ↦[arg18.view.set]{fullShare} arg18.view.writes (Elt F) f L18) ∗ (∃ f, arg19.view.loc (c : Thread nD τ) ↦[arg19.view.set]{fullShare} arg19.view.writes (Elt F) f L19) ∗ (∃ f, arg20.view.loc (c : Thread nD τ) ↦[arg20.view.set]{fullShare} arg20.view.writes (Elt F) f L20)) -∗ K ⟨⟩))
          ⊢ wp frame (wpE (defs₀ (F := F)) Variants.none c none) E (cc0_attn_bwd_g0 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, ?_, ?_, ?_, ?_, ?_, fun E K => ?run⟩
  case run =>
    simp only [cc0_attn_bwd_g0_eq_skeleton]; unfold cc0_attn_bwd_g0_skel
    simp only [k0_part46_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg14.eq_unread hf14; obtain rfl := harg15.eq_unread hf15; obtain rfl := harg16.eq_unread hf16
    sl_exec (disch := first | sl_exact hc0 | sl_exact hc1 | sl_exact hc2 | sl_exact hc3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; iexact H11
    isplitl [H12]
    · iexists _; iexact H12
    isplitl [H13]
    · iexists _; iexact H13
    isplitl [H14]
    · iexists _; iexact H14
    isplitl [H15]
    · iexists _; iexact H15
    isplitl [H16]
    · iexists _; iexact H16
    isplitl [H17]
    · iexists _; iexact H17
    isplitl [H18]
    · iexists _; iexact H18
    isplitl [H19]
    · iexists _; iexact H19
    iexists _; iexact H20

end Cert.KernelIdeal.Run

end
-- ==== Proof.WordsB.lean ====
/- The words of the run of the body at a middle grid point, read at the extended reals: what its scratch stacks hold, and
   the three gradients they give, as sums over the blocks the point was handed. -/
module

public import proofs.«01_k».proof.Proof.BodyB
public import proofs.«01_k».proof.Proof.Ops

@[expose] public section

set_option maxRecDepth 16384

noncomputable section

namespace Cert.KernelIdeal.WordsB

open Cert.KernelIdeal.Gen Cert.KernelIdeal.Run Cert.KernelIdeal.Val
open bodyB.sl
open Idealize.ShloMosaic TcCoe Tactic

variable {c : Dev nD} {i : grid0.Coords} {u2 : Memref sig .tc .vmem S512x512 .bf16} {h2 : u2.IsWhole} {u3 : Memref sig .tc .vmem S128x512 .bf16} {h3 : u3.IsWhole} {u4 : Memref sig .tc .vmem S512x512 .bf16} {h4 : u4.IsWhole} {u5 : Memref sig .tc .vmem S128x512 .bf16} {h5 : u5.IsWhole} {u6 : Memref sig .tc .vmem S512x512 .bf16} {h6 : u6.IsWhole} {u7 : Memref sig .tc .vmem S8x128x256 .f32} {h7 : u7.IsWhole} {u8 : Memref sig .tc .vmem S512x512 .f32} {h8 : u8.IsWhole} {u9 : Memref sig .tc .vmem S512x512 .bf16} {h9 : u9.IsWhole} {u10 : Memref sig .tc .vmem S512x512 .f32} {h10 : u10.IsWhole} {u11 : Memref sig .tc .vmem S512x512 .bf16} {h11 : u11.IsWhole} {u12 : Memref sig .tc .vmem S512x512 .bf16} {h12 : u12.IsWhole} {u13 : Memref sig .tc .vmem S512x512 .bf16} {h13 : u13.IsWhole} {u14 : Memref sig .tc .vmem S8x128x256 .f32} {h14 : u14.IsWhole} {u15 : Memref sig .tc .vmem S512x512 .f32} {h15 : u15.IsWhole} {u16 : Memref sig .tc .vmem S512x512 .f32} {h16 : u16.IsWhole} {u17 : Memref sig .tc .vmem S8x128x256 .f32} {h17 : u17.IsWhole} {u18 : Memref sig .tc .vmem S8x128x256 .f32} {h18 : u18.IsWhole} {u19 : Memref sig .tc .vmem S8x128x256 .bf16} {h19 : u19.IsWhole} {u20 : Memref sig .tc .vmem S8x128x256 .bf16} {h20 : u20.IsWhole}
  {x0 : Vec Ideal S512x512 .bf16} {x1 : Vec Ideal S128x512 .bf16} {x2 : Vec Ideal S512x512 .bf16} {x3 : Vec Ideal S128x512 .bf16} {x4 : Vec Ideal S512x512 .bf16} {x5 : Vec Ideal S8x128x256 .f32} {x6 : Vec Ideal S512x512 .f32} {x7 : Vec Ideal S512x512 .bf16} {x8 : Vec Ideal S512x512 .f32} {y14 : Vec Ideal S8x128x256 .f32} {y15 y16 : Vec Ideal S512x512 .f32}
variable (a : Fin 128) (b : Fin 256) (l : Fin 128)

theorem wv15 : (v15 c u2 h2 x0) = x0 := load512c _ _ _ _

theorem wv27 : (v27 c u8 h8 x6) = x6 := load512c _ _ _ _

theorem wv29 : (v29 c u9 h9 x7) = x7 := load512c _ _ _ _

theorem wv31 : (v31 c u10 h10 x8) = x8 := load512c _ _ _ _

theorem wv17 : (v17 c u3 h3 x1) = x1 := load128c _ _ _ _

theorem wv19 : (v19 c u4 h4 x2) = x2 := load512c _ _ _ _

theorem wv20 : (v20 c u3 h3 u4 h4 x1 x2) = glue x1 x2 := (glue_eq _ _).trans (by rw [wv17, wv19])

theorem wv22 : (v22 c u5 h5 x3) = x3 := load128c _ _ _ _

theorem wv24 : (v24 c u6 h6 x4) = x4 := load512c _ _ _ _

theorem wv25 : (v25 c u5 h5 u6 h6 x3 x4) = glue x3 x4 := (glue_eq _ _).trans (by rw [wv22, wv24])

theorem wv165 : (v165 c u2 h2 x0) (ix2 a l) = scaled x0 (ix2 (rw4 0 a) (lp4 3 l)) :=
  (q2_at _ 0 3 0 384 rfl rfl _ _ _ a l).trans (by rw [wv15])

theorem wv166 : (v166 c u3 h3 u4 h4 x1 x2) (ix2 b l) = glue x1 x2 (ix2 (kr4 0 b) (lp4 3 l)) :=
  sliceK wv20 0 384 _ b l 0 3 rfl rfl

theorem wv125 : (v125 c u2 h2 x0) (ix2 a l) = scaled x0 (ix2 (rw4 0 a) (lp4 2 l)) :=
  (q2_at _ 0 2 0 256 rfl rfl _ _ _ a l).trans (by rw [wv15])

theorem wv126 : (v126 c u3 h3 u4 h4 x1 x2) (ix2 b l) = glue x1 x2 (ix2 (kr4 0 b) (lp4 2 l)) :=
  sliceK wv20 0 256 _ b l 0 2 rfl rfl

theorem wv85 : (v85 c u2 h2 x0) (ix2 a l) = scaled x0 (ix2 (rw4 0 a) (lp4 1 l)) :=
  (q2_at _ 0 1 0 128 rfl rfl _ _ _ a l).trans (by rw [wv15])

theorem wv86 : (v86 c u3 h3 u4 h4 x1 x2) (ix2 b l) = glue x1 x2 (ix2 (kr4 0 b) (lp4 1 l)) :=
  sliceK wv20 0 128 _ b l 0 1 rfl rfl

theorem wv45 : (v45 c u2 h2 x0) (ix2 a l) = scaled x0 (ix2 (rw4 0 a) (lp4 0 l)) :=
  (q2_at _ 0 0 0 0 rfl rfl _ _ _ a l).trans (by rw [wv15])

theorem wv46 : (v46 c u3 h3 u4 h4 x1 x2) (ix2 b l) = glue x1 x2 (ix2 (kr4 0 b) (lp4 0 l)) :=
  sliceK wv20 0 0 _ b l 0 0 rfl rfl

theorem S0 : (v235 c u2 h2 u3 h3 u4 h4 u17 x0 x1 x2) = sG (scaled x0) (glue x1 x2) 0 :=
  stack8 _ _ _ _ _ _ _ _ _ _ []
    (dotSecond_apply (scaled x0) (glue x1 x2) 0 3 _ _ wv165 wv166)
    (dotFirst_apply (scaled x0) (glue x1 x2) 0 3 _ _ wv165 wv166)
    (dotSecond_apply (scaled x0) (glue x1 x2) 0 2 _ _ wv125 wv126)
    (dotFirst_apply (scaled x0) (glue x1 x2) 0 2 _ _ wv125 wv126)
    (dotSecond_apply (scaled x0) (glue x1 x2) 0 1 _ _ wv85 wv86)
    (dotFirst_apply (scaled x0) (glue x1 x2) 0 1 _ _ wv85 wv86)
    (dotSecond_apply (scaled x0) (glue x1 x2) 0 0 _ _ wv45 wv46)
    (dotFirst_apply (scaled x0) (glue x1 x2) 0 0 _ _ wv45 wv46)

theorem hkill : (v37 i) = andi (broadcast S128x256 (Scalar.cmpi .eq (BitVec.ofNat 32 (i 1).val) 0#32)) (cmpi .slt (iota .tc S128x256 32 [1] iota_S128x256_d1_w32) (broadcast S128x256 128#32)) := rfl

theorem P0 : (r_1 c i u2 h2 u3 h3 u4 h4 u7 h7 u8 h8 u17 x0 x1 x2 x5 x6) = PB (i 1).val x0 x1 x2 x5 x6 0 := by
  have hk : (v37 i) = _ := hkill (i := i)
  have hb : (View.readAt (Elt Ideal) u7.view (Rect.unit ![0, 0, 0] S8x128x256.size inb_S8x128x256_S8x128x256_0_0_0).toLoadRect (h7.unread x5)) = x5 := load8 _ _ _ _
  have h := p_stage0 i (v27 c u8 h8 x6) (v37 i) (v235 c u2 h2 u3 h3 u4 h4 u17 x0 x1 x2) (View.readAt (Elt Ideal) u7.view (Rect.unit ![0, 0, 0] S8x128x256.size inb_S8x128x256_S8x128x256_0_0_0).toLoadRect (h7.unread x5)) _ x5 x6 hk S0 hb wv27
  unfold r_1
  exact h

theorem wv168 : (v168 c u9 h9 x7) (ix2 a l) = x7 (ix2 (rw4 0 a) (lp4 3 l)) :=
  sliceQ wv29 0 384 _ a l 0 3 rfl rfl

theorem wv167 : (v167 c u5 h5 u6 h6 x3 x4) (ix2 b l) = glue x3 x4 (ix2 (kr4 0 b) (lp4 3 l)) :=
  sliceK wv25 0 384 _ b l 0 3 rfl rfl

theorem wv128 : (v128 c u9 h9 x7) (ix2 a l) = x7 (ix2 (rw4 0 a) (lp4 2 l)) :=
  sliceQ wv29 0 256 _ a l 0 2 rfl rfl

theorem wv127 : (v127 c u5 h5 u6 h6 x3 x4) (ix2 b l) = glue x3 x4 (ix2 (kr4 0 b) (lp4 2 l)) :=
  sliceK wv25 0 256 _ b l 0 2 rfl rfl

theorem wv88 : (v88 c u9 h9 x7) (ix2 a l) = x7 (ix2 (rw4 0 a) (lp4 1 l)) :=
  sliceQ wv29 0 128 _ a l 0 1 rfl rfl

theorem wv87 : (v87 c u5 h5 u6 h6 x3 x4) (ix2 b l) = glue x3 x4 (ix2 (kr4 0 b) (lp4 1 l)) :=
  sliceK wv25 0 128 _ b l 0 1 rfl rfl

theorem wv48 : (v48 c u9 h9 x7) (ix2 a l) = x7 (ix2 (rw4 0 a) (lp4 0 l)) :=
  sliceQ wv29 0 0 _ a l 0 0 rfl rfl

theorem wv47 : (v47 c u5 h5 u6 h6 x3 x4) (ix2 b l) = glue x3 x4 (ix2 (kr4 0 b) (lp4 0 l)) :=
  sliceK wv25 0 0 _ b l 0 0 rfl rfl

theorem D0 : (v247 c u5 h5 u6 h6 u9 h9 u18 x3 x4 x7) = sG x7 (glue x3 x4) 0 :=
  stack8 _ _ (k0_pay54 _) _ _ _ _ _ _ _ []
    (dotSecond_apply x7 (glue x3 x4) 0 3 _ _ wv168 wv167)
    (dotFirst_apply x7 (glue x3 x4) 0 3 _ _ wv168 wv167)
    (dotSecond_apply x7 (glue x3 x4) 0 2 _ _ wv128 wv127)
    (dotFirst_apply x7 (glue x3 x4) 0 2 _ _ wv128 wv127)
    (dotSecond_apply x7 (glue x3 x4) 0 1 _ _ wv88 wv87)
    (dotFirst_apply x7 (glue x3 x4) 0 1 _ _ wv88 wv87)
    (dotSecond_apply x7 (glue x3 x4) 0 0 _ _ wv48 wv47)
    (dotFirst_apply x7 (glue x3 x4) 0 0 _ _ wv48 wv47)

theorem DS0 : (v250 c i u2 h2 u3 h3 u4 h4 u5 h5 u6 h6 u7 h7 u8 h8 u9 h9 u10 h10 u17 u18 x0 x1 x2 x3 x4 x5 x6 x7 x8) = DSB (i 1).val x0 x1 x2 x3 x4 x5 x6 x7 x8 0 :=
  ds_stage _ _ _ _ _ x8 0 P0 D0
    (fun h a => (colStack _ 0 0 rfl _ _ _ _ _ _ _ _ h a).trans (by rw [wv31]))

theorem PS0 : (v258 c i u2 h2 u3 h3 u4 h4 u7 h7 u8 h8 u17 x0 x1 x2 x5 x6) = PB (i 1).val x0 x1 x2 x5 x6 0 := castTrunc _ _ P0 _

theorem DSS0 : (v262 c i u2 h2 u3 h3 u4 h4 u5 h5 u6 h6 u7 h7 u8 h8 u9 h9 u10 h10 u17 u18 x0 x1 x2 x3 x4 x5 x6 x7 x8) = DSB (i 1).val x0 x1 x2 x3 x4 x5 x6 x7 x8 0 := castTrunc _ _ DS0 _

theorem FV0 : (v1755 c i u2 h2 u3 h3 u4 h4 u7 h7 u8 h8 u9 h9 u17 u19 x0 x1 x2 x5 x6 x7) = FVB (i 1).val x0 x1 x2 x5 x6 x7 0 :=
  cat256 _ _ _ _ _
    (fullG_pair ((PB (i 1).val x0 x1 x2 x5 x6) 0) x7 0 0 _ _ _
      (headEq u19.view 0 PS0)
      (headEq u19.view 1 PS0) wv48)
    (fullG_pair ((PB (i 1).val x0 x1 x2 x5 x6) 0) x7 0 1 _ _ _
      (headEq u19.view 2 PS0)
      (headEq u19.view 3 PS0) wv88)
    (fullG_pair ((PB (i 1).val x0 x1 x2 x5 x6) 0) x7 0 2 _ _ _
      (headEq u19.view 4 PS0)
      (headEq u19.view 5 PS0) wv128)
    (fullG_pair ((PB (i 1).val x0 x1 x2 x5 x6) 0) x7 0 3 _ _ _
      (headEq u19.view 6 PS0)
      (headEq u19.view 7 PS0) wv168)

theorem FK0 : (v1721 c i u2 h2 u3 h3 u4 h4 u5 h5 u6 h6 u7 h7 u8 h8 u9 h9 u10 h10 u17 u18 u20 x0 x1 x2 x3 x4 x5 x6 x7 x8) = FKB (i 1).val x0 x1 x2 x3 x4 x5 x6 x7 x8 0 :=
  cat256 _ _ _ _ _
    (fullG_pair ((DSB (i 1).val x0 x1 x2 x3 x4 x5 x6 x7 x8) 0) (scaled x0) 0 0 _ _ _
      (headEq u20.view 0 DSS0)
      (headEq u20.view 1 DSS0) wv45)
    (fullG_pair ((DSB (i 1).val x0 x1 x2 x3 x4 x5 x6 x7 x8) 0) (scaled x0) 0 1 _ _ _
      (headEq u20.view 2 DSS0)
      (headEq u20.view 3 DSS0) wv85)
    (fullG_pair ((DSB (i 1).val x0 x1 x2 x3 x4 x5 x6 x7 x8) 0) (scaled x0) 0 2 _ _ _
      (headEq u20.view 4 DSS0)
      (headEq u20.view 5 DSS0) wv125)
    (fullG_pair ((DSB (i 1).val x0 x1 x2 x3 x4 x5 x6 x7 x8) 0) (scaled x0) 0 3 _ _ _
      (headEq u20.view 6 DSS0)
      (headEq u20.view 7 DSS0) wv165)

theorem DQ0 : (v1714 c i u2 h2 u3 h3 u4 h4 u5 h5 u6 h6 u7 h7 u8 h8 u9 h9 u10 h10 u17 u18 u20 x0 x1 x2 x3 x4 x5 x6 x7 x8) = DQB (i 1).val x0 x1 x2 x3 x4 x5 x6 x7 x8 0 :=
  cat128 _ _ _ _ _
    (dqG_pair ((DSB (i 1).val x0 x1 x2 x3 x4 x5 x6 x7 x8) 0) (glue x1 x2) 0 0 _ _ _
      (headEq u20.view 0 DSS0)
      (headEq u20.view 1 DSS0) wv46)
    (dqG_pair ((DSB (i 1).val x0 x1 x2 x3 x4 x5 x6 x7 x8) 0) (glue x1 x2) 0 1 _ _ _
      (headEq u20.view 2 DSS0)
      (headEq u20.view 3 DSS0) wv86)
    (dqG_pair ((DSB (i 1).val x0 x1 x2 x3 x4 x5 x6 x7 x8) 0) (glue x1 x2) 0 2 _ _ _
      (headEq u20.view 4 DSS0)
      (headEq u20.view 5 DSS0) wv126)
    (dqG_pair ((DSB (i 1).val x0 x1 x2 x3 x4 x5 x6 x7 x8) 0) (glue x1 x2) 0 3 _ _ _
      (headEq u20.view 6 DSS0)
      (headEq u20.view 7 DSS0) wv166)

theorem wv587 : (v587 c u2 h2 x0) (ix2 a l) = scaled x0 (ix2 (rw4 1 a) (lp4 3 l)) :=
  (q2_at _ 1 3 128 384 rfl rfl _ _ _ a l).trans (by rw [wv15])

theorem wv588 : (v588 c u3 h3 u4 h4 x1 x2) (ix2 b l) = glue x1 x2 (ix2 (kr4 1 b) (lp4 3 l)) :=
  sliceK wv20 128 384 _ b l 1 3 rfl rfl

theorem wv547 : (v547 c u2 h2 x0) (ix2 a l) = scaled x0 (ix2 (rw4 1 a) (lp4 2 l)) :=
  (q2_at _ 1 2 128 256 rfl rfl _ _ _ a l).trans (by rw [wv15])

theorem wv548 : (v548 c u3 h3 u4 h4 x1 x2) (ix2 b l) = glue x1 x2 (ix2 (kr4 1 b) (lp4 2 l)) :=
  sliceK wv20 128 256 _ b l 1 2 rfl rfl

theorem wv507 : (v507 c u2 h2 x0) (ix2 a l) = scaled x0 (ix2 (rw4 1 a) (lp4 1 l)) :=
  (q2_at _ 1 1 128 128 rfl rfl _ _ _ a l).trans (by rw [wv15])

theorem wv508 : (v508 c u3 h3 u4 h4 x1 x2) (ix2 b l) = glue x1 x2 (ix2 (kr4 1 b) (lp4 1 l)) :=
  sliceK wv20 128 128 _ b l 1 1 rfl rfl

theorem wv467 : (v467 c u2 h2 x0) (ix2 a l) = scaled x0 (ix2 (rw4 1 a) (lp4 0 l)) :=
  (q2_at _ 1 0 128 0 rfl rfl _ _ _ a l).trans (by rw [wv15])

theorem wv468 : (v468 c u3 h3 u4 h4 x1 x2) (ix2 b l) = glue x1 x2 (ix2 (kr4 1 b) (lp4 0 l)) :=
  sliceK wv20 128 0 _ b l 1 0 rfl rfl

theorem S1 : (v657 c u2 h2 u3 h3 u4 h4 u17 x0 x1 x2) = sG (scaled x0) (glue x1 x2) 1 :=
  stack8 _ _ _ _ _ _ _ _ _ _ _
    (dotSecond_apply (scaled x0) (glue x1 x2) 1 3 _ _ wv587 wv588)
    (dotFirst_apply (scaled x0) (glue x1 x2) 1 3 _ _ wv587 wv588)
    (dotSecond_apply (scaled x0) (glue x1 x2) 1 2 _ _ wv547 wv548)
    (dotFirst_apply (scaled x0) (glue x1 x2) 1 2 _ _ wv547 wv548)
    (dotSecond_apply (scaled x0) (glue x1 x2) 1 1 _ _ wv507 wv508)
    (dotFirst_apply (scaled x0) (glue x1 x2) 1 1 _ _ wv507 wv508)
    (dotSecond_apply (scaled x0) (glue x1 x2) 1 0 _ _ wv467 wv468)
    (dotFirst_apply (scaled x0) (glue x1 x2) 1 0 _ _ wv467 wv468)

theorem P1 : (v663 c u2 h2 u3 h3 u4 h4 u7 h7 u8 h8 u17 x0 x1 x2 x5 x6) = PB (i 1).val x0 x1 x2 x5 x6 1 :=
  (p_stage _ _ _ (sG (scaled x0) (glue x1 x2) 1) x5 x6 1 S1 ((cast8 _).trans (load8 _ _ _ _))
    (fun h a => (colStack _ 1 128 rfl _ _ _ _ _ _ _ _ h a).trans (by rw [wv27]))).trans (by simp [PB, killAt])

theorem wv590 : (v590 c u9 h9 x7) (ix2 a l) = x7 (ix2 (rw4 1 a) (lp4 3 l)) :=
  sliceQ wv29 128 384 _ a l 1 3 rfl rfl

theorem wv589 : (v589 c u5 h5 u6 h6 x3 x4) (ix2 b l) = glue x3 x4 (ix2 (kr4 1 b) (lp4 3 l)) :=
  sliceK wv25 128 384 _ b l 1 3 rfl rfl

theorem wv550 : (v550 c u9 h9 x7) (ix2 a l) = x7 (ix2 (rw4 1 a) (lp4 2 l)) :=
  sliceQ wv29 128 256 _ a l 1 2 rfl rfl

theorem wv549 : (v549 c u5 h5 u6 h6 x3 x4) (ix2 b l) = glue x3 x4 (ix2 (kr4 1 b) (lp4 2 l)) :=
  sliceK wv25 128 256 _ b l 1 2 rfl rfl

theorem wv510 : (v510 c u9 h9 x7) (ix2 a l) = x7 (ix2 (rw4 1 a) (lp4 1 l)) :=
  sliceQ wv29 128 128 _ a l 1 1 rfl rfl

theorem wv509 : (v509 c u5 h5 u6 h6 x3 x4) (ix2 b l) = glue x3 x4 (ix2 (kr4 1 b) (lp4 1 l)) :=
  sliceK wv25 128 128 _ b l 1 1 rfl rfl

theorem wv470 : (v470 c u9 h9 x7) (ix2 a l) = x7 (ix2 (rw4 1 a) (lp4 0 l)) :=
  sliceQ wv29 128 0 _ a l 1 0 rfl rfl

theorem wv469 : (v469 c u5 h5 u6 h6 x3 x4) (ix2 b l) = glue x3 x4 (ix2 (kr4 1 b) (lp4 0 l)) :=
  sliceK wv25 128 0 _ b l 1 0 rfl rfl

theorem D1 : (v664 c u5 h5 u6 h6 u9 h9 u18 x3 x4 x7) = sG x7 (glue x3 x4) 1 :=
  stack8 _ _ _ _ _ _ _ _ _ _ _
    (dotSecond_apply x7 (glue x3 x4) 1 3 _ _ wv590 wv589)
    (dotFirst_apply x7 (glue x3 x4) 1 3 _ _ wv590 wv589)
    (dotSecond_apply x7 (glue x3 x4) 1 2 _ _ wv550 wv549)
    (dotFirst_apply x7 (glue x3 x4) 1 2 _ _ wv550 wv549)
    (dotSecond_apply x7 (glue x3 x4) 1 1 _ _ wv510 wv509)
    (dotFirst_apply x7 (glue x3 x4) 1 1 _ _ wv510 wv509)
    (dotSecond_apply x7 (glue x3 x4) 1 0 _ _ wv470 wv469)
    (dotFirst_apply x7 (glue x3 x4) 1 0 _ _ wv470 wv469)

theorem DS1 : (v667 c u2 h2 u3 h3 u4 h4 u5 h5 u6 h6 u7 h7 u8 h8 u9 h9 u10 h10 u17 u18 x0 x1 x2 x3 x4 x5 x6 x7 x8) = DSB (i 1).val x0 x1 x2 x3 x4 x5 x6 x7 x8 1 :=
  ds_stage _ _ _ _ _ x8 1 P1 D1
    (fun h a => (colStack _ 1 128 rfl _ _ _ _ _ _ _ _ h a).trans (by rw [wv31]))

theorem PS1 : (v675 c u2 h2 u3 h3 u4 h4 u7 h7 u8 h8 u17 x0 x1 x2 x5 x6) = PB (i 1).val x0 x1 x2 x5 x6 1 := castTrunc _ _ P1 _

theorem DSS1 : (v679 c u2 h2 u3 h3 u4 h4 u5 h5 u6 h6 u7 h7 u8 h8 u9 h9 u10 h10 u17 u18 x0 x1 x2 x3 x4 x5 x6 x7 x8) = DSB (i 1).val x0 x1 x2 x3 x4 x5 x6 x7 x8 1 := castTrunc _ _ DS1 _

theorem FV1 : (v1756 c i u2 h2 u3 h3 u4 h4 u7 h7 u8 h8 u9 h9 u17 u19 x0 x1 x2 x5 x6 x7) = FVB (i 1).val x0 x1 x2 x5 x6 x7 1 :=
  cat256 _ _ _ _ _
    (fullG_pair ((PB (i 1).val x0 x1 x2 x5 x6) 1) x7 1 0 _ _ _
      (headEq u19.view 0 PS1)
      (headEq u19.view 1 PS1) wv470)
    (fullG_pair ((PB (i 1).val x0 x1 x2 x5 x6) 1) x7 1 1 _ _ _
      (headEq u19.view 2 PS1)
      (headEq u19.view 3 PS1) wv510)
    (fullG_pair ((PB (i 1).val x0 x1 x2 x5 x6) 1) x7 1 2 _ _ _
      (headEq u19.view 4 PS1)
      (headEq u19.view 5 PS1) wv550)
    (fullG_pair ((PB (i 1).val x0 x1 x2 x5 x6) 1) x7 1 3 _ _ _
      (headEq u19.view 6 PS1)
      (headEq u19.view 7 PS1) wv590)

theorem FK1 : (v1722 c i u2 h2 u3 h3 u4 h4 u5 h5 u6 h6 u7 h7 u8 h8 u9 h9 u10 h10 u17 u18 u20 x0 x1 x2 x3 x4 x5 x6 x7 x8) = FKB (i 1).val x0 x1 x2 x3 x4 x5 x6 x7 x8 1 :=
  cat256 _ _ _ _ _
    (fullG_pair ((DSB (i 1).val x0 x1 x2 x3 x4 x5 x6 x7 x8) 1) (scaled x0) 1 0 _ _ _
      (headEq u20.view 0 DSS1)
      (headEq u20.view 1 DSS1) wv467)
    (fullG_pair ((DSB (i 1).val x0 x1 x2 x3 x4 x5 x6 x7 x8) 1) (scaled x0) 1 1 _ _ _
      (headEq u20.view 2 DSS1)
      (headEq u20.view 3 DSS1) wv507)
    (fullG_pair ((DSB (i 1).val x0 x1 x2 x3 x4 x5 x6 x7 x8) 1) (scaled x0) 1 2 _ _ _
      (headEq u20.view 4 DSS1)
      (headEq u20.view 5 DSS1) wv547)
    (fullG_pair ((DSB (i 1).val x0 x1 x2 x3 x4 x5 x6 x7 x8) 1) (scaled x0) 1 3 _ _ _
      (headEq u20.view 6 DSS1)
      (headEq u20.view 7 DSS1) wv587)

theorem DQ1 : (v1715 c i u2 h2 u3 h3 u4 h4 u5 h5 u6 h6 u7 h7 u8 h8 u9 h9 u10 h10 u17 u18 u20 x0 x1 x2 x3 x4 x5 x6 x7 x8) = DQB (i 1).val x0 x1 x2 x3 x4 x5 x6 x7 x8 1 :=
  cat128 _ _ _ _ _
    (dqG_pair ((DSB (i 1).val x0 x1 x2 x3 x4 x5 x6 x7 x8) 1) (glue x1 x2) 1 0 _ _ _
      (headEq u20.view 0 DSS1)
      (headEq u20.view 1 DSS1) wv468)
    (dqG_pair ((DSB (i 1).val x0 x1 x2 x3 x4 x5 x6 x7 x8) 1) (glue x1 x2) 1 1 _ _ _
      (headEq u20.view 2 DSS1)
      (headEq u20.view 3 DSS1) wv508)
    (dqG_pair ((DSB (i 1).val x0 x1 x2 x3 x4 x5 x6 x7 x8) 1) (glue x1 x2) 1 2 _ _ _
      (headEq u20.view 4 DSS1)
      (headEq u20.view 5 DSS1) wv548)
    (dqG_pair ((DSB (i 1).val x0 x1 x2 x3 x4 x5 x6 x7 x8) 1) (glue x1 x2) 1 3 _ _ _
      (headEq u20.view 6 DSS1)
      (headEq u20.view 7 DSS1) wv588)

theorem wv1004 : (v1004 c u2 h2 x0) (ix2 a l) = scaled x0 (ix2 (rw4 2 a) (lp4 3 l)) :=
  (q2_at _ 2 3 256 384 rfl rfl _ _ _ a l).trans (by rw [wv15])

theorem wv1005 : (v1005 c u3 h3 u4 h4 x1 x2) (ix2 b l) = glue x1 x2 (ix2 (kr4 2 b) (lp4 3 l)) :=
  sliceK wv20 256 384 _ b l 2 3 rfl rfl

theorem wv964 : (v964 c u2 h2 x0) (ix2 a l) = scaled x0 (ix2 (rw4 2 a) (lp4 2 l)) :=
  (q2_at _ 2 2 256 256 rfl rfl _ _ _ a l).trans (by rw [wv15])

theorem wv965 : (v965 c u3 h3 u4 h4 x1 x2) (ix2 b l) = glue x1 x2 (ix2 (kr4 2 b) (lp4 2 l)) :=
  sliceK wv20 256 256 _ b l 2 2 rfl rfl

theorem wv924 : (v924 c u2 h2 x0) (ix2 a l) = scaled x0 (ix2 (rw4 2 a) (lp4 1 l)) :=
  (q2_at _ 2 1 256 128 rfl rfl _ _ _ a l).trans (by rw [wv15])

theorem wv925 : (v925 c u3 h3 u4 h4 x1 x2) (ix2 b l) = glue x1 x2 (ix2 (kr4 2 b) (lp4 1 l)) :=
  sliceK wv20 256 128 _ b l 2 1 rfl rfl

theorem wv884 : (v884 c u2 h2 x0) (ix2 a l) = scaled x0 (ix2 (rw4 2 a) (lp4 0 l)) :=
  (q2_at _ 2 0 256 0 rfl rfl _ _ _ a l).trans (by rw [wv15])

theorem wv885 : (v885 c u3 h3 u4 h4 x1 x2) (ix2 b l) = glue x1 x2 (ix2 (kr4 2 b) (lp4 0 l)) :=
  sliceK wv20 256 0 _ b l 2 0 rfl rfl

theorem S2 : (v1074 c u2 h2 u3 h3 u4 h4 u17 x0 x1 x2) = sG (scaled x0) (glue x1 x2) 2 :=
  stack8 _ _ _ _ _ _ _ _ _ _ _
    (dotSecond_apply (scaled x0) (glue x1 x2) 2 3 _ _ wv1004 wv1005)
    (dotFirst_apply (scaled x0) (glue x1 x2) 2 3 _ _ wv1004 wv1005)
    (dotSecond_apply (scaled x0) (glue x1 x2) 2 2 _ _ wv964 wv965)
    (dotFirst_apply (scaled x0) (glue x1 x2) 2 2 _ _ wv964 wv965)
    (dotSecond_apply (scaled x0) (glue x1 x2) 2 1 _ _ wv924 wv925)
    (dotFirst_apply (scaled x0) (glue x1 x2) 2 1 _ _ wv924 wv925)
    (dotSecond_apply (scaled x0) (glue x1 x2) 2 0 _ _ wv884 wv885)
    (dotFirst_apply (scaled x0) (glue x1 x2) 2 0 _ _ wv884 wv885)

theorem P2 : (v1080 c u2 h2 u3 h3 u4 h4 u7 h7 u8 h8 u17 x0 x1 x2 x5 x6) = PB (i 1).val x0 x1 x2 x5 x6 2 :=
  (p_stage _ _ _ (sG (scaled x0) (glue x1 x2) 2) x5 x6 2 S2 ((cast8 _).trans (load8 _ _ _ _))
    (fun h a => (colStack _ 2 256 rfl _ _ _ _ _ _ _ _ h a).trans (by rw [wv27]))).trans (by simp [PB, killAt])

theorem wv1007 : (v1007 c u9 h9 x7) (ix2 a l) = x7 (ix2 (rw4 2 a) (lp4 3 l)) :=
  sliceQ wv29 256 384 _ a l 2 3 rfl rfl

theorem wv1006 : (v1006 c u5 h5 u6 h6 x3 x4) (ix2 b l) = glue x3 x4 (ix2 (kr4 2 b) (lp4 3 l)) :=
  sliceK wv25 256 384 _ b l 2 3 rfl rfl

theorem wv967 : (v967 c u9 h9 x7) (ix2 a l) = x7 (ix2 (rw4 2 a) (lp4 2 l)) :=
  sliceQ wv29 256 256 _ a l 2 2 rfl rfl

theorem wv966 : (v966 c u5 h5 u6 h6 x3 x4) (ix2 b l) = glue x3 x4 (ix2 (kr4 2 b) (lp4 2 l)) :=
  sliceK wv25 256 256 _ b l 2 2 rfl rfl

theorem wv927 : (v927 c u9 h9 x7) (ix2 a l) = x7 (ix2 (rw4 2 a) (lp4 1 l)) :=
  sliceQ wv29 256 128 _ a l 2 1 rfl rfl

theorem wv926 : (v926 c u5 h5 u6 h6 x3 x4) (ix2 b l) = glue x3 x4 (ix2 (kr4 2 b) (lp4 1 l)) :=
  sliceK wv25 256 128 _ b l 2 1 rfl rfl

theorem wv887 : (v887 c u9 h9 x7) (ix2 a l) = x7 (ix2 (rw4 2 a) (lp4 0 l)) :=
  sliceQ wv29 256 0 _ a l 2 0 rfl rfl

theorem wv886 : (v886 c u5 h5 u6 h6 x3 x4) (ix2 b l) = glue x3 x4 (ix2 (kr4 2 b) (lp4 0 l)) :=
  sliceK wv25 256 0 _ b l 2 0 rfl rfl

theorem D2 : (v1081 c u5 h5 u6 h6 u9 h9 u18 x3 x4 x7) = sG x7 (glue x3 x4) 2 :=
  stack8 _ _ _ _ _ _ _ _ _ _ _
    (dotSecond_apply x7 (glue x3 x4) 2 3 _ _ wv1007 wv1006)
    (dotFirst_apply x7 (glue x3 x4) 2 3 _ _ wv1007 wv1006)
    (dotSecond_apply x7 (glue x3 x4) 2 2 _ _ wv967 wv966)
    (dotFirst_apply x7 (glue x3 x4) 2 2 _ _ wv967 wv966)
    (dotSecond_apply x7 (glue x3 x4) 2 1 _ _ wv927 wv926)
    (dotFirst_apply x7 (glue x3 x4) 2 1 _ _ wv927 wv926)
    (dotSecond_apply x7 (glue x3 x4) 2 0 _ _ wv887 wv886)
    (dotFirst_apply x7 (glue x3 x4) 2 0 _ _ wv887 wv886)

theorem DS2 : (v1084 c u2 h2 u3 h3 u4 h4 u5 h5 u6 h6 u7 h7 u8 h8 u9 h9 u10 h10 u17 u18 x0 x1 x2 x3 x4 x5 x6 x7 x8) = DSB (i 1).val x0 x1 x2 x3 x4 x5 x6 x7 x8 2 :=
  ds_stage _ _ _ _ _ x8 2 P2 D2
    (fun h a => (colStack _ 2 256 rfl _ _ _ _ _ _ _ _ h a).trans (by rw [wv31]))

theorem PS2 : (v1092 c u2 h2 u3 h3 u4 h4 u7 h7 u8 h8 u17 x0 x1 x2 x5 x6) = PB (i 1).val x0 x1 x2 x5 x6 2 := castTrunc _ _ P2 _

theorem DSS2 : (v1096 c u2 h2 u3 h3 u4 h4 u5 h5 u6 h6 u7 h7 u8 h8 u9 h9 u10 h10 u17 u18 x0 x1 x2 x3 x4 x5 x6 x7 x8) = DSB (i 1).val x0 x1 x2 x3 x4 x5 x6 x7 x8 2 := castTrunc _ _ DS2 _

theorem FV2 : (r_2 c i u2 h2 u3 h3 u4 h4 u7 h7 u8 h8 u9 h9 u17 u19 x0 x1 x2 x5 x6 x7) = FVB (i 1).val x0 x1 x2 x5 x6 x7 2 :=
  cat256 _ _ _ _ _
    (fullG_pair ((PB (i 1).val x0 x1 x2 x5 x6) 2) x7 2 0 _ _ _
      (headEq u19.view 0 PS2)
      (headEq u19.view 1 PS2) wv887)
    (fullG_pair ((PB (i 1).val x0 x1 x2 x5 x6) 2) x7 2 1 _ _ _
      (headEq u19.view 2 PS2)
      (headEq u19.view 3 PS2) wv927)
    (fullG_pair ((PB (i 1).val x0 x1 x2 x5 x6) 2) x7 2 2 _ _ _
      (headEq u19.view 4 PS2)
      (headEq u19.view 5 PS2) wv967)
    (fullG_pair ((PB (i 1).val x0 x1 x2 x5 x6) 2) x7 2 3 _ _ _
      (headEq u19.view 6 PS2)
      (headEq u19.view 7 PS2) wv1007)

theorem FK2 : (v1723 c i u2 h2 u3 h3 u4 h4 u5 h5 u6 h6 u7 h7 u8 h8 u9 h9 u10 h10 u17 u18 u20 x0 x1 x2 x3 x4 x5 x6 x7 x8) = FKB (i 1).val x0 x1 x2 x3 x4 x5 x6 x7 x8 2 :=
  cat256 _ _ _ _ _
    (fullG_pair ((DSB (i 1).val x0 x1 x2 x3 x4 x5 x6 x7 x8) 2) (scaled x0) 2 0 _ _ _
      (headEq u20.view 0 DSS2)
      (headEq u20.view 1 DSS2) wv884)
    (fullG_pair ((DSB (i 1).val x0 x1 x2 x3 x4 x5 x6 x7 x8) 2) (scaled x0) 2 1 _ _ _
      (headEq u20.view 2 DSS2)
      (headEq u20.view 3 DSS2) wv924)
    (fullG_pair ((DSB (i 1).val x0 x1 x2 x3 x4 x5 x6 x7 x8) 2) (scaled x0) 2 2 _ _ _
      (headEq u20.view 4 DSS2)
      (headEq u20.view 5 DSS2) wv964)
    (fullG_pair ((DSB (i 1).val x0 x1 x2 x3 x4 x5 x6 x7 x8) 2) (scaled x0) 2 3 _ _ _
      (headEq u20.view 6 DSS2)
      (headEq u20.view 7 DSS2) wv1004)

theorem DQ2 : (v1716 c i u2 h2 u3 h3 u4 h4 u5 h5 u6 h6 u7 h7 u8 h8 u9 h9 u10 h10 u17 u18 u20 x0 x1 x2 x3 x4 x5 x6 x7 x8) = DQB (i 1).val x0 x1 x2 x3 x4 x5 x6 x7 x8 2 :=
  cat128 _ _ _ _ _
    (dqG_pair ((DSB (i 1).val x0 x1 x2 x3 x4 x5 x6 x7 x8) 2) (glue x1 x2) 2 0 _ _ _
      (headEq u20.view 0 DSS2)
      (headEq u20.view 1 DSS2) wv885)
    (dqG_pair ((DSB (i 1).val x0 x1 x2 x3 x4 x5 x6 x7 x8) 2) (glue x1 x2) 2 1 _ _ _
      (headEq u20.view 2 DSS2)
      (headEq u20.view 3 DSS2) wv925)
    (dqG_pair ((DSB (i 1).val x0 x1 x2 x3 x4 x5 x6 x7 x8) 2) (glue x1 x2) 2 2 _ _ _
      (headEq u20.view 4 DSS2)
      (headEq u20.view 5 DSS2) wv965)
    (dqG_pair ((DSB (i 1).val x0 x1 x2 x3 x4 x5 x6 x7 x8) 2) (glue x1 x2) 2 3 _ _ _
      (headEq u20.view 6 DSS2)
      (headEq u20.view 7 DSS2) wv1005)

theorem wv1421 : (v1421 c u2 h2 x0) (ix2 a l) = scaled x0 (ix2 (rw4 3 a) (lp4 3 l)) :=
  (q2_at _ 3 3 384 384 rfl rfl _ _ _ a l).trans (by rw [wv15])

theorem wv1422 : (v1422 c u3 h3 u4 h4 x1 x2) (ix2 b l) = glue x1 x2 (ix2 (kr4 3 b) (lp4 3 l)) :=
  sliceK wv20 384 384 _ b l 3 3 rfl rfl

theorem wv1381 : (v1381 c u2 h2 x0) (ix2 a l) = scaled x0 (ix2 (rw4 3 a) (lp4 2 l)) :=
  (q2_at _ 3 2 384 256 rfl rfl _ _ _ a l).trans (by rw [wv15])

theorem wv1382 : (v1382 c u3 h3 u4 h4 x1 x2) (ix2 b l) = glue x1 x2 (ix2 (kr4 3 b) (lp4 2 l)) :=
  sliceK wv20 384 256 _ b l 3 2 rfl rfl

theorem wv1341 : (v1341 c u2 h2 x0) (ix2 a l) = scaled x0 (ix2 (rw4 3 a) (lp4 1 l)) :=
  (q2_at _ 3 1 384 128 rfl rfl _ _ _ a l).trans (by rw [wv15])

theorem wv1342 : (v1342 c u3 h3 u4 h4 x1 x2) (ix2 b l) = glue x1 x2 (ix2 (kr4 3 b) (lp4 1 l)) :=
  sliceK wv20 384 128 _ b l 3 1 rfl rfl

theorem wv1301 : (v1301 c u2 h2 x0) (ix2 a l) = scaled x0 (ix2 (rw4 3 a) (lp4 0 l)) :=
  (q2_at _ 3 0 384 0 rfl rfl _ _ _ a l).trans (by rw [wv15])

theorem wv1302 : (v1302 c u3 h3 u4 h4 x1 x2) (ix2 b l) = glue x1 x2 (ix2 (kr4 3 b) (lp4 0 l)) :=
  sliceK wv20 384 0 _ b l 3 0 rfl rfl

theorem S3 : (v1491 c u2 h2 u3 h3 u4 h4 u17 x0 x1 x2) = sG (scaled x0) (glue x1 x2) 3 :=
  stack8 _ _ _ _ _ _ _ _ _ _ _
    (dotSecond_apply (scaled x0) (glue x1 x2) 3 3 _ _ wv1421 wv1422)
    (dotFirst_apply (scaled x0) (glue x1 x2) 3 3 _ _ wv1421 wv1422)
    (dotSecond_apply (scaled x0) (glue x1 x2) 3 2 _ _ wv1381 wv1382)
    (dotFirst_apply (scaled x0) (glue x1 x2) 3 2 _ _ wv1381 wv1382)
    (dotSecond_apply (scaled x0) (glue x1 x2) 3 1 _ _ wv1341 wv1342)
    (dotFirst_apply (scaled x0) (glue x1 x2) 3 1 _ _ wv1341 wv1342)
    (dotSecond_apply (scaled x0) (glue x1 x2) 3 0 _ _ wv1301 wv1302)
    (dotFirst_apply (scaled x0) (glue x1 x2) 3 0 _ _ wv1301 wv1302)

theorem P3 : (v1497 c u2 h2 u3 h3 u4 h4 u7 h7 u8 h8 u17 x0 x1 x2 x5 x6) = PB (i 1).val x0 x1 x2 x5 x6 3 :=
  (p_stage _ _ _ (sG (scaled x0) (glue x1 x2) 3) x5 x6 3 S3 ((cast8 _).trans (load8 _ _ _ _))
    (fun h a => (colStack _ 3 384 rfl _ _ _ _ _ _ _ _ h a).trans (by rw [wv27]))).trans (by simp [PB, killAt])

theorem wv1424 : (v1424 c u9 h9 x7) (ix2 a l) = x7 (ix2 (rw4 3 a) (lp4 3 l)) :=
  sliceQ wv29 384 384 _ a l 3 3 rfl rfl

theorem wv1423 : (v1423 c u5 h5 u6 h6 x3 x4) (ix2 b l) = glue x3 x4 (ix2 (kr4 3 b) (lp4 3 l)) :=
  sliceK wv25 384 384 _ b l 3 3 rfl rfl

theorem wv1384 : (v1384 c u9 h9 x7) (ix2 a l) = x7 (ix2 (rw4 3 a) (lp4 2 l)) :=
  sliceQ wv29 384 256 _ a l 3 2 rfl rfl

theorem wv1383 : (v1383 c u5 h5 u6 h6 x3 x4) (ix2 b l) = glue x3 x4 (ix2 (kr4 3 b) (lp4 2 l)) :=
  sliceK wv25 384 256 _ b l 3 2 rfl rfl

theorem wv1344 : (v1344 c u9 h9 x7) (ix2 a l) = x7 (ix2 (rw4 3 a) (lp4 1 l)) :=
  sliceQ wv29 384 128 _ a l 3 1 rfl rfl

theorem wv1343 : (v1343 c u5 h5 u6 h6 x3 x4) (ix2 b l) = glue x3 x4 (ix2 (kr4 3 b) (lp4 1 l)) :=
  sliceK wv25 384 128 _ b l 3 1 rfl rfl

theorem wv1304 : (v1304 c u9 h9 x7) (ix2 a l) = x7 (ix2 (rw4 3 a) (lp4 0 l)) :=
  sliceQ wv29 384 0 _ a l 3 0 rfl rfl

theorem wv1303 : (v1303 c u5 h5 u6 h6 x3 x4) (ix2 b l) = glue x3 x4 (ix2 (kr4 3 b) (lp4 0 l)) :=
  sliceK wv25 384 0 _ b l 3 0 rfl rfl

theorem D3 : (v1498 c u5 h5 u6 h6 u9 h9 u18 x3 x4 x7) = sG x7 (glue x3 x4) 3 :=
  stack8 _ _ _ _ _ _ _ _ _ _ _
    (dotSecond_apply x7 (glue x3 x4) 3 3 _ _ wv1424 wv1423)
    (dotFirst_apply x7 (glue x3 x4) 3 3 _ _ wv1424 wv1423)
    (dotSecond_apply x7 (glue x3 x4) 3 2 _ _ wv1384 wv1383)
    (dotFirst_apply x7 (glue x3 x4) 3 2 _ _ wv1384 wv1383)
    (dotSecond_apply x7 (glue x3 x4) 3 1 _ _ wv1344 wv1343)
    (dotFirst_apply x7 (glue x3 x4) 3 1 _ _ wv1344 wv1343)
    (dotSecond_apply x7 (glue x3 x4) 3 0 _ _ wv1304 wv1303)
    (dotFirst_apply x7 (glue x3 x4) 3 0 _ _ wv1304 wv1303)

theorem DS3 : (v1501 c u2 h2 u3 h3 u4 h4 u5 h5 u6 h6 u7 h7 u8 h8 u9 h9 u10 h10 u17 u18 x0 x1 x2 x3 x4 x5 x6 x7 x8) = DSB (i 1).val x0 x1 x2 x3 x4 x5 x6 x7 x8 3 :=
  ds_stage _ _ _ _ _ x8 3 P3 D3
    (fun h a => (colStack _ 3 384 rfl _ _ _ _ _ _ _ _ h a).trans (by rw [wv31]))

theorem PS3 : (v1509 c u2 h2 u3 h3 u4 h4 u7 h7 u8 h8 u17 x0 x1 x2 x5 x6) = PB (i 1).val x0 x1 x2 x5 x6 3 := castTrunc _ _ P3 _

theorem DSS3 : (v1513 c u2 h2 u3 h3 u4 h4 u5 h5 u6 h6 u7 h7 u8 h8 u9 h9 u10 h10 u17 u18 x0 x1 x2 x3 x4 x5 x6 x7 x8) = DSB (i 1).val x0 x1 x2 x3 x4 x5 x6 x7 x8 3 := castTrunc _ _ DS3 _

theorem FV3 : (r_3 c i u2 h2 u3 h3 u4 h4 u7 h7 u8 h8 u9 h9 u17 u19 x0 x1 x2 x5 x6 x7) = FVB (i 1).val x0 x1 x2 x5 x6 x7 3 :=
  cat256 _ _ _ _ _
    (fullG_pair ((PB (i 1).val x0 x1 x2 x5 x6) 3) x7 3 0 _ _ _
      (headEq u19.view 0 PS3)
      (headEq u19.view 1 PS3) wv1304)
    (fullG_pair ((PB (i 1).val x0 x1 x2 x5 x6) 3) x7 3 1 _ _ _
      (headEq u19.view 2 PS3)
      (headEq u19.view 3 PS3) wv1344)
    (fullG_pair ((PB (i 1).val x0 x1 x2 x5 x6) 3) x7 3 2 _ _ _
      (headEq u19.view 4 PS3)
      (headEq u19.view 5 PS3) wv1384)
    (fullG_pair ((PB (i 1).val x0 x1 x2 x5 x6) 3) x7 3 3 _ _ _
      (headEq u19.view 6 PS3)
      (headEq u19.view 7 PS3) wv1424)

theorem FK3 : (v1724 c i u2 h2 u3 h3 u4 h4 u5 h5 u6 h6 u7 h7 u8 h8 u9 h9 u10 h10 u17 u18 u20 x0 x1 x2 x3 x4 x5 x6 x7 x8) = FKB (i 1).val x0 x1 x2 x3 x4 x5 x6 x7 x8 3 :=
  cat256 _ _ _ _ _
    (fullG_pair ((DSB (i 1).val x0 x1 x2 x3 x4 x5 x6 x7 x8) 3) (scaled x0) 3 0 _ _ _
      (headEq u20.view 0 DSS3)
      (headEq u20.view 1 DSS3) wv1301)
    (fullG_pair ((DSB (i 1).val x0 x1 x2 x3 x4 x5 x6 x7 x8) 3) (scaled x0) 3 1 _ _ _
      (headEq u20.view 2 DSS3)
      (headEq u20.view 3 DSS3) wv1341)
    (fullG_pair ((DSB (i 1).val x0 x1 x2 x3 x4 x5 x6 x7 x8) 3) (scaled x0) 3 2 _ _ _
      (headEq u20.view 4 DSS3)
      (headEq u20.view 5 DSS3) wv1381)
    (fullG_pair ((DSB (i 1).val x0 x1 x2 x3 x4 x5 x6 x7 x8) 3) (scaled x0) 3 3 _ _ _
      (headEq u20.view 6 DSS3)
      (headEq u20.view 7 DSS3) wv1421)

theorem DQ3 : (v1717 c i u2 h2 u3 h3 u4 h4 u5 h5 u6 h6 u7 h7 u8 h8 u9 h9 u10 h10 u17 u18 u20 x0 x1 x2 x3 x4 x5 x6 x7 x8) = DQB (i 1).val x0 x1 x2 x3 x4 x5 x6 x7 x8 3 :=
  cat128 _ _ _ _ _
    (dqG_pair ((DSB (i 1).val x0 x1 x2 x3 x4 x5 x6 x7 x8) 3) (glue x1 x2) 3 0 _ _ _
      (headEq u20.view 0 DSS3)
      (headEq u20.view 1 DSS3) wv1302)
    (dqG_pair ((DSB (i 1).val x0 x1 x2 x3 x4 x5 x6 x7 x8) 3) (glue x1 x2) 3 1 _ _ _
      (headEq u20.view 2 DSS3)
      (headEq u20.view 3 DSS3) wv1342)
    (dqG_pair ((DSB (i 1).val x0 x1 x2 x3 x4 x5 x6 x7 x8) 3) (glue x1 x2) 3 2 _ _ _
      (headEq u20.view 4 DSS3)
      (headEq u20.view 5 DSS3) wv1382)
    (dqG_pair ((DSB (i 1).val x0 x1 x2 x3 x4 x5 x6 x7 x8) 3) (glue x1 x2) 3 3 _ _ _
      (headEq u20.view 6 DSS3)
      (headEq u20.view 7 DSS3) wv1422)

theorem DQall : (v1718 c i u2 h2 u3 h3 u4 h4 u5 h5 u6 h6 u7 h7 u8 h8 u9 h9 u10 h10 u17 u18 u20 x0 x1 x2 x3 x4 x5 x6 x7 x8) = DQA (i 1).val x0 x1 x2 x3 x4 x5 x6 x7 x8 :=
  catRows _ _ _ _ _
    (fun a l => (congrFun DQ0 _).trans (DQA_rw4 _ _ _ _ _ _ _ _ _ _ 0 a l))
    (fun a l => (congrFun DQ1 _).trans (DQA_rw4 _ _ _ _ _ _ _ _ _ _ 1 a l))
    (fun a l => (congrFun DQ2 _).trans (DQA_rw4 _ _ _ _ _ _ _ _ _ _ 2 a l))
    (fun a l => (congrFun DQ3 _).trans (DQA_rw4 _ _ _ _ _ _ _ _ _ _ 3 a l))

end Cert.KernelIdeal.WordsB

end
-- ==== Proof.EndB.lean ====
/- The lists of stores that the run of the body at a middle grid point leaves in its outputs and carries, read as whole arrays. -/
module

public import proofs.«01_k».proof.Proof.WordsB
public import proofs.«01_k».proof.Proof.Tail

@[expose] public section

set_option maxRecDepth 16384

noncomputable section

namespace Cert.KernelIdeal.WordsB

open Cert.KernelIdeal.Gen Cert.KernelIdeal.Run Cert.KernelIdeal.Val
open bodyB.sl
open Idealize.ShloMosaic TcCoe Tactic

variable {c : Dev nD} {i : grid0.Coords} {u2 : Memref sig .tc .vmem S512x512 .bf16} {h2 : u2.IsWhole} {u3 : Memref sig .tc .vmem S128x512 .bf16} {h3 : u3.IsWhole} {u4 : Memref sig .tc .vmem S512x512 .bf16} {h4 : u4.IsWhole} {u5 : Memref sig .tc .vmem S128x512 .bf16} {h5 : u5.IsWhole} {u6 : Memref sig .tc .vmem S512x512 .bf16} {h6 : u6.IsWhole} {u7 : Memref sig .tc .vmem S8x128x256 .f32} {h7 : u7.IsWhole} {u8 : Memref sig .tc .vmem S512x512 .f32} {h8 : u8.IsWhole} {u9 : Memref sig .tc .vmem S512x512 .bf16} {h9 : u9.IsWhole} {u10 : Memref sig .tc .vmem S512x512 .f32} {h10 : u10.IsWhole} {u11 : Memref sig .tc .vmem S512x512 .bf16} {h11 : u11.IsWhole} {u12 : Memref sig .tc .vmem S512x512 .bf16} {h12 : u12.IsWhole} {u13 : Memref sig .tc .vmem S512x512 .bf16} {h13 : u13.IsWhole} {u14 : Memref sig .tc .vmem S8x128x256 .f32} {h14 : u14.IsWhole} {u15 : Memref sig .tc .vmem S512x512 .f32} {h15 : u15.IsWhole} {u16 : Memref sig .tc .vmem S512x512 .f32} {h16 : u16.IsWhole} {u17 : Memref sig .tc .vmem S8x128x256 .f32} {h17 : u17.IsWhole} {u18 : Memref sig .tc .vmem S8x128x256 .f32} {h18 : u18.IsWhole} {u19 : Memref sig .tc .vmem S8x128x256 .bf16} {h19 : u19.IsWhole} {u20 : Memref sig .tc .vmem S8x128x256 .bf16} {h20 : u20.IsWhole}
  {x0 : Vec Ideal S512x512 .bf16} {x1 : Vec Ideal S128x512 .bf16} {x2 : Vec Ideal S512x512 .bf16} {x3 : Vec Ideal S128x512 .bf16} {x4 : Vec Ideal S512x512 .bf16} {x5 : Vec Ideal S8x128x256 .f32} {x6 : Vec Ideal S512x512 .f32} {x7 : Vec Ideal S512x512 .bf16} {x8 : Vec Ideal S512x512 .f32} {y14 : Vec Ideal S8x128x256 .f32} {y15 y16 : Vec Ideal S512x512 .f32}

theorem C11 (inb) : View.canon (Val := Elt Ideal) (s := S512x512) (e := .bf16) [⟨Rect.unit ![0, 0] S512x512.size inb, (v1719 (F := Ideal) c i u2 h2 u3 h3 u4 h4 u5 h5 u6 h6 u7 h7 u8 h8 u9 h9 u10 h10 u17 u18 u20 x0 x1 x2 x3 x4 x5 x6 x7 x8)⟩] = DQA (i 1).val x0 x1 x2 x3 x4 x5 x6 x7 x8 :=
  (View.canon_cons_unit_zero (by funext a; fin_cases a <;> rfl) inb _ []).trans DQall

theorem T12 (a : Fin 128) (l : Fin 512) : (v1731 (F := Ideal) c i u2 h2 u3 h3 u4 h4 u5 h5 u6 h6 u7 h7 u8 h8 u9 h9 u10 h10 u15 h15 u17 u18 u20 x0 x1 x2 x3 x4 x5 x6 x7 x8 y15) (ix2 a l) = outF y15 (FKB (i 1).val x0 x1 x2 x3 x4 x5 x6 x7 x8) (ix2 (rw4 3 a) l) :=
  (congrArg₂ (fun u v : EReal => u + v) (last_rows u15 h15 y15 _ a l) ((sliceLo _ _ a l).trans (congrFun FK0 _))).trans (outF_hi y15 (FKB (i 1).val x0 x1 x2 x3 x4 x5 x6 x7 x8) a l).symm

theorem U12 (r : Fin 384) (l : Fin 512) : (v1726 (F := Ideal) c u15 h15 y15) (ix2 r l) = outF y15 (FKB (i 1).val x0 x1 x2 x3 x4 x5 x6 x7 x8) (ix2 ⟨r.val, by omega⟩ l) :=
  (keep_rows u15 h15 y15 _ _ r l).trans (outF_lo y15 (FKB (i 1).val x0 x1 x2 x3 x4 x5 x6 x7 x8) r l).symm

theorem C12 (inb1 inb0) : View.canon (Val := Elt Ideal) (s := S512x512) (e := .bf16) [⟨Rect.unit ![384, 0] S128x512.size inb1, (v1731 (F := Ideal) c i u2 h2 u3 h3 u4 h4 u5 h5 u6 h6 u7 h7 u8 h8 u9 h9 u10 h10 u15 h15 u17 u18 u20 x0 x1 x2 x3 x4 x5 x6 x7 x8 y15)⟩, ⟨Rect.unit ![0, 0] S384x512.size inb0, (v1726 (F := Ideal) c u15 h15 y15)⟩] = outF y15 (FKB (i 1).val x0 x1 x2 x3 x4 x5 x6 x7 x8) :=
  canon_two (outF y15 (FKB (i 1).val x0 x1 x2 x3 x4 x5 x6 x7 x8)) _ _ inb1 inb0 T12 U12

theorem T13 (a : Fin 128) (l : Fin 512) : (k0_pay4 (F := Ideal) (r_4 (F := Ideal) c i u2 h2 u3 h3 u4 h4 u7 h7 u8 h8 u9 h9 u16 h16 u17 u19 x0 x1 x2 x5 x6 x7 y16)) (ix2 a l) = outF y16 (FVB (i 1).val x0 x1 x2 x5 x6 x7) (ix2 (rw4 3 a) l) :=
  (congrArg₂ (fun u v : EReal => u + v) (last_rows u16 h16 y16 _ a l) ((sliceLo _ slices_S256x512_o0_0_S128x512 a l).trans (congrFun FV0 _))).trans (outF_hi y16 (FVB (i 1).val x0 x1 x2 x5 x6 x7) a l).symm

theorem U13 (r : Fin 384) (l : Fin 512) : (k0_pay370 (F := Ideal) (View.readAt (Elt Ideal) u16.view (Rect.unit (s := S512x512) ![0, 0] S384x512.size inb_S512x512_S384x512_0_0).toLoadRect (h16.unread y16))) (ix2 r l) = outF y16 (FVB (i 1).val x0 x1 x2 x5 x6 x7) (ix2 ⟨r.val, by omega⟩ l) :=
  (keep_rows u16 h16 y16 _ _ r l).trans (outF_lo y16 (FVB (i 1).val x0 x1 x2 x5 x6 x7) r l).symm

theorem C13 (inb1 inb0) : View.canon (Val := Elt Ideal) (s := S512x512) (e := .bf16) [⟨Rect.unit ![384, 0] ![128, 512] inb1, (k0_pay4 (F := Ideal) (r_4 (F := Ideal) c i u2 h2 u3 h3 u4 h4 u7 h7 u8 h8 u9 h9 u16 h16 u17 u19 x0 x1 x2 x5 x6 x7 y16))⟩, ⟨Rect.unit ![0, 0] S384x512.size inb0, (k0_pay370 (F := Ideal) (View.readAt (Elt Ideal) u16.view (Rect.unit (s := S512x512) ![0, 0] S384x512.size inb_S512x512_S384x512_0_0).toLoadRect (h16.unread y16)))⟩] = outF y16 (FVB (i 1).val x0 x1 x2 x5 x6 x7) :=
  canon_two (outF y16 (FVB (i 1).val x0 x1 x2 x5 x6 x7)) (k0_pay4 (F := Ideal) _) (k0_pay370 (F := Ideal) (View.readAt (Elt Ideal) u16.view (Rect.unit (s := S512x512) ![0, 0] S384x512.size inb_S512x512_S384x512_0_0).toLoadRect (h16.unread y16))) inb1 inb0 T13 U13

theorem B0 : (v253 (F := Ideal) c i u2 h2 u3 h3 u4 h4 u5 h5 u6 h6 u7 h7 u8 h8 u9 h9 u10 h10 u14 h14 u17 u18 x0 x1 x2 x3 x4 x5 x6 x7 x8 y14) = (fun y => y14 y + (DSB (i 1).val x0 x1 x2 x3 x4 x5 x6 x7 x8) 0 y : S8x128x256.Idx → EReal) := acc_first u14 h14 y14 _ _ _ DS0

theorem B1 : (v670 (F := Ideal) c i u2 h2 u3 h3 u4 h4 u5 h5 u6 h6 u7 h7 u8 h8 u9 h9 u10 h10 u14 h14 u17 u18 x0 x1 x2 x3 x4 x5 x6 x7 x8 y14) = (fun y => y14 y + (DSB (i 1).val x0 x1 x2 x3 x4 x5 x6 x7 x8) 0 y + (DSB (i 1).val x0 x1 x2 x3 x4 x5 x6 x7 x8) 1 y : S8x128x256.Idx → EReal) := acc_step u14.view _ _ _ _ _ _ _ B0 DS1

theorem B2 : (v1087 (F := Ideal) c i u2 h2 u3 h3 u4 h4 u5 h5 u6 h6 u7 h7 u8 h8 u9 h9 u10 h10 u14 h14 u17 u18 x0 x1 x2 x3 x4 x5 x6 x7 x8 y14) = (fun y => y14 y + (DSB (i 1).val x0 x1 x2 x3 x4 x5 x6 x7 x8) 0 y + (DSB (i 1).val x0 x1 x2 x3 x4 x5 x6 x7 x8) 1 y + (DSB (i 1).val x0 x1 x2 x3 x4 x5 x6 x7 x8) 2 y : S8x128x256.Idx → EReal) := acc_step u14.view _ _ _ _ _ _ _ B1 DS2

theorem B3 : (v1504 (F := Ideal) c i u2 h2 u3 h3 u4 h4 u5 h5 u6 h6 u7 h7 u8 h8 u9 h9 u10 h10 u14 h14 u17 u18 x0 x1 x2 x3 x4 x5 x6 x7 x8 y14) = (fun y => y14 y + (DSB (i 1).val x0 x1 x2 x3 x4 x5 x6 x7 x8) 0 y + (DSB (i 1).val x0 x1 x2 x3 x4 x5 x6 x7 x8) 1 y + (DSB (i 1).val x0 x1 x2 x3 x4 x5 x6 x7 x8) 2 y + (DSB (i 1).val x0 x1 x2 x3 x4 x5 x6 x7 x8) 3 y : S8x128x256.Idx → EReal) := acc_step u14.view _ _ _ _ _ _ _ B2 DS3

theorem C14 (inb) : View.canon (Val := Elt Ideal) (s := S8x128x256) (e := .f32) (⟨Rect.unit ![0, 0, 0] S8x128x256.size inb, (v1504 (F := Ideal) c i u2 h2 u3 h3 u4 h4 u5 h5 u6 h6 u7 h7 u8 h8 u9 h9 u10 h10 u14 h14 u17 u18 x0 x1 x2 x3 x4 x5 x6 x7 x8 y14)⟩ :: (H14_3 c i u2 h2 u3 h3 u4 h4 u5 h5 u6 h6 u7 h7 u8 h8 u9 h9 u10 h10 u14 h14 u17 u18 x0 x1 x2 x3 x4 x5 x6 x7 x8 y14)) = dbF y14 (DSB (i 1).val x0 x1 x2 x3 x4 x5 x6 x7 x8) :=
  (View.canon_cons_unit_zero (by funext a; fin_cases a <;> rfl) inb _ _).trans B3

theorem P15_0 (a : Fin 128) (l : Fin 512) : (v1738 (F := Ideal) c i u2 h2 u3 h3 u4 h4 u5 h5 u6 h6 u7 h7 u8 h8 u9 h9 u10 h10 u17 u18 u20 x0 x1 x2 x3 x4 x5 x6 x7 x8) (ix2 a l) = pendF (FKB (i 1).val x0 x1 x2 x3 x4 x5 x6 x7 x8) (ix2 (rw4 0 a) l) :=
  mid_rows _ _ (FKB (i 1).val x0 x1 x2 x3 x4 x5 x6 x7 x8) 0 1 rfl FK0 FK1 _ _ a l

theorem P15_1 (a : Fin 128) (l : Fin 512) : (v1744 (F := Ideal) c i u2 h2 u3 h3 u4 h4 u5 h5 u6 h6 u7 h7 u8 h8 u9 h9 u10 h10 u17 u18 u20 x0 x1 x2 x3 x4 x5 x6 x7 x8) (ix2 a l) = pendF (FKB (i 1).val x0 x1 x2 x3 x4 x5 x6 x7 x8) (ix2 (rw4 1 a) l) :=
  mid_rows _ _ (FKB (i 1).val x0 x1 x2 x3 x4 x5 x6 x7 x8) 1 2 rfl FK1 FK2 _ _ a l

theorem P15_2 (a : Fin 128) (l : Fin 512) : (v1750 (F := Ideal) c i u2 h2 u3 h3 u4 h4 u5 h5 u6 h6 u7 h7 u8 h8 u9 h9 u10 h10 u17 u18 u20 x0 x1 x2 x3 x4 x5 x6 x7 x8) (ix2 a l) = pendF (FKB (i 1).val x0 x1 x2 x3 x4 x5 x6 x7 x8) (ix2 (rw4 2 a) l) :=
  mid_rows _ _ (FKB (i 1).val x0 x1 x2 x3 x4 x5 x6 x7 x8) 2 3 rfl FK2 FK3 _ _ a l

theorem P15_3 (a : Fin 128) (l : Fin 512) : (v1754 (F := Ideal) c i u2 h2 u3 h3 u4 h4 u5 h5 u6 h6 u7 h7 u8 h8 u9 h9 u10 h10 u17 u18 u20 x0 x1 x2 x3 x4 x5 x6 x7 x8) (ix2 a l) = pendF (FKB (i 1).val x0 x1 x2 x3 x4 x5 x6 x7 x8) (ix2 (rw4 3 a) l) :=
  end_rows _ (FKB (i 1).val x0 x1 x2 x3 x4 x5 x6 x7 x8) FK3 _ a l

theorem C15 (inb3 inb2 inb1 inb0) : View.canon (Val := Elt Ideal) (s := S512x512) (e := .f32) [⟨Rect.unit ![384, 0] S128x512.size inb3, (v1754 (F := Ideal) c i u2 h2 u3 h3 u4 h4 u5 h5 u6 h6 u7 h7 u8 h8 u9 h9 u10 h10 u17 u18 u20 x0 x1 x2 x3 x4 x5 x6 x7 x8)⟩, ⟨Rect.unit ![256, 0] S128x512.size inb2, (v1750 (F := Ideal) c i u2 h2 u3 h3 u4 h4 u5 h5 u6 h6 u7 h7 u8 h8 u9 h9 u10 h10 u17 u18 u20 x0 x1 x2 x3 x4 x5 x6 x7 x8)⟩, ⟨Rect.unit ![128, 0] S128x512.size inb1, (v1744 (F := Ideal) c i u2 h2 u3 h3 u4 h4 u5 h5 u6 h6 u7 h7 u8 h8 u9 h9 u10 h10 u17 u18 u20 x0 x1 x2 x3 x4 x5 x6 x7 x8)⟩, ⟨Rect.unit ![0, 0] S128x512.size inb0, (v1738 (F := Ideal) c i u2 h2 u3 h3 u4 h4 u5 h5 u6 h6 u7 h7 u8 h8 u9 h9 u10 h10 u17 u18 u20 x0 x1 x2 x3 x4 x5 x6 x7 x8)⟩] = pendF (FKB (i 1).val x0 x1 x2 x3 x4 x5 x6 x7 x8) :=
  canon_four (pendF (FKB (i 1).val x0 x1 x2 x3 x4 x5 x6 x7 x8)) _ _ _ _ inb3 inb2 inb1 inb0 [] P15_3 P15_2 P15_1 P15_0

theorem P16_0 (a : Fin 128) (l : Fin 512) : (k0_pay5 (F := Ideal) (v1755 (F := Ideal) c i u2 h2 u3 h3 u4 h4 u7 h7 u8 h8 u9 h9 u17 u19 x0 x1 x2 x5 x6 x7) (v1756 (F := Ideal) c i u2 h2 u3 h3 u4 h4 u7 h7 u8 h8 u9 h9 u17 u19 x0 x1 x2 x5 x6 x7)) (ix2 a l) = pendF (FVB (i 1).val x0 x1 x2 x5 x6 x7) (ix2 (rw4 0 a) l) :=
  mid_rows _ _ (FVB (i 1).val x0 x1 x2 x5 x6 x7) 0 1 rfl FV0 FV1 slices_S256x512_o128_0_S128x512 slices_S256x512_o0_0_S128x512 a l

theorem P16_1 (a : Fin 128) (l : Fin 512) : (k0_pay6 (F := Ideal) (v1756 (F := Ideal) c i u2 h2 u3 h3 u4 h4 u7 h7 u8 h8 u9 h9 u17 u19 x0 x1 x2 x5 x6 x7) (r_2 (F := Ideal) c i u2 h2 u3 h3 u4 h4 u7 h7 u8 h8 u9 h9 u17 u19 x0 x1 x2 x5 x6 x7)) (ix2 a l) = pendF (FVB (i 1).val x0 x1 x2 x5 x6 x7) (ix2 (rw4 1 a) l) :=
  mid_rows _ _ (FVB (i 1).val x0 x1 x2 x5 x6 x7) 1 2 rfl FV1 FV2 slices_S256x512_o128_0_S128x512 slices_S256x512_o0_0_S128x512 a l

theorem P16_2 (a : Fin 128) (l : Fin 512) : (k0_pay7 (F := Ideal) (r_2 (F := Ideal) c i u2 h2 u3 h3 u4 h4 u7 h7 u8 h8 u9 h9 u17 u19 x0 x1 x2 x5 x6 x7) (r_3 (F := Ideal) c i u2 h2 u3 h3 u4 h4 u7 h7 u8 h8 u9 h9 u17 u19 x0 x1 x2 x5 x6 x7)) (ix2 a l) = pendF (FVB (i 1).val x0 x1 x2 x5 x6 x7) (ix2 (rw4 2 a) l) :=
  mid_rows _ _ (FVB (i 1).val x0 x1 x2 x5 x6 x7) 2 3 rfl FV2 FV3 slices_S256x512_o128_0_S128x512 slices_S256x512_o0_0_S128x512 a l

theorem P16_3 (a : Fin 128) (l : Fin 512) : (k0_pay8 (F := Ideal) (r_3 (F := Ideal) c i u2 h2 u3 h3 u4 h4 u7 h7 u8 h8 u9 h9 u17 u19 x0 x1 x2 x5 x6 x7)) (ix2 a l) = pendF (FVB (i 1).val x0 x1 x2 x5 x6 x7) (ix2 (rw4 3 a) l) :=
  end_rows _ (FVB (i 1).val x0 x1 x2 x5 x6 x7) FV3 slices_S256x512_o128_0_S128x512 a l

theorem C16 (inb3 inb2 inb1 inb0) : View.canon (Val := Elt Ideal) (s := S512x512) (e := .f32) (⟨Rect.unit ![384, 0] ![128, 512] inb3, (k0_pay8 (F := Ideal) (r_3 (F := Ideal) c i u2 h2 u3 h3 u4 h4 u7 h7 u8 h8 u9 h9 u17 u19 x0 x1 x2 x5 x6 x7))⟩ :: ⟨Rect.unit ![256, 0] ![128, 512] inb2, (k0_pay7 (F := Ideal) (r_2 (F := Ideal) c i u2 h2 u3 h3 u4 h4 u7 h7 u8 h8 u9 h9 u17 u19 x0 x1 x2 x5 x6 x7) (r_3 (F := Ideal) c i u2 h2 u3 h3 u4 h4 u7 h7 u8 h8 u9 h9 u17 u19 x0 x1 x2 x5 x6 x7))⟩ :: ⟨Rect.unit ![128, 0] ![128, 512] inb1, (k0_pay6 (F := Ideal) (v1756 (F := Ideal) c i u2 h2 u3 h3 u4 h4 u7 h7 u8 h8 u9 h9 u17 u19 x0 x1 x2 x5 x6 x7) (r_2 (F := Ideal) c i u2 h2 u3 h3 u4 h4 u7 h7 u8 h8 u9 h9 u17 u19 x0 x1 x2 x5 x6 x7))⟩ :: ⟨Rect.unit ![0, 0] ![128, 512] inb0, (k0_pay5 (F := Ideal) (v1755 (F := Ideal) c i u2 h2 u3 h3 u4 h4 u7 h7 u8 h8 u9 h9 u17 u19 x0 x1 x2 x5 x6 x7) (v1756 (F := Ideal) c i u2 h2 u3 h3 u4 h4 u7 h7 u8 h8 u9 h9 u17 u19 x0 x1 x2 x5 x6 x7))⟩ :: []) = pendF (FVB (i 1).val x0 x1 x2 x5 x6 x7) :=
  canon_four (pendF (FVB (i 1).val x0 x1 x2 x5 x6 x7)) (k0_pay8 (F := Ideal) _) (k0_pay7 (F := Ideal) _ _) (k0_pay6 (F := Ideal) _ _) (k0_pay5 (F := Ideal) _ _) inb3 inb2 inb1 inb0 [] P16_3 P16_2 P16_1 P16_0

end Cert.KernelIdeal.WordsB

end
-- ==== Proof.BodyC.lean ====
/- The body at the last grid point: it stores the carried rows into the last blocks of dk and dv. -/
module

public import proofs.«01_k».proof.Proof.Kit

@[expose] public section

set_option maxRecDepth 16384

noncomputable section

namespace Cert.KernelIdeal.Run

open Cert.KernelIdeal.Gen
open Idealize.ShloMosaic TcCoe Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 3000000 in
/-- The body at the last grid point: it stores the carried rows into the last blocks of dk and dv.
    The lists are what its stores leave in each buffer, last first; the run finds them. -/
noncomputable def bodyC (c : Dev nD) (i : grid0.Coords) (arg2 : Memref sig .tc .vmem S512x512 .bf16) (harg2 : arg2.IsWhole) (arg3 : Memref sig .tc .vmem S128x512 .bf16) (harg3 : arg3.IsWhole) (arg4 : Memref sig .tc .vmem S512x512 .bf16) (harg4 : arg4.IsWhole) (arg5 : Memref sig .tc .vmem S128x512 .bf16) (harg5 : arg5.IsWhole) (arg6 : Memref sig .tc .vmem S512x512 .bf16) (harg6 : arg6.IsWhole) (arg7 : Memref sig .tc .vmem S8x128x256 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S8x128x256 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S8x128x256 .f32) (harg17 : arg17.IsWhole) (arg18 : Memref sig .tc .vmem S8x128x256 .f32) (harg18 : arg18.IsWhole) (arg19 : Memref sig .tc .vmem S8x128x256 .bf16) (harg19 : arg19.IsWhole) (arg20 : Memref sig .tc .vmem S8x128x256 .bf16) (harg20 : arg20.IsWhole)
    (hc0 : ¬cond0_0 i) (hc1 : ¬cond0_1 i) (hc2 : ¬cond0_2 i) (hc3 : cond0_3 i)
    (x0 : Vec F S512x512 .bf16) (x1 : Vec F S128x512 .bf16) (x2 : Vec F S512x512 .bf16) (x3 : Vec F S128x512 .bf16) (x4 : Vec F S512x512 .bf16) (x5 : Vec F S8x128x256 .f32) (x6 : Vec F S512x512 .f32) (x7 : Vec F S512x512 .bf16) (x8 : Vec F S512x512 .f32) (y11 : Vec F S512x512 .bf16) (y14 : Vec F S8x128x256 .f32) (y15 : Vec F S512x512 .f32) (y16 : Vec F S512x512 .f32) :
    Σ' (L12 : List (View.Piece (Elt F) S512x512 .bf16)), { L13 : List (View.Piece (Elt F) S512x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare y11 ∗ (∃ d, owns (c : Thread nD τ) arg12 fullShare d) ∗ (∃ d, owns (c : Thread nD τ) arg13 fullShare d) ∗ owns (c : Thread nD τ) arg14 fullShare y14 ∗ owns (c : Thread nD τ) arg15 fullShare y15 ∗ owns (c : Thread nD τ) arg16 fullShare y16 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare y11 ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ owns (c : Thread nD τ) arg14 fullShare y14 ∗ owns (c : Thread nD τ) arg15 fullShare y15 ∗ owns (c : Thread nD τ) arg16 fullShare y16 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0_attn_bwd_g0 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, fun E K => ?run⟩
  case run =>
    simp only [cc0_attn_bwd_g0_eq_skeleton]; unfold cc0_attn_bwd_g0_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg14.eq_unread hf14; obtain rfl := harg15.eq_unread hf15; obtain rfl := harg16.eq_unread hf16
    sl_exec (disch := first | sl_exact hc0 | sl_exact hc1 | sl_exact hc2 | sl_exact hc3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; iexact H12
    isplitl [H13]
    · iexists _; iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    iexists _, _; isplitr; swap; · iexact H20
    ipureintro; rfl

end Cert.KernelIdeal.Run

end
-- ==== Proof.Steps.lean ====
/- One grid point of the idealized kernel, in each of the three cases, with every buffer that it leaves
   written as a function of what it was handed. -/
module

public import proofs.«01_k».proof.Proof.EndA
public import proofs.«01_k».proof.Proof.EndB
public import proofs.«01_k».proof.Proof.BodyC

@[expose] public section

set_option maxRecDepth 16384

noncomputable section

namespace Cert.KernelIdeal.Run

open Cert.KernelIdeal.Gen Cert.KernelIdeal.Val
open Idealize.ShloMosaic TcCoe Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- What a list of stores that covers a buffer leaves in it. -/
theorem owns_of_writes {s : Shape} {e : EltTy} {sp : Space} (c : Dev nD) (m : Memref sig .tc sp s e) (L : List (View.Piece (Elt Ideal) s e)) (G : s.Idx → Elt Ideal e)
    (hcov : ∀ y, ∃ p ∈ L, y ∈ p.1.set) (hL : View.canon L = G) :
    (iprop(∃ f, m.view.loc (c : Thread nD τ) ↦[m.view.set]{fullShare} m.view.writes (Elt Ideal) f L) : sProp 𝕄) ⊢ owns (c : Thread nD τ) m fullShare G := by
  unfold owns
  iintro ⟨%f, H⟩
  iexists _; isplitr; swap; · iexact H
  ipureintro
  exact (View.read_writes_eq_canon _ _ _ hcov).trans hL

theorem owns_of_some {s : Shape} {e : EltTy} {sp : Space} (c : Dev nD) (m : Memref sig .tc sp s e) (L : List (View.Piece (Elt Ideal) s e)) :
    (iprop(∃ f, m.view.loc (c : Thread nD τ) ↦[m.view.set]{fullShare} m.view.writes (Elt Ideal) f L) : sProp 𝕄) ⊢ iprop(∃ d, owns (c : Thread nD τ) m fullShare d) := by
  unfold owns
  iintro ⟨%f, H⟩
  iexists _, _; isplitr; swap; · iexact H
  ipureintro; rfl

set_option maxHeartbeats 2000000 in
/-- The first grid point. -/
theorem stepA (c : Dev nD) (i : grid0.Coords) (arg2 : Memref sig .tc .vmem S512x512 .bf16) (harg2 : arg2.IsWhole) (arg3 : Memref sig .tc .vmem S128x512 .bf16) (harg3 : arg3.IsWhole) (arg4 : Memref sig .tc .vmem S512x512 .bf16) (harg4 : arg4.IsWhole) (arg5 : Memref sig .tc .vmem S128x512 .bf16) (harg5 : arg5.IsWhole) (arg6 : Memref sig .tc .vmem S512x512 .bf16) (harg6 : arg6.IsWhole) (arg7 : Memref sig .tc .vmem S8x128x256 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S8x128x256 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S8x128x256 .f32) (harg17 : arg17.IsWhole) (arg18 : Memref sig .tc .vmem S8x128x256 .f32) (harg18 : arg18.IsWhole) (arg19 : Memref sig .tc .vmem S8x128x256 .bf16) (harg19 : arg19.IsWhole) (arg20 : Memref sig .tc .vmem S8x128x256 .bf16) (harg20 : arg20.IsWhole)
    (hc0 : cond0_0 i) (hc1 : cond0_1 i) (hc2 : cond0_2 i) (hc3 : ¬cond0_3 i)
    (x0 : Vec Ideal S512x512 .bf16) (x1 : Vec Ideal S128x512 .bf16) (x2 : Vec Ideal S512x512 .bf16) (x3 : Vec Ideal S128x512 .bf16) (x4 : Vec Ideal S512x512 .bf16) (x5 : Vec Ideal S8x128x256 .f32) (x6 : Vec Ideal S512x512 .f32) (x7 : Vec Ideal S512x512 .bf16) (x8 : Vec Ideal S512x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (DQA (i 1).val x0 x1 x2 x3 x4 x5 x6 x7 x8) ∗ owns (c : Thread nD τ) arg12 fullShare (outF zero5 (FKB (i 1).val x0 x1 x2 x3 x4 x5 x6 x7 x8)) ∗ owns (c : Thread nD τ) arg13 fullShare (outF zero5 (FVB (i 1).val x0 x1 x2 x5 x6 x7)) ∗ owns (c : Thread nD τ) arg14 fullShare (dbF zero8 (DSB (i 1).val x0 x1 x2 x3 x4 x5 x6 x7 x8)) ∗ owns (c : Thread nD τ) arg15 fullShare (pendF (FKB (i 1).val x0 x1 x2 x3 x4 x5 x6 x7 x8)) ∗ owns (c : Thread nD τ) arg16 fullShare (pendF (FVB (i 1).val x0 x1 x2 x5 x6 x7)) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
      ⊢ wp frame (wpE (defs₀ (F := Ideal)) Variants.none c none) E (cc0_attn_bwd_g0 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  iintro ⟨H2, H3, H4, H5, H6, H7, H8, H9, H10, H11, H12, H13, H14, H15, H16, H17, H18, H19, H20, Hk⟩
  iapply ((bodyA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 ).2.2.2.2.2.2.2.2.2.2 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iintro ⟨H2, H3, H4, H5, H6, H7, H8, H9, H10, H11, H12, H13, H14, H15, H16, H17, H18, H19, H20⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iapply (owns_of_writes c arg11 _ _ (cover_whole2 _ _ _) (WordsA.C11 _)); iexact H11
  isplitl [H12]; · iapply (owns_of_writes c arg12 _ _ (cover_two _ _ _ _) (WordsA.C12 _ _)); iexact H12
  isplitl [H13]; · iapply (owns_of_writes c arg13 _ _ (cover_two _ _ _ _) (WordsA.C13 _ _)); iexact H13
  isplitl [H14]; · iapply (owns_of_writes c arg14 _ _ (cover_whole3 _ _ _) (WordsA.C14 _)); iexact H14
  isplitl [H15]; · iapply (owns_of_writes c arg15 _ _ (cover_four _ _ _ _ _ _ _ _ _) (WordsA.C15 _)); iexact H15
  isplitl [H16]; · iapply (owns_of_writes c arg16 _ _ (cover_four _ _ _ _ _ _ _ _ _) (WordsA.C16 _ _ _ _)); iexact H16
  isplitl [H17]; · iapply (owns_of_some c arg17 _); iexact H17
  isplitl [H18]; · iapply (owns_of_some c arg18 _); iexact H18
  isplitl [H19]; · iapply (owns_of_some c arg19 _); iexact H19
  iapply (owns_of_some c arg20 _); iexact H20

set_option maxHeartbeats 2000000 in
/-- A middle grid point. -/
theorem stepB (c : Dev nD) (i : grid0.Coords) (arg2 : Memref sig .tc .vmem S512x512 .bf16) (harg2 : arg2.IsWhole) (arg3 : Memref sig .tc .vmem S128x512 .bf16) (harg3 : arg3.IsWhole) (arg4 : Memref sig .tc .vmem S512x512 .bf16) (harg4 : arg4.IsWhole) (arg5 : Memref sig .tc .vmem S128x512 .bf16) (harg5 : arg5.IsWhole) (arg6 : Memref sig .tc .vmem S512x512 .bf16) (harg6 : arg6.IsWhole) (arg7 : Memref sig .tc .vmem S8x128x256 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S8x128x256 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S8x128x256 .f32) (harg17 : arg17.IsWhole) (arg18 : Memref sig .tc .vmem S8x128x256 .f32) (harg18 : arg18.IsWhole) (arg19 : Memref sig .tc .vmem S8x128x256 .bf16) (harg19 : arg19.IsWhole) (arg20 : Memref sig .tc .vmem S8x128x256 .bf16) (harg20 : arg20.IsWhole)
    (hc0 : ¬cond0_0 i) (hc1 : ¬cond0_1 i) (hc2 : cond0_2 i) (hc3 : ¬cond0_3 i)
    (x0 : Vec Ideal S512x512 .bf16) (x1 : Vec Ideal S128x512 .bf16) (x2 : Vec Ideal S512x512 .bf16) (x3 : Vec Ideal S128x512 .bf16) (x4 : Vec Ideal S512x512 .bf16) (x5 : Vec Ideal S8x128x256 .f32) (x6 : Vec Ideal S512x512 .f32) (x7 : Vec Ideal S512x512 .bf16) (x8 : Vec Ideal S512x512 .f32) (y14 : Vec Ideal S8x128x256 .f32) (y15 : Vec Ideal S512x512 .f32) (y16 : Vec Ideal S512x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare y14 ∗ owns (c : Thread nD τ) arg15 fullShare y15 ∗ owns (c : Thread nD τ) arg16 fullShare y16 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (DQA (i 1).val x0 x1 x2 x3 x4 x5 x6 x7 x8) ∗ owns (c : Thread nD τ) arg12 fullShare (outF y15 (FKB (i 1).val x0 x1 x2 x3 x4 x5 x6 x7 x8)) ∗ owns (c : Thread nD τ) arg13 fullShare (outF y16 (FVB (i 1).val x0 x1 x2 x5 x6 x7)) ∗ owns (c : Thread nD τ) arg14 fullShare (dbF y14 (DSB (i 1).val x0 x1 x2 x3 x4 x5 x6 x7 x8)) ∗ owns (c : Thread nD τ) arg15 fullShare (pendF (FKB (i 1).val x0 x1 x2 x3 x4 x5 x6 x7 x8)) ∗ owns (c : Thread nD τ) arg16 fullShare (pendF (FVB (i 1).val x0 x1 x2 x5 x6 x7)) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
      ⊢ wp frame (wpE (defs₀ (F := Ideal)) Variants.none c none) E (cc0_attn_bwd_g0 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  iintro ⟨H2, H3, H4, H5, H6, H7, H8, H9, H10, H11, H12, H13, H14, H15, H16, H17, H18, H19, H20, Hk⟩
  iapply ((bodyB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 y14 y15 y16).2.2.2.2.2.2.2.2.2.2 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iintro ⟨H2, H3, H4, H5, H6, H7, H8, H9, H10, H11, H12, H13, H14, H15, H16, H17, H18, H19, H20⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iapply (owns_of_writes c arg11 _ _ (cover_whole2 _ _ _) (WordsB.C11 _)); iexact H11
  isplitl [H12]; · iapply (owns_of_writes c arg12 _ _ (cover_two _ _ _ _) (WordsB.C12 _ _)); iexact H12
  isplitl [H13]; · iapply (owns_of_writes c arg13 _ _ (cover_two _ _ _ _) (WordsB.C13 _ _)); iexact H13
  isplitl [H14]; · iapply (owns_of_writes c arg14 _ _ (cover_whole3 _ _ _) (WordsB.C14 _)); iexact H14
  isplitl [H15]; · iapply (owns_of_writes c arg15 _ _ (cover_four _ _ _ _ _ _ _ _ _) (WordsB.C15 _ _ _ _)); iexact H15
  isplitl [H16]; · iapply (owns_of_writes c arg16 _ _ (cover_four _ _ _ _ _ _ _ _ _) (WordsB.C16 _ _ _ _)); iexact H16
  isplitl [H17]; · iapply (owns_of_some c arg17 _); iexact H17
  isplitl [H18]; · iapply (owns_of_some c arg18 _); iexact H18
  isplitl [H19]; · iapply (owns_of_some c arg19 _); iexact H19
  iapply (owns_of_some c arg20 _); iexact H20

set_option maxHeartbeats 2000000 in
/-- The last grid point: what is carried goes out. -/
theorem stepC (c : Dev nD) (i : grid0.Coords) (arg2 : Memref sig .tc .vmem S512x512 .bf16) (harg2 : arg2.IsWhole) (arg3 : Memref sig .tc .vmem S128x512 .bf16) (harg3 : arg3.IsWhole) (arg4 : Memref sig .tc .vmem S512x512 .bf16) (harg4 : arg4.IsWhole) (arg5 : Memref sig .tc .vmem S128x512 .bf16) (harg5 : arg5.IsWhole) (arg6 : Memref sig .tc .vmem S512x512 .bf16) (harg6 : arg6.IsWhole) (arg7 : Memref sig .tc .vmem S8x128x256 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .f32) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S8x128x256 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S8x128x256 .f32) (harg17 : arg17.IsWhole) (arg18 : Memref sig .tc .vmem S8x128x256 .f32) (harg18 : arg18.IsWhole) (arg19 : Memref sig .tc .vmem S8x128x256 .bf16) (harg19 : arg19.IsWhole) (arg20 : Memref sig .tc .vmem S8x128x256 .bf16) (harg20 : arg20.IsWhole)
    (hc0 : ¬cond0_0 i) (hc1 : ¬cond0_1 i) (hc2 : ¬cond0_2 i) (hc3 : cond0_3 i)
    (x0 : Vec Ideal S512x512 .bf16) (x1 : Vec Ideal S128x512 .bf16) (x2 : Vec Ideal S512x512 .bf16) (x3 : Vec Ideal S128x512 .bf16) (x4 : Vec Ideal S512x512 .bf16) (x5 : Vec Ideal S8x128x256 .f32) (x6 : Vec Ideal S512x512 .f32) (x7 : Vec Ideal S512x512 .bf16) (x8 : Vec Ideal S512x512 .f32) (y11 : Vec Ideal S512x512 .bf16) (y14 : Vec Ideal S8x128x256 .f32) (y15 : Vec Ideal S512x512 .f32) (y16 : Vec Ideal S512x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare y11 ∗ (∃ d, owns (c : Thread nD τ) arg12 fullShare d) ∗ (∃ d, owns (c : Thread nD τ) arg13 fullShare d) ∗ owns (c : Thread nD τ) arg14 fullShare y14 ∗ owns (c : Thread nD τ) arg15 fullShare y15 ∗ owns (c : Thread nD τ) arg16 fullShare y16 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare y11 ∗ owns (c : Thread nD τ) arg12 fullShare y15 ∗ owns (c : Thread nD τ) arg13 fullShare y16 ∗ owns (c : Thread nD τ) arg14 fullShare y14 ∗ owns (c : Thread nD τ) arg15 fullShare y15 ∗ owns (c : Thread nD τ) arg16 fullShare y16 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
      ⊢ wp frame (wpE (defs₀ (F := Ideal)) Variants.none c none) E (cc0_attn_bwd_g0 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  iintro ⟨H2, H3, H4, H5, H6, H7, H8, H9, H10, H11, H12, H13, H14, H15, H16, H17, H18, H19, H20, Hk⟩
  iapply ((bodyC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 y11 y14 y15 y16).2.2 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iintro ⟨H2, H3, H4, H5, H6, H7, H8, H9, H10, H11, H12, H13, H14, H15, H16, H17, H18, H19, H20⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iapply (owns_of_writes c arg12 _ _ (cover_whole2 _ _ _) ((View.canon_unit_zero (by funext a; fin_cases a <;> rfl) _ _).trans (load512 arg15 harg15 y15 _))); iexact H12
  isplitl [H13]; · iapply (owns_of_writes c arg13 _ _ (cover_whole2 _ _ _) ((View.canon_unit_zero (by funext a; fin_cases a <;> rfl) _ _).trans (load512 arg16 harg16 y16 _))); iexact H13
  isplitl [H14]; · iexact H14
  isplitl [H15]; · iexact H15
  isplitl [H16]; · iexact H16
  isplitl [H17]; · iexact H17
  isplitl [H18]; · iexact H18
  isplitl [H19]; · iexact H19
  iexact H20

end Cert.KernelIdeal.Run

end
-- ==== Proof.Run.lean ====
/- The run of the idealized kernel: what every buffer holds after each grid point, in closed form, the body
   obligation over it, and the launch. -/
module

public import proofs.«01_k».proof.Proof.Steps
public import Idealize.ShloMosaic.Lib.Claim

@[expose] public section

set_option maxRecDepth 16384

noncomputable section

namespace Cert.KernelIdeal.Run

open Cert.KernelIdeal.Gen Cert.KernelIdeal.Val
open Idealize.ShloMosaic TcCoe Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## What each point leaves -/

/-- The point that computes at position `n`: the last position computes nothing. -/
def pt (n : ℕ) : Fin cfg0.N := ⟨min n 31, lt_of_lt_of_eq (by omega : min n 31 < 33) (show (33 : ℕ) = cfg0.N from N_0.symm)⟩

theorem pt_val (n : ℕ) (h : n ≤ 31) : (pt n).val = n := Nat.min_eq_left h

theorem pt_eq (t : Fin cfg0.N) (h : t.val ≤ 31) : pt t.val = t := Fin.ext (pt_val _ h)

abbrev ib0 (c : Dev nD) (t : Fin cfg0.N) : S512x512.Idx → EReal := iblk m c 0 t
abbrev ib1 (c : Dev nD) (t : Fin cfg0.N) : S128x512.Idx → EReal := iblk m c 1 t
abbrev ib2 (c : Dev nD) (t : Fin cfg0.N) : S512x512.Idx → EReal := iblk m c 2 t
abbrev ib3 (c : Dev nD) (t : Fin cfg0.N) : S128x512.Idx → EReal := iblk m c 3 t
abbrev ib4 (c : Dev nD) (t : Fin cfg0.N) : S512x512.Idx → EReal := iblk m c 4 t
abbrev ib5 (c : Dev nD) (t : Fin cfg0.N) : S8x128x256.Idx → EReal := iblk m c 5 t
abbrev ib6 (c : Dev nD) (t : Fin cfg0.N) : S512x512.Idx → EReal := iblk m c 6 t
abbrev ib7 (c : Dev nD) (t : Fin cfg0.N) : S512x512.Idx → EReal := iblk m c 7 t
abbrev ib8 (c : Dev nD) (t : Fin cfg0.N) : S512x512.Idx → EReal := iblk m c 8 t

/-- The sums over the queries of a point's blocks, for the keys and for the values; its cotangents; its query gradient. -/
def FKt (c : Dev nD) (t : Fin cfg0.N) : Full := FKB t.val (ib0 m c t) (ib1 m c t) (ib2 m c t) (ib3 m c t) (ib4 m c t) (ib5 m c t) (ib6 m c t) (ib7 m c t) (ib8 m c t)
def FVt (c : Dev nD) (t : Fin cfg0.N) : Full := FVB t.val (ib0 m c t) (ib1 m c t) (ib2 m c t) (ib5 m c t) (ib6 m c t) (ib7 m c t)
def DSt (c : Dev nD) (t : Fin cfg0.N) : Fin 4 → S8x128x256.Idx → EReal := DSB t.val (ib0 m c t) (ib1 m c t) (ib2 m c t) (ib3 m c t) (ib4 m c t) (ib5 m c t) (ib6 m c t) (ib7 m c t) (ib8 m c t)
def DQt (c : Dev nD) (t : Fin cfg0.N) : Arr := DQA t.val (ib0 m c t) (ib1 m c t) (ib2 m c t) (ib3 m c t) (ib4 m c t) (ib5 m c t) (ib6 m c t) (ib7 m c t) (ib8 m c t)

/-- What is carried after position `n`. -/
def pkA (c : Dev nD) (n : ℕ) : Arr := pendF (FKt m c (pt n))
def pvA (c : Dev nD) (n : ℕ) : Arr := pendF (FVt m c (pt n))

/-- The outputs' buffers after position `n`. -/
def dqO (c : Dev nD) (n : ℕ) : Arr := DQt m c (pt n)
def dkO (c : Dev nD) (n : ℕ) : Arr := if n = 0 then outF zero5 (FKt m c (pt 0)) else if n ≤ 31 then outF (pkA m c (n - 1)) (FKt m c (pt n)) else pkA m c 31
def dvO (c : Dev nD) (n : ℕ) : Arr := if n = 0 then outF zero5 (FVt m c (pt 0)) else if n ≤ 31 then outF (pvA m c (n - 1)) (FVt m c (pt n)) else pvA m c 31
def dbO (c : Dev nD) : ℕ → S8x128x256.Idx → EReal
  | 0 => dbF zero8 (DSt m c (pt 0))
  | n + 1 => if n + 1 ≤ 31 then dbF (dbO c n) (DSt m c (pt (n + 1))) else dbO c n

/-- The invariant before position `n`: before the first point every scratch buffer at anything; afterwards the two
    carries at what the point before left. -/
def PhiS (c : Dev nD) : (n : ℕ) → n ≤ cfg0.N → sProp 𝕄
  | 0, _ => Pipeline.ΦA spec0 c
  | n + 1, hn => iprop(iprop(owns (c : Thread nD τ) scM0_0 fullShare (pkA m c n) ∗ owns (c : Thread nD τ) scM0_1 fullShare (pvA m c n) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (pkA m c n) ∗ owns (c : Thread nD τ) scM0_1 fullShare (pvA m c n) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare (pkA m c (n - 1)) ∗ owns (c : Thread nD τ) scM0_1 fullShare (pvA m c (n - 1)) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  cases n with
  | zero => exact absurd rfl hz
  | succ n => rfl

/-! ## The pipeline's data -/

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => dqO m c t.val
    | ⟨10, _⟩ => dkO m c t.val
    | ⟨11, _⟩ => dvO m c t.val
    | ⟨12, _⟩ => dbO m c t.val
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = dqO m c t.val := by dsimp only [dats]
theorem after10 (c : Dev nD) (t : Fin cfg0.N) : (dats m 0 c).after 10 t = dkO m c t.val := by dsimp only [dats]
theorem after11 (c : Dev nD) (t : Fin cfg0.N) : (dats m 0 c).after 11 t = dvO m c t.val := by dsimp only [dats]
theorem after12 (c : Dev nD) (t : Fin cfg0.N) : (dats m 0 c).after 12 t = dbO m c t.val := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d

/-! ## The outputs that a point keeps -/

theorem fresh12 (t : Fin cfg0.N) (h : t.val ≠ 0) : cfg0.fresh 12 t.val = false := by
  have e := Pipeline.Cfg.fresh_tab cfg0 12 (fun n => decide (n = 0 ∨ n = 33)) rfl (by decide +kernel) t.val (Nat.le_of_lt t.isLt)
  rw [e]
  have hN : t.val < 33 := lt_of_lt_of_eq t.isLt (show cfg0.N = 33 from N_0)
  exact decide_eq_false (by omega)

theorem fresh9 (t : Fin cfg0.N) (h : t.val = 32) : cfg0.fresh 9 t.val = false := by
  have e := Pipeline.Cfg.fresh_tab cfg0 9 (fun n => decide (n ≠ 32)) rfl (by decide +kernel) t.val (Nat.le_of_lt t.isLt)
  rw [e]
  exact decide_eq_false (by omega)

theorem dqO_last (c : Dev nD) : dqO m c 32 = dqO m c 31 := rfl

theorem dbO_last (c : Dev nD) : dbO m c 32 = dbO m c 31 := by
  show (if 31 + 1 ≤ 31 then _ else dbO m c 31) = _
  rw [if_neg (by omega)]

theorem hcarry9 (c : Dev nD) : ∀ (t : Fin cfg0.N) (_ : t.val ≠ 0), cfg0.idle 9 (grid0.coords t) = true → cfg0.fresh 9 t.val = false →
    (dats m 0 c).after 9 t = (dats m 0 c).after 9 ⟨t.val - 1, by omega⟩ := by
  intro t _ hi _
  rw [idle9] at hi
  have h : t.val = 32 := of_decide_eq_true hi
  rw [after9, after9]
  show dqO m c t.val = dqO m c (t.val - 1)
  rw [h, dqO_last]

theorem hcarry12 (c : Dev nD) : ∀ (t : Fin cfg0.N) (_ : t.val ≠ 0), cfg0.idle 12 (grid0.coords t) = true → cfg0.fresh 12 t.val = false →
    (dats m 0 c).after 12 t = (dats m 0 c).after 12 ⟨t.val - 1, by omega⟩ := by
  intro t _ hi _
  rw [idle12] at hi
  have h : t.val = 32 := of_decide_eq_true hi
  rw [after12, after12]
  show dbO m c t.val = dbO m c (t.val - 1)
  rw [h, dbO_last]

theorem before12 (c : Dev nD) (t : Fin cfg0.N) (h : t.val ≠ 0) (d) : (dats m 0 c).before 12 t d = dbO m c (t.val - 1) := by
  rw [Dat.before_out_traj _ 12 rfl (fun _ _ => rfl) (hcarry12 m c) t.val t rfl d, if_neg (by rw [fresh12 t h]; exact Bool.false_ne_true)]
  dsimp only [dats]

theorem before9 (c : Dev nD) (t : Fin cfg0.N) (h : t.val = 32) (d) : (dats m 0 c).before 9 t d = dqO m c (t.val - 1) := by
  rw [Dat.before_out_traj _ 9 rfl (fun _ _ => rfl) (hcarry9 m c) t.val t rfl d, if_neg (by rw [fresh9 t h]; exact Bool.false_ne_true)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

theorem leaves0 (c : Dev nD) (t : Fin cfg0.N) : (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [show cfg0.idle 0 (grid0.coords t) = false from rfl], after0]
theorem leaves1 (c : Dev nD) (t : Fin cfg0.N) : (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [show cfg0.idle 1 (grid0.coords t) = false from rfl], after1]
theorem leaves2 (c : Dev nD) (t : Fin cfg0.N) : (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [show cfg0.idle 2 (grid0.coords t) = false from rfl], after2]
theorem leaves3 (c : Dev nD) (t : Fin cfg0.N) : (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [show cfg0.idle 3 (grid0.coords t) = false from rfl], after3]
theorem leaves4 (c : Dev nD) (t : Fin cfg0.N) : (dats m 0 c).leavesExact 4 t = owns (c : Thread nD τ) (ms0_4 t) fullShare (iblk m c 4 t) := by
  rw [show (dats m 0 c).leavesExact 4 t = owns (c : Thread nD τ) (ms0_4 t) fullShare ((dats m 0 c).after 4 t) from by
    unfold Dat.leavesExact; rw [show cfg0.idle 4 (grid0.coords t) = false from rfl], after4]
theorem leaves5 (c : Dev nD) (t : Fin cfg0.N) : (dats m 0 c).leavesExact 5 t = owns (c : Thread nD τ) (ms0_5 t) fullShare (iblk m c 5 t) := by
  rw [show (dats m 0 c).leavesExact 5 t = owns (c : Thread nD τ) (ms0_5 t) fullShare ((dats m 0 c).after 5 t) from by
    unfold Dat.leavesExact; rw [show cfg0.idle 5 (grid0.coords t) = false from rfl], after5]
theorem leaves6 (c : Dev nD) (t : Fin cfg0.N) : (dats m 0 c).leavesExact 6 t = owns (c : Thread nD τ) (ms0_6 t) fullShare (iblk m c 6 t) := by
  rw [show (dats m 0 c).leavesExact 6 t = owns (c : Thread nD τ) (ms0_6 t) fullShare ((dats m 0 c).after 6 t) from by
    unfold Dat.leavesExact; rw [show cfg0.idle 6 (grid0.coords t) = false from rfl], after6]
theorem leaves7 (c : Dev nD) (t : Fin cfg0.N) : (dats m 0 c).leavesExact 7 t = owns (c : Thread nD τ) (ms0_7 t) fullShare (iblk m c 7 t) := by
  rw [show (dats m 0 c).leavesExact 7 t = owns (c : Thread nD τ) (ms0_7 t) fullShare ((dats m 0 c).after 7 t) from by
    unfold Dat.leavesExact; rw [show cfg0.idle 7 (grid0.coords t) = false from rfl], after7]
theorem leaves8 (c : Dev nD) (t : Fin cfg0.N) : (dats m 0 c).leavesExact 8 t = owns (c : Thread nD τ) (ms0_8 t) fullShare (iblk m c 8 t) := by
  rw [show (dats m 0 c).leavesExact 8 t = owns (c : Thread nD τ) (ms0_8 t) fullShare ((dats m 0 c).after 8 t) from by
    unfold Dat.leavesExact; rw [show cfg0.idle 8 (grid0.coords t) = false from rfl], after8]
theorem leaves10 (c : Dev nD) (t : Fin cfg0.N) : (dats m 0 c).leavesExact 10 t = owns (c : Thread nD τ) (ms0_10 t) fullShare (dkO m c t.val) := by
  rw [show (dats m 0 c).leavesExact 10 t = owns (c : Thread nD τ) (ms0_10 t) fullShare ((dats m 0 c).after 10 t) from by
    unfold Dat.leavesExact; rw [idle10 t], after10]
theorem leaves11 (c : Dev nD) (t : Fin cfg0.N) : (dats m 0 c).leavesExact 11 t = owns (c : Thread nD τ) (ms0_11 t) fullShare (dvO m c t.val) := by
  rw [show (dats m 0 c).leavesExact 11 t = owns (c : Thread nD τ) (ms0_11 t) fullShare ((dats m 0 c).after 11 t) from by
    unfold Dat.leavesExact; rw [idle11 t], after11]
theorem leaves9 (c : Dev nD) (t : Fin cfg0.N) : (dats m 0 c).leavesExact 9 t = owns (c : Thread nD τ) (ms0_9 t) fullShare (dqO m c t.val) := by
  by_cases h : t.val = 32
  · rw [show (dats m 0 c).leavesExact 9 t = owns (c : Thread nD τ) (ms0_9 t) fullShare ((dats m 0 c).after 9 t) from by
      unfold Dat.leavesExact; rw [idle9 t, decide_eq_true h, flush9 t, decide_eq_true (by omega)], after9]
  · rw [show (dats m 0 c).leavesExact 9 t = owns (c : Thread nD τ) (ms0_9 t) fullShare ((dats m 0 c).after 9 t) from by
      unfold Dat.leavesExact; rw [idle9 t, decide_eq_false h], after9]
theorem leaves12 (c : Dev nD) (t : Fin cfg0.N) : (dats m 0 c).leavesExact 12 t = owns (c : Thread nD τ) (ms0_12 t) fullShare (dbO m c t.val) := by
  by_cases h : t.val = 32
  · rw [show (dats m 0 c).leavesExact 12 t = owns (c : Thread nD τ) (ms0_12 t) fullShare ((dats m 0 c).after 12 t) from by
      unfold Dat.leavesExact; rw [idle12 t, decide_eq_true h, flush12 t, decide_eq_true (by omega)], after12]
  · rw [show (dats m 0 c).leavesExact 12 t = owns (c : Thread nD τ) (ms0_12 t) fullShare ((dats m 0 c).after 12 t) from by
      unfold Dat.leavesExact; rw [idle12 t, decide_eq_false h], after12]

theorem coord1 (t : Fin cfg0.N) : ((grid0.coords t) 1).val = t.val :=
  (by decide +kernel : ∀ t : Fin grid0.N, ((grid0.coords t) 1).val = t.val) t

set_option maxHeartbeats 4000000 in
/-- The body at any point: the closed forms say which case the point is in, the case's step applies, and the invariant
    carries the two sums on. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1, before2, before3, before4, before5, before6, before7, before8, leaves0, leaves1, leaves2, leaves3, leaves4, leaves5, leaves6, leaves7, leaves8, leaves9, leaves10, leaves11, leaves12]
  rw [show (dats m 0 c).owesAt () t.succ = (dats m 0 c).owesAt () t.castSucc from rfl]
  rw [show (dats m 0 c).Φ t.succ = PhiS m c (t.val + 1) t.isLt from rfl, PhiS_succ]
  have hN : t.val < 33 := lt_of_lt_of_eq t.isLt (show cfg0.N = 33 from N_0)
  rw [PhiS_castSucc m c t]
  by_cases h0 : t.val = 0
  · have h31 : t.val ≤ 31 := by omega
    have hp : pt t.val = t := pt_eq t h31
    rw [PhiS_zero m c _ _ h0, PhiA0_eq]
    have hs := fun K => stepA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr (by omega)) ((hcond0_1 t).mpr (by omega)) ((hcond0_2 t).mpr (by omega)) (fun h => by have := (hcond0_3 t).mp h; omega) (iblk m c 0 t) (iblk m c 1 t) (iblk m c 2 t) (iblk m c 3 t) (iblk m c 4 t) (iblk m c 5 t) (iblk m c 6 t) (iblk m c 7 t) (iblk m c 8 t) Set.univ K
    rw [coord1] at hs
    rw [show dqO m c t.val = DQA t.val (ib0 m c t) (ib1 m c t) (ib2 m c t) (ib3 m c t) (ib4 m c t) (ib5 m c t) (ib6 m c t) (ib7 m c t) (ib8 m c t) from by unfold dqO DQt; rw [hp],
      show dkO m c t.val = outF zero5 (FKB t.val (ib0 m c t) (ib1 m c t) (ib2 m c t) (ib3 m c t) (ib4 m c t) (ib5 m c t) (ib6 m c t) (ib7 m c t) (ib8 m c t)) from by unfold dkO; rw [if_pos h0, show (0 : ℕ) = t.val from h0.symm, hp]; rfl,
      show dvO m c t.val = outF zero5 (FVB t.val (ib0 m c t) (ib1 m c t) (ib2 m c t) (ib5 m c t) (ib6 m c t) (ib7 m c t)) from by unfold dvO; rw [if_pos h0, show (0 : ℕ) = t.val from h0.symm, hp]; rfl,
      show dbO m c t.val = dbF zero8 (DSB t.val (ib0 m c t) (ib1 m c t) (ib2 m c t) (ib3 m c t) (ib4 m c t) (ib5 m c t) (ib6 m c t) (ib7 m c t) (ib8 m c t)) from by
        have e : dbO m c t.val = dbF zero8 (DSt m c (pt t.val)) := by rw [h0]; rfl
        rw [e, hp]; rfl,
      show pkA m c t.val = pendF (FKB t.val (ib0 m c t) (ib1 m c t) (ib2 m c t) (ib3 m c t) (ib4 m c t) (ib5 m c t) (ib6 m c t) (ib7 m c t) (ib8 m c t)) from by unfold pkA; rw [hp]; rfl,
      show pvA m c t.val = pendF (FVB t.val (ib0 m c t) (ib1 m c t) (ib2 m c t) (ib5 m c t) (ib6 m c t) (ib7 m c t)) from by unfold pvA; rw [hp]; rfl]
    iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (hs _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, H7, H8, H9, H10, H11, H12, HS0, HS1, HS2, HS3, HS4, HS5⟩
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  by_cases h1 : t.val ≤ 31
  · have h31 : t.val ≤ 31 := by omega
    have hp : pt t.val = t := pt_eq t h31
    rw [PhiS_pos m c _ _ h0]
    simp only [before12 m c t h0]
    have hs := fun K => stepB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => by have := (hcond0_0 t).mp h; omega) (fun h => by have := (hcond0_1 t).mp h; omega) ((hcond0_2 t).mpr (by omega)) (fun h => by have := (hcond0_3 t).mp h; omega) (iblk m c 0 t) (iblk m c 1 t) (iblk m c 2 t) (iblk m c 3 t) (iblk m c 4 t) (iblk m c 5 t) (iblk m c 6 t) (iblk m c 7 t) (iblk m c 8 t) (dbO m c (t.val - 1)) (pkA m c (t.val - 1)) (pvA m c (t.val - 1)) Set.univ K
    rw [coord1] at hs
    rw [show dqO m c t.val = DQA t.val (ib0 m c t) (ib1 m c t) (ib2 m c t) (ib3 m c t) (ib4 m c t) (ib5 m c t) (ib6 m c t) (ib7 m c t) (ib8 m c t) from by unfold dqO DQt; rw [hp],
      show dkO m c t.val = outF (pkA m c (t.val - 1)) (FKB t.val (ib0 m c t) (ib1 m c t) (ib2 m c t) (ib3 m c t) (ib4 m c t) (ib5 m c t) (ib6 m c t) (ib7 m c t) (ib8 m c t)) from by unfold dkO; rw [if_neg h0, if_pos h31, hp]; rfl,
      show dvO m c t.val = outF (pvA m c (t.val - 1)) (FVB t.val (ib0 m c t) (ib1 m c t) (ib2 m c t) (ib5 m c t) (ib6 m c t) (ib7 m c t)) from by unfold dvO; rw [if_neg h0, if_pos h31, hp]; rfl,
      show dbO m c t.val = dbF (dbO m c (t.val - 1)) (DSB t.val (ib0 m c t) (ib1 m c t) (ib2 m c t) (ib3 m c t) (ib4 m c t) (ib5 m c t) (ib6 m c t) (ib7 m c t) (ib8 m c t)) from by
        obtain ⟨k, hk⟩ : ∃ k, t.val = k + 1 := ⟨t.val - 1, by omega⟩
        have e : dbO m c t.val = dbF (dbO m c (t.val - 1)) (DSt m c (pt t.val)) := by
          rw [hk]; show (if k + 1 ≤ 31 then _ else _) = _
          rw [if_pos (by omega)]; rfl
        rw [e, hp]; rfl,
      show pkA m c t.val = pendF (FKB t.val (ib0 m c t) (ib1 m c t) (ib2 m c t) (ib3 m c t) (ib4 m c t) (ib5 m c t) (ib6 m c t) (ib7 m c t) (ib8 m c t)) from by unfold pkA; rw [hp]; rfl,
      show pvA m c t.val = pendF (FVB t.val (ib0 m c t) (ib1 m c t) (ib2 m c t) (ib5 m c t) (ib6 m c t) (ib7 m c t)) from by unfold pvA; rw [hp]; rfl]
    iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (hs _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexact H12
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, H7, H8, H9, H10, H11, H12, HS0, HS1, HS2, HS3, HS4, HS5⟩
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · have h32 : t.val = 32 := by omega
    rw [PhiS_pos m c _ _ h0]
    simp only [before12 m c t h0, before9 m c t h32]
    have hs := fun K => stepC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => by have := (hcond0_0 t).mp h; omega) (fun h => by have := (hcond0_1 t).mp h; omega) (fun h => by have := (hcond0_2 t).mp h; omega) ((hcond0_3 t).mpr (by omega)) (iblk m c 0 t) (iblk m c 1 t) (iblk m c 2 t) (iblk m c 3 t) (iblk m c 4 t) (iblk m c 5 t) (iblk m c 6 t) (iblk m c 7 t) (iblk m c 8 t) (dqO m c (t.val - 1)) (dbO m c (t.val - 1)) (pkA m c (t.val - 1)) (pvA m c (t.val - 1)) Set.univ K
    rw [show dqO m c t.val = dqO m c (t.val - 1) from by rw [h32]; exact dqO_last m c,
      show dbO m c t.val = dbO m c (t.val - 1) from by rw [h32]; exact dbO_last m c,
      show dkO m c t.val = pkA m c (t.val - 1) from by rw [h32]; unfold dkO; rw [if_neg (by omega), if_neg (by omega)],
      show dvO m c t.val = pvA m c (t.val - 1) from by rw [h32]; unfold dvO; rw [if_neg (by omega), if_neg (by omega)],
      show pkA m c t.val = pkA m c (t.val - 1) from by rw [h32]; rfl,
      show pvA m c t.val = pvA m c (t.val - 1) from by rw [h32]; rfl]
    iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (hs _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexact H12
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, H7, H8, H9, H10, H11, H12, HS0, HS1, HS2, HS3, HS4, HS5⟩
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 33 := N_0; omega), PhiA0_eq]
  iintro ⟨⟨HS0, HS1, HS2, HS3, HS4, HS5⟩, Hg⟩
  isplitl [HS0 HS1 HS2 HS3 HS4 HS5]
  · isplitl [HS0]; · iexists _; iexact HS0
    isplitl [HS1]; · iexists _; iexact HS1
    isplitl [HS2]; · iexact HS2
    isplitl [HS3]; · iexact HS3
    isplitl [HS4]; · iexact HS4
    iexact HS5
  iexact Hg

/-! ## The launch -/

set_option backward.isDefEq.respectTransparency.types false in
theorem run_main_quiescent : θ_run defs (onTc (τ := τ) (main (F := Ideal))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := Ideal))) (s₀ m ρ) (Pipeline.FramePost cfgs (dats m) 0 (V m)) :=
  (θ_run defs _ _).mono (fun _ h => h.1) (run_main_quiescent m ρ)

/-- Every weakly fair execution ends with the argument arrays as they were and every semaphore at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.KernelIdeal.Run

end
-- ==== Proof.Arrays.lean ====
/- The four arrays the idealized kernel leaves, block by block, and the blocks its windows read, at an index of the
   whole arrays. -/
module

public import proofs.«01_k».proof.Proof.Run
public import Idealize.ShloMosaic.Lib.Pipeline.ValueKit.Geometry
public import Idealize.ShloMosaic.Lib.Pointwise

@[expose] public section

set_option maxRecDepth 16384

noncomputable section

namespace Cert.KernelIdeal.Run

open Cert.KernelIdeal.Gen Cert.KernelIdeal.Val
open Idealize.ShloMosaic TcCoe Tactic
open Idealize.SL Idealize.SL.Sem
open Idealize.ShloMosaic.Pipeline (Dat Cfg Window)

variable (m : (ℓ : Loc nD τ sig) → Buf (Elt Ideal) ℓ)

/-! ## Which block a window names at a point -/

theorem e0 : ∀ t : Fin cfg0.N, win0_0.index t = ![min t.val 31, 0] := (by decide +kernel : ∀ t : Fin grid0.N, win0_0.index t = ![min t.val 31, 0])
theorem e1 : ∀ t : Fin cfg0.N, win0_1.index t = ![min t.val 31 * 4 - 1, 1] := (by decide +kernel : ∀ t : Fin grid0.N, win0_1.index t = ![min t.val 31 * 4 - 1, 1])
theorem e2 : ∀ t : Fin cfg0.N, win0_2.index t = ![min t.val 31, 1] := (by decide +kernel : ∀ t : Fin grid0.N, win0_2.index t = ![min t.val 31, 1])
theorem e3 : ∀ t : Fin cfg0.N, win0_3.index t = ![min t.val 31 * 4 - 1, 2] := (by decide +kernel : ∀ t : Fin grid0.N, win0_3.index t = ![min t.val 31 * 4 - 1, 2])
theorem e4 : ∀ t : Fin cfg0.N, win0_4.index t = ![min t.val 31, 2] := (by decide +kernel : ∀ t : Fin grid0.N, win0_4.index t = ![min t.val 31, 2])
theorem e5 : ∀ t : Fin cfg0.N, win0_5.index t = ![0, 0, 0] := (by decide +kernel : ∀ t : Fin grid0.N, win0_5.index t = ![0, 0, 0])
theorem e6 : ∀ t : Fin cfg0.N, win0_6.index t = ![min t.val 31, 0] := (by decide +kernel : ∀ t : Fin grid0.N, win0_6.index t = ![min t.val 31, 0])
theorem e7 : ∀ t : Fin cfg0.N, win0_7.index t = ![min t.val 31, 0] := (by decide +kernel : ∀ t : Fin grid0.N, win0_7.index t = ![min t.val 31, 0])
theorem e8 : ∀ t : Fin cfg0.N, win0_8.index t = ![min t.val 31, 0] := (by decide +kernel : ∀ t : Fin grid0.N, win0_8.index t = ![min t.val 31, 0])
theorem e9 : ∀ t : Fin cfg0.N, win0_9.index t = ![min t.val 31, 0] := (by decide +kernel : ∀ t : Fin grid0.N, win0_9.index t = ![min t.val 31, 0])
theorem e10 : ∀ t : Fin cfg0.N, win0_10.index t = ![t.val - 1, 0] := (by decide +kernel : ∀ t : Fin grid0.N, win0_10.index t = ![t.val - 1, 0])
theorem e11 : ∀ t : Fin cfg0.N, win0_11.index t = ![t.val - 1, 0] := (by decide +kernel : ∀ t : Fin grid0.N, win0_11.index t = ![t.val - 1, 0])
theorem e12 : ∀ t : Fin cfg0.N, win0_12.index t = ![0, 0, 0] := (by decide +kernel : ∀ t : Fin grid0.N, win0_12.index t = ![0, 0, 0])

theorem fl9 : ∀ t : Fin cfg0.N, (cfg0.win 9).flush t = true → t.val ≠ 31 := (by decide +kernel : ∀ t : Fin grid0.N, win0_9.flush t = true → t.val ≠ 31)
theorem fl10 : ∀ t : Fin cfg0.N, (cfg0.win 10).flush t = true → t.val ≠ 0 := (by decide +kernel : ∀ t : Fin grid0.N, win0_10.flush t = true → t.val ≠ 0)
theorem fl11 : ∀ t : Fin cfg0.N, (cfg0.win 11).flush t = true → t.val ≠ 0 := (by decide +kernel : ∀ t : Fin grid0.N, win0_11.flush t = true → t.val ≠ 0)
theorem fl12 : ∀ t : Fin cfg0.N, (cfg0.win 12).flush t = true → t.val = 32 := (by decide +kernel : ∀ t : Fin grid0.N, win0_12.flush t = true → t.val = 32)

/-! ## The arrays the run leaves -/

/-- An array of 16384 rows put together from blocks of 512 rows. -/
def tiled (f : ℕ → Arr) : S16384x512.Idx → EReal := fun i =>
  f ((i 0).val / 512) (ix2 ⟨(i 0).val % 512, Nat.mod_lt _ (by decide)⟩ (i 1))

theorem tiled_at (f : ℕ → Arr) (i : S16384x512.Idx) (y : S512x512.Idx) (T : ℕ) (h0 : (i 0).val = T * 512 + (y 0).val) (h1 : (i 1).val = (y 1).val) :
    tiled f i = f T y := by
  have hb := (y 0).isLt
  have hb' : (y 0).val < 512 := hb
  unfold tiled
  have hT : (i 0).val / 512 = T := by omega
  rw [hT]
  congr 1
  funext a
  apply Fin.ext
  fin_cases a
  · show (i 0).val % 512 = (y 0).val
    omega
  · exact h1

theorem arr9 (c : Dev nD) : (dats m 0 c).arrAt 9 cfg0.N = tiled (dqO m c) := by
  refine (dats m 0 c).arrAt_eq_of_covers 9 _ (by decide +kernel) fun t hf y => ?_
  blk_simp
  rw [after9]
  have h31 := fl9 t hf
  have hN : t.val < 33 := lt_of_lt_of_eq t.isLt N_0
  have ht : dqO m c t.val = dqO m c (min t.val 31) := by
    by_cases h : t.val ≤ 31
    · rw [Nat.min_eq_left h]
    · have : t.val = 32 := by omega
      rw [this]; exact dqO_last m c
  rw [ht]
  refine (tiled_at _ _ y _ ?_ ?_).symm
  · blk_simp [e9]
  · blk_simp [e9]

theorem arr10 (c : Dev nD) : (dats m 0 c).arrAt 10 cfg0.N = tiled fun T => dkO m c (T + 1) := by
  refine (dats m 0 c).arrAt_eq_of_covers 10 _ (by decide +kernel) fun t hf y => ?_
  blk_simp
  rw [after10]
  have h0 := fl10 t hf
  have ht : t.val = (t.val - 1) + 1 := by omega
  rw [ht]
  refine (tiled_at (fun T => dkO m c (T + 1)) _ y (t.val - 1) ?_ ?_).symm
  · blk_simp [e10]
  · blk_simp [e10]

theorem arr11 (c : Dev nD) : (dats m 0 c).arrAt 11 cfg0.N = tiled fun T => dvO m c (T + 1) := by
  refine (dats m 0 c).arrAt_eq_of_covers 11 _ (by decide +kernel) fun t hf y => ?_
  blk_simp
  rw [after11]
  have h0 := fl11 t hf
  have ht : t.val = (t.val - 1) + 1 := by omega
  rw [ht]
  refine (tiled_at (fun T => dvO m c (T + 1)) _ y (t.val - 1) ?_ ?_).symm
  · blk_simp [e11]
  · blk_simp [e11]

theorem arr12 (c : Dev nD) : (dats m 0 c).arrAt 12 cfg0.N = dbO m c 31 := by
  refine (dats m 0 c).arrAt_eq_of_covers 12 _ (by decide +kernel) fun t hf y => ?_
  blk_simp
  rw [after12, fl12 t hf, dbO_last]
  congr 1
  blk_ext [e12]

/-! ## The blocks the windows read -/

section Blocks

variable (c : Dev nD) (t : Fin cfg0.N) (r : Fin 512) (r' : Fin 128) (l : Fin 512)

theorem rd0 (A : S16384x1536.Idx → EReal) (h : t.val ≤ 31) : ((cfg0.win 0).blk t).view.read (Elt Ideal) A (ix2 r l) = A (ix2 ⟨512 * t.val + r.val, by omega⟩ ⟨l.val, by omega⟩) := by
  blk_simp
  congr 1
  blk_ext [e0]

theorem ib0_at (h : t.val ≤ 31) : ib0 m c t (ix2 r l) = (V m c main_v73 : S16384x1536.Idx → EReal) (ix2 ⟨512 * t.val + r.val, by omega⟩ ⟨l.val, by omega⟩) :=
  rd0 t r l (V m c main_v73) h

theorem rd1 (A : S16384x1536.Idx → EReal) (h : t.val ≤ 31) : ((cfg0.win 1).blk t).view.read (Elt Ideal) A (ix2 r' l) = A (ix2 ⟨128 * (4 * t.val - 1) + r'.val, by omega⟩ ⟨512 + l.val, by omega⟩) := by
  blk_simp
  congr 1
  blk_ext [e1]

theorem ib1_at (h : t.val ≤ 31) : ib1 m c t (ix2 r' l) = (V m c main_v73 : S16384x1536.Idx → EReal) (ix2 ⟨128 * (4 * t.val - 1) + r'.val, by omega⟩ ⟨512 + l.val, by omega⟩) :=
  rd1 t r' l (V m c main_v73) h

theorem rd2 (A : S16384x1536.Idx → EReal) (h : t.val ≤ 31) : ((cfg0.win 2).blk t).view.read (Elt Ideal) A (ix2 r l) = A (ix2 ⟨512 * t.val + r.val, by omega⟩ ⟨512 + l.val, by omega⟩) := by
  blk_simp
  congr 1
  blk_ext [e2]

theorem ib2_at (h : t.val ≤ 31) : ib2 m c t (ix2 r l) = (V m c main_v73 : S16384x1536.Idx → EReal) (ix2 ⟨512 * t.val + r.val, by omega⟩ ⟨512 + l.val, by omega⟩) :=
  rd2 t r l (V m c main_v73) h

theorem rd3 (A : S16384x1536.Idx → EReal) (h : t.val ≤ 31) : ((cfg0.win 3).blk t).view.read (Elt Ideal) A (ix2 r' l) = A (ix2 ⟨128 * (4 * t.val - 1) + r'.val, by omega⟩ ⟨1024 + l.val, by omega⟩) := by
  blk_simp
  congr 1
  blk_ext [e3]

theorem ib3_at (h : t.val ≤ 31) : ib3 m c t (ix2 r' l) = (V m c main_v73 : S16384x1536.Idx → EReal) (ix2 ⟨128 * (4 * t.val - 1) + r'.val, by omega⟩ ⟨1024 + l.val, by omega⟩) :=
  rd3 t r' l (V m c main_v73) h

theorem rd4 (A : S16384x1536.Idx → EReal) (h : t.val ≤ 31) : ((cfg0.win 4).blk t).view.read (Elt Ideal) A (ix2 r l) = A (ix2 ⟨512 * t.val + r.val, by omega⟩ ⟨1024 + l.val, by omega⟩) := by
  blk_simp
  congr 1
  blk_ext [e4]

theorem ib4_at (h : t.val ≤ 31) : ib4 m c t (ix2 r l) = (V m c main_v73 : S16384x1536.Idx → EReal) (ix2 ⟨512 * t.val + r.val, by omega⟩ ⟨1024 + l.val, by omega⟩) :=
  rd4 t r l (V m c main_v73) h

theorem rd6 (A : S16384x512.Idx → EReal) (h : t.val ≤ 31) : ((cfg0.win 6).blk t).view.read (Elt Ideal) A (ix2 r l) = A (ix2 ⟨512 * t.val + r.val, by omega⟩ l) := by
  blk_simp
  congr 1
  blk_ext [e6]

theorem ib6_at (h : t.val ≤ 31) : ib6 m c t (ix2 r l) = (V m c main_v85 : S16384x512.Idx → EReal) (ix2 ⟨512 * t.val + r.val, by omega⟩ l) :=
  rd6 t r l (V m c main_v85) h

theorem rd7 (A : S16384x512.Idx → EReal) (h : t.val ≤ 31) : ((cfg0.win 7).blk t).view.read (Elt Ideal) A (ix2 r l) = A (ix2 ⟨512 * t.val + r.val, by omega⟩ l) := by
  blk_simp
  congr 1
  blk_ext [e7]

theorem ib7_at (h : t.val ≤ 31) : ib7 m c t (ix2 r l) = (V m c main_v87 : S16384x512.Idx → EReal) (ix2 ⟨512 * t.val + r.val, by omega⟩ l) :=
  rd7 t r l (V m c main_v87) h

theorem rd8 (A : S16384x512.Idx → EReal) (h : t.val ≤ 31) : ((cfg0.win 8).blk t).view.read (Elt Ideal) A (ix2 r l) = A (ix2 ⟨512 * t.val + r.val, by omega⟩ l) := by
  blk_simp
  congr 1
  blk_ext [e8]

theorem ib8_at (h : t.val ≤ 31) : ib8 m c t (ix2 r l) = (V m c main_v79 : S16384x512.Idx → EReal) (ix2 ⟨512 * t.val + r.val, by omega⟩ l) :=
  rd8 t r l (V m c main_v79) h

theorem rd5 (A : S8x128x256.Idx → EReal) (h : Fin 8) (a : Fin 128) (b : Fin 256) : ((cfg0.win 5).blk t).view.read (Elt Ideal) A (ix3 h a b) = A (ix3 h a b) := by
  blk_simp
  congr 1
  blk_ext [e5]

theorem ib5_at (h : Fin 8) (a : Fin 128) (b : Fin 256) : ib5 m c t (ix3 h a b) = (V m c main_v82 : S8x128x256.Idx → EReal) (ix3 h a b) :=
  rd5 t (V m c main_v82) h a b

end Blocks

end Cert.KernelIdeal.Run

end
-- ==== Proof.Host.lean ====
/- What the host prepares for the kernel's call, index by index, as reals: the rows of the queries, keys and values, the
   masked bias, the rows' log-sums, the output's cotangent, and what a row's cotangents share. -/
module

public import Idealize.ShloMosaic.Lib.StableHlo.ReadAt
public import proofs.«01_k».proof.Proof.RefA
public import proofs.«01_k».proof.Proof.Gen.KernelIdeal.Frame

@[expose] public section

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo
open Cert.Spec

/-- The six argument arrays of a device hold the reals `X`. -/
abbrev Holds (X : Inp) (m : (ℓ : Loc nD τ sig) → Buf (Elt Ideal) ℓ) (c : Dev nD) : Prop :=
  Is X (m (c, Proc.devRef .tc main_arg0)) (m (c, Proc.devRef .tc main_arg1)) (m (c, Proc.devRef .tc main_arg2))
    (m (c, Proc.devRef .tc main_arg3)) (m (c, Proc.devRef .tc main_arg4)) (m (c, Proc.devRef .tc main_arg5))

variable {X : Inp} {m : (ℓ : Loc nD τ sig) → Buf (Elt Ideal) ℓ} {c : Dev nD}

theorem v30_at (H : Holds X m c) (n a : Fin 128) (h : Fin 8) (d : Fin 64) :
    (V m c main_v30 : S1x128x128x8x64.Idx → EReal) (ix5 0 n a h d) = ((X.q (row n a) h d : ℝ) : EReal) := by
  unfold V
  after_reads_at
  exact H.q (row n a) h d

theorem v31_at (H : Holds X m c) (n a : Fin 128) (h : Fin 8) (d : Fin 64) :
    (V m c main_v31 : S1x128x128x8x64.Idx → EReal) (ix5 0 n a h d) = ((X.k (row n a) h d : ℝ) : EReal) := by
  unfold V
  after_reads_at
  exact H.k (row n a) h d

theorem v52_at (H : Holds X m c) (n a : Fin 128) (h : Fin 8) (d : Fin 64) :
    (V m c main_v52 : S1x128x128x8x64.Idx → EReal) (ix5 0 n a h d) = ((X.v (row n a) h d : ℝ) : EReal) := by
  unfold V
  after_reads_at
  exact H.v (row n a) h d

theorem v36_at (H : Holds X m c) (n : Fin 128) (b : Fin 256) (h : Fin 8) (d : Fin 64) :
    (V m c main_v36 : S1x128x256x8x64.Idx → EReal) (ix5 0 n b h d) = ((win X.k n b h d : ℝ) : EReal) := by
  unfold V
  after_reads_at
  after_reads_at
  unfold win
  split
  · split
    · rfl
    · exact H.k (row ⟨n.val - 1, by omega⟩ ⟨b.val, by omega⟩) h d
  · exact H.k (row n ⟨b.val - 128, by omega⟩) h d

theorem v57_at (H : Holds X m c) (n : Fin 128) (b : Fin 256) (h : Fin 8) (d : Fin 64) :
    (V m c main_v57 : S1x128x256x8x64.Idx → EReal) (ix5 0 n b h d) = ((win X.v n b h d : ℝ) : EReal) := by
  unfold V
  after_reads_at
  after_reads_at
  unfold win
  split
  · split
    · rfl
    · exact H.v (row ⟨n.val - 1, by omega⟩ ⟨b.val, by omega⟩) h d
  · exact H.v (row n ⟨b.val - 128, by omega⟩) h d

theorem v29_at (n a : Fin 128) (b : Fin 256) :
    (V m c main_v29 : S128x128x256.Idx → BitVec 1) (ix3 n a b) = BitVec.ofBool (ok n a b) := by
  unfold V
  after_reads_at
  exact Cert.ReferenceIdeal.Val.mask_word n.val a.val b.val (by omega) (by omega) (by omega)

theorem v44_eq : V m c main_v44 = select (broadcastInDim S1x128x8x128x256 ![0, 1, 2, 3, 4] bcast_S1x128x1x128x256_S1x128x8x128x256_0_1_2_3_4
      (broadcastInDim S1x128x1x128x256 ![1, 3, 4] bcast_S128x128x256_S1x128x1x128x256_1_3_4 (V m c main_v29)))
    (addf (F := Ideal) (φ := .f32) (mulf (F := Ideal) (φ := .f32) (Host.dotGeneral (φ₁ := .f32) (φ₂ := .f32) dot_S1x128x128x8x64_S1x128x256x8x64_S1x128x8x128x256_4_4_2_2_013_013 none (V m c main_v30) (V m c main_v36))
      (broadcastInDim S1x128x8x128x256 ![] bcast_S_S1x128x8x128x256 (constant S_ .f32 0x3E000000#32)))
      (broadcastInDim S1x128x8x128x256 ![0, 1, 2, 3, 4] bcast_S1x1x8x128x256_S1x128x8x128x256_0_1_2_3_4
        (broadcastInDim S1x1x8x128x256 ![2, 3, 4] bcast_S8x128x256_S1x1x8x128x256_2_3_4 (V m c main_arg3))))
    (broadcastInDim S1x128x8x128x256 ![] bcast_S_S1x128x8x128x256 (constant (F := Ideal) S_ .f32 0xFF800000#32)) := by
  unfold V
  after_reads_simp
  simp -implicitDefEqProofs only [StableHlo.TRef.toBuf, StableHlo.TRef.ofBuf, cast_cast, cast_eq]
  rfl

theorem v44_at (H : Holds X m c) (n : Fin 128) (h : Fin 8) (a : Fin 128) (b : Fin 256) :
    (V m c main_v44 : S1x128x8x128x256.Idx → EReal) (ix5 0 n h a b) = lg (ok n a) (X.S n h a) b := by
  have h1 := v30_at H
  have h2 := v36_at H
  have h3 := v29_at (m := m) (c := c)
  have h4 : ∀ h a b, (V m c main_arg3 : S8x128x256.Idx → EReal) (ix3 h a b) = ((X.β h a b : ℝ) : EReal) := fun h a b => by
    rw [V_main_arg3]; exact H.β h a b
  rw [v44_eq]
  revert h1 h2 h3 h4
  generalize V m c main_v30 = x1
  generalize V m c main_v36 = x2
  generalize V m c main_v29 = x3
  generalize V m c main_arg3 = x4
  intro h1 h2 h3 h4
  pointwise
  rw [h3, h4, ofBits_ninf, ofBits_eighth,
    sum_eq_coe (f := fun x => X.q (row n a) h x * win X.k n b h x) fun x => by rw [h1, h2, EReal.coe_mul],
    ← EReal.coe_mul, ← EReal.coe_add]
  unfold lg
  cases ok n a b <;> rfl

theorem v46_eq : V m c main_v46 = broadcastInDim S1x128x8x128x1 ![0, 1, 2, 3] bcast_S1x128x8x128_S1x128x8x128x1_0_1_2_3
    (Host.reduce (FloatOps.maximumf (F := Ideal)) (V m c main_v44) (constant S_ .f32 0xFF800000#32) reducesTo_S1x128x8x128x256_S1x128x8x128_d4 h_S_) := by
  unfold V
  after_reads_simp

theorem v49_eq : V m c main_v49 = Host.exp (F := Ideal) (φ := .f32) (subf (F := Ideal) (φ := .f32) (V m c main_v44) (broadcastInDim S1x128x8x128x256 ![0, 1, 2, 3, 4] bcast_S1x128x8x128x1_S1x128x8x128x256_0_1_2_3_4 (V m c main_v46))) := by
  unfold V
  after_reads_simp

theorem v51_eq : V m c main_v51 = broadcastInDim S1x128x8x128x1 ![0, 1, 2, 3] bcast_S1x128x8x128_S1x128x8x128x1_0_1_2_3
    (Host.reduceAdd (F := Ideal) (φ := .f32) (V m c main_v49) (constant S_ .f32 0x00000000#32) reducesTo_S1x128x8x128x256_S1x128x8x128_d4 h_S_) := by
  unfold V
  after_reads_simp

theorem v68_eq : V m c main_v68 = shapeCast S1x16384x8 (transpose S1x128x128x8 [0, 1, 3, 2]
      (shapeCast S1x128x8x128 (addf (F := Ideal) (φ := .f32) (V m c main_v46) (Host.log (F := Ideal) (φ := .f32) (V m c main_v51))) shapeCasts_S1x128x8x128x1_S1x128x8x128)
      transposes_S1x128x8x128_S1x128x128x8_0_1_3_2) shapeCasts_S1x128x128x8_S1x16384x8 := by
  unfold V
  after_reads_simp
  simp -implicitDefEqProofs only [StableHlo.TRef.toBuf, StableHlo.TRef.ofBuf, cast_cast, cast_eq]
  rfl

theorem v67_eq : V m c main_v67 = shapeCast S1x16384x8x64
      (Host.divf (F := Ideal) (φ := .f32) (transpose S1x128x128x8x64 [0, 1, 4, 2, 3]
          (Host.dotGeneral (φ₁ := .f32) (φ₂ := .f32) dot_S1x128x256x8x64_S1x128x8x128x256_S1x128x8x64x128_2_4_4_3_013_012 none (V m c main_v57) (V m c main_v49))
          transposes_S1x128x8x64x128_S1x128x128x8x64_0_1_4_2_3)
        (broadcastInDim S1x128x128x8x64 ![0, 1, 2, 3, 4] bcast_S1x128x128x8x1_S1x128x128x8x64_0_1_2_3_4
          (transpose S1x128x128x8x1 [0, 1, 3, 2, 4] (V m c main_v51) transposes_S1x128x8x128x1_S1x128x128x8x1_0_1_3_2_4)))
      shapeCasts_S1x128x128x8x64_S1x16384x8x64 := by
  unfold V
  after_reads_simp
  simp -implicitDefEqProofs only [StableHlo.TRef.toBuf, StableHlo.TRef.ofBuf, cast_cast, cast_eq]
  rfl

theorem v79_eq : V m c main_v79 = shapeCast S16384x512 (broadcastInDim S1x16384x8x64 ![0, 1, 2, 3] bcast_S1x16384x8x1_S1x16384x8x64_0_1_2_3
      (broadcastInDim S1x16384x8x1 ![0, 1, 2] bcast_S1x16384x8_S1x16384x8x1_0_1_2
        (subf (F := Ideal) (φ := .f32) (Host.reduceAdd (F := Ideal) (φ := .f32) (mulf (F := Ideal) (φ := .f32) (V m c main_arg4) (V m c main_v67)) (constant S_ .f32 0x00000000#32) reducesTo_S1x16384x8x64_S1x16384x8_d3 h_S_)
          (V m c main_arg5)))) shapeCasts_S1x16384x8x64_S16384x512 := by
  unfold V
  after_reads_simp
  simp -implicitDefEqProofs only [StableHlo.TRef.toBuf, StableHlo.TRef.ofBuf, cast_cast, cast_eq]
  rfl

theorem v85_eq : V m c main_v85 = shapeCast S16384x512 (broadcastInDim S1x16384x8x64 ![0, 1, 2, 3] bcast_S1x16384x8x1_S1x16384x8x64_0_1_2_3
      (broadcastInDim S1x16384x8x1 ![0, 1, 2] bcast_S1x16384x8_S1x16384x8x1_0_1_2 (V m c main_v68))) shapeCasts_S1x16384x8x64_S16384x512 := by
  unfold V
  after_reads_simp
  simp -implicitDefEqProofs only [StableHlo.TRef.toBuf, StableHlo.TRef.ofBuf, cast_cast, cast_eq]
  rfl

theorem lane_div (h : Fin 8) (d : Fin 64) : (64 * h.val + d.val) / 64 = h.val := by omega
theorem lane_mod (h : Fin 8) (d : Fin 64) : (64 * h.val + d.val) % 64 = d.val := by omega

theorem v87_at (H : Holds X m c) (r : Fin 16384) (h : Fin 8) (d : Fin 64) :
    (V m c main_v87 : S16384x512.Idx → EReal) (ix2 r ⟨64 * h.val + d.val, by omega⟩) = ((X.g r h d : ℝ) : EReal) := by
  have h4 := H.g
  unfold V
  after_reads_at
  have e1 : ∀ p, (⟨(64 * h.val + d.val) / 64, p⟩ : Fin 8) = h := fun p => Fin.ext (lane_div h d)
  have e2 : ∀ p, (⟨(64 * h.val + d.val) % 64, p⟩ : Fin 64) = d := fun p => Fin.ext (lane_mod h d)
  rw [e1, e2]
  exact h4 r h d

theorem v73_q (H : Holds X m c) (r : Fin 16384) (h : Fin 8) (d : Fin 64) :
    (V m c main_v73 : S16384x1536.Idx → EReal) (ix2 r ⟨64 * h.val + d.val, by omega⟩) = ((X.q r h d : ℝ) : EReal) := by
  have h4 := H.q
  unfold V
  after_reads_at
  after_reads_at
  rw [dif_pos (by omega)]
  exact h4 r h d

theorem v73_k (H : Holds X m c) (r : Fin 16384) (h : Fin 8) (d : Fin 64) :
    (V m c main_v73 : S16384x1536.Idx → EReal) (ix2 r ⟨512 + (64 * h.val + d.val), by omega⟩) = ((X.k r h d : ℝ) : EReal) := by
  have h4 := H.k
  unfold V
  after_reads_at
  after_reads_at
  rw [dif_pos (by omega)]
  exact h4 r h d

theorem v73_v (H : Holds X m c) (r : Fin 16384) (h : Fin 8) (d : Fin 64) :
    (V m c main_v73 : S16384x1536.Idx → EReal) (ix2 r ⟨1024 + (64 * h.val + d.val), by omega⟩) = ((X.v r h d : ℝ) : EReal) := by
  have h4 := H.v
  unfold V
  after_reads_at
  after_reads_at
  rw [dif_neg (by omega), dif_neg (by omega)]
  have e1 : ∀ p, (⟨(1024 + (64 * h.val + d.val) - 512 - 512) / 64, p⟩ : Fin 8) = h := fun p => Fin.ext (by simp only; omega)
  have e2 : ∀ p, (⟨(1024 + (64 * h.val + d.val) - 512 - 512) % 64, p⟩ : Fin 64) = d := fun p => Fin.ext (by simp only; omega)
  rw [e1, e2]
  exact h4 r h d

theorem v82_at (H : Holds X m c) (h : Fin 8) (a : Fin 128) (b : Fin 256) :
    (V m c main_v82 : S8x128x256.Idx → EReal) (ix3 h a b) = if a.val ≤ b.val ∧ b.val ≤ a.val + 128 then ((X.β h a b : ℝ) : EReal) else ⊥ := by
  have h4 := H.β
  unfold V
  after_reads_at
  refine (congrArg (fun x => Scalar.select x _ _) (Cert.ReferenceIdeal.Val.mask_word 1 a.val b.val (by omega) a.isLt b.isLt)).trans ?_
  rw [h4]
  change Scalar.select _ _ (Ideal.ofBits .f32 0xFF800000#32) = _
  rw [ofBits_ninf]
  by_cases e : a.val ≤ b.val ∧ b.val ≤ a.val + 128
  · rw [if_pos e, decide_eq_true (show _ ∧ _ ∧ _ from ⟨e.1, e.2, by omega⟩)]; rfl
  · rw [if_neg e, decide_eq_false (fun k => e ⟨k.1, k.2.1⟩)]; rfl

/-! ## What the forward pass saved -/

theorem v46_real (H : Holds X m c) (n : Fin 128) (h : Fin 8) (a : Fin 128) :
    ∃ μ : ℝ, (V m c main_v46 : S1x128x8x128x1.Idx → EReal) (ix5 0 n h a 0) = ((μ : ℝ) : EReal) := by
  obtain ⟨μ, hμ, _⟩ := max_row (k := ok n a) (s := X.S n h a) (Inp.sees n a)
  refine ⟨μ, ?_⟩
  have h1 := fun b => v44_at H n h a b
  rw [v46_eq]
  revert h1
  generalize V m c main_v44 = x
  intro h1
  pointwise
  rw [← hμ, ← show (fun b => (x (ix5 0 n h a b) : EReal)) = lg (ok n a) (X.S n h a) from funext h1, ofBits_ninf]
  exact Shape.ReducesTo.fold_fiber_r5_a4 _ _ _ _ _

/-- The row's largest logit. -/
def mx (H : Holds X m c) (n : Fin 128) (h : Fin 8) (a : Fin 128) : ℝ := (v46_real H n h a).choose

theorem v46_at (H : Holds X m c) (n : Fin 128) (h : Fin 8) (a : Fin 128) :
    (V m c main_v46 : S1x128x8x128x1.Idx → EReal) (ix5 0 n h a 0) = ((mx H n h a : ℝ) : EReal) := (v46_real H n h a).choose_spec

/-- A row's weights over the largest. -/
def wm (H : Holds X m c) (n : Fin 128) (h : Fin 8) (a : Fin 128) (b : Fin 256) : ℝ :=
  wt (ok n a) (X.S n h a) b * Real.exp (-mx H n h a)
/-- Their sum. -/
def dm (H : Holds X m c) (n : Fin 128) (h : Fin 8) (a : Fin 128) : ℝ :=
  tot (ok n a) (X.S n h a) * Real.exp (-mx H n h a)

theorem dm_pos (H : Holds X m c) (n : Fin 128) (h : Fin 8) (a : Fin 128) : 0 < dm H n h a := scaled_pos (Inp.sees n a) _

theorem wm_div (H : Holds X m c) (n : Fin 128) (h : Fin 8) (a : Fin 128) (b : Fin 256) :
    wm H n h a b / dm H n h a = X.P n h a b := ratio (Inp.sees n a) _ b

theorem v49_at (H : Holds X m c) (n : Fin 128) (h : Fin 8) (a : Fin 128) (b : Fin 256) :
    (V m c main_v49 : S1x128x8x128x256.Idx → EReal) (ix5 0 n h a b) = ((wm H n h a b : ℝ) : EReal) := by
  have h1 := v44_at H n h a b
  have h2 := v46_at H n h a
  rw [v49_eq]
  revert h1 h2
  generalize V m c main_v44 = x
  generalize V m c main_v46 = y
  intro h1 h2
  pointwise
  rw [h1, h2]
  exact exp_row _ _

theorem v51_at (H : Holds X m c) (n : Fin 128) (h : Fin 8) (a : Fin 128) :
    (V m c main_v51 : S1x128x8x128x1.Idx → EReal) (ix5 0 n h a 0) = ((dm H n h a : ℝ) : EReal) := by
  have h1 := fun b => v49_at H n h a b
  rw [v51_eq]
  revert h1
  generalize V m c main_v49 = x
  intro h1
  pointwise
  rw [sum_eq_coe h1]
  exact congrArg _ (sum_wt _)

theorem row_div (n a : Fin 128) : (row n a).val / 128 = n.val := by simp only [row]; omega
theorem row_mod (n a : Fin 128) : (row n a).val % 128 = a.val := by simp only [row]; omega

/-- The rows' log-sums. -/
def lse (H : Holds X m c) (n : Fin 128) (h : Fin 8) (a : Fin 128) : ℝ := mx H n h a + Real.log (dm H n h a)

/-- The log-sums are laid out position by position. -/
theorem lse_layout (x y : S1x128x8x128x1.Idx → EReal) (n : Fin 128) (h : Fin 8) (a : Fin 128) :
    (shapeCast S1x16384x8 (transpose S1x128x128x8 [0, 1, 3, 2]
      (shapeCast S1x128x8x128 (addf (F := Ideal) (φ := .f32) x (Host.log (F := Ideal) (φ := .f32) y)) shapeCasts_S1x128x8x128x1_S1x128x8x128)
      transposes_S1x128x8x128_S1x128x128x8_0_1_3_2) shapeCasts_S1x128x128x8_S1x16384x8
      : S1x16384x8.Idx → EReal) (ix3 0 (row n a) h) = x (ix5 0 n h a 0) + Ideal.log (y (ix5 0 n h a 0)) := by
  pointwise
  have e1 : ∀ p, (⟨(row n a).val / 128, p⟩ : Fin 128) = n := fun p => Fin.ext (row_div n a)
  have e2 : ∀ p, (⟨(row n a).val % 128, p⟩ : Fin 128) = a := fun p => Fin.ext (row_mod n a)
  rw [e1, e2]

theorem v68_at (H : Holds X m c) (n : Fin 128) (h : Fin 8) (a : Fin 128) :
    (V m c main_v68 : S1x16384x8.Idx → EReal) (ix3 0 (row n a) h) = ((lse H n h a : ℝ) : EReal) := by
  rw [v68_eq]
  refine (lse_layout (V m c main_v46) (V m c main_v51) n h a).trans ?_
  rw [v46_at H, v51_at H, Ideal.log_coe, if_neg (not_le.mpr (dm_pos H n h a)), ← EReal.coe_add, lse]

theorem v67_at (H : Holds X m c) (n : Fin 128) (h : Fin 8) (a : Fin 128) (d : Fin 64) :
    (V m c main_v67 : S1x16384x8x64.Idx → EReal) (ix4 0 (row n a) h d) = ((X.O n h a d : ℝ) : EReal) := by
  have h1 := v57_at H
  have h2 := v49_at H n h a
  have h3 := v51_at H n h a
  rw [v67_eq]
  revert h1 h2 h3
  generalize V m c main_v57 = x
  generalize V m c main_v49 = y
  generalize V m c main_v51 = z
  intro h1 h2 h3
  pointwise
  have e1 : ∀ p, (⟨(row n a).val / 128, p⟩ : Fin 128) = n := fun p => Fin.ext (row_div n a)
  have e2 : ∀ p, (⟨(row n a).val % 128, p⟩ : Fin 128) = a := fun p => Fin.ext (row_mod n a)
  rw [e1, e2, sum_eq_coe (f := fun b => win X.v n b h d * wm H n h a b) fun b => by rw [h1, h2, EReal.coe_mul], h3,
    div_coe_coe (dm_pos H n h a).ne']
  refine congrArg _ ?_
  rw [Finset.sum_div]
  exact Finset.sum_congr rfl fun b _ => by rw [← wm_div H, mul_div_assoc]

theorem v79_at (H : Holds X m c) (n : Fin 128) (h : Fin 8) (a : Fin 128) (d : Fin 64) :
    (V m c main_v79 : S16384x512.Idx → EReal) (ix2 (row n a) ⟨64 * h.val + d.val, by omega⟩) = ((X.δ n h a : ℝ) : EReal) := by
  have h1 := v67_at H n h a
  have h2 : ∀ d, (V m c main_arg4 : S1x16384x8x64.Idx → EReal) (ix4 0 (row n a) h d) = ((X.g (row n a) h d : ℝ) : EReal) := fun d => by
    rw [V_main_arg4]; exact H.g (row n a) h d
  have h3 : (V m c main_arg5 : S1x16384x8.Idx → EReal) (ix3 0 (row n a) h) = ((X.l (row n a) h : ℝ) : EReal) := by
    rw [V_main_arg5]; exact H.l (row n a) h
  rw [v79_eq]
  revert h1 h2 h3
  generalize V m c main_v67 = x
  generalize V m c main_arg4 = y
  generalize V m c main_arg5 = z
  intro h1 h2 h3
  pointwise
  rw [sum_eq_coe (f := fun d => X.g (row n a) h d * X.O n h a d) fun d => by rw [h1, h2, EReal.coe_mul], h3, ← EReal.coe_sub]
  rfl

theorem v85_at (H : Holds X m c) (n : Fin 128) (h : Fin 8) (a : Fin 128) (d : Fin 64) :
    (V m c main_v85 : S16384x512.Idx → EReal) (ix2 (row n a) ⟨64 * h.val + d.val, by omega⟩) = ((lse H n h a : ℝ) : EReal) := by
  have h1 := v68_at H n h a
  rw [v85_eq]
  revert h1
  generalize V m c main_v68 = x
  intro h1
  pointwise
  exact h1

end Cert.KernelIdeal.Host

end
-- ==== Proof.Whole.lean ====
/- The four arrays the idealized kernel leaves, as reals: the gradient of the attention, when the six argument arrays hold
   reals. -/
module

public import proofs.«01_k».proof.Proof.Match
public import proofs.«01_k».proof.Proof.Arrays
public import proofs.«01_k».proof.Proof.Host

@[expose] public section

set_option maxRecDepth 16384

noncomputable section

namespace Cert.KernelIdeal.Run

open Cert.KernelIdeal Cert.KernelIdeal.Gen Cert.KernelIdeal.Val
open Idealize.ShloMosaic TcCoe Tactic Idealize.SL.Sem
open Cert.Spec

variable {X : Inp} {m : (ℓ : Loc nD τ sig) → Buf (Elt Ideal) ℓ} {c : Dev nD}

theorem row_nb (t : ℕ) (ht : t ≤ 31) (j : Fin 4) (a : Fin 128) :
    (⟨512 * t + (rw4 j a).val, by omega⟩ : Fin 16384) = row (nb t ht j) a := Fin.ext (by simp only [rw4, row, nb]; omega)

theorem row_prev (t : ℕ) (ht : t ≤ 31) (a : Fin 128) :
    (⟨128 * (4 * t - 1) + a.val, by omega⟩ : Fin 16384) = row ⟨4 * t - 1, by omega⟩ a := Fin.ext (by simp only [row]; omega)

theorem col_q (h : Fin 8) (d : Fin 64) : (⟨(ln8 h d).val, by omega⟩ : Fin 1536) = ⟨64 * h.val + d.val, by omega⟩ := rfl

/-- What a grid point's windows hand it. -/
theorem given (H : Host.Holds X m c) (t : Fin cfg0.N) (ht : t.val ≤ 31) :
    Given X (Host.lse H) t.val ht (ib0 m c t) (ib1 m c t) (ib2 m c t) (ib3 m c t) (ib4 m c t) (ib5 m c t) (ib6 m c t) (ib7 m c t) (ib8 m c t) where
  q j a h d := by rw [ib0_at m c t _ _ ht, row_nb _ ht]; exact Host.v73_q H _ h d
  kp a h d := by rw [ib1_at m c t _ _ ht, row_prev _ ht]; exact Host.v73_k H _ h d
  k j a h d := by rw [ib2_at m c t _ _ ht, row_nb _ ht]; exact Host.v73_k H _ h d
  vp a h d := by rw [ib3_at m c t _ _ ht, row_prev _ ht]; exact Host.v73_v H _ h d
  v j a h d := by rw [ib4_at m c t _ _ ht, row_nb _ ht]; exact Host.v73_v H _ h d
  β h a b := by rw [ib5_at]; exact Host.v82_at H h a b
  l j a h d := by rw [ib6_at m c t _ _ ht, row_nb _ ht]; exact Host.v85_at H _ h a d
  g j a h d := by rw [ib7_at m c t _ _ ht, row_nb _ ht]; exact Host.v87_at H _ h d
  δ j a h d := by rw [ib8_at m c t _ _ ht, row_nb _ ht]; exact Host.v79_at H _ h a d

theorem lam_ok (H : Host.Holds X m c) : LamOk X (Host.lse H) := fun n h a b => by
  unfold Host.lse Host.dm
  exact exp_lse (Inp.sees n a) (Host.mx H n h a) b

theorem nb_pt (T : ℕ) (hT : T ≤ 31) (j : Fin 4) : nb (pt T).val (le_of_eq_of_le (pt_val T hT) hT) j = nb T hT j :=
  Fin.ext (by simp only [nb, pt_val T hT])

theorem FKt_at (H : Host.Holds X m c) (T : ℕ) (hT : T ≤ 31) (j : Fin 4) (b : Fin 256) (h : Fin 8) (d : Fin 64) :
    FKt m c (pt T) j (ix2 b (ln8 h d)) = ((X.fK (nb T hT j) b h d : ℝ) : EReal) := by
  rw [← nb_pt T hT j]
  exact FKB_at (given H (pt T) (le_of_eq_of_le (pt_val T hT) hT)) (lam_ok H) j b h d

theorem FVt_at (H : Host.Holds X m c) (T : ℕ) (hT : T ≤ 31) (j : Fin 4) (b : Fin 256) (h : Fin 8) (d : Fin 64) :
    FVt m c (pt T) j (ix2 b (ln8 h d)) = ((X.fV (nb T hT j) b h d : ℝ) : EReal) := by
  rw [← nb_pt T hT j]
  exact FVB_at (given H (pt T) (le_of_eq_of_le (pt_val T hT) hT)) (lam_ok H) j b h d

theorem DSt_at (H : Host.Holds X m c) (T : ℕ) (hT : T ≤ 31) (j : Fin 4) (h : Fin 8) (a : Fin 128) (b : Fin 256) :
    DSt m c (pt T) j (ix3 h a b) = ((X.dS (nb T hT j) h a b : ℝ) : EReal) := by
  rw [← nb_pt T hT j]
  exact DSB_at (given H (pt T) (le_of_eq_of_le (pt_val T hT) hT)) (lam_ok H) j h a b

theorem dqO_at (H : Host.Holds X m c) (T : ℕ) (hT : T ≤ 31) (j : Fin 4) (a : Fin 128) (h : Fin 8) (d : Fin 64) :
    dqO m c T (ix2 (rw4 j a) (ln8 h d)) = ((X.dQ (nb T hT j) a h d : ℝ) : EReal) := by
  rw [← nb_pt T hT j]
  exact DQA_at (given H (pt T) (le_of_eq_of_le (pt_val T hT) hT)) (lam_ok H) j a h d

/-- A row of the carry is done with by the next point, or at the sequence's end. -/
theorem carry_at (F : ℕ → Full) (f : Fin 128 → Fin 256 → Fin 8 → Fin 64 → ℝ)
    (hF : ∀ T (hT : T ≤ 31) j b h d, F T j (ix2 b (ln8 h d)) = ((f (nb T hT j) b h d : ℝ) : EReal))
    (T : ℕ) (hT : T ≤ 31) (j : Fin 4) (a : Fin 128) (h : Fin 8) (d : Fin 64) :
    (if T + 1 ≤ 31 then outF (pendF (F T)) (F (T + 1)) else pendF (F 31)) (ix2 (rw4 j a) (ln8 h d)) = ((both f (nb T hT j) a h d : ℝ) : EReal) := by
  unfold both
  rw [EReal.coe_add]
  by_cases hj : j.val + 1 < 4
  · have e : pendF (F T) (ix2 (rw4 j a) (ln8 h d)) = ((f (nb T hT j) ⟨128 + a.val, by omega⟩ h d : ℝ) : EReal)
        + (((if hn : (nb T hT j).val + 1 < 128 then f ⟨(nb T hT j).val + 1, hn⟩ ⟨a.val, by omega⟩ h d else 0) : ℝ) : EReal) := by
      rw [pendF_rw, dif_pos hj, hF T hT, hF T hT, dif_pos (by simp only [nb]; omega)]
      have en : nb T hT ⟨j.val + 1, hj⟩ = ⟨(nb T hT j).val + 1, by simp only [nb]; omega⟩ := Fin.ext (by simp only [nb]; omega)
      rw [en]
    rw [← e]
    by_cases h31 : T + 1 ≤ 31
    · rw [if_pos h31]
      exact outF_lo (pendF (F T)) (F (T + 1)) ⟨(rw4 j a).val, by simp only [rw4]; omega⟩ (ln8 h d)
    · rw [if_neg h31, show T = 31 by omega]
  · have hj3 : j = 3 := Fin.ext (by show j.val = 3; omega)
    subst hj3
    have e : pendF (F T) (ix2 (rw4 3 a) (ln8 h d)) = ((f (nb T hT 3) ⟨128 + a.val, by omega⟩ h d : ℝ) : EReal) := by
      rw [pendF_rw, dif_neg (by decide), add_zero, hF T hT]
    rw [← e]
    by_cases h31 : T + 1 ≤ 31
    · have h3 : (nb T hT 3).val = 4 * T + 3 := rfl
      rw [if_pos h31, outF_hi, hF (T + 1) h31, dif_pos (by omega)]
      have en : nb (T + 1) h31 0 = ⟨(nb T hT 3).val + 1, by omega⟩ := Fin.ext (by show 4 * (T + 1) + 0 = 4 * T + 3 + 1; omega)
      rw [en]
    · have h3 : (nb T hT 3).val = 4 * T + 3 := rfl
      rw [if_neg h31, dif_neg (by omega), EReal.coe_zero, add_zero, show T = 31 by omega]

theorem dkO_at (H : Host.Holds X m c) (T : ℕ) (hT : T ≤ 31) (j : Fin 4) (a : Fin 128) (h : Fin 8) (d : Fin 64) :
    dkO m c (T + 1) (ix2 (rw4 j a) (ln8 h d)) = ((X.dK (nb T hT j) a h d : ℝ) : EReal) := by
  have e := carry_at (fun T => FKt m c (pt T)) X.fK (fun T hT j b h d => FKt_at H T hT j b h d) T hT j a h d
  unfold dkO
  rw [if_neg (by omega)]
  exact e

theorem dvO_at (H : Host.Holds X m c) (T : ℕ) (hT : T ≤ 31) (j : Fin 4) (a : Fin 128) (h : Fin 8) (d : Fin 64) :
    dvO m c (T + 1) (ix2 (rw4 j a) (ln8 h d)) = ((X.dV (nb T hT j) a h d : ℝ) : EReal) := by
  have e := carry_at (fun T => FVt m c (pt T)) X.fV (fun T hT j b h d => FVt_at H T hT j b h d) T hT j a h d
  unfold dvO
  rw [if_neg (by omega)]
  exact e

/-- A sum over blocks, as a sum over the numbers below 128. -/
def upto (f : Fin 128 → ℝ) (N : ℕ) : ℝ := ∑ i ∈ Finset.range N, if hi : i < 128 then f ⟨i, hi⟩ else 0

theorem upto_step (f : Fin 128 → ℝ) (T : ℕ) (hT : T ≤ 31) :
    upto f (4 * (T + 1)) = upto f (4 * T) + f (nb T hT 0) + f (nb T hT 1) + f (nb T hT 2) + f (nb T hT 3) := by
  show upto f (4 * T + 3 + 1) = _
  unfold upto
  rw [Finset.sum_range_succ, Finset.sum_range_succ, Finset.sum_range_succ, Finset.sum_range_succ,
    dif_pos (by omega), dif_pos (by omega), dif_pos (by omega), dif_pos (by omega)]
  rfl

theorem upto_all (f : Fin 128 → ℝ) : upto f 128 = ∑ n, f n := by
  unfold upto
  rw [Finset.sum_range]
  exact Finset.sum_congr rfl fun i _ => dif_pos i.isLt

theorem dbO_step (H : Host.Holds X m c) (T : ℕ) (hT : T ≤ 31) (y : S8x128x256.Idx → EReal) (h : Fin 8) (a : Fin 128) (b : Fin 256)
    (hy : y (ix3 h a b) = ((upto (fun n => X.dS n h a b) (4 * T) : ℝ) : EReal)) :
    dbF y (DSt m c (pt T)) (ix3 h a b) = ((upto (fun n => X.dS n h a b) (4 * (T + 1)) : ℝ) : EReal) := by
  show y (ix3 h a b) + DSt m c (pt T) 0 (ix3 h a b) + DSt m c (pt T) 1 (ix3 h a b) + DSt m c (pt T) 2 (ix3 h a b) + DSt m c (pt T) 3 (ix3 h a b) = _
  rw [hy, DSt_at H T hT, DSt_at H T hT, DSt_at H T hT, DSt_at H T hT, upto_step _ T hT]
  simp only [EReal.coe_add]

theorem dbO_at (H : Host.Holds X m c) (h : Fin 8) (a : Fin 128) (b : Fin 256) (T : ℕ) (hT : T ≤ 31) :
    dbO m c T (ix3 h a b) = ((upto (fun n => X.dS n h a b) (4 * (T + 1)) : ℝ) : EReal) := by
  induction T with
  | zero => exact dbO_step H 0 hT zero8 h a b (by show (0 : EReal) = _; rw [show upto (fun n => X.dS n h a b) (4 * 0) = 0 from rfl, EReal.coe_zero])
  | succ T ih =>
    show (if T + 1 ≤ 31 then dbF (dbO m c T) (DSt m c (pt (T + 1))) else dbO m c T) (ix3 h a b) = _
    rw [if_pos hT]
    exact dbO_step H (T + 1) hT _ h a b (ih (by omega))

/-! ## The whole arrays -/

theorem tiled_row (f : ℕ → Arr) (g : Fin 128 → Fin 128 → Fin 8 → Fin 64 → ℝ)
    (hf : ∀ T (hT : T ≤ 31) j a h d, f T (ix2 (rw4 j a) (ln8 h d)) = ((g (nb T hT j) a h d : ℝ) : EReal))
    (n a : Fin 128) (h : Fin 8) (d : Fin 64) : tiled f (ix2 (row n a) (ln8 h d)) = ((g n a h d : ℝ) : EReal) := by
  have hT : n.val / 4 ≤ 31 := by omega
  have en : nb (n.val / 4) hT ⟨n.val % 4, by omega⟩ = n := Fin.ext (by simp only [nb]; omega)
  rw [tiled_at f (ix2 (row n a) (ln8 h d)) (ix2 (rw4 ⟨n.val % 4, by omega⟩ a) (ln8 h d)) (n.val / 4)
    (by show n.val * 128 + a.val = n.val / 4 * 512 + (128 * (n.val % 4) + a.val); omega) rfl, hf _ hT, en]

theorem kQ_at (H : Host.Holds X m c) (n a : Fin 128) (h : Fin 8) (d : Fin 64) :
    ((dats m 0 c).arrAt 9 cfg0.N : S16384x512.Idx → EReal) (ix2 (row n a) (ln8 h d)) = ((X.dQ n a h d : ℝ) : EReal) := by
  rw [arr9]
  exact tiled_row (dqO m c) X.dQ (fun T hT j a h d => dqO_at H T hT j a h d) n a h d

theorem kK_at (H : Host.Holds X m c) (n a : Fin 128) (h : Fin 8) (d : Fin 64) :
    ((dats m 0 c).arrAt 10 cfg0.N : S16384x512.Idx → EReal) (ix2 (row n a) (ln8 h d)) = ((X.dK n a h d : ℝ) : EReal) := by
  rw [arr10]
  exact tiled_row (fun T => dkO m c (T + 1)) X.dK (fun T hT j a h d => dkO_at H T hT j a h d) n a h d

theorem kV_at (H : Host.Holds X m c) (n a : Fin 128) (h : Fin 8) (d : Fin 64) :
    ((dats m 0 c).arrAt 11 cfg0.N : S16384x512.Idx → EReal) (ix2 (row n a) (ln8 h d)) = ((X.dV n a h d : ℝ) : EReal) := by
  rw [arr11]
  exact tiled_row (fun T => dvO m c (T + 1)) X.dV (fun T hT j a h d => dvO_at H T hT j a h d) n a h d

theorem kB_at (H : Host.Holds X m c) (h : Fin 8) (a : Fin 128) (b : Fin 256) :
    ((dats m 0 c).arrAt 12 cfg0.N : S8x128x256.Idx → EReal) (ix3 h a b) = ((X.dB h a b : ℝ) : EReal) := by
  rw [arr12, dbO_at H h a b 31 le_rfl, upto_all]
  rfl

end Cert.KernelIdeal.Run

end
-- ==== Proof.Finite.lean ====
/- The precondition says that every entry of the six argument arrays is a real number: those are the reals the two
   programs' results are stated of. -/
module

public import proofs.«01_k».proof.Defs
public import proofs.«01_k».proof.Proof.Gen.Pre_finite
public import proofs.«01_k».proof.Proof.Host

@[expose] public section

set_option maxRecDepth 16384

noncomputable section

namespace Cert.KernelIdeal.Finite

open Idealize.ShloMosaic Idealize.ShloMosaic.TcCoe Idealize.SL.Sem
open Cert.Spec

/-- An entry whose magnitude is below the infinite one is a real. -/
theorem real_of_below (x : EReal) (h : Ideal.cmp CmpFPredicate.olt (max x (-x)) (Ideal.ofBits .f32 0x7F800000#32) = 1#1) :
    x = ((x.toReal : ℝ) : EReal) := by
  rw [ofBits_pinf] at h
  have hlt : max x (-x) < ⊤ := by
    by_contra hn
    simp [Ideal.cmp, hn] at h
  rw [max_lt_iff] at hlt
  refine (EReal.coe_toReal hlt.1.ne ?_).symm
  rintro rfl
  simp at hlt

/-- The reals of six arrays. -/
def inp (q k v : A4) (β : AB) (g : A4) (l : A3) : Inp where
  q r h d := (q (ix4 0 r h d)).toReal
  k r h d := (k (ix4 0 r h d)).toReal
  v r h d := (v (ix4 0 r h d)).toReal
  β h a b := (β (ix3 h a b)).toReal
  g r h d := (g (ix4 0 r h d)).toReal
  l r h := (l (ix3 0 r h)).toReal

theorem is_of_fn [Cert.Pre_finite.Facts] (q k v : A4) (β : AB) (g : A4) (l : A3)
    (h0 : (Cert.Pre_finite.fn (F := Ideal) q k v β g l).1 = fun _ => 1#1)
    (h1 : (Cert.Pre_finite.fn (F := Ideal) q k v β g l).2.1 = fun _ => 1#1)
    (h2 : (Cert.Pre_finite.fn (F := Ideal) q k v β g l).2.2.1 = fun _ => 1#1)
    (h3 : (Cert.Pre_finite.fn (F := Ideal) q k v β g l).2.2.2.1 = fun _ => 1#1)
    (h4 : (Cert.Pre_finite.fn (F := Ideal) q k v β g l).2.2.2.2.1 = fun _ => 1#1)
    (h5 : (Cert.Pre_finite.fn (F := Ideal) q k v β g l).2.2.2.2.2 = fun _ => 1#1) : Is (inp q k v β g l) q k v β g l where
  q r h d := real_of_below _ (congrFun h0 (ix4 0 r h d))
  k r h d := real_of_below _ (congrFun h1 (ix4 0 r h d))
  v r h d := real_of_below _ (congrFun h2 (ix4 0 r h d))
  β h a b := real_of_below _ (congrFun h3 (ix3 h a b))
  g r h d := real_of_below _ (congrFun h4 (ix4 0 r h d))
  l r h := real_of_below _ (congrFun h5 (ix3 0 r h))

/-- Under the precondition a device's arrays hold reals. -/
theorem holds (m : (ℓ : Loc nD τ sig) → Buf (Elt Ideal) ℓ) (H : @Cert.Pre_KernelIdeal_finite Cert.Pre_finite.Gen.facts m) (c : Dev nD) : ∃ X : Inp, Host.Holds X m c :=
  letI := Cert.Pre_finite.Gen.facts
  ⟨_, is_of_fn _ _ _ _ _ _ (H c).1 (H c).2.1 (H c).2.2.1 (H c).2.2.2.1 (H c).2.2.2.2.1 (H c).2.2.2.2.2⟩

end Cert.KernelIdeal.Finite

end
-- ==== Proof.Join.lean ====
/- The kernel's arrays and the reference's are the same reals at every index, so the two programs end with equal results. -/
module

public import proofs.«01_k».proof.Defs
public import proofs.«01_k».proof.Proof.Gen.ReferenceIdeal.Run
public import proofs.«01_k».proof.Proof.RefB
public import proofs.«01_k».proof.Proof.Whole
public import proofs.«01_k».proof.Proof.Finite
public import Idealize.ShloMosaic.Lib.Claim

@[expose] public section

set_option maxRecDepth 16384

noncomputable section

namespace Cert.Join

open Idealize.ShloMosaic Idealize.ShloMosaic.TcCoe Idealize.SL.Sem Idealize.ShloMosaic.StableHlo
open Cert.Spec Cert.KernelIdeal.Run

/-- Two arrays of rows that agree at every block, position, head and lane are equal. -/
theorem rows_ext (A B : Cert.KernelIdeal.S16384x512.Idx → EReal) (f : Fin 128 → Fin 128 → Fin 8 → Fin 64 → EReal)
    (hA : ∀ n a h d, A (ix2 (row n a) ⟨64 * h.val + d.val, by omega⟩) = f n a h d)
    (hB : ∀ n a h d, B (ix2 (row n a) ⟨64 * h.val + d.val, by omega⟩) = f n a h d) : A = B := by
  funext i
  obtain ⟨n, a, h, d, e⟩ : ∃ (n a : Fin 128) (h : Fin 8) (d : Fin 64), i = ix2 (row n a) ⟨64 * h.val + d.val, by omega⟩ := by
    have h0 : (i 0).val < 16384 := (i 0).isLt
    have h1 : (i 1).val < 512 := (i 1).isLt
    refine ⟨⟨(i 0).val / 128, by omega⟩, ⟨(i 0).val % 128, by omega⟩, ⟨(i 1).val / 64, by omega⟩, ⟨(i 1).val % 64, by omega⟩, ?_⟩
    funext x
    apply Fin.ext
    fin_cases x
    · show (i 0).val = (i 0).val / 128 * 128 + (i 0).val % 128
      omega
    · show (i 1).val = 64 * ((i 1).val / 64) + (i 1).val % 64
      omega
  rw [e, hA, hB]

/-- The same of the bias' gradient. -/
theorem bias_ext (A B : Cert.KernelIdeal.S8x128x256.Idx → EReal) (f : Fin 8 → Fin 128 → Fin 256 → EReal)
    (hA : ∀ h a b, A (ix3 h a b) = f h a b) (hB : ∀ h a b, B (ix3 h a b) = f h a b) : A = B := by
  funext i
  have e : i = ix3 (i 0) (i 1) (i 2) := by
    funext x
    fin_cases x <;> rfl
  rw [e]
  exact (hA _ _ _).trans (hB _ _ _).symm

variable (m : (ℓ : Loc Cert.KernelIdeal.nD Cert.KernelIdeal.τ Cert.KernelIdeal.sig) → Buf (Elt Ideal) ℓ) (ρ : Dev Cert.KernelIdeal.nD → PrngReg)

/-- What the kernel's run leaves: its four arrays, and the arguments as they were. -/
theorem kernel_run : θ_run (Cert.KernelIdeal.defs (F := Ideal)) (onTc (τ := Cert.KernelIdeal.τ) (Cert.KernelIdeal.main (F := Ideal))) ⟨m, fun _ => 0, ρ⟩
    (fun r => ∀ c : Dev Cert.KernelIdeal.nD,
      r.2.mem ((c.tc : Thread Cert.KernelIdeal.nD Cert.KernelIdeal.τ).loc Cert.KernelIdeal.main_v88_0) = (dats m 0 c).arrAt 9 Cert.KernelIdeal.cfg0.N
      ∧ r.2.mem ((c.tc : Thread Cert.KernelIdeal.nD Cert.KernelIdeal.τ).loc Cert.KernelIdeal.main_v88_1) = (dats m 0 c).arrAt 10 Cert.KernelIdeal.cfg0.N
      ∧ r.2.mem ((c.tc : Thread Cert.KernelIdeal.nD Cert.KernelIdeal.τ).loc Cert.KernelIdeal.main_v88_2) = (dats m 0 c).arrAt 11 Cert.KernelIdeal.cfg0.N
      ∧ r.2.mem ((c.tc : Thread Cert.KernelIdeal.nD Cert.KernelIdeal.τ).loc Cert.KernelIdeal.main_v88_3) = (dats m 0 c).arrAt 12 Cert.KernelIdeal.cfg0.N
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) := by
  refine (θ_run _ _ _).mono (fun r h c => ?_) (θ_run_and (run_main m ρ) (Cert.KernelIdeal.Gen.frame_of m ρ (dats m) (A_eq m) (run_main m ρ)))
  exact ⟨h.1.out_eq c 9, h.1.out_eq c 10, h.1.out_eq c 11, h.1.out_eq c 12, h.2 c⟩

/-- What the reference's run leaves. -/
theorem reference_run (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩
    (fun r => ∀ c : Dev Cert.ReferenceIdeal.nD,
      r.2.mem ((c.tc : Thread Cert.ReferenceIdeal.nD Cert.ReferenceIdeal.τ).loc Cert.ReferenceIdeal.main_v171) = Cert.ReferenceIdeal.Val.outQ (launchContents m' c)
      ∧ r.2.mem ((c.tc : Thread Cert.ReferenceIdeal.nD Cert.ReferenceIdeal.τ).loc Cert.ReferenceIdeal.main_v173) = Cert.ReferenceIdeal.Val.outK (launchContents m' c)
      ∧ r.2.mem ((c.tc : Thread Cert.ReferenceIdeal.nD Cert.ReferenceIdeal.τ).loc Cert.ReferenceIdeal.main_v175) = Cert.ReferenceIdeal.Val.outV (launchContents m' c)
      ∧ r.2.mem ((c.tc : Thread Cert.ReferenceIdeal.nD Cert.ReferenceIdeal.τ).loc Cert.ReferenceIdeal.main_v136) = Cert.ReferenceIdeal.Val.outB (launchContents m' c)
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)) :=
  Cert.ReferenceIdeal.Value.run (F := Ideal) m' ρ'

/-- The reference's arguments hold the reals the kernel's hold. -/
theorem holds_reference {X : Inp} {c : Dev Cert.KernelIdeal.nD} (H : Cert.KernelIdeal.Host.Holds X m c)
    (m' : (ℓ : Loc Cert.ReferenceIdeal.nD Cert.ReferenceIdeal.τ Cert.ReferenceIdeal.sig) → Buf (Elt Ideal) ℓ)
    (he : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Val.Holds X (launchContents m' c) where
  q r h d := (congrFun he.1 (ix4 0 r h d)).trans (H.q r h d)
  k r h d := (congrFun he.2.1 (ix4 0 r h d)).trans (H.k r h d)
  v r h d := (congrFun he.2.2.1 (ix4 0 r h d)).trans (H.v r h d)
  β h a b := (congrFun he.2.2.2.1 (ix3 h a b)).trans (H.β h a b)
  g r h d := (congrFun he.2.2.2.2.1 (ix4 0 r h d)).trans (H.g r h d)
  l r h := (congrFun he.2.2.2.2.2 (ix3 0 r h)).trans (H.l r h)

/-- The value claim: from the same real arguments both programs end with equal results. -/
theorem values : @Cert.algebraic_KernelIdeal_ReferenceIdeal_pre_finite Cert.KernelIdeal.Gen.facts Cert.ReferenceIdeal.Gen.facts Cert.Pre_finite.Gen.facts := by
  intro m ρ m' ρ' hp he
  refine ⟨fun c => (dats m 0 c).arrAt 9 Cert.KernelIdeal.cfg0.N, fun c => (dats m 0 c).arrAt 10 Cert.KernelIdeal.cfg0.N,
    fun c => (dats m 0 c).arrAt 11 Cert.KernelIdeal.cfg0.N, fun c => (dats m 0 c).arrAt 12 Cert.KernelIdeal.cfg0.N, kernel_run m ρ, ?_⟩
  refine (θ_run _ _ _).mono (fun r h c => ?_) (reference_run m' ρ')
  obtain ⟨X, H⟩ := Cert.KernelIdeal.Finite.holds m hp c
  have HR := holds_reference m H m' (he c)
  obtain ⟨h0, h1, h2, h3, hrest⟩ := h c
  exact ⟨h0.trans (rows_ext _ _ _ (Cert.ReferenceIdeal.Val.outQ_at HR) (kQ_at H)),
    h1.trans (rows_ext _ _ _ (Cert.ReferenceIdeal.Val.outK_at HR) (kK_at H)),
    h2.trans (rows_ext _ _ _ (Cert.ReferenceIdeal.Val.outV_at HR) (kV_at H)),
    h3.trans (bias_ext _ _ _ (Cert.ReferenceIdeal.Val.outB_at HR) (kB_at H)), hrest⟩

end Cert.Join

end
-- ==== Proof.FrameK.lean ====
/- The frame of the launched program at any values: it terminates, no argument array changes and every counter
   ends at zero.  Nothing is said of the outputs' contents, so one triple serves every grid point: the body finds its
   inputs at their blocks and everything else at some contents, and hands it all back so. -/
module

public import proofs.«01_k».proof.Proof.Gen.Kernel.Frame
public import proofs.«01_k».proof.Proof.Gen.Kernel.Skeleton
public import Idealize.ShloMosaic.Lib.Claim

@[expose] public section

set_option maxRecDepth 16384

noncomputable section

namespace Cert.Kernel.Run

open Cert.Kernel.Gen
open Idealize.ShloMosaic TcCoe Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 33 = 0 :=
  (fun t => by
    have ht : t.val < 33 := Nat.lt_of_lt_of_eq t.isLt N_0
    have e0 : (grid0.coords t 0).val = t.val / 33 % 1 := Pipeline.Grid.coords_val t 0 (by decide) rfl
    have e1 : (grid0.coords t 1).val = t.val / 1 % 33 := Pipeline.Grid.coords_val t 1 (by decide) rfl
    simp only [cond0_0, k0_cond1, e0, e1]
    word_cmp
   : ∀ t : Fin grid0.N, cond0_0 (grid0.coords t) ↔ t.val % 33 = 0)

/-- The condition of the body's `scf.if` 1 from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the first point only — by arithmetic of the point. -/
theorem hcond0_1 : ∀ t : Fin cfg0.N, cond0_1 (grid0.coords t) ↔ t.val % 33 = 0 :=
  (fun t => by
    have ht : t.val < 33 := Nat.lt_of_lt_of_eq t.isLt N_0
    have e0 : (grid0.coords t 0).val = t.val / 33 % 1 := Pipeline.Grid.coords_val t 0 (by decide) rfl
    have e1 : (grid0.coords t 1).val = t.val / 1 % 33 := Pipeline.Grid.coords_val t 1 (by decide) rfl
    simp only [cond0_1, e0, e1]
    word_cmp
   : ∀ t : Fin grid0.N, cond0_1 (grid0.coords t) ↔ t.val % 33 = 0)

/-- The condition of the body's `scf.if` 2 from the grid coordinates (the skeleton's scalar
    chain substituted). -/
abbrev cond0_2 (i : grid0.Coords) : Prop := k0_cond3 i = 1#1
/-- It holds at the points before point 32 — decided over the grid. -/
theorem hcond0_2 : ∀ t : Fin cfg0.N, cond0_2 (grid0.coords t) ↔ t.val < 32 :=
  (by decide +kernel : ∀ t : Fin grid0.N, cond0_2 (grid0.coords t) ↔ t.val < 32)

/-- The condition of the body's `scf.if` 3 from the grid coordinates (the skeleton's scalar
    chain substituted). -/
abbrev cond0_3 (i : grid0.Coords) : Prop := k0_cond4 i = 1#1
/-- It holds at the last point only — by arithmetic of the point. -/
theorem hcond0_3 : ∀ t : Fin cfg0.N, cond0_3 (grid0.coords t) ↔ t.val % 33 = 32 :=
  (fun t => by
    have ht : t.val < 33 := Nat.lt_of_lt_of_eq t.isLt N_0
    have e0 : (grid0.coords t 0).val = t.val / 33 % 1 := Pipeline.Grid.coords_val t 0 (by decide) rfl
    have e1 : (grid0.coords t 1).val = t.val / 1 % 33 := Pipeline.Grid.coords_val t 1 (by decide) rfl
    simp only [cond0_3, k0_cond4, e0, e1]
    word_cmp
   : ∀ t : Fin grid0.N, cond0_3 (grid0.coords t) ↔ t.val % 33 = 32)

/-! ## The kernel body on any staging memrefs: a subtype the run finds -/

/-- Each window's current staging memref at point `t`, spelled as the pipeline passes it (`bodyAt0`), and its wholeness. -/
abbrev ms0_0 (t : Fin cfg0.N) : Memref sig .tc .vmem S512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x128x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x512 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x512 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x512 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S8x128x256 .f32 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S512x512 .f32 := Memref.whole cc0_scratch0
abbrev scM0_1 : Memref sig .tc .vmem S512x512 .f32 := Memref.whole cc0_scratch1
abbrev scM0_2 : Memref sig .tc .vmem S8x128x256 .f32 := Memref.whole cc0_scratch2
abbrev scM0_3 : Memref sig .tc .vmem S8x128x256 .f32 := Memref.whole cc0_scratch3
abbrev scM0_4 : Memref sig .tc .vmem S8x128x256 .bf16 := Memref.whole cc0_scratch4
abbrev scM0_5 : Memref sig .tc .vmem S8x128x256 .bf16 := Memref.whole cc0_scratch5

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-! ## The body, at whatever point -/

/-- The body's buffers on core `c`: the nine inputs at the contents named, the outputs and the scratch at some contents. -/
def Held (c : Dev nD) (a0 : Memref sig .tc .vmem S512x512 .bf16) (a1 : Memref sig .tc .vmem S128x512 .bf16) (a2 : Memref sig .tc .vmem S512x512 .bf16) (a3 : Memref sig .tc .vmem S128x512 .bf16) (a4 : Memref sig .tc .vmem S512x512 .bf16) (a5 : Memref sig .tc .vmem S8x128x256 .f32) (a6 : Memref sig .tc .vmem S512x512 .f32) (a7 : Memref sig .tc .vmem S512x512 .bf16) (a8 : Memref sig .tc .vmem S512x512 .f32) (a9 : Memref sig .tc .vmem S512x512 .bf16) (a10 : Memref sig .tc .vmem S512x512 .bf16) (a11 : Memref sig .tc .vmem S512x512 .bf16) (a12 : Memref sig .tc .vmem S8x128x256 .f32) (a13 : Memref sig .tc .vmem S512x512 .f32) (a14 : Memref sig .tc .vmem S512x512 .f32) (a15 : Memref sig .tc .vmem S8x128x256 .f32) (a16 : Memref sig .tc .vmem S8x128x256 .f32) (a17 : Memref sig .tc .vmem S8x128x256 .bf16) (a18 : Memref sig .tc .vmem S8x128x256 .bf16)
    (x0 : Vec F S512x512 .bf16) (x1 : Vec F S128x512 .bf16) (x2 : Vec F S512x512 .bf16) (x3 : Vec F S128x512 .bf16) (x4 : Vec F S512x512 .bf16) (x5 : Vec F S8x128x256 .f32) (x6 : Vec F S512x512 .f32) (x7 : Vec F S512x512 .bf16) (x8 : Vec F S512x512 .f32) : sProp 𝕄 :=
  iprop(owns (c : Thread nD τ) a0 fullShare x0
    ∗ owns (c : Thread nD τ) a1 fullShare x1
    ∗ owns (c : Thread nD τ) a2 fullShare x2
    ∗ owns (c : Thread nD τ) a3 fullShare x3
    ∗ owns (c : Thread nD τ) a4 fullShare x4
    ∗ owns (c : Thread nD τ) a5 fullShare x5
    ∗ owns (c : Thread nD τ) a6 fullShare x6
    ∗ owns (c : Thread nD τ) a7 fullShare x7
    ∗ owns (c : Thread nD τ) a8 fullShare x8
    ∗ (∃ d, owns (c : Thread nD τ) a9 fullShare d)
    ∗ (∃ d, owns (c : Thread nD τ) a10 fullShare d)
    ∗ (∃ d, owns (c : Thread nD τ) a11 fullShare d)
    ∗ (∃ d, owns (c : Thread nD τ) a12 fullShare d)
    ∗ (∃ d, owns (c : Thread nD τ) a13 fullShare d)
    ∗ (∃ d, owns (c : Thread nD τ) a14 fullShare d)
    ∗ (∃ d, owns (c : Thread nD τ) a15 fullShare d)
    ∗ (∃ d, owns (c : Thread nD τ) a16 fullShare d)
    ∗ (∃ d, owns (c : Thread nD τ) a17 fullShare d)
    ∗ (∃ d, owns (c : Thread nD τ) a18 fullShare d))

/-- The three kinds of point: the first, those between, the last. -/
def Kind (i : grid0.Coords) : Prop :=
  (cond0_0 i ∧ cond0_1 i ∧ cond0_2 i ∧ ¬cond0_3 i) ∨ (¬cond0_0 i ∧ ¬cond0_1 i ∧ cond0_2 i ∧ ¬cond0_3 i)
    ∨ (¬cond0_0 i ∧ ¬cond0_1 i ∧ ¬cond0_2 i ∧ cond0_3 i)

theorem kind_of (t : Fin cfg0.N) : Kind (grid0.coords t) := by
  have hN : t.val < 33 := lt_of_lt_of_eq t.isLt (show cfg0.N = 33 from N_0)
  simp only [Kind, hcond0_0, hcond0_1, hcond0_2, hcond0_3]
  omega

set_option maxHeartbeats 4000000 in
/-- The body keeps what it holds, at a point of any kind. -/
theorem body_keeps (c : Dev nD) (i : grid0.Coords) (a0 : Memref sig .tc .vmem S512x512 .bf16) (w0 : a0.IsWhole) (a1 : Memref sig .tc .vmem S128x512 .bf16) (w1 : a1.IsWhole) (a2 : Memref sig .tc .vmem S512x512 .bf16) (w2 : a2.IsWhole) (a3 : Memref sig .tc .vmem S128x512 .bf16) (w3 : a3.IsWhole) (a4 : Memref sig .tc .vmem S512x512 .bf16) (w4 : a4.IsWhole) (a5 : Memref sig .tc .vmem S8x128x256 .f32) (w5 : a5.IsWhole) (a6 : Memref sig .tc .vmem S512x512 .f32) (w6 : a6.IsWhole) (a7 : Memref sig .tc .vmem S512x512 .bf16) (w7 : a7.IsWhole) (a8 : Memref sig .tc .vmem S512x512 .f32) (w8 : a8.IsWhole) (a9 : Memref sig .tc .vmem S512x512 .bf16) (w9 : a9.IsWhole) (a10 : Memref sig .tc .vmem S512x512 .bf16) (w10 : a10.IsWhole) (a11 : Memref sig .tc .vmem S512x512 .bf16) (w11 : a11.IsWhole) (a12 : Memref sig .tc .vmem S8x128x256 .f32) (w12 : a12.IsWhole) (a13 : Memref sig .tc .vmem S512x512 .f32) (w13 : a13.IsWhole) (a14 : Memref sig .tc .vmem S512x512 .f32) (w14 : a14.IsWhole) (a15 : Memref sig .tc .vmem S8x128x256 .f32) (w15 : a15.IsWhole) (a16 : Memref sig .tc .vmem S8x128x256 .f32) (w16 : a16.IsWhole) (a17 : Memref sig .tc .vmem S8x128x256 .bf16) (w17 : a17.IsWhole) (a18 : Memref sig .tc .vmem S8x128x256 .bf16) (w18 : a18.IsWhole)
    (hk : Kind i) (x0 : Vec F S512x512 .bf16) (x1 : Vec F S128x512 .bf16) (x2 : Vec F S512x512 .bf16) (x3 : Vec F S128x512 .bf16) (x4 : Vec F S512x512 .bf16) (x5 : Vec F S8x128x256 .f32) (x6 : Vec F S512x512 .f32) (x7 : Vec F S512x512 .bf16) (x8 : Vec F S512x512 .f32) (E : Set ℕ) (K : PUnit → sProp 𝕄) :
    iprop(Held c a0 a1 a2 a3 a4 a5 a6 a7 a8 a9 a10 a11 a12 a13 a14 a15 a16 a17 a18 x0 x1 x2 x3 x4 x5 x6 x7 x8
        ∗ (Held c a0 a1 a2 a3 a4 a5 a6 a7 a8 a9 a10 a11 a12 a13 a14 a15 a16 a17 a18 x0 x1 x2 x3 x4 x5 x6 x7 x8 -∗ K ⟨⟩))
      ⊢ wp frame (wpE (defs₀ (F := F)) Variants.none c none) E (cc0_attn_bwd_g0 i a0 w0 a1 w1 a2 w2 a3 w3 a4 w4 a5 w5 a6 w6 a7 w7 a8 w8 a9 w9 a10 w10 a11 w11 a12 w12 a13 w13 a14 w14 a15 w15 a16 w16 a17 w17 a18 w18) K := by
  rw [cc0_attn_bwd_g0_eq_skeleton]; unfold cc0_attn_bwd_g0_skel
  unfold Held owns
  obtain ⟨hc0, hc1, hc2, hc3⟩ | ⟨hc0, hc1, hc2, hc3⟩ | ⟨hc0, hc1, hc2, hc3⟩ := hk
  all_goals
    iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩⟩, Hk⟩
    obtain rfl := w0.eq_unread e0; obtain rfl := w1.eq_unread e1; obtain rfl := w2.eq_unread e2; obtain rfl := w3.eq_unread e3; obtain rfl := w4.eq_unread e4; obtain rfl := w5.eq_unread e5; obtain rfl := w6.eq_unread e6; obtain rfl := w7.eq_unread e7; obtain rfl := w8.eq_unread e8
    sl_exec (disch := first | sl_exact hc0 | sl_exact hc1 | sl_exact hc2 | sl_exact hc3)
    sl_step
    iapply Hk
    isplitl [H0]
    · iexists _; isplitr; · ipureintro; exact w0.read_unread _
      iexact H0
    isplitl [H1]
    · iexists _; isplitr; · ipureintro; exact w1.read_unread _
      iexact H1
    isplitl [H2]
    · iexists _; isplitr; · ipureintro; exact w2.read_unread _
      iexact H2
    isplitl [H3]
    · iexists _; isplitr; · ipureintro; exact w3.read_unread _
      iexact H3
    isplitl [H4]
    · iexists _; isplitr; · ipureintro; exact w4.read_unread _
      iexact H4
    isplitl [H5]
    · iexists _; isplitr; · ipureintro; exact w5.read_unread _
      iexact H5
    isplitl [H6]
    · iexists _; isplitr; · ipureintro; exact w6.read_unread _
      iexact H6
    isplitl [H7]
    · iexists _; isplitr; · ipureintro; exact w7.read_unread _
      iexact H7
    isplitl [H8]
    · iexists _; isplitr; · ipureintro; exact w8.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    iexists _, _; isplitr; swap; · iexact H18
    ipureintro; rfl

/-! ## The pipeline's proof data -/

variable (m : (ℓ : Loc nD τ sig) → Buf (Elt F) ℓ) (ρ : Dev nD → PrngReg)

/-- The four output windows, of whose contents nothing is said. -/
def outs (w : Fin 13) : Bool := decide (9 ≤ w.val)

/-- The arrays as the launch finds them; after a point each input's buffer at its block, an output's unnamed; the
    scratch at some contents throughout; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
  Φ _ := Pipeline.ΦA spec0 c
  q w := Pipeline.shareOf spec0 w
  owed _ := 0

theorem entry_eq (c : Dev nD) (w : Fin cfg0.W) : (dats m 0 c).A w = V m c (Pipeline.arrRef spec0 w) := by
  dsimp only [dats]

/-- Input 0: it holds its block when a point begins and when it ends. -/
theorem keeps0 (c : Dev nD) (t : Fin cfg0.N) :
    (∀ d, (dats m 0 c).before 0 t d = iblk m c 0 t)
      ∧ (dats m 0 c).leavesExact 0 t = owns (c : Thread nD τ) (ms0_0 t) fullShare (iblk m c 0 t) :=
  have e : ∀ s, (dats m 0 c).after 0 s = iblk m c 0 s := fun s => by dsimp only [dats]
  ⟨before0_0_of m (dats m 0 c) (entry_eq m c 0) e t, by unfold Dat.leavesExact; rw [show cfg0.idle 0 (cfg0.grid.coords t) = false from rfl, e]⟩
/-- Input 1: it holds its block when a point begins and when it ends. -/
theorem keeps1 (c : Dev nD) (t : Fin cfg0.N) :
    (∀ d, (dats m 0 c).before 1 t d = iblk m c 1 t)
      ∧ (dats m 0 c).leavesExact 1 t = owns (c : Thread nD τ) (ms0_1 t) fullShare (iblk m c 1 t) :=
  have e : ∀ s, (dats m 0 c).after 1 s = iblk m c 1 s := fun s => by dsimp only [dats]
  ⟨before0_1_of m (dats m 0 c) (entry_eq m c 1) e t, by unfold Dat.leavesExact; rw [show cfg0.idle 1 (cfg0.grid.coords t) = false from rfl, e]⟩
/-- Input 2: it holds its block when a point begins and when it ends. -/
theorem keeps2 (c : Dev nD) (t : Fin cfg0.N) :
    (∀ d, (dats m 0 c).before 2 t d = iblk m c 2 t)
      ∧ (dats m 0 c).leavesExact 2 t = owns (c : Thread nD τ) (ms0_2 t) fullShare (iblk m c 2 t) :=
  have e : ∀ s, (dats m 0 c).after 2 s = iblk m c 2 s := fun s => by dsimp only [dats]
  ⟨before0_2_of m (dats m 0 c) (entry_eq m c 2) e t, by unfold Dat.leavesExact; rw [show cfg0.idle 2 (cfg0.grid.coords t) = false from rfl, e]⟩
/-- Input 3: it holds its block when a point begins and when it ends. -/
theorem keeps3 (c : Dev nD) (t : Fin cfg0.N) :
    (∀ d, (dats m 0 c).before 3 t d = iblk m c 3 t)
      ∧ (dats m 0 c).leavesExact 3 t = owns (c : Thread nD τ) (ms0_3 t) fullShare (iblk m c 3 t) :=
  have e : ∀ s, (dats m 0 c).after 3 s = iblk m c 3 s := fun s => by dsimp only [dats]
  ⟨before0_3_of m (dats m 0 c) (entry_eq m c 3) e t, by unfold Dat.leavesExact; rw [show cfg0.idle 3 (cfg0.grid.coords t) = false from rfl, e]⟩
/-- Input 4: it holds its block when a point begins and when it ends. -/
theorem keeps4 (c : Dev nD) (t : Fin cfg0.N) :
    (∀ d, (dats m 0 c).before 4 t d = iblk m c 4 t)
      ∧ (dats m 0 c).leavesExact 4 t = owns (c : Thread nD τ) (ms0_4 t) fullShare (iblk m c 4 t) :=
  have e : ∀ s, (dats m 0 c).after 4 s = iblk m c 4 s := fun s => by dsimp only [dats]
  ⟨before0_4_of m (dats m 0 c) (entry_eq m c 4) e t, by unfold Dat.leavesExact; rw [show cfg0.idle 4 (cfg0.grid.coords t) = false from rfl, e]⟩
/-- Input 5: it holds its block when a point begins and when it ends. -/
theorem keeps5 (c : Dev nD) (t : Fin cfg0.N) :
    (∀ d, (dats m 0 c).before 5 t d = iblk m c 5 t)
      ∧ (dats m 0 c).leavesExact 5 t = owns (c : Thread nD τ) (ms0_5 t) fullShare (iblk m c 5 t) :=
  have e : ∀ s, (dats m 0 c).after 5 s = iblk m c 5 s := fun s => by dsimp only [dats]
  ⟨before0_5_of m (dats m 0 c) (entry_eq m c 5) e t, by unfold Dat.leavesExact; rw [show cfg0.idle 5 (cfg0.grid.coords t) = false from rfl, e]⟩
/-- Input 6: it holds its block when a point begins and when it ends. -/
theorem keeps6 (c : Dev nD) (t : Fin cfg0.N) :
    (∀ d, (dats m 0 c).before 6 t d = iblk m c 6 t)
      ∧ (dats m 0 c).leavesExact 6 t = owns (c : Thread nD τ) (ms0_6 t) fullShare (iblk m c 6 t) :=
  have e : ∀ s, (dats m 0 c).after 6 s = iblk m c 6 s := fun s => by dsimp only [dats]
  ⟨before0_6_of m (dats m 0 c) (entry_eq m c 6) e t, by unfold Dat.leavesExact; rw [show cfg0.idle 6 (cfg0.grid.coords t) = false from rfl, e]⟩
/-- Input 7: it holds its block when a point begins and when it ends. -/
theorem keeps7 (c : Dev nD) (t : Fin cfg0.N) :
    (∀ d, (dats m 0 c).before 7 t d = iblk m c 7 t)
      ∧ (dats m 0 c).leavesExact 7 t = owns (c : Thread nD τ) (ms0_7 t) fullShare (iblk m c 7 t) :=
  have e : ∀ s, (dats m 0 c).after 7 s = iblk m c 7 s := fun s => by dsimp only [dats]
  ⟨before0_7_of m (dats m 0 c) (entry_eq m c 7) e t, by unfold Dat.leavesExact; rw [show cfg0.idle 7 (cfg0.grid.coords t) = false from rfl, e]⟩
/-- Input 8: it holds its block when a point begins and when it ends. -/
theorem keeps8 (c : Dev nD) (t : Fin cfg0.N) :
    (∀ d, (dats m 0 c).before 8 t d = iblk m c 8 t)
      ∧ (dats m 0 c).leavesExact 8 t = owns (c : Thread nD τ) (ms0_8 t) fullShare (iblk m c 8 t) :=
  have e : ∀ s, (dats m 0 c).after 8 s = iblk m c 8 s := fun s => by dsimp only [dats]
  ⟨before0_8_of m (dats m 0 c) (entry_eq m c 8) e t, by unfold Dat.leavesExact; rw [show cfg0.idle 8 (cfg0.grid.coords t) = false from rfl, e]⟩

/-! ## The obligation of a point -/

/-- What a point is given, -/
def given (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d))

/-- and what it gives back. -/
def back (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d))

set_option maxHeartbeats 4000000 in
theorem point_keeps (c : Dev nD) (t : Fin cfg0.N) :
    given m c t ⊢ wp frame (wpE (defs₀ (F := F)) Variants.none c none) Set.univ (bodyAt0 t) (fun _ => back m c t) := by
  unfold given back bodyAt0
  simp only [(keeps0 m c t).1, (keeps1 m c t).1, (keeps2 m c t).1, (keeps3 m c t).1, (keeps4 m c t).1, (keeps5 m c t).1, (keeps6 m c t).1, (keeps7 m c t).1, (keeps8 m c t).1, (keeps0 m c t).2, (keeps1 m c t).2, (keeps2 m c t).2, (keeps3 m c t).2, (keeps4 m c t).2, (keeps5 m c t).2, (keeps6 m c t).2, (keeps7 m c t).2, (keeps8 m c t).2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, PhiA0_eq]
  iintro ⟨⟨⟨H13, H14, H15, H16, H17, H18⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (body_keeps c (grid0.coords t) _ _ _ _ _ _ _ _ _ _ _ _ _ _ _ _ _ _ _ _ _ _ _ _ _ _ _ _ _ _ _ _ _ _ _ _ _ _ (kind_of t)
    (iblk m c 0 t) (iblk m c 1 t) (iblk m c 2 t) (iblk m c 3 t) (iblk m c 4 t) (iblk m c 5 t) (iblk m c 6 t) (iblk m c 7 t) (iblk m c 8 t) Set.univ _)
  unfold Held
  isplitl [H0 H1 H2 H3 H4 H5 H6 H7 H8 H9 H10 H11 H12 H13 H14 H15 H16 H17 H18]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexact H13
    isplitl [H14]; · iexact H14
    isplitl [H15]; · iexact H15
    isplitl [H16]; · iexact H16
    isplitl [H17]; · iexact H17
    iexact H18
  iintro ⟨H0, H1, H2, H3, H4, H5, H6, H7, H8, H9, H10, H11, H12, H13, H14, H15, H16, H17, H18⟩
  isplitl [H13 H14 H15 H16 H17 H18 Hg]
  · isplitl [H13 H14 H15 H16 H17 H18]
    · isplitl [H13]; · iexact H13
      isplitl [H14]; · iexact H14
      isplitl [H15]; · iexact H15
      isplitl [H16]; · iexact H16
      isplitl [H17]; · iexact H17
      iexact H18
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem obligation (c : Dev nD) :
    BodyObligation (dats (F := F) m 0 c) (defs₀ (F := F)) Variants.none () Set.univ outs := fun t => by
  rw [bigSep_W0, bigSep_W0,
    show defs₀ (F := F) .tc cfg0.body (cfg0.bodyArgs t (cfg0.slots t)) = bodyAt0 t from by unfold defs₀; rw [Defs.onTc_tc]]
  exact triple_restated (point_keeps m c t) rfl .rfl fun _ => .rfl

/-! ## The launch -/

set_option backward.isDefEq.respectTransparency.types false in
theorem launched : θ_run defs (onTc (τ := τ) (main (F := F))) (s₀ m ρ)
    (fun r => (Pipeline.RDat.FramePost (cfgs 0) (fun c => (dats m 0 c).toRForget outs) (V m)) r ∧ r.2.sem = fun _ => 0) :=
  Pipeline.θ_run_frame_forget_shared (Q' := _) cfgs (dats m) (0 : Fin 1) launch₀0 defs₀ Variants.none outs m ρ main
    (hbody := fun c => (obligation m c).loose) (hq := fun _ _ _ => rfl) (howed := fun _ _ => rfl) (V := V m)
    (hmain := hmain m Variants.none) (hA := entry_eq m) (hΦ := fun _ _ => rfl)

/-- The program terminates, its arguments end unchanged and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c)⟩, h.2⟩) (launched m ρ)

end Cert.Kernel.Run

end
-- ==== Proof.Two.lean ====
/- The gradient of the SwiGLU's activation, with the gate's and the value's gradients taken from it: on real arguments the
   call's array and the reference's are the same reals. -/
module

public import proofs.«01_k».proof.Defs
public import proofs.«01_k».proof.Proof.Finite
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Pre_finite2
public import Idealize.ShloMosaic.Lib.StableHlo.ReadAt
public import Idealize.ShloMosaic.Lib.Pipeline.ValueKit.Geometry
public import Idealize.ShloMosaic.Lib.Pipeline.ValueKit.Acc
public import Idealize.ShloMosaic.Lib.Pointwise
public import Idealize.ShloMosaic.Lib.Claim

@[expose] public section

set_option maxRecDepth 16384

noncomputable section

namespace Cert.Kernel2Ideal.Val

open Cert.Kernel2Ideal Cert.Kernel2Ideal.Gen Idealize.ShloMosaic TcCoe Tactic Idealize.SL.Sem

variable (m : (ℓ : Loc nD τ sig) → Buf (Elt Ideal) ℓ) (ρ : Dev nD → PrngReg) (c : Dev nD)

/-- The column of the projection that the call keeps at column `j`. -/
abbrev src (j : Fin 5632) : Fin 5632 := ⟨2816 * (j.val / 1408 % 2) + 1408 * (j.val / 1408 / 2) + j.val % 1408, by omega⟩

abbrev us : S16384x5632.Idx → EReal := m (c, Proc.devRef .tc main_arg0)
abbrev ws : S2816x1024.Idx → EReal := m (c, Proc.devRef .tc main_arg1)
abbrev ds : S16384x1024.Idx → EReal := m (c, Proc.devRef .tc main_arg2)

theorem e0 : ∀ t : Fin cfg0.N, win0_0.index t = ![t.val / 2, 0] := (by decide +kernel : ∀ t : Fin grid0.N, win0_0.index t = ![t.val / 2, 0])
theorem e1 : ∀ t : Fin cfg0.N, win0_1.index t = ![t.val % 2, 0] := (by decide +kernel : ∀ t : Fin grid0.N, win0_1.index t = ![t.val % 2, 0])
theorem e2 : ∀ t : Fin cfg0.N, win0_2.index t = ![t.val / 2, t.val % 2] := (by decide +kernel : ∀ t : Fin grid0.N, win0_2.index t = ![t.val / 2, t.val % 2])
theorem e3 : ∀ t : Fin cfg0.N, win0_3.index t = ![t.val / 2, t.val % 2] := (by decide +kernel : ∀ t : Fin grid0.N, win0_3.index t = ![t.val / 2, t.val % 2])

theorem pay_gate (x : Vec Ideal S512x1024 .f32) (w : Vec Ideal S1408x1024 .bf16) (u : Vec Ideal S512x2816 .bf16) (a : Fin 512) (b : Fin 1408) :
    k0_pay1 (F := Ideal) x w u (ix2 a ⟨b.val, by omega⟩) = (∑ l : Fin 1024, x (ix2 a l) * w (ix2 b l)) * u (ix2 a ⟨1408 + b.val, by omega⟩)
      * (Ideal.logistic (u (ix2 a ⟨b.val, by omega⟩)) * (1 + u (ix2 a ⟨b.val, by omega⟩) * (1 - Ideal.logistic (u (ix2 a ⟨b.val, by omega⟩))))) := by
  unfold k0_pay1
  pointwise

theorem pay_up (x : Vec Ideal S512x1024 .f32) (w : Vec Ideal S1408x1024 .bf16) (u : Vec Ideal S512x2816 .bf16) (a : Fin 512) (b : Fin 1408) :
    k0_pay1 (F := Ideal) x w u (ix2 a ⟨1408 + b.val, by omega⟩) = (∑ l : Fin 1024, x (ix2 a l) * w (ix2 b l))
      * (u (ix2 a ⟨b.val, by omega⟩) * Ideal.logistic (u (ix2 a ⟨b.val, by omega⟩))) := by
  unfold k0_pay1
  pointwise

theorem w_at (k : Fin 2816) (l : Fin 1024) : (V m c main_v6 : S2816x1024.Idx → EReal) (ix2 k l) = ws m c (ix2 k l) := by
  unfold V
  after_reads_at

theorem d_at (r : Fin 16384) (l : Fin 1024) : (V m c main_arg2 : S16384x1024.Idx → EReal) (ix2 r l) = ds m c (ix2 r l) := by
  unfold V
  after_reads_at

theorem u_at (r : Fin 16384) (j : Fin 5632) : (V m c main_v5 : S16384x5632.Idx → EReal) (ix2 r j) = us m c (ix2 r (src j)) := by
  unfold V
  after_reads_at
  repeat' split
  all_goals
    refine congrArg (us m c) ?_
    funext i
    apply Fin.ext
    fin_cases i <;> simp <;> omega

/-- The columns of the gate and of the value behind a column of the half `q`. -/
abbrev gc (q : Fin 2) (b : Fin 1408) : Fin 2816 := ⟨1408 * q.val + b.val, by omega⟩
abbrev gg (q : Fin 2) (b : Fin 1408) : Fin 5632 := ⟨1408 * q.val + b.val, by omega⟩
abbrev gu (q : Fin 2) (b : Fin 1408) : Fin 5632 := ⟨2816 + (1408 * q.val + b.val), by omega⟩

/-- The activation's gradient. -/
def act (r : Fin 16384) (k : Fin 2816) : EReal := ∑ l : Fin 1024, ds m c (ix2 r l) * ws m c (ix2 k l)

section Blocks

variable (t : Fin cfg0.N) (n : ℕ) (q : Fin 2) (hn : n < 32) (ht : t.val = 2 * n + q.val) (a : Fin 512) (b : Fin 1408)
include ht

theorem blk_d (l : Fin 1024) : (iblk m c 0 t : Vec Ideal S512x1024 .f32) (ix2 a l) = ds m c (ix2 ⟨512 * n + a.val, by omega⟩ l) := by
  rw [← d_at]
  blk_simp [iblk]
  congr 1
  blk_ext [e0]

theorem blk_w (l : Fin 1024) : (iblk m c 1 t : Vec Ideal S1408x1024 .bf16) (ix2 b l) = ws m c (ix2 (gc q b) l) := by
  rw [← w_at]
  blk_simp [iblk]
  congr 1
  blk_ext [e1]

theorem blk_u (p : Fin 2) : (iblk m c 2 t : Vec Ideal S512x2816 .bf16) (ix2 a ⟨1408 * p.val + b.val, by omega⟩)
    = us m c (ix2 ⟨512 * n + a.val, by omega⟩ ⟨2816 * p.val + (1408 * q.val + b.val), by omega⟩) := by
  have h : (iblk m c 2 t : Vec Ideal S512x2816 .bf16) (ix2 a ⟨1408 * p.val + b.val, by omega⟩)
      = (V m c main_v5 : S16384x5632.Idx → EReal) (ix2 ⟨512 * n + a.val, by omega⟩ ⟨2816 * q.val + (1408 * p.val + b.val), by omega⟩) := by
    blk_simp [iblk]
    congr 1
    blk_ext [e2]
  rw [h, u_at]
  refine congrArg (fun k => us m c (ix2 _ k)) (Fin.ext ?_)
  simp only [src]
  omega

end Blocks

/-- The gate's gradient and the value's, as the call takes them. -/
def dGate (r : Fin 16384) (q : Fin 2) (b : Fin 1408) : EReal := act m c r (gc q b) * us m c (ix2 r (gu q b))
  * (Ideal.logistic (us m c (ix2 r (gg q b))) * (1 + us m c (ix2 r (gg q b)) * (1 - Ideal.logistic (us m c (ix2 r (gg q b))))))
def dUp (r : Fin 16384) (q : Fin 2) (b : Fin 1408) : EReal := act m c r (gc q b)
  * (us m c (ix2 r (gg q b)) * Ideal.logistic (us m c (ix2 r (gg q b))))

/-- The array the run leaves. -/
def out : S16384x5632.Idx → EReal := fun i =>
  let j : Fin 5632 := i 1
  if j.val / 1408 % 2 = 0 then dGate m c (i 0) ⟨j.val / 2816, by omega⟩ ⟨j.val % 1408, by omega⟩
  else dUp m c (i 0) ⟨j.val / 2816, by omega⟩ ⟨j.val % 1408, by omega⟩

/-- A column of the kept order, by its half, its kind and its place. -/
abbrev kg (q : Fin 2) (b : Fin 1408) : Fin 5632 := ⟨2816 * q.val + b.val, by omega⟩
abbrev ku (q : Fin 2) (b : Fin 1408) : Fin 5632 := ⟨2816 * q.val + (1408 + b.val), by omega⟩

theorem out_gate (r : Fin 16384) (q : Fin 2) (b : Fin 1408) : out m c (ix2 r (kg q b)) = dGate m c r q b := by
  have h1 : (2816 * q.val + b.val) / 1408 % 2 = 0 := by omega
  have h2 : (⟨(2816 * q.val + b.val) / 2816, by omega⟩ : Fin 2) = q := Fin.ext (by show (2816 * q.val + b.val) / 2816 = q.val; omega)
  have h3 : (⟨(2816 * q.val + b.val) % 1408, by omega⟩ : Fin 1408) = b := Fin.ext (by show (2816 * q.val + b.val) % 1408 = b.val; omega)
  show (if (2816 * q.val + b.val) / 1408 % 2 = 0 then dGate m c r ⟨(2816 * q.val + b.val) / 2816, _⟩ ⟨(2816 * q.val + b.val) % 1408, _⟩ else _) = _
  rw [if_pos h1, h2, h3]

theorem out_up (r : Fin 16384) (q : Fin 2) (b : Fin 1408) : out m c (ix2 r (ku q b)) = dUp m c r q b := by
  have h1 : ¬ (2816 * q.val + (1408 + b.val)) / 1408 % 2 = 0 := by omega
  have h2 : (⟨(2816 * q.val + (1408 + b.val)) / 2816, by omega⟩ : Fin 2) = q := Fin.ext (by show (2816 * q.val + (1408 + b.val)) / 2816 = q.val; omega)
  have h3 : (⟨(2816 * q.val + (1408 + b.val)) % 1408, by omega⟩ : Fin 1408) = b := Fin.ext (by show (2816 * q.val + (1408 + b.val)) % 1408 = b.val; omega)
  show (if (2816 * q.val + (1408 + b.val)) / 1408 % 2 = 0 then _ else dUp m c r ⟨(2816 * q.val + (1408 + b.val)) / 2816, _⟩ ⟨(2816 * q.val + (1408 + b.val)) % 1408, _⟩) = _
  rw [if_neg h1, h2, h3]

theorem arr : (dats m 0 c).arrAt 3 cfg0.N = out m c := by
  refine (dats m 0 c).arrAt_eq_of_covers 3 _ (by decide +kernel) fun t hf y => ?_
  have hN : t.val < 64 := lt_of_lt_of_eq t.isLt N_0
  blk_simp
  rw [after0_3]
  frame_out
  obtain ⟨q, hq⟩ : ∃ q : Fin 2, q.val = t.val % 2 := ⟨⟨t.val % 2, by omega⟩, rfl⟩
  have ht : t.val = 2 * (t.val / 2) + q.val := by omega
  obtain ⟨a, l, rfl⟩ : ∃ (a : Fin 512) (l : Fin 2816), y = ix2 a l := ⟨y 0, y 1, by funext i; fin_cases i <;> rfl⟩
  have hi : ((View.whole main_v7).slice (win0_3.rect t)).emb (ix2 a l) = ix2 (⟨512 * (t.val / 2) + a.val, by omega⟩ : Fin 16384) (⟨2816 * q.val + l.val, by omega⟩ : Fin 5632) := by
    blk_ext [e3]
  rw [hi]
  by_cases hl : l.val < 1408
  · obtain ⟨b, rfl⟩ : ∃ b : Fin 1408, l = ⟨b.val, lt_trans b.isLt (by decide)⟩ := ⟨⟨l.val, hl⟩, rfl⟩
    refine (pay_gate _ _ _ a b).trans (Eq.trans ?_ (out_gate m c _ q b).symm)
    have hu0 := blk_u m c t (t.val / 2) q (by omega) ht a b 0
    have hu1 := blk_u m c t (t.val / 2) q (by omega) ht a b 1
    simp only [Fin.val_zero, Fin.val_one, Nat.mul_zero, Nat.zero_add, Nat.mul_one] at hu0 hu1
    rw [hu0, hu1]
    simp only [blk_d m c t (t.val / 2) q (by omega) ht a, blk_w m c t (t.val / 2) q ht b]
    rfl
  · obtain ⟨b, rfl⟩ : ∃ b : Fin 1408, l = ⟨1408 + b.val, Nat.add_lt_add_left b.isLt 1408⟩ := ⟨⟨l.val - 1408, by omega⟩, Fin.ext (by show l.val = 1408 + (l.val - 1408); omega)⟩
    refine (pay_up _ _ _ a b).trans (Eq.trans ?_ (out_up m c _ q b).symm)
    have hu0 := blk_u m c t (t.val / 2) q (by omega) ht a b 0
    simp only [Fin.val_zero, Nat.mul_zero, Nat.zero_add] at hu0
    rw [hu0]
    simp only [blk_d m c t (t.val / 2) q (by omega) ht a, blk_w m c t (t.val / 2) q ht b]
    rfl

end Cert.Kernel2Ideal.Val

namespace Cert.Reference2Ideal.Val

open Cert.Reference2Ideal Cert.Reference2Ideal.Gen Idealize.ShloMosaic Idealize.ShloMosaic.TcCoe
open Cert.Kernel2Ideal.Val (gc gg gu kg ku)

/-- The reference's gradients of the gate and of the value, side by side. -/
def sides (u : S16384x5632.Idx → EReal) (w : S2816x1024.Idx → EReal) (d : S16384x1024.Idx → EReal) : S16384x5632.Idx → EReal :=
  (concatenate S16384x5632 1 [⟨S16384x2816, (addf (mulf (mulf (Host.dotGeneral (F := Ideal) (φ₁ := .f32) (φ₂ := .f32) dot_S16384x1024_S2816x1024_S16384x2816_1_1_0_0_n_n none d w) (extractStridedSlice S16384x2816 ![0, 2816] u slices_S16384x5632_S16384x2816_0_2816)) (Host.divf (broadcastInDim S16384x2816 ![] bcast_S_S16384x2816 (constant S_ .f32 0x3F800000#32)) (addf (broadcastInDim S16384x2816 ![] bcast_S_S16384x2816 (constant S_ .f32 0x3F800000#32)) (Host.exp (Host.negf (extractStridedSlice S16384x2816 ![0, 0] u slices_S16384x5632_S16384x2816_0_0)))))) (mulf (mulf (extractStridedSlice S16384x2816 ![0, 0] u slices_S16384x5632_S16384x2816_0_0) (mulf (Host.dotGeneral (F := Ideal) (φ₁ := .f32) (φ₂ := .f32) dot_S16384x1024_S2816x1024_S16384x2816_1_1_0_0_n_n none d w) (extractStridedSlice S16384x2816 ![0, 2816] u slices_S16384x5632_S16384x2816_0_2816))) (mulf (Host.divf (broadcastInDim S16384x2816 ![] bcast_S_S16384x2816 (constant S_ .f32 0x3F800000#32)) (addf (broadcastInDim S16384x2816 ![] bcast_S_S16384x2816 (constant S_ .f32 0x3F800000#32)) (Host.exp (Host.negf (extractStridedSlice S16384x2816 ![0, 0] u slices_S16384x5632_S16384x2816_0_0))))) (subf (broadcastInDim S16384x2816 ![] bcast_S_S16384x2816 (constant S_ .f32 0x3F800000#32)) (Host.divf (broadcastInDim S16384x2816 ![] bcast_S_S16384x2816 (constant S_ .f32 0x3F800000#32)) (addf (broadcastInDim S16384x2816 ![] bcast_S_S16384x2816 (constant S_ .f32 0x3F800000#32)) (Host.exp (Host.negf (extractStridedSlice S16384x2816 ![0, 0] u slices_S16384x5632_S16384x2816_0_0)))))))))⟩, ⟨S16384x2816, (mulf (mulf (extractStridedSlice S16384x2816 ![0, 0] u slices_S16384x5632_S16384x2816_0_0) (Host.divf (broadcastInDim S16384x2816 ![] bcast_S_S16384x2816 (constant S_ .f32 0x3F800000#32)) (addf (broadcastInDim S16384x2816 ![] bcast_S_S16384x2816 (constant S_ .f32 0x3F800000#32)) (Host.exp (Host.negf (extractStridedSlice S16384x2816 ![0, 0] u slices_S16384x5632_S16384x2816_0_0)))))) (Host.dotGeneral (F := Ideal) (φ₁ := .f32) (φ₂ := .f32) dot_S16384x1024_S2816x1024_S16384x2816_1_1_0_0_n_n none d w))⟩] concatenates_S16384x2816_S16384x2816_S16384x5632_d1 : FVec Ideal S16384x5632 .f32)

/-- The kept order of the columns. -/
def kept (z : S16384x5632.Idx → EReal) : S16384x5632.Idx → EReal :=
  (truncf (F := Ideal) .bf16 (shapeCast S16384x5632 (transpose S16384x2x2x1408 [0, 2, 1, 3] (shapeCast S16384x2x2x1408 z shapeCasts_S16384x5632_S16384x2x2x1408) transposes_S16384x2x2x1408_S16384x2x2x1408_0_2_1_3) shapeCasts_S16384x2x2x1408_S16384x5632) bitsLt_bf16_f32 : FVec Ideal S16384x5632 .bf16)

theorem kept_at (z : S16384x5632.Idx → EReal) (r : Fin 16384) (j : Fin 5632) : kept z (ix2 r j) = z (ix2 r (Cert.Kernel2Ideal.Val.src j)) := by
  unfold kept
  pointwise
  refine congrArg (fun k => z (ix2 r k)) (Fin.ext ?_)
  simp only [Cert.Kernel2Ideal.Val.src]
  omega

variable (u : S16384x5632.Idx → EReal) (w : S2816x1024.Idx → EReal) (d : S16384x1024.Idx → EReal) (r : Fin 16384) (q : Fin 2) (b : Fin 1408)

/-- The gate's share of one, in the reference's own operations. -/
abbrev sg (x : EReal) : EReal := Ideal.div 1 (1 + Ideal.exp (-x))

abbrev dot : EReal := ∑ l : Fin 1024, d (ix2 r l) * w (ix2 (gc q b) l)

theorem ref_gate : sides u w d (ix2 r (gg q b)) = dot w d r q b * u (ix2 r (gu q b)) * sg (u (ix2 r (gg q b)))
    + u (ix2 r (gg q b)) * (dot w d r q b * u (ix2 r (gu q b))) * (sg (u (ix2 r (gg q b))) * (1 - sg (u (ix2 r (gg q b))))) := by
  unfold sides
  pointwise
  rw [dif_pos (by omega)]

theorem ref_up : sides u w d (ix2 r (gu q b)) = u (ix2 r (gg q b)) * sg (u (ix2 r (gg q b))) * dot w d r q b := by
  unfold sides
  pointwise

end Cert.Reference2Ideal.Val

namespace Cert.Two

open Idealize.ShloMosaic Idealize.ShloMosaic.TcCoe Idealize.SL.Sem
open Cert.Kernel2Ideal.Val
open Cert.Reference2Ideal.Val (sides kept sg)

theorem sg_coe (g : ℝ) : sg (g : EReal) = ((1 / (1 + Real.exp (-g)) : ℝ) : EReal) := by
  unfold sg
  rw [← EReal.coe_neg, Ideal.exp_coe, ← EReal.coe_one, ← EReal.coe_add, Cert.Spec.div_coe_coe (by positivity)]

/-- The two ways of writing the gate's gradient, of reals. -/
theorem gate_eq {D U G : EReal} {D' U' G' : ℝ} (hD : D = (D' : EReal)) (hU : U = (U' : EReal)) (hG : G = (G' : EReal)) :
    D * U * sg G + G * (D * U) * (sg G * (1 - sg G)) = D * U * (Ideal.logistic G * (1 + G * (1 - Ideal.logistic G))) := by
  subst hD hU hG
  show _ = (D' : EReal) * U' * (sg G' * (1 + G' * (1 - sg G')))
  rw [sg_coe]
  generalize 1 / (1 + Real.exp (-G')) = s
  rw [← EReal.coe_one]
  simp only [← EReal.coe_mul, ← EReal.coe_sub, ← EReal.coe_add]
  congr 1
  ring

variable (m : (ℓ : Loc Cert.Kernel2Ideal.nD Cert.Kernel2Ideal.τ Cert.Kernel2Ideal.sig) → Buf (Elt Ideal) ℓ) (c : Dev Cert.Kernel2Ideal.nD)

/-- Under the precondition the arrays hold reals. -/
theorem reals (H : @Cert.Pre_Kernel2Ideal_finite2 Cert.Pre_finite2.Gen.facts m) :
    (∀ r j, us m c (ix2 r j) = ((us m c (ix2 r j)).toReal : EReal)) ∧ (∀ k l, ws m c (ix2 k l) = ((ws m c (ix2 k l)).toReal : EReal))
      ∧ ∀ r l, ds m c (ix2 r l) = ((ds m c (ix2 r l)).toReal : EReal) :=
  letI := Cert.Pre_finite2.Gen.facts
  ⟨fun r j => Cert.KernelIdeal.Finite.real_of_below _ (congrFun (H c).1 (ix2 r j)),
    fun k l => Cert.KernelIdeal.Finite.real_of_below _ (congrFun (H c).2.1 (ix2 k l)),
    fun r l => Cert.KernelIdeal.Finite.real_of_below _ (congrFun (H c).2.2 (ix2 r l))⟩

/-- The reference's array is the call's. -/
theorem ref_eq (H : @Cert.Pre_Kernel2Ideal_finite2 Cert.Pre_finite2.Gen.facts m) : kept (sides (us m c) (ws m c) (ds m c)) = out m c := by
  obtain ⟨hu, hw, hd⟩ := reals m c H
  have hact : ∀ r k, act m c r k = ((∑ l : Fin 1024, (ds m c (ix2 r l)).toReal * (ws m c (ix2 k l)).toReal : ℝ) : EReal) := fun r k =>
    Cert.Spec.sum_eq_coe fun l => (congrArg₂ (· * ·) (hd r l) (hw k l)).trans (EReal.coe_mul _ _).symm
  funext i
  obtain ⟨r, j, rfl⟩ : ∃ (r : Fin 16384) (j : Fin 5632), i = ix2 r j := ⟨i 0, i 1, by funext k; fin_cases k <;> rfl⟩
  rw [Cert.Reference2Ideal.Val.kept_at]
  obtain ⟨q, hq⟩ : ∃ q : Fin 2, q.val = j.val / 2816 := ⟨⟨j.val / 2816, by omega⟩, rfl⟩
  obtain ⟨b, hb⟩ : ∃ b : Fin 1408, b.val = j.val % 1408 := ⟨⟨j.val % 1408, by omega⟩, rfl⟩
  by_cases h : j.val / 1408 % 2 = 0
  · have e : j = kg q b := Fin.ext (by show j.val = 2816 * q.val + b.val; omega)
    have e' : src j = gg q b := Fin.ext (by show 2816 * (j.val / 1408 % 2) + 1408 * (j.val / 1408 / 2) + j.val % 1408 = 1408 * q.val + b.val; omega)
    rw [e', Cert.Reference2Ideal.Val.ref_gate, e, out_gate]
    exact gate_eq (hact r (gc q b)) (hu _ _) (hu _ _)
  · have e : j = ku q b := Fin.ext (by show j.val = 2816 * q.val + (1408 + b.val); omega)
    have e' : src j = gu q b := Fin.ext (by show 2816 * (j.val / 1408 % 2) + 1408 * (j.val / 1408 / 2) + j.val % 1408 = 2816 + (1408 * q.val + b.val); omega)
    rw [e', Cert.Reference2Ideal.Val.ref_up, e, out_up]
    exact mul_comm _ _

/-- The value claim: from the same real arguments both programs end with equal arrays. -/
theorem values : @Cert.algebraic_Kernel2Ideal_Reference2Ideal_pre_finite2 Cert.Kernel2Ideal.Gen.facts Cert.Reference2Ideal.Gen.facts Cert.Pre_finite2.Gen.facts := by
  intro m ρ m' ρ' hp he
  refine ⟨fun c => out m c, (θ_run _ _ _).mono (fun r h c => ⟨(h c).1.trans (arr m c), (h c).2⟩) (Cert.Kernel2Ideal.Value.run_blocks m ρ), ?_⟩
  refine (θ_run _ _ _).mono (fun r h c => ?_) (Cert.Reference2Ideal.Value.run (F := Ideal) m' ρ')
  obtain ⟨h0, hrest⟩ := h c
  refine ⟨h0.trans ?_, hrest⟩
  obtain ⟨a0, a1, a2⟩ := he c
  rw [a0, a1, a2]
  exact ref_eq m c hp

end Cert.Two

end
-- ==== Proof.Prod.lean ====
/- A product taken in stretches of its contraction: the sums the stretches leave, added one after the other, are the sum
   over the whole axis. -/
module

public import proofs.«01_k».proof.Proof.Spec
public import Idealize.ShloMosaic.Lib.StableHlo.ReadAt
public import Idealize.ShloMosaic.Lib.Pipeline.ValueKit.Geometry
public import Idealize.ShloMosaic.Lib.Pipeline.ValueKit.Acc
public import Idealize.ShloMosaic.Lib.Pointwise
public import Idealize.ShloMosaic.Lib.Claim

@[expose] public section

set_option maxRecDepth 16384

noncomputable section

namespace Cert.Prod

open Idealize.ShloMosaic

/-- A function of an axis' places, zero past its end. -/
def tot {L : ℕ} (f : Fin L → EReal) (n : ℕ) : EReal := if h : n < L then f ⟨n, h⟩ else 0

theorem tot_eq {L : ℕ} (f : Fin L → EReal) {n : ℕ} (h : n < L) : tot f n = f ⟨n, h⟩ := dif_pos h

/-- The sum over stretch `s` of `n` places. -/
def stretch {L : ℕ} (n : ℕ) (f : Fin L → EReal) (s : ℕ) : EReal := ∑ r : Fin n, tot f (n * s + r.val)

theorem stretch_eq {L n : ℕ} (f : Fin L → EReal) (s : ℕ) (g : Fin n → EReal) (hs : n * s + n ≤ L)
    (h : ∀ r : Fin n, g r = f ⟨n * s + r.val, by omega⟩) : ∑ r, g r = stretch n f s := by
  unfold stretch
  refine Finset.sum_congr rfl fun r _ => ?_
  rw [h, tot_eq f (by omega)]

/-- All the stretches together are the axis. -/
theorem stretches {L : ℕ} (J n : ℕ) (hL : L = J * n) (f : Fin L → EReal) : ∑ s ∈ Finset.range J, stretch n f s = ∑ l, f l := by
  subst hL
  have e : ∀ s, stretch n f s = ∑ k ∈ Finset.range n, tot f (s * n + k) := fun s => by
    unfold stretch
    rw [← Fin.sum_univ_eq_sum_range (fun k => tot f (s * n + k))]
    refine Finset.sum_congr rfl fun r _ => ?_
    rw [Nat.mul_comm n s]
  simp only [e]
  rw [← Finset.sum_range_mul_split, ← Fin.sum_univ_eq_sum_range (tot f)]
  exact Finset.sum_congr rfl fun l _ => tot_eq f l.isLt

theorem same {N : ℕ} {α : Type} (f : (n : ℕ) → n < N → α) {n n' : ℕ} (e : n = n') (h : n < N) (h' : n' < N) : f n h = f n' h' := by
  subst e
  rfl

/-- What a run of points leaves that starts from the first stretch and adds the next one at each point. -/
theorem run_sum {N : ℕ} (J q : ℕ) (f : (n : ℕ) → n < N → EReal) (p : ℕ → EReal)
    (h0 : ∀ h, f (J * q) h = p 0)
    (hs : ∀ k, k + 1 < J - 1 → ∀ h h', f (J * q + (k + 1)) h = f (J * q + k) h' + p (k + 1)) :
    ∀ k, k < J - 1 → ∀ h, f (J * q + k) h = ∑ s ∈ Finset.range (k + 1), p s := by
  intro k
  induction k with
  | zero => intro _ h; rw [Finset.sum_range_one]; exact h0 h
  | succ k ih => intro hk h; rw [hs k hk h (by omega), ih (by omega), Finset.sum_range_succ _ (k + 1)]

theorem pair {m n : ℕ} (i : (⟨2, ![m, n]⟩ : Shape).Idx) : ∃ (a : Fin m) (b : Fin n), i = ix2 a b := ⟨i 0, i 1, by funext k; fin_cases k <;> rfl⟩

end Cert.Prod

end
-- ==== Proof.Three.lean ====
/- The gradient of the SwiGLU's input weights: the call's array is, entry by entry, the sum over the tokens of the rows'
   entries with the cotangents', the same sum the reference takes at once. -/
module

public import proofs.«01_k».proof.Defs
public import proofs.«01_k».proof.Proof.Prod
public import proofs.«01_k».proof.Proof.Gen.Kernel3.Frame
public import proofs.«01_k».proof.Proof.Gen.Kernel3Ideal.Value
public import proofs.«01_k».proof.Proof.Gen.Reference3Ideal.Run

@[expose] public section

set_option maxRecDepth 16384

noncomputable section

open Idealize.ShloMosaic TcCoe Tactic Idealize.SL.Sem Cert.Prod

namespace Cert.Kernel3Ideal.Val

open Gen

variable (m : (ℓ : Loc nD τ sig) → Buf (Elt Ideal) ℓ) (ρ : Dev nD → PrngReg) (c : Dev nD)

/-- The column of the cotangent that the call keeps at column `j`. -/
abbrev src (j : Fin 5632) : Fin 5632 := ⟨2816 * (j.val / 1408 % 2) + 1408 * (j.val / 1408 / 2) + j.val % 1408, by omega⟩

abbrev xs : S16384x1024.Idx → EReal := m (c, Proc.devRef .tc main_arg0)
abbrev us : S16384x5632.Idx → EReal := m (c, Proc.devRef .tc main_arg2)

theorem x_at (r : Fin 16384) (a : Fin 1024) : (V m c main_v0 : S16384x1024.Idx → EReal) (ix2 r a) = xs m c (ix2 r a) := by
  unfold V
  after_reads_at

theorem u_at (r : Fin 16384) (j : Fin 5632) : (V m c main_v6 : S16384x5632.Idx → EReal) (ix2 r j) = us m c (ix2 r (src j)) := by
  unfold V
  after_reads_at
  repeat' split
  all_goals
    refine congrArg (us m c) ?_
    funext i
    apply Fin.ext
    fin_cases i <;> simp <;> omega

theorem pay1_at (x : Vec Ideal S2048x1024 .bf16) (y : Vec Ideal S2048x1408 .bf16) (a : Fin 1024) (b : Fin 1408) :
    k0_pay1 (F := Ideal) x y (ix2 a b) = ∑ r : Fin 2048, x (ix2 r a) * y (ix2 r b) := by
  unfold k0_pay1
  pointwise

theorem pay2_at (x : Vec Ideal S2048x1024 .bf16) (y : Vec Ideal S2048x1408 .bf16) (a : Fin 1024) (b : Fin 1408) :
    k0_pay2 (F := Ideal) x y (ix2 a b) = k0_pay1 (F := Ideal) x y (ix2 a b) := by
  unfold k0_pay2
  generalize k0_pay1 (F := Ideal) x y = z
  pointwise

theorem pay3_at (x : Vec Ideal S2048x1024 .bf16) (y : Vec Ideal S2048x1408 .bf16) (z : Vec Ideal S1024x1408 .f32) (a : Fin 1024) (b : Fin 1408) :
    k0_pay3 (F := Ideal) x y z (ix2 a b) = z (ix2 a b) + k0_pay1 (F := Ideal) x y (ix2 a b) := by
  unfold k0_pay3
  generalize k0_pay1 (F := Ideal) x y = w
  pointwise

theorem pay4_at (x : Vec Ideal S2048x1024 .bf16) (y : Vec Ideal S2048x1408 .bf16) (z : Vec Ideal S1024x1408 .f32) (a : Fin 1024) (b : Fin 1408) :
    k0_pay4 (F := Ideal) x y z (ix2 a b) = z (ix2 a b) + k0_pay1 (F := Ideal) x y (ix2 a b) := by
  unfold k0_pay4
  generalize k0_pay1 (F := Ideal) x y = w
  pointwise

theorem e0 : ∀ t : Fin grid0.N, win0_0.index t = ![t.val % 8, 0] := by decide +kernel
theorem e1 : ∀ t : Fin grid0.N, win0_1.index t = ![t.val % 8, t.val / 8] := by decide +kernel
theorem e2 : ∀ t : Fin grid0.N, win0_2.index t = ![0, t.val / 8] := by decide +kernel

/-- What token `l` adds to the entry at row `a`, column `j` of the call's array. -/
def term (a : Fin 1024) (j : Fin 5632) (l : Fin 16384) : EReal := xs m c (ix2 l a) * us m c (ix2 l (src j))

/-- What the product at a point adds: the tokens of the point's stretch. -/
theorem part_at (t : Fin cfg0.N) (q k : ℕ) (hq : q < 4) (hk : k < 8) (ht : t.val = 8 * q + k) (a : Fin 1024) (b : Fin 1408) :
    k0_pay1 (F := Ideal) (iblk m c 0 t : Vec Ideal S2048x1024 .bf16) (iblk m c 1 t : Vec Ideal S2048x1408 .bf16) (ix2 a b)
      = stretch 2048 (term m c a ⟨1408 * q + b.val, by omega⟩) k := by
  rw [pay1_at]
  refine stretch_eq _ _ _ (by omega) fun r => ?_
  unfold term
  have h0 : (iblk m c 0 t : Vec Ideal S2048x1024 .bf16) (ix2 r a) = xs m c (ix2 ⟨2048 * k + r.val, by omega⟩ a) := by
    rw [← x_at]
    blk_simp [iblk]
    congr 1
    blk_ext [e0]
  have h1 : (iblk m c 1 t : Vec Ideal S2048x1408 .bf16) (ix2 r b) = us m c (ix2 ⟨2048 * k + r.val, by omega⟩ (src ⟨1408 * q + b.val, by omega⟩)) := by
    rw [← u_at]
    blk_simp [iblk]
    congr 1
    blk_ext [e1]
  rw [h0, h1]

/-- The running sum after `k + 1` stretches. -/
theorem scr_at (q : ℕ) (hq : q < 4) (a : Fin 1024) (b : Fin 1408) : ∀ k, k < 8 - 1 → ∀ h : 8 * q + k < cfg0.N,
    (outsAt0 m c (8 * q + k) h).2 (ix2 a b) = ∑ s ∈ Finset.range (k + 1), stretch 2048 (term m c a ⟨1408 * q + b.val, by omega⟩) s := by
  refine run_sum (N := cfg0.N) 8 q (fun n h => (outsAt0 m c n h).2 (ix2 a b)) (stretch 2048 (term m c a ⟨1408 * q + b.val, by omega⟩)) (fun h => ?_) (fun k hk h h' => ?_)
  · rw [← part_at m c ⟨8 * q, h⟩ q 0 hq (by omega) rfl a b]
    show (outsAt0 m c (⟨8 * q, h⟩ : Fin cfg0.N).val (⟨8 * q, h⟩ : Fin cfg0.N).isLt).2 (ix2 a b) = _
    rw [outsAt0_A m c ⟨8 * q, h⟩ (by show 8 * q % 8 = 0; omega) (by show ¬(1 ≤ 8 * q % 8 ∧ 8 * q % 8 ≤ 6); omega) (by show ¬ 8 * q % 8 = 7; omega)]
    frame_out
    exact pay2_at _ _ a b
  · rw [← part_at m c ⟨8 * q + (k + 1), h⟩ q (k + 1) hq (by omega) rfl a b]
    show (outsAt0 m c (⟨8 * q + (k + 1), h⟩ : Fin cfg0.N).val (⟨8 * q + (k + 1), h⟩ : Fin cfg0.N).isLt).2 (ix2 a b) = _
    rw [outsAt0_B m c ⟨8 * q + (k + 1), h⟩ (by show ¬(8 * q + (k + 1)) % 8 = 0; omega) (by show (1 ≤ (8 * q + (k + 1)) % 8 ∧ (8 * q + (k + 1)) % 8 ≤ 6); omega) (by show ¬ (8 * q + (k + 1)) % 8 = 7; omega)]
    frame_out
    refine (pay3_at _ _ _ a b).trans (congrArg (· + _) ?_)
    refine (congrFun ((Memref.isWhole_whole cc0_scratch0).read_unread _) (ix2 a b)).trans ?_
    exact same (fun n h => (outsAt0 m c n h).2 (ix2 a b)) (by omega) _ _

/-- The array the run leaves. -/
def out : S1024x5632.Idx → EReal := fun i => ∑ l, term m c (i 0) (i 1) l

theorem arr : (dats m 0 c).arrAt 2 cfg0.N = out m c := by
  refine (dats m 0 c).arrAt_eq_of_covers 2 _ (by decide +kernel) fun t hf y => ?_
  have h7 : t.val % 8 = 7 := (flush0_2 t).mp hf
  have hN : t.val < 32 := lt_of_lt_of_eq t.isLt N_0
  blk_simp
  rw [after0_2, outsAt0_C m c t (by omega) (by omega) h7]
  frame_out
  obtain ⟨a, b, rfl⟩ := pair (y : S1024x1408.Idx)
  have hi : ((View.whole main_v7).slice (win0_2.rect t)).emb (ix2 a b) = ix2 a (⟨1408 * (t.val / 8) + b.val, by omega⟩ : Fin 5632) := by
    blk_ext [e2]
  have h6 := scr_at m c (t.val / 8) (by omega) a b 6 (by omega) (by rw [show cfg0.N = 32 from N_0]; omega)
  refine (pay4_at _ _ _ a b).trans ?_
  rw [part_at m c t (t.val / 8) 7 (by omega) (by omega) (by omega) a b, hi]
  refine Eq.trans (congrArg (· + _) ((congrFun ((Memref.isWhole_whole cc0_scratch0).read_unread _) (ix2 a b)).trans
    ((same (fun n h => (outsAt0 m c n h).2 (ix2 a b)) (by omega) _ _).trans h6))) ?_
  rw [← Finset.sum_range_succ _ 7]
  exact stretches 8 2048 rfl _

end Cert.Kernel3Ideal.Val

namespace Cert.Three

open Idealize.ShloMosaic Idealize.ShloMosaic.TcCoe Idealize.SL.Sem
open Cert.Kernel3Ideal.Val

/-- The reference's array at an entry. -/
theorem ref_at (x : Cert.Reference3Ideal.S16384x1024.Idx → EReal) (u : Cert.Reference3Ideal.S16384x5632.Idx → EReal) (a : Fin 1024) (j : Fin 5632) :
    (shapeCast Cert.Reference3Ideal.S1024x5632 (transpose Cert.Reference3Ideal.S1024x2x2x1408 [0, 2, 1, 3] (shapeCast Cert.Reference3Ideal.S1024x2x2x1408 (transpose Cert.Reference3Ideal.S1024x5632 [1, 0]
      (Host.dotGeneral (F := Ideal) (φ₁ := .f32) (φ₂ := .f32) Cert.Reference3Ideal.dot_S16384x5632_S16384x1024_S5632x1024_0_0_1_1_n_n none u x) Cert.Reference3Ideal.Gen.transposes_S5632x1024_S1024x5632_1_0) Cert.Reference3Ideal.Gen.shapeCasts_S1024x5632_S1024x2x2x1408) Cert.Reference3Ideal.Gen.transposes_S1024x2x2x1408_S1024x2x2x1408_0_2_1_3) Cert.Reference3Ideal.Gen.shapeCasts_S1024x2x2x1408_S1024x5632) (ix2 a j)
      = ∑ l : Fin 16384, u (ix2 l (src j)) * x (ix2 l a) := by
  pointwise
  refine Finset.sum_congr rfl fun l _ => congrArg (fun k => u (ix2 l k) * x (ix2 l a)) (Fin.ext ?_)
  simp only [src]
  omega

theorem values : @Cert.algebraic_Kernel3Ideal_Reference3Ideal Cert.Kernel3Ideal.Gen.facts Cert.Reference3Ideal.Gen.facts := by
  intro m ρ m' ρ' _ he
  refine ⟨fun c => out m c, (θ_run _ _ _).mono (fun r h c => ⟨(h c).1.trans (arr m c), (h c).2⟩) (Cert.Kernel3Ideal.Value.run_blocks m ρ), ?_⟩
  refine (θ_run _ _ _).mono (fun r h c => ?_) (Cert.Reference3Ideal.Value.run (F := Ideal) m' ρ')
  obtain ⟨h0, hrest⟩ := h c
  refine ⟨h0.trans ?_, hrest⟩
  obtain ⟨a0, -, a2⟩ := he c
  rw [a0, a2]
  show _ = out m c
  funext i
  obtain ⟨a, j, rfl⟩ : ∃ (a : Fin 1024) (j : Fin 5632), i = ix2 a j := ⟨i 0, i 1, by funext k; fin_cases k <;> rfl⟩
  refine (ref_at _ _ a j).trans ?_
  exact Finset.sum_congr rfl fun l _ => mul_comm _ _

end Cert.Three

end
-- ==== Proof.Ffn.lean ====
/- The SwiGLU's input product with its activation, and the gradient of its input, in the columns' kept order. -/
module

public import proofs.«01_k».proof.Defs
public import proofs.«01_k».proof.Proof.Prod
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run

@[expose] public section

set_option maxRecDepth 16384

noncomputable section

/-! ## The gradient of the SwiGLU's input -/

open Idealize.ShloMosaic TcCoe Tactic Idealize.SL.Sem Cert.Prod

namespace Cert.Kernel4Ideal.Val

open Gen

variable (m : (ℓ : Loc nD τ sig) → Buf (Elt Ideal) ℓ) (c : Dev nD)

/-- The column that the call keeps at column `j`. -/
abbrev src (j : Fin 5632) : Fin 5632 := ⟨2816 * (j.val / 1408 % 2) + 1408 * (j.val / 1408 / 2) + j.val % 1408, by omega⟩

theorem src_src : Function.Involutive src := fun j => Fin.ext (by
  obtain ⟨p, q, b, hp, hq, hb, e⟩ : ∃ p q b : ℕ, p < 2 ∧ q < 2 ∧ b < 1408 ∧ j.val = 2816 * p + 1408 * q + b :=
    ⟨j.val / 2816, j.val / 1408 % 2, j.val % 1408, by omega, by omega, by omega, by omega⟩
  have e' : (src j).val = 2816 * q + 1408 * p + b := by show 2816 * (j.val / 1408 % 2) + 1408 * (j.val / 1408 / 2) + j.val % 1408 = _; omega
  show 2816 * ((src j).val / 1408 % 2) + 1408 * ((src j).val / 1408 / 2) + (src j).val % 1408 = j.val
  omega)

abbrev ws : S1024x5632.Idx → EReal := m (c, Proc.devRef .tc main_arg1)
abbrev ds : S16384x5632.Idx → EReal := m (c, Proc.devRef .tc main_arg2)

theorem d_at (r : Fin 16384) (j : Fin 5632) : (V m c main_v5 : S16384x5632.Idx → EReal) (ix2 r j) = ds m c (ix2 r (src j)) := by
  unfold V
  after_reads_at
  repeat' split
  all_goals
    refine congrArg (ds m c) ?_
    funext i
    apply Fin.ext
    fin_cases i <;> simp <;> omega

theorem w_at (r : Fin 1024) (j : Fin 5632) : (V m c main_v11 : S1024x5632.Idx → EReal) (ix2 r j) = ws m c (ix2 r (src j)) := by
  unfold V
  after_reads_at
  repeat' split
  all_goals
    refine congrArg (ws m c) ?_
    funext i
    apply Fin.ext
    fin_cases i <;> simp <;> omega

section Pay

variable (x : Vec Ideal S1024x2816 .bf16) (y : Vec Ideal S1024x2816 .bf16) (z : Vec Ideal S1024x1024 .f32) (a b : Fin 1024)

theorem pay1_at : k0_pay1 (F := Ideal) x y (ix2 a b) = ∑ r : Fin 2816, x (ix2 a r) * y (ix2 b r) := by
  unfold k0_pay1
  pointwise

theorem pay2_at : k0_pay2 (F := Ideal) x y (ix2 a b) = k0_pay1 (F := Ideal) x y (ix2 a b) := by
  unfold k0_pay2
  generalize k0_pay1 (F := Ideal) x y = w
  pointwise

theorem pay4_at : k0_pay4 (F := Ideal) x y z (ix2 a b) = z (ix2 a b) + k0_pay1 (F := Ideal) x y (ix2 a b) := by
  unfold k0_pay4
  generalize k0_pay1 (F := Ideal) x y = w
  pointwise

end Pay

theorem e0 : ∀ t : Fin grid0.N, win0_0.index t = ![t.val / 2, t.val % 2] := by decide +kernel
theorem e1 : ∀ t : Fin grid0.N, win0_1.index t = ![0, t.val % 2] := by decide +kernel
theorem e2 : ∀ t : Fin grid0.N, win0_2.index t = ![t.val / 2, 0] := by decide +kernel

/-- What column `j` of the kept order adds to the entry at row `a`, column `b`. -/
def term (a : Fin 16384) (b : Fin 1024) (j : Fin 5632) : EReal := ds m c (ix2 a (src j)) * ws m c (ix2 b (src j))

theorem part_at (t : Fin cfg0.N) (q k : ℕ) (hq : q < 16) (hk : k < 2) (ht : t.val = 2 * q + k) (a b : Fin 1024) :
    k0_pay1 (F := Ideal) (iblk m c 0 t : Vec Ideal S1024x2816 .bf16) (iblk m c 1 t : Vec Ideal S1024x2816 .bf16) (ix2 a b)
      = stretch 2816 (term m c ⟨1024 * q + a.val, by omega⟩ b) k := by
  rw [pay1_at]
  refine stretch_eq _ _ _ (by omega) fun r => congrArg₂ (· * ·) ?_ ?_
  · rw [← d_at]
    blk_simp [iblk]
    congr 1
    blk_ext [e0]
  · rw [← w_at]
    blk_simp [iblk]
    congr 1
    blk_ext [e1]

theorem scr_at (q : ℕ) (hq : q < 16) (a b : Fin 1024) (h : 2 * q < cfg0.N) :
    (outsAt0 m c (2 * q) h).2 (ix2 a b) = stretch 2816 (term m c ⟨1024 * q + a.val, by omega⟩ b) 0 := by
  rw [← part_at m c ⟨2 * q, h⟩ q 0 hq (by omega) rfl a b]
  refine (congrArg (fun p => p.2 (ix2 a b)) (outsAt0_A m c ⟨2 * q, h⟩ (by dsimp only; omega) (by dsimp only; omega))).trans ?_
  frame_out
  exact pay2_at _ _ a b

/-- The array the run leaves. -/
def out : S16384x1024.Idx → EReal := fun i => ∑ j, term m c (i 0) (i 1) j

theorem arr : (dats m 0 c).arrAt 2 cfg0.N = out m c := by
  refine (dats m 0 c).arrAt_eq_of_covers 2 _ (by decide +kernel) fun t hf y => ?_
  have h7 : t.val % 2 = 1 := (flush0_2 t).mp hf
  have hN : t.val < 32 := lt_of_lt_of_eq t.isLt N_0
  blk_simp
  rw [after0_2, outsAt0_B m c t (by omega) h7]
  frame_out
  obtain ⟨a, b, rfl⟩ : ∃ (a b : Fin 1024), y = ix2 a b := ⟨y 0, y 1, by funext i; fin_cases i <;> rfl⟩
  have hi : ((View.whole main_v12).slice (win0_2.rect t)).emb (ix2 a b) = ix2 (⟨1024 * (t.val / 2) + a.val, by omega⟩ : Fin 16384) b := by
    blk_ext [e2]
  have h6 := scr_at m c (t.val / 2) (by omega) a b (by rw [show cfg0.N = 32 from N_0]; omega)
  refine (pay4_at _ _ _ a b).trans ?_
  rw [part_at m c t (t.val / 2) 1 (by omega) (by omega) (by omega) a b, hi]
  refine Eq.trans (congrArg (· + _) ((congrFun ((Memref.isWhole_whole cc0_scratch0).read_unread _) (ix2 a b)).trans
    ((same (fun n h => (outsAt0 m c n h).2 (ix2 a b)) (by omega) _ _).trans h6))) ?_
  rw [← Finset.sum_range_one (stretch 2816 (term m c ⟨1024 * (t.val / 2) + a.val, by omega⟩ b)), ← Finset.sum_range_succ _ 1]
  exact stretches 2 2816 rfl _

end Cert.Kernel4Ideal.Val

namespace Cert.Reference4Ideal.Val

open Gen
open Cert.Kernel4Ideal.Val (out arr src src_src)

theorem ref_at (y : S1024x5632.Idx → EReal) (z : S16384x5632.Idx → EReal) (a : Fin 16384) (b : Fin 1024) :
    (truncf .bf16 (Host.dotGeneral (F := Ideal) (φ₁ := .f32) (φ₂ := .f32) dot_S16384x5632_S1024x5632_S16384x1024_1_1_0_0_n_n none z y) bitsLt_bf16_f32 : FVec Ideal S16384x1024 .bf16) (ix2 a b)
      = ∑ j : Fin 5632, z (ix2 a j) * y (ix2 b j) := by
  pointwise

theorem values : @Cert.algebraic_Kernel4Ideal_Reference4Ideal Cert.Kernel4Ideal.Gen.facts Cert.Reference4Ideal.Gen.facts := by
  intro m ρ m' ρ' _ he
  refine ⟨fun c => out m c, (θ_run _ _ _).mono (fun r h c => ⟨(h c).1.trans (arr m c), (h c).2⟩) (Cert.Kernel4Ideal.Value.run_blocks m ρ), ?_⟩
  refine (θ_run _ _ _).mono (fun r h c => ?_) (Cert.Reference4Ideal.Value.run (F := Ideal) m' ρ')
  obtain ⟨h0, hrest⟩ := h c
  refine ⟨h0.trans ?_, hrest⟩
  obtain ⟨-, a1, a2⟩ := he c
  rw [a1, a2]
  show _ = out m c
  funext i
  obtain ⟨a, b, rfl⟩ := pair (i : S16384x1024.Idx)
  refine (ref_at _ _ a b).trans ?_
  exact (Fintype.sum_bijective src src_src.bijective _ _ fun _ => rfl).symm

end Cert.Reference4Ideal.Val

/-! ## The SwiGLU's input product and its activation -/

namespace Cert.Kernel5Ideal.Val

open Gen

variable (m : (ℓ : Loc nD τ sig) → Buf (Elt Ideal) ℓ) (c : Dev nD)

/-- The column that the call keeps at column `j`. -/
abbrev src (j : Fin 5632) : Fin 5632 := ⟨2816 * (j.val / 1408 % 2) + 1408 * (j.val / 1408 / 2) + j.val % 1408, by omega⟩

abbrev xs : S16384x1024.Idx → EReal := m (c, Proc.devRef .tc main_arg0)
abbrev ws : S1024x5632.Idx → EReal := m (c, Proc.devRef .tc main_arg1)

theorem x_at (r : Fin 16384) (l : Fin 1024) : (V m c main_v0 : S16384x1024.Idx → EReal) (ix2 r l) = xs m c (ix2 r l) := by
  unfold V
  after_reads_at

theorem w_at (r : Fin 1024) (j : Fin 5632) : (V m c main_v6 : S1024x5632.Idx → EReal) (ix2 r j) = ws m c (ix2 r (src j)) := by
  unfold V
  after_reads_at
  repeat' split
  all_goals
    refine congrArg (ws m c) ?_
    funext i
    apply Fin.ext
    fin_cases i <;> simp <;> omega

section Pay

variable (x : Vec Ideal S512x1024 .bf16) (w : Vec Ideal S1024x2816 .bf16) (a : Fin 512)

theorem pay1_at (b : Fin 2816) : k0_pay1 (F := Ideal) x w (ix2 a b) = ∑ l : Fin 1024, x (ix2 a l) * w (ix2 l b) := by
  unfold k0_pay1
  pointwise

theorem pay2_at (b : Fin 2816) : k0_pay2 (F := Ideal) x w (ix2 a b) = k0_pay1 (F := Ideal) x w (ix2 a b) := by
  unfold k0_pay2
  generalize k0_pay1 (F := Ideal) x w = z
  pointwise

theorem pay3_at (b : Fin 1408) (b0 b1 : Fin 2816) (h0 : b0.val = b.val) (h1 : b1.val = 1408 + b.val) : k0_pay3 (F := Ideal) x w (ix2 a b)
    = k0_pay1 (F := Ideal) x w (ix2 a b0) * Ideal.logistic (k0_pay1 (F := Ideal) x w (ix2 a b0)) * k0_pay1 (F := Ideal) x w (ix2 a b1) := by
  obtain rfl : b0 = ⟨b.val, lt_trans b.isLt (by decide)⟩ := Fin.ext h0
  obtain rfl : b1 = ⟨1408 + b.val, Nat.add_lt_add_left b.isLt 1408⟩ := Fin.ext h1
  unfold k0_pay3
  generalize k0_pay1 (F := Ideal) x w = z
  pointwise

end Pay

theorem e0 : ∀ t : Fin grid0.N, win0_0.index t = ![t.val / 2, 0] := by decide +kernel
theorem e1 : ∀ t : Fin grid0.N, win0_1.index t = ![0, t.val % 2] := by decide +kernel
theorem e2 : ∀ t : Fin grid0.N, win0_2.index t = ![t.val / 2, t.val % 2] := by decide +kernel
theorem e3 : ∀ t : Fin grid0.N, win0_3.index t = ![t.val / 2, t.val % 2] := by decide +kernel

/-- The product at row `r` and column `j` of the weight. -/
def dot (r : Fin 16384) (j : Fin 5632) : EReal := ∑ l : Fin 1024, xs m c (ix2 r l) * ws m c (ix2 l j)

theorem part_at (t : Fin cfg0.N) (n q : ℕ) (hn : n < 32) (hq : q < 2) (ht : t.val = 2 * n + q) (a : Fin 512) (b : Fin 2816) (j : Fin 5632)
    (hj : j = src ⟨2816 * q + b.val, by omega⟩) :
    k0_pay1 (F := Ideal) (iblk m c 0 t : Vec Ideal S512x1024 .bf16) (iblk m c 1 t : Vec Ideal S1024x2816 .bf16) (ix2 a b) = dot m c ⟨512 * n + a.val, by omega⟩ j := by
  rw [pay1_at, hj]
  refine Finset.sum_congr rfl fun l _ => congrArg₂ (· * ·) ?_ ?_
  · rw [← x_at]
    blk_simp [iblk]
    congr 1
    blk_ext [e0]
  · rw [← w_at]
    blk_simp [iblk]
    congr 1
    blk_ext [e1]

/-- The arrays the run leaves: the product in the kept order, and the activation. -/
def out : S16384x5632.Idx → EReal := fun i => dot m c (i 0) (src (i 1))
def act : S16384x2816.Idx → EReal := fun i =>
  let k : Fin 2816 := i 1
  dot m c (i 0) ⟨k.val, by omega⟩ * Ideal.logistic (dot m c (i 0) ⟨k.val, by omega⟩) * dot m c (i 0) ⟨2816 + k.val, by omega⟩

theorem arr : (dats m 0 c).arrAt 2 cfg0.N = out m c := by
  refine (dats m 0 c).arrAt_eq_of_covers 2 _ (by decide +kernel) fun t hf y => ?_
  have hN : t.val < 64 := lt_of_lt_of_eq t.isLt N_0
  blk_simp
  rw [after0_2]
  frame_out
  obtain ⟨a, b, rfl⟩ := pair (y : S512x2816.Idx)
  have hi : ((View.whole main_v7_0).slice (win0_2.rect t)).emb (ix2 a b) = ix2 (⟨512 * (t.val / 2) + a.val, by omega⟩ : Fin 16384) (⟨2816 * (t.val % 2) + b.val, by omega⟩ : Fin 5632) := by
    blk_ext [e2]
  rw [hi]
  exact (pay2_at _ _ a b).trans (part_at m c t (t.val / 2) (t.val % 2) (by omega) (by omega) (by omega) a b _ rfl)

theorem arr' : (dats m 0 c).arrAt 3 cfg0.N = act m c := by
  refine (dats m 0 c).arrAt_eq_of_covers 3 _ (by decide +kernel) fun t hf y => ?_
  have hN : t.val < 64 := lt_of_lt_of_eq t.isLt N_0
  blk_simp
  rw [after0_3]
  frame_out
  obtain ⟨a, b, rfl⟩ := pair (y : S512x1408.Idx)
  have hi : ((View.whole main_v7_1).slice (win0_3.rect t)).emb (ix2 a b) = ix2 (⟨512 * (t.val / 2) + a.val, by omega⟩ : Fin 16384) (⟨1408 * (t.val % 2) + b.val, by omega⟩ : Fin 2816) := by
    blk_ext [e3]
  rw [hi]
  refine (pay3_at _ _ a b ⟨b.val, by omega⟩ ⟨1408 + b.val, by omega⟩ rfl rfl).trans ?_
  rw [part_at m c t (t.val / 2) (t.val % 2) (by omega) (by omega) (by omega) a ⟨b.val, by omega⟩ ⟨1408 * (t.val % 2) + b.val, by omega⟩ (Fin.ext (by simp only [src]; omega)),
    part_at m c t (t.val / 2) (t.val % 2) (by omega) (by omega) (by omega) a ⟨1408 + b.val, by omega⟩ ⟨2816 + (1408 * (t.val % 2) + b.val), by omega⟩ (Fin.ext (by simp only [src]; omega))]
  rfl

end Cert.Kernel5Ideal.Val

namespace Cert.Reference5Ideal.Val

open Gen
open Cert.Kernel5Ideal.Val (out act arr arr' src)

theorem ref_at (x : S16384x1024.Idx → EReal) (y : S1024x5632.Idx → EReal) (a : Fin 16384) (b : Fin 5632) :
    (truncf .bf16 (shapeCast S16384x5632 (transpose S16384x2x2x1408 [0, 2, 1, 3] (shapeCast S16384x2x2x1408 (Host.dotGeneral (F := Ideal) (φ₁ := .f32) (φ₂ := .f32) dot_S16384x1024_S1024x5632_S16384x5632_1_0_0_1_n_n none x y) shapeCasts_S16384x5632_S16384x2x2x1408) transposes_S16384x2x2x1408_S16384x2x2x1408_0_2_1_3) shapeCasts_S16384x2x2x1408_S16384x5632) bitsLt_bf16_f32 : FVec Ideal S16384x5632 .bf16) (ix2 a b)
      = ∑ l : Fin 1024, x (ix2 a l) * y (ix2 l (src b)) := by
  pointwise
  refine Finset.sum_congr rfl fun l _ => congrArg (fun k => x (ix2 a l) * y (ix2 l k)) (Fin.ext ?_)
  simp only [src]
  omega

theorem act_at (x : S16384x1024.Idx → EReal) (y : S1024x5632.Idx → EReal) (a : Fin 16384) (b : Fin 2816) (b0 b1 : Fin 5632) (h0 : b0.val = b.val) (h1 : b1.val = 2816 + b.val) :
    (truncf .bf16 (mulf (mulf (extractStridedSlice S16384x2816 ![0, 0] (Host.dotGeneral (F := Ideal) (φ₁ := .f32) (φ₂ := .f32) dot_S16384x1024_S1024x5632_S16384x5632_1_0_0_1_n_n none x y) slices_S16384x5632_S16384x2816_0_0) (Host.divf (broadcastInDim S16384x2816 ![] bcast_S_S16384x2816 (constant S_ .f32 0x3F800000#32)) (addf (broadcastInDim S16384x2816 ![] bcast_S_S16384x2816 (constant S_ .f32 0x3F800000#32)) (Host.exp (Host.negf (extractStridedSlice S16384x2816 ![0, 0] (Host.dotGeneral (F := Ideal) (φ₁ := .f32) (φ₂ := .f32) dot_S16384x1024_S1024x5632_S16384x5632_1_0_0_1_n_n none x y) slices_S16384x5632_S16384x2816_0_0)))))) (extractStridedSlice S16384x2816 ![0, 2816] (Host.dotGeneral (F := Ideal) (φ₁ := .f32) (φ₂ := .f32) dot_S16384x1024_S1024x5632_S16384x5632_1_0_0_1_n_n none x y) slices_S16384x5632_S16384x2816_0_2816)) bitsLt_bf16_f32 : FVec Ideal S16384x2816 .bf16) (ix2 a b)
      = (∑ l : Fin 1024, x (ix2 a l) * y (ix2 l b0)) * Ideal.logistic (∑ l : Fin 1024, x (ix2 a l) * y (ix2 l b0)) * ∑ l : Fin 1024, x (ix2 a l) * y (ix2 l b1) := by
  obtain rfl : b0 = ⟨b.val, lt_trans b.isLt (by decide)⟩ := Fin.ext h0
  obtain rfl : b1 = ⟨2816 + b.val, Nat.add_lt_add_left b.isLt 2816⟩ := Fin.ext h1
  pointwise
  rfl

theorem values : @Cert.algebraic_Kernel5Ideal_Reference5Ideal Cert.Kernel5Ideal.Gen.facts Cert.Reference5Ideal.Gen.facts := by
  intro m ρ m' ρ' _ he
  refine ⟨fun c => out m c, fun c => act m c, (θ_run _ _ _).mono (fun r h c => ⟨(h c).1.trans (arr m c), (h c).2.1.trans (arr' m c), (h c).2.2⟩) (Cert.Kernel5Ideal.Value.run_blocks m ρ), ?_⟩
  refine (θ_run _ _ _).mono (fun r h c => ?_) (Cert.Reference5Ideal.Value.run (F := Ideal) m' ρ')
  obtain ⟨h0, h1, hrest⟩ := h c
  refine ⟨h0.trans ?_, h1.trans ?_, hrest⟩
  all_goals obtain ⟨a0, a1⟩ := he c
  all_goals rw [a0, a1]
  · show _ = out m c
    funext i
    obtain ⟨a, b, rfl⟩ := pair (i : S16384x5632.Idx)
    exact ref_at _ _ a b
  · show _ = act m c
    funext i
    obtain ⟨a, b, rfl⟩ := pair (i : S16384x2816.Idx)
    exact act_at _ _ a b ⟨b.val, by omega⟩ ⟨2816 + b.val, by omega⟩ rfl rfl

end Cert.Reference5Ideal.Val

end
-- ==== Proof.ProdA.lean ====
/- Products taken at once over their contraction, in the forward and the backward pass: entry by entry the call's array is
   the product the reference takes. -/
module

public import proofs.«01_k».proof.Defs
public import proofs.«01_k».proof.Proof.Prod
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Value
public import proofs.«01_k».proof.Proof.Gen.Reference13Ideal.Run

@[expose] public section

set_option maxRecDepth 16384

noncomputable section

/-! ## The fused projection to queries, keys and values -/

open Idealize.ShloMosaic TcCoe Tactic Idealize.SL.Sem Cert.Prod

namespace Cert.Kernel7Ideal.Val

open Gen

variable (m : (ℓ : Loc nD τ sig) → Buf (Elt Ideal) ℓ) (c : Dev nD)

abbrev xs : S16384x1024.Idx → EReal := m (c, Proc.devRef .tc main_arg0)
abbrev ws : S1024x1536.Idx → EReal := m (c, Proc.devRef .tc main_arg1)

theorem x_at (r : Fin 16384) (l : Fin 1024) : (V m c main_v0 : S16384x1024.Idx → EReal) (ix2 r l) = xs m c (ix2 r l) := by
  unfold V
  after_reads_at

theorem w_at (r : Fin 1024) (l : Fin 1536) : (V m c main_v1 : S1024x1536.Idx → EReal) (ix2 r l) = ws m c (ix2 r l) := by
  unfold V
  after_reads_at

theorem pay_at (x : Vec Ideal S2048x1024 .bf16) (w : Vec Ideal S1024x1536 .bf16) (a : Fin 2048) (b : Fin 1536) :
    k0_pay1 (F := Ideal) x w (ix2 a b) = (∑ l : Fin 1024, x (ix2 a l) * w (ix2 l b)) := by
  unfold k0_pay1
  pointwise

theorem e0 : ∀ t : Fin grid0.N, win0_0.index t = ![t.val, 0] := by decide +kernel
theorem e1 : ∀ t : Fin grid0.N, win0_1.index t = ![0, 0] := by decide +kernel
theorem e2 : ∀ t : Fin grid0.N, win0_2.index t = ![t.val, 0] := by decide +kernel

/-- The array the run leaves. -/
def out : S16384x1536.Idx → EReal := fun i => (∑ l : Fin 1024, xs m c (ix2 (i 0) l) * ws m c (ix2 l (i 1)))

theorem arr : (dats m 0 c).arrAt 2 cfg0.N = out m c := by
  refine (dats m 0 c).arrAt_eq_of_covers 2 _ (by decide +kernel) fun t hf y => ?_
  have hN : t.val < 8 := lt_of_lt_of_eq t.isLt N_0
  blk_simp
  rw [after0_2]
  frame_out
  obtain ⟨a, b, rfl⟩ := pair (y : S2048x1536.Idx)
  have hi : ((View.whole main_v2).slice (win0_2.rect t)).emb (ix2 a b) = ix2 (⟨2048 * (t.val) + a.val, by omega⟩ : Fin 16384) (b : Fin 1536) := by
    blk_ext [e2]
  rw [hi]
  have h0 : ∀ l : Fin 1024, (iblk m c 0 t : Vec Ideal S2048x1024 .bf16) (ix2 a l) = xs m c (ix2 ⟨2048 * (t.val) + a.val, by omega⟩ l) := fun l => by
    rw [← x_at]
    blk_simp [iblk]
    congr 1
    blk_ext [e0]
  have h1 : ∀ l : Fin 1024, (iblk m c 1 t : Vec Ideal S1024x1536 .bf16) (ix2 l b) = ws m c (ix2 l b) := fun l => by
    rw [← w_at]
    blk_simp [iblk]
    congr 1
    blk_ext [e1]
  exact (pay_at _ _ a b).trans (Finset.sum_congr rfl fun l _ => congrArg₂ (· * ·) (h0 l) (h1 l))

end Cert.Kernel7Ideal.Val

namespace Cert.Reference7Ideal.Val

open Gen
open Cert.Kernel7Ideal.Val (out arr)

theorem ref_at (x : S16384x1024.Idx → EReal) (y : S1024x1536.Idx → EReal) (a : Fin 16384) (b : Fin 1536) :
    (truncf .bf16 (Host.dotGeneral (F := Ideal) (φ₁ := .f32) (φ₂ := .f32) dot_S16384x1024_S1024x1536_S16384x1536_1_0_0_1_n_n none x y) bitsLt_bf16_f32 : FVec Ideal S16384x1536 .bf16) (ix2 a b)
      = ∑ l : Fin 1024, x (ix2 a l) * y (ix2 l b) := by
  pointwise

theorem values : @Cert.algebraic_Kernel7Ideal_Reference7Ideal Cert.Kernel7Ideal.Gen.facts Cert.Reference7Ideal.Gen.facts := by
  intro m ρ m' ρ' _ he
  refine ⟨fun c => out m c, (θ_run _ _ _).mono (fun r h c => ⟨(h c).1.trans (arr m c), (h c).2⟩) (Cert.Kernel7Ideal.Value.run_blocks m ρ), ?_⟩
  refine (θ_run _ _ _).mono (fun r h c => ?_) (Cert.Reference7Ideal.Value.run (F := Ideal) m' ρ')
  obtain ⟨h0, hrest⟩ := h c
  refine ⟨h0.trans ?_, hrest⟩
  obtain ⟨a0, a1⟩ := he c
  rw [a0, a1]
  show _ = out m c
  funext i
  obtain ⟨a, b, rfl⟩ := pair (i : S16384x1536.Idx)
  exact ref_at _ _ a b

end Cert.Reference7Ideal.Val

/-! ## The step from the z and log-gate projections' gradients to their input's -/

namespace Cert.Kernel9Ideal.Val

open Gen

variable (m : (ℓ : Loc nD τ sig) → Buf (Elt Ideal) ℓ) (c : Dev nD)

abbrev xs : S16384x2048.Idx → EReal := m (c, Proc.devRef .tc main_arg2)
abbrev ws : S1024x2048.Idx → EReal := m (c, Proc.devRef .tc main_arg1)
abbrev zs : S16384x1024.Idx → EReal := m (c, Proc.devRef .tc main_arg3)

theorem x_at (r : Fin 16384) (l : Fin 2048) : (V m c main_v0 : S16384x2048.Idx → EReal) (ix2 r l) = xs m c (ix2 r l) := by
  unfold V
  after_reads_at

theorem w_at (r : Fin 1024) (l : Fin 2048) : (V m c main_v1 : S1024x2048.Idx → EReal) (ix2 r l) = ws m c (ix2 r l) := by
  unfold V
  after_reads_at

theorem z_at (r : Fin 16384) (l : Fin 1024) : (V m c main_arg3 : S16384x1024.Idx → EReal) (ix2 r l) = zs m c (ix2 r l) := by
  unfold V
  after_reads_at

theorem pay_at (x : Vec Ideal S1024x2048 .bf16) (w : Vec Ideal S1024x2048 .bf16) (z : Vec Ideal S1024x1024 .f32) (a : Fin 1024) (b : Fin 1024) :
    k0_pay1 (F := Ideal) x w z (ix2 a b) = (∑ l : Fin 2048, x (ix2 a l) * w (ix2 b l)) + z (ix2 a b) := by
  unfold k0_pay1
  pointwise

theorem e0 : ∀ t : Fin grid0.N, win0_0.index t = ![t.val, 0] := by decide +kernel
theorem e1 : ∀ t : Fin grid0.N, win0_1.index t = ![0, 0] := by decide +kernel
theorem e2 : ∀ t : Fin grid0.N, win0_2.index t = ![t.val, 0] := by decide +kernel
theorem e3 : ∀ t : Fin grid0.N, win0_3.index t = ![t.val, 0] := by decide +kernel

/-- The array the run leaves. -/
def out : S16384x1024.Idx → EReal := fun i => (∑ l : Fin 2048, xs m c (ix2 (i 0) l) * ws m c (ix2 (i 1) l)) + zs m c (ix2 (i 0) (i 1))

theorem arr : (dats m 0 c).arrAt 3 cfg0.N = out m c := by
  refine (dats m 0 c).arrAt_eq_of_covers 3 _ (by decide +kernel) fun t hf y => ?_
  have hN : t.val < 16 := lt_of_lt_of_eq t.isLt N_0
  blk_simp
  rw [after0_3]
  frame_out
  obtain ⟨a, b, rfl⟩ := pair (y : S1024x1024.Idx)
  have hi : ((View.whole main_v2).slice (win0_3.rect t)).emb (ix2 a b) = ix2 (⟨1024 * (t.val) + a.val, by omega⟩ : Fin 16384) (b : Fin 1024) := by
    blk_ext [e3]
  rw [hi]
  have h0 : ∀ l : Fin 2048, (iblk m c 0 t : Vec Ideal S1024x2048 .bf16) (ix2 a l) = xs m c (ix2 ⟨1024 * (t.val) + a.val, by omega⟩ l) := fun l => by
    rw [← x_at]
    blk_simp [iblk]
    congr 1
    blk_ext [e0]
  have h1 : ∀ l : Fin 2048, (iblk m c 1 t : Vec Ideal S1024x2048 .bf16) (ix2 b l) = ws m c (ix2 b l) := fun l => by
    rw [← w_at]
    blk_simp [iblk]
    congr 1
    blk_ext [e1]
  have h2 : (iblk m c 2 t : Vec Ideal S1024x1024 .f32) (ix2 a b) = zs m c (ix2 ⟨1024 * (t.val) + a.val, by omega⟩ b) := by
    rw [← z_at]
    blk_simp [iblk]
    congr 1
    blk_ext [e2]
  exact (pay_at _ _ _ a b).trans (congrArg₂ (· + ·) (Finset.sum_congr rfl fun l _ => congrArg₂ (· * ·) (h0 l) (h1 l)) h2)

end Cert.Kernel9Ideal.Val

namespace Cert.Reference9Ideal.Val

open Gen
open Cert.Kernel9Ideal.Val (out arr)

theorem ref_at (y : S1024x2048.Idx → EReal) (z : S16384x2048.Idx → EReal) (w : S16384x1024.Idx → EReal) (a : Fin 16384) (b : Fin 1024) :
    (addf w (Host.dotGeneral (F := Ideal) (φ₁ := .f32) (φ₂ := .f32) dot_S16384x2048_S1024x2048_S16384x1024_1_1_0_0_n_n none z y) : FVec Ideal S16384x1024 .f32) (ix2 a b)
      = w (ix2 a b) + ∑ l : Fin 2048, z (ix2 a l) * y (ix2 b l) := by
  pointwise

theorem values : @Cert.algebraic_Kernel9Ideal_Reference9Ideal Cert.Kernel9Ideal.Gen.facts Cert.Reference9Ideal.Gen.facts := by
  intro m ρ m' ρ' _ he
  refine ⟨fun c => out m c, (θ_run _ _ _).mono (fun r h c => ⟨(h c).1.trans (arr m c), (h c).2⟩) (Cert.Kernel9Ideal.Value.run_blocks m ρ), ?_⟩
  refine (θ_run _ _ _).mono (fun r h c => ?_) (Cert.Reference9Ideal.Value.run (F := Ideal) m' ρ')
  obtain ⟨h0, hrest⟩ := h c
  refine ⟨h0.trans ?_, hrest⟩
  obtain ⟨-, a1, a2, a3⟩ := he c
  rw [a1, a2, a3]
  show _ = out m c
  funext i
  obtain ⟨a, b, rfl⟩ := pair (i : S16384x1024.Idx)
  refine (ref_at _ _ _ a b).trans ?_
  exact add_comm _ _

end Cert.Reference9Ideal.Val

/-! ## The z and log-gate projections -/

namespace Cert.Kernel10Ideal.Val

open Gen

variable (m : (ℓ : Loc nD τ sig) → Buf (Elt Ideal) ℓ) (c : Dev nD)

abbrev xs : S16384x1024.Idx → EReal := m (c, Proc.devRef .tc main_arg0)
abbrev ws : S1024x2048.Idx → EReal := m (c, Proc.devRef .tc main_arg1)

theorem x_at (r : Fin 16384) (l : Fin 1024) : (V m c main_v0 : S16384x1024.Idx → EReal) (ix2 r l) = xs m c (ix2 r l) := by
  unfold V
  after_reads_at

theorem w_at (r : Fin 1024) (l : Fin 2048) : (V m c main_v1 : S1024x2048.Idx → EReal) (ix2 r l) = ws m c (ix2 r l) := by
  unfold V
  after_reads_at

theorem pay_at (x : Vec Ideal S4096x1024 .bf16) (w : Vec Ideal S1024x1024 .bf16) (a : Fin 4096) (b : Fin 1024) :
    k0_pay1 (F := Ideal) x w (ix2 a b) = (∑ l : Fin 1024, x (ix2 a l) * w (ix2 l b)) := by
  unfold k0_pay1
  pointwise

theorem e0 : ∀ t : Fin grid0.N, win0_0.index t = ![t.val / 2, 0] := by decide +kernel
theorem e1 : ∀ t : Fin grid0.N, win0_1.index t = ![0, t.val % 2] := by decide +kernel
theorem e2 : ∀ t : Fin grid0.N, win0_2.index t = ![t.val / 2, t.val % 2] := by decide +kernel

/-- The array the run leaves. -/
def out : S16384x2048.Idx → EReal := fun i => (∑ l : Fin 1024, xs m c (ix2 (i 0) l) * ws m c (ix2 l (i 1)))

theorem arr : (dats m 0 c).arrAt 2 cfg0.N = out m c := by
  refine (dats m 0 c).arrAt_eq_of_covers 2 _ (by decide +kernel) fun t hf y => ?_
  have hN : t.val < 8 := lt_of_lt_of_eq t.isLt N_0
  blk_simp
  rw [after0_2]
  frame_out
  obtain ⟨a, b, rfl⟩ := pair (y : S4096x1024.Idx)
  have hi : ((View.whole main_v2).slice (win0_2.rect t)).emb (ix2 a b) = ix2 (⟨4096 * (t.val / 2) + a.val, by omega⟩ : Fin 16384) (⟨1024 * (t.val % 2) + b.val, by omega⟩ : Fin 2048) := by
    blk_ext [e2]
  rw [hi]
  have h0 : ∀ l : Fin 1024, (iblk m c 0 t : Vec Ideal S4096x1024 .bf16) (ix2 a l) = xs m c (ix2 ⟨4096 * (t.val / 2) + a.val, by omega⟩ l) := fun l => by
    rw [← x_at]
    blk_simp [iblk]
    congr 1
    blk_ext [e0]
  have h1 : ∀ l : Fin 1024, (iblk m c 1 t : Vec Ideal S1024x1024 .bf16) (ix2 l b) = ws m c (ix2 l ⟨1024 * (t.val % 2) + b.val, by omega⟩) := fun l => by
    rw [← w_at]
    blk_simp [iblk]
    congr 1
    blk_ext [e1]
  exact (pay_at _ _ a b).trans (Finset.sum_congr rfl fun l _ => congrArg₂ (· * ·) (h0 l) (h1 l))

end Cert.Kernel10Ideal.Val

namespace Cert.Reference10Ideal.Val

open Gen
open Cert.Kernel10Ideal.Val (out arr)

theorem ref_at (x : S16384x1024.Idx → EReal) (y : S1024x2048.Idx → EReal) (a : Fin 16384) (b : Fin 2048) :
    (truncf .bf16 (Host.dotGeneral (F := Ideal) (φ₁ := .f32) (φ₂ := .f32) dot_S16384x1024_S1024x2048_S16384x2048_1_0_0_1_n_n none x y) bitsLt_bf16_f32 : FVec Ideal S16384x2048 .bf16) (ix2 a b)
      = ∑ l : Fin 1024, x (ix2 a l) * y (ix2 l b) := by
  pointwise

theorem values : @Cert.algebraic_Kernel10Ideal_Reference10Ideal Cert.Kernel10Ideal.Gen.facts Cert.Reference10Ideal.Gen.facts := by
  intro m ρ m' ρ' _ he
  refine ⟨fun c => out m c, (θ_run _ _ _).mono (fun r h c => ⟨(h c).1.trans (arr m c), (h c).2⟩) (Cert.Kernel10Ideal.Value.run_blocks m ρ), ?_⟩
  refine (θ_run _ _ _).mono (fun r h c => ?_) (Cert.Reference10Ideal.Value.run (F := Ideal) m' ρ')
  obtain ⟨h0, hrest⟩ := h c
  refine ⟨h0.trans ?_, hrest⟩
  obtain ⟨a0, a1⟩ := he c
  rw [a0, a1]
  show _ = out m c
  funext i
  obtain ⟨a, b, rfl⟩ := pair (i : S16384x2048.Idx)
  exact ref_at _ _ a b

end Cert.Reference10Ideal.Val

/-! ## The projection to the mixer -/

namespace Cert.Kernel12Ideal.Val

open Gen

variable (m : (ℓ : Loc nD τ sig) → Buf (Elt Ideal) ℓ) (c : Dev nD)

abbrev xs : S16384x1024.Idx → EReal := m (c, Proc.devRef .tc main_arg0)
abbrev ws : S1024x3072.Idx → EReal := m (c, Proc.devRef .tc main_arg1)

theorem x_at (r : Fin 16384) (l : Fin 1024) : (V m c main_v0 : S16384x1024.Idx → EReal) (ix2 r l) = xs m c (ix2 r l) := by
  unfold V
  after_reads_at

theorem w_at (r : Fin 1024) (l : Fin 3072) : (V m c main_v1 : S1024x3072.Idx → EReal) (ix2 r l) = ws m c (ix2 r l) := by
  unfold V
  after_reads_at

theorem pay_at (x : Vec Ideal S2048x1024 .bf16) (w : Vec Ideal S1024x1536 .bf16) (a : Fin 2048) (b : Fin 1536) :
    k0_pay1 (F := Ideal) x w (ix2 a b) = (∑ l : Fin 1024, x (ix2 a l) * w (ix2 l b)) := by
  unfold k0_pay1
  pointwise

theorem e0 : ∀ t : Fin grid0.N, win0_0.index t = ![t.val / 2, 0] := by decide +kernel
theorem e1 : ∀ t : Fin grid0.N, win0_1.index t = ![0, t.val % 2] := by decide +kernel
theorem e2 : ∀ t : Fin grid0.N, win0_2.index t = ![t.val / 2, t.val % 2] := by decide +kernel

/-- The array the run leaves. -/
def out : S16384x3072.Idx → EReal := fun i => (∑ l : Fin 1024, xs m c (ix2 (i 0) l) * ws m c (ix2 l (i 1)))

theorem arr : (dats m 0 c).arrAt 2 cfg0.N = out m c := by
  refine (dats m 0 c).arrAt_eq_of_covers 2 _ (by decide +kernel) fun t hf y => ?_
  have hN : t.val < 16 := lt_of_lt_of_eq t.isLt N_0
  blk_simp
  rw [after0_2]
  frame_out
  obtain ⟨a, b, rfl⟩ := pair (y : S2048x1536.Idx)
  have hi : ((View.whole main_v2).slice (win0_2.rect t)).emb (ix2 a b) = ix2 (⟨2048 * (t.val / 2) + a.val, by omega⟩ : Fin 16384) (⟨1536 * (t.val % 2) + b.val, by omega⟩ : Fin 3072) := by
    blk_ext [e2]
  rw [hi]
  have h0 : ∀ l : Fin 1024, (iblk m c 0 t : Vec Ideal S2048x1024 .bf16) (ix2 a l) = xs m c (ix2 ⟨2048 * (t.val / 2) + a.val, by omega⟩ l) := fun l => by
    rw [← x_at]
    blk_simp [iblk]
    congr 1
    blk_ext [e0]
  have h1 : ∀ l : Fin 1024, (iblk m c 1 t : Vec Ideal S1024x1536 .bf16) (ix2 l b) = ws m c (ix2 l ⟨1536 * (t.val % 2) + b.val, by omega⟩) := fun l => by
    rw [← w_at]
    blk_simp [iblk]
    congr 1
    blk_ext [e1]
  exact (pay_at _ _ a b).trans (Finset.sum_congr rfl fun l _ => congrArg₂ (· * ·) (h0 l) (h1 l))

end Cert.Kernel12Ideal.Val

namespace Cert.Reference12Ideal.Val

open Gen
open Cert.Kernel12Ideal.Val (out arr)

theorem ref_at (x : S16384x1024.Idx → EReal) (y : S1024x3072.Idx → EReal) (a : Fin 16384) (b : Fin 3072) :
    (Host.dotGeneral (F := Ideal) (φ₁ := .f32) (φ₂ := .f32) dot_S16384x1024_S1024x3072_S16384x3072_1_0_0_1_n_n none x y : FVec Ideal S16384x3072 .f32) (ix2 a b)
      = ∑ l : Fin 1024, x (ix2 a l) * y (ix2 l b) := by
  pointwise

theorem values : @Cert.algebraic_Kernel12Ideal_Reference12Ideal Cert.Kernel12Ideal.Gen.facts Cert.Reference12Ideal.Gen.facts := by
  intro m ρ m' ρ' _ he
  refine ⟨fun c => out m c, (θ_run _ _ _).mono (fun r h c => ⟨(h c).1.trans (arr m c), (h c).2⟩) (Cert.Kernel12Ideal.Value.run_blocks m ρ), ?_⟩
  refine (θ_run _ _ _).mono (fun r h c => ?_) (Cert.Reference12Ideal.Value.run (F := Ideal) m' ρ')
  obtain ⟨h0, hrest⟩ := h c
  refine ⟨h0.trans ?_, hrest⟩
  obtain ⟨a0, a1⟩ := he c
  rw [a0, a1]
  show _ = out m c
  funext i
  obtain ⟨a, b, rfl⟩ := pair (i : S16384x3072.Idx)
  exact ref_at _ _ a b

end Cert.Reference12Ideal.Val

/-! ## The step from the mixer projection's gradient to its input's -/

namespace Cert.Kernel13Ideal.Val

open Gen

variable (m : (ℓ : Loc nD τ sig) → Buf (Elt Ideal) ℓ) (c : Dev nD)

abbrev xs : S16384x3072.Idx → EReal := m (c, Proc.devRef .tc main_arg2)
abbrev ws : S1024x3072.Idx → EReal := m (c, Proc.devRef .tc main_arg1)
abbrev zs : S16384x1024.Idx → EReal := m (c, Proc.devRef .tc main_arg3)

theorem x_at (r : Fin 16384) (l : Fin 3072) : (V m c main_v0 : S16384x3072.Idx → EReal) (ix2 r l) = xs m c (ix2 r l) := by
  unfold V
  after_reads_at

theorem w_at (r : Fin 1024) (l : Fin 3072) : (V m c main_v1 : S1024x3072.Idx → EReal) (ix2 r l) = ws m c (ix2 r l) := by
  unfold V
  after_reads_at

theorem z_at (r : Fin 16384) (l : Fin 1024) : (V m c main_arg3 : S16384x1024.Idx → EReal) (ix2 r l) = zs m c (ix2 r l) := by
  unfold V
  after_reads_at

theorem pay_at (x : Vec Ideal S1024x3072 .bf16) (w : Vec Ideal S1024x3072 .bf16) (z : Vec Ideal S1024x1024 .f32) (a : Fin 1024) (b : Fin 1024) :
    k0_pay1 (F := Ideal) x w z (ix2 a b) = (∑ l : Fin 3072, x (ix2 a l) * w (ix2 b l)) + z (ix2 a b) := by
  unfold k0_pay1
  pointwise

theorem e0 : ∀ t : Fin grid0.N, win0_0.index t = ![t.val, 0] := by decide +kernel
theorem e1 : ∀ t : Fin grid0.N, win0_1.index t = ![0, 0] := by decide +kernel
theorem e2 : ∀ t : Fin grid0.N, win0_2.index t = ![t.val, 0] := by decide +kernel
theorem e3 : ∀ t : Fin grid0.N, win0_3.index t = ![t.val, 0] := by decide +kernel

/-- The array the run leaves. -/
def out : S16384x1024.Idx → EReal := fun i => (∑ l : Fin 3072, xs m c (ix2 (i 0) l) * ws m c (ix2 (i 1) l)) + zs m c (ix2 (i 0) (i 1))

theorem arr : (dats m 0 c).arrAt 3 cfg0.N = out m c := by
  refine (dats m 0 c).arrAt_eq_of_covers 3 _ (by decide +kernel) fun t hf y => ?_
  have hN : t.val < 16 := lt_of_lt_of_eq t.isLt N_0
  blk_simp
  rw [after0_3]
  frame_out
  obtain ⟨a, b, rfl⟩ := pair (y : S1024x1024.Idx)
  have hi : ((View.whole main_v2).slice (win0_3.rect t)).emb (ix2 a b) = ix2 (⟨1024 * (t.val) + a.val, by omega⟩ : Fin 16384) (b : Fin 1024) := by
    blk_ext [e3]
  rw [hi]
  have h0 : ∀ l : Fin 3072, (iblk m c 0 t : Vec Ideal S1024x3072 .bf16) (ix2 a l) = xs m c (ix2 ⟨1024 * (t.val) + a.val, by omega⟩ l) := fun l => by
    rw [← x_at]
    blk_simp [iblk]
    congr 1
    blk_ext [e0]
  have h1 : ∀ l : Fin 3072, (iblk m c 1 t : Vec Ideal S1024x3072 .bf16) (ix2 b l) = ws m c (ix2 b l) := fun l => by
    rw [← w_at]
    blk_simp [iblk]
    congr 1
    blk_ext [e1]
  have h2 : (iblk m c 2 t : Vec Ideal S1024x1024 .f32) (ix2 a b) = zs m c (ix2 ⟨1024 * (t.val) + a.val, by omega⟩ b) := by
    rw [← z_at]
    blk_simp [iblk]
    congr 1
    blk_ext [e2]
  exact (pay_at _ _ _ a b).trans (congrArg₂ (· + ·) (Finset.sum_congr rfl fun l _ => congrArg₂ (· * ·) (h0 l) (h1 l)) h2)

end Cert.Kernel13Ideal.Val

namespace Cert.Reference13Ideal.Val

open Gen
open Cert.Kernel13Ideal.Val (out arr)

theorem ref_at (y : S1024x3072.Idx → EReal) (z : S16384x3072.Idx → EReal) (w : S16384x1024.Idx → EReal) (a : Fin 16384) (b : Fin 1024) :
    (addf w (Host.dotGeneral (F := Ideal) (φ₁ := .f32) (φ₂ := .f32) dot_S16384x3072_S1024x3072_S16384x1024_1_1_0_0_n_n none z y) : FVec Ideal S16384x1024 .f32) (ix2 a b)
      = w (ix2 a b) + ∑ l : Fin 3072, z (ix2 a l) * y (ix2 b l) := by
  pointwise

theorem values : @Cert.algebraic_Kernel13Ideal_Reference13Ideal Cert.Kernel13Ideal.Gen.facts Cert.Reference13Ideal.Gen.facts := by
  intro m ρ m' ρ' _ he
  refine ⟨fun c => out m c, (θ_run _ _ _).mono (fun r h c => ⟨(h c).1.trans (arr m c), (h c).2⟩) (Cert.Kernel13Ideal.Value.run_blocks m ρ), ?_⟩
  refine (θ_run _ _ _).mono (fun r h c => ?_) (Cert.Reference13Ideal.Value.run (F := Ideal) m' ρ')
  obtain ⟨h0, hrest⟩ := h c
  refine ⟨h0.trans ?_, hrest⟩
  obtain ⟨-, a1, a2, a3⟩ := he c
  rw [a1, a2, a3]
  show _ = out m c
  funext i
  obtain ⟨a, b, rfl⟩ := pair (i : S16384x1024.Idx)
  refine (ref_at _ _ _ a b).trans ?_
  exact add_comm _ _

end Cert.Reference13Ideal.Val

end
-- ==== Proof.ProdB.lean ====
/- Further products taken at once over their contraction: entry by entry the call's array is the product the reference
   takes. -/
module

public import proofs.«01_k».proof.Defs
public import proofs.«01_k».proof.Proof.Prod
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Kernel21.Frame
public import proofs.«01_k».proof.Proof.Gen.Kernel21Ideal.Value
public import proofs.«01_k».proof.Proof.Gen.Reference21Ideal.Run

@[expose] public section

set_option maxRecDepth 16384

noncomputable section

/-! ## The SwiGLU's output product onto the residual -/

open Idealize.ShloMosaic TcCoe Tactic Idealize.SL.Sem Cert.Prod

namespace Cert.Kernel15Ideal.Val

open Gen

variable (m : (ℓ : Loc nD τ sig) → Buf (Elt Ideal) ℓ) (c : Dev nD)

abbrev xs : S16384x2816.Idx → EReal := m (c, Proc.devRef .tc main_arg0)
abbrev ws : S2816x1024.Idx → EReal := m (c, Proc.devRef .tc main_arg1)
abbrev zs : S16384x1024.Idx → EReal := m (c, Proc.devRef .tc main_arg2)

theorem x_at (r : Fin 16384) (l : Fin 2816) : (V m c main_v0 : S16384x2816.Idx → EReal) (ix2 r l) = xs m c (ix2 r l) := by
  unfold V
  after_reads_at

theorem w_at (r : Fin 2816) (l : Fin 1024) : (V m c main_v1 : S2816x1024.Idx → EReal) (ix2 r l) = ws m c (ix2 r l) := by
  unfold V
  after_reads_at

theorem z_at (r : Fin 16384) (l : Fin 1024) : (V m c main_arg2 : S16384x1024.Idx → EReal) (ix2 r l) = zs m c (ix2 r l) := by
  unfold V
  after_reads_at

theorem pay_at (x : Vec Ideal S1024x2816 .bf16) (w : Vec Ideal S2816x1024 .bf16) (z : Vec Ideal S1024x1024 .f32) (a : Fin 1024) (b : Fin 1024) :
    k0_pay1 (F := Ideal) x w z (ix2 a b) = (∑ l : Fin 2816, x (ix2 a l) * w (ix2 l b)) + z (ix2 a b) := by
  unfold k0_pay1
  pointwise

theorem e0 : ∀ t : Fin grid0.N, win0_0.index t = ![t.val, 0] := by decide +kernel
theorem e1 : ∀ t : Fin grid0.N, win0_1.index t = ![0, 0] := by decide +kernel
theorem e2 : ∀ t : Fin grid0.N, win0_2.index t = ![t.val, 0] := by decide +kernel
theorem e3 : ∀ t : Fin grid0.N, win0_3.index t = ![t.val, 0] := by decide +kernel

/-- The array the run leaves. -/
def out : S16384x1024.Idx → EReal := fun i => (∑ l : Fin 2816, xs m c (ix2 (i 0) l) * ws m c (ix2 l (i 1))) + zs m c (ix2 (i 0) (i 1))

theorem arr : (dats m 0 c).arrAt 3 cfg0.N = out m c := by
  refine (dats m 0 c).arrAt_eq_of_covers 3 _ (by decide +kernel) fun t hf y => ?_
  have hN : t.val < 16 := lt_of_lt_of_eq t.isLt N_0
  blk_simp
  rw [after0_3]
  frame_out
  obtain ⟨a, b, rfl⟩ := pair (y : S1024x1024.Idx)
  have hi : ((View.whole main_v2).slice (win0_3.rect t)).emb (ix2 a b) = ix2 (⟨1024 * (t.val) + a.val, by omega⟩ : Fin 16384) (b : Fin 1024) := by
    blk_ext [e3]
  rw [hi]
  have h0 : ∀ l : Fin 2816, (iblk m c 0 t : Vec Ideal S1024x2816 .bf16) (ix2 a l) = xs m c (ix2 ⟨1024 * (t.val) + a.val, by omega⟩ l) := fun l => by
    rw [← x_at]
    blk_simp [iblk]
    congr 1
    blk_ext [e0]
  have h1 : ∀ l : Fin 2816, (iblk m c 1 t : Vec Ideal S2816x1024 .bf16) (ix2 l b) = ws m c (ix2 l b) := fun l => by
    rw [← w_at]
    blk_simp [iblk]
    congr 1
    blk_ext [e1]
  have h2 : (iblk m c 2 t : Vec Ideal S1024x1024 .f32) (ix2 a b) = zs m c (ix2 ⟨1024 * (t.val) + a.val, by omega⟩ b) := by
    rw [← z_at]
    blk_simp [iblk]
    congr 1
    blk_ext [e2]
  exact (pay_at _ _ _ a b).trans (congrArg₂ (· + ·) (Finset.sum_congr rfl fun l _ => congrArg₂ (· * ·) (h0 l) (h1 l)) h2)

end Cert.Kernel15Ideal.Val

namespace Cert.Reference15Ideal.Val

open Gen
open Cert.Kernel15Ideal.Val (out arr)

theorem ref_at (x : S16384x2816.Idx → EReal) (y : S2816x1024.Idx → EReal) (z : S16384x1024.Idx → EReal) (a : Fin 16384) (b : Fin 1024) :
    (addf z (Host.dotGeneral (F := Ideal) (φ₁ := .f32) (φ₂ := .f32) dot_S16384x2816_S2816x1024_S16384x1024_1_0_0_1_n_n none x y) : FVec Ideal S16384x1024 .f32) (ix2 a b)
      = z (ix2 a b) + ∑ l : Fin 2816, x (ix2 a l) * y (ix2 l b) := by
  pointwise

theorem values : @Cert.algebraic_Kernel15Ideal_Reference15Ideal Cert.Kernel15Ideal.Gen.facts Cert.Reference15Ideal.Gen.facts := by
  intro m ρ m' ρ' _ he
  refine ⟨fun c => out m c, (θ_run _ _ _).mono (fun r h c => ⟨(h c).1.trans (arr m c), (h c).2⟩) (Cert.Kernel15Ideal.Value.run_blocks m ρ), ?_⟩
  refine (θ_run _ _ _).mono (fun r h c => ?_) (Cert.Reference15Ideal.Value.run (F := Ideal) m' ρ')
  obtain ⟨h0, hrest⟩ := h c
  refine ⟨h0.trans ?_, hrest⟩
  obtain ⟨a0, a1, a2⟩ := he c
  rw [a0, a1, a2]
  show _ = out m c
  funext i
  obtain ⟨a, b, rfl⟩ := pair (i : S16384x1024.Idx)
  refine (ref_at _ _ _ a b).trans ?_
  exact add_comm _ _

end Cert.Reference15Ideal.Val

/-! ## The step from the mixer branch's gradient to the mixer's output -/

namespace Cert.Kernel17Ideal.Val

open Gen

variable (m : (ℓ : Loc nD τ sig) → Buf (Elt Ideal) ℓ) (c : Dev nD)

abbrev xs : S16384x1024.Idx → EReal := m (c, Proc.devRef .tc main_arg2)
abbrev ws : S2048x1024.Idx → EReal := m (c, Proc.devRef .tc main_arg1)

theorem x_at (r : Fin 16384) (l : Fin 1024) : (V m c main_v0 : S16384x1024.Idx → EReal) (ix2 r l) = xs m c (ix2 r l) := by
  unfold V
  after_reads_at

theorem w_at (r : Fin 2048) (l : Fin 1024) : (V m c main_v1 : S2048x1024.Idx → EReal) (ix2 r l) = ws m c (ix2 r l) := by
  unfold V
  after_reads_at

theorem pay_at (x : Vec Ideal S4096x1024 .bf16) (w : Vec Ideal S1024x1024 .bf16) (a : Fin 4096) (b : Fin 1024) :
    k0_pay1 (F := Ideal) x w (ix2 a b) = (∑ l : Fin 1024, x (ix2 a l) * w (ix2 b l)) := by
  unfold k0_pay1
  pointwise

theorem e0 : ∀ t : Fin grid0.N, win0_0.index t = ![t.val / 2, 0] := by decide +kernel
theorem e1 : ∀ t : Fin grid0.N, win0_1.index t = ![t.val % 2, 0] := by decide +kernel
theorem e2 : ∀ t : Fin grid0.N, win0_2.index t = ![t.val / 2, t.val % 2] := by decide +kernel

/-- The array the run leaves. -/
def out : S16384x2048.Idx → EReal := fun i => (∑ l : Fin 1024, xs m c (ix2 (i 0) l) * ws m c (ix2 (i 1) l))

theorem arr : (dats m 0 c).arrAt 2 cfg0.N = out m c := by
  refine (dats m 0 c).arrAt_eq_of_covers 2 _ (by decide +kernel) fun t hf y => ?_
  have hN : t.val < 8 := lt_of_lt_of_eq t.isLt N_0
  blk_simp
  rw [after0_2]
  frame_out
  obtain ⟨a, b, rfl⟩ := pair (y : S4096x1024.Idx)
  have hi : ((View.whole main_v2).slice (win0_2.rect t)).emb (ix2 a b) = ix2 (⟨4096 * (t.val / 2) + a.val, by omega⟩ : Fin 16384) (⟨1024 * (t.val % 2) + b.val, by omega⟩ : Fin 2048) := by
    blk_ext [e2]
  rw [hi]
  have h0 : ∀ l : Fin 1024, (iblk m c 0 t : Vec Ideal S4096x1024 .bf16) (ix2 a l) = xs m c (ix2 ⟨4096 * (t.val / 2) + a.val, by omega⟩ l) := fun l => by
    rw [← x_at]
    blk_simp [iblk]
    congr 1
    blk_ext [e0]
  have h1 : ∀ l : Fin 1024, (iblk m c 1 t : Vec Ideal S1024x1024 .bf16) (ix2 b l) = ws m c (ix2 ⟨1024 * (t.val % 2) + b.val, by omega⟩ l) := fun l => by
    rw [← w_at]
    blk_simp [iblk]
    congr 1
    blk_ext [e1]
  exact (pay_at _ _ a b).trans (Finset.sum_congr rfl fun l _ => congrArg₂ (· * ·) (h0 l) (h1 l))

end Cert.Kernel17Ideal.Val

namespace Cert.Reference17Ideal.Val

open Gen
open Cert.Kernel17Ideal.Val (out arr)

theorem ref_at (y : S2048x1024.Idx → EReal) (z : S16384x1024.Idx → EReal) (a : Fin 16384) (b : Fin 2048) :
    (truncf .bf16 (Host.dotGeneral (F := Ideal) (φ₁ := .f32) (φ₂ := .f32) dot_S16384x1024_S2048x1024_S16384x2048_1_1_0_0_n_n none z y) bitsLt_bf16_f32 : FVec Ideal S16384x2048 .bf16) (ix2 a b)
      = ∑ l : Fin 1024, z (ix2 a l) * y (ix2 b l) := by
  pointwise

theorem values : @Cert.algebraic_Kernel17Ideal_Reference17Ideal Cert.Kernel17Ideal.Gen.facts Cert.Reference17Ideal.Gen.facts := by
  intro m ρ m' ρ' _ he
  refine ⟨fun c => out m c, (θ_run _ _ _).mono (fun r h c => ⟨(h c).1.trans (arr m c), (h c).2⟩) (Cert.Kernel17Ideal.Value.run_blocks m ρ), ?_⟩
  refine (θ_run _ _ _).mono (fun r h c => ?_) (Cert.Reference17Ideal.Value.run (F := Ideal) m' ρ')
  obtain ⟨h0, hrest⟩ := h c
  refine ⟨h0.trans ?_, hrest⟩
  obtain ⟨-, a1, a2⟩ := he c
  rw [a1, a2]
  show _ = out m c
  funext i
  obtain ⟨a, b, rfl⟩ := pair (i : S16384x2048.Idx)
  exact ref_at _ _ a b

end Cert.Reference17Ideal.Val

/-! ## The mixer branch's product -/

namespace Cert.Kernel18Ideal.Val

open Gen

variable (m : (ℓ : Loc nD τ sig) → Buf (Elt Ideal) ℓ) (c : Dev nD)

abbrev xs : S16384x2048.Idx → EReal := m (c, Proc.devRef .tc main_arg0)
abbrev ws : S2048x1024.Idx → EReal := m (c, Proc.devRef .tc main_arg1)

theorem x_at (r : Fin 16384) (l : Fin 2048) : (V m c main_v0 : S16384x2048.Idx → EReal) (ix2 r l) = xs m c (ix2 r l) := by
  unfold V
  after_reads_at

theorem w_at (r : Fin 2048) (l : Fin 1024) : (V m c main_v1 : S2048x1024.Idx → EReal) (ix2 r l) = ws m c (ix2 r l) := by
  unfold V
  after_reads_at

theorem pay_at (x : Vec Ideal S2048x2048 .bf16) (w : Vec Ideal S2048x1024 .bf16) (a : Fin 2048) (b : Fin 1024) :
    k0_pay1 (F := Ideal) x w (ix2 a b) = (∑ l : Fin 2048, x (ix2 a l) * w (ix2 l b)) := by
  unfold k0_pay1
  pointwise

theorem e0 : ∀ t : Fin grid0.N, win0_0.index t = ![t.val, 0] := by decide +kernel
theorem e1 : ∀ t : Fin grid0.N, win0_1.index t = ![0, 0] := by decide +kernel
theorem e2 : ∀ t : Fin grid0.N, win0_2.index t = ![t.val, 0] := by decide +kernel

/-- The array the run leaves. -/
def out : S16384x1024.Idx → EReal := fun i => (∑ l : Fin 2048, xs m c (ix2 (i 0) l) * ws m c (ix2 l (i 1)))

theorem arr : (dats m 0 c).arrAt 2 cfg0.N = out m c := by
  refine (dats m 0 c).arrAt_eq_of_covers 2 _ (by decide +kernel) fun t hf y => ?_
  have hN : t.val < 8 := lt_of_lt_of_eq t.isLt N_0
  blk_simp
  rw [after0_2]
  frame_out
  obtain ⟨a, b, rfl⟩ := pair (y : S2048x1024.Idx)
  have hi : ((View.whole main_v2).slice (win0_2.rect t)).emb (ix2 a b) = ix2 (⟨2048 * (t.val) + a.val, by omega⟩ : Fin 16384) (b : Fin 1024) := by
    blk_ext [e2]
  rw [hi]
  have h0 : ∀ l : Fin 2048, (iblk m c 0 t : Vec Ideal S2048x2048 .bf16) (ix2 a l) = xs m c (ix2 ⟨2048 * (t.val) + a.val, by omega⟩ l) := fun l => by
    rw [← x_at]
    blk_simp [iblk]
    congr 1
    blk_ext [e0]
  have h1 : ∀ l : Fin 2048, (iblk m c 1 t : Vec Ideal S2048x1024 .bf16) (ix2 l b) = ws m c (ix2 l b) := fun l => by
    rw [← w_at]
    blk_simp [iblk]
    congr 1
    blk_ext [e1]
  exact (pay_at _ _ a b).trans (Finset.sum_congr rfl fun l _ => congrArg₂ (· * ·) (h0 l) (h1 l))

end Cert.Kernel18Ideal.Val

namespace Cert.Reference18Ideal.Val

open Gen
open Cert.Kernel18Ideal.Val (out arr)

theorem ref_at (x : S16384x2048.Idx → EReal) (y : S2048x1024.Idx → EReal) (a : Fin 16384) (b : Fin 1024) :
    (truncf .bf16 (Host.dotGeneral (F := Ideal) (φ₁ := .f32) (φ₂ := .f32) dot_S16384x2048_S2048x1024_S16384x1024_1_0_0_1_n_n none x y) bitsLt_bf16_f32 : FVec Ideal S16384x1024 .bf16) (ix2 a b)
      = ∑ l : Fin 2048, x (ix2 a l) * y (ix2 l b) := by
  pointwise

theorem values : @Cert.algebraic_Kernel18Ideal_Reference18Ideal Cert.Kernel18Ideal.Gen.facts Cert.Reference18Ideal.Gen.facts := by
  intro m ρ m' ρ' _ he
  refine ⟨fun c => out m c, (θ_run _ _ _).mono (fun r h c => ⟨(h c).1.trans (arr m c), (h c).2⟩) (Cert.Kernel18Ideal.Value.run_blocks m ρ), ?_⟩
  refine (θ_run _ _ _).mono (fun r h c => ?_) (Cert.Reference18Ideal.Value.run (F := Ideal) m' ρ')
  obtain ⟨h0, hrest⟩ := h c
  refine ⟨h0.trans ?_, hrest⟩
  obtain ⟨a0, a1⟩ := he c
  rw [a0, a1]
  show _ = out m c
  funext i
  obtain ⟨a, b, rfl⟩ := pair (i : S16384x1024.Idx)
  exact ref_at _ _ a b

end Cert.Reference18Ideal.Val

/-! ## The step from the attention branch's gradient to the attention's output -/

namespace Cert.Kernel20Ideal.Val

open Gen

variable (m : (ℓ : Loc nD τ sig) → Buf (Elt Ideal) ℓ) (c : Dev nD)

abbrev xs : S16384x1024.Idx → EReal := m (c, Proc.devRef .tc main_arg2)
abbrev ws : S512x1024.Idx → EReal := m (c, Proc.devRef .tc main_arg1)

theorem x_at (r : Fin 16384) (l : Fin 1024) : (V m c main_v0 : S16384x1024.Idx → EReal) (ix2 r l) = xs m c (ix2 r l) := by
  unfold V
  after_reads_at

theorem w_at (r : Fin 512) (l : Fin 1024) : (V m c main_v1 : S512x1024.Idx → EReal) (ix2 r l) = ws m c (ix2 r l) := by
  unfold V
  after_reads_at

theorem pay_at (x : Vec Ideal S4096x1024 .bf16) (w : Vec Ideal S512x1024 .bf16) (a : Fin 4096) (b : Fin 512) :
    k0_pay1 (F := Ideal) x w (ix2 a b) = (∑ l : Fin 1024, x (ix2 a l) * w (ix2 b l)) := by
  unfold k0_pay1
  pointwise

theorem e0 : ∀ t : Fin grid0.N, win0_0.index t = ![t.val, 0] := by decide +kernel
theorem e1 : ∀ t : Fin grid0.N, win0_1.index t = ![0, 0] := by decide +kernel
theorem e2 : ∀ t : Fin grid0.N, win0_2.index t = ![t.val, 0] := by decide +kernel

/-- The array the run leaves. -/
def out : S16384x512.Idx → EReal := fun i => (∑ l : Fin 1024, xs m c (ix2 (i 0) l) * ws m c (ix2 (i 1) l))

theorem arr : (dats m 0 c).arrAt 2 cfg0.N = out m c := by
  refine (dats m 0 c).arrAt_eq_of_covers 2 _ (by decide +kernel) fun t hf y => ?_
  have hN : t.val < 4 := lt_of_lt_of_eq t.isLt N_0
  blk_simp
  rw [after0_2]
  frame_out
  obtain ⟨a, b, rfl⟩ := pair (y : S4096x512.Idx)
  have hi : ((View.whole main_v2).slice (win0_2.rect t)).emb (ix2 a b) = ix2 (⟨4096 * (t.val) + a.val, by omega⟩ : Fin 16384) (b : Fin 512) := by
    blk_ext [e2]
  rw [hi]
  have h0 : ∀ l : Fin 1024, (iblk m c 0 t : Vec Ideal S4096x1024 .bf16) (ix2 a l) = xs m c (ix2 ⟨4096 * (t.val) + a.val, by omega⟩ l) := fun l => by
    rw [← x_at]
    blk_simp [iblk]
    congr 1
    blk_ext [e0]
  have h1 : ∀ l : Fin 1024, (iblk m c 1 t : Vec Ideal S512x1024 .bf16) (ix2 b l) = ws m c (ix2 b l) := fun l => by
    rw [← w_at]
    blk_simp [iblk]
    congr 1
    blk_ext [e1]
  exact (pay_at _ _ a b).trans (Finset.sum_congr rfl fun l _ => congrArg₂ (· * ·) (h0 l) (h1 l))

end Cert.Kernel20Ideal.Val

namespace Cert.Reference20Ideal.Val

open Gen
open Cert.Kernel20Ideal.Val (out arr)

theorem ref_at (y : S512x1024.Idx → EReal) (z : S16384x1024.Idx → EReal) (a : Fin 16384) (b : Fin 512) :
    (truncf .bf16 (Host.dotGeneral (F := Ideal) (φ₁ := .f32) (φ₂ := .f32) dot_S16384x1024_S512x1024_S16384x512_1_1_0_0_n_n none z y) bitsLt_bf16_f32 : FVec Ideal S16384x512 .bf16) (ix2 a b)
      = ∑ l : Fin 1024, z (ix2 a l) * y (ix2 b l) := by
  pointwise

theorem values : @Cert.algebraic_Kernel20Ideal_Reference20Ideal Cert.Kernel20Ideal.Gen.facts Cert.Reference20Ideal.Gen.facts := by
  intro m ρ m' ρ' _ he
  refine ⟨fun c => out m c, (θ_run _ _ _).mono (fun r h c => ⟨(h c).1.trans (arr m c), (h c).2⟩) (Cert.Kernel20Ideal.Value.run_blocks m ρ), ?_⟩
  refine (θ_run _ _ _).mono (fun r h c => ?_) (Cert.Reference20Ideal.Value.run (F := Ideal) m' ρ')
  obtain ⟨h0, hrest⟩ := h c
  refine ⟨h0.trans ?_, hrest⟩
  obtain ⟨-, a1, a2⟩ := he c
  rw [a1, a2]
  show _ = out m c
  funext i
  obtain ⟨a, b, rfl⟩ := pair (i : S16384x512.Idx)
  exact ref_at _ _ a b

end Cert.Reference20Ideal.Val

/-! ## The attention branch's product -/

namespace Cert.Kernel21Ideal.Val

open Gen

variable (m : (ℓ : Loc nD τ sig) → Buf (Elt Ideal) ℓ) (c : Dev nD)

abbrev xs : S16384x512.Idx → EReal := m (c, Proc.devRef .tc main_arg0)
abbrev ws : S512x1024.Idx → EReal := m (c, Proc.devRef .tc main_arg1)

theorem x_at (r : Fin 16384) (l : Fin 512) : (V m c main_v0 : S16384x512.Idx → EReal) (ix2 r l) = xs m c (ix2 r l) := by
  unfold V
  after_reads_at

theorem w_at (r : Fin 512) (l : Fin 1024) : (V m c main_v1 : S512x1024.Idx → EReal) (ix2 r l) = ws m c (ix2 r l) := by
  unfold V
  after_reads_at

theorem pay_at (x : Vec Ideal S4096x512 .bf16) (w : Vec Ideal S512x1024 .bf16) (a : Fin 4096) (b : Fin 1024) :
    k0_pay1 (F := Ideal) x w (ix2 a b) = (∑ l : Fin 512, x (ix2 a l) * w (ix2 l b)) := by
  unfold k0_pay1
  pointwise

theorem e0 : ∀ t : Fin grid0.N, win0_0.index t = ![t.val, 0] := by decide +kernel
theorem e1 : ∀ t : Fin grid0.N, win0_1.index t = ![0, 0] := by decide +kernel
theorem e2 : ∀ t : Fin grid0.N, win0_2.index t = ![t.val, 0] := by decide +kernel

/-- The array the run leaves. -/
def out : S16384x1024.Idx → EReal := fun i => (∑ l : Fin 512, xs m c (ix2 (i 0) l) * ws m c (ix2 l (i 1)))

theorem arr : (dats m 0 c).arrAt 2 cfg0.N = out m c := by
  refine (dats m 0 c).arrAt_eq_of_covers 2 _ (by decide +kernel) fun t hf y => ?_
  have hN : t.val < 4 := lt_of_lt_of_eq t.isLt N_0
  blk_simp
  rw [after0_2]
  frame_out
  obtain ⟨a, b, rfl⟩ := pair (y : S4096x1024.Idx)
  have hi : ((View.whole main_v2).slice (win0_2.rect t)).emb (ix2 a b) = ix2 (⟨4096 * (t.val) + a.val, by omega⟩ : Fin 16384) (b : Fin 1024) := by
    blk_ext [e2]
  rw [hi]
  have h0 : ∀ l : Fin 512, (iblk m c 0 t : Vec Ideal S4096x512 .bf16) (ix2 a l) = xs m c (ix2 ⟨4096 * (t.val) + a.val, by omega⟩ l) := fun l => by
    rw [← x_at]
    blk_simp [iblk]
    congr 1
    blk_ext [e0]
  have h1 : ∀ l : Fin 512, (iblk m c 1 t : Vec Ideal S512x1024 .bf16) (ix2 l b) = ws m c (ix2 l b) := fun l => by
    rw [← w_at]
    blk_simp [iblk]
    congr 1
    blk_ext [e1]
  exact (pay_at _ _ a b).trans (Finset.sum_congr rfl fun l _ => congrArg₂ (· * ·) (h0 l) (h1 l))

end Cert.Kernel21Ideal.Val

namespace Cert.Reference21Ideal.Val

open Gen
open Cert.Kernel21Ideal.Val (out arr)

theorem ref_at (x : S16384x512.Idx → EReal) (y : S512x1024.Idx → EReal) (a : Fin 16384) (b : Fin 1024) :
    (truncf .bf16 (Host.dotGeneral (F := Ideal) (φ₁ := .f32) (φ₂ := .f32) dot_S16384x512_S512x1024_S16384x1024_1_0_0_1_n_n none x y) bitsLt_bf16_f32 : FVec Ideal S16384x1024 .bf16) (ix2 a b)
      = ∑ l : Fin 512, x (ix2 a l) * y (ix2 l b) := by
  pointwise

theorem values : @Cert.algebraic_Kernel21Ideal_Reference21Ideal Cert.Kernel21Ideal.Gen.facts Cert.Reference21Ideal.Gen.facts := by
  intro m ρ m' ρ' _ he
  refine ⟨fun c => out m c, (θ_run _ _ _).mono (fun r h c => ⟨(h c).1.trans (arr m c), (h c).2⟩) (Cert.Kernel21Ideal.Value.run_blocks m ρ), ?_⟩
  refine (θ_run _ _ _).mono (fun r h c => ?_) (Cert.Reference21Ideal.Value.run (F := Ideal) m' ρ')
  obtain ⟨h0, hrest⟩ := h c
  refine ⟨h0.trans ?_, hrest⟩
  obtain ⟨a0, a1⟩ := he c
  rw [a0, a1]
  show _ = out m c
  funext i
  obtain ⟨a, b, rfl⟩ := pair (i : S16384x1024.Idx)
  exact ref_at _ _ a b

end Cert.Reference21Ideal.Val

end
-- ==== Proof.SumA.lean ====
/- Weights' gradients: the call's array is, entry by entry, the sum over the tokens taken in stretches, the sum the
   reference takes at once. -/
module

public import proofs.«01_k».proof.Defs
public import proofs.«01_k».proof.Proof.Prod
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Kernel14.Frame
public import proofs.«01_k».proof.Proof.Gen.Kernel14Ideal.Value
public import proofs.«01_k».proof.Proof.Gen.Reference14Ideal.Run

@[expose] public section

set_option maxRecDepth 16384

noncomputable section

/-! ## The gradient of a query, key or value weight -/

open Idealize.ShloMosaic TcCoe Tactic Idealize.SL.Sem Cert.Prod

namespace Cert.Kernel6Ideal.Val

open Gen

variable (m : (ℓ : Loc nD τ sig) → Buf (Elt Ideal) ℓ) (c : Dev nD)

abbrev xs : S16384x1024.Idx → EReal := m (c, Proc.devRef .tc main_arg0)
abbrev ys : S16384x512.Idx → EReal := m (c, Proc.devRef .tc main_arg2)

theorem x_at (r : Fin 16384) (l : Fin 1024) : (V m c main_v0 : S16384x1024.Idx → EReal) (ix2 r l) = xs m c (ix2 r l) := by
  unfold V
  after_reads_at

theorem y_at (r : Fin 16384) (l : Fin 512) : (V m c main_v1 : S16384x512.Idx → EReal) (ix2 r l) = ys m c (ix2 r l) := by
  unfold V
  after_reads_at

section Pay

variable (x : Vec Ideal S4096x1024 .bf16) (y : Vec Ideal S4096x512 .bf16) (z : Vec Ideal S1024x512 .f32) (a : Fin 1024) (b : Fin 512)

theorem pay1_at : k0_pay1 (F := Ideal) x y (ix2 a b) = ∑ r : Fin 4096, x (ix2 r a) * y (ix2 r b) := by
  unfold k0_pay1
  pointwise

theorem pay2_at : k0_pay2 (F := Ideal) x y (ix2 a b) = k0_pay1 (F := Ideal) x y (ix2 a b) := by
  unfold k0_pay2
  generalize k0_pay1 (F := Ideal) x y = w
  pointwise

theorem pay3_at : k0_pay3 (F := Ideal) x y z (ix2 a b) = z (ix2 a b) + k0_pay1 (F := Ideal) x y (ix2 a b) := by
  unfold k0_pay3
  generalize k0_pay1 (F := Ideal) x y = w
  pointwise

theorem pay4_at : k0_pay4 (F := Ideal) x y z (ix2 a b) = z (ix2 a b) + k0_pay1 (F := Ideal) x y (ix2 a b) := by
  unfold k0_pay4
  generalize k0_pay1 (F := Ideal) x y = w
  pointwise

end Pay

theorem e0 : ∀ t : Fin grid0.N, win0_0.index t = ![t.val % 4, 0] := by decide +kernel
theorem e1 : ∀ t : Fin grid0.N, win0_1.index t = ![t.val % 4, 0] := by decide +kernel
theorem e2 : ∀ t : Fin grid0.N, win0_2.index t = ![0, 0] := by decide +kernel

/-- What token `l` adds to the entry at row `a`, column `b` of the call's array. -/
def term (a : Fin 1024) (b : Fin 512) (l : Fin 16384) : EReal := xs m c (ix2 l a) * ys m c (ix2 l b)

theorem part_at (t : Fin cfg0.N) (q k : ℕ) (hq : q < 1) (hk : k < 4) (ht : t.val = 4 * q + k) (a : Fin 1024) (b : Fin 512) :
    k0_pay1 (F := Ideal) (iblk m c 0 t : Vec Ideal S4096x1024 .bf16) (iblk m c 1 t : Vec Ideal S4096x512 .bf16) (ix2 a b) = stretch 4096 (term m c a b) k := by
  rw [pay1_at]
  refine stretch_eq _ _ _ (by omega) fun r => congrArg₂ (· * ·) ?_ ?_
  · rw [← x_at]
    blk_simp [iblk]
    congr 1
    blk_ext [e0]
  · rw [← y_at]
    blk_simp [iblk]
    congr 1
    blk_ext [e1]

theorem scr_at (q : ℕ) (hq : q < 1) (a : Fin 1024) (b : Fin 512) : ∀ k, k < 4 - 1 → ∀ h : 4 * q + k < cfg0.N,
    (outsAt0 m c (4 * q + k) h).2 (ix2 a b) = ∑ s ∈ Finset.range (k + 1), stretch 4096 (term m c a b) s := by
  refine run_sum (N := cfg0.N) 4 q (fun n h => (outsAt0 m c n h).2 (ix2 a b)) (stretch 4096 (term m c a b)) (fun h => ?_) (fun k hk h h' => ?_)
  · rw [← part_at m c ⟨4 * q, h⟩ q 0 hq (by omega) rfl a b]
    refine (congrArg (fun p => p.2 (ix2 a b)) (outsAt0_A m c ⟨4 * q, h⟩ (by dsimp only; omega) (by dsimp only; omega) (by dsimp only; omega))).trans ?_
    frame_out
    exact pay2_at _ _ a b
  · rw [← part_at m c ⟨4 * q + (k + 1), h⟩ q (k + 1) hq (by omega) rfl a b]
    refine (congrArg (fun p => p.2 (ix2 a b)) (outsAt0_B m c ⟨4 * q + (k + 1), h⟩ (by dsimp only; omega) (by dsimp only; omega) (by dsimp only; omega))).trans ?_
    frame_out
    refine (pay3_at _ _ _ a b).trans (congrArg (· + _) ?_)
    refine (congrFun ((Memref.isWhole_whole cc0_scratch0).read_unread _) (ix2 a b)).trans ?_
    exact same (fun n h => (outsAt0 m c n h).2 (ix2 a b)) (by omega) _ _

/-- The array the run leaves. -/
def out : S1024x512.Idx → EReal := fun i => ∑ l, term m c (i 0) (i 1) l

theorem arr : (dats m 0 c).arrAt 2 cfg0.N = out m c := by
  refine (dats m 0 c).arrAt_eq_of_covers 2 _ (by decide +kernel) fun t hf y => ?_
  have h7 : t.val % 4 = 3 := (flush0_2 t).mp hf
  have hN : t.val < 4 := lt_of_lt_of_eq t.isLt N_0
  blk_simp
  rw [after0_2, outsAt0_C m c t (by omega) (by omega) h7]
  frame_out
  obtain ⟨a, b, rfl⟩ := pair (y : S1024x512.Idx)
  have hi : ((View.whole main_v2).slice (win0_2.rect t)).emb (ix2 a b) = ix2 a b := by
    blk_ext [e2]
  have h6 := scr_at m c (t.val / 4) (by omega) a b 2 (by omega) (by rw [show cfg0.N = 4 from N_0]; omega)
  refine (pay4_at _ _ _ a b).trans ?_
  rw [part_at m c t (t.val / 4) 3 (by omega) (by omega) (by omega) a b, hi]
  refine Eq.trans (congrArg (· + _) ((congrFun ((Memref.isWhole_whole cc0_scratch0).read_unread _) (ix2 a b)).trans
    ((same (fun n h => (outsAt0 m c n h).2 (ix2 a b)) (by omega) _ _).trans h6))) ?_
  rw [← Finset.sum_range_succ _ 3]
  exact stretches 4 4096 rfl _

end Cert.Kernel6Ideal.Val

namespace Cert.Reference6Ideal.Val

open Gen
open Cert.Kernel6Ideal.Val (out arr)

theorem ref_at (x : S16384x1024.Idx → EReal) (z : S16384x512.Idx → EReal) (a : Fin 1024) (b : Fin 512) :
    (transpose S1024x512 [1, 0] (Host.dotGeneral (F := Ideal) (φ₁ := .f32) (φ₂ := .f32) dot_S16384x512_S16384x1024_S512x1024_0_0_1_1_n_n none z x) transposes_S512x1024_S1024x512_1_0 : FVec Ideal S1024x512 .f32) (ix2 a b)
      = ∑ l : Fin 16384, z (ix2 l b) * x (ix2 l a) := by
  pointwise

theorem values : @Cert.algebraic_Kernel6Ideal_Reference6Ideal Cert.Kernel6Ideal.Gen.facts Cert.Reference6Ideal.Gen.facts := by
  intro m ρ m' ρ' _ he
  refine ⟨fun c => out m c, (θ_run _ _ _).mono (fun r h c => ⟨(h c).1.trans (arr m c), (h c).2⟩) (Cert.Kernel6Ideal.Value.run_blocks m ρ), ?_⟩
  refine (θ_run _ _ _).mono (fun r h c => ?_) (Cert.Reference6Ideal.Value.run (F := Ideal) m' ρ')
  obtain ⟨h0, hrest⟩ := h c
  refine ⟨h0.trans ?_, hrest⟩
  obtain ⟨a0, -, a2⟩ := he c
  rw [a0, a2]
  show _ = out m c
  funext i
  obtain ⟨a, b, rfl⟩ := pair (i : S1024x512.Idx)
  refine (ref_at _ _ a b).trans ?_
  exact Finset.sum_congr rfl fun l _ => mul_comm _ _

end Cert.Reference6Ideal.Val

/-! ## The gradient of the z and log-gate weights -/

namespace Cert.Kernel8Ideal.Val

open Gen

variable (m : (ℓ : Loc nD τ sig) → Buf (Elt Ideal) ℓ) (c : Dev nD)

abbrev xs : S16384x1024.Idx → EReal := m (c, Proc.devRef .tc main_arg0)
abbrev ys : S16384x2048.Idx → EReal := m (c, Proc.devRef .tc main_arg2)

theorem x_at (r : Fin 16384) (l : Fin 1024) : (V m c main_v0 : S16384x1024.Idx → EReal) (ix2 r l) = xs m c (ix2 r l) := by
  unfold V
  after_reads_at

theorem y_at (r : Fin 16384) (l : Fin 2048) : (V m c main_v1 : S16384x2048.Idx → EReal) (ix2 r l) = ys m c (ix2 r l) := by
  unfold V
  after_reads_at

section Pay

variable (x : Vec Ideal S2048x1024 .bf16) (y : Vec Ideal S2048x1024 .bf16) (z : Vec Ideal S1024x1024 .f32) (a : Fin 1024) (b : Fin 1024)

theorem pay1_at : k0_pay1 (F := Ideal) x y (ix2 a b) = ∑ r : Fin 2048, x (ix2 r a) * y (ix2 r b) := by
  unfold k0_pay1
  pointwise

theorem pay2_at : k0_pay2 (F := Ideal) x y (ix2 a b) = k0_pay1 (F := Ideal) x y (ix2 a b) := by
  unfold k0_pay2
  generalize k0_pay1 (F := Ideal) x y = w
  pointwise

theorem pay3_at : k0_pay3 (F := Ideal) x y z (ix2 a b) = z (ix2 a b) + k0_pay1 (F := Ideal) x y (ix2 a b) := by
  unfold k0_pay3
  generalize k0_pay1 (F := Ideal) x y = w
  pointwise

theorem pay4_at : k0_pay4 (F := Ideal) x y z (ix2 a b) = z (ix2 a b) + k0_pay1 (F := Ideal) x y (ix2 a b) := by
  unfold k0_pay4
  generalize k0_pay1 (F := Ideal) x y = w
  pointwise

end Pay

theorem e0 : ∀ t : Fin grid0.N, win0_0.index t = ![t.val % 8, 0] := by decide +kernel
theorem e1 : ∀ t : Fin grid0.N, win0_1.index t = ![t.val % 8, t.val / 8] := by decide +kernel
theorem e2 : ∀ t : Fin grid0.N, win0_2.index t = ![0, t.val / 8] := by decide +kernel

/-- What token `l` adds to the entry at row `a`, column `b` of the call's array. -/
def term (a : Fin 1024) (b : Fin 2048) (l : Fin 16384) : EReal := xs m c (ix2 l a) * ys m c (ix2 l b)

theorem part_at (t : Fin cfg0.N) (q k : ℕ) (hq : q < 2) (hk : k < 8) (ht : t.val = 8 * q + k) (a : Fin 1024) (b : Fin 1024) :
    k0_pay1 (F := Ideal) (iblk m c 0 t : Vec Ideal S2048x1024 .bf16) (iblk m c 1 t : Vec Ideal S2048x1024 .bf16) (ix2 a b) = stretch 2048 (term m c a ⟨1024 * q + b.val, by omega⟩) k := by
  rw [pay1_at]
  refine stretch_eq _ _ _ (by omega) fun r => congrArg₂ (· * ·) ?_ ?_
  · rw [← x_at]
    blk_simp [iblk]
    congr 1
    blk_ext [e0]
  · rw [← y_at]
    blk_simp [iblk]
    congr 1
    blk_ext [e1]

theorem scr_at (q : ℕ) (hq : q < 2) (a : Fin 1024) (b : Fin 1024) : ∀ k, k < 8 - 1 → ∀ h : 8 * q + k < cfg0.N,
    (outsAt0 m c (8 * q + k) h).2 (ix2 a b) = ∑ s ∈ Finset.range (k + 1), stretch 2048 (term m c a ⟨1024 * q + b.val, by omega⟩) s := by
  refine run_sum (N := cfg0.N) 8 q (fun n h => (outsAt0 m c n h).2 (ix2 a b)) (stretch 2048 (term m c a ⟨1024 * q + b.val, by omega⟩)) (fun h => ?_) (fun k hk h h' => ?_)
  · rw [← part_at m c ⟨8 * q, h⟩ q 0 hq (by omega) rfl a b]
    refine (congrArg (fun p => p.2 (ix2 a b)) (outsAt0_A m c ⟨8 * q, h⟩ (by dsimp only; omega) (by dsimp only; omega) (by dsimp only; omega))).trans ?_
    frame_out
    exact pay2_at _ _ a b
  · rw [← part_at m c ⟨8 * q + (k + 1), h⟩ q (k + 1) hq (by omega) rfl a b]
    refine (congrArg (fun p => p.2 (ix2 a b)) (outsAt0_B m c ⟨8 * q + (k + 1), h⟩ (by dsimp only; omega) (by dsimp only; omega) (by dsimp only; omega))).trans ?_
    frame_out
    refine (pay3_at _ _ _ a b).trans (congrArg (· + _) ?_)
    refine (congrFun ((Memref.isWhole_whole cc0_scratch0).read_unread _) (ix2 a b)).trans ?_
    exact same (fun n h => (outsAt0 m c n h).2 (ix2 a b)) (by omega) _ _

/-- The array the run leaves. -/
def out : S1024x2048.Idx → EReal := fun i => ∑ l, term m c (i 0) (i 1) l

theorem arr : (dats m 0 c).arrAt 2 cfg0.N = out m c := by
  refine (dats m 0 c).arrAt_eq_of_covers 2 _ (by decide +kernel) fun t hf y => ?_
  have h7 : t.val % 8 = 7 := (flush0_2 t).mp hf
  have hN : t.val < 16 := lt_of_lt_of_eq t.isLt N_0
  blk_simp
  rw [after0_2, outsAt0_C m c t (by omega) (by omega) h7]
  frame_out
  obtain ⟨a, b, rfl⟩ := pair (y : S1024x1024.Idx)
  have hi : ((View.whole main_v2).slice (win0_2.rect t)).emb (ix2 a b) = ix2 a (⟨1024 * (t.val / 8) + b.val, by omega⟩ : Fin 2048) := by
    blk_ext [e2]
  have h6 := scr_at m c (t.val / 8) (by omega) a b 6 (by omega) (by rw [show cfg0.N = 16 from N_0]; omega)
  refine (pay4_at _ _ _ a b).trans ?_
  rw [part_at m c t (t.val / 8) 7 (by omega) (by omega) (by omega) a b, hi]
  refine Eq.trans (congrArg (· + _) ((congrFun ((Memref.isWhole_whole cc0_scratch0).read_unread _) (ix2 a b)).trans
    ((same (fun n h => (outsAt0 m c n h).2 (ix2 a b)) (by omega) _ _).trans h6))) ?_
  rw [← Finset.sum_range_succ _ 7]
  exact stretches 8 2048 rfl _

end Cert.Kernel8Ideal.Val

namespace Cert.Reference8Ideal.Val

open Gen
open Cert.Kernel8Ideal.Val (out arr)

theorem ref_at (x : S16384x1024.Idx → EReal) (z : S16384x2048.Idx → EReal) (a : Fin 1024) (b : Fin 2048) :
    (transpose S1024x2048 [1, 0] (Host.dotGeneral (F := Ideal) (φ₁ := .f32) (φ₂ := .f32) dot_S16384x2048_S16384x1024_S2048x1024_0_0_1_1_n_n none z x) transposes_S2048x1024_S1024x2048_1_0 : FVec Ideal S1024x2048 .f32) (ix2 a b)
      = ∑ l : Fin 16384, z (ix2 l b) * x (ix2 l a) := by
  pointwise

theorem values : @Cert.algebraic_Kernel8Ideal_Reference8Ideal Cert.Kernel8Ideal.Gen.facts Cert.Reference8Ideal.Gen.facts := by
  intro m ρ m' ρ' _ he
  refine ⟨fun c => out m c, (θ_run _ _ _).mono (fun r h c => ⟨(h c).1.trans (arr m c), (h c).2⟩) (Cert.Kernel8Ideal.Value.run_blocks m ρ), ?_⟩
  refine (θ_run _ _ _).mono (fun r h c => ?_) (Cert.Reference8Ideal.Value.run (F := Ideal) m' ρ')
  obtain ⟨h0, hrest⟩ := h c
  refine ⟨h0.trans ?_, hrest⟩
  obtain ⟨a0, -, a2⟩ := he c
  rw [a0, a2]
  show _ = out m c
  funext i
  obtain ⟨a, b, rfl⟩ := pair (i : S1024x2048.Idx)
  refine (ref_at _ _ a b).trans ?_
  exact Finset.sum_congr rfl fun l _ => mul_comm _ _

end Cert.Reference8Ideal.Val

/-! ## The gradient of the mixer projection's weight -/

namespace Cert.Kernel11Ideal.Val

open Gen

variable (m : (ℓ : Loc nD τ sig) → Buf (Elt Ideal) ℓ) (c : Dev nD)

abbrev xs : S16384x1024.Idx → EReal := m (c, Proc.devRef .tc main_arg0)
abbrev ys : S16384x3072.Idx → EReal := m (c, Proc.devRef .tc main_arg2)

theorem x_at (r : Fin 16384) (l : Fin 1024) : (V m c main_v0 : S16384x1024.Idx → EReal) (ix2 r l) = xs m c (ix2 r l) := by
  unfold V
  after_reads_at

theorem y_at (r : Fin 16384) (l : Fin 3072) : (V m c main_v1 : S16384x3072.Idx → EReal) (ix2 r l) = ys m c (ix2 r l) := by
  unfold V
  after_reads_at

section Pay

variable (x : Vec Ideal S2048x1024 .bf16) (y : Vec Ideal S2048x1536 .bf16) (z : Vec Ideal S1024x1536 .f32) (a : Fin 1024) (b : Fin 1536)

theorem pay1_at : k0_pay1 (F := Ideal) x y (ix2 a b) = ∑ r : Fin 2048, x (ix2 r a) * y (ix2 r b) := by
  unfold k0_pay1
  pointwise

theorem pay2_at : k0_pay2 (F := Ideal) x y (ix2 a b) = k0_pay1 (F := Ideal) x y (ix2 a b) := by
  unfold k0_pay2
  generalize k0_pay1 (F := Ideal) x y = w
  pointwise

theorem pay3_at : k0_pay3 (F := Ideal) x y z (ix2 a b) = z (ix2 a b) + k0_pay1 (F := Ideal) x y (ix2 a b) := by
  unfold k0_pay3
  generalize k0_pay1 (F := Ideal) x y = w
  pointwise

theorem pay4_at : k0_pay4 (F := Ideal) x y z (ix2 a b) = z (ix2 a b) + k0_pay1 (F := Ideal) x y (ix2 a b) := by
  unfold k0_pay4
  generalize k0_pay1 (F := Ideal) x y = w
  pointwise

end Pay

theorem e0 : ∀ t : Fin grid0.N, win0_0.index t = ![t.val % 8, 0] := by decide +kernel
theorem e1 : ∀ t : Fin grid0.N, win0_1.index t = ![t.val % 8, t.val / 8] := by decide +kernel
theorem e2 : ∀ t : Fin grid0.N, win0_2.index t = ![0, t.val / 8] := by decide +kernel

/-- What token `l` adds to the entry at row `a`, column `b` of the call's array. -/
def term (a : Fin 1024) (b : Fin 3072) (l : Fin 16384) : EReal := xs m c (ix2 l a) * ys m c (ix2 l b)

theorem part_at (t : Fin cfg0.N) (q k : ℕ) (hq : q < 2) (hk : k < 8) (ht : t.val = 8 * q + k) (a : Fin 1024) (b : Fin 1536) :
    k0_pay1 (F := Ideal) (iblk m c 0 t : Vec Ideal S2048x1024 .bf16) (iblk m c 1 t : Vec Ideal S2048x1536 .bf16) (ix2 a b) = stretch 2048 (term m c a ⟨1536 * q + b.val, by omega⟩) k := by
  rw [pay1_at]
  refine stretch_eq _ _ _ (by omega) fun r => congrArg₂ (· * ·) ?_ ?_
  · rw [← x_at]
    blk_simp [iblk]
    congr 1
    blk_ext [e0]
  · rw [← y_at]
    blk_simp [iblk]
    congr 1
    blk_ext [e1]

theorem scr_at (q : ℕ) (hq : q < 2) (a : Fin 1024) (b : Fin 1536) : ∀ k, k < 8 - 1 → ∀ h : 8 * q + k < cfg0.N,
    (outsAt0 m c (8 * q + k) h).2 (ix2 a b) = ∑ s ∈ Finset.range (k + 1), stretch 2048 (term m c a ⟨1536 * q + b.val, by omega⟩) s := by
  refine run_sum (N := cfg0.N) 8 q (fun n h => (outsAt0 m c n h).2 (ix2 a b)) (stretch 2048 (term m c a ⟨1536 * q + b.val, by omega⟩)) (fun h => ?_) (fun k hk h h' => ?_)
  · rw [← part_at m c ⟨8 * q, h⟩ q 0 hq (by omega) rfl a b]
    refine (congrArg (fun p => p.2 (ix2 a b)) (outsAt0_A m c ⟨8 * q, h⟩ (by dsimp only; omega) (by dsimp only; omega) (by dsimp only; omega))).trans ?_
    frame_out
    exact pay2_at _ _ a b
  · rw [← part_at m c ⟨8 * q + (k + 1), h⟩ q (k + 1) hq (by omega) rfl a b]
    refine (congrArg (fun p => p.2 (ix2 a b)) (outsAt0_B m c ⟨8 * q + (k + 1), h⟩ (by dsimp only; omega) (by dsimp only; omega) (by dsimp only; omega))).trans ?_
    frame_out
    refine (pay3_at _ _ _ a b).trans (congrArg (· + _) ?_)
    refine (congrFun ((Memref.isWhole_whole cc0_scratch0).read_unread _) (ix2 a b)).trans ?_
    exact same (fun n h => (outsAt0 m c n h).2 (ix2 a b)) (by omega) _ _

/-- The array the run leaves. -/
def out : S1024x3072.Idx → EReal := fun i => ∑ l, term m c (i 0) (i 1) l

theorem arr : (dats m 0 c).arrAt 2 cfg0.N = out m c := by
  refine (dats m 0 c).arrAt_eq_of_covers 2 _ (by decide +kernel) fun t hf y => ?_
  have h7 : t.val % 8 = 7 := (flush0_2 t).mp hf
  have hN : t.val < 16 := lt_of_lt_of_eq t.isLt N_0
  blk_simp
  rw [after0_2, outsAt0_C m c t (by omega) (by omega) h7]
  frame_out
  obtain ⟨a, b, rfl⟩ := pair (y : S1024x1536.Idx)
  have hi : ((View.whole main_v2).slice (win0_2.rect t)).emb (ix2 a b) = ix2 a (⟨1536 * (t.val / 8) + b.val, by omega⟩ : Fin 3072) := by
    blk_ext [e2]
  have h6 := scr_at m c (t.val / 8) (by omega) a b 6 (by omega) (by rw [show cfg0.N = 16 from N_0]; omega)
  refine (pay4_at _ _ _ a b).trans ?_
  rw [part_at m c t (t.val / 8) 7 (by omega) (by omega) (by omega) a b, hi]
  refine Eq.trans (congrArg (· + _) ((congrFun ((Memref.isWhole_whole cc0_scratch0).read_unread _) (ix2 a b)).trans
    ((same (fun n h => (outsAt0 m c n h).2 (ix2 a b)) (by omega) _ _).trans h6))) ?_
  rw [← Finset.sum_range_succ _ 7]
  exact stretches 8 2048 rfl _

end Cert.Kernel11Ideal.Val

namespace Cert.Reference11Ideal.Val

open Gen
open Cert.Kernel11Ideal.Val (out arr)

theorem ref_at (x : S16384x1024.Idx → EReal) (z : S16384x3072.Idx → EReal) (a : Fin 1024) (b : Fin 3072) :
    (transpose S1024x3072 [1, 0] (Host.dotGeneral (F := Ideal) (φ₁ := .f32) (φ₂ := .f32) dot_S16384x3072_S16384x1024_S3072x1024_0_0_1_1_n_n none z x) transposes_S3072x1024_S1024x3072_1_0 : FVec Ideal S1024x3072 .f32) (ix2 a b)
      = ∑ l : Fin 16384, z (ix2 l b) * x (ix2 l a) := by
  pointwise

theorem values : @Cert.algebraic_Kernel11Ideal_Reference11Ideal Cert.Kernel11Ideal.Gen.facts Cert.Reference11Ideal.Gen.facts := by
  intro m ρ m' ρ' _ he
  refine ⟨fun c => out m c, (θ_run _ _ _).mono (fun r h c => ⟨(h c).1.trans (arr m c), (h c).2⟩) (Cert.Kernel11Ideal.Value.run_blocks m ρ), ?_⟩
  refine (θ_run _ _ _).mono (fun r h c => ?_) (Cert.Reference11Ideal.Value.run (F := Ideal) m' ρ')
  obtain ⟨h0, hrest⟩ := h c
  refine ⟨h0.trans ?_, hrest⟩
  obtain ⟨a0, -, a2⟩ := he c
  rw [a0, a2]
  show _ = out m c
  funext i
  obtain ⟨a, b, rfl⟩ := pair (i : S1024x3072.Idx)
  refine (ref_at _ _ a b).trans ?_
  exact Finset.sum_congr rfl fun l _ => mul_comm _ _

end Cert.Reference11Ideal.Val

/-! ## The gradient of the SwiGLU's output weight -/

namespace Cert.Kernel14Ideal.Val

open Gen

variable (m : (ℓ : Loc nD τ sig) → Buf (Elt Ideal) ℓ) (c : Dev nD)

abbrev xs : S16384x2816.Idx → EReal := m (c, Proc.devRef .tc main_arg0)
abbrev ys : S16384x1024.Idx → EReal := m (c, Proc.devRef .tc main_arg2)

theorem x_at (r : Fin 16384) (l : Fin 2816) : (V m c main_v0 : S16384x2816.Idx → EReal) (ix2 r l) = xs m c (ix2 r l) := by
  unfold V
  after_reads_at

theorem y_at (r : Fin 16384) (l : Fin 1024) : (V m c main_arg2 : S16384x1024.Idx → EReal) (ix2 r l) = ys m c (ix2 r l) := by
  unfold V
  after_reads_at

section Pay

variable (x : Vec Ideal S1024x1408 .bf16) (y : Vec Ideal S1024x1024 .f32) (z : Vec Ideal S1408x1024 .f32) (a : Fin 1408) (b : Fin 1024)

theorem pay1_at : k0_pay1 (F := Ideal) x y (ix2 a b) = ∑ r : Fin 1024, x (ix2 r a) * y (ix2 r b) := by
  unfold k0_pay1
  pointwise

theorem pay2_at : k0_pay2 (F := Ideal) x y (ix2 a b) = k0_pay1 (F := Ideal) x y (ix2 a b) := by
  unfold k0_pay2
  generalize k0_pay1 (F := Ideal) x y = w
  pointwise

theorem pay3_at : k0_pay3 (F := Ideal) x y z (ix2 a b) = z (ix2 a b) + k0_pay1 (F := Ideal) x y (ix2 a b) := by
  unfold k0_pay3
  generalize k0_pay1 (F := Ideal) x y = w
  pointwise

theorem pay4_at : k0_pay4 (F := Ideal) x y z (ix2 a b) = z (ix2 a b) + k0_pay1 (F := Ideal) x y (ix2 a b) := by
  unfold k0_pay4
  generalize k0_pay1 (F := Ideal) x y = w
  pointwise

end Pay

theorem e0 : ∀ t : Fin grid0.N, win0_0.index t = ![t.val % 16, t.val / 16] := by decide +kernel
theorem e1 : ∀ t : Fin grid0.N, win0_1.index t = ![t.val % 16, 0] := by decide +kernel
theorem e2 : ∀ t : Fin grid0.N, win0_2.index t = ![t.val / 16, 0] := by decide +kernel

/-- What token `l` adds to the entry at row `a`, column `b` of the call's array. -/
def term (a : Fin 2816) (b : Fin 1024) (l : Fin 16384) : EReal := xs m c (ix2 l a) * ys m c (ix2 l b)

theorem part_at (t : Fin cfg0.N) (q k : ℕ) (hq : q < 2) (hk : k < 16) (ht : t.val = 16 * q + k) (a : Fin 1408) (b : Fin 1024) :
    k0_pay1 (F := Ideal) (iblk m c 0 t : Vec Ideal S1024x1408 .bf16) (iblk m c 1 t : Vec Ideal S1024x1024 .f32) (ix2 a b) = stretch 1024 (term m c ⟨1408 * q + a.val, by omega⟩ b) k := by
  rw [pay1_at]
  refine stretch_eq _ _ _ (by omega) fun r => congrArg₂ (· * ·) ?_ ?_
  · rw [← x_at]
    blk_simp [iblk]
    congr 1
    blk_ext [e0]
  · rw [← y_at]
    blk_simp [iblk]
    congr 1
    blk_ext [e1]

theorem scr_at (q : ℕ) (hq : q < 2) (a : Fin 1408) (b : Fin 1024) : ∀ k, k < 16 - 1 → ∀ h : 16 * q + k < cfg0.N,
    (outsAt0 m c (16 * q + k) h).2 (ix2 a b) = ∑ s ∈ Finset.range (k + 1), stretch 1024 (term m c ⟨1408 * q + a.val, by omega⟩ b) s := by
  refine run_sum (N := cfg0.N) 16 q (fun n h => (outsAt0 m c n h).2 (ix2 a b)) (stretch 1024 (term m c ⟨1408 * q + a.val, by omega⟩ b)) (fun h => ?_) (fun k hk h h' => ?_)
  · rw [← part_at m c ⟨16 * q, h⟩ q 0 hq (by omega) rfl a b]
    refine (congrArg (fun p => p.2 (ix2 a b)) (outsAt0_A m c ⟨16 * q, h⟩ (by dsimp only; omega) (by dsimp only; omega) (by dsimp only; omega))).trans ?_
    frame_out
    exact pay2_at _ _ a b
  · rw [← part_at m c ⟨16 * q + (k + 1), h⟩ q (k + 1) hq (by omega) rfl a b]
    refine (congrArg (fun p => p.2 (ix2 a b)) (outsAt0_B m c ⟨16 * q + (k + 1), h⟩ (by dsimp only; omega) (by dsimp only; omega) (by dsimp only; omega))).trans ?_
    frame_out
    refine (pay3_at _ _ _ a b).trans (congrArg (· + _) ?_)
    refine (congrFun ((Memref.isWhole_whole cc0_scratch0).read_unread _) (ix2 a b)).trans ?_
    exact same (fun n h => (outsAt0 m c n h).2 (ix2 a b)) (by omega) _ _

/-- The array the run leaves. -/
def out : S2816x1024.Idx → EReal := fun i => ∑ l, term m c (i 0) (i 1) l

theorem arr : (dats m 0 c).arrAt 2 cfg0.N = out m c := by
  refine (dats m 0 c).arrAt_eq_of_covers 2 _ (by decide +kernel) fun t hf y => ?_
  have h7 : t.val % 16 = 15 := (flush0_2 t).mp hf
  have hN : t.val < 32 := lt_of_lt_of_eq t.isLt N_0
  blk_simp
  rw [after0_2, outsAt0_C m c t (by omega) (by omega) h7]
  frame_out
  obtain ⟨a, b, rfl⟩ := pair (y : S1408x1024.Idx)
  have hi : ((View.whole main_v1).slice (win0_2.rect t)).emb (ix2 a b) = ix2 (⟨1408 * (t.val / 16) + a.val, by omega⟩ : Fin 2816) b := by
    blk_ext [e2]
  have h6 := scr_at m c (t.val / 16) (by omega) a b 14 (by omega) (by rw [show cfg0.N = 32 from N_0]; omega)
  refine (pay4_at _ _ _ a b).trans ?_
  rw [part_at m c t (t.val / 16) 15 (by omega) (by omega) (by omega) a b, hi]
  refine Eq.trans (congrArg (· + _) ((congrFun ((Memref.isWhole_whole cc0_scratch0).read_unread _) (ix2 a b)).trans
    ((same (fun n h => (outsAt0 m c n h).2 (ix2 a b)) (by omega) _ _).trans h6))) ?_
  rw [← Finset.sum_range_succ _ 15]
  exact stretches 16 1024 rfl _

end Cert.Kernel14Ideal.Val

namespace Cert.Reference14Ideal.Val

open Gen
open Cert.Kernel14Ideal.Val (out arr)

theorem ref_at (x : S16384x2816.Idx → EReal) (z : S16384x1024.Idx → EReal) (a : Fin 2816) (b : Fin 1024) :
    (transpose S2816x1024 [1, 0] (Host.dotGeneral (F := Ideal) (φ₁ := .f32) (φ₂ := .f32) dot_S16384x1024_S16384x2816_S1024x2816_0_0_1_1_n_n none z x) transposes_S1024x2816_S2816x1024_1_0 : FVec Ideal S2816x1024 .f32) (ix2 a b)
      = ∑ l : Fin 16384, z (ix2 l b) * x (ix2 l a) := by
  pointwise

theorem values : @Cert.algebraic_Kernel14Ideal_Reference14Ideal Cert.Kernel14Ideal.Gen.facts Cert.Reference14Ideal.Gen.facts := by
  intro m ρ m' ρ' _ he
  refine ⟨fun c => out m c, (θ_run _ _ _).mono (fun r h c => ⟨(h c).1.trans (arr m c), (h c).2⟩) (Cert.Kernel14Ideal.Value.run_blocks m ρ), ?_⟩
  refine (θ_run _ _ _).mono (fun r h c => ?_) (Cert.Reference14Ideal.Value.run (F := Ideal) m' ρ')
  obtain ⟨h0, hrest⟩ := h c
  refine ⟨h0.trans ?_, hrest⟩
  obtain ⟨a0, -, a2⟩ := he c
  rw [a0, a2]
  show _ = out m c
  funext i
  obtain ⟨a, b, rfl⟩ := pair (i : S2816x1024.Idx)
  refine (ref_at _ _ a b).trans ?_
  exact Finset.sum_congr rfl fun l _ => mul_comm _ _

end Cert.Reference14Ideal.Val

end
-- ==== Proof.SumB.lean ====
/- Further weights' gradients: the sum over the tokens taken in stretches is the sum the reference takes at once. -/
module

public import proofs.«01_k».proof.Defs
public import proofs.«01_k».proof.Proof.Prod
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Kernel22.Frame
public import proofs.«01_k».proof.Proof.Gen.Kernel22Ideal.Value
public import proofs.«01_k».proof.Proof.Gen.Reference22Ideal.Run

@[expose] public section

set_option maxRecDepth 16384

noncomputable section

/-! ## The gradient of the mixer branch's weight -/

open Idealize.ShloMosaic TcCoe Tactic Idealize.SL.Sem Cert.Prod

namespace Cert.Kernel16Ideal.Val

open Gen

variable (m : (ℓ : Loc nD τ sig) → Buf (Elt Ideal) ℓ) (c : Dev nD)

abbrev xs : S16384x2048.Idx → EReal := m (c, Proc.devRef .tc main_arg0)
abbrev ys : S16384x1024.Idx → EReal := m (c, Proc.devRef .tc main_arg2)

theorem x_at (r : Fin 16384) (l : Fin 2048) : (V m c main_v0 : S16384x2048.Idx → EReal) (ix2 r l) = xs m c (ix2 r l) := by
  unfold V
  after_reads_at

theorem y_at (r : Fin 16384) (l : Fin 1024) : (V m c main_v1 : S16384x1024.Idx → EReal) (ix2 r l) = ys m c (ix2 r l) := by
  unfold V
  after_reads_at

section Pay

variable (x : Vec Ideal S2048x1024 .bf16) (y : Vec Ideal S2048x1024 .bf16) (z : Vec Ideal S1024x1024 .f32) (a : Fin 1024) (b : Fin 1024)

theorem pay1_at : k0_pay1 (F := Ideal) x y (ix2 a b) = ∑ r : Fin 2048, x (ix2 r a) * y (ix2 r b) := by
  unfold k0_pay1
  pointwise

theorem pay2_at : k0_pay2 (F := Ideal) x y (ix2 a b) = k0_pay1 (F := Ideal) x y (ix2 a b) := by
  unfold k0_pay2
  generalize k0_pay1 (F := Ideal) x y = w
  pointwise

theorem pay3_at : k0_pay3 (F := Ideal) x y z (ix2 a b) = z (ix2 a b) + k0_pay1 (F := Ideal) x y (ix2 a b) := by
  unfold k0_pay3
  generalize k0_pay1 (F := Ideal) x y = w
  pointwise

theorem pay4_at : k0_pay4 (F := Ideal) x y z (ix2 a b) = z (ix2 a b) + k0_pay1 (F := Ideal) x y (ix2 a b) := by
  unfold k0_pay4
  generalize k0_pay1 (F := Ideal) x y = w
  pointwise

end Pay

theorem e0 : ∀ t : Fin grid0.N, win0_0.index t = ![t.val % 8, t.val / 8] := by decide +kernel
theorem e1 : ∀ t : Fin grid0.N, win0_1.index t = ![t.val % 8, 0] := by decide +kernel
theorem e2 : ∀ t : Fin grid0.N, win0_2.index t = ![t.val / 8, 0] := by decide +kernel

/-- What token `l` adds to the entry at row `a`, column `b` of the call's array. -/
def term (a : Fin 2048) (b : Fin 1024) (l : Fin 16384) : EReal := xs m c (ix2 l a) * ys m c (ix2 l b)

theorem part_at (t : Fin cfg0.N) (q k : ℕ) (hq : q < 2) (hk : k < 8) (ht : t.val = 8 * q + k) (a : Fin 1024) (b : Fin 1024) :
    k0_pay1 (F := Ideal) (iblk m c 0 t : Vec Ideal S2048x1024 .bf16) (iblk m c 1 t : Vec Ideal S2048x1024 .bf16) (ix2 a b) = stretch 2048 (term m c ⟨1024 * q + a.val, by omega⟩ b) k := by
  rw [pay1_at]
  refine stretch_eq _ _ _ (by omega) fun r => congrArg₂ (· * ·) ?_ ?_
  · rw [← x_at]
    blk_simp [iblk]
    congr 1
    blk_ext [e0]
  · rw [← y_at]
    blk_simp [iblk]
    congr 1
    blk_ext [e1]

theorem scr_at (q : ℕ) (hq : q < 2) (a : Fin 1024) (b : Fin 1024) : ∀ k, k < 8 - 1 → ∀ h : 8 * q + k < cfg0.N,
    (outsAt0 m c (8 * q + k) h).2 (ix2 a b) = ∑ s ∈ Finset.range (k + 1), stretch 2048 (term m c ⟨1024 * q + a.val, by omega⟩ b) s := by
  refine run_sum (N := cfg0.N) 8 q (fun n h => (outsAt0 m c n h).2 (ix2 a b)) (stretch 2048 (term m c ⟨1024 * q + a.val, by omega⟩ b)) (fun h => ?_) (fun k hk h h' => ?_)
  · rw [← part_at m c ⟨8 * q, h⟩ q 0 hq (by omega) rfl a b]
    refine (congrArg (fun p => p.2 (ix2 a b)) (outsAt0_A m c ⟨8 * q, h⟩ (by dsimp only; omega) (by dsimp only; omega) (by dsimp only; omega))).trans ?_
    frame_out
    exact pay2_at _ _ a b
  · rw [← part_at m c ⟨8 * q + (k + 1), h⟩ q (k + 1) hq (by omega) rfl a b]
    refine (congrArg (fun p => p.2 (ix2 a b)) (outsAt0_B m c ⟨8 * q + (k + 1), h⟩ (by dsimp only; omega) (by dsimp only; omega) (by dsimp only; omega))).trans ?_
    frame_out
    refine (pay3_at _ _ _ a b).trans (congrArg (· + _) ?_)
    refine (congrFun ((Memref.isWhole_whole cc0_scratch0).read_unread _) (ix2 a b)).trans ?_
    exact same (fun n h => (outsAt0 m c n h).2 (ix2 a b)) (by omega) _ _

/-- The array the run leaves. -/
def out : S2048x1024.Idx → EReal := fun i => ∑ l, term m c (i 0) (i 1) l

theorem arr : (dats m 0 c).arrAt 2 cfg0.N = out m c := by
  refine (dats m 0 c).arrAt_eq_of_covers 2 _ (by decide +kernel) fun t hf y => ?_
  have h7 : t.val % 8 = 7 := (flush0_2 t).mp hf
  have hN : t.val < 16 := lt_of_lt_of_eq t.isLt N_0
  blk_simp
  rw [after0_2, outsAt0_C m c t (by omega) (by omega) h7]
  frame_out
  obtain ⟨a, b, rfl⟩ := pair (y : S1024x1024.Idx)
  have hi : ((View.whole main_v2).slice (win0_2.rect t)).emb (ix2 a b) = ix2 (⟨1024 * (t.val / 8) + a.val, by omega⟩ : Fin 2048) b := by
    blk_ext [e2]
  have h6 := scr_at m c (t.val / 8) (by omega) a b 6 (by omega) (by rw [show cfg0.N = 16 from N_0]; omega)
  refine (pay4_at _ _ _ a b).trans ?_
  rw [part_at m c t (t.val / 8) 7 (by omega) (by omega) (by omega) a b, hi]
  refine Eq.trans (congrArg (· + _) ((congrFun ((Memref.isWhole_whole cc0_scratch0).read_unread _) (ix2 a b)).trans
    ((same (fun n h => (outsAt0 m c n h).2 (ix2 a b)) (by omega) _ _).trans h6))) ?_
  rw [← Finset.sum_range_succ _ 7]
  exact stretches 8 2048 rfl _

end Cert.Kernel16Ideal.Val

namespace Cert.Reference16Ideal.Val

open Gen
open Cert.Kernel16Ideal.Val (out arr)

theorem ref_at (x : S16384x2048.Idx → EReal) (z : S16384x1024.Idx → EReal) (a : Fin 2048) (b : Fin 1024) :
    (transpose S2048x1024 [1, 0] (Host.dotGeneral (F := Ideal) (φ₁ := .f32) (φ₂ := .f32) dot_S16384x1024_S16384x2048_S1024x2048_0_0_1_1_n_n none z x) transposes_S1024x2048_S2048x1024_1_0 : FVec Ideal S2048x1024 .f32) (ix2 a b)
      = ∑ l : Fin 16384, z (ix2 l b) * x (ix2 l a) := by
  pointwise

theorem values : @Cert.algebraic_Kernel16Ideal_Reference16Ideal Cert.Kernel16Ideal.Gen.facts Cert.Reference16Ideal.Gen.facts := by
  intro m ρ m' ρ' _ he
  refine ⟨fun c => out m c, (θ_run _ _ _).mono (fun r h c => ⟨(h c).1.trans (arr m c), (h c).2⟩) (Cert.Kernel16Ideal.Value.run_blocks m ρ), ?_⟩
  refine (θ_run _ _ _).mono (fun r h c => ?_) (Cert.Reference16Ideal.Value.run (F := Ideal) m' ρ')
  obtain ⟨h0, hrest⟩ := h c
  refine ⟨h0.trans ?_, hrest⟩
  obtain ⟨a0, -, a2⟩ := he c
  rw [a0, a2]
  show _ = out m c
  funext i
  obtain ⟨a, b, rfl⟩ := pair (i : S2048x1024.Idx)
  refine (ref_at _ _ a b).trans ?_
  exact Finset.sum_congr rfl fun l _ => mul_comm _ _

end Cert.Reference16Ideal.Val

/-! ## The gradient of the output weight -/

namespace Cert.Kernel19Ideal.Val

open Gen

variable (m : (ℓ : Loc nD τ sig) → Buf (Elt Ideal) ℓ) (c : Dev nD)

abbrev xs : S16384x1024.Idx → EReal := m (c, Proc.devRef .tc main_arg0)
abbrev ys : S16384x1024.Idx → EReal := m (c, Proc.devRef .tc main_arg2)

theorem x_at (r : Fin 16384) (l : Fin 1024) : (V m c main_v0 : S16384x1024.Idx → EReal) (ix2 r l) = xs m c (ix2 r l) := by
  unfold V
  after_reads_at

theorem y_at (r : Fin 16384) (l : Fin 1024) : (V m c main_arg2 : S16384x1024.Idx → EReal) (ix2 r l) = ys m c (ix2 r l) := by
  unfold V
  after_reads_at

section Pay

variable (x : Vec Ideal S2048x1024 .bf16) (y : Vec Ideal S2048x1024 .f32) (z : Vec Ideal S1024x1024 .f32) (a : Fin 1024) (b : Fin 1024)

theorem pay1_at : k0_pay1 (F := Ideal) x y (ix2 a b) = ∑ r : Fin 2048, x (ix2 r a) * y (ix2 r b) := by
  unfold k0_pay1
  pointwise

theorem pay2_at : k0_pay2 (F := Ideal) x y (ix2 a b) = k0_pay1 (F := Ideal) x y (ix2 a b) := by
  unfold k0_pay2
  generalize k0_pay1 (F := Ideal) x y = w
  pointwise

theorem pay3_at : k0_pay3 (F := Ideal) x y z (ix2 a b) = z (ix2 a b) + k0_pay1 (F := Ideal) x y (ix2 a b) := by
  unfold k0_pay3
  generalize k0_pay1 (F := Ideal) x y = w
  pointwise

theorem pay4_at : k0_pay4 (F := Ideal) x y z (ix2 a b) = z (ix2 a b) + k0_pay1 (F := Ideal) x y (ix2 a b) := by
  unfold k0_pay4
  generalize k0_pay1 (F := Ideal) x y = w
  pointwise

end Pay

theorem e0 : ∀ t : Fin grid0.N, win0_0.index t = ![t.val % 8, 0] := by decide +kernel
theorem e1 : ∀ t : Fin grid0.N, win0_1.index t = ![t.val % 8, 0] := by decide +kernel
theorem e2 : ∀ t : Fin grid0.N, win0_2.index t = ![0, 0] := by decide +kernel

/-- What token `l` adds to the entry at row `a`, column `b` of the call's array. -/
def term (a : Fin 1024) (b : Fin 1024) (l : Fin 16384) : EReal := xs m c (ix2 l a) * ys m c (ix2 l b)

theorem part_at (t : Fin cfg0.N) (q k : ℕ) (hq : q < 1) (hk : k < 8) (ht : t.val = 8 * q + k) (a : Fin 1024) (b : Fin 1024) :
    k0_pay1 (F := Ideal) (iblk m c 0 t : Vec Ideal S2048x1024 .bf16) (iblk m c 1 t : Vec Ideal S2048x1024 .f32) (ix2 a b) = stretch 2048 (term m c a b) k := by
  rw [pay1_at]
  refine stretch_eq _ _ _ (by omega) fun r => congrArg₂ (· * ·) ?_ ?_
  · rw [← x_at]
    blk_simp [iblk]
    congr 1
    blk_ext [e0]
  · rw [← y_at]
    blk_simp [iblk]
    congr 1
    blk_ext [e1]

theorem scr_at (q : ℕ) (hq : q < 1) (a : Fin 1024) (b : Fin 1024) : ∀ k, k < 8 - 1 → ∀ h : 8 * q + k < cfg0.N,
    (outsAt0 m c (8 * q + k) h).2 (ix2 a b) = ∑ s ∈ Finset.range (k + 1), stretch 2048 (term m c a b) s := by
  refine run_sum (N := cfg0.N) 8 q (fun n h => (outsAt0 m c n h).2 (ix2 a b)) (stretch 2048 (term m c a b)) (fun h => ?_) (fun k hk h h' => ?_)
  · rw [← part_at m c ⟨8 * q, h⟩ q 0 hq (by omega) rfl a b]
    refine (congrArg (fun p => p.2 (ix2 a b)) (outsAt0_A m c ⟨8 * q, h⟩ (by dsimp only; omega) (by dsimp only; omega) (by dsimp only; omega))).trans ?_
    frame_out
    exact pay2_at _ _ a b
  · rw [← part_at m c ⟨8 * q + (k + 1), h⟩ q (k + 1) hq (by omega) rfl a b]
    refine (congrArg (fun p => p.2 (ix2 a b)) (outsAt0_B m c ⟨8 * q + (k + 1), h⟩ (by dsimp only; omega) (by dsimp only; omega) (by dsimp only; omega))).trans ?_
    frame_out
    refine (pay3_at _ _ _ a b).trans (congrArg (· + _) ?_)
    refine (congrFun ((Memref.isWhole_whole cc0_scratch0).read_unread _) (ix2 a b)).trans ?_
    exact same (fun n h => (outsAt0 m c n h).2 (ix2 a b)) (by omega) _ _

/-- The array the run leaves. -/
def out : S1024x1024.Idx → EReal := fun i => ∑ l, term m c (i 0) (i 1) l

theorem arr : (dats m 0 c).arrAt 2 cfg0.N = out m c := by
  refine (dats m 0 c).arrAt_eq_of_covers 2 _ (by decide +kernel) fun t hf y => ?_
  have h7 : t.val % 8 = 7 := (flush0_2 t).mp hf
  have hN : t.val < 8 := lt_of_lt_of_eq t.isLt N_0
  blk_simp
  rw [after0_2, outsAt0_C m c t (by omega) (by omega) h7]
  frame_out
  obtain ⟨a, b, rfl⟩ := pair (y : S1024x1024.Idx)
  have hi : ((View.whole main_v1).slice (win0_2.rect t)).emb (ix2 a b) = ix2 a b := by
    blk_ext [e2]
  have h6 := scr_at m c (t.val / 8) (by omega) a b 6 (by omega) (by rw [show cfg0.N = 8 from N_0]; omega)
  refine (pay4_at _ _ _ a b).trans ?_
  rw [part_at m c t (t.val / 8) 7 (by omega) (by omega) (by omega) a b, hi]
  refine Eq.trans (congrArg (· + _) ((congrFun ((Memref.isWhole_whole cc0_scratch0).read_unread _) (ix2 a b)).trans
    ((same (fun n h => (outsAt0 m c n h).2 (ix2 a b)) (by omega) _ _).trans h6))) ?_
  rw [← Finset.sum_range_succ _ 7]
  exact stretches 8 2048 rfl _

end Cert.Kernel19Ideal.Val

namespace Cert.Reference19Ideal.Val

open Gen
open Cert.Kernel19Ideal.Val (out arr)

theorem ref_at (x : S16384x1024.Idx → EReal) (z : S16384x1024.Idx → EReal) (a : Fin 1024) (b : Fin 1024) :
    (transpose S1024x1024 [1, 0] (Host.dotGeneral (F := Ideal) (φ₁ := .f32) (φ₂ := .f32) dot_S16384x1024_S16384x1024_S1024x1024_0_0_1_1_n_n none z x) transposes_S1024x1024_S1024x1024_1_0 : FVec Ideal S1024x1024 .f32) (ix2 a b)
      = ∑ l : Fin 16384, z (ix2 l b) * x (ix2 l a) := by
  pointwise

theorem values : @Cert.algebraic_Kernel19Ideal_Reference19Ideal Cert.Kernel19Ideal.Gen.facts Cert.Reference19Ideal.Gen.facts := by
  intro m ρ m' ρ' _ he
  refine ⟨fun c => out m c, (θ_run _ _ _).mono (fun r h c => ⟨(h c).1.trans (arr m c), (h c).2⟩) (Cert.Kernel19Ideal.Value.run_blocks m ρ), ?_⟩
  refine (θ_run _ _ _).mono (fun r h c => ?_) (Cert.Reference19Ideal.Value.run (F := Ideal) m' ρ')
  obtain ⟨h0, hrest⟩ := h c
  refine ⟨h0.trans ?_, hrest⟩
  obtain ⟨a0, -, a2⟩ := he c
  rw [a0, a2]
  show _ = out m c
  funext i
  obtain ⟨a, b, rfl⟩ := pair (i : S1024x1024.Idx)
  refine (ref_at _ _ a b).trans ?_
  exact Finset.sum_congr rfl fun l _ => mul_comm _ _

end Cert.Reference19Ideal.Val

/-! ## The gradient of the attention branch's weight -/

namespace Cert.Kernel22Ideal.Val

open Gen

variable (m : (ℓ : Loc nD τ sig) → Buf (Elt Ideal) ℓ) (c : Dev nD)

abbrev xs : S16384x512.Idx → EReal := m (c, Proc.devRef .tc main_arg0)
abbrev ys : S16384x1024.Idx → EReal := m (c, Proc.devRef .tc main_arg2)

theorem x_at (r : Fin 16384) (l : Fin 512) : (V m c main_v0 : S16384x512.Idx → EReal) (ix2 r l) = xs m c (ix2 r l) := by
  unfold V
  after_reads_at

theorem y_at (r : Fin 16384) (l : Fin 1024) : (V m c main_v1 : S16384x1024.Idx → EReal) (ix2 r l) = ys m c (ix2 r l) := by
  unfold V
  after_reads_at

section Pay

variable (x : Vec Ideal S4096x512 .bf16) (y : Vec Ideal S4096x1024 .bf16) (z : Vec Ideal S512x1024 .f32) (a : Fin 512) (b : Fin 1024)

theorem pay1_at : k0_pay1 (F := Ideal) x y (ix2 a b) = ∑ r : Fin 4096, x (ix2 r a) * y (ix2 r b) := by
  unfold k0_pay1
  pointwise

theorem pay2_at : k0_pay2 (F := Ideal) x y (ix2 a b) = k0_pay1 (F := Ideal) x y (ix2 a b) := by
  unfold k0_pay2
  generalize k0_pay1 (F := Ideal) x y = w
  pointwise

theorem pay3_at : k0_pay3 (F := Ideal) x y z (ix2 a b) = z (ix2 a b) + k0_pay1 (F := Ideal) x y (ix2 a b) := by
  unfold k0_pay3
  generalize k0_pay1 (F := Ideal) x y = w
  pointwise

theorem pay4_at : k0_pay4 (F := Ideal) x y z (ix2 a b) = z (ix2 a b) + k0_pay1 (F := Ideal) x y (ix2 a b) := by
  unfold k0_pay4
  generalize k0_pay1 (F := Ideal) x y = w
  pointwise

end Pay

theorem e0 : ∀ t : Fin grid0.N, win0_0.index t = ![t.val % 4, 0] := by decide +kernel
theorem e1 : ∀ t : Fin grid0.N, win0_1.index t = ![t.val % 4, 0] := by decide +kernel
theorem e2 : ∀ t : Fin grid0.N, win0_2.index t = ![0, 0] := by decide +kernel

/-- What token `l` adds to the entry at row `a`, column `b` of the call's array. -/
def term (a : Fin 512) (b : Fin 1024) (l : Fin 16384) : EReal := xs m c (ix2 l a) * ys m c (ix2 l b)

theorem part_at (t : Fin cfg0.N) (q k : ℕ) (hq : q < 1) (hk : k < 4) (ht : t.val = 4 * q + k) (a : Fin 512) (b : Fin 1024) :
    k0_pay1 (F := Ideal) (iblk m c 0 t : Vec Ideal S4096x512 .bf16) (iblk m c 1 t : Vec Ideal S4096x1024 .bf16) (ix2 a b) = stretch 4096 (term m c a b) k := by
  rw [pay1_at]
  refine stretch_eq _ _ _ (by omega) fun r => congrArg₂ (· * ·) ?_ ?_
  · rw [← x_at]
    blk_simp [iblk]
    congr 1
    blk_ext [e0]
  · rw [← y_at]
    blk_simp [iblk]
    congr 1
    blk_ext [e1]

theorem scr_at (q : ℕ) (hq : q < 1) (a : Fin 512) (b : Fin 1024) : ∀ k, k < 4 - 1 → ∀ h : 4 * q + k < cfg0.N,
    (outsAt0 m c (4 * q + k) h).2 (ix2 a b) = ∑ s ∈ Finset.range (k + 1), stretch 4096 (term m c a b) s := by
  refine run_sum (N := cfg0.N) 4 q (fun n h => (outsAt0 m c n h).2 (ix2 a b)) (stretch 4096 (term m c a b)) (fun h => ?_) (fun k hk h h' => ?_)
  · rw [← part_at m c ⟨4 * q, h⟩ q 0 hq (by omega) rfl a b]
    refine (congrArg (fun p => p.2 (ix2 a b)) (outsAt0_A m c ⟨4 * q, h⟩ (by dsimp only; omega) (by dsimp only; omega) (by dsimp only; omega))).trans ?_
    frame_out
    exact pay2_at _ _ a b
  · rw [← part_at m c ⟨4 * q + (k + 1), h⟩ q (k + 1) hq (by omega) rfl a b]
    refine (congrArg (fun p => p.2 (ix2 a b)) (outsAt0_B m c ⟨4 * q + (k + 1), h⟩ (by dsimp only; omega) (by dsimp only; omega) (by dsimp only; omega))).trans ?_
    frame_out
    refine (pay3_at _ _ _ a b).trans (congrArg (· + _) ?_)
    refine (congrFun ((Memref.isWhole_whole cc0_scratch0).read_unread _) (ix2 a b)).trans ?_
    exact same (fun n h => (outsAt0 m c n h).2 (ix2 a b)) (by omega) _ _

/-- The array the run leaves. -/
def out : S512x1024.Idx → EReal := fun i => ∑ l, term m c (i 0) (i 1) l

theorem arr : (dats m 0 c).arrAt 2 cfg0.N = out m c := by
  refine (dats m 0 c).arrAt_eq_of_covers 2 _ (by decide +kernel) fun t hf y => ?_
  have h7 : t.val % 4 = 3 := (flush0_2 t).mp hf
  have hN : t.val < 4 := lt_of_lt_of_eq t.isLt N_0
  blk_simp
  rw [after0_2, outsAt0_C m c t (by omega) (by omega) h7]
  frame_out
  obtain ⟨a, b, rfl⟩ := pair (y : S512x1024.Idx)
  have hi : ((View.whole main_v2).slice (win0_2.rect t)).emb (ix2 a b) = ix2 a b := by
    blk_ext [e2]
  have h6 := scr_at m c (t.val / 4) (by omega) a b 2 (by omega) (by rw [show cfg0.N = 4 from N_0]; omega)
  refine (pay4_at _ _ _ a b).trans ?_
  rw [part_at m c t (t.val / 4) 3 (by omega) (by omega) (by omega) a b, hi]
  refine Eq.trans (congrArg (· + _) ((congrFun ((Memref.isWhole_whole cc0_scratch0).read_unread _) (ix2 a b)).trans
    ((same (fun n h => (outsAt0 m c n h).2 (ix2 a b)) (by omega) _ _).trans h6))) ?_
  rw [← Finset.sum_range_succ _ 3]
  exact stretches 4 4096 rfl _

end Cert.Kernel22Ideal.Val

namespace Cert.Reference22Ideal.Val

open Gen
open Cert.Kernel22Ideal.Val (out arr)

theorem ref_at (x : S16384x512.Idx → EReal) (z : S16384x1024.Idx → EReal) (a : Fin 512) (b : Fin 1024) :
    (transpose S512x1024 [1, 0] (Host.dotGeneral (F := Ideal) (φ₁ := .f32) (φ₂ := .f32) dot_S16384x1024_S16384x512_S1024x512_0_0_1_1_n_n none z x) transposes_S1024x512_S512x1024_1_0 : FVec Ideal S512x1024 .f32) (ix2 a b)
      = ∑ l : Fin 16384, z (ix2 l b) * x (ix2 l a) := by
  pointwise

theorem values : @Cert.algebraic_Kernel22Ideal_Reference22Ideal Cert.Kernel22Ideal.Gen.facts Cert.Reference22Ideal.Gen.facts := by
  intro m ρ m' ρ' _ he
  refine ⟨fun c => out m c, (θ_run _ _ _).mono (fun r h c => ⟨(h c).1.trans (arr m c), (h c).2⟩) (Cert.Kernel22Ideal.Value.run_blocks m ρ), ?_⟩
  refine (θ_run _ _ _).mono (fun r h c => ?_) (Cert.Reference22Ideal.Value.run (F := Ideal) m' ρ')
  obtain ⟨h0, hrest⟩ := h c
  refine ⟨h0.trans ?_, hrest⟩
  obtain ⟨a0, -, a2⟩ := he c
  rw [a0, a2]
  show _ = out m c
  funext i
  obtain ⟨a, b, rfl⟩ := pair (i : S512x1024.Idx)
  refine (ref_at _ _ a b).trans ?_
  exact Finset.sum_congr rfl fun l _ => mul_comm _ _

end Cert.Reference22Ideal.Val

end
-- ==== Proof.Adam.lean ====
/- One step of the optimiser, weight by weight: entry by entry the call's three arrays are the reference's. -/
module

public import proofs.«01_k».proof.Defs
public import proofs.«01_k».proof.Proof.Prod
public import proofs.«01_k».proof.Proof.Gen.Kernel30.Frame
public import proofs.«01_k».proof.Proof.Gen.Kernel30Ideal.Value
public import proofs.«01_k».proof.Proof.Gen.Reference30Ideal.Run
public import proofs.«01_k».proof.Proof.Gen.Kernel31.Frame
public import proofs.«01_k».proof.Proof.Gen.Kernel31Ideal.Value
public import proofs.«01_k».proof.Proof.Gen.Reference31Ideal.Run
public import proofs.«01_k».proof.Proof.Gen.Kernel32.Frame
public import proofs.«01_k».proof.Proof.Gen.Kernel32Ideal.Value
public import proofs.«01_k».proof.Proof.Gen.Reference32Ideal.Run
public import proofs.«01_k».proof.Proof.Gen.Kernel33.Frame
public import proofs.«01_k».proof.Proof.Gen.Kernel33Ideal.Value
public import proofs.«01_k».proof.Proof.Gen.Reference33Ideal.Run
public import proofs.«01_k».proof.Proof.Gen.Kernel34.Frame
public import proofs.«01_k».proof.Proof.Gen.Kernel34Ideal.Value
public import proofs.«01_k».proof.Proof.Gen.Reference34Ideal.Run
public import proofs.«01_k».proof.Proof.Gen.Kernel35.Frame
public import proofs.«01_k».proof.Proof.Gen.Kernel35Ideal.Value
public import proofs.«01_k».proof.Proof.Gen.Reference35Ideal.Run
public import proofs.«01_k».proof.Proof.Gen.Kernel36.Frame
public import proofs.«01_k».proof.Proof.Gen.Kernel36Ideal.Value
public import proofs.«01_k».proof.Proof.Gen.Reference36Ideal.Run
public import proofs.«01_k».proof.Proof.Gen.Kernel37.Frame
public import proofs.«01_k».proof.Proof.Gen.Kernel37Ideal.Value
public import proofs.«01_k».proof.Proof.Gen.Reference37Ideal.Run
public import proofs.«01_k».proof.Proof.Gen.Kernel38.Frame
public import proofs.«01_k».proof.Proof.Gen.Kernel38Ideal.Value
public import proofs.«01_k».proof.Proof.Gen.Reference38Ideal.Run
public import proofs.«01_k».proof.Proof.Gen.Kernel39.Frame
public import proofs.«01_k».proof.Proof.Gen.Kernel39Ideal.Value
public import proofs.«01_k».proof.Proof.Gen.Reference39Ideal.Run
public import proofs.«01_k».proof.Proof.Gen.Kernel40.Frame
public import proofs.«01_k».proof.Proof.Gen.Kernel40Ideal.Value
public import proofs.«01_k».proof.Proof.Gen.Reference40Ideal.Run
public import proofs.«01_k».proof.Proof.Gen.Kernel41.Frame
public import proofs.«01_k».proof.Proof.Gen.Kernel41Ideal.Value
public import proofs.«01_k».proof.Proof.Gen.Reference41Ideal.Run
public import proofs.«01_k».proof.Proof.Gen.Kernel42.Frame
public import proofs.«01_k».proof.Proof.Gen.Kernel42Ideal.Value
public import proofs.«01_k».proof.Proof.Gen.Reference42Ideal.Run

@[expose] public section

set_option maxRecDepth 16384

noncomputable section

namespace Cert.Adam

open Idealize.ShloMosaic

/-! The new second moment, first moment and step of a weight -/

def vel (g v : Ideal .f32) : Ideal .f32 :=
  FloatOps.addf (FloatOps.mulf (Scalar.ofBits .f32 0x3F7FBE77#32) v) (FloatOps.mulf (Scalar.ofBits .f32 0x3A83126F#32) (FloatOps.mulf g g))
def mom (g n : Ideal .f32) : Ideal .f32 :=
  FloatOps.addf (FloatOps.mulf (Scalar.ofBits .f32 0x3F666666#32) n) (FloatOps.mulf (Scalar.ofBits .f32 0x3DCCCCCD#32) g)
def step (w g n v : Ideal .f32) : Ideal .f32 :=
  FloatOps.mulf (Scalar.ofBits .f32 0xBA83126F#32) (FloatOps.addf (FloatOps.divf (FloatOps.divf (mom g n) (Scalar.ofBits .f32 0x3F26BD02#32))
    (FloatOps.addf (FloatOps.sqrt (FloatOps.divf (vel g v) (Scalar.ofBits .f32 0x3C231ACC#32))) (Scalar.ofBits .f32 0x322BCC77#32)))
    (FloatOps.mulf (Scalar.ofBits .f32 0x3C23D70A#32) w))

theorem congrVel {g g' v v' : Ideal .f32} (h : g = g') (k : v = v') : vel g v = vel g' v' := by rw [h, k]
theorem congrMom {g g' n n' : Ideal .f32} (h : g = g') (k : n = n') : mom g n = mom g' n' := by rw [h, k]
theorem congrStep {w w' g g' n n' v v' : Ideal .f32} (h : w = w') (k : g = g') (p : n = n') (q : v = v') : step w g n v = step w' g' n' v' := by
  rw [h, k, p, q]

end Cert.Adam

open Cert.Adam Cert.Prod Idealize.ShloMosaic TcCoe Tactic Idealize.SL.Sem

/-! ## The norms' weights -/

theorem Cert.Reference30Ideal.Val.values : @Cert.algebraic_Kernel30Ideal_Reference30Ideal Cert.Kernel30Ideal.Gen.facts Cert.Reference30Ideal.Gen.facts := by
  intro m ρ m' ρ' _ he
  refine ⟨_, _, _, Cert.Kernel30Ideal.Value.run m ρ, (θ_run _ _ _).mono (fun r h c => ?_) (Cert.Reference30Ideal.Value.run (F := Ideal) m' ρ')⟩
  obtain ⟨h0, h1, h2, hrest⟩ := h c
  obtain ⟨a0, a1, a2, a3⟩ := he c
  rw [a0, a1, a2, a3] at h0
  rw [a1, a2] at h1
  rw [a1, a3] at h2
  exact ⟨h0, h1, h2, hrest⟩

/-! ## The input projection -/

namespace Cert.Kernel31Ideal.Val

open Gen

variable (m : (ℓ : Loc nD τ sig) → Buf (Elt Ideal) ℓ) (c : Dev nD)

theorem v0 : V m c main_v0 = shapeCast _ (m (c, Proc.devRef .tc main_arg0)) shapeCasts_S2x1024x1476_S2048x1476
    ∧ V m c main_v1 = shapeCast _ (m (c, Proc.devRef .tc main_arg1)) shapeCasts_S2x1024x1476_S2048x1476
    ∧ V m c main_v2 = shapeCast _ (m (c, Proc.devRef .tc main_arg2)) shapeCasts_S2x1024x1476_S2048x1476
    ∧ V m c main_v3 = shapeCast _ (m (c, Proc.devRef .tc main_arg3)) shapeCasts_S2x1024x1476_S2048x1476 := by
  unfold V
  refine ⟨?_, ?_, ?_, ?_⟩ <;>
  · after_reads_at
    funext i
    obtain ⟨a, b, rfl⟩ := pair i
    symm
    pointwise

theorem pay (w g n v : Vec Ideal S256x1476 .f32) (a : Fin 256) (b : Fin 1476) :
    k0_pay4 (F := Ideal) w g n v (ix2 a b) = step (w (ix2 a b)) (g (ix2 a b)) (n (ix2 a b)) (v (ix2 a b))
    ∧ k0_pay2 (F := Ideal) g n (ix2 a b) = mom (g (ix2 a b)) (n (ix2 a b))
    ∧ k0_pay3 (F := Ideal) g v (ix2 a b) = vel (g (ix2 a b)) (v (ix2 a b)) := by
  unfold k0_pay4 k0_pay3 k0_pay2 k0_pay1 step mom vel
  refine ⟨?_, ?_, ?_⟩ <;> pointwise

theorem e : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] := by decide +kernel

theorem arr4 : (dats m 0 c).arrAt 4 cfg0.N = fun i => step (V m c main_v0 i) (V m c main_v1 i) (V m c main_v2 i) (V m c main_v3 i) := by
  refine (dats m 0 c).arrAt_eq_of_covers 4 _ (by decide +kernel) fun t hf y => ?_
  have h : t.val < 8 := lt_of_lt_of_eq t.isLt N_0
  obtain ⟨e0, e1, e2, e3, e4, e5, e6⟩ := e t
  blk_simp
  rw [after0_4]
  frame_out
  obtain ⟨a, b, rfl⟩ := pair (y : S256x1476.Idx)
  rw [show (win0_4.blk t).view.emb (ix2 a b) = (ix2 ⟨256 * t.val + a.val, by omega⟩ b : S2048x1476.Idx) by blk_ext [e4]]
  refine (pay _ _ _ _ a b).1.trans (congrStep ?_ ?_ ?_ ?_) <;>
  · blk_simp [iblk]
    congr 1
    blk_ext [e0, e1, e2, e3]

theorem arr5 : (dats m 0 c).arrAt 5 cfg0.N = fun i => mom (V m c main_v1 i) (V m c main_v2 i) := by
  refine (dats m 0 c).arrAt_eq_of_covers 5 _ (by decide +kernel) fun t hf y => ?_
  have h : t.val < 8 := lt_of_lt_of_eq t.isLt N_0
  obtain ⟨e0, e1, e2, e3, e4, e5, e6⟩ := e t
  blk_simp
  rw [after0_5]
  frame_out
  obtain ⟨a, b, rfl⟩ := pair (y : S256x1476.Idx)
  rw [show (win0_5.blk t).view.emb (ix2 a b) = (ix2 ⟨256 * t.val + a.val, by omega⟩ b : S2048x1476.Idx) by blk_ext [e5]]
  refine (pay (iblk m c 1 t) _ _ (iblk m c 1 t) a b).2.1.trans (congrMom ?_ ?_) <;>
  · blk_simp [iblk]
    congr 1
    blk_ext [e1, e2]

theorem arr6 : (dats m 0 c).arrAt 6 cfg0.N = fun i => vel (V m c main_v1 i) (V m c main_v3 i) := by
  refine (dats m 0 c).arrAt_eq_of_covers 6 _ (by decide +kernel) fun t hf y => ?_
  have h : t.val < 8 := lt_of_lt_of_eq t.isLt N_0
  obtain ⟨e0, e1, e2, e3, e4, e5, e6⟩ := e t
  blk_simp
  rw [after0_6]
  frame_out
  obtain ⟨a, b, rfl⟩ := pair (y : S256x1476.Idx)
  rw [show (win0_6.blk t).view.emb (ix2 a b) = (ix2 ⟨256 * t.val + a.val, by omega⟩ b : S2048x1476.Idx) by blk_ext [e6]]
  refine (pay (iblk m c 1 t) _ (iblk m c 1 t) _ a b).2.2.trans (congrVel ?_ ?_) <;>
  · blk_simp [iblk]
    congr 1
    blk_ext [e1, e3]

end Cert.Kernel31Ideal.Val

open Cert.Kernel31Ideal.Val in
theorem Cert.Reference31Ideal.Val.values : @Cert.algebraic_Kernel31Ideal_Reference31Ideal Cert.Kernel31Ideal.Gen.facts Cert.Reference31Ideal.Gen.facts := by
  intro m ρ m' ρ' _ he
  refine ⟨_, _, _, Cert.Kernel31Ideal.Value.run_blocks m ρ, (θ_run _ _ _).mono (fun r h c => ?_) (Cert.Reference31Ideal.Value.run (F := Ideal) m' ρ')⟩
  obtain ⟨h0, h1, h2, hrest⟩ := h c
  obtain ⟨a0, a1, a2, a3⟩ := he c
  obtain ⟨v0, v1, v2, v3⟩ := v0 m c
  rw [a0, a1, a2, a3] at h0
  rw [a1, a2] at h1
  rw [a1, a3] at h2
  refine ⟨h0.trans ?_, h1.trans ?_, h2.trans ?_, hrest⟩
  · rw [arr4, v0, v1, v2, v3]
    rfl
  · rw [arr5, v1, v2]
    rfl
  · rw [arr6, v1, v3]
    rfl

/-! ## The convolution's weights -/

namespace Cert.Kernel32Ideal.Val

open Gen

variable (m : (ℓ : Loc nD τ sig) → Buf (Elt Ideal) ℓ) (c : Dev nD)

theorem v0 : V m c main_v0 = shapeCast _ (m (c, Proc.devRef .tc main_arg0)) shapeCasts_S2x4x384_S8x384
    ∧ V m c main_v1 = shapeCast _ (m (c, Proc.devRef .tc main_arg1)) shapeCasts_S2x4x384_S8x384
    ∧ V m c main_v2 = shapeCast _ (m (c, Proc.devRef .tc main_arg2)) shapeCasts_S2x4x384_S8x384
    ∧ V m c main_v3 = shapeCast _ (m (c, Proc.devRef .tc main_arg3)) shapeCasts_S2x4x384_S8x384 := by
  unfold V
  refine ⟨?_, ?_, ?_, ?_⟩ <;>
  · after_reads_at
    funext i
    obtain ⟨a, b, rfl⟩ := pair i
    symm
    pointwise

theorem pay (w g n v : Vec Ideal S8x384 .f32) (a : Fin 8) (b : Fin 384) :
    k0_pay4 (F := Ideal) w g n v (ix2 a b) = step (w (ix2 a b)) (g (ix2 a b)) (n (ix2 a b)) (v (ix2 a b))
    ∧ k0_pay2 (F := Ideal) g n (ix2 a b) = mom (g (ix2 a b)) (n (ix2 a b))
    ∧ k0_pay3 (F := Ideal) g v (ix2 a b) = vel (g (ix2 a b)) (v (ix2 a b)) := by
  unfold k0_pay4 k0_pay3 k0_pay2 k0_pay1 step mom vel
  refine ⟨?_, ?_, ?_⟩ <;> pointwise

theorem e : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] := by decide +kernel

theorem arr4 : (dats m 0 c).arrAt 4 cfg0.N = fun i => step (V m c main_v0 i) (V m c main_v1 i) (V m c main_v2 i) (V m c main_v3 i) := by
  refine (dats m 0 c).arrAt_eq_of_covers 4 _ (by decide +kernel) fun t hf y => ?_
  have h : t.val < 1 := lt_of_lt_of_eq t.isLt N_0
  obtain ⟨e0, e1, e2, e3, e4, e5, e6⟩ := e t
  blk_simp
  rw [after0_4]
  frame_out
  obtain ⟨a, b, rfl⟩ := pair (y : S8x384.Idx)
  rw [show (win0_4.blk t).view.emb (ix2 a b) = (ix2 ⟨8 * t.val + a.val, by omega⟩ b : S8x384.Idx) by blk_ext [e4]]
  refine (pay _ _ _ _ a b).1.trans (congrStep ?_ ?_ ?_ ?_) <;>
  · blk_simp [iblk]
    congr 1
    blk_ext [e0, e1, e2, e3]

theorem arr5 : (dats m 0 c).arrAt 5 cfg0.N = fun i => mom (V m c main_v1 i) (V m c main_v2 i) := by
  refine (dats m 0 c).arrAt_eq_of_covers 5 _ (by decide +kernel) fun t hf y => ?_
  have h : t.val < 1 := lt_of_lt_of_eq t.isLt N_0
  obtain ⟨e0, e1, e2, e3, e4, e5, e6⟩ := e t
  blk_simp
  rw [after0_5]
  frame_out
  obtain ⟨a, b, rfl⟩ := pair (y : S8x384.Idx)
  rw [show (win0_5.blk t).view.emb (ix2 a b) = (ix2 ⟨8 * t.val + a.val, by omega⟩ b : S8x384.Idx) by blk_ext [e5]]
  refine (pay (iblk m c 1 t) _ _ (iblk m c 1 t) a b).2.1.trans (congrMom ?_ ?_) <;>
  · blk_simp [iblk]
    congr 1
    blk_ext [e1, e2]

theorem arr6 : (dats m 0 c).arrAt 6 cfg0.N = fun i => vel (V m c main_v1 i) (V m c main_v3 i) := by
  refine (dats m 0 c).arrAt_eq_of_covers 6 _ (by decide +kernel) fun t hf y => ?_
  have h : t.val < 1 := lt_of_lt_of_eq t.isLt N_0
  obtain ⟨e0, e1, e2, e3, e4, e5, e6⟩ := e t
  blk_simp
  rw [after0_6]
  frame_out
  obtain ⟨a, b, rfl⟩ := pair (y : S8x384.Idx)
  rw [show (win0_6.blk t).view.emb (ix2 a b) = (ix2 ⟨8 * t.val + a.val, by omega⟩ b : S8x384.Idx) by blk_ext [e6]]
  refine (pay (iblk m c 1 t) _ (iblk m c 1 t) _ a b).2.2.trans (congrVel ?_ ?_) <;>
  · blk_simp [iblk]
    congr 1
    blk_ext [e1, e3]

end Cert.Kernel32Ideal.Val

open Cert.Kernel32Ideal.Val in
theorem Cert.Reference32Ideal.Val.values : @Cert.algebraic_Kernel32Ideal_Reference32Ideal Cert.Kernel32Ideal.Gen.facts Cert.Reference32Ideal.Gen.facts := by
  intro m ρ m' ρ' _ he
  refine ⟨_, _, _, Cert.Kernel32Ideal.Value.run_blocks m ρ, (θ_run _ _ _).mono (fun r h c => ?_) (Cert.Reference32Ideal.Value.run (F := Ideal) m' ρ')⟩
  obtain ⟨h0, h1, h2, hrest⟩ := h c
  obtain ⟨a0, a1, a2, a3⟩ := he c
  obtain ⟨v0, v1, v2, v3⟩ := v0 m c
  rw [a0, a1, a2, a3] at h0
  rw [a1, a2] at h1
  rw [a1, a3] at h2
  refine ⟨h0.trans ?_, h1.trans ?_, h2.trans ?_, hrest⟩
  · rw [arr4, v0, v1, v2, v3]
    rfl
  · rw [arr5, v1, v2]
    rfl
  · rw [arr6, v1, v3]
    rfl

/-! ## The convolution's bias -/

theorem Cert.Reference33Ideal.Val.values : @Cert.algebraic_Kernel33Ideal_Reference33Ideal Cert.Kernel33Ideal.Gen.facts Cert.Reference33Ideal.Gen.facts := by
  intro m ρ m' ρ' _ he
  refine ⟨_, _, _, Cert.Kernel33Ideal.Value.run m ρ, (θ_run _ _ _).mono (fun r h c => ?_) (Cert.Reference33Ideal.Value.run (F := Ideal) m' ρ')⟩
  obtain ⟨h0, h1, h2, hrest⟩ := h c
  obtain ⟨a0, a1, a2, a3⟩ := he c
  rw [a0, a1, a2, a3] at h0
  rw [a1, a2] at h1
  rw [a1, a3] at h2
  exact ⟨h0, h1, h2, hrest⟩

/-! ## The weights of one number a head -/

theorem Cert.Reference34Ideal.Val.values : @Cert.algebraic_Kernel34Ideal_Reference34Ideal Cert.Kernel34Ideal.Gen.facts Cert.Reference34Ideal.Gen.facts := by
  intro m ρ m' ρ' _ he
  refine ⟨_, _, _, Cert.Kernel34Ideal.Value.run m ρ, (θ_run _ _ _).mono (fun r h c => ?_) (Cert.Reference34Ideal.Value.run (F := Ideal) m' ρ')⟩
  obtain ⟨h0, h1, h2, hrest⟩ := h c
  obtain ⟨a0, a1, a2, a3⟩ := he c
  rw [a0, a1, a2, a3] at h0
  rw [a1, a2] at h1
  rw [a1, a3] at h2
  exact ⟨h0, h1, h2, hrest⟩

/-! ## The gated norm's weights -/

theorem Cert.Reference35Ideal.Val.values : @Cert.algebraic_Kernel35Ideal_Reference35Ideal Cert.Kernel35Ideal.Gen.facts Cert.Reference35Ideal.Gen.facts := by
  intro m ρ m' ρ' _ he
  refine ⟨_, _, _, Cert.Kernel35Ideal.Value.run m ρ, (θ_run _ _ _).mono (fun r h c => ?_) (Cert.Reference35Ideal.Value.run (F := Ideal) m' ρ')⟩
  obtain ⟨h0, h1, h2, hrest⟩ := h c
  obtain ⟨a0, a1, a2, a3⟩ := he c
  rw [a0, a1, a2, a3] at h0
  rw [a1, a2] at h1
  rw [a1, a3] at h2
  exact ⟨h0, h1, h2, hrest⟩

/-! ## The attention branch -/

namespace Cert.Kernel36Ideal.Val

open Gen

variable (m : (ℓ : Loc nD τ sig) → Buf (Elt Ideal) ℓ) (c : Dev nD)

theorem v0 : V m c main_v0 = shapeCast _ (m (c, Proc.devRef .tc main_arg0)) shapeCasts_S2x512x128_S1024x128
    ∧ V m c main_v1 = shapeCast _ (m (c, Proc.devRef .tc main_arg1)) shapeCasts_S2x512x128_S1024x128
    ∧ V m c main_v2 = shapeCast _ (m (c, Proc.devRef .tc main_arg2)) shapeCasts_S2x512x128_S1024x128
    ∧ V m c main_v3 = shapeCast _ (m (c, Proc.devRef .tc main_arg3)) shapeCasts_S2x512x128_S1024x128 := by
  unfold V
  refine ⟨?_, ?_, ?_, ?_⟩ <;>
  · after_reads_at
    funext i
    obtain ⟨a, b, rfl⟩ := pair i
    symm
    pointwise

theorem pay (w g n v : Vec Ideal S256x128 .f32) (a : Fin 256) (b : Fin 128) :
    k0_pay4 (F := Ideal) w g n v (ix2 a b) = step (w (ix2 a b)) (g (ix2 a b)) (n (ix2 a b)) (v (ix2 a b))
    ∧ k0_pay2 (F := Ideal) g n (ix2 a b) = mom (g (ix2 a b)) (n (ix2 a b))
    ∧ k0_pay3 (F := Ideal) g v (ix2 a b) = vel (g (ix2 a b)) (v (ix2 a b)) := by
  unfold k0_pay4 k0_pay3 k0_pay2 k0_pay1 step mom vel
  refine ⟨?_, ?_, ?_⟩ <;> pointwise

theorem e : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] := by decide +kernel

theorem arr4 : (dats m 0 c).arrAt 4 cfg0.N = fun i => step (V m c main_v0 i) (V m c main_v1 i) (V m c main_v2 i) (V m c main_v3 i) := by
  refine (dats m 0 c).arrAt_eq_of_covers 4 _ (by decide +kernel) fun t hf y => ?_
  have h : t.val < 4 := lt_of_lt_of_eq t.isLt N_0
  obtain ⟨e0, e1, e2, e3, e4, e5, e6⟩ := e t
  blk_simp
  rw [after0_4]
  frame_out
  obtain ⟨a, b, rfl⟩ := pair (y : S256x128.Idx)
  rw [show (win0_4.blk t).view.emb (ix2 a b) = (ix2 ⟨256 * t.val + a.val, by omega⟩ b : S1024x128.Idx) by blk_ext [e4]]
  refine (pay _ _ _ _ a b).1.trans (congrStep ?_ ?_ ?_ ?_) <;>
  · blk_simp [iblk]
    congr 1
    blk_ext [e0, e1, e2, e3]

theorem arr5 : (dats m 0 c).arrAt 5 cfg0.N = fun i => mom (V m c main_v1 i) (V m c main_v2 i) := by
  refine (dats m 0 c).arrAt_eq_of_covers 5 _ (by decide +kernel) fun t hf y => ?_
  have h : t.val < 4 := lt_of_lt_of_eq t.isLt N_0
  obtain ⟨e0, e1, e2, e3, e4, e5, e6⟩ := e t
  blk_simp
  rw [after0_5]
  frame_out
  obtain ⟨a, b, rfl⟩ := pair (y : S256x128.Idx)
  rw [show (win0_5.blk t).view.emb (ix2 a b) = (ix2 ⟨256 * t.val + a.val, by omega⟩ b : S1024x128.Idx) by blk_ext [e5]]
  refine (pay (iblk m c 1 t) _ _ (iblk m c 1 t) a b).2.1.trans (congrMom ?_ ?_) <;>
  · blk_simp [iblk]
    congr 1
    blk_ext [e1, e2]

theorem arr6 : (dats m 0 c).arrAt 6 cfg0.N = fun i => vel (V m c main_v1 i) (V m c main_v3 i) := by
  refine (dats m 0 c).arrAt_eq_of_covers 6 _ (by decide +kernel) fun t hf y => ?_
  have h : t.val < 4 := lt_of_lt_of_eq t.isLt N_0
  obtain ⟨e0, e1, e2, e3, e4, e5, e6⟩ := e t
  blk_simp
  rw [after0_6]
  frame_out
  obtain ⟨a, b, rfl⟩ := pair (y : S256x128.Idx)
  rw [show (win0_6.blk t).view.emb (ix2 a b) = (ix2 ⟨256 * t.val + a.val, by omega⟩ b : S1024x128.Idx) by blk_ext [e6]]
  refine (pay (iblk m c 1 t) _ (iblk m c 1 t) _ a b).2.2.trans (congrVel ?_ ?_) <;>
  · blk_simp [iblk]
    congr 1
    blk_ext [e1, e3]

end Cert.Kernel36Ideal.Val

open Cert.Kernel36Ideal.Val in
theorem Cert.Reference36Ideal.Val.values : @Cert.algebraic_Kernel36Ideal_Reference36Ideal Cert.Kernel36Ideal.Gen.facts Cert.Reference36Ideal.Gen.facts := by
  intro m ρ m' ρ' _ he
  refine ⟨_, _, _, Cert.Kernel36Ideal.Value.run_blocks m ρ, (θ_run _ _ _).mono (fun r h c => ?_) (Cert.Reference36Ideal.Value.run (F := Ideal) m' ρ')⟩
  obtain ⟨h0, h1, h2, hrest⟩ := h c
  obtain ⟨a0, a1, a2, a3⟩ := he c
  obtain ⟨v0, v1, v2, v3⟩ := v0 m c
  rw [a0, a1, a2, a3] at h0
  rw [a1, a2] at h1
  rw [a1, a3] at h2
  refine ⟨h0.trans ?_, h1.trans ?_, h2.trans ?_, hrest⟩
  · rw [arr4, v0, v1, v2, v3]
    rfl
  · rw [arr5, v1, v2]
    rfl
  · rw [arr6, v1, v3]
    rfl

/-! ## The recurrence's branch -/

namespace Cert.Kernel37Ideal.Val

open Gen

variable (m : (ℓ : Loc nD τ sig) → Buf (Elt Ideal) ℓ) (c : Dev nD)

theorem v0 : V m c main_v0 = shapeCast _ (m (c, Proc.devRef .tc main_arg0)) shapeCasts_S2x256x1024_S512x1024
    ∧ V m c main_v1 = shapeCast _ (m (c, Proc.devRef .tc main_arg1)) shapeCasts_S2x256x1024_S512x1024
    ∧ V m c main_v2 = shapeCast _ (m (c, Proc.devRef .tc main_arg2)) shapeCasts_S2x256x1024_S512x1024
    ∧ V m c main_v3 = shapeCast _ (m (c, Proc.devRef .tc main_arg3)) shapeCasts_S2x256x1024_S512x1024 := by
  unfold V
  refine ⟨?_, ?_, ?_, ?_⟩ <;>
  · after_reads_at
    funext i
    obtain ⟨a, b, rfl⟩ := pair i
    symm
    pointwise

theorem pay (w g n v : Vec Ideal S256x1024 .f32) (a : Fin 256) (b : Fin 1024) :
    k0_pay4 (F := Ideal) w g n v (ix2 a b) = step (w (ix2 a b)) (g (ix2 a b)) (n (ix2 a b)) (v (ix2 a b))
    ∧ k0_pay2 (F := Ideal) g n (ix2 a b) = mom (g (ix2 a b)) (n (ix2 a b))
    ∧ k0_pay3 (F := Ideal) g v (ix2 a b) = vel (g (ix2 a b)) (v (ix2 a b)) := by
  unfold k0_pay4 k0_pay3 k0_pay2 k0_pay1 step mom vel
  refine ⟨?_, ?_, ?_⟩ <;> pointwise

theorem e : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] := by decide +kernel

theorem arr4 : (dats m 0 c).arrAt 4 cfg0.N = fun i => step (V m c main_v0 i) (V m c main_v1 i) (V m c main_v2 i) (V m c main_v3 i) := by
  refine (dats m 0 c).arrAt_eq_of_covers 4 _ (by decide +kernel) fun t hf y => ?_
  have h : t.val < 2 := lt_of_lt_of_eq t.isLt N_0
  obtain ⟨e0, e1, e2, e3, e4, e5, e6⟩ := e t
  blk_simp
  rw [after0_4]
  frame_out
  obtain ⟨a, b, rfl⟩ := pair (y : S256x1024.Idx)
  rw [show (win0_4.blk t).view.emb (ix2 a b) = (ix2 ⟨256 * t.val + a.val, by omega⟩ b : S512x1024.Idx) by blk_ext [e4]]
  refine (pay _ _ _ _ a b).1.trans (congrStep ?_ ?_ ?_ ?_) <;>
  · blk_simp [iblk]
    congr 1
    blk_ext [e0, e1, e2, e3]

theorem arr5 : (dats m 0 c).arrAt 5 cfg0.N = fun i => mom (V m c main_v1 i) (V m c main_v2 i) := by
  refine (dats m 0 c).arrAt_eq_of_covers 5 _ (by decide +kernel) fun t hf y => ?_
  have h : t.val < 2 := lt_of_lt_of_eq t.isLt N_0
  obtain ⟨e0, e1, e2, e3, e4, e5, e6⟩ := e t
  blk_simp
  rw [after0_5]
  frame_out
  obtain ⟨a, b, rfl⟩ := pair (y : S256x1024.Idx)
  rw [show (win0_5.blk t).view.emb (ix2 a b) = (ix2 ⟨256 * t.val + a.val, by omega⟩ b : S512x1024.Idx) by blk_ext [e5]]
  refine (pay (iblk m c 1 t) _ _ (iblk m c 1 t) a b).2.1.trans (congrMom ?_ ?_) <;>
  · blk_simp [iblk]
    congr 1
    blk_ext [e1, e2]

theorem arr6 : (dats m 0 c).arrAt 6 cfg0.N = fun i => vel (V m c main_v1 i) (V m c main_v3 i) := by
  refine (dats m 0 c).arrAt_eq_of_covers 6 _ (by decide +kernel) fun t hf y => ?_
  have h : t.val < 2 := lt_of_lt_of_eq t.isLt N_0
  obtain ⟨e0, e1, e2, e3, e4, e5, e6⟩ := e t
  blk_simp
  rw [after0_6]
  frame_out
  obtain ⟨a, b, rfl⟩ := pair (y : S256x1024.Idx)
  rw [show (win0_6.blk t).view.emb (ix2 a b) = (ix2 ⟨256 * t.val + a.val, by omega⟩ b : S512x1024.Idx) by blk_ext [e6]]
  refine (pay (iblk m c 1 t) _ (iblk m c 1 t) _ a b).2.2.trans (congrVel ?_ ?_) <;>
  · blk_simp [iblk]
    congr 1
    blk_ext [e1, e3]

end Cert.Kernel37Ideal.Val

open Cert.Kernel37Ideal.Val in
theorem Cert.Reference37Ideal.Val.values : @Cert.algebraic_Kernel37Ideal_Reference37Ideal Cert.Kernel37Ideal.Gen.facts Cert.Reference37Ideal.Gen.facts := by
  intro m ρ m' ρ' _ he
  refine ⟨_, _, _, Cert.Kernel37Ideal.Value.run_blocks m ρ, (θ_run _ _ _).mono (fun r h c => ?_) (Cert.Reference37Ideal.Value.run (F := Ideal) m' ρ')⟩
  obtain ⟨h0, h1, h2, hrest⟩ := h c
  obtain ⟨a0, a1, a2, a3⟩ := he c
  obtain ⟨v0, v1, v2, v3⟩ := v0 m c
  rw [a0, a1, a2, a3] at h0
  rw [a1, a2] at h1
  rw [a1, a3] at h2
  refine ⟨h0.trans ?_, h1.trans ?_, h2.trans ?_, hrest⟩
  · rw [arr4, v0, v1, v2, v3]
    rfl
  · rw [arr5, v1, v2]
    rfl
  · rw [arr6, v1, v3]
    rfl

/-! ## The output projection -/

namespace Cert.Kernel38Ideal.Val

open Gen

variable (m : (ℓ : Loc nD τ sig) → Buf (Elt Ideal) ℓ) (c : Dev nD)

theorem v0 : V m c main_v0 = shapeCast _ (m (c, Proc.devRef .tc main_arg0)) shapeCasts_S2x128x1024_S256x1024
    ∧ V m c main_v1 = shapeCast _ (m (c, Proc.devRef .tc main_arg1)) shapeCasts_S2x128x1024_S256x1024
    ∧ V m c main_v2 = shapeCast _ (m (c, Proc.devRef .tc main_arg2)) shapeCasts_S2x128x1024_S256x1024
    ∧ V m c main_v3 = shapeCast _ (m (c, Proc.devRef .tc main_arg3)) shapeCasts_S2x128x1024_S256x1024 := by
  unfold V
  refine ⟨?_, ?_, ?_, ?_⟩ <;>
  · after_reads_at
    funext i
    obtain ⟨a, b, rfl⟩ := pair i
    symm
    pointwise

theorem pay (w g n v : Vec Ideal S256x1024 .f32) (a : Fin 256) (b : Fin 1024) :
    k0_pay4 (F := Ideal) w g n v (ix2 a b) = step (w (ix2 a b)) (g (ix2 a b)) (n (ix2 a b)) (v (ix2 a b))
    ∧ k0_pay2 (F := Ideal) g n (ix2 a b) = mom (g (ix2 a b)) (n (ix2 a b))
    ∧ k0_pay3 (F := Ideal) g v (ix2 a b) = vel (g (ix2 a b)) (v (ix2 a b)) := by
  unfold k0_pay4 k0_pay3 k0_pay2 k0_pay1 step mom vel
  refine ⟨?_, ?_, ?_⟩ <;> pointwise

theorem e : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] := by decide +kernel

theorem arr4 : (dats m 0 c).arrAt 4 cfg0.N = fun i => step (V m c main_v0 i) (V m c main_v1 i) (V m c main_v2 i) (V m c main_v3 i) := by
  refine (dats m 0 c).arrAt_eq_of_covers 4 _ (by decide +kernel) fun t hf y => ?_
  have h : t.val < 1 := lt_of_lt_of_eq t.isLt N_0
  obtain ⟨e0, e1, e2, e3, e4, e5, e6⟩ := e t
  blk_simp
  rw [after0_4]
  frame_out
  obtain ⟨a, b, rfl⟩ := pair (y : S256x1024.Idx)
  rw [show (win0_4.blk t).view.emb (ix2 a b) = (ix2 ⟨256 * t.val + a.val, by omega⟩ b : S256x1024.Idx) by blk_ext [e4]]
  refine (pay _ _ _ _ a b).1.trans (congrStep ?_ ?_ ?_ ?_) <;>
  · blk_simp [iblk]
    congr 1
    blk_ext [e0, e1, e2, e3]

theorem arr5 : (dats m 0 c).arrAt 5 cfg0.N = fun i => mom (V m c main_v1 i) (V m c main_v2 i) := by
  refine (dats m 0 c).arrAt_eq_of_covers 5 _ (by decide +kernel) fun t hf y => ?_
  have h : t.val < 1 := lt_of_lt_of_eq t.isLt N_0
  obtain ⟨e0, e1, e2, e3, e4, e5, e6⟩ := e t
  blk_simp
  rw [after0_5]
  frame_out
  obtain ⟨a, b, rfl⟩ := pair (y : S256x1024.Idx)
  rw [show (win0_5.blk t).view.emb (ix2 a b) = (ix2 ⟨256 * t.val + a.val, by omega⟩ b : S256x1024.Idx) by blk_ext [e5]]
  refine (pay (iblk m c 1 t) _ _ (iblk m c 1 t) a b).2.1.trans (congrMom ?_ ?_) <;>
  · blk_simp [iblk]
    congr 1
    blk_ext [e1, e2]

theorem arr6 : (dats m 0 c).arrAt 6 cfg0.N = fun i => vel (V m c main_v1 i) (V m c main_v3 i) := by
  refine (dats m 0 c).arrAt_eq_of_covers 6 _ (by decide +kernel) fun t hf y => ?_
  have h : t.val < 1 := lt_of_lt_of_eq t.isLt N_0
  obtain ⟨e0, e1, e2, e3, e4, e5, e6⟩ := e t
  blk_simp
  rw [after0_6]
  frame_out
  obtain ⟨a, b, rfl⟩ := pair (y : S256x1024.Idx)
  rw [show (win0_6.blk t).view.emb (ix2 a b) = (ix2 ⟨256 * t.val + a.val, by omega⟩ b : S256x1024.Idx) by blk_ext [e6]]
  refine (pay (iblk m c 1 t) _ (iblk m c 1 t) _ a b).2.2.trans (congrVel ?_ ?_) <;>
  · blk_simp [iblk]
    congr 1
    blk_ext [e1, e3]

end Cert.Kernel38Ideal.Val

open Cert.Kernel38Ideal.Val in
theorem Cert.Reference38Ideal.Val.values : @Cert.algebraic_Kernel38Ideal_Reference38Ideal Cert.Kernel38Ideal.Gen.facts Cert.Reference38Ideal.Gen.facts := by
  intro m ρ m' ρ' _ he
  refine ⟨_, _, _, Cert.Kernel38Ideal.Value.run_blocks m ρ, (θ_run _ _ _).mono (fun r h c => ?_) (Cert.Reference38Ideal.Value.run (F := Ideal) m' ρ')⟩
  obtain ⟨h0, h1, h2, hrest⟩ := h c
  obtain ⟨a0, a1, a2, a3⟩ := he c
  obtain ⟨v0, v1, v2, v3⟩ := v0 m c
  rw [a0, a1, a2, a3] at h0
  rw [a1, a2] at h1
  rw [a1, a3] at h2
  refine ⟨h0.trans ?_, h1.trans ?_, h2.trans ?_, hrest⟩
  · rw [arr4, v0, v1, v2, v3]
    rfl
  · rw [arr5, v1, v2]
    rfl
  · rw [arr6, v1, v3]
    rfl

/-! ## The SwiGLU's input -/

namespace Cert.Kernel39Ideal.Val

open Gen

variable (m : (ℓ : Loc nD τ sig) → Buf (Elt Ideal) ℓ) (c : Dev nD)

theorem v0 : V m c main_v0 = shapeCast _ (m (c, Proc.devRef .tc main_arg0)) shapeCasts_S2x1024x704_S2048x704
    ∧ V m c main_v1 = shapeCast _ (m (c, Proc.devRef .tc main_arg1)) shapeCasts_S2x1024x704_S2048x704
    ∧ V m c main_v2 = shapeCast _ (m (c, Proc.devRef .tc main_arg2)) shapeCasts_S2x1024x704_S2048x704
    ∧ V m c main_v3 = shapeCast _ (m (c, Proc.devRef .tc main_arg3)) shapeCasts_S2x1024x704_S2048x704 := by
  unfold V
  refine ⟨?_, ?_, ?_, ?_⟩ <;>
  · after_reads_at
    funext i
    obtain ⟨a, b, rfl⟩ := pair i
    symm
    pointwise

theorem pay (w g n v : Vec Ideal S256x704 .f32) (a : Fin 256) (b : Fin 704) :
    k0_pay4 (F := Ideal) w g n v (ix2 a b) = step (w (ix2 a b)) (g (ix2 a b)) (n (ix2 a b)) (v (ix2 a b))
    ∧ k0_pay2 (F := Ideal) g n (ix2 a b) = mom (g (ix2 a b)) (n (ix2 a b))
    ∧ k0_pay3 (F := Ideal) g v (ix2 a b) = vel (g (ix2 a b)) (v (ix2 a b)) := by
  unfold k0_pay4 k0_pay3 k0_pay2 k0_pay1 step mom vel
  refine ⟨?_, ?_, ?_⟩ <;> pointwise

theorem e : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] := by decide +kernel

theorem arr4 : (dats m 0 c).arrAt 4 cfg0.N = fun i => step (V m c main_v0 i) (V m c main_v1 i) (V m c main_v2 i) (V m c main_v3 i) := by
  refine (dats m 0 c).arrAt_eq_of_covers 4 _ (by decide +kernel) fun t hf y => ?_
  have h : t.val < 8 := lt_of_lt_of_eq t.isLt N_0
  obtain ⟨e0, e1, e2, e3, e4, e5, e6⟩ := e t
  blk_simp
  rw [after0_4]
  frame_out
  obtain ⟨a, b, rfl⟩ := pair (y : S256x704.Idx)
  rw [show (win0_4.blk t).view.emb (ix2 a b) = (ix2 ⟨256 * t.val + a.val, by omega⟩ b : S2048x704.Idx) by blk_ext [e4]]
  refine (pay _ _ _ _ a b).1.trans (congrStep ?_ ?_ ?_ ?_) <;>
  · blk_simp [iblk]
    congr 1
    blk_ext [e0, e1, e2, e3]

theorem arr5 : (dats m 0 c).arrAt 5 cfg0.N = fun i => mom (V m c main_v1 i) (V m c main_v2 i) := by
  refine (dats m 0 c).arrAt_eq_of_covers 5 _ (by decide +kernel) fun t hf y => ?_
  have h : t.val < 8 := lt_of_lt_of_eq t.isLt N_0
  obtain ⟨e0, e1, e2, e3, e4, e5, e6⟩ := e t
  blk_simp
  rw [after0_5]
  frame_out
  obtain ⟨a, b, rfl⟩ := pair (y : S256x704.Idx)
  rw [show (win0_5.blk t).view.emb (ix2 a b) = (ix2 ⟨256 * t.val + a.val, by omega⟩ b : S2048x704.Idx) by blk_ext [e5]]
  refine (pay (iblk m c 1 t) _ _ (iblk m c 1 t) a b).2.1.trans (congrMom ?_ ?_) <;>
  · blk_simp [iblk]
    congr 1
    blk_ext [e1, e2]

theorem arr6 : (dats m 0 c).arrAt 6 cfg0.N = fun i => vel (V m c main_v1 i) (V m c main_v3 i) := by
  refine (dats m 0 c).arrAt_eq_of_covers 6 _ (by decide +kernel) fun t hf y => ?_
  have h : t.val < 8 := lt_of_lt_of_eq t.isLt N_0
  obtain ⟨e0, e1, e2, e3, e4, e5, e6⟩ := e t
  blk_simp
  rw [after0_6]
  frame_out
  obtain ⟨a, b, rfl⟩ := pair (y : S256x704.Idx)
  rw [show (win0_6.blk t).view.emb (ix2 a b) = (ix2 ⟨256 * t.val + a.val, by omega⟩ b : S2048x704.Idx) by blk_ext [e6]]
  refine (pay (iblk m c 1 t) _ (iblk m c 1 t) _ a b).2.2.trans (congrVel ?_ ?_) <;>
  · blk_simp [iblk]
    congr 1
    blk_ext [e1, e3]

end Cert.Kernel39Ideal.Val

open Cert.Kernel39Ideal.Val in
theorem Cert.Reference39Ideal.Val.values : @Cert.algebraic_Kernel39Ideal_Reference39Ideal Cert.Kernel39Ideal.Gen.facts Cert.Reference39Ideal.Gen.facts := by
  intro m ρ m' ρ' _ he
  refine ⟨_, _, _, Cert.Kernel39Ideal.Value.run_blocks m ρ, (θ_run _ _ _).mono (fun r h c => ?_) (Cert.Reference39Ideal.Value.run (F := Ideal) m' ρ')⟩
  obtain ⟨h0, h1, h2, hrest⟩ := h c
  obtain ⟨a0, a1, a2, a3⟩ := he c
  obtain ⟨v0, v1, v2, v3⟩ := v0 m c
  rw [a0, a1, a2, a3] at h0
  rw [a1, a2] at h1
  rw [a1, a3] at h2
  refine ⟨h0.trans ?_, h1.trans ?_, h2.trans ?_, hrest⟩
  · rw [arr4, v0, v1, v2, v3]
    rfl
  · rw [arr5, v1, v2]
    rfl
  · rw [arr6, v1, v3]
    rfl

/-! ## The SwiGLU's output -/

namespace Cert.Kernel40Ideal.Val

open Gen

variable (m : (ℓ : Loc nD τ sig) → Buf (Elt Ideal) ℓ) (c : Dev nD)

theorem v0 : V m c main_v0 = shapeCast _ (m (c, Proc.devRef .tc main_arg0)) shapeCasts_S2x352x1024_S704x1024
    ∧ V m c main_v1 = shapeCast _ (m (c, Proc.devRef .tc main_arg1)) shapeCasts_S2x352x1024_S704x1024
    ∧ V m c main_v2 = shapeCast _ (m (c, Proc.devRef .tc main_arg2)) shapeCasts_S2x352x1024_S704x1024
    ∧ V m c main_v3 = shapeCast _ (m (c, Proc.devRef .tc main_arg3)) shapeCasts_S2x352x1024_S704x1024 := by
  unfold V
  refine ⟨?_, ?_, ?_, ?_⟩ <;>
  · after_reads_at
    funext i
    obtain ⟨a, b, rfl⟩ := pair i
    symm
    pointwise

theorem pay (w g n v : Vec Ideal S176x1024 .f32) (a : Fin 176) (b : Fin 1024) :
    k0_pay4 (F := Ideal) w g n v (ix2 a b) = step (w (ix2 a b)) (g (ix2 a b)) (n (ix2 a b)) (v (ix2 a b))
    ∧ k0_pay2 (F := Ideal) g n (ix2 a b) = mom (g (ix2 a b)) (n (ix2 a b))
    ∧ k0_pay3 (F := Ideal) g v (ix2 a b) = vel (g (ix2 a b)) (v (ix2 a b)) := by
  unfold k0_pay4 k0_pay3 k0_pay2 k0_pay1 step mom vel
  refine ⟨?_, ?_, ?_⟩ <;> pointwise

theorem e : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] := by decide +kernel

theorem arr4 : (dats m 0 c).arrAt 4 cfg0.N = fun i => step (V m c main_v0 i) (V m c main_v1 i) (V m c main_v2 i) (V m c main_v3 i) := by
  refine (dats m 0 c).arrAt_eq_of_covers 4 _ (by decide +kernel) fun t hf y => ?_
  have h : t.val < 4 := lt_of_lt_of_eq t.isLt N_0
  obtain ⟨e0, e1, e2, e3, e4, e5, e6⟩ := e t
  blk_simp
  rw [after0_4]
  frame_out
  obtain ⟨a, b, rfl⟩ := pair (y : S176x1024.Idx)
  rw [show (win0_4.blk t).view.emb (ix2 a b) = (ix2 ⟨176 * t.val + a.val, by omega⟩ b : S704x1024.Idx) by blk_ext [e4]]
  refine (pay _ _ _ _ a b).1.trans (congrStep ?_ ?_ ?_ ?_) <;>
  · blk_simp [iblk]
    congr 1
    blk_ext [e0, e1, e2, e3]

theorem arr5 : (dats m 0 c).arrAt 5 cfg0.N = fun i => mom (V m c main_v1 i) (V m c main_v2 i) := by
  refine (dats m 0 c).arrAt_eq_of_covers 5 _ (by decide +kernel) fun t hf y => ?_
  have h : t.val < 4 := lt_of_lt_of_eq t.isLt N_0
  obtain ⟨e0, e1, e2, e3, e4, e5, e6⟩ := e t
  blk_simp
  rw [after0_5]
  frame_out
  obtain ⟨a, b, rfl⟩ := pair (y : S176x1024.Idx)
  rw [show (win0_5.blk t).view.emb (ix2 a b) = (ix2 ⟨176 * t.val + a.val, by omega⟩ b : S704x1024.Idx) by blk_ext [e5]]
  refine (pay (iblk m c 1 t) _ _ (iblk m c 1 t) a b).2.1.trans (congrMom ?_ ?_) <;>
  · blk_simp [iblk]
    congr 1
    blk_ext [e1, e2]

theorem arr6 : (dats m 0 c).arrAt 6 cfg0.N = fun i => vel (V m c main_v1 i) (V m c main_v3 i) := by
  refine (dats m 0 c).arrAt_eq_of_covers 6 _ (by decide +kernel) fun t hf y => ?_
  have h : t.val < 4 := lt_of_lt_of_eq t.isLt N_0
  obtain ⟨e0, e1, e2, e3, e4, e5, e6⟩ := e t
  blk_simp
  rw [after0_6]
  frame_out
  obtain ⟨a, b, rfl⟩ := pair (y : S176x1024.Idx)
  rw [show (win0_6.blk t).view.emb (ix2 a b) = (ix2 ⟨176 * t.val + a.val, by omega⟩ b : S704x1024.Idx) by blk_ext [e6]]
  refine (pay (iblk m c 1 t) _ (iblk m c 1 t) _ a b).2.2.trans (congrVel ?_ ?_) <;>
  · blk_simp [iblk]
    congr 1
    blk_ext [e1, e3]

end Cert.Kernel40Ideal.Val

open Cert.Kernel40Ideal.Val in
theorem Cert.Reference40Ideal.Val.values : @Cert.algebraic_Kernel40Ideal_Reference40Ideal Cert.Kernel40Ideal.Gen.facts Cert.Reference40Ideal.Gen.facts := by
  intro m ρ m' ρ' _ he
  refine ⟨_, _, _, Cert.Kernel40Ideal.Value.run_blocks m ρ, (θ_run _ _ _).mono (fun r h c => ?_) (Cert.Reference40Ideal.Value.run (F := Ideal) m' ρ')⟩
  obtain ⟨h0, h1, h2, hrest⟩ := h c
  obtain ⟨a0, a1, a2, a3⟩ := he c
  obtain ⟨v0, v1, v2, v3⟩ := v0 m c
  rw [a0, a1, a2, a3] at h0
  rw [a1, a2] at h1
  rw [a1, a3] at h2
  refine ⟨h0.trans ?_, h1.trans ?_, h2.trans ?_, hrest⟩
  · rw [arr4, v0, v1, v2, v3]
    rfl
  · rw [arr5, v1, v2]
    rfl
  · rw [arr6, v1, v3]
    rfl

/-! ## The relative bias -/

theorem Cert.Reference41Ideal.Val.values : @Cert.algebraic_Kernel41Ideal_Reference41Ideal Cert.Kernel41Ideal.Gen.facts Cert.Reference41Ideal.Gen.facts := by
  intro m ρ m' ρ' _ he
  refine ⟨_, _, _, Cert.Kernel41Ideal.Value.run m ρ, (θ_run _ _ _).mono (fun r h c => ?_) (Cert.Reference41Ideal.Value.run (F := Ideal) m' ρ')⟩
  obtain ⟨h0, h1, h2, hrest⟩ := h c
  obtain ⟨a0, a1, a2, a3⟩ := he c
  rw [a0, a1, a2, a3] at h0
  rw [a1, a2] at h1
  rw [a1, a3] at h2
  exact ⟨h0, h1, h2, hrest⟩

/-! ## The last norm's weights -/

namespace Cert.Kernel42Ideal.Val

open Gen

variable (m : (ℓ : Loc nD τ sig) → Buf (Elt Ideal) ℓ) (c : Dev nD)

theorem v0 : V m c main_v0 = shapeCast _ (m (c, Proc.devRef .tc main_arg0)) shapeCasts_S1024_S1x1024
    ∧ V m c main_v1 = shapeCast _ (m (c, Proc.devRef .tc main_arg1)) shapeCasts_S1024_S1x1024
    ∧ V m c main_v2 = shapeCast _ (m (c, Proc.devRef .tc main_arg2)) shapeCasts_S1024_S1x1024
    ∧ V m c main_v3 = shapeCast _ (m (c, Proc.devRef .tc main_arg3)) shapeCasts_S1024_S1x1024 := by
  unfold V
  refine ⟨?_, ?_, ?_, ?_⟩ <;>
  · after_reads_at
    funext i
    obtain ⟨a, b, rfl⟩ := pair i
    symm
    pointwise

theorem pay (w g n v : Vec Ideal S1x1024 .f32) (a : Fin 1) (b : Fin 1024) :
    k0_pay4 (F := Ideal) w g n v (ix2 a b) = step (w (ix2 a b)) (g (ix2 a b)) (n (ix2 a b)) (v (ix2 a b))
    ∧ k0_pay2 (F := Ideal) g n (ix2 a b) = mom (g (ix2 a b)) (n (ix2 a b))
    ∧ k0_pay3 (F := Ideal) g v (ix2 a b) = vel (g (ix2 a b)) (v (ix2 a b)) := by
  unfold k0_pay4 k0_pay3 k0_pay2 k0_pay1 step mom vel
  refine ⟨?_, ?_, ?_⟩ <;> pointwise

theorem e : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] := by decide +kernel

theorem arr4 : (dats m 0 c).arrAt 4 cfg0.N = fun i => step (V m c main_v0 i) (V m c main_v1 i) (V m c main_v2 i) (V m c main_v3 i) := by
  refine (dats m 0 c).arrAt_eq_of_covers 4 _ (by decide +kernel) fun t hf y => ?_
  have h : t.val < 1 := lt_of_lt_of_eq t.isLt N_0
  obtain ⟨e0, e1, e2, e3, e4, e5, e6⟩ := e t
  blk_simp
  rw [after0_4]
  frame_out
  obtain ⟨a, b, rfl⟩ := pair (y : S1x1024.Idx)
  rw [show (win0_4.blk t).view.emb (ix2 a b) = (ix2 ⟨1 * t.val + a.val, by omega⟩ b : S1x1024.Idx) by blk_ext [e4]]
  refine (pay _ _ _ _ a b).1.trans (congrStep ?_ ?_ ?_ ?_) <;>
  · blk_simp [iblk]
    congr 1
    blk_ext [e0, e1, e2, e3]

theorem arr5 : (dats m 0 c).arrAt 5 cfg0.N = fun i => mom (V m c main_v1 i) (V m c main_v2 i) := by
  refine (dats m 0 c).arrAt_eq_of_covers 5 _ (by decide +kernel) fun t hf y => ?_
  have h : t.val < 1 := lt_of_lt_of_eq t.isLt N_0
  obtain ⟨e0, e1, e2, e3, e4, e5, e6⟩ := e t
  blk_simp
  rw [after0_5]
  frame_out
  obtain ⟨a, b, rfl⟩ := pair (y : S1x1024.Idx)
  rw [show (win0_5.blk t).view.emb (ix2 a b) = (ix2 ⟨1 * t.val + a.val, by omega⟩ b : S1x1024.Idx) by blk_ext [e5]]
  refine (pay (iblk m c 1 t) _ _ (iblk m c 1 t) a b).2.1.trans (congrMom ?_ ?_) <;>
  · blk_simp [iblk]
    congr 1
    blk_ext [e1, e2]

theorem arr6 : (dats m 0 c).arrAt 6 cfg0.N = fun i => vel (V m c main_v1 i) (V m c main_v3 i) := by
  refine (dats m 0 c).arrAt_eq_of_covers 6 _ (by decide +kernel) fun t hf y => ?_
  have h : t.val < 1 := lt_of_lt_of_eq t.isLt N_0
  obtain ⟨e0, e1, e2, e3, e4, e5, e6⟩ := e t
  blk_simp
  rw [after0_6]
  frame_out
  obtain ⟨a, b, rfl⟩ := pair (y : S1x1024.Idx)
  rw [show (win0_6.blk t).view.emb (ix2 a b) = (ix2 ⟨1 * t.val + a.val, by omega⟩ b : S1x1024.Idx) by blk_ext [e6]]
  refine (pay (iblk m c 1 t) _ (iblk m c 1 t) _ a b).2.2.trans (congrVel ?_ ?_) <;>
  · blk_simp [iblk]
    congr 1
    blk_ext [e1, e3]

end Cert.Kernel42Ideal.Val

open Cert.Kernel42Ideal.Val in
theorem Cert.Reference42Ideal.Val.values : @Cert.algebraic_Kernel42Ideal_Reference42Ideal Cert.Kernel42Ideal.Gen.facts Cert.Reference42Ideal.Gen.facts := by
  intro m ρ m' ρ' _ he
  refine ⟨_, _, _, Cert.Kernel42Ideal.Value.run_blocks m ρ, (θ_run _ _ _).mono (fun r h c => ?_) (Cert.Reference42Ideal.Value.run (F := Ideal) m' ρ')⟩
  obtain ⟨h0, h1, h2, hrest⟩ := h c
  obtain ⟨a0, a1, a2, a3⟩ := he c
  obtain ⟨v0, v1, v2, v3⟩ := v0 m c
  rw [a0, a1, a2, a3] at h0
  rw [a1, a2] at h1
  rw [a1, a3] at h2
  refine ⟨h0.trans ?_, h1.trans ?_, h2.trans ?_, hrest⟩
  · rw [arr4, v0, v1, v2, v3]
    rfl
  · rw [arr5, v1, v2]
    rfl
  · rw [arr6, v1, v3]
    rfl

end
-- ==== Proof.Gate.lean ====
/- The gates' merge with its output product, the same product's gradient, and the gradient of the undilated projections' input. -/
module

public import proofs.«01_k».proof.Proof.Adam
public import proofs.«01_k».proof.Proof.Gen.Kernel23.Frame
public import proofs.«01_k».proof.Proof.Gen.Kernel23Ideal.Value
public import proofs.«01_k».proof.Proof.Gen.Reference23Ideal.Run
public import proofs.«01_k».proof.Proof.Gen.Kernel24.Frame
public import proofs.«01_k».proof.Proof.Gen.Kernel24Ideal.Frame
public import proofs.«01_k».proof.Proof.Gen.Reference24Ideal.Run
public import proofs.«01_k».proof.Proof.Gen.Kernel25.Frame
public import proofs.«01_k».proof.Proof.Gen.Kernel25Ideal.Value
public import proofs.«01_k».proof.Proof.Gen.Reference25Ideal.Run

@[expose] public section

set_option maxRecDepth 16384

noncomputable section

open Cert.Adam Cert.Prod Idealize.ShloMosaic TcCoe Tactic Idealize.SL.Sem

namespace Cert.Kernel23Ideal.Val

open Gen

variable (m : (ℓ : Loc nD τ sig) → Buf (Elt Ideal) ℓ) (c : Dev nD)

abbrev x0 : S16384x1024.Idx → EReal := V m c main_v0
abbrev x1 : S16384x1024.Idx → EReal := V m c main_v1
abbrev x2 : S16384x2048.Idx → EReal := V m c main_v2
abbrev x3 : S1024x1024.Idx → EReal := V m c main_v3
abbrev x4 : S16384x1024.Idx → EReal := V m c main_arg4

theorem reads : x0 m c = m (c, Proc.devRef .tc main_arg0)
    ∧ x1 m c = m (c, Proc.devRef .tc main_arg1)
    ∧ x2 m c = m (c, Proc.devRef .tc main_arg2)
    ∧ x3 m c = m (c, Proc.devRef .tc main_arg3)
    ∧ x4 m c = m (c, Proc.devRef .tc main_arg4) := by
  unfold x0 x1 x2 x3 x4 V
  refine ⟨?_, ?_, ?_, ?_, ?_⟩ <;>
  · funext i
    obtain ⟨a, b, rfl⟩ := pair i
    after_reads_at

abbrev lo (b : Fin 1024) : Fin 2048 := ⟨b.val, by omega⟩
abbrev hi (b : Fin 1024) : Fin 2048 := ⟨1024 + b.val, by omega⟩

section Pay

variable (d x y : Vec Ideal S512x1024 .bf16) (h : Vec Ideal S512x1024 .f32) (g : Vec Ideal S512x2048 .bf16) (w : Vec Ideal S1024x1024 .bf16) (a : Fin 512) (b : Fin 1024)

theorem pay1 : k0_pay1 (F := Ideal) h w (ix2 a b) = ∑ l : Fin 1024, h (ix2 a l) * w (ix2 b l) := by
  unfold k0_pay1
  pointwise

theorem pay5 : k0_pay5 (F := Ideal) h g w (ix2 a b) = Ideal.logistic (g (ix2 a ⟨b.val, by omega⟩)) * k0_pay1 (F := Ideal) h w (ix2 a b) := by
  unfold k0_pay5 k0_pay3 k0_pay2
  generalize k0_pay1 (F := Ideal) h w = z
  pointwise

theorem pay6 : k0_pay6 (F := Ideal) h g w (ix2 a b) = Ideal.logistic (g (ix2 a ⟨1024 + b.val, by omega⟩)) * k0_pay1 (F := Ideal) h w (ix2 a b) := by
  unfold k0_pay6 k0_pay4 k0_pay2
  generalize k0_pay1 (F := Ideal) h w = z
  pointwise

theorem pay7 : k0_pay7 (F := Ideal) h x y g w (ix2 a ⟨b.val, by omega⟩) = k0_pay1 (F := Ideal) h w (ix2 a b) * x (ix2 a b)
      * Ideal.logistic (g (ix2 a ⟨b.val, by omega⟩)) * (1 - Ideal.logistic (g (ix2 a ⟨b.val, by omega⟩)))
    ∧ k0_pay7 (F := Ideal) h x y g w (ix2 a ⟨1024 + b.val, by omega⟩) = k0_pay1 (F := Ideal) h w (ix2 a b) * y (ix2 a b)
      * Ideal.logistic (g (ix2 a ⟨1024 + b.val, by omega⟩)) * (1 - Ideal.logistic (g (ix2 a ⟨1024 + b.val, by omega⟩))) := by
  unfold k0_pay7 k0_pay4 k0_pay3 k0_pay2
  generalize k0_pay1 (F := Ideal) h w = z
  refine ⟨?_, ?_⟩ <;> pointwise

end Pay

theorem e : ∀ t : Fin grid0.N, win0_0.index t = ![t.val, 0]
    ∧ win0_1.index t = ![t.val, 0]
    ∧ win0_2.index t = ![t.val, 0]
    ∧ win0_3.index t = ![t.val, 0]
    ∧ win0_4.index t = ![0, 0]
    ∧ win0_5.index t = ![t.val, 0]
    ∧ win0_6.index t = ![t.val, 0]
    ∧ win0_7.index t = ![t.val, 0] := by decide +kernel

/-- The merged branches' gradient and the gate of one entry. -/
def dm (r : Fin 16384) (b : Fin 1024) : EReal := ∑ l : Fin 1024, x4 m c (ix2 r l) * x3 m c (ix2 b l)
def gt (r : Fin 16384) (j : Fin 2048) : EReal := Ideal.logistic (x2 m c (ix2 r j))

section Blocks

variable (t : Fin grid0.N) (h : t.val < 32) (a : Fin 512) (b : Fin 1024)
include h

theorem blk_dm : k0_pay1 (F := Ideal) (iblk m c 0 t) (iblk m c 4 t) (ix2 a b) = dm m c ⟨512 * t.val + a.val, by omega⟩ b := by
  obtain ⟨e0, e1, e2, e3, e4, e5, e6, e7⟩ := e t
  refine (pay1 _ _ a b).trans (Finset.sum_congr rfl fun l _ => congrArg₂ (· * ·) ?_ ?_) <;>
  · blk_simp [iblk]
    congr 1
    blk_ext [e0, e4]

theorem blk_gt (j : Fin 2048) : Ideal.logistic ((iblk m c 3 t : Vec Ideal S512x2048 .bf16) (ix2 a j)) = gt m c ⟨512 * t.val + a.val, by omega⟩ j := by
  obtain ⟨e0, e1, e2, e3, e4, e5, e6, e7⟩ := e t
  refine congrArg Ideal.logistic ?_
  blk_simp [iblk]
  congr 1
  blk_ext [e3]

theorem blk_br : (iblk m c 1 t : Vec Ideal S512x1024 .bf16) (ix2 a b) = x0 m c (ix2 ⟨512 * t.val + a.val, by omega⟩ b)
    ∧ (iblk m c 2 t : Vec Ideal S512x1024 .bf16) (ix2 a b) = x1 m c (ix2 ⟨512 * t.val + a.val, by omega⟩ b) := by
  obtain ⟨e0, e1, e2, e3, e4, e5, e6, e7⟩ := e t
  refine ⟨?_, ?_⟩ <;>
  · blk_simp [iblk]
    congr 1
    blk_ext [e1, e2]

end Blocks

def entA (a : Fin 16384) (b : Fin 1024) : EReal := gt m c a (lo b) * dm m c a b
def entB (a : Fin 16384) (b : Fin 1024) : EReal := gt m c a (hi b) * dm m c a b
def dA : S16384x1024.Idx → EReal := fun i => entA m c (i 0) (i 1)
def dB : S16384x1024.Idx → EReal := fun i => entB m c (i 0) (i 1)
def entG (a : Fin 16384) (j : Fin 2048) : EReal :=
  if h : j.val < 1024 then dm m c a ⟨j.val, h⟩ * x0 m c (ix2 a ⟨j.val, h⟩) * gt m c a j * (1 - gt m c a j)
  else dm m c a ⟨j.val - 1024, by omega⟩ * x1 m c (ix2 a ⟨j.val - 1024, by omega⟩) * gt m c a j * (1 - gt m c a j)
def dG : S16384x2048.Idx → EReal := fun i => entG m c (i 0) (i 1)

theorem arr5 : (dats m 0 c).arrAt 5 cfg0.N = dA m c := by
  refine (dats m 0 c).arrAt_eq_of_covers 5 _ (by decide +kernel) fun t hf y => ?_
  have h : t.val < 32 := lt_of_lt_of_eq t.isLt N_0
  obtain ⟨e0, e1, e2, e3, e4, e5, e6, e7⟩ := e t
  blk_simp
  rw [after0_5]
  frame_out
  obtain ⟨a, b, rfl⟩ := pair (y : S512x1024.Idx)
  rw [show (win0_5.blk t).view.emb (ix2 a b) = (ix2 ⟨512 * t.val + a.val, by omega⟩ b : S16384x1024.Idx) by blk_ext [e5]]
  exact (pay5 _ _ _ a b).trans (congrArg₂ (· * ·) (blk_gt m c t h a _) (blk_dm m c t h a b))

theorem arr6 : (dats m 0 c).arrAt 6 cfg0.N = dB m c := by
  refine (dats m 0 c).arrAt_eq_of_covers 6 _ (by decide +kernel) fun t hf y => ?_
  have h : t.val < 32 := lt_of_lt_of_eq t.isLt N_0
  obtain ⟨e0, e1, e2, e3, e4, e5, e6, e7⟩ := e t
  blk_simp
  rw [after0_6]
  frame_out
  obtain ⟨a, b, rfl⟩ := pair (y : S512x1024.Idx)
  rw [show (win0_6.blk t).view.emb (ix2 a b) = (ix2 ⟨512 * t.val + a.val, by omega⟩ b : S16384x1024.Idx) by blk_ext [e6]]
  exact (pay6 _ _ _ a b).trans (congrArg₂ (· * ·) (blk_gt m c t h a _) (blk_dm m c t h a b))

theorem arr7 : (dats m 0 c).arrAt 7 cfg0.N = dG m c := by
  refine (dats m 0 c).arrAt_eq_of_covers 7 _ (by decide +kernel) fun t hf y => ?_
  have h : t.val < 32 := lt_of_lt_of_eq t.isLt N_0
  obtain ⟨e0, e1, e2, e3, e4, e5, e6, e7⟩ := e t
  blk_simp
  rw [after0_7]
  frame_out
  obtain ⟨a, b, rfl⟩ := pair (y : S512x2048.Idx)
  rw [show (win0_7.blk t).view.emb (ix2 a b) = (ix2 ⟨512 * t.val + a.val, by omega⟩ b : S16384x2048.Idx) by blk_ext [e7]]
  show _ = entG m c ⟨512 * t.val + a.val, by omega⟩ b
  unfold entG
  by_cases hb : b.val < 1024
  · refine Eq.trans ?_ (dif_pos hb).symm
    refine (pay7 _ _ _ _ _ a ⟨b.val, hb⟩).1.trans ?_
    rw [blk_gt m c t h, blk_dm m c t h, (blk_br m c t h a _).1]
  · refine Eq.trans ?_ (dif_neg hb).symm
    obtain ⟨k, rfl⟩ : ∃ k : Fin 1024, b = ⟨1024 + k.val, Nat.add_lt_add_left k.isLt 1024⟩ := ⟨⟨b.val - 1024, by omega⟩, Fin.ext (by show b.val = 1024 + (b.val - 1024); omega)⟩
    refine (pay7 _ _ _ _ _ a k).2.trans ?_
    rw [blk_gt m c t h, blk_dm m c t h, (blk_br m c t h a _).2]
    have hk : (⟨1024 + k.val - 1024, by omega⟩ : Fin 1024) = k := Fin.ext (by show 1024 + k.val - 1024 = k.val; omega)
    show _ = dm m c _ ⟨1024 + k.val - 1024, _⟩ * x1 m c (ix2 _ ⟨1024 + k.val - 1024, _⟩) * _ * (1 - _)
    rw [hk]

theorem values : @Cert.algebraic_Kernel23Ideal_Reference23Ideal Cert.Kernel23Ideal.Gen.facts Cert.Reference23Ideal.Gen.facts := by
  intro m ρ m' ρ' _ he
  refine ⟨fun c => dA m c, fun c => dB m c, fun c => dG m c, (θ_run _ _ _).mono (fun r h c => ⟨(h c).1.trans (arr5 m c), (h c).2.1.trans (arr6 m c), (h c).2.2.1.trans (arr7 m c), (h c).2.2.2⟩) (Cert.Kernel23Ideal.Value.run_blocks m ρ), ?_⟩
  refine (θ_run _ _ _).mono (fun r h c => ?_) (Cert.Reference23Ideal.Value.run (F := Ideal) m' ρ')
  obtain ⟨h0, h1, h2, hrest⟩ := h c
  obtain ⟨a0, a1, a2, a3, a4⟩ := he c
  obtain ⟨r0, r1, r2, r3, r4⟩ := reads m c
  refine ⟨h0.trans ?_, h1.trans ?_, h2.trans ?_, hrest⟩
  · rw [a2, a3, a4]
    funext i
    obtain ⟨a, b, rfl⟩ := pair (i : S16384x1024.Idx)
    show _ = entA m c a b
    unfold entA gt dm
    rw [r2, r3, r4]
    pointwise
    try rfl
  · rw [a2, a3, a4]
    funext i
    obtain ⟨a, b, rfl⟩ := pair (i : S16384x1024.Idx)
    show _ = entB m c a b
    unfold entB gt dm
    rw [r2, r3, r4]
    pointwise
    try rfl
  · rw [a0, a1, a2, a3, a4]
    funext i
    obtain ⟨a, b, rfl⟩ := pair (i : S16384x2048.Idx)
    show _ = entG m c a b
    unfold entG gt dm
    rw [r0, r1, r2, r3, r4]
    pointwise
    split <;> exact (mul_assoc _ _ _).symm

end Cert.Kernel23Ideal.Val

namespace Cert.Kernel24Ideal.Val

open Gen

variable (m : (ℓ : Loc nD τ sig) → Buf (Elt Ideal) ℓ) (c : Dev nD)

abbrev x0 : S16384x1024.Idx → EReal := V m c main_v0
abbrev x1 : S16384x1024.Idx → EReal := V m c main_v1
abbrev x2 : S16384x2048.Idx → EReal := V m c main_v2
abbrev x3 : S16384x1024.Idx → EReal := V m c main_arg3
abbrev x4 : S1024x1024.Idx → EReal := V m c main_v3

theorem reads : x0 m c = m (c, Proc.devRef .tc main_arg0)
    ∧ x1 m c = m (c, Proc.devRef .tc main_arg1)
    ∧ x2 m c = m (c, Proc.devRef .tc main_arg2)
    ∧ x3 m c = m (c, Proc.devRef .tc main_arg3)
    ∧ x4 m c = m (c, Proc.devRef .tc main_arg4) := by
  unfold x0 x1 x2 x3 x4 V
  refine ⟨?_, ?_, ?_, ?_, ?_⟩ <;>
  · funext i
    obtain ⟨a, b, rfl⟩ := pair i
    after_reads_at

/-- The two branches, each under its gate. -/
def mrg (x y g p : EReal) : EReal := Ideal.logistic g * x + Ideal.logistic p * y

theorem congrMrg {x x' y y' g g' p p' : EReal} (h : x = x') (k : y = y') (q : g = g') (s : p = p') : mrg x y g p = mrg x' y' g' p' := by rw [h, k, q, s]

abbrev lo (b : Fin 1024) : Fin 2048 := ⟨b.val, by omega⟩
abbrev hi (b : Fin 1024) : Fin 2048 := ⟨1024 + b.val, by omega⟩

theorem pay1 (x y : Vec Ideal S512x1024 .bf16) (g : Vec Ideal S512x2048 .bf16) (a : Fin 512) (b : Fin 1024) :
    k0_pay1 (F := Ideal) x y g (ix2 a b) = mrg (x (ix2 a b)) (y (ix2 a b)) (g (ix2 a ⟨b.val, by omega⟩)) (g (ix2 a ⟨1024 + b.val, by omega⟩)) := by
  unfold k0_pay1 mrg
  pointwise

theorem pay2 (x y : Vec Ideal S512x1024 .bf16) (g : Vec Ideal S512x2048 .bf16) (h : Vec Ideal S512x1024 .f32) (w : Vec Ideal S1024x1024 .bf16) (a : Fin 512) (b : Fin 1024) :
    k0_pay2 (F := Ideal) x y g h w (ix2 a b) = h (ix2 a b) + ∑ l : Fin 1024, k0_pay1 (F := Ideal) x y g (ix2 a l) * w (ix2 l b) := by
  unfold k0_pay2
  generalize k0_pay1 (F := Ideal) x y g = z
  pointwise

theorem e : ∀ t : Fin grid0.N, win0_0.index t = ![t.val, 0]
    ∧ win0_1.index t = ![t.val, 0]
    ∧ win0_2.index t = ![t.val, 0]
    ∧ win0_3.index t = ![t.val, 0]
    ∧ win0_4.index t = ![0, 0]
    ∧ win0_5.index t = ![t.val, 0]
    ∧ win0_6.index t = ![t.val, 0] := by decide +kernel

def entry (a : Fin 16384) (b : Fin 1024) : EReal := mrg (x0 m c (ix2 a b)) (x1 m c (ix2 a b))
  (x2 m c (ix2 a (lo b))) (x2 m c (ix2 a (hi b)))
def merged : S16384x1024.Idx → EReal := fun i => entry m c (i 0) (i 1)
def sum (a : Fin 16384) (b : Fin 1024) : EReal := x3 m c (ix2 a b)
  + ∑ l : Fin 1024, entry m c a l * x4 m c (ix2 l b)
def out : S16384x1024.Idx → EReal := fun i => sum m c (i 0) (i 1)

theorem part (t : Fin grid0.N) (h : t.val < 32) (a : Fin 512) (b : Fin 1024) : k0_pay1 (F := Ideal) (iblk m c 0 t) (iblk m c 1 t) (iblk m c 2 t) (ix2 a b)
    = entry m c ⟨512 * t.val + a.val, by omega⟩ b := by
  obtain ⟨e0, e1, e2, e3, e4, e5, e6⟩ := e t
  refine (pay1 _ _ _ a b).trans (congrMrg ?_ ?_ ?_ ?_) <;>
  · blk_simp [iblk]
    congr 1
    blk_ext [e0, e1, e2]

theorem arr5 : (dats m 0 c).arrAt 5 cfg0.N = out m c := by
  refine (dats m 0 c).arrAt_eq_of_covers 5 _ (by decide +kernel) fun t hf y => ?_
  have h : t.val < 32 := lt_of_lt_of_eq t.isLt N_0
  obtain ⟨e0, e1, e2, e3, e4, e5, e6⟩ := e t
  blk_simp
  rw [after0_5]
  frame_out
  obtain ⟨a, b, rfl⟩ := pair (y : S512x1024.Idx)
  rw [show (win0_5.blk t).view.emb (ix2 a b) = (ix2 ⟨512 * t.val + a.val, by omega⟩ b : S16384x1024.Idx) by blk_ext [e5]]
  refine (pay2 _ _ _ _ _ a b).trans (congrArg₂ (· + ·) ?_ (Finset.sum_congr rfl fun l _ => congrArg₂ (· * ·) (part m c t h a l) ?_)) <;>
  · blk_simp [iblk]
    congr 1
    blk_ext [e3, e4]

theorem arr6 : (dats m 0 c).arrAt 6 cfg0.N = merged m c := by
  refine (dats m 0 c).arrAt_eq_of_covers 6 _ (by decide +kernel) fun t hf y => ?_
  have h : t.val < 32 := lt_of_lt_of_eq t.isLt N_0
  obtain ⟨e0, e1, e2, e3, e4, e5, e6⟩ := e t
  blk_simp
  rw [after0_6]
  frame_out
  obtain ⟨a, b, rfl⟩ := pair (y : S512x1024.Idx)
  rw [show (win0_6.blk t).view.emb (ix2 a b) = (ix2 ⟨512 * t.val + a.val, by omega⟩ b : S16384x1024.Idx) by blk_ext [e6]]
  exact part m c t h a b

/-- The run, with its two arrays. -/
theorem run (ρ : Dev nD → PrngReg) : θ_run defs (onTc (τ := τ) (main (F := Ideal))) ⟨m, fun _ => 0, ρ⟩ fun r => ∀ c : Dev nD,
    r.2.mem ((c : Thread nD τ).loc main_v4_0) = out m c ∧ r.2.mem ((c : Thread nD τ).loc main_v4_1) = merged m c
    ∧ r.2.mem ((c : Thread nD τ).loc main_arg0) = m ((c : Thread nD τ).loc main_arg0) ∧ r.2.mem ((c : Thread nD τ).loc main_arg1) = m ((c : Thread nD τ).loc main_arg1)
    ∧ r.2.mem ((c : Thread nD τ).loc main_arg2) = m ((c : Thread nD τ).loc main_arg2) ∧ r.2.mem ((c : Thread nD τ).loc main_arg3) = m ((c : Thread nD τ).loc main_arg3)
    ∧ r.2.mem ((c : Thread nD τ).loc main_arg4) = m ((c : Thread nD τ).loc main_arg4) := by
  refine (θ_run _ _ _).mono (fun r h c => ⟨((h c).1 5).trans (arr5 m c), ((h c).1 6).trans (arr6 m c), ?_, ?_, ?_, ?_, ?_⟩) (run_main m ρ)
  · exact ((h c).2 main_arg0 (Pipeline.mem_restRefs_of main_arg0 (by decide) (by decide))).trans (V_main_arg0 m c)
  · exact ((h c).2 main_arg1 (Pipeline.mem_restRefs_of main_arg1 (by decide) (by decide))).trans (V_main_arg1 m c)
  · exact ((h c).2 main_arg2 (Pipeline.mem_restRefs_of main_arg2 (by decide) (by decide))).trans (V_main_arg2 m c)
  · exact ((h c).1 3).trans (((dats m 0 c).arrAt_in 3 rfl _).trans ((A_eq m c 3).trans (V_main_arg3 m c)))
  · exact ((h c).2 main_arg4 (Pipeline.mem_restRefs_of main_arg4 (by decide) (by decide))).trans (V_main_arg4 m c)

theorem values : @Cert.algebraic_Kernel24Ideal_Reference24Ideal Cert.Kernel24Ideal.Gen.facts Cert.Reference24Ideal.Gen.facts := by
  intro m ρ m' ρ' _ he
  refine ⟨fun c => out m c, fun c => merged m c, run m ρ, ?_⟩
  refine (θ_run _ _ _).mono (fun r h c => ?_) (Cert.Reference24Ideal.Value.run (F := Ideal) m' ρ')
  obtain ⟨h0, h1, hrest⟩ := h c
  obtain ⟨a0, a1, a2, a3, a4⟩ := he c
  obtain ⟨r0, r1, r2, r3, r4⟩ := reads m c
  refine ⟨h0.trans ?_, h1.trans ?_, hrest⟩
  · rw [a0, a1, a2, a3, a4]
    funext i
    obtain ⟨a, b, rfl⟩ := pair (i : S16384x1024.Idx)
    show _ = sum m c a b
    unfold sum entry mrg
    rw [r0, r1, r2, r3, r4]
    pointwise
    try rfl
  · rw [a0, a1, a2]
    funext i
    obtain ⟨a, b, rfl⟩ := pair (i : S16384x1024.Idx)
    show _ = entry m c a b
    unfold entry mrg
    rw [r0, r1, r2]
    pointwise
    try rfl

end Cert.Kernel24Ideal.Val

namespace Cert.Kernel25Ideal.Val

open Gen

variable (m : (ℓ : Loc nD τ sig) → Buf (Elt Ideal) ℓ) (c : Dev nD)

abbrev x0 : S16384x512.Idx → EReal := V m c main_v0
abbrev x1 : S16384x512.Idx → EReal := V m c main_v1
abbrev x2 : S16384x512.Idx → EReal := V m c main_v2
abbrev x3 : S1024x512.Idx → EReal := V m c main_v3
abbrev x4 : S1024x512.Idx → EReal := V m c main_v4
abbrev x5 : S1024x512.Idx → EReal := V m c main_v5

theorem reads : x0 m c = m (c, Proc.devRef .tc main_arg4)
    ∧ x1 m c = m (c, Proc.devRef .tc main_arg5)
    ∧ x2 m c = m (c, Proc.devRef .tc main_arg6)
    ∧ x3 m c = m (c, Proc.devRef .tc main_arg1)
    ∧ x4 m c = m (c, Proc.devRef .tc main_arg2)
    ∧ x5 m c = m (c, Proc.devRef .tc main_arg3) := by
  unfold x0 x1 x2 x3 x4 x5 V
  refine ⟨?_, ?_, ?_, ?_, ?_, ?_⟩ <;>
  · funext i
    obtain ⟨a, b, rfl⟩ := pair i
    after_reads_at

theorem pay (x u y v z w : Vec Ideal S1024x512 .bf16) (a b : Fin 1024) : k0_pay1 (F := Ideal) x u y v z w (ix2 a b)
    = (∑ l : Fin 512, x (ix2 a l) * u (ix2 b l)) + (∑ l : Fin 512, y (ix2 a l) * v (ix2 b l)) + ∑ l : Fin 512, z (ix2 a l) * w (ix2 b l) := by
  unfold k0_pay1
  pointwise

theorem e : ∀ t : Fin grid0.N, win0_0.index t = ![t.val, 0]
    ∧ win0_1.index t = ![t.val, 0]
    ∧ win0_2.index t = ![t.val, 0]
    ∧ win0_3.index t = ![0, 0]
    ∧ win0_4.index t = ![0, 0]
    ∧ win0_5.index t = ![0, 0]
    ∧ win0_6.index t = ![t.val, 0] := by decide +kernel

def entry (a : Fin 16384) (b : Fin 1024) : EReal :=
  (∑ l : Fin 512, x0 m c (ix2 a l) * x3 m c (ix2 b l))
  + (∑ l : Fin 512, x1 m c (ix2 a l) * x4 m c (ix2 b l))
  + ∑ l : Fin 512, x2 m c (ix2 a l) * x5 m c (ix2 b l)
def out : S16384x1024.Idx → EReal := fun i => entry m c (i 0) (i 1)

theorem arr6 : (dats m 0 c).arrAt 6 cfg0.N = out m c := by
  refine (dats m 0 c).arrAt_eq_of_covers 6 _ (by decide +kernel) fun t hf y => ?_
  have h : t.val < 16 := lt_of_lt_of_eq t.isLt N_0
  obtain ⟨e0, e1, e2, e3, e4, e5, e6⟩ := e t
  blk_simp
  rw [after0_6]
  unfold outsAt0 out0_A_6
  frame_out
  obtain ⟨a, b, rfl⟩ := pair (y : S1024x1024.Idx)
  rw [show (win0_6.blk t).view.emb (ix2 a b) = (ix2 ⟨1024 * t.val + a.val, by omega⟩ b : S16384x1024.Idx) by blk_ext [e6]]
  refine (pay _ _ _ _ _ _ a b).trans (congrArg₂ (· + ·) (congrArg₂ (· + ·) ?_ ?_) ?_) <;>
  · refine Finset.sum_congr rfl fun l _ => congrArg₂ (· * ·) ?_ ?_ <;>
    · blk_simp [iblk]
      congr 1
      blk_ext [e0, e1, e2, e3, e4, e5]

theorem values : @Cert.algebraic_Kernel25Ideal_Reference25Ideal Cert.Kernel25Ideal.Gen.facts Cert.Reference25Ideal.Gen.facts := by
  intro m ρ m' ρ' _ he
  refine ⟨fun c => out m c, (θ_run _ _ _).mono (fun r h c => ⟨(h c).1.trans (arr6 m c), (h c).2⟩) (Cert.Kernel25Ideal.Value.run_blocks m ρ), ?_⟩
  refine (θ_run _ _ _).mono (fun r h c => ?_) (Cert.Reference25Ideal.Value.run (F := Ideal) m' ρ')
  obtain ⟨h0, hrest⟩ := h c
  refine ⟨h0.trans ?_, hrest⟩
  obtain ⟨a0, a1, a2, a3, a4, a5, a6⟩ := he c
  rw [a1, a2, a3, a4, a5, a6]
  obtain ⟨r0, r1, r2, r3, r4, r5⟩ := reads m c
  funext i
  obtain ⟨a, b, rfl⟩ := pair (i : S16384x1024.Idx)
  show _ = entry m c a b
  unfold entry
  rw [r0, r1, r2, r3, r4, r5]
  pointwise
  rw [add_comm, add_comm (∑ l : Fin 512, _ : EReal) (∑ l : Fin 512, _), ← add_assoc]

end Cert.Kernel25Ideal.Val

end
-- ==== Proof.Norm.lean ====
/- The gradient of the RMSNorm: on a row of extended reals, infinite ones among them, the call's form is the reference's. -/
module

public import proofs.«01_k».proof.Proof.Spec
public import proofs.«01_k».proof.Proof.Adam
public import proofs.«01_k».proof.Proof.Gen.Kernel26.Frame
public import proofs.«01_k».proof.Proof.Gen.Kernel26Ideal.Value
public import proofs.«01_k».proof.Proof.Gen.Reference26Ideal.Run

@[expose] public section

set_option maxRecDepth 16384

noncomputable section

namespace Cert.Norm

open Idealize.ShloMosaic

/-- The mean square of a row, a little added, and its inverse root. -/
def ms (h : Fin 1024 → EReal) : EReal := Ideal.div (∑ l, h l * h l) (Ideal.ofBits .f32 0x44800000#32) + Ideal.ofBits .f32 0x358637BD#32
def rs (h : Fin 1024 → EReal) : EReal := Ideal.rsqrt (ms h)
/-- The row's gradient as the call and as the reference has it, from the gradient `d` of the normalised row. -/
def ker (h d : Fin 1024 → EReal) (j : Fin 1024) : EReal :=
  rs h * (d j - h j * rs h * Ideal.div (∑ l, d l * (h l * rs h)) (Ideal.ofBits .f32 0x44800000#32))
def gr (h d : Fin 1024 → EReal) : EReal :=
  Ideal.div ((∑ l, h l * d l) * (Ideal.ofBits .f32 0xBF000000#32 * Ideal.div (rs h) (ms h))) (Ideal.ofBits .f32 0x44800000#32)
def ref (h d : Fin 1024 → EReal) (j : Fin 1024) : EReal := d j * rs h + h j * gr h d + gr h d * h j

theorem c1024 : Ideal.ofBits .f32 0x44800000#32 = ((1024 : ℝ) : EReal) := by
  simp [Ideal.ofBits, Ideal.ieee, -EReal.coe_mul]; norm_num
theorem half : Ideal.ofBits .f32 0xBF000000#32 = ((-(1 / 2) : ℝ) : EReal) := by
  simp [Ideal.ofBits, Ideal.ieee, -EReal.coe_mul]; norm_num
theorem eps : ∃ e : ℝ, 0 < e ∧ Ideal.ofBits .f32 0x358637BD#32 = ((e : ℝ) : EReal) :=
  ⟨8796093 / 2 ^ 43, by norm_num, by simp [Ideal.ofBits, Ideal.ieee, -EReal.coe_mul]; norm_num⟩

theorem sq_nonneg' (x : EReal) : 0 ≤ x * x := by
  induction x with
  | bot => simp
  | top => simp
  | coe x => exact_mod_cast mul_self_nonneg x

theorem twice (a : EReal) : a + a = ((2 : ℝ) : EReal) * a := by
  induction a with
  | bot => rw [EReal.coe_mul_bot_of_pos (by norm_num)]; rfl
  | top => rw [EReal.coe_mul_top_of_pos (by norm_num)]; rfl
  | coe a => rw [← EReal.coe_add, ← EReal.coe_mul, two_mul]

theorem mul_sum' {ρ : ℝ} (hρ : 0 ≤ ρ) {ι : Type} (s : Finset ι) (f : ι → EReal) : ((ρ : ℝ) : EReal) * ∑ l ∈ s, f l = ∑ l ∈ s, (ρ : EReal) * f l := by
  classical
  induction s using Finset.induction_on with
  | empty => simp
  | insert x s hx ih =>
    rw [Finset.sum_insert hx, Finset.sum_insert hx, EReal.left_distrib_of_nonneg_of_ne_top (by exact_mod_cast hρ) (EReal.coe_ne_top _), ih]

/-- A row with an infinite entry has no gradient on either side; on a real row both are the gradient, whatever `d` is. -/
theorem ker_eq (h d : Fin 1024 → EReal) (j : Fin 1024) : ker h d j = ref h d j := by
  obtain ⟨e, he, ee⟩ := eps
  by_cases hr : ∀ l, ∃ u : ℝ, h l = (u : EReal)
  · choose u hu using hr
    obtain rfl : h = fun l => ((u l : ℝ) : EReal) := funext hu
    have hx : ms (fun l => ((u l : ℝ) : EReal)) = (((∑ l, u l * u l) / 1024 + e : ℝ) : EReal) := by
      unfold ms
      rw [c1024, ee, Cert.Spec.sum_eq_coe (f := fun l => u l * u l) (fun l => (EReal.coe_mul _ _).symm), Cert.Spec.div_coe_coe (by norm_num), ← EReal.coe_add]
    have hp : 0 < (∑ l, u l * u l) / 1024 + e := by
      have := Finset.sum_nonneg (s := Finset.univ) fun l _ => mul_self_nonneg (u l)
      positivity
    generalize (∑ l, u l * u l) / 1024 + e = x at hx hp
    have hs : rs (fun l => ((u l : ℝ) : EReal)) = (((Real.sqrt x)⁻¹ : ℝ) : EReal) := by
      unfold rs
      rw [hx, Ideal.rsqrt_coe, if_neg (not_lt.mpr hp.le), if_neg hp.ne']
    have h0 : 0 ≤ (Real.sqrt x)⁻¹ := by positivity
    have h2 : (Real.sqrt x)⁻¹ * (Real.sqrt x)⁻¹ = x⁻¹ := by rw [← mul_inv, Real.mul_self_sqrt hp.le]
    unfold ker ref gr
    rw [hs, hx]
    generalize (Real.sqrt x)⁻¹ = ρ at h0 h2
    rw [c1024, half, Cert.Spec.div_coe_coe hp.ne', Ideal.div_coe (by norm_num), Ideal.div_coe (by norm_num)]
    rw [show ∑ l, d l * (((u l : ℝ) : EReal) * (ρ : EReal)) = (ρ : EReal) * ∑ l, ((u l : ℝ) : EReal) * d l by
      rw [mul_sum' h0]
      exact Finset.sum_congr rfl fun l _ => by ac_rfl]
    generalize ∑ l, ((u l : ℝ) : EReal) * d l = S
    rw [sub_eq_add_neg, EReal.left_distrib_of_nonneg_of_ne_top (by exact_mod_cast h0) (EReal.coe_ne_top _), add_assoc, mul_comm (d j)]
    refine congrArg _ ?_
    rw [mul_comm _ ((u j : ℝ) : EReal), twice, mul_neg, ← neg_mul]
    have key : ∀ p q : ℝ, p = q → (p : EReal) * S = (q : EReal) * S := fun p q h => by rw [h]
    have := key (-(ρ * (u j * ρ * (ρ * (1 / 1024))))) (2 * (u j * (-(1 / 2) * (ρ / x) * (1 / 1024)))) (by
      rw [div_eq_mul_inv ρ x, ← h2]; ring)
    simp only [EReal.coe_mul, EReal.coe_neg] at this ⊢
    simpa only [neg_mul, mul_neg, mul_assoc, mul_comm S, mul_left_comm S] using this
  · push Not at hr
    obtain ⟨l, hl⟩ := hr
    have ht : h l * h l = ⊤ := by
      cases hh : h l with
      | bot => rfl
      | top => rfl
      | coe r => exact absurd hh (hl r)
    have hx : ms h = ⊤ := by
      have : ∑ l, h l * h l = ⊤ := top_le_iff.mp (ht ▸ Finset.single_le_sum (f := fun l => h l * h l) (fun l _ => sq_nonneg' (h l)) (Finset.mem_univ l))
      unfold ms
      rw [this, c1024, ee, Ideal.div_coe (by norm_num), EReal.top_mul_coe_of_pos (by norm_num), EReal.top_add_coe]
    have hs : rs h = 0 := by unfold rs; rw [hx]; rfl
    have hg : gr h d = 0 := by
      unfold gr
      rw [hs, hx, show Ideal.div (0 : EReal) ⊤ = 0 by simp [Ideal.div], mul_zero, mul_zero, c1024, Ideal.div_coe (by norm_num), zero_mul]
    unfold ker ref
    rw [hg, hs]
    simp

end Cert.Norm

open Cert.Norm Cert.Prod Idealize.ShloMosaic TcCoe Tactic Idealize.SL.Sem

namespace Cert.Kernel26Ideal.Val

open Gen

section Pay

variable (d h q : Vec Ideal S512x1024 .f32) (w o p : Vec Ideal S1x1024 .f32) (a : Fin 512) (b : Fin 1024)

theorem pay2 : k0_pay2 (F := Ideal) h (ix2 a (0 : Fin 1)) = rs fun l => h (ix2 a l) := by
  unfold k0_pay2 rs ms
  pointwise

theorem pay3 : k0_pay3 (F := Ideal) h (ix2 a b) = h (ix2 a b) * rs fun l => h (ix2 a l) := by
  rw [← pay2]
  unfold k0_pay3
  generalize k0_pay2 (F := Ideal) h = z
  pointwise

theorem pay4 : k0_pay4 (F := Ideal) d h q w (ix2 a b)
    = ker (fun l => h (ix2 a l)) (fun l => d (ix2 a l) * w (ix2 (0 : Fin 1) l)) b + q (ix2 a b) := by
  have e := fun l => pay3 h a l
  have e2 := pay2 h a
  unfold ker
  generalize (rs fun l => h (ix2 a l)) = ρ at e e2 ⊢
  simp only [← e]
  rw [← e2]
  unfold k0_pay4
  generalize k0_pay3 (F := Ideal) h = y
  generalize k0_pay2 (F := Ideal) h = z
  pointwise

theorem pay5 : k0_pay5 (F := Ideal) d h (ix2 (0 : Fin 1) b) = ∑ r : Fin 512, d (ix2 r b) * (h (ix2 r b) * rs fun l => h (ix2 r l)) := by
  refine Eq.trans ?_ (Finset.sum_congr rfl fun r _ => congrArg (d (ix2 r b) * ·) (pay3 h r b))
  unfold k0_pay5
  generalize k0_pay3 (F := Ideal) h = y
  pointwise

theorem pay1 : k0_pay1 (F := Ideal) o p (ix2 (0 : Fin 1) b) = p (ix2 0 b) + o (ix2 0 b) ∧ k0_pay6 (F := Ideal) (ix2 (0 : Fin 1) b) = 0
    ∧ k0_pay7 (F := Ideal) o (ix2 (0 : Fin 1) b) = o (ix2 0 b) := by
  unfold k0_pay1 k0_pay6 k0_pay7
  refine ⟨?_, ?_, ?_⟩ <;> pointwise

end Pay

variable (m : (ℓ : Loc nD τ sig) → Buf (Elt Ideal) ℓ) (c : Dev nD)

abbrev xh : S16384x1024.Idx → EReal := m (c, Proc.devRef .tc main_arg0)
abbrev xw : S1024.Idx → EReal := m (c, Proc.devRef .tc main_arg1)
abbrev xd : S16384x1024.Idx → EReal := m (c, Proc.devRef .tc main_arg2)
abbrev xq : S16384x1024.Idx → EReal := m (c, Proc.devRef .tc main_arg3)

theorem w_at (b : Fin 1024) : (V m c main_v0 : S1x1024.Idx → EReal) (ix2 (0 : Fin 1) b) = xw m c (ix1 b) := by
  unfold V
  after_reads_at

theorem e : ∀ t : Fin grid0.N, win0_0.index t = ![t.val, 0]
    ∧ win0_1.index t = ![t.val, 0]
    ∧ win0_2.index t = ![t.val, 0]
    ∧ win0_3.index t = ![0, 0]
    ∧ win0_4.index t = ![t.val, 0]
    ∧ win0_5.index t = ![0, 0] := by decide +kernel

section Blocks

variable (t : Fin grid0.N) (h : t.val < 32) (a : Fin 512) (b : Fin 1024)
include h

theorem blk : (iblk m c 0 t : Vec Ideal S512x1024 .f32) (ix2 a b) = xd m c (ix2 ⟨512 * t.val + a.val, by omega⟩ b)
    ∧ (iblk m c 1 t : Vec Ideal S512x1024 .f32) (ix2 a b) = xh m c (ix2 ⟨512 * t.val + a.val, by omega⟩ b)
    ∧ (iblk m c 2 t : Vec Ideal S512x1024 .f32) (ix2 a b) = xq m c (ix2 ⟨512 * t.val + a.val, by omega⟩ b)
    ∧ (iblk m c 3 t : Vec Ideal S1x1024 .f32) (ix2 (0 : Fin 1) b) = xw m c (ix1 b) := by
  obtain ⟨e0, e1, e2, e3, e4, e5⟩ := e t
  rw [← w_at, show xd m c = V m c main_arg2 from (V_main_arg2 m c).symm, show xh m c = V m c main_arg0 from (V_main_arg0 m c).symm,
    show xq m c = V m c main_arg3 from (V_main_arg3 m c).symm]
  refine ⟨?_, ?_, ?_, ?_⟩ <;>
  · blk_simp [iblk]
    congr 1
    blk_ext [e0, e1, e2, e3]

end Blocks

/-- The entry of the row's gradient, with the gradient that passes by, and what a row adds to the weight's. -/
def entD (r : Fin 16384) (b : Fin 1024) : EReal :=
  ker (fun l => xh m c (ix2 r l)) (fun l => xd m c (ix2 r l) * xw m c (ix1 l)) b + xq m c (ix2 r b)
def entW (b : Fin 1024) (r : Fin 16384) : EReal := xd m c (ix2 r b) * (xh m c (ix2 r b) * rs fun l => xh m c (ix2 r l))
def outD : S16384x1024.Idx → EReal := fun i => entD m c (i 0) (i 1)
def outW : S1x1024.Idx → EReal := fun i => ∑ r, entW m c (i 1) r

theorem part (t : Fin grid0.N) (h : t.val < 32) (b : Fin 1024) :
    k0_pay5 (F := Ideal) (iblk m c 0 t) (iblk m c 1 t) (ix2 (0 : Fin 1) b) = stretch 512 (entW m c b) t.val := by
  refine (pay5 _ _ b).trans (stretch_eq _ _ _ (by omega) fun r => ?_)
  unfold entW
  simp only [(blk m c t h r _).1, (blk m c t h r _).2.1]

theorem acc (b : Fin 1024) : ∀ k, k < 33 - 1 → ∀ h : 33 * 0 + k < cfg0.N,
    (outsAt0 m c (33 * 0 + k) h).2 (ix2 (0 : Fin 1) b) = ∑ s ∈ Finset.range (k + 1), stretch 512 (entW m c b) s := by
  refine run_sum (N := cfg0.N) 33 0 (fun n h => (outsAt0 m c n h).2 (ix2 (0 : Fin 1) b)) _ (fun h => ?_) (fun k hk h h' => ?_)
  · rw [← part m c ⟨0, h⟩ (by dsimp only; omega) b]
    refine (congrArg (fun p => p.2 (ix2 (0 : Fin 1) b)) (outsAt0_A m c ⟨0, h⟩ (by dsimp only))).trans ?_
    frame_out
    exact (pay1 _ _ b).1.trans ((congrArg (· + _) (pay1 (k0_pay6 (F := Ideal)) (k0_pay6 (F := Ideal)) b).2.1).trans (zero_add _))
  · rw [← part m c ⟨k + 1, lt_of_lt_of_eq (by omega : k + 1 < 32) N_0.symm⟩ (by dsimp only; omega) b]
    refine (congrArg (fun p => p.2 (ix2 (0 : Fin 1) b)) (outsAt0_B m c ⟨33 * 0 + (k + 1), h⟩ (by dsimp only; omega))).trans ?_
    frame_out
    refine (pay1 _ _ b).1.trans (congrArg₂ (· + ·) ((pay1 _ (k0_pay6 (F := Ideal)) b).2.2.trans
      (same (fun n h => (outsAt0 m c n h).2 (ix2 (0 : Fin 1) b)) (by omega) _ _)) ?_)
    exact same (N := cfg0.N) (fun n h => k0_pay5 (F := Ideal) (iblk m c 0 ⟨n, h⟩) (iblk m c 1 ⟨n, h⟩) (ix2 (0 : Fin 1) b)) (by omega) _ _

theorem arrD : (dats m 0 c).arrAt 4 cfg0.N = outD m c := by
  refine (dats m 0 c).arrAt_eq_of_covers 4 _ (by decide +kernel) fun t hf y => ?_
  have h : t.val < 32 := lt_of_lt_of_eq t.isLt N_0
  obtain ⟨e0, e1, e2, e3, e4, e5⟩ := e t
  obtain ⟨a, b, rfl⟩ := pair (y : S512x1024.Idx)
  blk_simp
  rw [show (win0_4.blk t).view.emb (ix2 a b) = (ix2 ⟨512 * t.val + a.val, by omega⟩ b : S16384x1024.Idx) by blk_ext [e4]]
  have k : k0_pay4 (F := Ideal) (iblk m c 0 t) (iblk m c 1 t) (iblk m c 2 t) (iblk m c 3 t) (ix2 a b) = entD m c ⟨512 * t.val + a.val, by omega⟩ b := by
    refine (pay4 _ _ _ _ a b).trans ?_
    unfold entD
    simp only [(blk m c t h a _).1, (blk m c t h a _).2.1, (blk m c t h a _).2.2.1, (blk m c t h a _).2.2.2]
  rw [after0_4]
  by_cases h0 : t.val % 32 = 0
  · rw [outsAt0_A m c t h0]
    frame_out
    exact k
  · rw [outsAt0_B m c t h0]
    frame_out
    exact k

theorem arrW : (dats m 0 c).arrAt 5 cfg0.N = outW m c := by
  refine (dats m 0 c).arrAt_eq_of_covers 5 _ (by decide +kernel) fun t hf y => ?_
  have h : t.val < 32 := lt_of_lt_of_eq t.isLt N_0
  have h7 : t.val % 32 = 31 := (flush0_5 t).mp hf
  obtain ⟨e0, e1, e2, e3, e4, e5⟩ := e t
  obtain ⟨a, b, rfl⟩ := pair (y : S1x1024.Idx)
  obtain rfl : a = 0 := Subsingleton.elim _ _
  blk_simp
  rw [show (win0_5.blk t).view.emb (ix2 (0 : Fin 1) b) = (ix2 (0 : Fin 1) b : S1x1024.Idx) by blk_ext [e5], after0_5]
  refine ((same (fun n h => (outsAt0 m c n h).2 (ix2 (0 : Fin 1) b)) (by omega) _ _).trans
    (acc m c b 31 (by decide) (by rw [show cfg0.N = 32 from N_0]; decide))).trans ?_
  exact stretches 32 512 rfl _

end Cert.Kernel26Ideal.Val

namespace Cert.Reference26Ideal.Val

open Gen
open Cert.Kernel26Ideal.Val (outD outW entD entW arrD arrW)

theorem values : @Cert.algebraic_Kernel26Ideal_Reference26Ideal Cert.Kernel26Ideal.Gen.facts Cert.Reference26Ideal.Gen.facts := by
  intro m ρ m' ρ' _ he
  refine ⟨fun c => outD m c, fun c => outW m c, (θ_run _ _ _).mono (fun r h c => ⟨(h c).1.trans (arrD m c), (h c).2.1.trans (arrW m c), (h c).2.2⟩)
    (Cert.Kernel26Ideal.Value.run_blocks m ρ), ?_⟩
  refine (θ_run _ _ _).mono (fun r h c => ?_) (Cert.Reference26Ideal.Value.run (F := Ideal) m' ρ')
  obtain ⟨h0, h1, hrest⟩ := h c
  obtain ⟨a0, a1, a2, a3⟩ := he c
  rw [a0, a1, a2, a3] at h0
  rw [a0, a2] at h1
  refine ⟨h0.trans ?_, h1.trans ?_, hrest⟩
  · funext i
    obtain ⟨a, b, rfl⟩ := pair i
    show _ = entD m c a b
    unfold entD
    rw [ker_eq]
    unfold ref gr rs ms
    pointwise
    simp only [Finset.univ_unique, Finset.sum_singleton]
    exact add_comm _ _
  · funext i
    obtain ⟨a, b, rfl⟩ := pair i
    obtain rfl : a = 0 := Subsingleton.elim _ _
    show _ = ∑ r, entW m c b r
    unfold entW rs ms
    pointwise
    simp only [Finset.univ_unique, Finset.sum_singleton]
    exact Finset.sum_congr rfl fun r _ => mul_comm _ _

end Cert.Reference26Ideal.Val

end
-- ==== Proof.Dil.lean ====
/- The gradient of the dilated projections' input. -/
module

public import proofs.«01_k».proof.Defs
public import proofs.«01_k».proof.Proof.Prod
public import proofs.«01_k».proof.Proof.Gen.Kernel27.Frame
public import proofs.«01_k».proof.Proof.Gen.Kernel27Ideal.Value
public import proofs.«01_k».proof.Proof.Gen.Reference27Ideal.Run

@[expose] public section

set_option maxRecDepth 16384

noncomputable section

open Idealize.ShloMosaic TcCoe Tactic Idealize.SL.Sem Cert.Prod

namespace Cert.Kernel27Ideal.Val

open Gen

variable (m : (ℓ : Loc nD τ sig) → Buf (Elt Ideal) ℓ) (c : Dev nD)

abbrev xs : S16384x512.Idx → EReal := m (c, Proc.devRef .tc main_arg4)
abbrev ys : S16384x512.Idx → EReal := m (c, Proc.devRef .tc main_arg5)
abbrev zs : S16384x512.Idx → EReal := m (c, Proc.devRef .tc main_arg6)

theorem x_at (r : Fin 4) (p : Fin 4096) (l : Fin 512) : (V m c main_v15 : S4x4096x512.Idx → EReal) (ix3 r p l) = xs m c (ix2 ⟨4 * p.val + r.val, by omega⟩ l) := by
  unfold V
  after_reads_at
  exact congrArg (fun i => xs m c (ix2 i l)) (Fin.ext (by dsimp only; omega))

/-- A block of rows by residue. -/
abbrev X4 := Vec Ideal S4x256x512 .bf16
/-- A weight. -/
abbrev W := Vec Ideal S1024x512 .bf16
/-- A list of stores. -/
abbrev Ps := List (View.Piece (Elt Ideal) S4x1024x128 .f32)

/-- The rows of residue `r` in a lane chunk. -/
abbrev rr (r : ℕ) (hr : r < 4) : Rect S1024x128 :=
  { off := ![r, 0], size := ![256, 128], stride := ![4, 1], inb := by intro a; fin_cases a <;> simp [S1024x128] <;> omega, stride_pos := spos_4_1 }

/-- Lane chunk `q`. -/
abbrev ch (q : ℕ) (hq : q < 4) : Rect S4x1024x128 := Rect.unit ![q, 0, 0] ![1, 1024, 128] (by intro a; fin_cases a <;> simp [S4x1024x128] <;> omega)

/-- The columns of chunk `q`. -/
abbrev co (v : Vec Ideal S1x256x512 .bf16) (q : ℕ) (hq : q < 4) : FVec Ideal S256x128 .f32 :=
  shapeCast S256x128 (extractStridedSlice S256x128 ![0, 128 * q] (extf (F := Ideal) .f32 (shapeCast S256x512 v shapeCasts_S1x256x512_S256x512) bitsLt_bf16_f32)
    (by interval_cases q <;> decide)) shapeCasts_S256x128_S256x128

theorem co_at (v : Vec Ideal S1x256x512 .bf16) (q : ℕ) (hq : q < 4) (p : Fin 256) (l : Fin 128) :
    co v q hq (ix2 p l) = v (ix3 0 p ⟨128 * q + l.val, by omega⟩) := by
  interval_cases q <;> pointwise

/-- A residue's rows. -/
abbrev rw' (x : X4) (r : ℕ) (hr : r < 4) : Vec Ideal S1x256x512 .bf16 :=
  View.ld x (Rect.unit (s := S4x256x512) ![r, 0, 0] ![1, 256, 512] (by intro a; fin_cases a <;> simp [S4x256x512] <;> omega))

theorem rw'_at (x : X4) (r : ℕ) (hr : r < 4) (p : Fin 256) (l : Fin 512) : rw' x r hr (ix3 0 p l) = x (ix3 ⟨r, hr⟩ p l) := by
  refine congrArg x ?_
  funext i
  apply Fin.ext
  fin_cases i
  · show r + 1 * 0 = r; omega
  · show 0 + 1 * p.val = p.val; omega
  · show 0 + 1 * l.val = l.val; omega

/-- The store of residue `r`, lane chunk `q`. -/
def pc (x : X4) (r q : ℕ) (hr : r < 4) (hq : q < 4) : View.Piece (Elt Ideal) S4x1024x128 .f32 :=
  ⟨(ch q hq).within (Rect.consLift (rr r hr) ![1, 1024, 128] rfl (fun _ => rfl)) (fun _ => rfl),
    Rect.payAlong (Rect.numel_consLift (rr r hr) ![1, 1024, 128] rfl (fun _ => rfl)) (co (rw' x r hr) q hq)⟩

/-- A block as the scratch holds it. -/
def sq (x : X4) : S4x1024x128.Idx → EReal := fun i =>
  x (ix3 (⟨(i 1).val % 4, by omega⟩ : Fin 4) (⟨(i 1).val / 4, by have : (i 1).val < 1024 := (i 1).isLt; omega⟩ : Fin 256)
    (⟨128 * (i 0).val + (i 2).val, by have : (i 0).val < 4 := (i 0).isLt; have : (i 2).val < 128 := (i 2).isLt; omega⟩ : Fin 512))

theorem pc_at (x : X4) (r q : ℕ) (hr : r < 4) (hq : q < 4) (y : (pc x r q hr hq).1.shape.Idx) :
    (pc x r q hr hq).2 y = sq x ((pc x r q hr hq).1.emb y) := by
  have h0 : (y 0).val < 1 := (y 0).isLt
  have h1 : (y 1).val < 256 := (y 1).isLt
  have h2 : (y 2).val < 128 := (y 2).isLt
  refine (Rect.payAlong_consLift (rr r hr) ![1, 1024, 128] rfl (fun _ => rfl) (co (rw' x r hr) q hq) _ y (ix2 (⟨(y 1).val, h1⟩ : Fin 256) (⟨(y 2).val, h2⟩ : Fin 128)) (fun i => by fin_cases i <;> rfl)).trans ?_
  rw [co_at, rw'_at]
  have e0 : (((pc x r q hr hq).1.emb y) 0).val = q + 0 + 1 * (y 0).val := rfl
  have e1 : (((pc x r q hr hq).1.emb y) 1).val = 0 + r + 4 * (y 1).val := rfl
  have e2 : (((pc x r q hr hq).1.emb y) 2).val = 0 + 0 + 1 * (y 2).val := rfl
  refine congrArg x ?_
  funext i
  apply Fin.ext
  fin_cases i
  · show r = (((pc x r q hr hq).1.emb y) 1).val % 4
    omega
  · show (y 1).val = (((pc x r q hr hq).1.emb y) 1).val / 4
    omega
  · show 128 * q + (y 2).val = 128 * (((pc x r q hr hq).1.emb y) 0).val + (((pc x r q hr hq).1.emb y) 2).val
    omega

theorem mem_pc (x : X4) (y : S4x1024x128.Idx) :
    y ∈ (pc x ((y 1).val % 4) (y 0).val (by omega) (y 0).isLt).1.set := by
  have h1 : (y 1).val < 1024 := (y 1).isLt
  refine (LoadRect.mem_set _).mpr fun a => ?_
  fin_cases a
  · exact ⟨0, Nat.one_pos, show (y 0).val = (y 0).val + 0 + 1 * 0 by omega⟩
  · exact ⟨(y 1).val / 4, (by show (y 1).val / 4 < 256; omega), show (y 1).val = 0 + (y 1).val % 4 + 4 * ((y 1).val / 4) by omega⟩
  · exact ⟨(y 2).val, (y 2).isLt, show (y 2).val = 0 + 0 + 1 * (y 2).val by omega⟩

/-- The stores of a block. -/
def pcs (x : X4) : Ps :=
  [pc x 3 3 (by decide) (by decide), pc x 3 2 (by decide) (by decide), pc x 3 1 (by decide) (by decide), pc x 3 0 (by decide) (by decide), pc x 2 3 (by decide) (by decide), pc x 2 2 (by decide) (by decide), pc x 2 1 (by decide) (by decide), pc x 2 0 (by decide) (by decide), pc x 1 3 (by decide) (by decide), pc x 1 2 (by decide) (by decide), pc x 1 1 (by decide) (by decide), pc x 1 0 (by decide) (by decide), pc x 0 3 (by decide) (by decide), pc x 0 2 (by decide) (by decide), pc x 0 1 (by decide) (by decide), pc x 0 0 (by decide) (by decide)]

/-- The list's newest block is what the scratch holds. -/
theorem canon_at (x : X4) (M : Ps) (y : S4x1024x128.Idx) :
    View.canon (pcs x ++ M) y = sq x y := by
  have key : ∀ L : Ps, (∀ p ∈ L, ∀ j : p.1.shape.Idx, p.2 j = sq x (p.1.emb j)) →
      (∃ p ∈ L, y ∈ p.1.set) → View.canon (L ++ M) y = sq x y := fun L => by
    induction L with
    | nil => exact fun _ h => by obtain ⟨p, hp, _⟩ := h; simp at hp
    | cons p L ih =>
      intro hL hy
      by_cases hm : y ∈ p.1.set
      · obtain ⟨j, rfl⟩ := p.1.exists_idx_of_mem hm
        exact (View.canon_cons_emb p.1 p.2 _ j).trans (hL p (by simp) j)
      · refine (View.canon_cons_of_not_mem p _ hm).trans (ih (fun q hq => hL q (by simp [hq])) ?_)
        obtain ⟨q, hq, h⟩ := hy
        rcases List.mem_cons.mp hq with rfl | hq
        · exact absurd h hm
        · exact ⟨q, hq, h⟩
  refine key _ ?_ ?_
  · intro p hp
    simp only [pcs, List.mem_cons, List.not_mem_nil, or_false] at hp
    rcases hp with rfl | rfl | rfl | rfl | rfl | rfl | rfl | rfl | rfl | rfl | rfl | rfl | rfl | rfl | rfl | rfl <;> exact pc_at x _ _ _ _
  · refine ⟨_, ?_, mem_pc x y⟩
    have : ∀ r q (hr : r < 4) (hq : q < 4), pc x r q hr hq ∈ pcs x := fun r q hr hq => by
      interval_cases r <;> interval_cases q <;> simp only [pcs, List.mem_cons, true_or, or_true]
    exact this _ _ _ _

/-- A chunk read back. -/
def rd (L : Ps) (q : ℕ) (hq : q < 4) : FVec Ideal S1024x128 .f32 :=
  shapeCast S1024x128 ((View.whole cc0_scratch0).readCov L (ch q hq).toLoadRect : Vec Ideal S1x1024x128 .f32) shapeCasts_S1x1024x128_S1024x128

/-- The product of one gradient with its weight. -/
def pr (L : Ps) (w : W) : FVec Ideal S1024x1024 .f32 :=
  matmul (φ₂ := .bf16) dot_S1024x512_S1024x512_S1024x1024_1_1_0_0_n_n none
    (truncf (F := Ideal) .bf16 (concatenate S1024x512 1 [⟨S1024x128, rd L 0 (by decide)⟩, ⟨S1024x128, rd L 1 (by decide)⟩, ⟨S1024x128, rd L 2 (by decide)⟩, ⟨S1024x128, rd L 3 (by decide)⟩]
      concatenates_S1024x128_S1024x128_S1024x128_S1024x128_S1024x512_d1) bitsLt_bf16_f32)
    (shapeCast (α := EReal) S1024x512 w shapeCasts_S1024x512_S1024x512) (constant S1024x1024 .f32 0x00000000#32)

theorem sc_at (v : Vec Ideal S1x1024x128 .f32) (a : Fin 1024) (l : Fin 128) :
    (shapeCast S1024x128 v shapeCasts_S1x1024x128_S1024x128 : FVec Ideal S1024x128 .f32) (ix2 a l) = v (ix3 0 a l) := by
  pointwise

theorem rd_at (x : X4) (M : Ps) (q : ℕ) (hq : q < 4) (a : Fin 1024) (l : Fin 128) :
    rd (pcs x ++ M) q hq (ix2 a l) = x (ix3 ⟨a.val % 4, by omega⟩ ⟨a.val / 4, by omega⟩ ⟨128 * q + l.val, by omega⟩) := by
  refine (sc_at _ a l).trans ((congrFun (View.readCov_eq_canon' _ (pcs x ++ M) (ch q hq).toLoadRect) (ix3 0 a l)).trans ((canon_at x M _).trans (congrArg x ?_)))
  funext i
  apply Fin.ext
  fin_cases i
  · show (0 + 1 * a.val) % 4 = a.val % 4; omega
  · show (0 + 1 * a.val) / 4 = a.val / 4; omega
  · show 128 * (q + 1 * 0) + (0 + 1 * l.val) = 128 * q + l.val; omega

theorem pr_at (x : X4) (M : Ps) (w : W) (a b : Fin 1024) :
    pr (pcs x ++ M) w (ix2 a b) = ∑ l : Fin 512, x (ix3 ⟨a.val % 4, by omega⟩ ⟨a.val / 4, by omega⟩ l) * w (ix2 b l) := by
  have h0 := rd_at x M 0 (by decide) a
  have h1 := rd_at x M 1 (by decide) a
  have h2 := rd_at x M 2 (by decide) a
  have h3 := rd_at x M 3 (by decide) a
  unfold pr
  generalize rd (pcs x ++ M) 0 _ = v0 at *
  generalize rd (pcs x ++ M) 1 _ = v1 at *
  generalize rd (pcs x ++ M) 2 _ = v2 at *
  generalize rd (pcs x ++ M) 3 _ = v3 at *
  pointwise
  refine Finset.sum_congr rfl fun l _ => congrArg (· * _) ?_
  have := l.isLt
  repeat' split
  all_goals first
    | exact (h0 _).trans (congrArg (fun k => x (ix3 _ _ k)) (Fin.ext (by dsimp only; omega)))
    | exact (h1 _).trans (congrArg (fun k => x (ix3 _ _ k)) (Fin.ext (by dsimp only; omega)))
    | exact (h2 _).trans (congrArg (fun k => x (ix3 _ _ k)) (Fin.ext (by dsimp only; omega)))
    | exact (h3 _).trans (congrArg (fun k => x (ix3 _ _ k)) (Fin.ext (by dsimp only; omega)))

/-- A point's entry over its blocks. -/
def pv (x y z : X4) (u v w : W) (g : Vec Ideal S1024x1024 .f32) (a b : Fin 1024) : EReal :=
  g (ix2 a b) + (∑ l : Fin 512, x (ix3 ⟨a.val % 4, by omega⟩ ⟨a.val / 4, by omega⟩ l) * u (ix2 b l))
    + (∑ l : Fin 512, y (ix3 ⟨a.val % 4, by omega⟩ ⟨a.val / 4, by omega⟩ l) * v (ix2 b l))
    + ∑ l : Fin 512, z (ix3 ⟨a.val % 4, by omega⟩ ⟨a.val / 4, by omega⟩ l) * w (ix2 b l)

theorem pv_eq (x y z : X4) (u v w : W) (g : Vec Ideal S1024x1024 .f32) (a b : Fin 1024) :
    (addf (addf (addf g (pr (pcs x ++ []) u)) (pr (pcs y ++ pcs x) v)) (pr (pcs z ++ (pcs y ++ pcs x)) w) : FVec Ideal S1024x1024 .f32) (ix2 a b)
      = pv x y z u v w g a b :=
  congrArg₂ (· + ·) (congrArg₂ (· + ·) (congrArg (g (ix2 a b) + ·) (pr_at x [] u a b)) (pr_at y (pcs x) v a b)) (pr_at z (pcs y ++ pcs x) w a b)

theorem at_pt (t : Fin cfg0.N) (a b : Fin 1024) : outsAt0 m c t (ix2 a b)
    = pv (iblk m c 0 t) (iblk m c 1 t) (iblk m c 2 t) (iblk m c 3 t) (iblk m c 4 t) (iblk m c 5 t) (iblk m c 6 t) a b := by
  unfold outsAt0 out0_A_7
  frame_out
  exact pv_eq _ _ _ _ _ _ _ a b

abbrev us : S1024x512.Idx → EReal := m (c, Proc.devRef .tc main_arg1)
abbrev vs : S1024x512.Idx → EReal := m (c, Proc.devRef .tc main_arg2)
abbrev ws : S1024x512.Idx → EReal := m (c, Proc.devRef .tc main_arg3)
abbrev gs : S16384x1024.Idx → EReal := m (c, Proc.devRef .tc main_arg7)

theorem y_at (r : Fin 4) (p : Fin 4096) (l : Fin 512) : (V m c main_v16 : S4x4096x512.Idx → EReal) (ix3 r p l) = ys m c (ix2 ⟨4 * p.val + r.val, by omega⟩ l) := by
  unfold V
  after_reads_at
  exact congrArg (fun i => ys m c (ix2 i l)) (Fin.ext (by dsimp only; omega))

theorem z_at (r : Fin 4) (p : Fin 4096) (l : Fin 512) : (V m c main_v17 : S4x4096x512.Idx → EReal) (ix3 r p l) = zs m c (ix2 ⟨4 * p.val + r.val, by omega⟩ l) := by
  unfold V
  after_reads_at
  exact congrArg (fun i => zs m c (ix2 i l)) (Fin.ext (by dsimp only; omega))

theorem u_at (r : Fin 1024) (l : Fin 512) : (V m c main_v12 : S1024x512.Idx → EReal) (ix2 r l) = us m c (ix2 r l) := by
  unfold V
  after_reads_at

theorem v_at (r : Fin 1024) (l : Fin 512) : (V m c main_v13 : S1024x512.Idx → EReal) (ix2 r l) = vs m c (ix2 r l) := by
  unfold V
  after_reads_at

theorem w_at (r : Fin 1024) (l : Fin 512) : (V m c main_v14 : S1024x512.Idx → EReal) (ix2 r l) = ws m c (ix2 r l) := by
  unfold V
  after_reads_at

theorem g_at (b : Fin 1024) (k : Fin 16384) : (V m c main_arg7 : S16384x1024.Idx → EReal) (ix2 k b) = gs m c (ix2 k b) := by
  unfold V
  after_reads_at

theorem eX : ∀ t : Fin grid0.N, win0_0.index t = ![0, t.val, 0] ∧ win0_1.index t = ![0, t.val, 0] ∧ win0_2.index t = ![0, t.val, 0] := by decide +kernel
theorem eW : ∀ t : Fin grid0.N, win0_3.index t = ![0, 0] ∧ win0_4.index t = ![0, 0] ∧ win0_5.index t = ![0, 0] := by decide +kernel
theorem eG : ∀ t : Fin grid0.N, win0_6.index t = ![t.val, 0] ∧ win0_7.index t = ![t.val, 0] := by decide +kernel

/-- The array the run leaves. -/
def out : S16384x1024.Idx → EReal := fun i => gs m c i + (∑ l, xs m c (ix2 (i 0) l) * us m c (ix2 (i 1) l))
  + (∑ l, ys m c (ix2 (i 0) l) * vs m c (ix2 (i 1) l)) + ∑ l, zs m c (ix2 (i 0) l) * ws m c (ix2 (i 1) l)

theorem rx (t : Fin cfg0.N) (A : S4x4096x512.Idx → EReal) (r : Fin 4) (p : Fin 256) (l : Fin 512) (h : 256 * t.val + p.val < 4096) :
    ((cfg0.win 0).blk t).view.read (Elt Ideal) A (ix3 r p l) = A (ix3 r ⟨256 * t.val + p.val, h⟩ l) := by
  blk_simp
  congr 1
  blk_ext [eX]

theorem ry (t : Fin cfg0.N) (A : S4x4096x512.Idx → EReal) (r : Fin 4) (p : Fin 256) (l : Fin 512) (h : 256 * t.val + p.val < 4096) :
    ((cfg0.win 1).blk t).view.read (Elt Ideal) A (ix3 r p l) = A (ix3 r ⟨256 * t.val + p.val, h⟩ l) := by
  blk_simp
  congr 1
  blk_ext [eX]

theorem rz (t : Fin cfg0.N) (A : S4x4096x512.Idx → EReal) (r : Fin 4) (p : Fin 256) (l : Fin 512) (h : 256 * t.val + p.val < 4096) :
    ((cfg0.win 2).blk t).view.read (Elt Ideal) A (ix3 r p l) = A (ix3 r ⟨256 * t.val + p.val, h⟩ l) := by
  blk_simp
  congr 1
  blk_ext [eX]

theorem ru (t : Fin cfg0.N) (A : S1024x512.Idx → EReal) (b : Fin 1024) (l : Fin 512) : ((cfg0.win 3).blk t).view.read (Elt Ideal) A (ix2 b l) = A (ix2 b l) := by
  blk_simp
  congr 1
  blk_ext [eW]

theorem rv (t : Fin cfg0.N) (A : S1024x512.Idx → EReal) (b : Fin 1024) (l : Fin 512) : ((cfg0.win 4).blk t).view.read (Elt Ideal) A (ix2 b l) = A (ix2 b l) := by
  blk_simp
  congr 1
  blk_ext [eW]

theorem rt (t : Fin cfg0.N) (A : S1024x512.Idx → EReal) (b : Fin 1024) (l : Fin 512) : ((cfg0.win 5).blk t).view.read (Elt Ideal) A (ix2 b l) = A (ix2 b l) := by
  blk_simp
  congr 1
  blk_ext [eW]

theorem rg (t : Fin cfg0.N) (A : S16384x1024.Idx → EReal) (a b : Fin 1024) (h : 1024 * t.val + a.val < 16384) :
    ((cfg0.win 6).blk t).view.read (Elt Ideal) A (ix2 a b) = A (ix2 ⟨1024 * t.val + a.val, h⟩ b) := by
  blk_simp
  congr 1
  blk_ext [eG]

/-- An entry of a point's block. -/
theorem entry (t : Fin cfg0.N) (a b : Fin 1024) (h : 1024 * t.val + a.val < 16384) : outsAt0 m c t (ix2 a b) = out m c (ix2 ⟨1024 * t.val + a.val, h⟩ b) := by
  have hp : 256 * t.val + a.val / 4 < 4096 := by omega
  have tok : ∀ (A : S16384x512.Idx → EReal) (l : Fin 512), A (ix2 ⟨4 * (256 * t.val + a.val / 4) + a.val % 4, by omega⟩ l) = A (ix2 ⟨1024 * t.val + a.val, h⟩ l) :=
    fun A l => congrArg (fun k => A (ix2 k l)) (Fin.ext (by dsimp only; omega))
  refine (at_pt m c t a b).trans ?_
  refine congrArg₂ (· + ·) (congrArg₂ (· + ·) (congrArg₂ (· + ·) ((rg t (V m c main_arg7) a b h).trans (g_at m c b _))
    (Finset.sum_congr rfl fun l _ => congrArg₂ (· * ·) ((rx t (V m c main_v15) _ _ l hp).trans ((x_at m c _ _ l).trans (tok _ l))) ((ru t (V m c main_v12) b l).trans (u_at m c b l))))
    (Finset.sum_congr rfl fun l _ => congrArg₂ (· * ·) ((ry t (V m c main_v16) _ _ l hp).trans ((y_at m c _ _ l).trans (tok _ l))) ((rv t (V m c main_v13) b l).trans (v_at m c b l))))
    (Finset.sum_congr rfl fun l _ => congrArg₂ (· * ·) ((rz t (V m c main_v17) _ _ l hp).trans ((z_at m c _ _ l).trans (tok _ l))) ((rt t (V m c main_v14) b l).trans (w_at m c b l)))

theorem arr : (dats m 0 c).arrAt 7 cfg0.N = out m c := by
  refine (dats m 0 c).arrAt_eq_of_covers 7 _ (by decide +kernel) fun t hf y => ?_
  have hN : t.val < 16 := lt_of_lt_of_eq t.isLt N_0
  blk_simp
  rw [after0_7]
  obtain ⟨a, b, rfl⟩ := pair (y : S1024x1024.Idx)
  have hi : ((View.whole main_v18).slice (win0_7.rect t)).emb (ix2 a b) = ix2 (⟨1024 * t.val + a.val, by omega⟩ : Fin 16384) b := by
    blk_ext [eG]
  rw [hi]
  exact entry m c t a b _

end Cert.Kernel27Ideal.Val

namespace Cert.Reference27Ideal.Val

open Cert.Kernel27Ideal.Val (out arr)

theorem values : @Cert.algebraic_Kernel27Ideal_Reference27Ideal Cert.Kernel27Ideal.Gen.facts Cert.Reference27Ideal.Gen.facts := by
  intro m ρ m' ρ' _ he
  refine ⟨fun c => out m c, (θ_run _ _ _).mono (fun r h c => ⟨(h c).1.trans (arr m c), (h c).2⟩) (Cert.Kernel27Ideal.Value.run_blocks m ρ), ?_⟩
  refine (θ_run _ _ _).mono (fun r h c => ?_) (Cert.Reference27Ideal.Value.run (F := Ideal) m' ρ')
  obtain ⟨h0, hrest⟩ := h c
  refine ⟨h0.trans ?_, hrest⟩
  obtain ⟨-, a1, a2, a3, a4, a5, a6, a7⟩ := he c
  rw [a1, a2, a3, a4, a5, a6, a7]
  show _ = out m c
  funext i
  obtain ⟨a, b, rfl⟩ := pair i
  refine Eq.trans (b := Cert.Kernel27Ideal.Val.gs m c (ix2 a b) + ((∑ l, Cert.Kernel27Ideal.Val.zs m c (ix2 a l) * Cert.Kernel27Ideal.Val.ws m c (ix2 b l))
    + (∑ l, Cert.Kernel27Ideal.Val.ys m c (ix2 a l) * Cert.Kernel27Ideal.Val.vs m c (ix2 b l)) + ∑ l, Cert.Kernel27Ideal.Val.xs m c (ix2 a l) * Cert.Kernel27Ideal.Val.us m c (ix2 b l))) ?_ ?_
  · pointwise
  · unfold out
    have ac : ∀ p q r s : EReal, p + ((s + r) + q) = p + q + r + s := fun p q r s => by ac_rfl
    exact ac _ _ _ _

end Cert.Reference27Ideal.Val
-- ==== Proof.lean ====
/- The proof of the certificate's claims. The frames are the runs of the launch; the value claim joins the arrays the
   kernel's run leaves with the reference's, both being the gradient's reals at every index. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Join
public import proofs.«01_k».proof.Proof.FrameK
public import proofs.«01_k».proof.Proof.Two
public import proofs.«01_k».proof.Proof.Three
public import proofs.«01_k».proof.Proof.Ffn
public import proofs.«01_k».proof.Proof.ProdA
public import proofs.«01_k».proof.Proof.ProdB
public import proofs.«01_k».proof.Proof.SumA
public import proofs.«01_k».proof.Proof.SumB
public import proofs.«01_k».proof.Proof.Adam
public import proofs.«01_k».proof.Proof.Gate
public import proofs.«01_k».proof.Proof.Norm
public import proofs.«01_k».proof.Proof.Dil
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem claim : Cert.Claim := ⟨Kernel2.Gen.facts, Kernel2Ideal.Gen.facts, Reference2Ideal.Gen.facts,
  Kernel3.Gen.facts, Kernel3Ideal.Gen.facts, Reference3Ideal.Gen.facts,
  Kernel4.Gen.facts, Kernel4Ideal.Gen.facts, Reference4Ideal.Gen.facts,
  Kernel5.Gen.facts, Kernel5Ideal.Gen.facts, Reference5Ideal.Gen.facts,
  Kernel6.Gen.facts, Kernel6Ideal.Gen.facts, Reference6Ideal.Gen.facts,
  Kernel7.Gen.facts, Kernel7Ideal.Gen.facts, Reference7Ideal.Gen.facts,
  Kernel8.Gen.facts, Kernel8Ideal.Gen.facts, Reference8Ideal.Gen.facts,
  Kernel9.Gen.facts, Kernel9Ideal.Gen.facts, Reference9Ideal.Gen.facts,
  Kernel10.Gen.facts, Kernel10Ideal.Gen.facts, Reference10Ideal.Gen.facts,
  Kernel11.Gen.facts, Kernel11Ideal.Gen.facts, Reference11Ideal.Gen.facts,
  Kernel12.Gen.facts, Kernel12Ideal.Gen.facts, Reference12Ideal.Gen.facts,
  Kernel13.Gen.facts, Kernel13Ideal.Gen.facts, Reference13Ideal.Gen.facts,
  Kernel14.Gen.facts, Kernel14Ideal.Gen.facts, Reference14Ideal.Gen.facts,
  Kernel15.Gen.facts, Kernel15Ideal.Gen.facts, Reference15Ideal.Gen.facts,
  Kernel16.Gen.facts, Kernel16Ideal.Gen.facts, Reference16Ideal.Gen.facts,
  Kernel17.Gen.facts, Kernel17Ideal.Gen.facts, Reference17Ideal.Gen.facts,
  Kernel18.Gen.facts, Kernel18Ideal.Gen.facts, Reference18Ideal.Gen.facts,
  Kernel19.Gen.facts, Kernel19Ideal.Gen.facts, Reference19Ideal.Gen.facts,
  Kernel20.Gen.facts, Kernel20Ideal.Gen.facts, Reference20Ideal.Gen.facts,
  Kernel21.Gen.facts, Kernel21Ideal.Gen.facts, Reference21Ideal.Gen.facts,
  Kernel22.Gen.facts, Kernel22Ideal.Gen.facts, Reference22Ideal.Gen.facts,
  Kernel23.Gen.facts, Kernel23Ideal.Gen.facts, Reference23Ideal.Gen.facts,
  Kernel24.Gen.facts, Kernel24Ideal.Gen.facts, Reference24Ideal.Gen.facts,
  Kernel25.Gen.facts, Kernel25Ideal.Gen.facts, Reference25Ideal.Gen.facts,
  Kernel26.Gen.facts, Kernel26Ideal.Gen.facts, Reference26Ideal.Gen.facts,
  Kernel27.Gen.facts, Kernel27Ideal.Gen.facts, Reference27Ideal.Gen.facts,
  Kernel30.Gen.facts, Kernel30Ideal.Gen.facts, Reference30Ideal.Gen.facts,
  Kernel31.Gen.facts, Kernel31Ideal.Gen.facts, Reference31Ideal.Gen.facts,
  Kernel32.Gen.facts, Kernel32Ideal.Gen.facts, Reference32Ideal.Gen.facts,
  Kernel33.Gen.facts, Kernel33Ideal.Gen.facts, Reference33Ideal.Gen.facts,
  Kernel34.Gen.facts, Kernel34Ideal.Gen.facts, Reference34Ideal.Gen.facts,
  Kernel35.Gen.facts, Kernel35Ideal.Gen.facts, Reference35Ideal.Gen.facts,
  Kernel36.Gen.facts, Kernel36Ideal.Gen.facts, Reference36Ideal.Gen.facts,
  Kernel37.Gen.facts, Kernel37Ideal.Gen.facts, Reference37Ideal.Gen.facts,
  Kernel38.Gen.facts, Kernel38Ideal.Gen.facts, Reference38Ideal.Gen.facts,
  Kernel39.Gen.facts, Kernel39Ideal.Gen.facts, Reference39Ideal.Gen.facts,
  Kernel40.Gen.facts, Kernel40Ideal.Gen.facts, Reference40Ideal.Gen.facts,
  Kernel41.Gen.facts, Kernel41Ideal.Gen.facts, Reference41Ideal.Gen.facts,
  Kernel42.Gen.facts, Kernel42Ideal.Gen.facts, Reference42Ideal.Gen.facts,
  Cert.Kernel.Gen.facts, Cert.KernelIdeal.Gen.facts, Cert.ReferenceIdeal.Gen.facts, Cert.Pre_finite2.Gen.facts, Cert.Pre_finite.Gen.facts,
  fun m ρ _ => Kernel2.Gen.frame m ρ,
  fun m ρ _ => Kernel2Ideal.Gen.frame m ρ,
  fun m ρ _ => Kernel2Ideal.Gen.frame m ρ,
  fun m ρ _ => (θ_run Reference2Ideal.defs _ _).mono
    (fun r h => ⟨fun c => (h c).2, sem_eq_zero_of_no_sems (by decide) r.2⟩)
    (Reference2Ideal.Value.run m ρ),
  fun m ρ _ => (θ_run Reference2Ideal.defs _ _).mono
    (fun r h => ⟨fun c => (h c).2, sem_eq_zero_of_no_sems (by decide) r.2⟩)
    (Reference2Ideal.Value.run m ρ),
  fun m ρ _ => Kernel3.Gen.frame m ρ,
  fun m ρ _ => Kernel3Ideal.Gen.frame m ρ,
  fun m ρ _ => (θ_run Reference3Ideal.defs _ _).mono
    (fun r h => ⟨fun c => (h c).2, sem_eq_zero_of_no_sems (by decide) r.2⟩)
    (Reference3Ideal.Value.run m ρ),
  fun m ρ _ => Kernel4.Gen.frame m ρ,
  fun m ρ _ => Kernel4Ideal.Gen.frame m ρ,
  fun m ρ _ => (θ_run Reference4Ideal.defs _ _).mono
    (fun r h => ⟨fun c => (h c).2, sem_eq_zero_of_no_sems (by decide) r.2⟩)
    (Reference4Ideal.Value.run m ρ),
  fun m ρ _ => Kernel5.Gen.frame m ρ,
  fun m ρ _ => Kernel5Ideal.Gen.frame m ρ,
  fun m ρ _ => (θ_run Reference5Ideal.defs _ _).mono
    (fun r h => ⟨fun c => (h c).2.2, sem_eq_zero_of_no_sems (by decide) r.2⟩)
    (Reference5Ideal.Value.run m ρ),
  fun m ρ _ => Kernel6.Gen.frame m ρ,
  fun m ρ _ => Kernel6Ideal.Gen.frame m ρ,
  fun m ρ _ => (θ_run Reference6Ideal.defs _ _).mono
    (fun r h => ⟨fun c => (h c).2, sem_eq_zero_of_no_sems (by decide) r.2⟩)
    (Reference6Ideal.Value.run m ρ),
  fun m ρ _ => Kernel7.Gen.frame m ρ,
  fun m ρ _ => Kernel7Ideal.Gen.frame m ρ,
  fun m ρ _ => (θ_run Reference7Ideal.defs _ _).mono
    (fun r h => ⟨fun c => (h c).2, sem_eq_zero_of_no_sems (by decide) r.2⟩)
    (Reference7Ideal.Value.run m ρ),
  fun m ρ _ => Kernel8.Gen.frame m ρ,
  fun m ρ _ => Kernel8Ideal.Gen.frame m ρ,
  fun m ρ _ => (θ_run Reference8Ideal.defs _ _).mono
    (fun r h => ⟨fun c => (h c).2, sem_eq_zero_of_no_sems (by decide) r.2⟩)
    (Reference8Ideal.Value.run m ρ),
  fun m ρ _ => Kernel9.Gen.frame m ρ,
  fun m ρ _ => Kernel9Ideal.Gen.frame m ρ,
  fun m ρ _ => (θ_run Reference9Ideal.defs _ _).mono
    (fun r h => ⟨fun c => (h c).2, sem_eq_zero_of_no_sems (by decide) r.2⟩)
    (Reference9Ideal.Value.run m ρ),
  fun m ρ _ => Kernel10.Gen.frame m ρ,
  fun m ρ _ => Kernel10Ideal.Gen.frame m ρ,
  fun m ρ _ => (θ_run Reference10Ideal.defs _ _).mono
    (fun r h => ⟨fun c => (h c).2, sem_eq_zero_of_no_sems (by decide) r.2⟩)
    (Reference10Ideal.Value.run m ρ),
  fun m ρ _ => Kernel11.Gen.frame m ρ,
  fun m ρ _ => Kernel11Ideal.Gen.frame m ρ,
  fun m ρ _ => (θ_run Reference11Ideal.defs _ _).mono
    (fun r h => ⟨fun c => (h c).2, sem_eq_zero_of_no_sems (by decide) r.2⟩)
    (Reference11Ideal.Value.run m ρ),
  fun m ρ _ => Kernel12.Gen.frame m ρ,
  fun m ρ _ => Kernel12Ideal.Gen.frame m ρ,
  fun m ρ _ => (θ_run Reference12Ideal.defs _ _).mono
    (fun r h => ⟨fun c => (h c).2, sem_eq_zero_of_no_sems (by decide) r.2⟩)
    (Reference12Ideal.Value.run m ρ),
  fun m ρ _ => Kernel13.Gen.frame m ρ,
  fun m ρ _ => Kernel13Ideal.Gen.frame m ρ,
  fun m ρ _ => (θ_run Reference13Ideal.defs _ _).mono
    (fun r h => ⟨fun c => (h c).2, sem_eq_zero_of_no_sems (by decide) r.2⟩)
    (Reference13Ideal.Value.run m ρ),
  fun m ρ _ => Kernel14.Gen.frame m ρ,
  fun m ρ _ => Kernel14Ideal.Gen.frame m ρ,
  fun m ρ _ => (θ_run Reference14Ideal.defs _ _).mono
    (fun r h => ⟨fun c => (h c).2, sem_eq_zero_of_no_sems (by decide) r.2⟩)
    (Reference14Ideal.Value.run m ρ),
  fun m ρ _ => Kernel15.Gen.frame m ρ,
  fun m ρ _ => Kernel15Ideal.Gen.frame m ρ,
  fun m ρ _ => (θ_run Reference15Ideal.defs _ _).mono
    (fun r h => ⟨fun c => (h c).2, sem_eq_zero_of_no_sems (by decide) r.2⟩)
    (Reference15Ideal.Value.run m ρ),
  fun m ρ _ => Kernel16.Gen.frame m ρ,
  fun m ρ _ => Kernel16Ideal.Gen.frame m ρ,
  fun m ρ _ => (θ_run Reference16Ideal.defs _ _).mono
    (fun r h => ⟨fun c => (h c).2, sem_eq_zero_of_no_sems (by decide) r.2⟩)
    (Reference16Ideal.Value.run m ρ),
  fun m ρ _ => Kernel17.Gen.frame m ρ,
  fun m ρ _ => Kernel17Ideal.Gen.frame m ρ,
  fun m ρ _ => (θ_run Reference17Ideal.defs _ _).mono
    (fun r h => ⟨fun c => (h c).2, sem_eq_zero_of_no_sems (by decide) r.2⟩)
    (Reference17Ideal.Value.run m ρ),
  fun m ρ _ => Kernel18.Gen.frame m ρ,
  fun m ρ _ => Kernel18Ideal.Gen.frame m ρ,
  fun m ρ _ => (θ_run Reference18Ideal.defs _ _).mono
    (fun r h => ⟨fun c => (h c).2, sem_eq_zero_of_no_sems (by decide) r.2⟩)
    (Reference18Ideal.Value.run m ρ),
  fun m ρ _ => Kernel19.Gen.frame m ρ,
  fun m ρ _ => Kernel19Ideal.Gen.frame m ρ,
  fun m ρ _ => (θ_run Reference19Ideal.defs _ _).mono
    (fun r h => ⟨fun c => (h c).2, sem_eq_zero_of_no_sems (by decide) r.2⟩)
    (Reference19Ideal.Value.run m ρ),
  fun m ρ _ => Kernel20.Gen.frame m ρ,
  fun m ρ _ => Kernel20Ideal.Gen.frame m ρ,
  fun m ρ _ => (θ_run Reference20Ideal.defs _ _).mono
    (fun r h => ⟨fun c => (h c).2, sem_eq_zero_of_no_sems (by decide) r.2⟩)
    (Reference20Ideal.Value.run m ρ),
  fun m ρ _ => Kernel21.Gen.frame m ρ,
  fun m ρ _ => Kernel21Ideal.Gen.frame m ρ,
  fun m ρ _ => (θ_run Reference21Ideal.defs _ _).mono
    (fun r h => ⟨fun c => (h c).2, sem_eq_zero_of_no_sems (by decide) r.2⟩)
    (Reference21Ideal.Value.run m ρ),
  fun m ρ _ => Kernel22.Gen.frame m ρ,
  fun m ρ _ => Kernel22Ideal.Gen.frame m ρ,
  fun m ρ _ => (θ_run Reference22Ideal.defs _ _).mono
    (fun r h => ⟨fun c => (h c).2, sem_eq_zero_of_no_sems (by decide) r.2⟩)
    (Reference22Ideal.Value.run m ρ),
  fun m ρ _ => Kernel23.Gen.frame m ρ,
  fun m ρ _ => Kernel23Ideal.Gen.frame m ρ,
  fun m ρ _ => (θ_run Reference23Ideal.defs _ _).mono
    (fun r h => ⟨fun c => (h c).2.2.2, sem_eq_zero_of_no_sems (by decide) r.2⟩)
    (Reference23Ideal.Value.run m ρ),
  fun m ρ _ => Kernel24.Gen.frame m ρ,
  fun m ρ _ => Kernel24Ideal.Gen.frame m ρ,
  fun m ρ _ => (θ_run Reference24Ideal.defs _ _).mono
    (fun r h => ⟨fun c => (h c).2.2, sem_eq_zero_of_no_sems (by decide) r.2⟩)
    (Reference24Ideal.Value.run m ρ),
  fun m ρ _ => Kernel25.Gen.frame m ρ,
  fun m ρ _ => Kernel25Ideal.Gen.frame m ρ,
  fun m ρ _ => (θ_run Reference25Ideal.defs _ _).mono
    (fun r h => ⟨fun c => (h c).2, sem_eq_zero_of_no_sems (by decide) r.2⟩)
    (Reference25Ideal.Value.run m ρ),
  fun m ρ _ => Kernel26.Gen.frame m ρ,
  fun m ρ _ => Kernel26Ideal.Gen.frame m ρ,
  fun m ρ _ => (θ_run Reference26Ideal.defs _ _).mono
    (fun r h => ⟨fun c => (h c).2.2, sem_eq_zero_of_no_sems (by decide) r.2⟩)
    (Reference26Ideal.Value.run m ρ),
  fun m ρ _ => Kernel27.Gen.frame m ρ,
  fun m ρ _ => Kernel27Ideal.Gen.frame m ρ,
  fun m ρ _ => (θ_run Reference27Ideal.defs _ _).mono
    (fun r h => ⟨fun c => (h c).2, sem_eq_zero_of_no_sems (by decide) r.2⟩)
    (Reference27Ideal.Value.run m ρ),
  fun m ρ _ => Kernel30.Gen.frame m ρ,
  fun m ρ _ => Kernel30Ideal.Gen.frame m ρ,
  fun m ρ _ => (θ_run Reference30Ideal.defs _ _).mono
    (fun r h => ⟨fun c => (h c).2.2.2, sem_eq_zero_of_no_sems (by decide) r.2⟩)
    (Reference30Ideal.Value.run m ρ),
  fun m ρ _ => Kernel31.Gen.frame m ρ,
  fun m ρ _ => Kernel31Ideal.Gen.frame m ρ,
  fun m ρ _ => (θ_run Reference31Ideal.defs _ _).mono
    (fun r h => ⟨fun c => (h c).2.2.2, sem_eq_zero_of_no_sems (by decide) r.2⟩)
    (Reference31Ideal.Value.run m ρ),
  fun m ρ _ => Kernel32.Gen.frame m ρ,
  fun m ρ _ => Kernel32Ideal.Gen.frame m ρ,
  fun m ρ _ => (θ_run Reference32Ideal.defs _ _).mono
    (fun r h => ⟨fun c => (h c).2.2.2, sem_eq_zero_of_no_sems (by decide) r.2⟩)
    (Reference32Ideal.Value.run m ρ),
  fun m ρ _ => Kernel33.Gen.frame m ρ,
  fun m ρ _ => Kernel33Ideal.Gen.frame m ρ,
  fun m ρ _ => (θ_run Reference33Ideal.defs _ _).mono
    (fun r h => ⟨fun c => (h c).2.2.2, sem_eq_zero_of_no_sems (by decide) r.2⟩)
    (Reference33Ideal.Value.run m ρ),
  fun m ρ _ => Kernel34.Gen.frame m ρ,
  fun m ρ _ => Kernel34Ideal.Gen.frame m ρ,
  fun m ρ _ => (θ_run Reference34Ideal.defs _ _).mono
    (fun r h => ⟨fun c => (h c).2.2.2, sem_eq_zero_of_no_sems (by decide) r.2⟩)
    (Reference34Ideal.Value.run m ρ),
  fun m ρ _ => Kernel35.Gen.frame m ρ,
  fun m ρ _ => Kernel35Ideal.Gen.frame m ρ,
  fun m ρ _ => (θ_run Reference35Ideal.defs _ _).mono
    (fun r h => ⟨fun c => (h c).2.2.2, sem_eq_zero_of_no_sems (by decide) r.2⟩)
    (Reference35Ideal.Value.run m ρ),
  fun m ρ _ => Kernel36.Gen.frame m ρ,
  fun m ρ _ => Kernel36Ideal.Gen.frame m ρ,
  fun m ρ _ => (θ_run Reference36Ideal.defs _ _).mono
    (fun r h => ⟨fun c => (h c).2.2.2, sem_eq_zero_of_no_sems (by decide) r.2⟩)
    (Reference36Ideal.Value.run m ρ),
  fun m ρ _ => Kernel37.Gen.frame m ρ,
  fun m ρ _ => Kernel37Ideal.Gen.frame m ρ,
  fun m ρ _ => (θ_run Reference37Ideal.defs _ _).mono
    (fun r h => ⟨fun c => (h c).2.2.2, sem_eq_zero_of_no_sems (by decide) r.2⟩)
    (Reference37Ideal.Value.run m ρ),
  fun m ρ _ => Kernel38.Gen.frame m ρ,
  fun m ρ _ => Kernel38Ideal.Gen.frame m ρ,
  fun m ρ _ => (θ_run Reference38Ideal.defs _ _).mono
    (fun r h => ⟨fun c => (h c).2.2.2, sem_eq_zero_of_no_sems (by decide) r.2⟩)
    (Reference38Ideal.Value.run m ρ),
  fun m ρ _ => Kernel39.Gen.frame m ρ,
  fun m ρ _ => Kernel39Ideal.Gen.frame m ρ,
  fun m ρ _ => (θ_run Reference39Ideal.defs _ _).mono
    (fun r h => ⟨fun c => (h c).2.2.2, sem_eq_zero_of_no_sems (by decide) r.2⟩)
    (Reference39Ideal.Value.run m ρ),
  fun m ρ _ => Kernel40.Gen.frame m ρ,
  fun m ρ _ => Kernel40Ideal.Gen.frame m ρ,
  fun m ρ _ => (θ_run Reference40Ideal.defs _ _).mono
    (fun r h => ⟨fun c => (h c).2.2.2, sem_eq_zero_of_no_sems (by decide) r.2⟩)
    (Reference40Ideal.Value.run m ρ),
  fun m ρ _ => Kernel41.Gen.frame m ρ,
  fun m ρ _ => Kernel41Ideal.Gen.frame m ρ,
  fun m ρ _ => (θ_run Reference41Ideal.defs _ _).mono
    (fun r h => ⟨fun c => (h c).2.2.2, sem_eq_zero_of_no_sems (by decide) r.2⟩)
    (Reference41Ideal.Value.run m ρ),
  fun m ρ _ => Kernel42.Gen.frame m ρ,
  fun m ρ _ => Kernel42Ideal.Gen.frame m ρ,
  fun m ρ _ => (θ_run Reference42Ideal.defs _ _).mono
    (fun r h => ⟨fun c => (h c).2.2.2, sem_eq_zero_of_no_sems (by decide) r.2⟩)
    (Reference42Ideal.Value.run m ρ),
  fun m ρ _ => Cert.Kernel.Run.frame m ρ,
  fun m ρ _ => Cert.KernelIdeal.Run.frame m ρ,
  fun m ρ _ => Cert.KernelIdeal.Run.frame m ρ,
  fun m ρ _ => (θ_run Cert.ReferenceIdeal.defs _ _).mono
    (fun r h => ⟨fun c => (h c).2.2.2.2, sem_eq_zero_of_no_sems (by decide) r.2⟩)
    (Cert.ReferenceIdeal.Value.run m ρ),
  fun m ρ _ => (θ_run Cert.ReferenceIdeal.defs _ _).mono
    (fun r h => ⟨fun c => (h c).2.2.2.2, sem_eq_zero_of_no_sems (by decide) r.2⟩)
    (Cert.ReferenceIdeal.Value.run m ρ),
  trivial, Cert.Two.values,
  trivial, Cert.Three.values,
  trivial, Reference4Ideal.Val.values,
  trivial, Reference5Ideal.Val.values,
  trivial, Reference6Ideal.Val.values,
  trivial, Reference7Ideal.Val.values,
  trivial, Reference8Ideal.Val.values,
  trivial, Reference9Ideal.Val.values,
  trivial, Reference10Ideal.Val.values,
  trivial, Reference11Ideal.Val.values,
  trivial, Reference12Ideal.Val.values,
  trivial, Reference13Ideal.Val.values,
  trivial, Reference14Ideal.Val.values,
  trivial, Reference15Ideal.Val.values,
  trivial, Reference16Ideal.Val.values,
  trivial, Reference17Ideal.Val.values,
  trivial, Reference18Ideal.Val.values,
  trivial, Reference19Ideal.Val.values,
  trivial, Reference20Ideal.Val.values,
  trivial, Reference21Ideal.Val.values,
  trivial, Reference22Ideal.Val.values,
  trivial, Kernel23Ideal.Val.values,
  trivial, Kernel24Ideal.Val.values,
  trivial, Kernel25Ideal.Val.values,
  trivial, Reference26Ideal.Val.values,
  trivial, Reference27Ideal.Val.values,
  trivial, Reference30Ideal.Val.values,
  trivial, Reference31Ideal.Val.values,
  trivial, Reference32Ideal.Val.values,
  trivial, Reference33Ideal.Val.values,
  trivial, Reference34Ideal.Val.values,
  trivial, Reference35Ideal.Val.values,
  trivial, Reference36Ideal.Val.values,
  trivial, Reference37Ideal.Val.values,
  trivial, Reference38Ideal.Val.values,
  trivial, Reference39Ideal.Val.values,
  trivial, Reference40Ideal.Val.values,
  trivial, Reference41Ideal.Val.values,
  trivial, Reference42Ideal.Val.values,
  IdealRules.named_const.statement Cert.KernelIdeal.κ "mask" .f32 0xF149F2CA#32 ⊥ rfl,
  Cert.Join.values⟩

end Cert.Proof

end
